-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Proj (m : (ℓ : Loc Cert.Proj.nD Cert.Proj.τ Cert.Proj.sig) → Buf (Elt Bits) ℓ) : Prop :=
  True

def Pre_ProjIdeal (m : (ℓ : Loc Cert.ProjIdeal.nD Cert.ProjIdeal.τ Cert.ProjIdeal.sig) → Buf (Elt Ideal) ℓ) : Prop :=
  True

def Pre_ProjReferenceIdeal (m : (ℓ : Loc Cert.ProjReferenceIdeal.nD Cert.ProjReferenceIdeal.τ Cert.ProjReferenceIdeal.sig) → Buf (Elt Ideal) ℓ) : Prop :=
  True

def Pre_Down (m : (ℓ : Loc Cert.Down.nD Cert.Down.τ Cert.Down.sig) → Buf (Elt Bits) ℓ) : Prop :=
  True

def Pre_DownIdeal (m : (ℓ : Loc Cert.DownIdeal.nD Cert.DownIdeal.τ Cert.DownIdeal.sig) → Buf (Elt Ideal) ℓ) : Prop :=
  True

def Pre_DownReferenceIdeal (m : (ℓ : Loc Cert.DownReferenceIdeal.nD Cert.DownReferenceIdeal.τ Cert.DownReferenceIdeal.sig) → Buf (Elt Ideal) ℓ) : Prop :=
  True

def Pre_Rope (m : (ℓ : Loc Cert.Rope.nD Cert.Rope.τ Cert.Rope.sig) → Buf (Elt Bits) ℓ) : Prop :=
  True

def Pre_RopeIdeal (m : (ℓ : Loc Cert.RopeIdeal.nD Cert.RopeIdeal.τ Cert.RopeIdeal.sig) → Buf (Elt Ideal) ℓ) : Prop :=
  True

def Pre_RopeReferenceIdeal (m : (ℓ : Loc Cert.RopeReferenceIdeal.nD Cert.RopeReferenceIdeal.τ Cert.RopeReferenceIdeal.sig) → Buf (Elt Ideal) ℓ) : Prop :=
  True

def Pre_Final (m : (ℓ : Loc Cert.Final.nD Cert.Final.τ Cert.Final.sig) → Buf (Elt Bits) ℓ) : Prop :=
  True

def Pre_FinalIdeal (m : (ℓ : Loc Cert.FinalIdeal.nD Cert.FinalIdeal.τ Cert.FinalIdeal.sig) → Buf (Elt Ideal) ℓ) : Prop :=
  True

def Pre_FinalReferenceIdeal (m : (ℓ : Loc Cert.FinalReferenceIdeal.nD Cert.FinalReferenceIdeal.τ Cert.FinalReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Proj [hProj : Cert.Proj.Facts] : Prop :=
  ∀ (m : (ℓ : Loc Cert.Proj.nD Cert.Proj.τ Cert.Proj.sig) → Buf (Elt Bits) ℓ) (g : Dev Cert.Proj.nD → PrngReg), Pre_Proj m →
    θ_run (Cert.Proj.defs (F := Bits)) (onTc (τ := Cert.Proj.τ) (Cert.Proj.main (F := Bits))) ⟨m, fun _ => 0, g⟩ (fun r => (∀ c : Dev Cert.Proj.nD,
      r.2.mem ((c.tc : Thread Cert.Proj.nD Cert.Proj.τ).loc Cert.Proj.main_arg0) = m ((c.tc : Thread Cert.Proj.nD Cert.Proj.τ).loc Cert.Proj.main_arg0)
      ∧ r.2.mem ((c.tc : Thread Cert.Proj.nD Cert.Proj.τ).loc Cert.Proj.main_arg1) = m ((c.tc : Thread Cert.Proj.nD Cert.Proj.τ).loc Cert.Proj.main_arg1)
      ∧ r.2.mem ((c.tc : Thread Cert.Proj.nD Cert.Proj.τ).loc Cert.Proj.main_arg2) = m ((c.tc : Thread Cert.Proj.nD Cert.Proj.τ).loc Cert.Proj.main_arg2)
      ∧ r.2.mem ((c.tc : Thread Cert.Proj.nD Cert.Proj.τ).loc Cert.Proj.main_arg3) = m ((c.tc : Thread Cert.Proj.nD Cert.Proj.τ).loc Cert.Proj.main_arg3)
      ∧ r.2.mem ((c.tc : Thread Cert.Proj.nD Cert.Proj.τ).loc Cert.Proj.main_arg4) = m ((c.tc : Thread Cert.Proj.nD Cert.Proj.τ).loc Cert.Proj.main_arg4))
      ∧ r.2.sem = fun _ => 0)

def quiescent_ProjIdeal [hProjIdeal : Cert.ProjIdeal.Facts] : Prop :=
  ∀ (m : (ℓ : Loc Cert.ProjIdeal.nD Cert.ProjIdeal.τ Cert.ProjIdeal.sig) → Buf (Elt Ideal) ℓ) (g : Dev Cert.ProjIdeal.nD → PrngReg), Pre_ProjIdeal m →
    θ_run (Cert.ProjIdeal.defs (F := Ideal)) (onTc (τ := Cert.ProjIdeal.τ) (Cert.ProjIdeal.main (F := Ideal))) ⟨m, fun _ => 0, g⟩ (fun r => (∀ c : Dev Cert.ProjIdeal.nD,
      r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
      ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
      ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2)
      ∧ r.2.mem ((c.tc : Thread Cert.ProjIdeal.nD Cert.ProjIdeal.τ).loc Cert.ProjIdeal.main_arg3) = m ((c.tc : Thread Cert.ProjIdeal.nD Cert.ProjIdeal.τ).loc Cert.ProjIdeal.main_arg3)
      ∧ r.2.mem ((c.tc : Thread Cert.ProjIdeal.nD Cert.ProjIdeal.τ).loc Cert.ProjIdeal.main_arg4) = m ((c.tc : Thread Cert.ProjIdeal.nD Cert.ProjIdeal.τ).loc Cert.ProjIdeal.main_arg4))
      ∧ r.2.sem = fun _ => 0)

def quiescent_ProjReferenceIdeal [hProjReferenceIdeal : Cert.ProjReferenceIdeal.Facts] : Prop :=
  ∀ (m : (ℓ : Loc Cert.ProjReferenceIdeal.nD Cert.ProjReferenceIdeal.τ Cert.ProjReferenceIdeal.sig) → Buf (Elt Ideal) ℓ) (g : Dev Cert.ProjReferenceIdeal.nD → PrngReg), Pre_ProjReferenceIdeal m →
    θ_run (Cert.ProjReferenceIdeal.defs (F := Ideal)) (onTc (τ := Cert.ProjReferenceIdeal.τ) (Cert.ProjReferenceIdeal.main (F := Ideal))) ⟨m, fun _ => 0, g⟩ (fun r => (∀ c : Dev Cert.ProjReferenceIdeal.nD,
      r.2.mem ((c.tc : Thread Cert.ProjReferenceIdeal.nD Cert.ProjReferenceIdeal.τ).loc Cert.ProjReferenceIdeal.main_arg0) = m ((c.tc : Thread Cert.ProjReferenceIdeal.nD Cert.ProjReferenceIdeal.τ).loc Cert.ProjReferenceIdeal.main_arg0)
      ∧ r.2.mem ((c.tc : Thread Cert.ProjReferenceIdeal.nD Cert.ProjReferenceIdeal.τ).loc Cert.ProjReferenceIdeal.main_arg1) = m ((c.tc : Thread Cert.ProjReferenceIdeal.nD Cert.ProjReferenceIdeal.τ).loc Cert.ProjReferenceIdeal.main_arg1)
      ∧ r.2.mem ((c.tc : Thread Cert.ProjReferenceIdeal.nD Cert.ProjReferenceIdeal.τ).loc Cert.ProjReferenceIdeal.main_arg2) = m ((c.tc : Thread Cert.ProjReferenceIdeal.nD Cert.ProjReferenceIdeal.τ).loc Cert.ProjReferenceIdeal.main_arg2)
      ∧ r.2.mem ((c.tc : Thread Cert.ProjReferenceIdeal.nD Cert.ProjReferenceIdeal.τ).loc Cert.ProjReferenceIdeal.main_arg3) = m ((c.tc : Thread Cert.ProjReferenceIdeal.nD Cert.ProjReferenceIdeal.τ).loc Cert.ProjReferenceIdeal.main_arg3)
      ∧ r.2.mem ((c.tc : Thread Cert.ProjReferenceIdeal.nD Cert.ProjReferenceIdeal.τ).loc Cert.ProjReferenceIdeal.main_arg4) = m ((c.tc : Thread Cert.ProjReferenceIdeal.nD Cert.ProjReferenceIdeal.τ).loc Cert.ProjReferenceIdeal.main_arg4))
      ∧ r.2.sem = fun _ => 0)

def quiescent_Down [hDown : Cert.Down.Facts] : Prop :=
  ∀ (m : (ℓ : Loc Cert.Down.nD Cert.Down.τ Cert.Down.sig) → Buf (Elt Bits) ℓ) (g : Dev Cert.Down.nD → PrngReg), Pre_Down m →
    θ_run (Cert.Down.defs (F := Bits)) (onTc (τ := Cert.Down.τ) (Cert.Down.main (F := Bits))) ⟨m, fun _ => 0, g⟩ (fun r => (∀ c : Dev Cert.Down.nD,
      r.2.mem ((c.tc : Thread Cert.Down.nD Cert.Down.τ).loc Cert.Down.main_arg0) = m ((c.tc : Thread Cert.Down.nD Cert.Down.τ).loc Cert.Down.main_arg0)
      ∧ r.2.mem ((c.tc : Thread Cert.Down.nD Cert.Down.τ).loc Cert.Down.main_arg1) = m ((c.tc : Thread Cert.Down.nD Cert.Down.τ).loc Cert.Down.main_arg1)
      ∧ r.2.mem ((c.tc : Thread Cert.Down.nD Cert.Down.τ).loc Cert.Down.main_arg2) = m ((c.tc : Thread Cert.Down.nD Cert.Down.τ).loc Cert.Down.main_arg2)
      ∧ r.2.mem ((c.tc : Thread Cert.Down.nD Cert.Down.τ).loc Cert.Down.main_arg3) = m ((c.tc : Thread Cert.Down.nD Cert.Down.τ).loc Cert.Down.main_arg3)
      ∧ r.2.mem ((c.tc : Thread Cert.Down.nD Cert.Down.τ).loc Cert.Down.main_arg4) = m ((c.tc : Thread Cert.Down.nD Cert.Down.τ).loc Cert.Down.main_arg4))
      ∧ r.2.sem = fun _ => 0)

def quiescent_DownIdeal [hDownIdeal : Cert.DownIdeal.Facts] : Prop :=
  ∀ (m : (ℓ : Loc Cert.DownIdeal.nD Cert.DownIdeal.τ Cert.DownIdeal.sig) → Buf (Elt Ideal) ℓ) (g : Dev Cert.DownIdeal.nD → PrngReg), Pre_DownIdeal m →
    θ_run (Cert.DownIdeal.defs (F := Ideal)) (onTc (τ := Cert.DownIdeal.τ) (Cert.DownIdeal.main (F := Ideal))) ⟨m, fun _ => 0, g⟩ (fun r => (∀ c : Dev Cert.DownIdeal.nD,
      r.2.mem ((c.tc : Thread Cert.DownIdeal.nD Cert.DownIdeal.τ).loc Cert.DownIdeal.main_arg0) = m ((c.tc : Thread Cert.DownIdeal.nD Cert.DownIdeal.τ).loc Cert.DownIdeal.main_arg0)
      ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
      ∧ r.2.mem ((c.tc : Thread Cert.DownIdeal.nD Cert.DownIdeal.τ).loc Cert.DownIdeal.main_arg2) = m ((c.tc : Thread Cert.DownIdeal.nD Cert.DownIdeal.τ).loc Cert.DownIdeal.main_arg2)
      ∧ r.2.mem ((c.tc : Thread Cert.DownIdeal.nD Cert.DownIdeal.τ).loc Cert.DownIdeal.main_arg3) = m ((c.tc : Thread Cert.DownIdeal.nD Cert.DownIdeal.τ).loc Cert.DownIdeal.main_arg3)
      ∧ r.2.mem ((c.tc : Thread Cert.DownIdeal.nD Cert.DownIdeal.τ).loc Cert.DownIdeal.main_arg4) = m ((c.tc : Thread Cert.DownIdeal.nD Cert.DownIdeal.τ).loc Cert.DownIdeal.main_arg4))
      ∧ r.2.sem = fun _ => 0)

def quiescent_DownReferenceIdeal [hDownReferenceIdeal : Cert.DownReferenceIdeal.Facts] : Prop :=
  ∀ (m : (ℓ : Loc Cert.DownReferenceIdeal.nD Cert.DownReferenceIdeal.τ Cert.DownReferenceIdeal.sig) → Buf (Elt Ideal) ℓ) (g : Dev Cert.DownReferenceIdeal.nD → PrngReg), Pre_DownReferenceIdeal m →
    θ_run (Cert.DownReferenceIdeal.defs (F := Ideal)) (onTc (τ := Cert.DownReferenceIdeal.τ) (Cert.DownReferenceIdeal.main (F := Ideal))) ⟨m, fun _ => 0, g⟩ (fun r => (∀ c : Dev Cert.DownReferenceIdeal.nD,
      r.2.mem ((c.tc : Thread Cert.DownReferenceIdeal.nD Cert.DownReferenceIdeal.τ).loc Cert.DownReferenceIdeal.main_arg0) = m ((c.tc : Thread Cert.DownReferenceIdeal.nD Cert.DownReferenceIdeal.τ).loc Cert.DownReferenceIdeal.main_arg0)
      ∧ r.2.mem ((c.tc : Thread Cert.DownReferenceIdeal.nD Cert.DownReferenceIdeal.τ).loc Cert.DownReferenceIdeal.main_arg1) = m ((c.tc : Thread Cert.DownReferenceIdeal.nD Cert.DownReferenceIdeal.τ).loc Cert.DownReferenceIdeal.main_arg1)
      ∧ r.2.mem ((c.tc : Thread Cert.DownReferenceIdeal.nD Cert.DownReferenceIdeal.τ).loc Cert.DownReferenceIdeal.main_arg2) = m ((c.tc : Thread Cert.DownReferenceIdeal.nD Cert.DownReferenceIdeal.τ).loc Cert.DownReferenceIdeal.main_arg2)
      ∧ r.2.mem ((c.tc : Thread Cert.DownReferenceIdeal.nD Cert.DownReferenceIdeal.τ).loc Cert.DownReferenceIdeal.main_arg3) = m ((c.tc : Thread Cert.DownReferenceIdeal.nD Cert.DownReferenceIdeal.τ).loc Cert.DownReferenceIdeal.main_arg3)
      ∧ r.2.mem ((c.tc : Thread Cert.DownReferenceIdeal.nD Cert.DownReferenceIdeal.τ).loc Cert.DownReferenceIdeal.main_arg4) = m ((c.tc : Thread Cert.DownReferenceIdeal.nD Cert.DownReferenceIdeal.τ).loc Cert.DownReferenceIdeal.main_arg4))
      ∧ r.2.sem = fun _ => 0)

def quiescent_Rope [hRope : Cert.Rope.Facts] : Prop :=
  ∀ (m : (ℓ : Loc Cert.Rope.nD Cert.Rope.τ Cert.Rope.sig) → Buf (Elt Bits) ℓ) (g : Dev Cert.Rope.nD → PrngReg), Pre_Rope m →
    θ_run (Cert.Rope.defs (F := Bits)) (onTc (τ := Cert.Rope.τ) (Cert.Rope.main (F := Bits))) ⟨m, fun _ => 0, g⟩ (fun r => (∀ c : Dev Cert.Rope.nD,
      r.2.mem ((c.tc : Thread Cert.Rope.nD Cert.Rope.τ).loc Cert.Rope.main_arg0) = m ((c.tc : Thread Cert.Rope.nD Cert.Rope.τ).loc Cert.Rope.main_arg0)
      ∧ r.2.mem ((c.tc : Thread Cert.Rope.nD Cert.Rope.τ).loc Cert.Rope.main_arg1) = m ((c.tc : Thread Cert.Rope.nD Cert.Rope.τ).loc Cert.Rope.main_arg1)
      ∧ r.2.mem ((c.tc : Thread Cert.Rope.nD Cert.Rope.τ).loc Cert.Rope.main_arg2) = m ((c.tc : Thread Cert.Rope.nD Cert.Rope.τ).loc Cert.Rope.main_arg2)
      ∧ r.2.mem ((c.tc : Thread Cert.Rope.nD Cert.Rope.τ).loc Cert.Rope.main_arg3) = m ((c.tc : Thread Cert.Rope.nD Cert.Rope.τ).loc Cert.Rope.main_arg3)
      ∧ r.2.mem ((c.tc : Thread Cert.Rope.nD Cert.Rope.τ).loc Cert.Rope.main_arg4) = m ((c.tc : Thread Cert.Rope.nD Cert.Rope.τ).loc Cert.Rope.main_arg4)
      ∧ r.2.mem ((c.tc : Thread Cert.Rope.nD Cert.Rope.τ).loc Cert.Rope.main_arg5) = m ((c.tc : Thread Cert.Rope.nD Cert.Rope.τ).loc Cert.Rope.main_arg5))
      ∧ r.2.sem = fun _ => 0)

def quiescent_RopeIdeal [hRopeIdeal : Cert.RopeIdeal.Facts] : Prop :=
  ∀ (m : (ℓ : Loc Cert.RopeIdeal.nD Cert.RopeIdeal.τ Cert.RopeIdeal.sig) → Buf (Elt Ideal) ℓ) (g : Dev Cert.RopeIdeal.nD → PrngReg), Pre_RopeIdeal m →
    θ_run (Cert.RopeIdeal.defs (F := Ideal)) (onTc (τ := Cert.RopeIdeal.τ) (Cert.RopeIdeal.main (F := Ideal))) ⟨m, fun _ => 0, g⟩ (fun r => (∀ c : Dev Cert.RopeIdeal.nD,
      r.2.mem ((c.tc : Thread Cert.RopeIdeal.nD Cert.RopeIdeal.τ).loc Cert.RopeIdeal.main_arg0) = m ((c.tc : Thread Cert.RopeIdeal.nD Cert.RopeIdeal.τ).loc Cert.RopeIdeal.main_arg0)
      ∧ r.2.mem ((c.tc : Thread Cert.RopeIdeal.nD Cert.RopeIdeal.τ).loc Cert.RopeIdeal.main_arg1) = m ((c.tc : Thread Cert.RopeIdeal.nD Cert.RopeIdeal.τ).loc Cert.RopeIdeal.main_arg1)
      ∧ r.2.mem ((c.tc : Thread Cert.RopeIdeal.nD Cert.RopeIdeal.τ).loc Cert.RopeIdeal.main_arg2) = m ((c.tc : Thread Cert.RopeIdeal.nD Cert.RopeIdeal.τ).loc Cert.RopeIdeal.main_arg2)
      ∧ r.2.mem ((c.tc : Thread Cert.RopeIdeal.nD Cert.RopeIdeal.τ).loc Cert.RopeIdeal.main_arg3) = m ((c.tc : Thread Cert.RopeIdeal.nD Cert.RopeIdeal.τ).loc Cert.RopeIdeal.main_arg3)
      ∧ r.2.mem ((c.tc : Thread Cert.RopeIdeal.nD Cert.RopeIdeal.τ).loc Cert.RopeIdeal.main_arg4) = m ((c.tc : Thread Cert.RopeIdeal.nD Cert.RopeIdeal.τ).loc Cert.RopeIdeal.main_arg4)
      ∧ r.2.mem ((c.tc : Thread Cert.RopeIdeal.nD Cert.RopeIdeal.τ).loc Cert.RopeIdeal.main_arg5) = m ((c.tc : Thread Cert.RopeIdeal.nD Cert.RopeIdeal.τ).loc Cert.RopeIdeal.main_arg5))
      ∧ r.2.sem = fun _ => 0)

def quiescent_RopeReferenceIdeal [hRopeReferenceIdeal : Cert.RopeReferenceIdeal.Facts] : Prop :=
  ∀ (m : (ℓ : Loc Cert.RopeReferenceIdeal.nD Cert.RopeReferenceIdeal.τ Cert.RopeReferenceIdeal.sig) → Buf (Elt Ideal) ℓ) (g : Dev Cert.RopeReferenceIdeal.nD → PrngReg), Pre_RopeReferenceIdeal m →
    θ_run (Cert.RopeReferenceIdeal.defs (F := Ideal)) (onTc (τ := Cert.RopeReferenceIdeal.τ) (Cert.RopeReferenceIdeal.main (F := Ideal))) ⟨m, fun _ => 0, g⟩ (fun r => (∀ c : Dev Cert.RopeReferenceIdeal.nD,
      r.2.mem ((c.tc : Thread Cert.RopeReferenceIdeal.nD Cert.RopeReferenceIdeal.τ).loc Cert.RopeReferenceIdeal.main_arg0) = m ((c.tc : Thread Cert.RopeReferenceIdeal.nD Cert.RopeReferenceIdeal.τ).loc Cert.RopeReferenceIdeal.main_arg0)
      ∧ r.2.mem ((c.tc : Thread Cert.RopeReferenceIdeal.nD Cert.RopeReferenceIdeal.τ).loc Cert.RopeReferenceIdeal.main_arg1) = m ((c.tc : Thread Cert.RopeReferenceIdeal.nD Cert.RopeReferenceIdeal.τ).loc Cert.RopeReferenceIdeal.main_arg1)
      ∧ r.2.mem ((c.tc : Thread Cert.RopeReferenceIdeal.nD Cert.RopeReferenceIdeal.τ).loc Cert.RopeReferenceIdeal.main_arg2) = m ((c.tc : Thread Cert.RopeReferenceIdeal.nD Cert.RopeReferenceIdeal.τ).loc Cert.RopeReferenceIdeal.main_arg2)
      ∧ r.2.mem ((c.tc : Thread Cert.RopeReferenceIdeal.nD Cert.RopeReferenceIdeal.τ).loc Cert.RopeReferenceIdeal.main_arg3) = m ((c.tc : Thread Cert.RopeReferenceIdeal.nD Cert.RopeReferenceIdeal.τ).loc Cert.RopeReferenceIdeal.main_arg3)
      ∧ r.2.mem ((c.tc : Thread Cert.RopeReferenceIdeal.nD Cert.RopeReferenceIdeal.τ).loc Cert.RopeReferenceIdeal.main_arg4) = m ((c.tc : Thread Cert.RopeReferenceIdeal.nD Cert.RopeReferenceIdeal.τ).loc Cert.RopeReferenceIdeal.main_arg4)
      ∧ r.2.mem ((c.tc : Thread Cert.RopeReferenceIdeal.nD Cert.RopeReferenceIdeal.τ).loc Cert.RopeReferenceIdeal.main_arg5) = m ((c.tc : Thread Cert.RopeReferenceIdeal.nD Cert.RopeReferenceIdeal.τ).loc Cert.RopeReferenceIdeal.main_arg5))
      ∧ r.2.sem = fun _ => 0)

def quiescent_Final [hFinal : Cert.Final.Facts] : Prop :=
  ∀ (m : (ℓ : Loc Cert.Final.nD Cert.Final.τ Cert.Final.sig) → Buf (Elt Bits) ℓ) (g : Dev Cert.Final.nD → PrngReg), Pre_Final m →
    θ_run (Cert.Final.defs (F := Bits)) (onTc (τ := Cert.Final.τ) (Cert.Final.main (F := Bits))) ⟨m, fun _ => 0, g⟩ (fun r => (∀ c : Dev Cert.Final.nD,
      r.2.mem ((c.tc : Thread Cert.Final.nD Cert.Final.τ).loc Cert.Final.main_arg0) = m ((c.tc : Thread Cert.Final.nD Cert.Final.τ).loc Cert.Final.main_arg0)
      ∧ r.2.mem ((c.tc : Thread Cert.Final.nD Cert.Final.τ).loc Cert.Final.main_arg1) = m ((c.tc : Thread Cert.Final.nD Cert.Final.τ).loc Cert.Final.main_arg1))
      ∧ r.2.sem = fun _ => 0)

def quiescent_FinalIdeal [hFinalIdeal : Cert.FinalIdeal.Facts] : Prop :=
  ∀ (m : (ℓ : Loc Cert.FinalIdeal.nD Cert.FinalIdeal.τ Cert.FinalIdeal.sig) → Buf (Elt Ideal) ℓ) (g : Dev Cert.FinalIdeal.nD → PrngReg), Pre_FinalIdeal m →
    θ_run (Cert.FinalIdeal.defs (F := Ideal)) (onTc (τ := Cert.FinalIdeal.τ) (Cert.FinalIdeal.main (F := Ideal))) ⟨m, fun _ => 0, g⟩ (fun r => (∀ c : Dev Cert.FinalIdeal.nD,
      r.2.mem ((c.tc : Thread Cert.FinalIdeal.nD Cert.FinalIdeal.τ).loc Cert.FinalIdeal.main_arg0) = m ((c.tc : Thread Cert.FinalIdeal.nD Cert.FinalIdeal.τ).loc Cert.FinalIdeal.main_arg0)
      ∧ r.2.mem ((c.tc : Thread Cert.FinalIdeal.nD Cert.FinalIdeal.τ).loc Cert.FinalIdeal.main_arg1) = m ((c.tc : Thread Cert.FinalIdeal.nD Cert.FinalIdeal.τ).loc Cert.FinalIdeal.main_arg1))
      ∧ r.2.sem = fun _ => 0)

def quiescent_FinalReferenceIdeal [hFinalReferenceIdeal : Cert.FinalReferenceIdeal.Facts] : Prop :=
  ∀ (m : (ℓ : Loc Cert.FinalReferenceIdeal.nD Cert.FinalReferenceIdeal.τ Cert.FinalReferenceIdeal.sig) → Buf (Elt Ideal) ℓ) (g : Dev Cert.FinalReferenceIdeal.nD → PrngReg), Pre_FinalReferenceIdeal m →
    θ_run (Cert.FinalReferenceIdeal.defs (F := Ideal)) (onTc (τ := Cert.FinalReferenceIdeal.τ) (Cert.FinalReferenceIdeal.main (F := Ideal))) ⟨m, fun _ => 0, g⟩ (fun r => (∀ c : Dev Cert.FinalReferenceIdeal.nD,
      r.2.mem ((c.tc : Thread Cert.FinalReferenceIdeal.nD Cert.FinalReferenceIdeal.τ).loc Cert.FinalReferenceIdeal.main_arg0) = m ((c.tc : Thread Cert.FinalReferenceIdeal.nD Cert.FinalReferenceIdeal.τ).loc Cert.FinalReferenceIdeal.main_arg0)
      ∧ r.2.mem ((c.tc : Thread Cert.FinalReferenceIdeal.nD Cert.FinalReferenceIdeal.τ).loc Cert.FinalReferenceIdeal.main_arg1) = m ((c.tc : Thread Cert.FinalReferenceIdeal.nD Cert.FinalReferenceIdeal.τ).loc Cert.FinalReferenceIdeal.main_arg1))
      ∧ r.2.sem = fun _ => 0)

def preserves_Kernel_KernelIdeal : Prop :=
  IdealRules.bf16_pair.BufferStatement Cert.KernelIdeal.S2x4x16x2x128 Cert.KernelIdeal.S2x4x16x1x128
  ∧ IdealRules.bf16_pair.Statement Cert.KernelIdeal.S16x128 Cert.KernelIdeal.S8x128
  ∧ IdealRules.bf16_pair.Statement Cert.KernelIdeal.S1x1x8x2x128 Cert.KernelIdeal.S1x1x8x1x128
  ∧ IdealRules.bf16_pair.Statement Cert.KernelIdeal.S1x1x4x2x128 Cert.KernelIdeal.S1x1x4x1x128

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v10) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Proj_ProjIdeal : Prop :=
  IdealRules.bf16_pair.BufferStatement Cert.ProjIdeal.S2x4x16x2x128 Cert.ProjIdeal.S2x4x16x1x128
  ∧ IdealRules.bf16_pair.Statement Cert.ProjIdeal.S16x128 Cert.ProjIdeal.S8x128
  ∧ IdealRules.bf16_pair.Statement Cert.ProjIdeal.S1x1x8x2x128 Cert.ProjIdeal.S1x1x8x1x128
  ∧ IdealRules.bf16_pair.Statement Cert.ProjIdeal.S1x1x4x2x128 Cert.ProjIdeal.S1x1x4x1x128

def algebraic_ProjIdeal_ProjReferenceIdeal [hProjIdeal : Cert.ProjIdeal.Facts] [hProjReferenceIdeal : Cert.ProjReferenceIdeal.Facts] : Prop :=
  ∀ (m : (ℓ : Loc Cert.ProjIdeal.nD Cert.ProjIdeal.τ Cert.ProjIdeal.sig) → Buf (Elt Ideal) ℓ) (g : Dev Cert.ProjIdeal.nD → PrngReg)
    (m' : (ℓ : Loc Cert.ProjReferenceIdeal.nD Cert.ProjReferenceIdeal.τ Cert.ProjReferenceIdeal.sig) → Buf (Elt Ideal) ℓ) (g' : Dev Cert.ProjReferenceIdeal.nD → PrngReg), Pre_ProjIdeal m →
    (∀ c : Dev Cert.ProjIdeal.nD,
      m' ((c.tc : Thread Cert.ProjReferenceIdeal.nD Cert.ProjReferenceIdeal.τ).loc Cert.ProjReferenceIdeal.main_arg0) = m ((c.tc : Thread Cert.ProjIdeal.nD Cert.ProjIdeal.τ).loc Cert.ProjIdeal.main_arg0)
      ∧ m' ((c.tc : Thread Cert.ProjReferenceIdeal.nD Cert.ProjReferenceIdeal.τ).loc Cert.ProjReferenceIdeal.main_arg1) = m ((c.tc : Thread Cert.ProjIdeal.nD Cert.ProjIdeal.τ).loc Cert.ProjIdeal.main_arg1)
      ∧ m' ((c.tc : Thread Cert.ProjReferenceIdeal.nD Cert.ProjReferenceIdeal.τ).loc Cert.ProjReferenceIdeal.main_arg2) = m ((c.tc : Thread Cert.ProjIdeal.nD Cert.ProjIdeal.τ).loc Cert.ProjIdeal.main_arg2)
      ∧ m' ((c.tc : Thread Cert.ProjReferenceIdeal.nD Cert.ProjReferenceIdeal.τ).loc Cert.ProjReferenceIdeal.main_arg3) = m ((c.tc : Thread Cert.ProjIdeal.nD Cert.ProjIdeal.τ).loc Cert.ProjIdeal.main_arg3)
      ∧ m' ((c.tc : Thread Cert.ProjReferenceIdeal.nD Cert.ProjReferenceIdeal.τ).loc Cert.ProjReferenceIdeal.main_arg4) = m ((c.tc : Thread Cert.ProjIdeal.nD Cert.ProjIdeal.τ).loc Cert.ProjIdeal.main_arg4)) →
    ∃ (v0 : (c : Dev Cert.ProjIdeal.nD) → Buf (Elt Ideal) ((c.tc : Thread Cert.ProjIdeal.nD Cert.ProjIdeal.τ).loc Cert.ProjIdeal.main_v4)),
      θ_run (Cert.ProjIdeal.defs (F := Ideal)) (onTc (τ := Cert.ProjIdeal.τ) (Cert.ProjIdeal.main (F := Ideal))) ⟨m, fun _ => 0, g⟩ (fun r => ∀ c : Dev Cert.ProjIdeal.nD,
          r.2.mem ((c.tc : Thread Cert.ProjIdeal.nD Cert.ProjIdeal.τ).loc Cert.ProjIdeal.main_v4) = v0 c
          ∧ r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
          ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
          ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2)
          ∧ r.2.mem ((c.tc : Thread Cert.ProjIdeal.nD Cert.ProjIdeal.τ).loc Cert.ProjIdeal.main_arg3) = m ((c.tc : Thread Cert.ProjIdeal.nD Cert.ProjIdeal.τ).loc Cert.ProjIdeal.main_arg3)
          ∧ r.2.mem ((c.tc : Thread Cert.ProjIdeal.nD Cert.ProjIdeal.τ).loc Cert.ProjIdeal.main_arg4) = m ((c.tc : Thread Cert.ProjIdeal.nD Cert.ProjIdeal.τ).loc Cert.ProjIdeal.main_arg4))
      ∧ θ_run (Cert.ProjReferenceIdeal.defs (F := Ideal)) (onTc (τ := Cert.ProjReferenceIdeal.τ) (Cert.ProjReferenceIdeal.main (F := Ideal))) ⟨m', fun _ => 0, g'⟩ (fun r => ∀ c : Dev Cert.ProjReferenceIdeal.nD,
          r.2.mem ((c.tc : Thread Cert.ProjReferenceIdeal.nD Cert.ProjReferenceIdeal.τ).loc Cert.ProjReferenceIdeal.main_v10) = v0 c
          ∧ r.2.mem ((c.tc : Thread Cert.ProjReferenceIdeal.nD Cert.ProjReferenceIdeal.τ).loc Cert.ProjReferenceIdeal.main_arg0) = m' ((c.tc : Thread Cert.ProjReferenceIdeal.nD Cert.ProjReferenceIdeal.τ).loc Cert.ProjReferenceIdeal.main_arg0)
          ∧ r.2.mem ((c.tc : Thread Cert.ProjReferenceIdeal.nD Cert.ProjReferenceIdeal.τ).loc Cert.ProjReferenceIdeal.main_arg1) = m' ((c.tc : Thread Cert.ProjReferenceIdeal.nD Cert.ProjReferenceIdeal.τ).loc Cert.ProjReferenceIdeal.main_arg1)
          ∧ r.2.mem ((c.tc : Thread Cert.ProjReferenceIdeal.nD Cert.ProjReferenceIdeal.τ).loc Cert.ProjReferenceIdeal.main_arg2) = m' ((c.tc : Thread Cert.ProjReferenceIdeal.nD Cert.ProjReferenceIdeal.τ).loc Cert.ProjReferenceIdeal.main_arg2)
          ∧ r.2.mem ((c.tc : Thread Cert.ProjReferenceIdeal.nD Cert.ProjReferenceIdeal.τ).loc Cert.ProjReferenceIdeal.main_arg3) = m' ((c.tc : Thread Cert.ProjReferenceIdeal.nD Cert.ProjReferenceIdeal.τ).loc Cert.ProjReferenceIdeal.main_arg3)
          ∧ r.2.mem ((c.tc : Thread Cert.ProjReferenceIdeal.nD Cert.ProjReferenceIdeal.τ).loc Cert.ProjReferenceIdeal.main_arg4) = m' ((c.tc : Thread Cert.ProjReferenceIdeal.nD Cert.ProjReferenceIdeal.τ).loc Cert.ProjReferenceIdeal.main_arg4))

def preserves_Down_DownIdeal : Prop :=
  IdealRules.bf16_pair.BufferStatement Cert.DownIdeal.S2x4x56x2x128 Cert.DownIdeal.S2x4x56x1x128
  ∧ IdealRules.bf16_pair.Statement Cert.DownIdeal.S56x128 Cert.DownIdeal.S28x128
  ∧ IdealRules.bf16_pair.Statement Cert.DownIdeal.S1x1x28x2x128 Cert.DownIdeal.S1x1x28x1x128
  ∧ IdealRules.bf16_pair.Statement Cert.DownIdeal.S1x1x4x2x128 Cert.DownIdeal.S1x1x4x1x128
  ∧ IdealRules.bf16_pair.Statement Cert.DownIdeal.S16x128 Cert.DownIdeal.S8x128

def algebraic_DownIdeal_DownReferenceIdeal [hDownIdeal : Cert.DownIdeal.Facts] [hDownReferenceIdeal : Cert.DownReferenceIdeal.Facts] : Prop :=
  ∀ (m : (ℓ : Loc Cert.DownIdeal.nD Cert.DownIdeal.τ Cert.DownIdeal.sig) → Buf (Elt Ideal) ℓ) (g : Dev Cert.DownIdeal.nD → PrngReg)
    (m' : (ℓ : Loc Cert.DownReferenceIdeal.nD Cert.DownReferenceIdeal.τ Cert.DownReferenceIdeal.sig) → Buf (Elt Ideal) ℓ) (g' : Dev Cert.DownReferenceIdeal.nD → PrngReg), Pre_DownIdeal m →
    (∀ c : Dev Cert.DownIdeal.nD,
      m' ((c.tc : Thread Cert.DownReferenceIdeal.nD Cert.DownReferenceIdeal.τ).loc Cert.DownReferenceIdeal.main_arg0) = m ((c.tc : Thread Cert.DownIdeal.nD Cert.DownIdeal.τ).loc Cert.DownIdeal.main_arg0)
      ∧ m' ((c.tc : Thread Cert.DownReferenceIdeal.nD Cert.DownReferenceIdeal.τ).loc Cert.DownReferenceIdeal.main_arg1) = m ((c.tc : Thread Cert.DownIdeal.nD Cert.DownIdeal.τ).loc Cert.DownIdeal.main_arg1)
      ∧ m' ((c.tc : Thread Cert.DownReferenceIdeal.nD Cert.DownReferenceIdeal.τ).loc Cert.DownReferenceIdeal.main_arg2) = m ((c.tc : Thread Cert.DownIdeal.nD Cert.DownIdeal.τ).loc Cert.DownIdeal.main_arg2)
      ∧ m' ((c.tc : Thread Cert.DownReferenceIdeal.nD Cert.DownReferenceIdeal.τ).loc Cert.DownReferenceIdeal.main_arg3) = m ((c.tc : Thread Cert.DownIdeal.nD Cert.DownIdeal.τ).loc Cert.DownIdeal.main_arg3)
      ∧ m' ((c.tc : Thread Cert.DownReferenceIdeal.nD Cert.DownReferenceIdeal.τ).loc Cert.DownReferenceIdeal.main_arg4) = m ((c.tc : Thread Cert.DownIdeal.nD Cert.DownIdeal.τ).loc Cert.DownIdeal.main_arg4)) →
    ∃ (v0 : (c : Dev Cert.DownIdeal.nD) → Buf (Elt Ideal) ((c.tc : Thread Cert.DownIdeal.nD Cert.DownIdeal.τ).loc Cert.DownIdeal.main_v4)),
      θ_run (Cert.DownIdeal.defs (F := Ideal)) (onTc (τ := Cert.DownIdeal.τ) (Cert.DownIdeal.main (F := Ideal))) ⟨m, fun _ => 0, g⟩ (fun r => ∀ c : Dev Cert.DownIdeal.nD,
          r.2.mem ((c.tc : Thread Cert.DownIdeal.nD Cert.DownIdeal.τ).loc Cert.DownIdeal.main_v4) = v0 c
          ∧ r.2.mem ((c.tc : Thread Cert.DownIdeal.nD Cert.DownIdeal.τ).loc Cert.DownIdeal.main_arg0) = m ((c.tc : Thread Cert.DownIdeal.nD Cert.DownIdeal.τ).loc Cert.DownIdeal.main_arg0)
          ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
          ∧ r.2.mem ((c.tc : Thread Cert.DownIdeal.nD Cert.DownIdeal.τ).loc Cert.DownIdeal.main_arg2) = m ((c.tc : Thread Cert.DownIdeal.nD Cert.DownIdeal.τ).loc Cert.DownIdeal.main_arg2)
          ∧ r.2.mem ((c.tc : Thread Cert.DownIdeal.nD Cert.DownIdeal.τ).loc Cert.DownIdeal.main_arg3) = m ((c.tc : Thread Cert.DownIdeal.nD Cert.DownIdeal.τ).loc Cert.DownIdeal.main_arg3)
          ∧ r.2.mem ((c.tc : Thread Cert.DownIdeal.nD Cert.DownIdeal.τ).loc Cert.DownIdeal.main_arg4) = m ((c.tc : Thread Cert.DownIdeal.nD Cert.DownIdeal.τ).loc Cert.DownIdeal.main_arg4))
      ∧ θ_run (Cert.DownReferenceIdeal.defs (F := Ideal)) (onTc (τ := Cert.DownReferenceIdeal.τ) (Cert.DownReferenceIdeal.main (F := Ideal))) ⟨m', fun _ => 0, g'⟩ (fun r => ∀ c : Dev Cert.DownReferenceIdeal.nD,
          r.2.mem ((c.tc : Thread Cert.DownReferenceIdeal.nD Cert.DownReferenceIdeal.τ).loc Cert.DownReferenceIdeal.main_v10) = v0 c
          ∧ r.2.mem ((c.tc : Thread Cert.DownReferenceIdeal.nD Cert.DownReferenceIdeal.τ).loc Cert.DownReferenceIdeal.main_arg0) = m' ((c.tc : Thread Cert.DownReferenceIdeal.nD Cert.DownReferenceIdeal.τ).loc Cert.DownReferenceIdeal.main_arg0)
          ∧ r.2.mem ((c.tc : Thread Cert.DownReferenceIdeal.nD Cert.DownReferenceIdeal.τ).loc Cert.DownReferenceIdeal.main_arg1) = m' ((c.tc : Thread Cert.DownReferenceIdeal.nD Cert.DownReferenceIdeal.τ).loc Cert.DownReferenceIdeal.main_arg1)
          ∧ r.2.mem ((c.tc : Thread Cert.DownReferenceIdeal.nD Cert.DownReferenceIdeal.τ).loc Cert.DownReferenceIdeal.main_arg2) = m' ((c.tc : Thread Cert.DownReferenceIdeal.nD Cert.DownReferenceIdeal.τ).loc Cert.DownReferenceIdeal.main_arg2)
          ∧ r.2.mem ((c.tc : Thread Cert.DownReferenceIdeal.nD Cert.DownReferenceIdeal.τ).loc Cert.DownReferenceIdeal.main_arg3) = m' ((c.tc : Thread Cert.DownReferenceIdeal.nD Cert.DownReferenceIdeal.τ).loc Cert.DownReferenceIdeal.main_arg3)
          ∧ r.2.mem ((c.tc : Thread Cert.DownReferenceIdeal.nD Cert.DownReferenceIdeal.τ).loc Cert.DownReferenceIdeal.main_arg4) = m' ((c.tc : Thread Cert.DownReferenceIdeal.nD Cert.DownReferenceIdeal.τ).loc Cert.DownReferenceIdeal.main_arg4))

def preserves_Rope_RopeIdeal : Prop :=
  True

def algebraic_RopeIdeal_RopeReferenceIdeal [hRopeIdeal : Cert.RopeIdeal.Facts] [hRopeReferenceIdeal : Cert.RopeReferenceIdeal.Facts] : Prop :=
  ∀ (m : (ℓ : Loc Cert.RopeIdeal.nD Cert.RopeIdeal.τ Cert.RopeIdeal.sig) → Buf (Elt Ideal) ℓ) (g : Dev Cert.RopeIdeal.nD → PrngReg)
    (m' : (ℓ : Loc Cert.RopeReferenceIdeal.nD Cert.RopeReferenceIdeal.τ Cert.RopeReferenceIdeal.sig) → Buf (Elt Ideal) ℓ) (g' : Dev Cert.RopeReferenceIdeal.nD → PrngReg), Pre_RopeIdeal m →
    (∀ c : Dev Cert.RopeIdeal.nD,
      m' ((c.tc : Thread Cert.RopeReferenceIdeal.nD Cert.RopeReferenceIdeal.τ).loc Cert.RopeReferenceIdeal.main_arg0) = m ((c.tc : Thread Cert.RopeIdeal.nD Cert.RopeIdeal.τ).loc Cert.RopeIdeal.main_arg0)
      ∧ m' ((c.tc : Thread Cert.RopeReferenceIdeal.nD Cert.RopeReferenceIdeal.τ).loc Cert.RopeReferenceIdeal.main_arg1) = m ((c.tc : Thread Cert.RopeIdeal.nD Cert.RopeIdeal.τ).loc Cert.RopeIdeal.main_arg1)
      ∧ m' ((c.tc : Thread Cert.RopeReferenceIdeal.nD Cert.RopeReferenceIdeal.τ).loc Cert.RopeReferenceIdeal.main_arg2) = m ((c.tc : Thread Cert.RopeIdeal.nD Cert.RopeIdeal.τ).loc Cert.RopeIdeal.main_arg2)
      ∧ m' ((c.tc : Thread Cert.RopeReferenceIdeal.nD Cert.RopeReferenceIdeal.τ).loc Cert.RopeReferenceIdeal.main_arg3) = m ((c.tc : Thread Cert.RopeIdeal.nD Cert.RopeIdeal.τ).loc Cert.RopeIdeal.main_arg3)
      ∧ m' ((c.tc : Thread Cert.RopeReferenceIdeal.nD Cert.RopeReferenceIdeal.τ).loc Cert.RopeReferenceIdeal.main_arg4) = m ((c.tc : Thread Cert.RopeIdeal.nD Cert.RopeIdeal.τ).loc Cert.RopeIdeal.main_arg4)
      ∧ m' ((c.tc : Thread Cert.RopeReferenceIdeal.nD Cert.RopeReferenceIdeal.τ).loc Cert.RopeReferenceIdeal.main_arg5) = m ((c.tc : Thread Cert.RopeIdeal.nD Cert.RopeIdeal.τ).loc Cert.RopeIdeal.main_arg5)) →
    ∃ (v0 : (c : Dev Cert.RopeIdeal.nD) → Buf (Elt Ideal) ((c.tc : Thread Cert.RopeIdeal.nD Cert.RopeIdeal.τ).loc Cert.RopeIdeal.main_v4_1)) (v1 : (c : Dev Cert.RopeIdeal.nD) → Buf (Elt Ideal) ((c.tc : Thread Cert.RopeIdeal.nD Cert.RopeIdeal.τ).loc Cert.RopeIdeal.main_v4_2)),
      θ_run (Cert.RopeIdeal.defs (F := Ideal)) (onTc (τ := Cert.RopeIdeal.τ) (Cert.RopeIdeal.main (F := Ideal))) ⟨m, fun _ => 0, g⟩ (fun r => ∀ c : Dev Cert.RopeIdeal.nD,
          r.2.mem ((c.tc : Thread Cert.RopeIdeal.nD Cert.RopeIdeal.τ).loc Cert.RopeIdeal.main_v4_1) = v0 c
          ∧ r.2.mem ((c.tc : Thread Cert.RopeIdeal.nD Cert.RopeIdeal.τ).loc Cert.RopeIdeal.main_v4_2) = v1 c
          ∧ r.2.mem ((c.tc : Thread Cert.RopeIdeal.nD Cert.RopeIdeal.τ).loc Cert.RopeIdeal.main_arg0) = m ((c.tc : Thread Cert.RopeIdeal.nD Cert.RopeIdeal.τ).loc Cert.RopeIdeal.main_arg0)
          ∧ r.2.mem ((c.tc : Thread Cert.RopeIdeal.nD Cert.RopeIdeal.τ).loc Cert.RopeIdeal.main_arg1) = m ((c.tc : Thread Cert.RopeIdeal.nD Cert.RopeIdeal.τ).loc Cert.RopeIdeal.main_arg1)
          ∧ r.2.mem ((c.tc : Thread Cert.RopeIdeal.nD Cert.RopeIdeal.τ).loc Cert.RopeIdeal.main_arg2) = m ((c.tc : Thread Cert.RopeIdeal.nD Cert.RopeIdeal.τ).loc Cert.RopeIdeal.main_arg2)
          ∧ r.2.mem ((c.tc : Thread Cert.RopeIdeal.nD Cert.RopeIdeal.τ).loc Cert.RopeIdeal.main_arg3) = m ((c.tc : Thread Cert.RopeIdeal.nD Cert.RopeIdeal.τ).loc Cert.RopeIdeal.main_arg3)
          ∧ r.2.mem ((c.tc : Thread Cert.RopeIdeal.nD Cert.RopeIdeal.τ).loc Cert.RopeIdeal.main_arg4) = m ((c.tc : Thread Cert.RopeIdeal.nD Cert.RopeIdeal.τ).loc Cert.RopeIdeal.main_arg4)
          ∧ r.2.mem ((c.tc : Thread Cert.RopeIdeal.nD Cert.RopeIdeal.τ).loc Cert.RopeIdeal.main_arg5) = m ((c.tc : Thread Cert.RopeIdeal.nD Cert.RopeIdeal.τ).loc Cert.RopeIdeal.main_arg5))
      ∧ θ_run (Cert.RopeReferenceIdeal.defs (F := Ideal)) (onTc (τ := Cert.RopeReferenceIdeal.τ) (Cert.RopeReferenceIdeal.main (F := Ideal))) ⟨m', fun _ => 0, g'⟩ (fun r => ∀ c : Dev Cert.RopeReferenceIdeal.nD,
          r.2.mem ((c.tc : Thread Cert.RopeReferenceIdeal.nD Cert.RopeReferenceIdeal.τ).loc Cert.RopeReferenceIdeal.main_v21) = v0 c
          ∧ r.2.mem ((c.tc : Thread Cert.RopeReferenceIdeal.nD Cert.RopeReferenceIdeal.τ).loc Cert.RopeReferenceIdeal.main_v23) = v1 c
          ∧ r.2.mem ((c.tc : Thread Cert.RopeReferenceIdeal.nD Cert.RopeReferenceIdeal.τ).loc Cert.RopeReferenceIdeal.main_arg0) = m' ((c.tc : Thread Cert.RopeReferenceIdeal.nD Cert.RopeReferenceIdeal.τ).loc Cert.RopeReferenceIdeal.main_arg0)
          ∧ r.2.mem ((c.tc : Thread Cert.RopeReferenceIdeal.nD Cert.RopeReferenceIdeal.τ).loc Cert.RopeReferenceIdeal.main_arg1) = m' ((c.tc : Thread Cert.RopeReferenceIdeal.nD Cert.RopeReferenceIdeal.τ).loc Cert.RopeReferenceIdeal.main_arg1)
          ∧ r.2.mem ((c.tc : Thread Cert.RopeReferenceIdeal.nD Cert.RopeReferenceIdeal.τ).loc Cert.RopeReferenceIdeal.main_arg2) = m' ((c.tc : Thread Cert.RopeReferenceIdeal.nD Cert.RopeReferenceIdeal.τ).loc Cert.RopeReferenceIdeal.main_arg2)
          ∧ r.2.mem ((c.tc : Thread Cert.RopeReferenceIdeal.nD Cert.RopeReferenceIdeal.τ).loc Cert.RopeReferenceIdeal.main_arg3) = m' ((c.tc : Thread Cert.RopeReferenceIdeal.nD Cert.RopeReferenceIdeal.τ).loc Cert.RopeReferenceIdeal.main_arg3)
          ∧ r.2.mem ((c.tc : Thread Cert.RopeReferenceIdeal.nD Cert.RopeReferenceIdeal.τ).loc Cert.RopeReferenceIdeal.main_arg4) = m' ((c.tc : Thread Cert.RopeReferenceIdeal.nD Cert.RopeReferenceIdeal.τ).loc Cert.RopeReferenceIdeal.main_arg4)
          ∧ r.2.mem ((c.tc : Thread Cert.RopeReferenceIdeal.nD Cert.RopeReferenceIdeal.τ).loc Cert.RopeReferenceIdeal.main_arg5) = m' ((c.tc : Thread Cert.RopeReferenceIdeal.nD Cert.RopeReferenceIdeal.τ).loc Cert.RopeReferenceIdeal.main_arg5))

def preserves_Final_FinalIdeal : Prop :=
  True

def algebraic_FinalIdeal_FinalReferenceIdeal [hFinalIdeal : Cert.FinalIdeal.Facts] [hFinalReferenceIdeal : Cert.FinalReferenceIdeal.Facts] : Prop :=
  ∀ (m : (ℓ : Loc Cert.FinalIdeal.nD Cert.FinalIdeal.τ Cert.FinalIdeal.sig) → Buf (Elt Ideal) ℓ) (g : Dev Cert.FinalIdeal.nD → PrngReg)
    (m' : (ℓ : Loc Cert.FinalReferenceIdeal.nD Cert.FinalReferenceIdeal.τ Cert.FinalReferenceIdeal.sig) → Buf (Elt Ideal) ℓ) (g' : Dev Cert.FinalReferenceIdeal.nD → PrngReg), Pre_FinalIdeal m →
    (∀ c : Dev Cert.FinalIdeal.nD,
      m' ((c.tc : Thread Cert.FinalReferenceIdeal.nD Cert.FinalReferenceIdeal.τ).loc Cert.FinalReferenceIdeal.main_arg0) = m ((c.tc : Thread Cert.FinalIdeal.nD Cert.FinalIdeal.τ).loc Cert.FinalIdeal.main_arg0)
      ∧ m' ((c.tc : Thread Cert.FinalReferenceIdeal.nD Cert.FinalReferenceIdeal.τ).loc Cert.FinalReferenceIdeal.main_arg1) = m ((c.tc : Thread Cert.FinalIdeal.nD Cert.FinalIdeal.τ).loc Cert.FinalIdeal.main_arg1)) →
    ∃ (v0 : (c : Dev Cert.FinalIdeal.nD) → Buf (Elt Ideal) ((c.tc : Thread Cert.FinalIdeal.nD Cert.FinalIdeal.τ).loc Cert.FinalIdeal.main_v0)),
      θ_run (Cert.FinalIdeal.defs (F := Ideal)) (onTc (τ := Cert.FinalIdeal.τ) (Cert.FinalIdeal.main (F := Ideal))) ⟨m, fun _ => 0, g⟩ (fun r => ∀ c : Dev Cert.FinalIdeal.nD,
          r.2.mem ((c.tc : Thread Cert.FinalIdeal.nD Cert.FinalIdeal.τ).loc Cert.FinalIdeal.main_v0) = v0 c
          ∧ r.2.mem ((c.tc : Thread Cert.FinalIdeal.nD Cert.FinalIdeal.τ).loc Cert.FinalIdeal.main_arg0) = m ((c.tc : Thread Cert.FinalIdeal.nD Cert.FinalIdeal.τ).loc Cert.FinalIdeal.main_arg0)
          ∧ r.2.mem ((c.tc : Thread Cert.FinalIdeal.nD Cert.FinalIdeal.τ).loc Cert.FinalIdeal.main_arg1) = m ((c.tc : Thread Cert.FinalIdeal.nD Cert.FinalIdeal.τ).loc Cert.FinalIdeal.main_arg1))
      ∧ θ_run (Cert.FinalReferenceIdeal.defs (F := Ideal)) (onTc (τ := Cert.FinalReferenceIdeal.τ) (Cert.FinalReferenceIdeal.main (F := Ideal))) ⟨m', fun _ => 0, g'⟩ (fun r => ∀ c : Dev Cert.FinalReferenceIdeal.nD,
          r.2.mem ((c.tc : Thread Cert.FinalReferenceIdeal.nD Cert.FinalReferenceIdeal.τ).loc Cert.FinalReferenceIdeal.main_v1) = v0 c
          ∧ r.2.mem ((c.tc : Thread Cert.FinalReferenceIdeal.nD Cert.FinalReferenceIdeal.τ).loc Cert.FinalReferenceIdeal.main_arg0) = m' ((c.tc : Thread Cert.FinalReferenceIdeal.nD Cert.FinalReferenceIdeal.τ).loc Cert.FinalReferenceIdeal.main_arg0)
          ∧ r.2.mem ((c.tc : Thread Cert.FinalReferenceIdeal.nD Cert.FinalReferenceIdeal.τ).loc Cert.FinalReferenceIdeal.main_arg1) = m' ((c.tc : Thread Cert.FinalReferenceIdeal.nD Cert.FinalReferenceIdeal.τ).loc Cert.FinalReferenceIdeal.main_arg1))

def Claim : Prop :=
  ∃ (hKernel : Cert.Kernel.Facts) (hKernelIdeal : Cert.KernelIdeal.Facts) (hReferenceIdeal : Cert.ReferenceIdeal.Facts) (hProj : Cert.Proj.Facts) (hProjIdeal : Cert.ProjIdeal.Facts) (hProjReferenceIdeal : Cert.ProjReferenceIdeal.Facts) (hDown : Cert.Down.Facts) (hDownIdeal : Cert.DownIdeal.Facts) (hDownReferenceIdeal : Cert.DownReferenceIdeal.Facts) (hRope : Cert.Rope.Facts) (hRopeIdeal : Cert.RopeIdeal.Facts) (hRopeReferenceIdeal : Cert.RopeReferenceIdeal.Facts) (hFinal : Cert.Final.Facts) (hFinalIdeal : Cert.FinalIdeal.Facts) (hFinalReferenceIdeal : Cert.FinalReferenceIdeal.Facts),
    quiescent_Kernel (hKernel := hKernel)
    ∧ quiescent_KernelIdeal (hKernelIdeal := hKernelIdeal)
    ∧ quiescent_ReferenceIdeal (hReferenceIdeal := hReferenceIdeal)
    ∧ quiescent_Proj (hProj := hProj)
    ∧ quiescent_ProjIdeal (hProjIdeal := hProjIdeal)
    ∧ quiescent_ProjReferenceIdeal (hProjReferenceIdeal := hProjReferenceIdeal)
    ∧ quiescent_Down (hDown := hDown)
    ∧ quiescent_DownIdeal (hDownIdeal := hDownIdeal)
    ∧ quiescent_DownReferenceIdeal (hDownReferenceIdeal := hDownReferenceIdeal)
    ∧ quiescent_Rope (hRope := hRope)
    ∧ quiescent_RopeIdeal (hRopeIdeal := hRopeIdeal)
    ∧ quiescent_RopeReferenceIdeal (hRopeReferenceIdeal := hRopeReferenceIdeal)
    ∧ quiescent_Final (hFinal := hFinal)
    ∧ quiescent_FinalIdeal (hFinalIdeal := hFinalIdeal)
    ∧ quiescent_FinalReferenceIdeal (hFinalReferenceIdeal := hFinalReferenceIdeal)
    ∧ preserves_Kernel_KernelIdeal
    ∧ algebraic_KernelIdeal_ReferenceIdeal (hKernelIdeal := hKernelIdeal) (hReferenceIdeal := hReferenceIdeal)
    ∧ preserves_Proj_ProjIdeal
    ∧ algebraic_ProjIdeal_ProjReferenceIdeal (hProjIdeal := hProjIdeal) (hProjReferenceIdeal := hProjReferenceIdeal)
    ∧ preserves_Down_DownIdeal
    ∧ algebraic_DownIdeal_DownReferenceIdeal (hDownIdeal := hDownIdeal) (hDownReferenceIdeal := hDownReferenceIdeal)
    ∧ preserves_Rope_RopeIdeal
    ∧ algebraic_RopeIdeal_RopeReferenceIdeal (hRopeIdeal := hRopeIdeal) (hRopeReferenceIdeal := hRopeReferenceIdeal)
    ∧ preserves_Final_FinalIdeal
    ∧ algebraic_FinalIdeal_FinalReferenceIdeal (hFinalIdeal := hFinalIdeal) (hFinalReferenceIdeal := hFinalReferenceIdeal)
-- ==== Kernel.lean ====
abbrev S36x4096 : Shape := ⟨2, ![36, 4096]⟩
abbrev S14336x16x128 : Shape := ⟨3, ![14336, 16, 128]⟩
abbrev S14336x16x12 : Shape := ⟨3, ![14336, 16, 12]⟩
abbrev S14336x16 : Shape := ⟨2, ![14336, 16]⟩
abbrev S229376x128 : Shape := ⟨2, ![229376, 128]⟩
abbrev S12x16x14336 : Shape := ⟨3, ![12, 16, 14336]⟩
abbrev S16x14336 : Shape := ⟨2, ![16, 14336]⟩
abbrev S36x14336 : Shape := ⟨2, ![36, 14336]⟩
abbrev S12x16x512 : Shape := ⟨3, ![12, 16, 512]⟩
abbrev S16x512 : Shape := ⟨2, ![16, 512]⟩
abbrev S36x512 : Shape := ⟨2, ![36, 512]⟩
abbrev S2x4x16x128 : Shape := ⟨4, ![2, 4, 16, 128]⟩
abbrev S2x8192x128 : Shape := ⟨3, ![2, 8192, 128]⟩
abbrev S2 : Shape := ⟨1, ![2]⟩
abbrev S1 : Shape := ⟨1, ![1]⟩
abbrev S_ : Shape := ⟨0, ![]⟩
abbrev S1x8192x128 : Shape := ⟨3, ![1, 8192, 128]⟩
abbrev S8192x128 : Shape := ⟨2, ![8192, 128]⟩
abbrev S1x16x128 : Shape := ⟨3, ![1, 16, 128]⟩
abbrev S16x128 : Shape := ⟨2, ![16, 128]⟩
abbrev S4x128 : Shape := ⟨2, ![4, 128]⟩
abbrev S8x128 : Shape := ⟨2, ![8, 128]⟩
abbrev S1x1x8x128 : Shape := ⟨4, ![1, 1, 8, 128]⟩
abbrev S36x256 : Shape := ⟨2, ![36, 256]⟩
abbrev S1x2048x128 : Shape := ⟨3, ![1, 2048, 128]⟩
abbrev S2048x128 : Shape := ⟨2, ![2048, 128]⟩
abbrev S512x128 : Shape := ⟨2, ![512, 128]⟩
abbrev S128x4x128 : Shape := ⟨3, ![128, 4, 128]⟩
abbrev S128x1x128 : Shape := ⟨3, ![128, 1, 128]⟩
abbrev S128x128 : Shape := ⟨2, ![128, 128]⟩
abbrev S128x8x128 : Shape := ⟨3, ![128, 8, 128]⟩
abbrev S1024x128 : Shape := ⟨2, ![1024, 128]⟩
abbrev S1x1x4x128 : Shape := ⟨4, ![1, 1, 4, 128]⟩
abbrev S256x128 : Shape := ⟨2, ![256, 128]⟩
abbrev S16x16x128 : Shape := ⟨3, ![16, 16, 128]⟩
abbrev S36x1024 : Shape := ⟨2, ![36, 1024]⟩
abbrev S1024x256 : Shape := ⟨2, ![1024, 256]⟩

abbrev nBuf : Space → Nat
  | .hbm => 10
  | .vmem => 12
  | .smem => 0
  | _ => 0

abbrev bufTy : (tb : Table) → Fin (tcTables nBuf tb) → BufTy
  | .hbm, ⟨0, _⟩ => ⟨S36x4096, .bf16⟩
  | .hbm, ⟨1, _⟩ => ⟨S14336x16x128, .i8⟩
  | .hbm, ⟨2, _⟩ => ⟨S14336x16x12, .i8⟩
  | .hbm, ⟨3, _⟩ => ⟨S14336x16, .bf16⟩
  | .hbm, ⟨4, _⟩ => ⟨S14336x16, .bf16⟩
  | .hbm, ⟨5, _⟩ => ⟨S229376x128, .i8⟩
  | .hbm, ⟨6, _⟩ => ⟨S12x16x14336, .i8⟩
  | .hbm, ⟨7, _⟩ => ⟨S16x14336, .bf16⟩
  | .hbm, ⟨8, _⟩ => ⟨S16x14336, .bf16⟩
  | .hbm, ⟨9, _⟩ => ⟨S36x14336, .f32⟩
  | .local _ .vmem, ⟨0, _⟩ => ⟨S36x4096, .bf16⟩
  | .local _ .vmem, ⟨1, _⟩ => ⟨S12x16x512, .i8⟩
  | .local _ .vmem, ⟨2, _⟩ => ⟨S12x16x512, .i8⟩
  | .local _ .vmem, ⟨3, _⟩ => ⟨S16x512, .bf16⟩
  | .local _ .vmem, ⟨4, _⟩ => ⟨S16x512, .bf16⟩
  | .local _ .vmem, ⟨5, _⟩ => ⟨S16x512, .bf16⟩
  | .local _ .vmem, ⟨6, _⟩ => ⟨S16x512, .bf16⟩
  | .local _ .vmem, ⟨7, _⟩ => ⟨S36x512, .f32⟩
  | .local _ .vmem, ⟨8, _⟩ => ⟨S36x512, .f32⟩
  | .local _ .vmem, ⟨9, _⟩ => ⟨S2x4x16x128, .i32⟩
  | .local _ .vmem, ⟨10, _⟩ => ⟨S2x4x16x128, .i32⟩
  | .local _ .vmem, ⟨11, _⟩ => ⟨S2x8192x128, .i8⟩
  | _, _ => ⟨S36x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_scratch1 : Ref sig .tc := ⟨.vmem, 10, rfl⟩
abbrev cc0_scratch2 : Ref sig .tc := ⟨.vmem, 11, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [BitOps F]

abbrev grid0 : Pipeline.Grid := ⟨1, ![28], ![false]⟩

def k0_cond2 (i : grid0.Coords) : BitVec 1 :=
  let arg0 : BitVec 32 := BitVec.ofNat 32 (i 0).val
  let c1_i32 : BitVec 32 := 1#32
  let v3 : BitVec 32 := Scalar.addi arg0 c1_i32
  let c28_i32 : BitVec 32 := 28#32
  let v4 : BitVec 1 := Scalar.cmpi .slt v3 c28_i32
  let v5 : BitVec 32 := Scalar.extui v4
  let c0_i32_1 : BitVec 32 := 0#32
  let v6 : BitVec 1 := Scalar.cmpi .ne v5 c0_i32_1
  v6

def k0_off1 (i : grid0.Coords) : Fin 1 → Nat :=
  let arg0 : BitVec 32 := BitVec.ofNat 32 (i 0).val
  let c1_i32_10 : BitVec 32 := 1#32
  let v16 : BitVec 32 := Scalar.addi arg0 c1_i32_10
  let c1_i32_13 : BitVec 32 := 1#32
  let v19 : BitVec 32 := Scalar.andi v16 c1_i32_13
  ![v19.toNat]
def k0_off2 (i : grid0.Coords) : Fin 3 → Nat :=
  let arg0 : BitVec 32 := BitVec.ofNat 32 (i 0).val
  let c1_i32_10 : BitVec 32 := 1#32
  let v16 : BitVec 32 := Scalar.addi arg0 c1_i32_10
  let c1_i32_12 : BitVec 32 := 1#32
  let v18 : BitVec 32 := Scalar.andi v16 c1_i32_12
  let c0_i32_14 : BitVec 32 := 0#32
  let c0_i32_15 : BitVec 32 := 0#32
  ![v18.toNat, 0, 0]
def k0_off3 (i : grid0.Coords) : Fin 2 → Nat :=
  let arg0 : BitVec 32 := BitVec.ofNat 32 (i 0).val
  let c1_i32_10 : BitVec 32 := 1#32
  let v16 : BitVec 32 := Scalar.addi arg0 c1_i32_10
  let c8192_i32_11 : BitVec 32 := 8192#32
  let v17 : BitVec 32 := Scalar.muli v16 c8192_i32_11
  let c0_i32_16 : BitVec 32 := 0#32
  ![v17.toNat, 0]
def k0_off4 (i : grid0.Coords) : Fin 1 → Nat :=
  let arg0 : BitVec 32 := BitVec.ofNat 32 (i 0).val
  let c1_i32_3 : BitVec 32 := 1#32
  let v9 : BitVec 32 := Scalar.andi arg0 c1_i32_3
  ![v9.toNat]
def k0_off5 (i : grid0.Coords) : Fin 3 → Nat :=
  let arg0 : BitVec 32 := BitVec.ofNat 32 (i 0).val
  let c1_i32_2 : BitVec 32 := 1#32
  let v8 : BitVec 32 := Scalar.andi arg0 c1_i32_2
  let c0_i32_4 : BitVec 32 := 0#32
  let c0_i32_5 : BitVec 32 := 0#32
  ![v8.toNat, 0, 0]
def k0_off6 (i : grid0.Coords) : Fin 2 → Nat :=
  let arg0 : BitVec 32 := BitVec.ofNat 32 (i 0).val
  let c8192_i32 : BitVec 32 := 8192#32
  let v7 : BitVec 32 := Scalar.muli arg0 c8192_i32
  let c0_i32_6 : BitVec 32 := 0#32
  ![v7.toNat, 0]
@[reducible] def k0_t1_loop : Scf.Loop 32 :=
  let c0_i32_7 : BitVec 32 := 0#32
  let c2_i32 : BitVec 32 := 2#32
  let v15 : BitVec 32 := Scalar.addi c0_i32_7 c2_i32
  let c1_i32_8 : BitVec 32 := 1#32
  ⟨c0_i32_7, v15, c1_i32_8⟩
def k0_mult1 (k0_t1 : Fin k0_t1_loop.trips) : BitVec 32 :=
  let c0_i32_7 : BitVec 32 := 0#32
  let c1_i32_8 : BitVec 32 := 1#32
  let arg11 : BitVec 32 := Scf.iv c0_i32_7 c1_i32_8 k0_t1
  let c256_i32 : BitVec 32 := 256#32
  let v16 : BitVec 32 := Scalar.muli arg11 c256_i32
  v16
def k0_off7 (k0_t1 : Fin k0_t1_loop.trips) (c0_i32_10 : BitVec 32) : Fin 3 → Nat :=
  let c0 : Index := 0#32
  let c0_11 : Index := 0#32
  let c0_i32_7 : BitVec 32 := 0#32
  let c1_i32_8 : BitVec 32 := 1#32
  let arg11 : BitVec 32 := Scf.iv c0_i32_7 c1_i32_8 k0_t1
  let c256_i32 : BitVec 32 := 256#32
  let v16 : BitVec 32 := Scalar.muli arg11 c256_i32
  let v17 : BitVec 32 := v16
  let v18 : BitVec 32 := Scalar.addi v17 c0_i32_10
  let v19 : Index := Scalar.indexCast v18
  ![0, 0, v19.toNat]
def k0_off8 (k0_t1 : Fin k0_t1_loop.trips) (c0_i32_10 : BitVec 32) : Fin 3 → Nat :=
  let c1 : Index := 1#32
  let c0_12 : Index := 0#32
  let c0_i32_7 : BitVec 32 := 0#32
  let c1_i32_8 : BitVec 32 := 1#32
  let arg11 : BitVec 32 := Scf.iv c0_i32_7 c1_i32_8 k0_t1
  let c256_i32 : BitVec 32 := 256#32
  let v16 : BitVec 32 := Scalar.muli arg11 c256_i32
  let v17 : BitVec 32 := v16
  let v18 : BitVec 32 := Scalar.addi v17 c0_i32_10
  let v23 : Index := Scalar.indexCast v18
  ![1, 0, v23.toNat]
def k0_off9 (k0_t1 : Fin k0_t1_loop.trips) (c0_i32_10 : BitVec 32) : Fin 3 → Nat :=
  let c2 : Index := 2#32
  let c0_13 : Index := 0#32
  let c0_i32_7 : BitVec 32 := 0#32
  let c1_i32_8 : BitVec 32 := 1#32
  let arg11 : BitVec 32 := Scf.iv c0_i32_7 c1_i32_8 k0_t1
  let c256_i32 : BitVec 32 := 256#32
  let v16 : BitVec 32 := Scalar.muli arg11 c256_i32
  let v17 : BitVec 32 := v16
  let v18 : BitVec 32 := Scalar.addi v17 c0_i32_10
  let v27 : Index := Scalar.indexCast v18
  ![2, 0, v27.toNat]
def k0_off10 (k0_t1 : Fin k0_t1_loop.trips) (c0_i32_10 : BitVec 32) : Fin 3 → Nat :=
  let c3 : Index := 3#32
  let c0_14 : Index := 0#32
  let c0_i32_7 : BitVec 32 := 0#32
  let c1_i32_8 : BitVec 32 := 1#32
  let arg11 : BitVec 32 := Scf.iv c0_i32_7 c1_i32_8 k0_t1
  let c256_i32 : BitVec 32 := 256#32
  let v16 : BitVec 32 := Scalar.muli arg11 c256_i32
  let v17 : BitVec 32 := v16
  let v18 : BitVec 32 := Scalar.addi v17 c0_i32_10
  let v31 : Index := Scalar.indexCast v18
  ![3, 0, v31.toNat]
def k0_off11 (k0_t1 : Fin k0_t1_loop.trips) (c0_i32_10 : BitVec 32) : Fin 3 → Nat :=
  let c4 : Index := 4#32
  let c0_15 : Index := 0#32
  let c0_i32_7 : BitVec 32 := 0#32
  let c1_i32_8 : BitVec 32 := 1#32
  let arg11 : BitVec 32 := Scf.iv c0_i32_7 c1_i32_8 k0_t1
  let c256_i32 : BitVec 32 := 256#32
  let v16 : BitVec 32 := Scalar.muli arg11 c256_i32
  let v17 : BitVec 32 := v16
  let v18 : BitVec 32 := Scalar.addi v17 c0_i32_10
  let v35 : Index := Scalar.indexCast v18
  ![4, 0, v35.toNat]
def k0_off12 (k0_t1 : Fin k0_t1_loop.trips) (c0_i32_10 : BitVec 32) : Fin 3 → Nat :=
  let c5 : Index := 5#32
  let c0_16 : Index := 0#32
  let c0_i32_7 : BitVec 32 := 0#32
  let c1_i32_8 : BitVec 32 := 1#32
  let arg11 : BitVec 32 := Scf.iv c0_i32_7 c1_i32_8 k0_t1
  let c256_i32 : BitVec 32 := 256#32
  let v16 : BitVec 32 := Scalar.muli arg11 c256_i32
  let v17 : BitVec 32 := v16
  let v18 : BitVec 32 := Scalar.addi v17 c0_i32_10
  let v39 : Index := Scalar.indexCast v18
  ![5, 0, v39.toNat]
def k0_off13 (k0_t1 : Fin k0_t1_loop.trips) (c0_i32_10 : BitVec 32) : Fin 3 → Nat :=
  let c6 : Index := 6#32
  let c0_17 : Index := 0#32
  let c0_i32_7 : BitVec 32 := 0#32
  let c1_i32_8 : BitVec 32 := 1#32
  let arg11 : BitVec 32 := Scf.iv c0_i32_7 c1_i32_8 k0_t1
  let c256_i32 : BitVec 32 := 256#32
  let v16 : BitVec 32 := Scalar.muli arg11 c256_i32
  let v17 : BitVec 32 := v16
  let v18 : BitVec 32 := Scalar.addi v17 c0_i32_10
  let v43 : Index := Scalar.indexCast v18
  ![6, 0, v43.toNat]
def k0_off14 (k0_t1 : Fin k0_t1_loop.trips) (c0_i32_10 : BitVec 32) : Fin 3 → Nat :=
  let c7 : Index := 7#32
  let c0_18 : Index := 0#32
  let c0_i32_7 : BitVec 32 := 0#32
  let c1_i32_8 : BitVec 32 := 1#32
  let arg11 : BitVec 32 := Scf.iv c0_i32_7 c1_i32_8 k0_t1
  let c256_i32 : BitVec 32 := 256#32
  let v16 : BitVec 32 := Scalar.muli arg11 c256_i32
  let v17 : BitVec 32 := v16
  let v18 : BitVec 32 := Scalar.addi v17 c0_i32_10
  let v47 : Index := Scalar.indexCast v18
  ![7, 0, v47.toNat]
def k0_off15 (k0_t1 : Fin k0_t1_loop.trips) (c0_i32_10 : BitVec 32) : Fin 3 → Nat :=
  let c8 : Index := 8#32
  let c0_19 : Index := 0#32
  let c0_i32_7 : BitVec 32 := 0#32
  let c1_i32_8 : BitVec 32 := 1#32
  let arg11 : BitVec 32 := Scf.iv c0_i32_7 c1_i32_8 k0_t1
  let c256_i32 : BitVec 32 := 256#32
  let v16 : BitVec 32 := Scalar.muli arg11 c256_i32
  let v17 : BitVec 32 := v16
  let v18 : BitVec 32 := Scalar.addi v17 c0_i32_10
  let v51 : Index := Scalar.indexCast v18
  ![8, 0, v51.toNat]
def k0_off16 (k0_t1 : Fin k0_t1_loop.trips) (c0_i32_10 : BitVec 32) : Fin 3 → Nat :=
  let c9 : Index := 9#32
  let c0_20 : Index := 0#32
  let c0_i32_7 : BitVec 32 := 0#32
  let c1_i32_8 : BitVec 32 := 1#32
  let arg11 : BitVec 32 := Scf.iv c0_i32_7 c1_i32_8 k0_t1
  let c256_i32 : BitVec 32 := 256#32
  let v16 : BitVec 32 := Scalar.muli arg11 c256_i32
  let v17 : BitVec 32 := v16
  let v18 : BitVec 32 := Scalar.addi v17 c0_i32_10
  let v55 : Index := Scalar.indexCast v18
  ![9, 0, v55.toNat]
def k0_off17 (k0_t1 : Fin k0_t1_loop.trips) (c0_i32_10 : BitVec 32) : Fin 3 → Nat :=
  let c10 : Index := 10#32
  let c0_21 : Index := 0#32
  let c0_i32_7 : BitVec 32 := 0#32
  let c1_i32_8 : BitVec 32 := 1#32
  let arg11 : BitVec 32 := Scf.iv c0_i32_7 c1_i32_8 k0_t1
  let c256_i32 : BitVec 32 := 256#32
  let v16 : BitVec 32 := Scalar.muli arg11 c256_i32
  let v17 : BitVec 32 := v16
  let v18 : BitVec 32 := Scalar.addi v17 c0_i32_10
  let v59 : Index := Scalar.indexCast v18
  ![10, 0, v59.toNat]
def k0_off18 (k0_t1 : Fin k0_t1_loop.trips) (c0_i32_10 : BitVec 32) : Fin 3 → Nat :=
  let c11 : Index := 11#32
  let c0_22 : Index := 0#32
  let c0_i32_7 : BitVec 32 := 0#32
  let c1_i32_8 : BitVec 32 := 1#32
  let arg11 : BitVec 32 := Scf.iv c0_i32_7 c1_i32_8 k0_t1
  let c256_i32 : BitVec 32 := 256#32
  let v16 : BitVec 32 := Scalar.muli arg11 c256_i32
  let v17 : BitVec 32 := v16
  let v18 : BitVec 32 := Scalar.addi v17 c0_i32_10
  let v63 : Index := Scalar.indexCast v18
  ![11, 0, v63.toNat]
def k0_off19 (k0_t1 : Fin k0_t1_loop.trips) (c0_i32_10 : BitVec 32) : Fin 2 → Nat :=
  let c0_55 : Index := 0#32
  let c0_i32_7 : BitVec 32 := 0#32
  let c1_i32_8 : BitVec 32 := 1#32
  let arg11 : BitVec 32 := Scf.iv c0_i32_7 c1_i32_8 k0_t1
  let c256_i32 : BitVec 32 := 256#32
  let v16 : BitVec 32 := Scalar.muli arg11 c256_i32
  let v17 : BitVec 32 := v16
  let v18 : BitVec 32 := Scalar.addi v17 c0_i32_10
  let v147 : Index := Scalar.indexCast v18
  ![0, v147.toNat]
def k0_mult2 (k0_t1 : Fin k0_t1_loop.trips) : BitVec 32 :=
  let c0_i32_7 : BitVec 32 := 0#32
  let c1_i32_8 : BitVec 32 := 1#32
  let arg11 : BitVec 32 := Scf.iv c0_i32_7 c1_i32_8 k0_t1
  let c256_i32 : BitVec 32 := 256#32
  let v16 : BitVec 32 := Scalar.muli arg11 c256_i32
  let v17 : BitVec 32 := v16
  let c0_i32_308 : BitVec 32 := 0#32
  let v673 : BitVec 32 := Scalar.addi v17 c0_i32_308
  let c4_i32_309 : BitVec 32 := 4#32
  let v674 : BitVec 32 := Scalar.muli v673 c4_i32_309
  v674
def k0_off20 (i : grid0.Coords) (k0_t1 : Fin k0_t1_loop.trips) (c0_i32_308 : BitVec 32) : Fin 3 → Nat :=
  let arg0 : BitVec 32 := BitVec.ofNat 32 (i 0).val
  let c1_i32_310 : BitVec 32 := 1#32
  let v676 : BitVec 32 := Scalar.andi arg0 c1_i32_310
  let v678 : Index := Scalar.indexCast v676
  let c4_i32_311 : BitVec 32 := 4#32
  let c0_i32_7 : BitVec 32 := 0#32
  let c1_i32_8 : BitVec 32 := 1#32
  let arg11 : BitVec 32 := Scf.iv c0_i32_7 c1_i32_8 k0_t1
  let c256_i32 : BitVec 32 := 256#32
  let v16 : BitVec 32 := Scalar.muli arg11 c256_i32
  let v17 : BitVec 32 := v16
  let v673 : BitVec 32 := Scalar.addi v17 c0_i32_308
  let c4_i32_309 : BitVec 32 := 4#32
  let v674 : BitVec 32 := Scalar.muli v673 c4_i32_309
  let v675 : BitVec 32 := v674
  let v677 : BitVec 32 := Scalar.muli c4_i32_311 v675
  let v679 : Index := Scalar.indexCast v677
  let c0_312 : Index := 0#32
  ![v678.toNat, v679.toNat, 0]
def k0_mult3 (k0_t1 : Fin k0_t1_loop.trips) : BitVec 32 :=
  let c0_i32_7 : BitVec 32 := 0#32
  let c1_i32_8 : BitVec 32 := 1#32
  let arg11 : BitVec 32 := Scf.iv c0_i32_7 c1_i32_8 k0_t1
  let c256_i32 : BitVec 32 := 256#32
  let v16 : BitVec 32 := Scalar.muli arg11 c256_i32
  let v17 : BitVec 32 := v16
  let c128_i32_346 : BitVec 32 := 128#32
  let v767 : BitVec 32 := Scalar.addi v17 c128_i32_346
  let c4_i32_347 : BitVec 32 := 4#32
  let v768 : BitVec 32 := Scalar.muli v767 c4_i32_347
  v768
def k0_mult4 (k0_t1 : Fin k0_t1_loop.trips) : BitVec 32 :=
  let c0_i32_7 : BitVec 32 := 0#32
  let c1_i32_8 : BitVec 32 := 1#32
  let arg11 : BitVec 32 := Scf.iv c0_i32_7 c1_i32_8 k0_t1
  let c256_i32 : BitVec 32 := 256#32
  let v16 : BitVec 32 := Scalar.muli arg11 c256_i32
  let v17 : BitVec 32 := v16
  let c0_i32_388 : BitVec 32 := 0#32
  let v865 : BitVec 32 := Scalar.addi v17 c0_i32_388
  let c4_i32_389 : BitVec 32 := 4#32
  let v866 : BitVec 32 := Scalar.muli v865 c4_i32_389
  v866
def k0_mult5 (k0_t1 : Fin k0_t1_loop.trips) : BitVec 32 :=
  let c0_i32_7 : BitVec 32 := 0#32
  let c1_i32_8 : BitVec 32 := 1#32
  let arg11 : BitVec 32 := Scf.iv c0_i32_7 c1_i32_8 k0_t1
  let c256_i32 : BitVec 32 := 256#32
  let v16 : BitVec 32 := Scalar.muli arg11 c256_i32
  let v17 : BitVec 32 := v16
  let c128_i32_427 : BitVec 32 := 128#32
  let v959 : BitVec 32 := Scalar.addi v17 c128_i32_427
  let c4_i32_428 : BitVec 32 := 4#32
  let v960 : BitVec 32 := Scalar.muli v959 c4_i32_428
  v960
def k0_mult6 (k0_t1 : Fin k0_t1_loop.trips) : BitVec 32 :=
  let c0_i32_7 : BitVec 32 := 0#32
  let c1_i32_8 : BitVec 32 := 1#32
  let arg11 : BitVec 32 := Scf.iv c0_i32_7 c1_i32_8 k0_t1
  let c256_i32 : BitVec 32 := 256#32
  let v16 : BitVec 32 := Scalar.muli arg11 c256_i32
  let v17 : BitVec 32 := v16
  let c0_i32_468 : BitVec 32 := 0#32
  let v1057 : BitVec 32 := Scalar.addi v17 c0_i32_468
  let c4_i32_469 : BitVec 32 := 4#32
  let v1058 : BitVec 32 := Scalar.muli v1057 c4_i32_469
  v1058
def k0_mult7 (k0_t1 : Fin k0_t1_loop.trips) : BitVec 32 :=
  let c0_i32_7 : BitVec 32 := 0#32
  let c1_i32_8 : BitVec 32 := 1#32
  let arg11 : BitVec 32 := Scf.iv c0_i32_7 c1_i32_8 k0_t1
  let c256_i32 : BitVec 32 := 256#32
  let v16 : BitVec 32 := Scalar.muli arg11 c256_i32
  let v17 : BitVec 32 := v16
  let c128_i32_507 : BitVec 32 := 128#32
  let v1151 : BitVec 32 := Scalar.addi v17 c128_i32_507
  let c4_i32_508 : BitVec 32 := 4#32
  let v1152 : BitVec 32 := Scalar.muli v1151 c4_i32_508
  v1152
def k0_mult8 (k0_t1 : Fin k0_t1_loop.trips) : BitVec 32 :=
  let c0_i32_7 : BitVec 32 := 0#32
  let c1_i32_8 : BitVec 32 := 1#32
  let arg11 : BitVec 32 := Scf.iv c0_i32_7 c1_i32_8 k0_t1
  let c256_i32 : BitVec 32 := 256#32
  let v16 : BitVec 32 := Scalar.muli arg11 c256_i32
  let v17 : BitVec 32 := v16
  let c0_i32_548 : BitVec 32 := 0#32
  let v1249 : BitVec 32 := Scalar.addi v17 c0_i32_548
  let c4_i32_549 : BitVec 32 := 4#32
  let v1250 : BitVec 32 := Scalar.muli v1249 c4_i32_549
  v1250
def k0_mult9 (k0_t1 : Fin k0_t1_loop.trips) : BitVec 32 :=
  let c0_i32_7 : BitVec 32 := 0#32
  let c1_i32_8 : BitVec 32 := 1#32
  let arg11 : BitVec 32 := Scf.iv c0_i32_7 c1_i32_8 k0_t1
  let c256_i32 : BitVec 32 := 256#32
  let v16 : BitVec 32 := Scalar.muli arg11 c256_i32
  let v17 : BitVec 32 := v16
  let c128_i32_586 : BitVec 32 := 128#32
  let v1343 : BitVec 32 := Scalar.addi v17 c128_i32_586
  let c4_i32_587 : BitVec 32 := 4#32
  let v1344 : BitVec 32 := Scalar.muli v1343 c4_i32_587
  v1344
def k0_off21 (k0_t1 : Fin k0_t1_loop.trips) : Fin 2 → Nat :=
  let c0_627 : Index := 0#32
  let c0_i32_7 : BitVec 32 := 0#32
  let c1_i32_8 : BitVec 32 := 1#32
  let arg11 : BitVec 32 := Scf.iv c0_i32_7 c1_i32_8 k0_t1
  let c256_i32 : BitVec 32 := 256#32
  let v16 : BitVec 32 := Scalar.muli arg11 c256_i32
  let v17 : BitVec 32 := v16
  let v1441 : Index := Scalar.indexCast v17
  ![0, v1441.toNat]
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S36x4096 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S12x16x512 .i8 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S16x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S16x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S36x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== KernelIdeal.lean ====
abbrev S36x4096 : Shape := ⟨2, ![36, 4096]⟩
abbrev S14336x16x128 : Shape := ⟨3, ![14336, 16, 128]⟩
abbrev S14336x16x12 : Shape := ⟨3, ![14336, 16, 12]⟩
abbrev S14336x16 : Shape := ⟨2, ![14336, 16]⟩
abbrev S229376x128 : Shape := ⟨2, ![229376, 128]⟩
abbrev S12x16x14336 : Shape := ⟨3, ![12, 16, 14336]⟩
abbrev S16x14336 : Shape := ⟨2, ![16, 14336]⟩
abbrev S36x14336 : Shape := ⟨2, ![36, 14336]⟩
abbrev S12x16x512 : Shape := ⟨3, ![12, 16, 512]⟩
abbrev S16x512 : Shape := ⟨2, ![16, 512]⟩
abbrev S36x512 : Shape := ⟨2, ![36, 512]⟩
abbrev S2x4x16x128 : Shape := ⟨4, ![2, 4, 16, 128]⟩
abbrev S2x4x16x2x128 : Shape := ⟨5, ![2, 4, 16, 2, 128]⟩
abbrev S2x4x16x1x128 : Shape := ⟨5, ![2, 4, 16, 1, 128]⟩
abbrev S2x8192x128 : Shape := ⟨3, ![2, 8192, 128]⟩
abbrev S2 : Shape := ⟨1, ![2]⟩
abbrev S1 : Shape := ⟨1, ![1]⟩
abbrev S_ : Shape := ⟨0, ![]⟩
abbrev S1x8192x128 : Shape := ⟨3, ![1, 8192, 128]⟩
abbrev S8192x128 : Shape := ⟨2, ![8192, 128]⟩
abbrev S1x16x128 : Shape := ⟨3, ![1, 16, 128]⟩
abbrev S16x128 : Shape := ⟨2, ![16, 128]⟩
abbrev S4x128 : Shape := ⟨2, ![4, 128]⟩
abbrev S8x128 : Shape := ⟨2, ![8, 128]⟩
abbrev S1x1x8x128 : Shape := ⟨4, ![1, 1, 8, 128]⟩
abbrev S1x1x8x2x128 : Shape := ⟨5, ![1, 1, 8, 2, 128]⟩
abbrev S1x1x8x1x128 : Shape := ⟨5, ![1, 1, 8, 1, 128]⟩
abbrev S36x256 : Shape := ⟨2, ![36, 256]⟩
abbrev S1x2048x128 : Shape := ⟨3, ![1, 2048, 128]⟩
abbrev S2048x128 : Shape := ⟨2, ![2048, 128]⟩
abbrev S512x128 : Shape := ⟨2, ![512, 128]⟩
abbrev S128x4x128 : Shape := ⟨3, ![128, 4, 128]⟩
abbrev S128x1x128 : Shape := ⟨3, ![128, 1, 128]⟩
abbrev S128x128 : Shape := ⟨2, ![128, 128]⟩
abbrev S128x8x128 : Shape := ⟨3, ![128, 8, 128]⟩
abbrev S1024x128 : Shape := ⟨2, ![1024, 128]⟩
abbrev S1x1x4x128 : Shape := ⟨4, ![1, 1, 4, 128]⟩
abbrev S1x1x4x2x128 : Shape := ⟨5, ![1, 1, 4, 2, 128]⟩
abbrev S1x1x4x1x128 : Shape := ⟨5, ![1, 1, 4, 1, 128]⟩
abbrev S256x128 : Shape := ⟨2, ![256, 128]⟩
abbrev S16x16x128 : Shape := ⟨3, ![16, 16, 128]⟩
abbrev S36x1024 : Shape := ⟨2, ![36, 1024]⟩
abbrev S1024x256 : Shape := ⟨2, ![1024, 256]⟩

abbrev nBuf : Space → Nat
  | .hbm => 10
  | .vmem => 12
  | .smem => 0
  | _ => 0

abbrev bufTy : (tb : Table) → Fin (tcTables nBuf tb) → BufTy
  | .hbm, ⟨0, _⟩ => ⟨S36x4096, .bf16⟩
  | .hbm, ⟨1, _⟩ => ⟨S14336x16x128, .i8⟩
  | .hbm, ⟨2, _⟩ => ⟨S14336x16x12, .i8⟩
  | .hbm, ⟨3, _⟩ => ⟨S14336x16, .bf16⟩
  | .hbm, ⟨4, _⟩ => ⟨S14336x16, .bf16⟩
  | .hbm, ⟨5, _⟩ => ⟨S229376x128, .i8⟩
  | .hbm, ⟨6, _⟩ => ⟨S12x16x14336, .i8⟩
  | .hbm, ⟨7, _⟩ => ⟨S16x14336, .bf16⟩
  | .hbm, ⟨8, _⟩ => ⟨S16x14336, .bf16⟩
  | .hbm, ⟨9, _⟩ => ⟨S36x14336, .f32⟩
  | .local _ .vmem, ⟨0, _⟩ => ⟨S36x4096, .bf16⟩
  | .local _ .vmem, ⟨1, _⟩ => ⟨S12x16x512, .i8⟩
  | .local _ .vmem, ⟨2, _⟩ => ⟨S12x16x512, .i8⟩
  | .local _ .vmem, ⟨3, _⟩ => ⟨S16x512, .bf16⟩
  | .local _ .vmem, ⟨4, _⟩ => ⟨S16x512, .bf16⟩
  | .local _ .vmem, ⟨5, _⟩ => ⟨S16x512, .bf16⟩
  | .local _ .vmem, ⟨6, _⟩ => ⟨S16x512, .bf16⟩
  | .local _ .vmem, ⟨7, _⟩ => ⟨S36x512, .f32⟩
  | .local _ .vmem, ⟨8, _⟩ => ⟨S36x512, .f32⟩
  | .local _ .vmem, ⟨9, _⟩ => ⟨S2x4x16x2x128, .bf16⟩
  | .local _ .vmem, ⟨10, _⟩ => ⟨S2x4x16x2x128, .bf16⟩
  | .local _ .vmem, ⟨11, _⟩ => ⟨S2x8192x128, .i8⟩
  | _, _ => ⟨S36x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_scratch1 : Ref sig .tc := ⟨.vmem, 10, rfl⟩
abbrev cc0_scratch2 : Ref sig .tc := ⟨.vmem, 11, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![28], ![false]⟩

def k0_cond2 (i : grid0.Coords) : BitVec 1 :=
  let arg0 : BitVec 32 := BitVec.ofNat 32 (i 0).val
  let c1_i32 : BitVec 32 := 1#32
  let v3 : BitVec 32 := Scalar.addi arg0 c1_i32
  let c28_i32 : BitVec 32 := 28#32
  let v4 : BitVec 1 := Scalar.cmpi .slt v3 c28_i32
  let v5 : BitVec 32 := Scalar.extui v4
  let c0_i32_1 : BitVec 32 := 0#32
  let v6 : BitVec 1 := Scalar.cmpi .ne v5 c0_i32_1
  v6

def k0_off1 (i : grid0.Coords) : Fin 1 → Nat :=
  let arg0 : BitVec 32 := BitVec.ofNat 32 (i 0).val
  let c1_i32_10 : BitVec 32 := 1#32
  let v16 : BitVec 32 := Scalar.addi arg0 c1_i32_10
  let c1_i32_13 : BitVec 32 := 1#32
  let v19 : BitVec 32 := Scalar.andi v16 c1_i32_13
  ![v19.toNat]
def k0_off2 (i : grid0.Coords) : Fin 3 → Nat :=
  let arg0 : BitVec 32 := BitVec.ofNat 32 (i 0).val
  let c1_i32_10 : BitVec 32 := 1#32
  let v16 : BitVec 32 := Scalar.addi arg0 c1_i32_10
  let c1_i32_12 : BitVec 32 := 1#32
  let v18 : BitVec 32 := Scalar.andi v16 c1_i32_12
  let c0_i32_14 : BitVec 32 := 0#32
  let c0_i32_15 : BitVec 32 := 0#32
  ![v18.toNat, 0, 0]
def k0_off3 (i : grid0.Coords) : Fin 2 → Nat :=
  let arg0 : BitVec 32 := BitVec.ofNat 32 (i 0).val
  let c1_i32_10 : BitVec 32 := 1#32
  let v16 : BitVec 32 := Scalar.addi arg0 c1_i32_10
  let c8192_i32_11 : BitVec 32 := 8192#32
  let v17 : BitVec 32 := Scalar.muli v16 c8192_i32_11
  let c0_i32_16 : BitVec 32 := 0#32
  ![v17.toNat, 0]
def k0_off4 (i : grid0.Coords) : Fin 1 → Nat :=
  let arg0 : BitVec 32 := BitVec.ofNat 32 (i 0).val
  let c1_i32_3 : BitVec 32 := 1#32
  let v9 : BitVec 32 := Scalar.andi arg0 c1_i32_3
  ![v9.toNat]
def k0_off5 (i : grid0.Coords) : Fin 3 → Nat :=
  let arg0 : BitVec 32 := BitVec.ofNat 32 (i 0).val
  let c1_i32_2 : BitVec 32 := 1#32
  let v8 : BitVec 32 := Scalar.andi arg0 c1_i32_2
  let c0_i32_4 : BitVec 32 := 0#32
  let c0_i32_5 : BitVec 32 := 0#32
  ![v8.toNat, 0, 0]
def k0_off6 (i : grid0.Coords) : Fin 2 → Nat :=
  let arg0 : BitVec 32 := BitVec.ofNat 32 (i 0).val
  let c8192_i32 : BitVec 32 := 8192#32
  let v7 : BitVec 32 := Scalar.muli arg0 c8192_i32
  let c0_i32_6 : BitVec 32 := 0#32
  ![v7.toNat, 0]
@[reducible] def k0_t1_loop : Scf.Loop 32 :=
  let c0_i32_7 : BitVec 32 := 0#32
  let c2_i32 : BitVec 32 := 2#32
  let v15 : BitVec 32 := Scalar.addi c0_i32_7 c2_i32
  let c1_i32_8 : BitVec 32 := 1#32
  ⟨c0_i32_7, v15, c1_i32_8⟩
def k0_mult1 (k0_t1 : Fin k0_t1_loop.trips) : BitVec 32 :=
  let c0_i32_7 : BitVec 32 := 0#32
  let c1_i32_8 : BitVec 32 := 1#32
  let arg11 : BitVec 32 := Scf.iv c0_i32_7 c1_i32_8 k0_t1
  let c256_i32 : BitVec 32 := 256#32
  let v16 : BitVec 32 := Scalar.muli arg11 c256_i32
  v16
def k0_off7 (k0_t1 : Fin k0_t1_loop.trips) (c0_i32_10 : BitVec 32) : Fin 3 → Nat :=
  let c0 : Index := 0#32
  let c0_11 : Index := 0#32
  let c0_i32_7 : BitVec 32 := 0#32
  let c1_i32_8 : BitVec 32 := 1#32
  let arg11 : BitVec 32 := Scf.iv c0_i32_7 c1_i32_8 k0_t1
  let c256_i32 : BitVec 32 := 256#32
  let v16 : BitVec 32 := Scalar.muli arg11 c256_i32
  let v17 : BitVec 32 := v16
  let v18 : BitVec 32 := Scalar.addi v17 c0_i32_10
  let v19 : Index := Scalar.indexCast v18
  ![0, 0, v19.toNat]
def k0_off8 (k0_t1 : Fin k0_t1_loop.trips) (c0_i32_10 : BitVec 32) : Fin 3 → Nat :=
  let c1 : Index := 1#32
  let c0_12 : Index := 0#32
  let c0_i32_7 : BitVec 32 := 0#32
  let c1_i32_8 : BitVec 32 := 1#32
  let arg11 : BitVec 32 := Scf.iv c0_i32_7 c1_i32_8 k0_t1
  let c256_i32 : BitVec 32 := 256#32
  let v16 : BitVec 32 := Scalar.muli arg11 c256_i32
  let v17 : BitVec 32 := v16
  let v18 : BitVec 32 := Scalar.addi v17 c0_i32_10
  let v23 : Index := Scalar.indexCast v18
  ![1, 0, v23.toNat]
def k0_off9 (k0_t1 : Fin k0_t1_loop.trips) (c0_i32_10 : BitVec 32) : Fin 3 → Nat :=
  let c2 : Index := 2#32
  let c0_13 : Index := 0#32
  let c0_i32_7 : BitVec 32 := 0#32
  let c1_i32_8 : BitVec 32 := 1#32
  let arg11 : BitVec 32 := Scf.iv c0_i32_7 c1_i32_8 k0_t1
  let c256_i32 : BitVec 32 := 256#32
  let v16 : BitVec 32 := Scalar.muli arg11 c256_i32
  let v17 : BitVec 32 := v16
  let v18 : BitVec 32 := Scalar.addi v17 c0_i32_10
  let v27 : Index := Scalar.indexCast v18
  ![2, 0, v27.toNat]
def k0_off10 (k0_t1 : Fin k0_t1_loop.trips) (c0_i32_10 : BitVec 32) : Fin 3 → Nat :=
  let c3 : Index := 3#32
  let c0_14 : Index := 0#32
  let c0_i32_7 : BitVec 32 := 0#32
  let c1_i32_8 : BitVec 32 := 1#32
  let arg11 : BitVec 32 := Scf.iv c0_i32_7 c1_i32_8 k0_t1
  let c256_i32 : BitVec 32 := 256#32
  let v16 : BitVec 32 := Scalar.muli arg11 c256_i32
  let v17 : BitVec 32 := v16
  let v18 : BitVec 32 := Scalar.addi v17 c0_i32_10
  let v31 : Index := Scalar.indexCast v18
  ![3, 0, v31.toNat]
def k0_off11 (k0_t1 : Fin k0_t1_loop.trips) (c0_i32_10 : BitVec 32) : Fin 3 → Nat :=
  let c4 : Index := 4#32
  let c0_15 : Index := 0#32
  let c0_i32_7 : BitVec 32 := 0#32
  let c1_i32_8 : BitVec 32 := 1#32
  let arg11 : BitVec 32 := Scf.iv c0_i32_7 c1_i32_8 k0_t1
  let c256_i32 : BitVec 32 := 256#32
  let v16 : BitVec 32 := Scalar.muli arg11 c256_i32
  let v17 : BitVec 32 := v16
  let v18 : BitVec 32 := Scalar.addi v17 c0_i32_10
  let v35 : Index := Scalar.indexCast v18
  ![4, 0, v35.toNat]
def k0_off12 (k0_t1 : Fin k0_t1_loop.trips) (c0_i32_10 : BitVec 32) : Fin 3 → Nat :=
  let c5 : Index := 5#32
  let c0_16 : Index := 0#32
  let c0_i32_7 : BitVec 32 := 0#32
  let c1_i32_8 : BitVec 32 := 1#32
  let arg11 : BitVec 32 := Scf.iv c0_i32_7 c1_i32_8 k0_t1
  let c256_i32 : BitVec 32 := 256#32
  let v16 : BitVec 32 := Scalar.muli arg11 c256_i32
  let v17 : BitVec 32 := v16
  let v18 : BitVec 32 := Scalar.addi v17 c0_i32_10
  let v39 : Index := Scalar.indexCast v18
  ![5, 0, v39.toNat]
def k0_off13 (k0_t1 : Fin k0_t1_loop.trips) (c0_i32_10 : BitVec 32) : Fin 3 → Nat :=
  let c6 : Index := 6#32
  let c0_17 : Index := 0#32
  let c0_i32_7 : BitVec 32 := 0#32
  let c1_i32_8 : BitVec 32 := 1#32
  let arg11 : BitVec 32 := Scf.iv c0_i32_7 c1_i32_8 k0_t1
  let c256_i32 : BitVec 32 := 256#32
  let v16 : BitVec 32 := Scalar.muli arg11 c256_i32
  let v17 : BitVec 32 := v16
  let v18 : BitVec 32 := Scalar.addi v17 c0_i32_10
  let v43 : Index := Scalar.indexCast v18
  ![6, 0, v43.toNat]
def k0_off14 (k0_t1 : Fin k0_t1_loop.trips) (c0_i32_10 : BitVec 32) : Fin 3 → Nat :=
  let c7 : Index := 7#32
  let c0_18 : Index := 0#32
  let c0_i32_7 : BitVec 32 := 0#32
  let c1_i32_8 : BitVec 32 := 1#32
  let arg11 : BitVec 32 := Scf.iv c0_i32_7 c1_i32_8 k0_t1
  let c256_i32 : BitVec 32 := 256#32
  let v16 : BitVec 32 := Scalar.muli arg11 c256_i32
  let v17 : BitVec 32 := v16
  let v18 : BitVec 32 := Scalar.addi v17 c0_i32_10
  let v47 : Index := Scalar.indexCast v18
  ![7, 0, v47.toNat]
def k0_off15 (k0_t1 : Fin k0_t1_loop.trips) (c0_i32_10 : BitVec 32) : Fin 3 → Nat :=
  let c8 : Index := 8#32
  let c0_19 : Index := 0#32
  let c0_i32_7 : BitVec 32 := 0#32
  let c1_i32_8 : BitVec 32 := 1#32
  let arg11 : BitVec 32 := Scf.iv c0_i32_7 c1_i32_8 k0_t1
  let c256_i32 : BitVec 32 := 256#32
  let v16 : BitVec 32 := Scalar.muli arg11 c256_i32
  let v17 : BitVec 32 := v16
  let v18 : BitVec 32 := Scalar.addi v17 c0_i32_10
  let v51 : Index := Scalar.indexCast v18
  ![8, 0, v51.toNat]
def k0_off16 (k0_t1 : Fin k0_t1_loop.trips) (c0_i32_10 : BitVec 32) : Fin 3 → Nat :=
  let c9 : Index := 9#32
  let c0_20 : Index := 0#32
  let c0_i32_7 : BitVec 32 := 0#32
  let c1_i32_8 : BitVec 32 := 1#32
  let arg11 : BitVec 32 := Scf.iv c0_i32_7 c1_i32_8 k0_t1
  let c256_i32 : BitVec 32 := 256#32
  let v16 : BitVec 32 := Scalar.muli arg11 c256_i32
  let v17 : BitVec 32 := v16
  let v18 : BitVec 32 := Scalar.addi v17 c0_i32_10
  let v55 : Index := Scalar.indexCast v18
  ![9, 0, v55.toNat]
def k0_off17 (k0_t1 : Fin k0_t1_loop.trips) (c0_i32_10 : BitVec 32) : Fin 3 → Nat :=
  let c10 : Index := 10#32
  let c0_21 : Index := 0#32
  let c0_i32_7 : BitVec 32 := 0#32
  let c1_i32_8 : BitVec 32 := 1#32
  let arg11 : BitVec 32 := Scf.iv c0_i32_7 c1_i32_8 k0_t1
  let c256_i32 : BitVec 32 := 256#32
  let v16 : BitVec 32 := Scalar.muli arg11 c256_i32
  let v17 : BitVec 32 := v16
  let v18 : BitVec 32 := Scalar.addi v17 c0_i32_10
  let v59 : Index := Scalar.indexCast v18
  ![10, 0, v59.toNat]
def k0_off18 (k0_t1 : Fin k0_t1_loop.trips) (c0_i32_10 : BitVec 32) : Fin 3 → Nat :=
  let c11 : Index := 11#32
  let c0_22 : Index := 0#32
  let c0_i32_7 : BitVec 32 := 0#32
  let c1_i32_8 : BitVec 32 := 1#32
  let arg11 : BitVec 32 := Scf.iv c0_i32_7 c1_i32_8 k0_t1
  let c256_i32 : BitVec 32 := 256#32
  let v16 : BitVec 32 := Scalar.muli arg11 c256_i32
  let v17 : BitVec 32 := v16
  let v18 : BitVec 32 := Scalar.addi v17 c0_i32_10
  let v63 : Index := Scalar.indexCast v18
  ![11, 0, v63.toNat]
def k0_off19 (k0_t1 : Fin k0_t1_loop.trips) (c0_i32_10 : BitVec 32) : Fin 2 → Nat :=
  let c0_55 : Index := 0#32
  let c0_i32_7 : BitVec 32 := 0#32
  let c1_i32_8 : BitVec 32 := 1#32
  let arg11 : BitVec 32 := Scf.iv c0_i32_7 c1_i32_8 k0_t1
  let c256_i32 : BitVec 32 := 256#32
  let v16 : BitVec 32 := Scalar.muli arg11 c256_i32
  let v17 : BitVec 32 := v16
  let v18 : BitVec 32 := Scalar.addi v17 c0_i32_10
  let v147 : Index := Scalar.indexCast v18
  ![0, v147.toNat]
def k0_mult2 (k0_t1 : Fin k0_t1_loop.trips) : BitVec 32 :=
  let c0_i32_7 : BitVec 32 := 0#32
  let c1_i32_8 : BitVec 32 := 1#32
  let arg11 : BitVec 32 := Scf.iv c0_i32_7 c1_i32_8 k0_t1
  let c256_i32 : BitVec 32 := 256#32
  let v16 : BitVec 32 := Scalar.muli arg11 c256_i32
  let v17 : BitVec 32 := v16
  let c0_i32_308 : BitVec 32 := 0#32
  let v673 : BitVec 32 := Scalar.addi v17 c0_i32_308
  let c4_i32_309 : BitVec 32 := 4#32
  let v674 : BitVec 32 := Scalar.muli v673 c4_i32_309
  v674
def k0_off20 (i : grid0.Coords) (k0_t1 : Fin k0_t1_loop.trips) (c0_i32_308 : BitVec 32) : Fin 3 → Nat :=
  let arg0 : BitVec 32 := BitVec.ofNat 32 (i 0).val
  let c1_i32_310 : BitVec 32 := 1#32
  let v676 : BitVec 32 := Scalar.andi arg0 c1_i32_310
  let v678 : Index := Scalar.indexCast v676
  let c4_i32_311 : BitVec 32 := 4#32
  let c0_i32_7 : BitVec 32 := 0#32
  let c1_i32_8 : BitVec 32 := 1#32
  let arg11 : BitVec 32 := Scf.iv c0_i32_7 c1_i32_8 k0_t1
  let c256_i32 : BitVec 32 := 256#32
  let v16 : BitVec 32 := Scalar.muli arg11 c256_i32
  let v17 : BitVec 32 := v16
  let v673 : BitVec 32 := Scalar.addi v17 c0_i32_308
  let c4_i32_309 : BitVec 32 := 4#32
  let v674 : BitVec 32 := Scalar.muli v673 c4_i32_309
  let v675 : BitVec 32 := v674
  let v677 : BitVec 32 := Scalar.muli c4_i32_311 v675
  let v679 : Index := Scalar.indexCast v677
  let c0_312 : Index := 0#32
  ![v678.toNat, v679.toNat, 0]
def k0_mult3 (k0_t1 : Fin k0_t1_loop.trips) : BitVec 32 :=
  let c0_i32_7 : BitVec 32 := 0#32
  let c1_i32_8 : BitVec 32 := 1#32
  let arg11 : BitVec 32 := Scf.iv c0_i32_7 c1_i32_8 k0_t1
  let c256_i32 : BitVec 32 := 256#32
  let v16 : BitVec 32 := Scalar.muli arg11 c256_i32
  let v17 : BitVec 32 := v16
  let c128_i32_346 : BitVec 32 := 128#32
  let v767 : BitVec 32 := Scalar.addi v17 c128_i32_346
  let c4_i32_347 : BitVec 32 := 4#32
  let v768 : BitVec 32 := Scalar.muli v767 c4_i32_347
  v768
def k0_mult4 (k0_t1 : Fin k0_t1_loop.trips) : BitVec 32 :=
  let c0_i32_7 : BitVec 32 := 0#32
  let c1_i32_8 : BitVec 32 := 1#32
  let arg11 : BitVec 32 := Scf.iv c0_i32_7 c1_i32_8 k0_t1
  let c256_i32 : BitVec 32 := 256#32
  let v16 : BitVec 32 := Scalar.muli arg11 c256_i32
  let v17 : BitVec 32 := v16
  let c0_i32_388 : BitVec 32 := 0#32
  let v865 : BitVec 32 := Scalar.addi v17 c0_i32_388
  let c4_i32_389 : BitVec 32 := 4#32
  let v866 : BitVec 32 := Scalar.muli v865 c4_i32_389
  v866
def k0_mult5 (k0_t1 : Fin k0_t1_loop.trips) : BitVec 32 :=
  let c0_i32_7 : BitVec 32 := 0#32
  let c1_i32_8 : BitVec 32 := 1#32
  let arg11 : BitVec 32 := Scf.iv c0_i32_7 c1_i32_8 k0_t1
  let c256_i32 : BitVec 32 := 256#32
  let v16 : BitVec 32 := Scalar.muli arg11 c256_i32
  let v17 : BitVec 32 := v16
  let c128_i32_427 : BitVec 32 := 128#32
  let v959 : BitVec 32 := Scalar.addi v17 c128_i32_427
  let c4_i32_428 : BitVec 32 := 4#32
  let v960 : BitVec 32 := Scalar.muli v959 c4_i32_428
  v960
def k0_mult6 (k0_t1 : Fin k0_t1_loop.trips) : BitVec 32 :=
  let c0_i32_7 : BitVec 32 := 0#32
  let c1_i32_8 : BitVec 32 := 1#32
  let arg11 : BitVec 32 := Scf.iv c0_i32_7 c1_i32_8 k0_t1
  let c256_i32 : BitVec 32 := 256#32
  let v16 : BitVec 32 := Scalar.muli arg11 c256_i32
  let v17 : BitVec 32 := v16
  let c0_i32_468 : BitVec 32 := 0#32
  let v1057 : BitVec 32 := Scalar.addi v17 c0_i32_468
  let c4_i32_469 : BitVec 32 := 4#32
  let v1058 : BitVec 32 := Scalar.muli v1057 c4_i32_469
  v1058
def k0_mult7 (k0_t1 : Fin k0_t1_loop.trips) : BitVec 32 :=
  let c0_i32_7 : BitVec 32 := 0#32
  let c1_i32_8 : BitVec 32 := 1#32
  let arg11 : BitVec 32 := Scf.iv c0_i32_7 c1_i32_8 k0_t1
  let c256_i32 : BitVec 32 := 256#32
  let v16 : BitVec 32 := Scalar.muli arg11 c256_i32
  let v17 : BitVec 32 := v16
  let c128_i32_507 : BitVec 32 := 128#32
  let v1151 : BitVec 32 := Scalar.addi v17 c128_i32_507
  let c4_i32_508 : BitVec 32 := 4#32
  let v1152 : BitVec 32 := Scalar.muli v1151 c4_i32_508
  v1152
def k0_mult8 (k0_t1 : Fin k0_t1_loop.trips) : BitVec 32 :=
  let c0_i32_7 : BitVec 32 := 0#32
  let c1_i32_8 : BitVec 32 := 1#32
  let arg11 : BitVec 32 := Scf.iv c0_i32_7 c1_i32_8 k0_t1
  let c256_i32 : BitVec 32 := 256#32
  let v16 : BitVec 32 := Scalar.muli arg11 c256_i32
  let v17 : BitVec 32 := v16
  let c0_i32_548 : BitVec 32 := 0#32
  let v1249 : BitVec 32 := Scalar.addi v17 c0_i32_548
  let c4_i32_549 : BitVec 32 := 4#32
  let v1250 : BitVec 32 := Scalar.muli v1249 c4_i32_549
  v1250
def k0_mult9 (k0_t1 : Fin k0_t1_loop.trips) : BitVec 32 :=
  let c0_i32_7 : BitVec 32 := 0#32
  let c1_i32_8 : BitVec 32 := 1#32
  let arg11 : BitVec 32 := Scf.iv c0_i32_7 c1_i32_8 k0_t1
  let c256_i32 : BitVec 32 := 256#32
  let v16 : BitVec 32 := Scalar.muli arg11 c256_i32
  let v17 : BitVec 32 := v16
  let c128_i32_586 : BitVec 32 := 128#32
  let v1343 : BitVec 32 := Scalar.addi v17 c128_i32_586
  let c4_i32_587 : BitVec 32 := 4#32
  let v1344 : BitVec 32 := Scalar.muli v1343 c4_i32_587
  v1344
def k0_off21 (k0_t1 : Fin k0_t1_loop.trips) : Fin 2 → Nat :=
  let c0_627 : Index := 0#32
  let c0_i32_7 : BitVec 32 := 0#32
  let c1_i32_8 : BitVec 32 := 1#32
  let arg11 : BitVec 32 := Scf.iv c0_i32_7 c1_i32_8 k0_t1
  let c256_i32 : BitVec 32 := 256#32
  let v16 : BitVec 32 := Scalar.muli arg11 c256_i32
  let v17 : BitVec 32 := v16
  let v1441 : Index := Scalar.indexCast v17
  ![0, v1441.toNat]
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S36x4096 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S12x16x512 .i8 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S16x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S16x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S36x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ReferenceIdeal.lean ====
abbrev S36x4096 : Shape := ⟨2, ![36, 4096]⟩
abbrev S14336x16x128 : Shape := ⟨3, ![14336, 16, 128]⟩
abbrev S14336x16x12 : Shape := ⟨3, ![14336, 16, 12]⟩
abbrev S14336x16 : Shape := ⟨2, ![14336, 16]⟩
abbrev S36x4x4x32x4x2 : Shape := ⟨6, ![36, 4, 4, 32, 4, 2]⟩
abbrev S36x4x4x4x2x32 : Shape := ⟨6, ![36, 4, 4, 4, 2, 32]⟩
abbrev S36x16x4x2x32 : Shape := ⟨5, ![36, 16, 4, 2, 32]⟩
abbrev S14336x16x4x32 : Shape := ⟨4, ![14336, 16, 4, 32]⟩
abbrev S14336x16x4 : Shape := ⟨3, ![14336, 16, 4]⟩
abbrev S14336x16x8 : Shape := ⟨3, ![14336, 16, 8]⟩
abbrev S14336x16x1 : Shape := ⟨3, ![14336, 16, 1]⟩
abbrev S14336x16x4x2 : Shape := ⟨4, ![14336, 16, 4, 2]⟩
abbrev S14336x16x4x1 : Shape := ⟨4, ![14336, 16, 4, 1]⟩
abbrev S36x16x4x1x32 : Shape := ⟨5, ![36, 16, 4, 1, 32]⟩
abbrev S36x16x4x32 : Shape := ⟨4, ![36, 16, 4, 32]⟩
abbrev S36x14336 : Shape := ⟨2, ![36, 14336]⟩

abbrev nBuf : Space → Nat
  | .hbm => 17
  | .vmem => 6
  | .smem => 0
  | _ => 0

abbrev bufTy : (tb : Table) → Fin (tcTables nBuf tb) → BufTy
  | .hbm, ⟨0, _⟩ => ⟨S36x4096, .bf16⟩
  | .hbm, ⟨1, _⟩ => ⟨S14336x16x128, .i8⟩
  | .hbm, ⟨2, _⟩ => ⟨S14336x16x12, .i8⟩
  | .hbm, ⟨3, _⟩ => ⟨S14336x16, .bf16⟩
  | .hbm, ⟨4, _⟩ => ⟨S14336x16, .bf16⟩
  | .hbm, ⟨5, _⟩ => ⟨S36x4x4x32x4x2, .bf16⟩
  | .hbm, ⟨6, _⟩ => ⟨S36x4x4x4x2x32, .bf16⟩
  | .hbm, ⟨7, _⟩ => ⟨S36x16x4x2x32, .bf16⟩
  | .hbm, ⟨8, _⟩ => ⟨S14336x16x4x32, .bf16⟩
  | .hbm, ⟨9, _⟩ => ⟨S14336x16x4x32, .bf16⟩
  | .hbm, ⟨10, _⟩ => ⟨S36x16x4x1x32, .bf16⟩
  | .hbm, ⟨11, _⟩ => ⟨S36x16x4x32, .bf16⟩
  | .hbm, ⟨12, _⟩ => ⟨S36x14336, .f32⟩
  | .hbm, ⟨13, _⟩ => ⟨S36x16x4x1x32, .bf16⟩
  | .hbm, ⟨14, _⟩ => ⟨S36x16x4x32, .bf16⟩
  | .hbm, ⟨15, _⟩ => ⟨S36x14336, .f32⟩
  | .hbm, ⟨16, _⟩ => ⟨S36x14336, .f32⟩
  | .local _ .vmem, ⟨0, _⟩ => ⟨S14336x16x128, .i8⟩
  | .local _ .vmem, ⟨1, _⟩ => ⟨S14336x16x12, .i8⟩
  | .local _ .vmem, ⟨2, _⟩ => ⟨S14336x16, .bf16⟩
  | .local _ .vmem, ⟨3, _⟩ => ⟨S14336x16, .bf16⟩
  | .local _ .vmem, ⟨4, _⟩ => ⟨S14336x16x4x32, .bf16⟩
  | .local _ .vmem, ⟨5, _⟩ => ⟨S14336x16x4x32, .bf16⟩
  | _, _ => ⟨S36x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := .none

abbrev stage0_0 : Fin 1 → Memref sig .tc .vmem S14336x16x128 .i8 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S14336x16x12 .i8 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S14336x16 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S14336x16 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S14336x16x4x32 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S14336x16x4x32 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== Proj.lean ====
abbrev S36x4096 : Shape := ⟨2, ![36, 4096]⟩
abbrev S4096x16x128 : Shape := ⟨3, ![4096, 16, 128]⟩
abbrev S4096x16x12 : Shape := ⟨3, ![4096, 16, 12]⟩
abbrev S4096x16 : Shape := ⟨2, ![4096, 16]⟩
abbrev S65536x128 : Shape := ⟨2, ![65536, 128]⟩
abbrev S12x16x4096 : Shape := ⟨3, ![12, 16, 4096]⟩
abbrev S16x4096 : Shape := ⟨2, ![16, 4096]⟩
abbrev S12x16x512 : Shape := ⟨3, ![12, 16, 512]⟩
abbrev S16x512 : Shape := ⟨2, ![16, 512]⟩
abbrev S36x512 : Shape := ⟨2, ![36, 512]⟩
abbrev S2x4x16x128 : Shape := ⟨4, ![2, 4, 16, 128]⟩
abbrev S2x8192x128 : Shape := ⟨3, ![2, 8192, 128]⟩
abbrev S2 : Shape := ⟨1, ![2]⟩
abbrev S1 : Shape := ⟨1, ![1]⟩
abbrev S_ : Shape := ⟨0, ![]⟩
abbrev S1x8192x128 : Shape := ⟨3, ![1, 8192, 128]⟩
abbrev S8192x128 : Shape := ⟨2, ![8192, 128]⟩
abbrev S1x16x128 : Shape := ⟨3, ![1, 16, 128]⟩
abbrev S16x128 : Shape := ⟨2, ![16, 128]⟩
abbrev S4x128 : Shape := ⟨2, ![4, 128]⟩
abbrev S8x128 : Shape := ⟨2, ![8, 128]⟩
abbrev S1x1x8x128 : Shape := ⟨4, ![1, 1, 8, 128]⟩
abbrev S36x256 : Shape := ⟨2, ![36, 256]⟩
abbrev S1x2048x128 : Shape := ⟨3, ![1, 2048, 128]⟩
abbrev S2048x128 : Shape := ⟨2, ![2048, 128]⟩
abbrev S512x128 : Shape := ⟨2, ![512, 128]⟩
abbrev S128x4x128 : Shape := ⟨3, ![128, 4, 128]⟩
abbrev S128x1x128 : Shape := ⟨3, ![128, 1, 128]⟩
abbrev S128x128 : Shape := ⟨2, ![128, 128]⟩
abbrev S128x8x128 : Shape := ⟨3, ![128, 8, 128]⟩
abbrev S1024x128 : Shape := ⟨2, ![1024, 128]⟩
abbrev S1x1x4x128 : Shape := ⟨4, ![1, 1, 4, 128]⟩
abbrev S256x128 : Shape := ⟨2, ![256, 128]⟩
abbrev S16x16x128 : Shape := ⟨3, ![16, 16, 128]⟩
abbrev S36x1024 : Shape := ⟨2, ![36, 1024]⟩
abbrev S1024x256 : Shape := ⟨2, ![1024, 256]⟩

abbrev nBuf : Space → Nat
  | .hbm => 10
  | .vmem => 12
  | .smem => 0
  | _ => 0

abbrev bufTy : (tb : Table) → Fin (tcTables nBuf tb) → BufTy
  | .hbm, ⟨0, _⟩ => ⟨S36x4096, .bf16⟩
  | .hbm, ⟨1, _⟩ => ⟨S4096x16x128, .i8⟩
  | .hbm, ⟨2, _⟩ => ⟨S4096x16x12, .i8⟩
  | .hbm, ⟨3, _⟩ => ⟨S4096x16, .bf16⟩
  | .hbm, ⟨4, _⟩ => ⟨S4096x16, .bf16⟩
  | .hbm, ⟨5, _⟩ => ⟨S65536x128, .i8⟩
  | .hbm, ⟨6, _⟩ => ⟨S12x16x4096, .i8⟩
  | .hbm, ⟨7, _⟩ => ⟨S16x4096, .bf16⟩
  | .hbm, ⟨8, _⟩ => ⟨S16x4096, .bf16⟩
  | .hbm, ⟨9, _⟩ => ⟨S36x4096, .f32⟩
  | .local _ .vmem, ⟨0, _⟩ => ⟨S36x4096, .bf16⟩
  | .local _ .vmem, ⟨1, _⟩ => ⟨S12x16x512, .i8⟩
  | .local _ .vmem, ⟨2, _⟩ => ⟨S12x16x512, .i8⟩
  | .local _ .vmem, ⟨3, _⟩ => ⟨S16x512, .bf16⟩
  | .local _ .vmem, ⟨4, _⟩ => ⟨S16x512, .bf16⟩
  | .local _ .vmem, ⟨5, _⟩ => ⟨S16x512, .bf16⟩
  | .local _ .vmem, ⟨6, _⟩ => ⟨S16x512, .bf16⟩
  | .local _ .vmem, ⟨7, _⟩ => ⟨S36x512, .f32⟩
  | .local _ .vmem, ⟨8, _⟩ => ⟨S36x512, .f32⟩
  | .local _ .vmem, ⟨9, _⟩ => ⟨S2x4x16x128, .i32⟩
  | .local _ .vmem, ⟨10, _⟩ => ⟨S2x4x16x128, .i32⟩
  | .local _ .vmem, ⟨11, _⟩ => ⟨S2x8192x128, .i8⟩
  | _, _ => ⟨S36x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_scratch1 : Ref sig .tc := ⟨.vmem, 10, rfl⟩
abbrev cc0_scratch2 : Ref sig .tc := ⟨.vmem, 11, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [BitOps F]

abbrev grid0 : Pipeline.Grid := ⟨1, ![8], ![false]⟩

def k0_cond2 (i : grid0.Coords) : BitVec 1 :=
  let arg0 : BitVec 32 := BitVec.ofNat 32 (i 0).val
  let c1_i32 : BitVec 32 := 1#32
  let v3 : BitVec 32 := Scalar.addi arg0 c1_i32
  let c8_i32 : BitVec 32 := 8#32
  let v4 : BitVec 1 := Scalar.cmpi .slt v3 c8_i32
  let v5 : BitVec 32 := Scalar.extui v4
  let c0_i32_1 : BitVec 32 := 0#32
  let v6 : BitVec 1 := Scalar.cmpi .ne v5 c0_i32_1
  v6

def k0_off1 (i : grid0.Coords) : Fin 1 → Nat :=
  let arg0 : BitVec 32 := BitVec.ofNat 32 (i 0).val
  let c1_i32_10 : BitVec 32 := 1#32
  let v16 : BitVec 32 := Scalar.addi arg0 c1_i32_10
  let c1_i32_13 : BitVec 32 := 1#32
  let v19 : BitVec 32 := Scalar.andi v16 c1_i32_13
  ![v19.toNat]
def k0_off2 (i : grid0.Coords) : Fin 3 → Nat :=
  let arg0 : BitVec 32 := BitVec.ofNat 32 (i 0).val
  let c1_i32_10 : BitVec 32 := 1#32
  let v16 : BitVec 32 := Scalar.addi arg0 c1_i32_10
  let c1_i32_12 : BitVec 32 := 1#32
  let v18 : BitVec 32 := Scalar.andi v16 c1_i32_12
  let c0_i32_14 : BitVec 32 := 0#32
  let c0_i32_15 : BitVec 32 := 0#32
  ![v18.toNat, 0, 0]
def k0_off3 (i : grid0.Coords) : Fin 2 → Nat :=
  let arg0 : BitVec 32 := BitVec.ofNat 32 (i 0).val
  let c1_i32_10 : BitVec 32 := 1#32
  let v16 : BitVec 32 := Scalar.addi arg0 c1_i32_10
  let c8192_i32_11 : BitVec 32 := 8192#32
  let v17 : BitVec 32 := Scalar.muli v16 c8192_i32_11
  let c0_i32_16 : BitVec 32 := 0#32
  ![v17.toNat, 0]
def k0_off4 (i : grid0.Coords) : Fin 1 → Nat :=
  let arg0 : BitVec 32 := BitVec.ofNat 32 (i 0).val
  let c1_i32_3 : BitVec 32 := 1#32
  let v9 : BitVec 32 := Scalar.andi arg0 c1_i32_3
  ![v9.toNat]
def k0_off5 (i : grid0.Coords) : Fin 3 → Nat :=
  let arg0 : BitVec 32 := BitVec.ofNat 32 (i 0).val
  let c1_i32_2 : BitVec 32 := 1#32
  let v8 : BitVec 32 := Scalar.andi arg0 c1_i32_2
  let c0_i32_4 : BitVec 32 := 0#32
  let c0_i32_5 : BitVec 32 := 0#32
  ![v8.toNat, 0, 0]
def k0_off6 (i : grid0.Coords) : Fin 2 → Nat :=
  let arg0 : BitVec 32 := BitVec.ofNat 32 (i 0).val
  let c8192_i32 : BitVec 32 := 8192#32
  let v7 : BitVec 32 := Scalar.muli arg0 c8192_i32
  let c0_i32_6 : BitVec 32 := 0#32
  ![v7.toNat, 0]
@[reducible] def k0_t1_loop : Scf.Loop 32 :=
  let c0_i32_7 : BitVec 32 := 0#32
  let c2_i32 : BitVec 32 := 2#32
  let v15 : BitVec 32 := Scalar.addi c0_i32_7 c2_i32
  let c1_i32_8 : BitVec 32 := 1#32
  ⟨c0_i32_7, v15, c1_i32_8⟩
def k0_mult1 (k0_t1 : Fin k0_t1_loop.trips) : BitVec 32 :=
  let c0_i32_7 : BitVec 32 := 0#32
  let c1_i32_8 : BitVec 32 := 1#32
  let arg11 : BitVec 32 := Scf.iv c0_i32_7 c1_i32_8 k0_t1
  let c256_i32 : BitVec 32 := 256#32
  let v16 : BitVec 32 := Scalar.muli arg11 c256_i32
  v16
def k0_off7 (k0_t1 : Fin k0_t1_loop.trips) (c0_i32_10 : BitVec 32) : Fin 3 → Nat :=
  let c0 : Index := 0#32
  let c0_11 : Index := 0#32
  let c0_i32_7 : BitVec 32 := 0#32
  let c1_i32_8 : BitVec 32 := 1#32
  let arg11 : BitVec 32 := Scf.iv c0_i32_7 c1_i32_8 k0_t1
  let c256_i32 : BitVec 32 := 256#32
  let v16 : BitVec 32 := Scalar.muli arg11 c256_i32
  let v17 : BitVec 32 := v16
  let v18 : BitVec 32 := Scalar.addi v17 c0_i32_10
  let v19 : Index := Scalar.indexCast v18
  ![0, 0, v19.toNat]
def k0_off8 (k0_t1 : Fin k0_t1_loop.trips) (c0_i32_10 : BitVec 32) : Fin 3 → Nat :=
  let c1 : Index := 1#32
  let c0_12 : Index := 0#32
  let c0_i32_7 : BitVec 32 := 0#32
  let c1_i32_8 : BitVec 32 := 1#32
  let arg11 : BitVec 32 := Scf.iv c0_i32_7 c1_i32_8 k0_t1
  let c256_i32 : BitVec 32 := 256#32
  let v16 : BitVec 32 := Scalar.muli arg11 c256_i32
  let v17 : BitVec 32 := v16
  let v18 : BitVec 32 := Scalar.addi v17 c0_i32_10
  let v23 : Index := Scalar.indexCast v18
  ![1, 0, v23.toNat]
def k0_off9 (k0_t1 : Fin k0_t1_loop.trips) (c0_i32_10 : BitVec 32) : Fin 3 → Nat :=
  let c2 : Index := 2#32
  let c0_13 : Index := 0#32
  let c0_i32_7 : BitVec 32 := 0#32
  let c1_i32_8 : BitVec 32 := 1#32
  let arg11 : BitVec 32 := Scf.iv c0_i32_7 c1_i32_8 k0_t1
  let c256_i32 : BitVec 32 := 256#32
  let v16 : BitVec 32 := Scalar.muli arg11 c256_i32
  let v17 : BitVec 32 := v16
  let v18 : BitVec 32 := Scalar.addi v17 c0_i32_10
  let v27 : Index := Scalar.indexCast v18
  ![2, 0, v27.toNat]
def k0_off10 (k0_t1 : Fin k0_t1_loop.trips) (c0_i32_10 : BitVec 32) : Fin 3 → Nat :=
  let c3 : Index := 3#32
  let c0_14 : Index := 0#32
  let c0_i32_7 : BitVec 32 := 0#32
  let c1_i32_8 : BitVec 32 := 1#32
  let arg11 : BitVec 32 := Scf.iv c0_i32_7 c1_i32_8 k0_t1
  let c256_i32 : BitVec 32 := 256#32
  let v16 : BitVec 32 := Scalar.muli arg11 c256_i32
  let v17 : BitVec 32 := v16
  let v18 : BitVec 32 := Scalar.addi v17 c0_i32_10
  let v31 : Index := Scalar.indexCast v18
  ![3, 0, v31.toNat]
def k0_off11 (k0_t1 : Fin k0_t1_loop.trips) (c0_i32_10 : BitVec 32) : Fin 3 → Nat :=
  let c4 : Index := 4#32
  let c0_15 : Index := 0#32
  let c0_i32_7 : BitVec 32 := 0#32
  let c1_i32_8 : BitVec 32 := 1#32
  let arg11 : BitVec 32 := Scf.iv c0_i32_7 c1_i32_8 k0_t1
  let c256_i32 : BitVec 32 := 256#32
  let v16 : BitVec 32 := Scalar.muli arg11 c256_i32
  let v17 : BitVec 32 := v16
  let v18 : BitVec 32 := Scalar.addi v17 c0_i32_10
  let v35 : Index := Scalar.indexCast v18
  ![4, 0, v35.toNat]
def k0_off12 (k0_t1 : Fin k0_t1_loop.trips) (c0_i32_10 : BitVec 32) : Fin 3 → Nat :=
  let c5 : Index := 5#32
  let c0_16 : Index := 0#32
  let c0_i32_7 : BitVec 32 := 0#32
  let c1_i32_8 : BitVec 32 := 1#32
  let arg11 : BitVec 32 := Scf.iv c0_i32_7 c1_i32_8 k0_t1
  let c256_i32 : BitVec 32 := 256#32
  let v16 : BitVec 32 := Scalar.muli arg11 c256_i32
  let v17 : BitVec 32 := v16
  let v18 : BitVec 32 := Scalar.addi v17 c0_i32_10
  let v39 : Index := Scalar.indexCast v18
  ![5, 0, v39.toNat]
def k0_off13 (k0_t1 : Fin k0_t1_loop.trips) (c0_i32_10 : BitVec 32) : Fin 3 → Nat :=
  let c6 : Index := 6#32
  let c0_17 : Index := 0#32
  let c0_i32_7 : BitVec 32 := 0#32
  let c1_i32_8 : BitVec 32 := 1#32
  let arg11 : BitVec 32 := Scf.iv c0_i32_7 c1_i32_8 k0_t1
  let c256_i32 : BitVec 32 := 256#32
  let v16 : BitVec 32 := Scalar.muli arg11 c256_i32
  let v17 : BitVec 32 := v16
  let v18 : BitVec 32 := Scalar.addi v17 c0_i32_10
  let v43 : Index := Scalar.indexCast v18
  ![6, 0, v43.toNat]
def k0_off14 (k0_t1 : Fin k0_t1_loop.trips) (c0_i32_10 : BitVec 32) : Fin 3 → Nat :=
  let c7 : Index := 7#32
  let c0_18 : Index := 0#32
  let c0_i32_7 : BitVec 32 := 0#32
  let c1_i32_8 : BitVec 32 := 1#32
  let arg11 : BitVec 32 := Scf.iv c0_i32_7 c1_i32_8 k0_t1
  let c256_i32 : BitVec 32 := 256#32
  let v16 : BitVec 32 := Scalar.muli arg11 c256_i32
  let v17 : BitVec 32 := v16
  let v18 : BitVec 32 := Scalar.addi v17 c0_i32_10
  let v47 : Index := Scalar.indexCast v18
  ![7, 0, v47.toNat]
def k0_off15 (k0_t1 : Fin k0_t1_loop.trips) (c0_i32_10 : BitVec 32) : Fin 3 → Nat :=
  let c8 : Index := 8#32
  let c0_19 : Index := 0#32
  let c0_i32_7 : BitVec 32 := 0#32
  let c1_i32_8 : BitVec 32 := 1#32
  let arg11 : BitVec 32 := Scf.iv c0_i32_7 c1_i32_8 k0_t1
  let c256_i32 : BitVec 32 := 256#32
  let v16 : BitVec 32 := Scalar.muli arg11 c256_i32
  let v17 : BitVec 32 := v16
  let v18 : BitVec 32 := Scalar.addi v17 c0_i32_10
  let v51 : Index := Scalar.indexCast v18
  ![8, 0, v51.toNat]
def k0_off16 (k0_t1 : Fin k0_t1_loop.trips) (c0_i32_10 : BitVec 32) : Fin 3 → Nat :=
  let c9 : Index := 9#32
  let c0_20 : Index := 0#32
  let c0_i32_7 : BitVec 32 := 0#32
  let c1_i32_8 : BitVec 32 := 1#32
  let arg11 : BitVec 32 := Scf.iv c0_i32_7 c1_i32_8 k0_t1
  let c256_i32 : BitVec 32 := 256#32
  let v16 : BitVec 32 := Scalar.muli arg11 c256_i32
  let v17 : BitVec 32 := v16
  let v18 : BitVec 32 := Scalar.addi v17 c0_i32_10
  let v55 : Index := Scalar.indexCast v18
  ![9, 0, v55.toNat]
def k0_off17 (k0_t1 : Fin k0_t1_loop.trips) (c0_i32_10 : BitVec 32) : Fin 3 → Nat :=
  let c10 : Index := 10#32
  let c0_21 : Index := 0#32
  let c0_i32_7 : BitVec 32 := 0#32
  let c1_i32_8 : BitVec 32 := 1#32
  let arg11 : BitVec 32 := Scf.iv c0_i32_7 c1_i32_8 k0_t1
  let c256_i32 : BitVec 32 := 256#32
  let v16 : BitVec 32 := Scalar.muli arg11 c256_i32
  let v17 : BitVec 32 := v16
  let v18 : BitVec 32 := Scalar.addi v17 c0_i32_10
  let v59 : Index := Scalar.indexCast v18
  ![10, 0, v59.toNat]
def k0_off18 (k0_t1 : Fin k0_t1_loop.trips) (c0_i32_10 : BitVec 32) : Fin 3 → Nat :=
  let c11 : Index := 11#32
  let c0_22 : Index := 0#32
  let c0_i32_7 : BitVec 32 := 0#32
  let c1_i32_8 : BitVec 32 := 1#32
  let arg11 : BitVec 32 := Scf.iv c0_i32_7 c1_i32_8 k0_t1
  let c256_i32 : BitVec 32 := 256#32
  let v16 : BitVec 32 := Scalar.muli arg11 c256_i32
  let v17 : BitVec 32 := v16
  let v18 : BitVec 32 := Scalar.addi v17 c0_i32_10
  let v63 : Index := Scalar.indexCast v18
  ![11, 0, v63.toNat]
def k0_off19 (k0_t1 : Fin k0_t1_loop.trips) (c0_i32_10 : BitVec 32) : Fin 2 → Nat :=
  let c0_55 : Index := 0#32
  let c0_i32_7 : BitVec 32 := 0#32
  let c1_i32_8 : BitVec 32 := 1#32
  let arg11 : BitVec 32 := Scf.iv c0_i32_7 c1_i32_8 k0_t1
  let c256_i32 : BitVec 32 := 256#32
  let v16 : BitVec 32 := Scalar.muli arg11 c256_i32
  let v17 : BitVec 32 := v16
  let v18 : BitVec 32 := Scalar.addi v17 c0_i32_10
  let v147 : Index := Scalar.indexCast v18
  ![0, v147.toNat]
def k0_mult2 (k0_t1 : Fin k0_t1_loop.trips) : BitVec 32 :=
  let c0_i32_7 : BitVec 32 := 0#32
  let c1_i32_8 : BitVec 32 := 1#32
  let arg11 : BitVec 32 := Scf.iv c0_i32_7 c1_i32_8 k0_t1
  let c256_i32 : BitVec 32 := 256#32
  let v16 : BitVec 32 := Scalar.muli arg11 c256_i32
  let v17 : BitVec 32 := v16
  let c0_i32_308 : BitVec 32 := 0#32
  let v673 : BitVec 32 := Scalar.addi v17 c0_i32_308
  let c4_i32_309 : BitVec 32 := 4#32
  let v674 : BitVec 32 := Scalar.muli v673 c4_i32_309
  v674
def k0_off20 (i : grid0.Coords) (k0_t1 : Fin k0_t1_loop.trips) (c0_i32_308 : BitVec 32) : Fin 3 → Nat :=
  let arg0 : BitVec 32 := BitVec.ofNat 32 (i 0).val
  let c1_i32_310 : BitVec 32 := 1#32
  let v676 : BitVec 32 := Scalar.andi arg0 c1_i32_310
  let v678 : Index := Scalar.indexCast v676
  let c4_i32_311 : BitVec 32 := 4#32
  let c0_i32_7 : BitVec 32 := 0#32
  let c1_i32_8 : BitVec 32 := 1#32
  let arg11 : BitVec 32 := Scf.iv c0_i32_7 c1_i32_8 k0_t1
  let c256_i32 : BitVec 32 := 256#32
  let v16 : BitVec 32 := Scalar.muli arg11 c256_i32
  let v17 : BitVec 32 := v16
  let v673 : BitVec 32 := Scalar.addi v17 c0_i32_308
  let c4_i32_309 : BitVec 32 := 4#32
  let v674 : BitVec 32 := Scalar.muli v673 c4_i32_309
  let v675 : BitVec 32 := v674
  let v677 : BitVec 32 := Scalar.muli c4_i32_311 v675
  let v679 : Index := Scalar.indexCast v677
  let c0_312 : Index := 0#32
  ![v678.toNat, v679.toNat, 0]
def k0_mult3 (k0_t1 : Fin k0_t1_loop.trips) : BitVec 32 :=
  let c0_i32_7 : BitVec 32 := 0#32
  let c1_i32_8 : BitVec 32 := 1#32
  let arg11 : BitVec 32 := Scf.iv c0_i32_7 c1_i32_8 k0_t1
  let c256_i32 : BitVec 32 := 256#32
  let v16 : BitVec 32 := Scalar.muli arg11 c256_i32
  let v17 : BitVec 32 := v16
  let c128_i32_346 : BitVec 32 := 128#32
  let v767 : BitVec 32 := Scalar.addi v17 c128_i32_346
  let c4_i32_347 : BitVec 32 := 4#32
  let v768 : BitVec 32 := Scalar.muli v767 c4_i32_347
  v768
def k0_mult4 (k0_t1 : Fin k0_t1_loop.trips) : BitVec 32 :=
  let c0_i32_7 : BitVec 32 := 0#32
  let c1_i32_8 : BitVec 32 := 1#32
  let arg11 : BitVec 32 := Scf.iv c0_i32_7 c1_i32_8 k0_t1
  let c256_i32 : BitVec 32 := 256#32
  let v16 : BitVec 32 := Scalar.muli arg11 c256_i32
  let v17 : BitVec 32 := v16
  let c0_i32_388 : BitVec 32 := 0#32
  let v865 : BitVec 32 := Scalar.addi v17 c0_i32_388
  let c4_i32_389 : BitVec 32 := 4#32
  let v866 : BitVec 32 := Scalar.muli v865 c4_i32_389
  v866
def k0_mult5 (k0_t1 : Fin k0_t1_loop.trips) : BitVec 32 :=
  let c0_i32_7 : BitVec 32 := 0#32
  let c1_i32_8 : BitVec 32 := 1#32
  let arg11 : BitVec 32 := Scf.iv c0_i32_7 c1_i32_8 k0_t1
  let c256_i32 : BitVec 32 := 256#32
  let v16 : BitVec 32 := Scalar.muli arg11 c256_i32
  let v17 : BitVec 32 := v16
  let c128_i32_427 : BitVec 32 := 128#32
  let v959 : BitVec 32 := Scalar.addi v17 c128_i32_427
  let c4_i32_428 : BitVec 32 := 4#32
  let v960 : BitVec 32 := Scalar.muli v959 c4_i32_428
  v960
def k0_mult6 (k0_t1 : Fin k0_t1_loop.trips) : BitVec 32 :=
  let c0_i32_7 : BitVec 32 := 0#32
  let c1_i32_8 : BitVec 32 := 1#32
  let arg11 : BitVec 32 := Scf.iv c0_i32_7 c1_i32_8 k0_t1
  let c256_i32 : BitVec 32 := 256#32
  let v16 : BitVec 32 := Scalar.muli arg11 c256_i32
  let v17 : BitVec 32 := v16
  let c0_i32_468 : BitVec 32 := 0#32
  let v1057 : BitVec 32 := Scalar.addi v17 c0_i32_468
  let c4_i32_469 : BitVec 32 := 4#32
  let v1058 : BitVec 32 := Scalar.muli v1057 c4_i32_469
  v1058
def k0_mult7 (k0_t1 : Fin k0_t1_loop.trips) : BitVec 32 :=
  let c0_i32_7 : BitVec 32 := 0#32
  let c1_i32_8 : BitVec 32 := 1#32
  let arg11 : BitVec 32 := Scf.iv c0_i32_7 c1_i32_8 k0_t1
  let c256_i32 : BitVec 32 := 256#32
  let v16 : BitVec 32 := Scalar.muli arg11 c256_i32
  let v17 : BitVec 32 := v16
  let c128_i32_507 : BitVec 32 := 128#32
  let v1151 : BitVec 32 := Scalar.addi v17 c128_i32_507
  let c4_i32_508 : BitVec 32 := 4#32
  let v1152 : BitVec 32 := Scalar.muli v1151 c4_i32_508
  v1152
def k0_mult8 (k0_t1 : Fin k0_t1_loop.trips) : BitVec 32 :=
  let c0_i32_7 : BitVec 32 := 0#32
  let c1_i32_8 : BitVec 32 := 1#32
  let arg11 : BitVec 32 := Scf.iv c0_i32_7 c1_i32_8 k0_t1
  let c256_i32 : BitVec 32 := 256#32
  let v16 : BitVec 32 := Scalar.muli arg11 c256_i32
  let v17 : BitVec 32 := v16
  let c0_i32_548 : BitVec 32 := 0#32
  let v1249 : BitVec 32 := Scalar.addi v17 c0_i32_548
  let c4_i32_549 : BitVec 32 := 4#32
  let v1250 : BitVec 32 := Scalar.muli v1249 c4_i32_549
  v1250
def k0_mult9 (k0_t1 : Fin k0_t1_loop.trips) : BitVec 32 :=
  let c0_i32_7 : BitVec 32 := 0#32
  let c1_i32_8 : BitVec 32 := 1#32
  let arg11 : BitVec 32 := Scf.iv c0_i32_7 c1_i32_8 k0_t1
  let c256_i32 : BitVec 32 := 256#32
  let v16 : BitVec 32 := Scalar.muli arg11 c256_i32
  let v17 : BitVec 32 := v16
  let c128_i32_586 : BitVec 32 := 128#32
  let v1343 : BitVec 32 := Scalar.addi v17 c128_i32_586
  let c4_i32_587 : BitVec 32 := 4#32
  let v1344 : BitVec 32 := Scalar.muli v1343 c4_i32_587
  v1344
def k0_off21 (k0_t1 : Fin k0_t1_loop.trips) : Fin 2 → Nat :=
  let c0_627 : Index := 0#32
  let c0_i32_7 : BitVec 32 := 0#32
  let c1_i32_8 : BitVec 32 := 1#32
  let arg11 : BitVec 32 := Scf.iv c0_i32_7 c1_i32_8 k0_t1
  let c256_i32 : BitVec 32 := 256#32
  let v16 : BitVec 32 := Scalar.muli arg11 c256_i32
  let v17 : BitVec 32 := v16
  let v1441 : Index := Scalar.indexCast v17
  ![0, v1441.toNat]
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S36x4096 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S12x16x512 .i8 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S16x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S16x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S36x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ProjIdeal.lean ====
abbrev S2x4x16x2x128 : Shape := ⟨5, ![2, 4, 16, 2, 128]⟩
abbrev S2x4x16x1x128 : Shape := ⟨5, ![2, 4, 16, 1, 128]⟩
abbrev S1x1x8x2x128 : Shape := ⟨5, ![1, 1, 8, 2, 128]⟩
abbrev S1x1x8x1x128 : Shape := ⟨5, ![1, 1, 8, 1, 128]⟩
abbrev S1x1x4x2x128 : Shape := ⟨5, ![1, 1, 4, 2, 128]⟩
abbrev S1x1x4x1x128 : Shape := ⟨5, ![1, 1, 4, 1, 128]⟩
  | .local _ .vmem, ⟨9, _⟩ => ⟨S2x4x16x2x128, .bf16⟩
  | .local _ .vmem, ⟨10, _⟩ => ⟨S2x4x16x2x128, .bf16⟩
variable {F : FTy → Type} [FloatOps F]
-- ==== ProjReferenceIdeal.lean ====
abbrev S36x4096 : Shape := ⟨2, ![36, 4096]⟩
abbrev S4096x16x128 : Shape := ⟨3, ![4096, 16, 128]⟩
abbrev S4096x16x12 : Shape := ⟨3, ![4096, 16, 12]⟩
abbrev S4096x16 : Shape := ⟨2, ![4096, 16]⟩
abbrev S36x4x4x32x4x2 : Shape := ⟨6, ![36, 4, 4, 32, 4, 2]⟩
abbrev S36x4x4x4x2x32 : Shape := ⟨6, ![36, 4, 4, 4, 2, 32]⟩
abbrev S36x16x4x2x32 : Shape := ⟨5, ![36, 16, 4, 2, 32]⟩
abbrev S4096x16x4x32 : Shape := ⟨4, ![4096, 16, 4, 32]⟩
abbrev S4096x16x4 : Shape := ⟨3, ![4096, 16, 4]⟩
abbrev S4096x16x8 : Shape := ⟨3, ![4096, 16, 8]⟩
abbrev S4096x16x1 : Shape := ⟨3, ![4096, 16, 1]⟩
abbrev S4096x16x4x2 : Shape := ⟨4, ![4096, 16, 4, 2]⟩
abbrev S4096x16x4x1 : Shape := ⟨4, ![4096, 16, 4, 1]⟩
abbrev S36x16x4x1x32 : Shape := ⟨5, ![36, 16, 4, 1, 32]⟩
abbrev S36x16x4x32 : Shape := ⟨4, ![36, 16, 4, 32]⟩

abbrev nBuf : Space → Nat
  | .hbm => 17
  | .vmem => 6
  | .smem => 0
  | _ => 0

abbrev bufTy : (tb : Table) → Fin (tcTables nBuf tb) → BufTy
  | .hbm, ⟨0, _⟩ => ⟨S36x4096, .bf16⟩
  | .hbm, ⟨1, _⟩ => ⟨S4096x16x128, .i8⟩
  | .hbm, ⟨2, _⟩ => ⟨S4096x16x12, .i8⟩
  | .hbm, ⟨3, _⟩ => ⟨S4096x16, .bf16⟩
  | .hbm, ⟨4, _⟩ => ⟨S4096x16, .bf16⟩
  | .hbm, ⟨5, _⟩ => ⟨S36x4x4x32x4x2, .bf16⟩
  | .hbm, ⟨6, _⟩ => ⟨S36x4x4x4x2x32, .bf16⟩
  | .hbm, ⟨7, _⟩ => ⟨S36x16x4x2x32, .bf16⟩
  | .hbm, ⟨8, _⟩ => ⟨S4096x16x4x32, .bf16⟩
  | .hbm, ⟨9, _⟩ => ⟨S4096x16x4x32, .bf16⟩
  | .hbm, ⟨10, _⟩ => ⟨S36x16x4x1x32, .bf16⟩
  | .hbm, ⟨11, _⟩ => ⟨S36x16x4x32, .bf16⟩
  | .hbm, ⟨12, _⟩ => ⟨S36x4096, .f32⟩
  | .hbm, ⟨13, _⟩ => ⟨S36x16x4x1x32, .bf16⟩
  | .hbm, ⟨14, _⟩ => ⟨S36x16x4x32, .bf16⟩
  | .hbm, ⟨15, _⟩ => ⟨S36x4096, .f32⟩
  | .hbm, ⟨16, _⟩ => ⟨S36x4096, .f32⟩
  | .local _ .vmem, ⟨0, _⟩ => ⟨S4096x16x128, .i8⟩
  | .local _ .vmem, ⟨1, _⟩ => ⟨S4096x16x12, .i8⟩
  | .local _ .vmem, ⟨2, _⟩ => ⟨S4096x16, .bf16⟩
  | .local _ .vmem, ⟨3, _⟩ => ⟨S4096x16, .bf16⟩
  | .local _ .vmem, ⟨4, _⟩ => ⟨S4096x16x4x32, .bf16⟩
  | .local _ .vmem, ⟨5, _⟩ => ⟨S4096x16x4x32, .bf16⟩
  | _, _ => ⟨S36x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := .none

abbrev stage0_0 : Fin 1 → Memref sig .tc .vmem S4096x16x128 .i8 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4096x16x12 .i8 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4096x16 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S4096x16 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S4096x16x4x32 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S4096x16x4x32 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== Down.lean ====
abbrev S36x14336 : Shape := ⟨2, ![36, 14336]⟩
abbrev S4096x56x128 : Shape := ⟨3, ![4096, 56, 128]⟩
abbrev S4096x56x12 : Shape := ⟨3, ![4096, 56, 12]⟩
abbrev S4096x56 : Shape := ⟨2, ![4096, 56]⟩
abbrev S229376x128 : Shape := ⟨2, ![229376, 128]⟩
abbrev S12x56x4096 : Shape := ⟨3, ![12, 56, 4096]⟩
abbrev S56x4096 : Shape := ⟨2, ![56, 4096]⟩
abbrev S36x4096 : Shape := ⟨2, ![36, 4096]⟩
abbrev S12x56x256 : Shape := ⟨3, ![12, 56, 256]⟩
abbrev S56x256 : Shape := ⟨2, ![56, 256]⟩
abbrev S36x256 : Shape := ⟨2, ![36, 256]⟩
abbrev S2x4x56x128 : Shape := ⟨4, ![2, 4, 56, 128]⟩
abbrev S2x14336x128 : Shape := ⟨3, ![2, 14336, 128]⟩
abbrev S2 : Shape := ⟨1, ![2]⟩
abbrev S1 : Shape := ⟨1, ![1]⟩
abbrev S_ : Shape := ⟨0, ![]⟩
abbrev S1x14336x128 : Shape := ⟨3, ![1, 14336, 128]⟩
abbrev S14336x128 : Shape := ⟨2, ![14336, 128]⟩
abbrev S1x56x128 : Shape := ⟨3, ![1, 56, 128]⟩
abbrev S56x128 : Shape := ⟨2, ![56, 128]⟩
abbrev S14x128 : Shape := ⟨2, ![14, 128]⟩
abbrev S28x128 : Shape := ⟨2, ![28, 128]⟩
abbrev S1x1x28x128 : Shape := ⟨4, ![1, 1, 28, 128]⟩
abbrev S1x7168x128 : Shape := ⟨3, ![1, 7168, 128]⟩
abbrev S7168x128 : Shape := ⟨2, ![7168, 128]⟩
abbrev S1792x128 : Shape := ⟨2, ![1792, 128]⟩
abbrev S128x14x128 : Shape := ⟨3, ![128, 14, 128]⟩
abbrev S128x1x128 : Shape := ⟨3, ![128, 1, 128]⟩
abbrev S128x128 : Shape := ⟨2, ![128, 128]⟩
abbrev S128x8x128 : Shape := ⟨3, ![128, 8, 128]⟩
abbrev S1024x128 : Shape := ⟨2, ![1024, 128]⟩
abbrev S1x1x4x128 : Shape := ⟨4, ![1, 1, 4, 128]⟩
abbrev S4x128 : Shape := ⟨2, ![4, 128]⟩
abbrev S8x128 : Shape := ⟨2, ![8, 128]⟩
abbrev S16x128 : Shape := ⟨2, ![16, 128]⟩
abbrev S256x128 : Shape := ⟨2, ![256, 128]⟩
abbrev S16x16x128 : Shape := ⟨3, ![16, 16, 128]⟩
abbrev S1x16x128 : Shape := ⟨3, ![1, 16, 128]⟩
abbrev S36x1024 : Shape := ⟨2, ![36, 1024]⟩
abbrev S1024x256 : Shape := ⟨2, ![1024, 256]⟩

abbrev nBuf : Space → Nat
  | .hbm => 10
  | .vmem => 12
  | .smem => 0
  | _ => 0

abbrev bufTy : (tb : Table) → Fin (tcTables nBuf tb) → BufTy
  | .hbm, ⟨0, _⟩ => ⟨S36x14336, .bf16⟩
  | .hbm, ⟨1, _⟩ => ⟨S4096x56x128, .i8⟩
  | .hbm, ⟨2, _⟩ => ⟨S4096x56x12, .i8⟩
  | .hbm, ⟨3, _⟩ => ⟨S4096x56, .bf16⟩
  | .hbm, ⟨4, _⟩ => ⟨S4096x56, .bf16⟩
  | .hbm, ⟨5, _⟩ => ⟨S229376x128, .i8⟩
  | .hbm, ⟨6, _⟩ => ⟨S12x56x4096, .i8⟩
  | .hbm, ⟨7, _⟩ => ⟨S56x4096, .bf16⟩
  | .hbm, ⟨8, _⟩ => ⟨S56x4096, .bf16⟩
  | .hbm, ⟨9, _⟩ => ⟨S36x4096, .f32⟩
  | .local _ .vmem, ⟨0, _⟩ => ⟨S36x14336, .bf16⟩
  | .local _ .vmem, ⟨1, _⟩ => ⟨S12x56x256, .i8⟩
  | .local _ .vmem, ⟨2, _⟩ => ⟨S12x56x256, .i8⟩
  | .local _ .vmem, ⟨3, _⟩ => ⟨S56x256, .bf16⟩
  | .local _ .vmem, ⟨4, _⟩ => ⟨S56x256, .bf16⟩
  | .local _ .vmem, ⟨5, _⟩ => ⟨S56x256, .bf16⟩
  | .local _ .vmem, ⟨6, _⟩ => ⟨S56x256, .bf16⟩
  | .local _ .vmem, ⟨7, _⟩ => ⟨S36x256, .f32⟩
  | .local _ .vmem, ⟨8, _⟩ => ⟨S36x256, .f32⟩
  | .local _ .vmem, ⟨9, _⟩ => ⟨S2x4x56x128, .i32⟩
  | .local _ .vmem, ⟨10, _⟩ => ⟨S2x4x56x128, .i32⟩
  | .local _ .vmem, ⟨11, _⟩ => ⟨S2x14336x128, .i8⟩
  | _, _ => ⟨S36x14336, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_scratch1 : Ref sig .tc := ⟨.vmem, 10, rfl⟩
abbrev cc0_scratch2 : Ref sig .tc := ⟨.vmem, 11, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [BitOps F]

abbrev grid0 : Pipeline.Grid := ⟨1, ![16], ![false]⟩

def k0_cond2 (i : grid0.Coords) : BitVec 1 :=
  let arg0 : BitVec 32 := BitVec.ofNat 32 (i 0).val
  let c1_i32 : BitVec 32 := 1#32
  let v3 : BitVec 32 := Scalar.addi arg0 c1_i32
  let c16_i32 : BitVec 32 := 16#32
  let v4 : BitVec 1 := Scalar.cmpi .slt v3 c16_i32
  let v5 : BitVec 32 := Scalar.extui v4
  let c0_i32_1 : BitVec 32 := 0#32
  let v6 : BitVec 1 := Scalar.cmpi .ne v5 c0_i32_1
  v6

def k0_off1 (i : grid0.Coords) : Fin 1 → Nat :=
  let arg0 : BitVec 32 := BitVec.ofNat 32 (i 0).val
  let c1_i32_1416 : BitVec 32 := 1#32
  let v3362 : BitVec 32 := Scalar.addi arg0 c1_i32_1416
  let c1_i32_1419 : BitVec 32 := 1#32
  let v3365 : BitVec 32 := Scalar.andi v3362 c1_i32_1419
  ![v3365.toNat]
def k0_off2 (i : grid0.Coords) : Fin 3 → Nat :=
  let arg0 : BitVec 32 := BitVec.ofNat 32 (i 0).val
  let c1_i32_1416 : BitVec 32 := 1#32
  let v3362 : BitVec 32 := Scalar.addi arg0 c1_i32_1416
  let c1_i32_1418 : BitVec 32 := 1#32
  let v3364 : BitVec 32 := Scalar.andi v3362 c1_i32_1418
  let c0_i32_1420 : BitVec 32 := 0#32
  let c0_i32_1421 : BitVec 32 := 0#32
  ![v3364.toNat, 0, 0]
def k0_off3 (i : grid0.Coords) : Fin 2 → Nat :=
  let arg0 : BitVec 32 := BitVec.ofNat 32 (i 0).val
  let c1_i32_1416 : BitVec 32 := 1#32
  let v3362 : BitVec 32 := Scalar.addi arg0 c1_i32_1416
  let c14336_i32_1417 : BitVec 32 := 14336#32
  let v3363 : BitVec 32 := Scalar.muli v3362 c14336_i32_1417
  let c0_i32_1422 : BitVec 32 := 0#32
  ![v3363.toNat, 0]
def k0_off4 (i : grid0.Coords) : Fin 1 → Nat :=
  let arg0 : BitVec 32 := BitVec.ofNat 32 (i 0).val
  let c1_i32_3 : BitVec 32 := 1#32
  let v9 : BitVec 32 := Scalar.andi arg0 c1_i32_3
  ![v9.toNat]
def k0_off5 (i : grid0.Coords) : Fin 3 → Nat :=
  let arg0 : BitVec 32 := BitVec.ofNat 32 (i 0).val
  let c1_i32_2 : BitVec 32 := 1#32
  let v8 : BitVec 32 := Scalar.andi arg0 c1_i32_2
  let c0_i32_4 : BitVec 32 := 0#32
  let c0_i32_5 : BitVec 32 := 0#32
  ![v8.toNat, 0, 0]
def k0_off6 (i : grid0.Coords) : Fin 2 → Nat :=
  let arg0 : BitVec 32 := BitVec.ofNat 32 (i 0).val
  let c14336_i32 : BitVec 32 := 14336#32
  let v7 : BitVec 32 := Scalar.muli arg0 c14336_i32
  let c0_i32_6 : BitVec 32 := 0#32
  ![v7.toNat, 0]
def k0_mult1 : BitVec 32 :=
  let c0_i32_7 : BitVec 32 := 0#32
  let c256_i32 : BitVec 32 := 256#32
  let v15 : BitVec 32 := Scalar.muli c0_i32_7 c256_i32
  v15
def k0_off7 (c0_i32_8 : BitVec 32) : Fin 3 → Nat :=
  let c0 : Index := 0#32
  let c0_9 : Index := 0#32
  let c0_i32_7 : BitVec 32 := 0#32
  let c256_i32 : BitVec 32 := 256#32
  let v15 : BitVec 32 := Scalar.muli c0_i32_7 c256_i32
  let v16 : BitVec 32 := v15
  let v17 : BitVec 32 := Scalar.addi v16 c0_i32_8
  let v18 : Index := Scalar.indexCast v17
  ![0, 0, v18.toNat]
def k0_off8 (c0_i32_8 : BitVec 32) : Fin 3 → Nat :=
  let c1 : Index := 1#32
  let c0_10 : Index := 0#32
  let c0_i32_7 : BitVec 32 := 0#32
  let c256_i32 : BitVec 32 := 256#32
  let v15 : BitVec 32 := Scalar.muli c0_i32_7 c256_i32
  let v16 : BitVec 32 := v15
  let v17 : BitVec 32 := Scalar.addi v16 c0_i32_8
  let v22 : Index := Scalar.indexCast v17
  ![1, 0, v22.toNat]
def k0_off9 (c0_i32_8 : BitVec 32) : Fin 3 → Nat :=
  let c2 : Index := 2#32
  let c0_11 : Index := 0#32
  let c0_i32_7 : BitVec 32 := 0#32
  let c256_i32 : BitVec 32 := 256#32
  let v15 : BitVec 32 := Scalar.muli c0_i32_7 c256_i32
  let v16 : BitVec 32 := v15
  let v17 : BitVec 32 := Scalar.addi v16 c0_i32_8
  let v26 : Index := Scalar.indexCast v17
  ![2, 0, v26.toNat]
def k0_off10 (c0_i32_8 : BitVec 32) : Fin 3 → Nat :=
  let c3 : Index := 3#32
  let c0_12 : Index := 0#32
  let c0_i32_7 : BitVec 32 := 0#32
  let c256_i32 : BitVec 32 := 256#32
  let v15 : BitVec 32 := Scalar.muli c0_i32_7 c256_i32
  let v16 : BitVec 32 := v15
  let v17 : BitVec 32 := Scalar.addi v16 c0_i32_8
  let v30 : Index := Scalar.indexCast v17
  ![3, 0, v30.toNat]
def k0_off11 (c0_i32_8 : BitVec 32) : Fin 3 → Nat :=
  let c4 : Index := 4#32
  let c0_13 : Index := 0#32
  let c0_i32_7 : BitVec 32 := 0#32
  let c256_i32 : BitVec 32 := 256#32
  let v15 : BitVec 32 := Scalar.muli c0_i32_7 c256_i32
  let v16 : BitVec 32 := v15
  let v17 : BitVec 32 := Scalar.addi v16 c0_i32_8
  let v34 : Index := Scalar.indexCast v17
  ![4, 0, v34.toNat]
def k0_off12 (c0_i32_8 : BitVec 32) : Fin 3 → Nat :=
  let c5 : Index := 5#32
  let c0_14 : Index := 0#32
  let c0_i32_7 : BitVec 32 := 0#32
  let c256_i32 : BitVec 32 := 256#32
  let v15 : BitVec 32 := Scalar.muli c0_i32_7 c256_i32
  let v16 : BitVec 32 := v15
  let v17 : BitVec 32 := Scalar.addi v16 c0_i32_8
  let v38 : Index := Scalar.indexCast v17
  ![5, 0, v38.toNat]
def k0_off13 (c0_i32_8 : BitVec 32) : Fin 3 → Nat :=
  let c6 : Index := 6#32
  let c0_15 : Index := 0#32
  let c0_i32_7 : BitVec 32 := 0#32
  let c256_i32 : BitVec 32 := 256#32
  let v15 : BitVec 32 := Scalar.muli c0_i32_7 c256_i32
  let v16 : BitVec 32 := v15
  let v17 : BitVec 32 := Scalar.addi v16 c0_i32_8
  let v42 : Index := Scalar.indexCast v17
  ![6, 0, v42.toNat]
def k0_off14 (c0_i32_8 : BitVec 32) : Fin 3 → Nat :=
  let c7 : Index := 7#32
  let c0_16 : Index := 0#32
  let c0_i32_7 : BitVec 32 := 0#32
  let c256_i32 : BitVec 32 := 256#32
  let v15 : BitVec 32 := Scalar.muli c0_i32_7 c256_i32
  let v16 : BitVec 32 := v15
  let v17 : BitVec 32 := Scalar.addi v16 c0_i32_8
  let v46 : Index := Scalar.indexCast v17
  ![7, 0, v46.toNat]
def k0_off15 (c0_i32_8 : BitVec 32) : Fin 3 → Nat :=
  let c8 : Index := 8#32
  let c0_17 : Index := 0#32
  let c0_i32_7 : BitVec 32 := 0#32
  let c256_i32 : BitVec 32 := 256#32
  let v15 : BitVec 32 := Scalar.muli c0_i32_7 c256_i32
  let v16 : BitVec 32 := v15
  let v17 : BitVec 32 := Scalar.addi v16 c0_i32_8
  let v50 : Index := Scalar.indexCast v17
  ![8, 0, v50.toNat]
def k0_off16 (c0_i32_8 : BitVec 32) : Fin 3 → Nat :=
  let c9 : Index := 9#32
  let c0_18 : Index := 0#32
  let c0_i32_7 : BitVec 32 := 0#32
  let c256_i32 : BitVec 32 := 256#32
  let v15 : BitVec 32 := Scalar.muli c0_i32_7 c256_i32
  let v16 : BitVec 32 := v15
  let v17 : BitVec 32 := Scalar.addi v16 c0_i32_8
  let v54 : Index := Scalar.indexCast v17
  ![9, 0, v54.toNat]
def k0_off17 (c0_i32_8 : BitVec 32) : Fin 3 → Nat :=
  let c10 : Index := 10#32
  let c0_19 : Index := 0#32
  let c0_i32_7 : BitVec 32 := 0#32
  let c256_i32 : BitVec 32 := 256#32
  let v15 : BitVec 32 := Scalar.muli c0_i32_7 c256_i32
  let v16 : BitVec 32 := v15
  let v17 : BitVec 32 := Scalar.addi v16 c0_i32_8
  let v58 : Index := Scalar.indexCast v17
  ![10, 0, v58.toNat]
def k0_off18 (c0_i32_8 : BitVec 32) : Fin 3 → Nat :=
  let c11 : Index := 11#32
  let c0_20 : Index := 0#32
  let c0_i32_7 : BitVec 32 := 0#32
  let c256_i32 : BitVec 32 := 256#32
  let v15 : BitVec 32 := Scalar.muli c0_i32_7 c256_i32
  let v16 : BitVec 32 := v15
  let v17 : BitVec 32 := Scalar.addi v16 c0_i32_8
  let v62 : Index := Scalar.indexCast v17
  ![11, 0, v62.toNat]
def k0_off19 (c0_i32_8 : BitVec 32) : Fin 2 → Nat :=
  let c0_52 : Index := 0#32
  let c0_i32_7 : BitVec 32 := 0#32
  let c256_i32 : BitVec 32 := 256#32
  let v15 : BitVec 32 := Scalar.muli c0_i32_7 c256_i32
  let v16 : BitVec 32 := v15
  let v17 : BitVec 32 := Scalar.addi v16 c0_i32_8
  let v146 : Index := Scalar.indexCast v17
  ![0, v146.toNat]
def k0_mult2 : BitVec 32 :=
  let c0_i32_7 : BitVec 32 := 0#32
  let c256_i32 : BitVec 32 := 256#32
  let v15 : BitVec 32 := Scalar.muli c0_i32_7 c256_i32
  let v16 : BitVec 32 := v15
  let c0_i32_306 : BitVec 32 := 0#32
  let v672 : BitVec 32 := Scalar.addi v16 c0_i32_306
  let c14_i32 : BitVec 32 := 14#32
  let v673 : BitVec 32 := Scalar.muli v672 c14_i32
  v673
def k0_off20 (i : grid0.Coords) (c0_i32_306 : BitVec 32) : Fin 3 → Nat :=
  let arg0 : BitVec 32 := BitVec.ofNat 32 (i 0).val
  let c1_i32_307 : BitVec 32 := 1#32
  let v675 : BitVec 32 := Scalar.andi arg0 c1_i32_307
  let v677 : Index := Scalar.indexCast v675
  let c4_i32_308 : BitVec 32 := 4#32
  let c0_i32_7 : BitVec 32 := 0#32
  let c256_i32 : BitVec 32 := 256#32
  let v15 : BitVec 32 := Scalar.muli c0_i32_7 c256_i32
  let v16 : BitVec 32 := v15
  let v672 : BitVec 32 := Scalar.addi v16 c0_i32_306
  let c14_i32 : BitVec 32 := 14#32
  let v673 : BitVec 32 := Scalar.muli v672 c14_i32
  let v674 : BitVec 32 := v673
  let v676 : BitVec 32 := Scalar.muli c4_i32_308 v674
  let v678 : Index := Scalar.indexCast v676
  let c0_309 : Index := 0#32
  ![v677.toNat, v678.toNat, 0]
def k0_mult3 : BitVec 32 :=
  let c0_i32_7 : BitVec 32 := 0#32
  let c256_i32 : BitVec 32 := 256#32
  let v15 : BitVec 32 := Scalar.muli c0_i32_7 c256_i32
  let v16 : BitVec 32 := v15
  let c128_i32_343 : BitVec 32 := 128#32
  let v766 : BitVec 32 := Scalar.addi v16 c128_i32_343
  let c14_i32_344 : BitVec 32 := 14#32
  let v767 : BitVec 32 := Scalar.muli v766 c14_i32_344
  v767
def k0_mult4 : BitVec 32 :=
  let c0_i32_7 : BitVec 32 := 0#32
  let c256_i32 : BitVec 32 := 256#32
  let v15 : BitVec 32 := Scalar.muli c0_i32_7 c256_i32
  let v16 : BitVec 32 := v15
  let c0_i32_385 : BitVec 32 := 0#32
  let v864 : BitVec 32 := Scalar.addi v16 c0_i32_385
  let c14_i32_386 : BitVec 32 := 14#32
  let v865 : BitVec 32 := Scalar.muli v864 c14_i32_386
  v865
def k0_mult5 : BitVec 32 :=
  let c0_i32_7 : BitVec 32 := 0#32
  let c256_i32 : BitVec 32 := 256#32
  let v15 : BitVec 32 := Scalar.muli c0_i32_7 c256_i32
  let v16 : BitVec 32 := v15
  let c128_i32_424 : BitVec 32 := 128#32
  let v958 : BitVec 32 := Scalar.addi v16 c128_i32_424
  let c14_i32_425 : BitVec 32 := 14#32
  let v959 : BitVec 32 := Scalar.muli v958 c14_i32_425
  v959
def k0_mult6 : BitVec 32 :=
  let c0_i32_7 : BitVec 32 := 0#32
  let c256_i32 : BitVec 32 := 256#32
  let v15 : BitVec 32 := Scalar.muli c0_i32_7 c256_i32
  let v16 : BitVec 32 := v15
  let c0_i32_465 : BitVec 32 := 0#32
  let v1056 : BitVec 32 := Scalar.addi v16 c0_i32_465
  let c14_i32_466 : BitVec 32 := 14#32
  let v1057 : BitVec 32 := Scalar.muli v1056 c14_i32_466
  v1057
def k0_mult7 : BitVec 32 :=
  let c0_i32_7 : BitVec 32 := 0#32
  let c256_i32 : BitVec 32 := 256#32
  let v15 : BitVec 32 := Scalar.muli c0_i32_7 c256_i32
  let v16 : BitVec 32 := v15
  let c128_i32_504 : BitVec 32 := 128#32
  let v1150 : BitVec 32 := Scalar.addi v16 c128_i32_504
  let c14_i32_505 : BitVec 32 := 14#32
  let v1151 : BitVec 32 := Scalar.muli v1150 c14_i32_505
  v1151
def k0_mult8 : BitVec 32 :=
  let c0_i32_7 : BitVec 32 := 0#32
  let c256_i32 : BitVec 32 := 256#32
  let v15 : BitVec 32 := Scalar.muli c0_i32_7 c256_i32
  let v16 : BitVec 32 := v15
  let c0_i32_545 : BitVec 32 := 0#32
  let v1248 : BitVec 32 := Scalar.addi v16 c0_i32_545
  let c14_i32_546 : BitVec 32 := 14#32
  let v1249 : BitVec 32 := Scalar.muli v1248 c14_i32_546
  v1249
def k0_mult9 : BitVec 32 :=
  let c0_i32_7 : BitVec 32 := 0#32
  let c256_i32 : BitVec 32 := 256#32
  let v15 : BitVec 32 := Scalar.muli c0_i32_7 c256_i32
  let v16 : BitVec 32 := v15
  let c128_i32_583 : BitVec 32 := 128#32
  let v1342 : BitVec 32 := Scalar.addi v16 c128_i32_583
  let c14_i32_584 : BitVec 32 := 14#32
  let v1343 : BitVec 32 := Scalar.muli v1342 c14_i32_584
  v1343
def k0_mult10 : BitVec 32 :=
  let c0_i32_7 : BitVec 32 := 0#32
  let c256_i32 : BitVec 32 := 256#32
  let v15 : BitVec 32 := Scalar.muli c0_i32_7 c256_i32
  let v16 : BitVec 32 := v15
  let c0_i32_624 : BitVec 32 := 0#32
  let v1440 : BitVec 32 := Scalar.addi v16 c0_i32_624
  let c14_i32_625 : BitVec 32 := 14#32
  let v1441 : BitVec 32 := Scalar.muli v1440 c14_i32_625
  v1441
def k0_mult11 : BitVec 32 :=
  let c0_i32_7 : BitVec 32 := 0#32
  let c256_i32 : BitVec 32 := 256#32
  let v15 : BitVec 32 := Scalar.muli c0_i32_7 c256_i32
  let v16 : BitVec 32 := v15
  let c128_i32_662 : BitVec 32 := 128#32
  let v1534 : BitVec 32 := Scalar.addi v16 c128_i32_662
  let c14_i32_663 : BitVec 32 := 14#32
  let v1535 : BitVec 32 := Scalar.muli v1534 c14_i32_663
  v1535
def k0_mult12 : BitVec 32 :=
  let c0_i32_7 : BitVec 32 := 0#32
  let c256_i32 : BitVec 32 := 256#32
  let v15 : BitVec 32 := Scalar.muli c0_i32_7 c256_i32
  let v16 : BitVec 32 := v15
  let c0_i32_703 : BitVec 32 := 0#32
  let v1632 : BitVec 32 := Scalar.addi v16 c0_i32_703
  let c14_i32_704 : BitVec 32 := 14#32
  let v1633 : BitVec 32 := Scalar.muli v1632 c14_i32_704
  v1633
def k0_mult13 : BitVec 32 :=
  let c0_i32_7 : BitVec 32 := 0#32
  let c256_i32 : BitVec 32 := 256#32
  let v15 : BitVec 32 := Scalar.muli c0_i32_7 c256_i32
  let v16 : BitVec 32 := v15
  let c128_i32_741 : BitVec 32 := 128#32
  let v1726 : BitVec 32 := Scalar.addi v16 c128_i32_741
  let c14_i32_742 : BitVec 32 := 14#32
  let v1727 : BitVec 32 := Scalar.muli v1726 c14_i32_742
  v1727
def k0_mult14 : BitVec 32 :=
  let c0_i32_7 : BitVec 32 := 0#32
  let c256_i32 : BitVec 32 := 256#32
  let v15 : BitVec 32 := Scalar.muli c0_i32_7 c256_i32
  let v16 : BitVec 32 := v15
  let c0_i32_782 : BitVec 32 := 0#32
  let v1824 : BitVec 32 := Scalar.addi v16 c0_i32_782
  let c14_i32_783 : BitVec 32 := 14#32
  let v1825 : BitVec 32 := Scalar.muli v1824 c14_i32_783
  v1825
def k0_mult15 : BitVec 32 :=
  let c0_i32_7 : BitVec 32 := 0#32
  let c256_i32 : BitVec 32 := 256#32
  let v15 : BitVec 32 := Scalar.muli c0_i32_7 c256_i32
  let v16 : BitVec 32 := v15
  let c128_i32_820 : BitVec 32 := 128#32
  let v1918 : BitVec 32 := Scalar.addi v16 c128_i32_820
  let c14_i32_821 : BitVec 32 := 14#32
  let v1919 : BitVec 32 := Scalar.muli v1918 c14_i32_821
  v1919
def k0_mult16 : BitVec 32 :=
  let c0_i32_7 : BitVec 32 := 0#32
  let c256_i32 : BitVec 32 := 256#32
  let v15 : BitVec 32 := Scalar.muli c0_i32_7 c256_i32
  let v16 : BitVec 32 := v15
  let c0_i32_861 : BitVec 32 := 0#32
  let v2016 : BitVec 32 := Scalar.addi v16 c0_i32_861
  let c14_i32_862 : BitVec 32 := 14#32
  let v2017 : BitVec 32 := Scalar.muli v2016 c14_i32_862
  v2017
def k0_mult17 : BitVec 32 :=
  let c0_i32_7 : BitVec 32 := 0#32
  let c256_i32 : BitVec 32 := 256#32
  let v15 : BitVec 32 := Scalar.muli c0_i32_7 c256_i32
  let v16 : BitVec 32 := v15
  let c128_i32_899 : BitVec 32 := 128#32
  let v2110 : BitVec 32 := Scalar.addi v16 c128_i32_899
  let c14_i32_900 : BitVec 32 := 14#32
  let v2111 : BitVec 32 := Scalar.muli v2110 c14_i32_900
  v2111
def k0_mult18 : BitVec 32 :=
  let c0_i32_7 : BitVec 32 := 0#32
  let c256_i32 : BitVec 32 := 256#32
  let v15 : BitVec 32 := Scalar.muli c0_i32_7 c256_i32
  let v16 : BitVec 32 := v15
  let c0_i32_940 : BitVec 32 := 0#32
  let v2208 : BitVec 32 := Scalar.addi v16 c0_i32_940
  let c14_i32_941 : BitVec 32 := 14#32
  let v2209 : BitVec 32 := Scalar.muli v2208 c14_i32_941
  v2209
def k0_mult19 : BitVec 32 :=
  let c0_i32_7 : BitVec 32 := 0#32
  let c256_i32 : BitVec 32 := 256#32
  let v15 : BitVec 32 := Scalar.muli c0_i32_7 c256_i32
  let v16 : BitVec 32 := v15
  let c128_i32_978 : BitVec 32 := 128#32
  let v2302 : BitVec 32 := Scalar.addi v16 c128_i32_978
  let c14_i32_979 : BitVec 32 := 14#32
  let v2303 : BitVec 32 := Scalar.muli v2302 c14_i32_979
  v2303
def k0_mult20 : BitVec 32 :=
  let c0_i32_7 : BitVec 32 := 0#32
  let c256_i32 : BitVec 32 := 256#32
  let v15 : BitVec 32 := Scalar.muli c0_i32_7 c256_i32
  let v16 : BitVec 32 := v15
  let c0_i32_1019 : BitVec 32 := 0#32
  let v2400 : BitVec 32 := Scalar.addi v16 c0_i32_1019
  let c14_i32_1020 : BitVec 32 := 14#32
  let v2401 : BitVec 32 := Scalar.muli v2400 c14_i32_1020
  v2401
def k0_mult21 : BitVec 32 :=
  let c0_i32_7 : BitVec 32 := 0#32
  let c256_i32 : BitVec 32 := 256#32
  let v15 : BitVec 32 := Scalar.muli c0_i32_7 c256_i32
  let v16 : BitVec 32 := v15
  let c128_i32_1057 : BitVec 32 := 128#32
  let v2494 : BitVec 32 := Scalar.addi v16 c128_i32_1057
  let c14_i32_1058 : BitVec 32 := 14#32
  let v2495 : BitVec 32 := Scalar.muli v2494 c14_i32_1058
  v2495
def k0_mult22 : BitVec 32 :=
  let c0_i32_7 : BitVec 32 := 0#32
  let c256_i32 : BitVec 32 := 256#32
  let v15 : BitVec 32 := Scalar.muli c0_i32_7 c256_i32
  let v16 : BitVec 32 := v15
  let c0_i32_1098 : BitVec 32 := 0#32
  let v2592 : BitVec 32 := Scalar.addi v16 c0_i32_1098
  let c14_i32_1099 : BitVec 32 := 14#32
  let v2593 : BitVec 32 := Scalar.muli v2592 c14_i32_1099
  v2593
def k0_mult23 : BitVec 32 :=
  let c0_i32_7 : BitVec 32 := 0#32
  let c256_i32 : BitVec 32 := 256#32
  let v15 : BitVec 32 := Scalar.muli c0_i32_7 c256_i32
  let v16 : BitVec 32 := v15
  let c128_i32_1136 : BitVec 32 := 128#32
  let v2686 : BitVec 32 := Scalar.addi v16 c128_i32_1136
  let c14_i32_1137 : BitVec 32 := 14#32
  let v2687 : BitVec 32 := Scalar.muli v2686 c14_i32_1137
  v2687
def k0_mult24 : BitVec 32 :=
  let c0_i32_7 : BitVec 32 := 0#32
  let c256_i32 : BitVec 32 := 256#32
  let v15 : BitVec 32 := Scalar.muli c0_i32_7 c256_i32
  let v16 : BitVec 32 := v15
  let c0_i32_1177 : BitVec 32 := 0#32
  let v2784 : BitVec 32 := Scalar.addi v16 c0_i32_1177
  let c14_i32_1178 : BitVec 32 := 14#32
  let v2785 : BitVec 32 := Scalar.muli v2784 c14_i32_1178
  v2785
def k0_mult25 : BitVec 32 :=
  let c0_i32_7 : BitVec 32 := 0#32
  let c256_i32 : BitVec 32 := 256#32
  let v15 : BitVec 32 := Scalar.muli c0_i32_7 c256_i32
  let v16 : BitVec 32 := v15
  let c128_i32_1215 : BitVec 32 := 128#32
  let v2878 : BitVec 32 := Scalar.addi v16 c128_i32_1215
  let c14_i32_1216 : BitVec 32 := 14#32
  let v2879 : BitVec 32 := Scalar.muli v2878 c14_i32_1216
  v2879
def k0_mult26 : BitVec 32 :=
  let c0_i32_7 : BitVec 32 := 0#32
  let c256_i32 : BitVec 32 := 256#32
  let v15 : BitVec 32 := Scalar.muli c0_i32_7 c256_i32
  let v16 : BitVec 32 := v15
  let c0_i32_1256 : BitVec 32 := 0#32
  let v2976 : BitVec 32 := Scalar.addi v16 c0_i32_1256
  let c14_i32_1257 : BitVec 32 := 14#32
  let v2977 : BitVec 32 := Scalar.muli v2976 c14_i32_1257
  v2977
def k0_mult27 : BitVec 32 :=
  let c0_i32_7 : BitVec 32 := 0#32
  let c256_i32 : BitVec 32 := 256#32
  let v15 : BitVec 32 := Scalar.muli c0_i32_7 c256_i32
  let v16 : BitVec 32 := v15
  let c128_i32_1294 : BitVec 32 := 128#32
  let v3070 : BitVec 32 := Scalar.addi v16 c128_i32_1294
  let c14_i32_1295 : BitVec 32 := 14#32
  let v3071 : BitVec 32 := Scalar.muli v3070 c14_i32_1295
  v3071
def k0_mult28 : BitVec 32 :=
  let c0_i32_7 : BitVec 32 := 0#32
  let c256_i32 : BitVec 32 := 256#32
  let v15 : BitVec 32 := Scalar.muli c0_i32_7 c256_i32
  let v16 : BitVec 32 := v15
  let c0_i32_1335 : BitVec 32 := 0#32
  let v3168 : BitVec 32 := Scalar.addi v16 c0_i32_1335
  let c14_i32_1336 : BitVec 32 := 14#32
  let v3169 : BitVec 32 := Scalar.muli v3168 c14_i32_1336
  v3169
def k0_mult29 : BitVec 32 :=
  let c0_i32_7 : BitVec 32 := 0#32
  let c256_i32 : BitVec 32 := 256#32
  let v15 : BitVec 32 := Scalar.muli c0_i32_7 c256_i32
  let v16 : BitVec 32 := v15
  let c128_i32_1373 : BitVec 32 := 128#32
  let v3262 : BitVec 32 := Scalar.addi v16 c128_i32_1373
  let c14_i32_1374 : BitVec 32 := 14#32
  let v3263 : BitVec 32 := Scalar.muli v3262 c14_i32_1374
  v3263
def k0_off21 : Fin 2 → Nat :=
  let c0_1414 : Index := 0#32
  let c0_i32_7 : BitVec 32 := 0#32
  let c256_i32 : BitVec 32 := 256#32
  let v15 : BitVec 32 := Scalar.muli c0_i32_7 c256_i32
  let v16 : BitVec 32 := v15
  let v3360 : Index := Scalar.indexCast v16
  ![0, v3360.toNat]
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S36x14336 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S12x56x256 .i8 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S56x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S56x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S36x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== DownIdeal.lean ====
abbrev S2x4x56x2x128 : Shape := ⟨5, ![2, 4, 56, 2, 128]⟩
abbrev S2x4x56x1x128 : Shape := ⟨5, ![2, 4, 56, 1, 128]⟩
abbrev S1x1x28x2x128 : Shape := ⟨5, ![1, 1, 28, 2, 128]⟩
abbrev S1x1x28x1x128 : Shape := ⟨5, ![1, 1, 28, 1, 128]⟩
abbrev S1x1x4x2x128 : Shape := ⟨5, ![1, 1, 4, 2, 128]⟩
abbrev S1x1x4x1x128 : Shape := ⟨5, ![1, 1, 4, 1, 128]⟩
  | .local _ .vmem, ⟨9, _⟩ => ⟨S2x4x56x2x128, .bf16⟩
  | .local _ .vmem, ⟨10, _⟩ => ⟨S2x4x56x2x128, .bf16⟩
variable {F : FTy → Type} [FloatOps F]
-- ==== DownReferenceIdeal.lean ====
abbrev S36x14336 : Shape := ⟨2, ![36, 14336]⟩
abbrev S4096x56x128 : Shape := ⟨3, ![4096, 56, 128]⟩
abbrev S4096x56x12 : Shape := ⟨3, ![4096, 56, 12]⟩
abbrev S4096x56 : Shape := ⟨2, ![4096, 56]⟩
abbrev S36x14x4x32x4x2 : Shape := ⟨6, ![36, 14, 4, 32, 4, 2]⟩
abbrev S36x14x4x4x2x32 : Shape := ⟨6, ![36, 14, 4, 4, 2, 32]⟩
abbrev S36x56x4x2x32 : Shape := ⟨5, ![36, 56, 4, 2, 32]⟩
abbrev S4096x56x4x32 : Shape := ⟨4, ![4096, 56, 4, 32]⟩
abbrev S4096x56x4 : Shape := ⟨3, ![4096, 56, 4]⟩
abbrev S4096x56x8 : Shape := ⟨3, ![4096, 56, 8]⟩
abbrev S4096x56x1 : Shape := ⟨3, ![4096, 56, 1]⟩
abbrev S4096x56x4x2 : Shape := ⟨4, ![4096, 56, 4, 2]⟩
abbrev S4096x56x4x1 : Shape := ⟨4, ![4096, 56, 4, 1]⟩
abbrev S36x56x4x1x32 : Shape := ⟨5, ![36, 56, 4, 1, 32]⟩
abbrev S36x56x4x32 : Shape := ⟨4, ![36, 56, 4, 32]⟩
abbrev S36x4096 : Shape := ⟨2, ![36, 4096]⟩

abbrev nBuf : Space → Nat
  | .hbm => 17
  | .vmem => 6
  | .smem => 0
  | _ => 0

abbrev bufTy : (tb : Table) → Fin (tcTables nBuf tb) → BufTy
  | .hbm, ⟨0, _⟩ => ⟨S36x14336, .bf16⟩
  | .hbm, ⟨1, _⟩ => ⟨S4096x56x128, .i8⟩
  | .hbm, ⟨2, _⟩ => ⟨S4096x56x12, .i8⟩
  | .hbm, ⟨3, _⟩ => ⟨S4096x56, .bf16⟩
  | .hbm, ⟨4, _⟩ => ⟨S4096x56, .bf16⟩
  | .hbm, ⟨5, _⟩ => ⟨S36x14x4x32x4x2, .bf16⟩
  | .hbm, ⟨6, _⟩ => ⟨S36x14x4x4x2x32, .bf16⟩
  | .hbm, ⟨7, _⟩ => ⟨S36x56x4x2x32, .bf16⟩
  | .hbm, ⟨8, _⟩ => ⟨S4096x56x4x32, .bf16⟩
  | .hbm, ⟨9, _⟩ => ⟨S4096x56x4x32, .bf16⟩
  | .hbm, ⟨10, _⟩ => ⟨S36x56x4x1x32, .bf16⟩
  | .hbm, ⟨11, _⟩ => ⟨S36x56x4x32, .bf16⟩
  | .hbm, ⟨12, _⟩ => ⟨S36x4096, .f32⟩
  | .hbm, ⟨13, _⟩ => ⟨S36x56x4x1x32, .bf16⟩
  | .hbm, ⟨14, _⟩ => ⟨S36x56x4x32, .bf16⟩
  | .hbm, ⟨15, _⟩ => ⟨S36x4096, .f32⟩
  | .hbm, ⟨16, _⟩ => ⟨S36x4096, .f32⟩
  | .local _ .vmem, ⟨0, _⟩ => ⟨S4096x56x128, .i8⟩
  | .local _ .vmem, ⟨1, _⟩ => ⟨S4096x56x12, .i8⟩
  | .local _ .vmem, ⟨2, _⟩ => ⟨S4096x56, .bf16⟩
  | .local _ .vmem, ⟨3, _⟩ => ⟨S4096x56, .bf16⟩
  | .local _ .vmem, ⟨4, _⟩ => ⟨S4096x56x4x32, .bf16⟩
  | .local _ .vmem, ⟨5, _⟩ => ⟨S4096x56x4x32, .bf16⟩
  | _, _ => ⟨S36x14336, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := .none

abbrev stage0_0 : Fin 1 → Memref sig .tc .vmem S4096x56x128 .i8 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4096x56x12 .i8 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4096x56 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S4096x56 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S4096x56x4x32 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S4096x56x4x32 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== Rope.lean ====
abbrev S36x4096 : Shape := ⟨2, ![36, 4096]⟩
abbrev S36x1024 : Shape := ⟨2, ![36, 1024]⟩
abbrev S36x64 : Shape := ⟨2, ![36, 64]⟩
abbrev S128x512 : Shape := ⟨2, ![128, 512]⟩
abbrev S36x64x2 : Shape := ⟨3, ![36, 64, 2]⟩
abbrev S36x128 : Shape := ⟨2, ![36, 128]⟩
abbrev S1152x512 : Shape := ⟨2, ![1152, 512]⟩
abbrev S288x128 : Shape := ⟨2, ![288, 128]⟩
abbrev S1152x128 : Shape := ⟨2, ![1152, 128]⟩
abbrev S1152 : Shape := ⟨1, ![1152]⟩
abbrev S1152x1 : Shape := ⟨2, ![1152, 1]⟩

abbrev nBuf : Space → Nat
  | .hbm => 15
  | .vmem => 15
  | .smem => 0
  | _ => 0

abbrev bufTy : (tb : Table) → Fin (tcTables nBuf tb) → BufTy
  | .hbm, ⟨0, _⟩ => ⟨S36x4096, .f32⟩
  | .hbm, ⟨1, _⟩ => ⟨S36x1024, .f32⟩
  | .hbm, ⟨2, _⟩ => ⟨S36x1024, .f32⟩
  | .hbm, ⟨3, _⟩ => ⟨S36x64, .f32⟩
  | .hbm, ⟨4, _⟩ => ⟨S36x64, .f32⟩
  | .hbm, ⟨5, _⟩ => ⟨S128x512, .bf16⟩
  | .hbm, ⟨6, _⟩ => ⟨S36x64x2, .f32⟩
  | .hbm, ⟨7, _⟩ => ⟨S36x128, .f32⟩
  | .hbm, ⟨8, _⟩ => ⟨S36x64x2, .f32⟩
  | .hbm, ⟨9, _⟩ => ⟨S36x128, .f32⟩
  | .hbm, ⟨10, _⟩ => ⟨S1152x512, .bf16⟩
  | .hbm, ⟨11, _⟩ => ⟨S288x128, .bf16⟩
  | .hbm, ⟨12, _⟩ => ⟨S288x128, .bf16⟩
  | .hbm, ⟨13, _⟩ => ⟨S1152x128, .f32⟩
  | .hbm, ⟨14, _⟩ => ⟨S1152x128, .f32⟩
  | .local _ .vmem, ⟨0, _⟩ => ⟨S36x4096, .f32⟩
  | .local _ .vmem, ⟨1, _⟩ => ⟨S36x1024, .f32⟩
  | .local _ .vmem, ⟨2, _⟩ => ⟨S36x1024, .f32⟩
  | .local _ .vmem, ⟨3, _⟩ => ⟨S36x128, .f32⟩
  | .local _ .vmem, ⟨4, _⟩ => ⟨S36x128, .f32⟩
  | .local _ .vmem, ⟨5, _⟩ => ⟨S128x512, .bf16⟩
  | .local _ .vmem, ⟨6, _⟩ => ⟨S1152x512, .bf16⟩
  | .local _ .vmem, ⟨7, _⟩ => ⟨S288x128, .bf16⟩
  | .local _ .vmem, ⟨8, _⟩ => ⟨S288x128, .bf16⟩
  | .local _ .vmem, ⟨9, _⟩ => ⟨S1152x128, .f32⟩
  | .local _ .vmem, ⟨10, _⟩ => ⟨S1152x128, .f32⟩
  | .local _ .vmem, ⟨11, _⟩ => ⟨S1152x128, .f32⟩
  | .local _ .vmem, ⟨12, _⟩ => ⟨S288x128, .f32⟩
  | .local _ .vmem, ⟨13, _⟩ => ⟨S288x128, .f32⟩
  | .local _ .vmem, ⟨14, _⟩ => ⟨S1152x128, .f32⟩
  | _, _ => ⟨S36x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4_0 : Ref sig .tc := ⟨.hbm, 10, rfl⟩
abbrev main_v4_1 : Ref sig .tc := ⟨.hbm, 11, rfl⟩
abbrev main_v4_2 : Ref sig .tc := ⟨.hbm, 12, rfl⟩
abbrev main_v4_3 : Ref sig .tc := ⟨.hbm, 13, rfl⟩
abbrev main_v4_4 : Ref sig .tc := ⟨.hbm, 14, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_scratch0 : Ref sig .tc := ⟨.vmem, 11, rfl⟩
abbrev cc0_scratch1 : Ref sig .tc := ⟨.vmem, 12, rfl⟩
abbrev cc0_scratch2 : Ref sig .tc := ⟨.vmem, 13, rfl⟩
abbrev cc0_scratch3 : Ref sig .tc := ⟨.vmem, 14, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10

abbrev nD : Nat := 1
abbrev τ : Topo := Topo.v7x

variable {F : FTy → Type} [FloatOps F]

abbrev grid0 : Pipeline.Grid := .none

abbrev stage0_0 : Fin 1 → Memref sig .tc .vmem S36x4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S36x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S36x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S36x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S36x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S128x512 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1152x512 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S288x128 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S288x128 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S1152x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S1152x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
-- ==== RopeReferenceIdeal.lean ====
abbrev S36x4096 : Shape := ⟨2, ![36, 4096]⟩
abbrev S36x1024 : Shape := ⟨2, ![36, 1024]⟩
abbrev S36x64 : Shape := ⟨2, ![36, 64]⟩
abbrev S128x512 : Shape := ⟨2, ![128, 512]⟩
abbrev S36x8x64x2 : Shape := ⟨4, ![36, 8, 64, 2]⟩
abbrev S36x8x64x1 : Shape := ⟨4, ![36, 8, 64, 1]⟩
abbrev S36x8x64 : Shape := ⟨3, ![36, 8, 64]⟩
abbrev S36x1x64 : Shape := ⟨3, ![36, 1, 64]⟩
abbrev S288x128 : Shape := ⟨2, ![288, 128]⟩

abbrev nBuf : Space → Nat
  | .hbm => 30
  | .vmem => 0
  | .smem => 0
  | _ => 0

abbrev bufTy : (tb : Table) → Fin (tcTables nBuf tb) → BufTy
  | .hbm, ⟨0, _⟩ => ⟨S36x4096, .f32⟩
  | .hbm, ⟨1, _⟩ => ⟨S36x1024, .f32⟩
  | .hbm, ⟨2, _⟩ => ⟨S36x1024, .f32⟩
  | .hbm, ⟨3, _⟩ => ⟨S36x64, .f32⟩
  | .hbm, ⟨4, _⟩ => ⟨S36x64, .f32⟩
  | .hbm, ⟨5, _⟩ => ⟨S128x512, .bf16⟩
  | .hbm, ⟨6, _⟩ => ⟨S36x8x64x2, .f32⟩
  | .hbm, ⟨7, _⟩ => ⟨S36x8x64x1, .f32⟩
  | .hbm, ⟨8, _⟩ => ⟨S36x8x64, .f32⟩
  | .hbm, ⟨9, _⟩ => ⟨S36x8x64x1, .f32⟩
  | .hbm, ⟨10, _⟩ => ⟨S36x8x64, .f32⟩
  | .hbm, ⟨11, _⟩ => ⟨S36x1x64, .f32⟩
  | .hbm, ⟨12, _⟩ => ⟨S36x1x64, .f32⟩
  | .hbm, ⟨13, _⟩ => ⟨S36x8x64, .f32⟩
  | .hbm, ⟨14, _⟩ => ⟨S36x8x64, .f32⟩
  | .hbm, ⟨15, _⟩ => ⟨S36x8x64, .f32⟩
  | .hbm, ⟨16, _⟩ => ⟨S36x8x64, .f32⟩
  | .hbm, ⟨17, _⟩ => ⟨S36x8x64, .f32⟩
  | .hbm, ⟨18, _⟩ => ⟨S36x8x64, .f32⟩
  | .hbm, ⟨19, _⟩ => ⟨S36x8x64, .f32⟩
  | .hbm, ⟨20, _⟩ => ⟨S36x8x64, .f32⟩
  | .hbm, ⟨21, _⟩ => ⟨S36x8x64, .f32⟩
  | .hbm, ⟨22, _⟩ => ⟨S36x8x64, .f32⟩
  | .hbm, ⟨23, _⟩ => ⟨S36x8x64x1, .f32⟩
  | .hbm, ⟨24, _⟩ => ⟨S36x8x64x1, .f32⟩
  | .hbm, ⟨25, _⟩ => ⟨S36x8x64x2, .f32⟩
  | .hbm, ⟨26, _⟩ => ⟨S288x128, .f32⟩
  | .hbm, ⟨27, _⟩ => ⟨S288x128, .bf16⟩
  | .hbm, ⟨28, _⟩ => ⟨S288x128, .f32⟩
  | .hbm, ⟨29, _⟩ => ⟨S288x128, .bf16⟩
  | _, _ => ⟨S36x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩

abbrev nD : Nat := 1
abbrev τ : Topo := Topo.v7x

variable {F : FTy → Type} [FloatOps F]
-- ==== Final.lean ====
abbrev S36x4096 : Shape := ⟨2, ![36, 4096]⟩

abbrev nBuf : Space → Nat
  | .hbm => 3
  | .vmem => 3
  | .smem => 0
  | _ => 0

abbrev bufTy : (tb : Table) → Fin (tcTables nBuf tb) → BufTy
  | .hbm, ⟨0, _⟩ => ⟨S36x4096, .f32⟩
  | .hbm, ⟨1, _⟩ => ⟨S36x4096, .f32⟩
  | .hbm, ⟨2, _⟩ => ⟨S36x4096, .bf16⟩
  | .local _ .vmem, ⟨0, _⟩ => ⟨S36x4096, .f32⟩
  | .local _ .vmem, ⟨1, _⟩ => ⟨S36x4096, .f32⟩
  | .local _ .vmem, ⟨2, _⟩ => ⟨S36x4096, .bf16⟩
  | _, _ => ⟨S36x4096, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := .none

abbrev stage0_0 : Fin 1 → Memref sig .tc .vmem S36x4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S36x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S36x4096 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== FinalReferenceIdeal.lean ====
abbrev S36x4096 : Shape := ⟨2, ![36, 4096]⟩

abbrev nBuf : Space → Nat
  | .hbm => 4
  | .vmem => 0
  | .smem => 0
  | _ => 0

abbrev bufTy : (tb : Table) → Fin (tcTables nBuf tb) → BufTy
  | .hbm, ⟨0, _⟩ => ⟨S36x4096, .f32⟩
  | .hbm, ⟨1, _⟩ => ⟨S36x4096, .f32⟩
  | .hbm, ⟨2, _⟩ => ⟨S36x4096, .f32⟩
  | .hbm, ⟨3, _⟩ => ⟨S36x4096, .bf16⟩
  | _, _ => ⟨S36x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Proof.Bits.Ring.lean ====
module

public import proofs.«01_k».proof.Proof.Gen.Kernel.Launch
public import proofs.«01_k».proof.Proof.Gen.Kernel.Skeleton
public import proofs.«01_k».proof.Proof.Gen.Kernel.Points
public import Idealize.ShloMosaic.Lib.Pipeline.FrameBody
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.Kernel.Rg

open Cert.Kernel Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (Pipeline.UD sig nD τ) ℕ

variable (m : (ℓ : Loc nD τ sig) → Buf (Elt F) ℓ) (ρ : Dev nD → PrngReg)
/-! ## @main up to the region -/

/-- Core `c`'s TensorCore buffers when the region is entered: after the host operations `hostOps0`. -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

set_option maxHeartbeats 800000 in
/-- @main up to the region, at the certificate's variants `𝒱₀`: the host operations then the region
    (`Pipeline.hmain_prefix`: `StableHlo.wp_seq` over the unscoped buffers, off `main_chain`). -/
theorem hmain (𝒱₀ : Variants) : Pipeline.HMain (Ix := Unit) (Name := ℕ) (U := Pipeline.UD sig nD τ) (Lvl := ℕ) cfgs 0 defs₀ 𝒱₀ m (main (F := F)) (V m) :=
  Pipeline.hmain_prefix cfgs 0 defs₀ 𝒱₀ m main hostOps0 hostOps0_sub hostOps0_fresh main_chain

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg4`: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not, for ANY proof
    data whose array is `V`'s (`hA`) and whose body leaves the block in place (`hafter`): the library's
    `Dat.before_in_eq_fetched` (unfetched, the index has not moved), the window uncut and never idle. -/
theorem before0_0_of {c : Dev nD} (dat : Dat τ (Elt F) Unit ℕ (Pipeline.UD sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): the library's
    `Dat.before_in_eq_fetched` (unfetched, the index has not moved), the window uncut and never idle. -/
theorem before0_1_of {c : Dev nD} (dat : Dat τ (Elt F) Unit ℕ (Pipeline.UD sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): the library's
    `Dat.before_in_eq_fetched` (unfetched, the index has not moved), the window uncut and never idle. -/
theorem before0_2_of {c : Dev nD} (dat : Dat τ (Elt F) Unit ℕ (Pipeline.UD sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for ANY proof
    data whose array is `V`'s (`hA`) and whose body leaves the block in place (`hafter`): the library's
    `Dat.before_in_eq_fetched` (unfetched, the index has not moved), the window uncut and never idle. -/
theorem before0_3_of {c : Dev nD} (dat : Dat τ (Elt F) Unit ℕ (Pipeline.UD sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- The frame from a frame run: for any proof data whose arrays are the region-entry contents (`hA`), a run to
    the library's `FramePost` read at the argument arrays — a staged input by the library's
    `Dat.arrAt_in`, an array no window stages by the post's second clause, each then by `V_…` — is the frame
    claim's post, at any `F`. -/
theorem frame_of (dats : (p : Fin 1) → (c : Dev nD) → Dat τ (Elt F) Unit ℕ (Pipeline.UD sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨((h c).1 0).trans (((dats 0 c).arrAt_in 0 rfl _).trans ((hA c 0).trans (V_main_arg0 m c))),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c)⟩) h

/-! ## The body's branch conditions -/

/-- The condition of the body's `scf.if` 0 (`k0_h1`), from the grid coordinates (the skeleton's scalar
    chain substituted). -/
abbrev cond0_0 (i : grid0.Coords) : Prop := (Scalar.cmpi .ne (Scalar.extui (Scalar.cmpi .eq (BitVec.ofNat 32 (i 0).val) 0#32)) 0#32) = 1#1
/-- It holds at the first point only — by arithmetic of the point. -/
theorem hcond0_0 : ∀ t : Fin cfg0.N, cond0_0 (grid0.coords t) ↔ t.val % 28 = 0 :=
  (fun t => by
    have ht : t.val < 28 := Nat.lt_of_lt_of_eq t.isLt N_0
    have e0 : (grid0.coords t 0).val = t.val / 1 % 28 := Pipeline.Grid.coords_val t 0 (by decide) rfl
    simp only [cond0_0, e0]
    word_cmp
   : ∀ t : Fin grid0.N, cond0_0 (grid0.coords t) ↔ t.val % 28 = 0)

/-- The condition of the body's `scf.if` 1 (`k0_h2`), from the grid coordinates (the skeleton's scalar
    chain substituted). -/
abbrev cond0_1 (i : grid0.Coords) : Prop := k0_cond2 i = 1#1
/-- It holds at the points before point 27 — decided over the grid. -/
theorem hcond0_1 : ∀ t : Fin cfg0.N, cond0_1 (grid0.coords t) ↔ t.val < 27 :=
  (by decide +kernel : ∀ t : Fin grid0.N, cond0_1 (grid0.coords t) ↔ t.val < 27)

/-! ## The kernel body on any staging memrefs: a subtype the run finds -/

/-- One staging buffer of output window 4, through which its contents are stated (`View.read_writes_of_cover`: the
    choice does not matter). -/
abbrev VO0_4 : View sig .tc .vmem S36x512 .f32 := (Memref.whole cc0_stg4_0 : Memref sig .tc .vmem S36x512 .f32).view
/-- Each window's current staging memref at point `t`, spelled as the pipeline passes it (`bodyAt0`), and its wholeness. -/
abbrev ms0_0 (t : Fin cfg0.N) : Memref sig .tc .vmem S36x4096 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S12x16x512 .i8 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S16x512 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S16x512 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S36x512 .f32 := win0_4.stage (cfg0.slots t 4)
abbrev hs0_4 (t : Fin cfg0.N) : (ms0_4 t).IsWhole := hstage0_4 ((cfg0.slots t 4).cast nbuf0_4)
/-- The scratch operands: whole scoped buffers of the kernel's own, passed beside the windows. -/
abbrev scM0_0 : Memref sig .tc .vmem S2x4x16x128 .i32 := Memref.whole cc0_scratch0
abbrev scM0_1 : Memref sig .tc .vmem S2x4x16x128 .i32 := Memref.whole cc0_scratch1
abbrev scM0_2 : Memref sig .tc .vmem S2x8192x128 .i8 := Memref.whole cc0_scratch2
/-- The operands left in HBM that the body copies into scratch itself, whole. -/
abbrev hbM0_0 : Memref sig .tc .hbm S229376x128 .i8 := Memref.whole main_v0
/-- Memref `M`'s buffer on core `c`: its contents type, and it held whole at `f` — behind this abbreviation, so that the
    run's rewriting of the goal leaves `Memref.view` intact (the form the executor reads a held buffer in). -/
abbrev HbBuf0 (c : Dev nD) {sp : Space} {S : Shape} {e : EltTy} (M : Memref sig .tc sp S e) : Type := Buf (Elt F) (M.view.loc (c : Thread nD τ))
abbrev hbPt0 (c : Dev nD) {sp : Space} {S : Shape} {e : EltTy} (M : Memref sig .tc sp S e) (f : HbBuf0 (F := F) c M) : sProp 𝕄 :=
  M.view.loc (c : Thread nD τ) ↦{fullShare} f

/-- The body's own DMA semaphores, cell by cell (their numbers in the pool): the kernel's own semaphores for the launch
    (`Pipeline.OwnSemFacts`: none is a window's). -/
abbrev osem0 : Fin 2 → SemLoc sig := fun j => (![SemLoc.dma 9, SemLoc.dma 10] : Fin 2 → SemLoc sig) j
theorem ownSemFacts0 : Pipeline.OwnSemFacts spec0 osem0 := by decide
/-- The cells at zero, listed. -/
theorem ownSems00_eq (c : Dev nD) :
    (Pipeline.ownSems0 (Ix := Unit) (Name := ℕ) (U := Pipeline.UD sig nD τ) (Lvl := ℕ) (Val := Elt F) (τ := τ) osem0 c : sProp 𝕄)
      = iprop(semVal ((c : Thread nD τ), SemLoc.dma 9) 0 ∗ semVal ((c : Thread nD τ), SemLoc.dma 10) 0) := by
  rw [Pipeline.ownSems0_eq_of_list c osem0 [0, 1] (by decide) (by decide)]; rfl
/-- The HBM operands the body moves, as references: unscoped, no window's array (`Pipeline.restRefs`). -/
def H0 : Finset (Ref sig .tc) := {main_v0}
theorem H0_sub : H0 ⊆ Pipeline.restRefs sig spec0 := by decide
/-- Their points-tos at the launch contents, listed. -/
theorem hbmPts0_eq (c : Dev nD) :
    (bigSep H0 (fun b => ((c : Thread nD τ).loc b) ↦{fullShare} V m c b) : sProp 𝕄) = iprop(hbPt0 c hbM0_0 (V m c main_v0)) := by
  rw [BI.bigSep_eq_bigSepL_of_eq [main_v0] (by decide) (by decide)]; rfl

/-- The invariant of a body with transfers of its own, `Pipeline.ΦD`, conjunct by conjunct: the scratch operands owned at
    some contents, the generator register at some state, the own cells at zero, the HBM operands at their launch
    contents — what the body obligation hands the run and takes back. -/
theorem PhiD0_eq (c : Dev nD) :
    (Pipeline.ΦD osem0 spec0 H0 (V m) c : sProp 𝕄)
      = iprop(iprop((∃ d, owns (c : Thread nD τ) scM0_0 fullShare d) ∗ (∃ d, owns (c : Thread nD τ) scM0_1 fullShare d) ∗ (∃ d, owns (c : Thread nD τ) scM0_2 fullShare d)) ∗ (∃ r, prngReg c r) ∗ iprop(semVal ((c : Thread nD τ), SemLoc.dma 9) 0 ∗ semVal ((c : Thread nD τ), SemLoc.dma 10) 0) ∗ iprop(hbPt0 c hbM0_0 (V m c main_v0))) := by
  rw [Pipeline.ΦD_eq, scopedRest0_eq, ownSems00_eq, hbmPts0_eq]; simp only [scM0_0, scM0_1, scM0_2, owns_whole]; try rfl

/-! ## Ring 0 of kernel 0: `main_v0` streamed through the 2 slots of `cc0_scratch2` on the cells of `cc0_scratch3`, 1 block ahead, in 28 steps -/

instance : NeZero grid0.N := ⟨by rw [N_0]; decide⟩
theorem inb_slot0_0 (s : Fin 2) : ∀ a, (![s.val, 0, 0] : Fin 3 → Nat) a + S1x8192x128.size a ≤ S2x8192x128.size a := by
  have := s.isLt; intro a; fin_cases a <;> simp <;> omega
theorem inb_src0_0 (b : Fin 28) : ∀ a, (![8192 * b.val, 0] : Fin 2 → Nat) a + S8192x128.size a ≤ S229376x128.size a := by
  have := b.isLt; intro a; fin_cases a <;> simp <;> omega
theorem inb_cell0_0 (s : Fin 2) : ∀ a, (![s.val] : Fin 1 → Nat) a + S1.size a ≤ S2.size a := by
  have := s.isLt; intro a; fin_cases a <;> simp <;> omega
/-- Slot `s` of the ring, spelt as the body's transfers spell their destination, at offsets in `s`. -/
def rslot0_0 (s : Fin 2) : Memref sig .tc .vmem S8192x128 .i8 :=
  (scM0_2.slice (Rect.unit (s := S2x8192x128) ![s.val, 0, 0] S1x8192x128.size (inb_slot0_0 s)) (fun _ => rfl)).squeeze S8192x128 squeezes_S1x8192x128_S8192x128
/-- Block `b` of the operand (the block step `b` waits), spelt as the transfers spell their source, at offsets in `b`. -/
def srcB0_0 (b : Fin 28) : Memref sig .tc .hbm S8192x128 .i8 :=
  hbM0_0.slice (Rect.unit (s := S229376x128) ![8192 * b.val, 0] S8192x128.size (inb_src0_0 b)) (fun _ => rfl)
/-- Cell `s` of `cc0_scratch3`, spelt as the body spells a cell; its number in the pool. -/
def cellA0_0 (s : Fin 2) : DmaSems sig S_ := (cc0_scratch3.slice (Rect.unit (s := S2) ![s.val] S1.size (inb_cell0_0 s))).squeeze S_ squeezes_S1_S_
abbrev cellR0_0 (s : Fin 2) : SemLoc sig := SemLoc.dma (cellA0_0 s).sem
theorem cellR0_0_0 : cellR0_0 0 = SemLoc.dma 9 := by decide
theorem cellR0_0_1 : cellR0_0 1 = SemLoc.dma 10 := by decide

section Ring0_0
variable (c : Dev nD) (W : HbBuf0 (F := F) c hbM0_0)
/-- The operand is lent BY SHARE, one read-share copy of it per slot (the left and right halves of the full share): whatever
    blocks two transfers in flight stream — the same one twice, two that overlap —, each borrows from its own slot's copy. -/
abbrev qs0_0 (s : Fin 2) : PosShare TreeShare := if s.val = 0 then fullShare.left else fullShare.right
/-- The families the ring is stated over: slot `s` held at `f`; cell `s` at zero; block `b`'s elements of slot `s`'s copy of the
    operand (what a transfer into slot `s` lends), the REST of that copy, and the copy whole; slot `s`'s contents once block `b`
    landed in it whole over `f` (the executor's listed write); the FLIGHT of block `b` into slot `s`, delivering the slot landed
    and the lent elements back. -/
abbrev slotP0_0 (s : Fin 2) (f : HbBuf0 (F := F) c (rslot0_0 s)) : sProp 𝕄 := (rslot0_0 s).view.loc (c : Thread nD τ) ↦[(rslot0_0 s).view.set]{fullShare} f
abbrev cellP0_0 (s : Fin 2) : sProp 𝕄 := semVal ((c : Thread nD τ), cellR0_0 s) 0
abbrev srcP0_0 (s : Fin 2) (b : Fin 28) : sProp 𝕄 := (srcB0_0 b).view.loc (c : Thread nD τ) ↦[(srcB0_0 b).view.set]{qs0_0 s} W
/-- (a `def`: no run reads this rest, and folded it stays out of the executor's table of held buffers) -/
def restP0_0 (s : Fin 2) (b : Fin 28) : sProp 𝕄 := ((c : Thread nD τ).loc main_v0) ↦[Finset.univ \ (srcB0_0 b).view.set]{qs0_0 s} W
abbrev wholeP0_0 (s : Fin 2) : sProp 𝕄 := ((c : Thread nD τ).loc main_v0) ↦[Finset.univ]{qs0_0 s} W
abbrev landed0_0 (s : Fin 2) (b : Fin 28) (f : HbBuf0 (F := F) c (rslot0_0 s)) : HbBuf0 (F := F) c (rslot0_0 s) :=
  (rslot0_0 s).view.writes (Elt F) f [⟨Rect.whole S8192x128, ReadAs.same.apply ((srcB0_0 b).view.read (Elt F) W)⟩]
abbrev flightP0_0 (s : Fin 2) (b : Fin 28) (f : HbBuf0 (F := F) c (rslot0_0 s)) : sProp 𝕄 :=
  Transfers.Flight countersEmb (c : Thread nD τ) (cellR0_0 s) default ((rslot0_0 s).view.amount (cellR0_0 s))
    iprop(slotP0_0 c s (landed0_0 c W s b f) ∗ srcP0_0 c W s b)
/-- The library's `slot` and `flight` families: a slot not in flight carries its copy of the operand whole; a flight, the
    rest of the copy it borrowed from. No block is held apart: the `home` family is `emp`. -/
abbrev slotW0_0 (s : Fin 2) (f : HbBuf0 (F := F) c (rslot0_0 s)) : sProp 𝕄 := iprop(slotP0_0 c s f ∗ wholeP0_0 c W s)
abbrev flightW0_0 (s : Fin 2) (b : Fin 28) (f : HbBuf0 (F := F) c (rslot0_0 s)) : sProp 𝕄 := iprop(flightP0_0 c W s b f ∗ restP0_0 c W s b)
abbrev noHome0_0 (b : Fin 28) : sProp 𝕄 := iprop(emp)
/-- The ring before its step `k` (the library's `AtK`): every slot free before the first; from then on block `k` in flight
    into slot `k`, slot `k + 1` KEEPING block `k - 1` (landed, readable) until the step starts block `k + 1` over it. -/
def ringAt0_0 (k : ℕ) : sProp 𝕄 :=
  if k = 0 then Ring.At₀ (cellP0_0 c) (slotW0_0 c W) noHome0_0
  else Ring.AtK 1 (cellP0_0 c) (slotW0_0 c W) noHome0_0 (flightW0_0 c W) (landed0_0 c W) k
omit [BitOps F] in
theorem cellP0_0_0 : cellP0_0 (F := F) c 0 = semVal ((c : Thread nD τ), SemLoc.dma 9) 0 := congrArg (fun x => (semVal ((c : Thread nD τ), x) 0 : sProp 𝕄)) cellR0_0_0
omit [BitOps F] in
theorem cellP0_0_1 : cellP0_0 (F := F) c 1 = semVal ((c : Thread nD τ), SemLoc.dma 10) 0 := congrArg (fun x => (semVal ((c : Thread nD τ), x) 0 : sProp 𝕄)) cellR0_0_1
end Ring0_0

/-! ### The slots, disjoint and covering the scratch (the library's `lead_disjoint` / `lead_cover`) -/

abbrev slotSet0_0 (s : Fin 2) : Finset S2x8192x128.Idx := (Rect.unit (s := S2x8192x128) ![s.val, 0, 0] S1x8192x128.size (inb_slot0_0 s)).set
theorem slotSet0_0_eq (s : Fin 2) : (rslot0_0 s).view.set = slotSet0_0 s := by
  simp only [rslot0_0, Memref.view_squeeze, View.set_reshape]; exact View.set_slice_whole _ _
theorem slots0_0_disjoint (s s' : Fin 2) (h : s ≠ s') : Disjoint (slotSet0_0 s) (slotSet0_0 s') :=
  Ring.lead_disjoint (s := S2x8192x128) (0 : Fin 3) 1 (fun s : Fin 2 => (![s.val, 0, 0] : Fin 3 → Nat)) S1x8192x128.size inb_slot0_0 (fun s => by simp) rfl s s' h
theorem slots0_0_cover : Finset.univ.biUnion slotSet0_0 = Finset.univ :=
  Ring.lead_cover (s := S2x8192x128) (0 : Fin 3) 1 (fun s : Fin 2 => (![s.val, 0, 0] : Fin 3 → Nat)) S1x8192x128.size inb_slot0_0 (fun s => by simp)
    (fun s a ha => by fin_cases a <;> first | exact absurd rfl ha | rfl) rfl (fun a ha => by fin_cases a <;> first | exact absurd rfl ha | rfl) rfl

/-! ### What the launch hands the ring, and takes back -/

section InOut0_0
variable (c : Dev nD) (W : HbBuf0 (F := F) c hbM0_0)
theorem slotP0_0_eq (s : Fin 2) (f) : slotP0_0 (F := F) c s f = (((c : Thread nD τ).loc cc0_scratch2) ↦[slotSet0_0 s]{fullShare} f : sProp 𝕄) := by
  unfold slotP0_0; rw [slotSet0_0_eq]; rfl
/-- A slot's copy of the operand, whole, is block `b`'s elements and the rest (any `b`: what a run splits off before its step
    starts block `b`, and joins back once the wait returned it); -/
theorem src0_0_split (s : Fin 2) (b : Fin 28) : wholeP0_0 (F := F) c W s ⊣⊢ iprop(srcP0_0 c W s b ∗ restP0_0 c W s b) := by
  unfold restP0_0; exact pointsTo_split_subset (Finset.subset_univ _)
/-- the operand whole at the full share is the two copies. -/
theorem whole0_0_split : (hbPt0 c hbM0_0 W : sProp 𝕄) ⊣⊢ iprop(wholeP0_0 c W 0 ∗ wholeP0_0 c W 1) :=
  pointsTo_share (PosShare.mem_left_op_right fullShare)
set_option maxHeartbeats 1000000 in
/-- the scratch whole at anything is its slots at something each, and back. -/
theorem slots0_0_in : iprop(∃ d, owns (c : Thread nD τ) scM0_2 fullShare d) ⊢ (iprop((∃ f, slotP0_0 (F := F) c 0 f) ∗ ∃ f, slotP0_0 (F := F) c 1 f) : sProp 𝕄) := by
  simp only [scM0_2, owns_whole]
  exact Ring.slots2_split (U := Pipeline.UD sig nD τ) (ℓ := (c : Thread nD τ).loc cc0_scratch2) (q := fullShare) slotSet0_0 slots0_0_disjoint slots0_0_cover
    (slotP0_0 c 0) (slotP0_0 c 1) (slotP0_0_eq c 0) (slotP0_0_eq c 1)
set_option maxHeartbeats 1000000 in
theorem slots0_0_out : (iprop((∃ f, slotP0_0 (F := F) c 0 f) ∗ ∃ f, slotP0_0 (F := F) c 1 f) : sProp 𝕄) ⊢ iprop(∃ d, owns (c : Thread nD τ) scM0_2 fullShare d) := by
  simp only [scM0_2, owns_whole]
  exact Ring.slots2_join (U := Pipeline.UD sig nD τ) (ℓ := (c : Thread nD τ).loc cc0_scratch2) (q := fullShare) slotSet0_0 slots0_0_disjoint slots0_0_cover
    (slotP0_0 c 0) (slotP0_0 c 1) (slotP0_0_eq c 0) (slotP0_0_eq c 1)
end InOut0_0

/-- INTO THE RING: the launch's pieces — the scratch whole, the cells at zero, the operand whole — are the ring before its first step; -/
theorem ring0_0_in (c : Dev nD) :
    iprop((∃ d, owns (c : Thread nD τ) scM0_2 fullShare d) ∗ (semVal ((c : Thread nD τ), SemLoc.dma 9) 0 ∗ semVal ((c : Thread nD τ), SemLoc.dma 10) 0) ∗ hbPt0 c hbM0_0 (V m c main_v0))
      ⊢ ringAt0_0 c (V m c main_v0) 0 := by
  unfold ringAt0_0; rw [if_pos rfl]; unfold Ring.At₀
  rw [Ring.bigSep_fin2]
  simp only [Ring.free, cellP0_0_0, cellP0_0_1]
  iintro ⟨HS, Hc, HW⟩
  iapply Ring.with_homes₀
  icases Hc with ⟨H0, H1⟩
  ihave HS' := (slots0_0_in (F := F) c) $$ HS
  icases HS' with ⟨⟨%d0, HS0⟩, ⟨%d1, HS1⟩⟩
  ihave HW' := (whole0_0_split (F := F) c (V m c main_v0)).1 $$ HW
  icases HW' with ⟨HW0, HW1⟩
  isplitl [H0 HS0 HW0]
  · isplitl [H0]; · iexact H0
    iexists d0; isplitl [HS0]; · iexact HS0
    iexact HW0
  · isplitl [H1]; · iexact H1
    iexists d1; isplitl [HS1]; · iexact HS1
    iexact HW1
/-- OUT OF THE RING: after the last step (every slot kept or free: the kept blocks forgotten) those pieces again. -/
theorem ring0_0_out (c : Dev nD) :
    ringAt0_0 c (V m c main_v0) 28
      ⊢ iprop((∃ d, owns (c : Thread nD τ) scM0_2 fullShare d) ∗ (semVal ((c : Thread nD τ), SemLoc.dma 9) 0 ∗ semVal ((c : Thread nD τ), SemLoc.dma 10) 0) ∗ hbPt0 c hbM0_0 (V m c main_v0)) := by
  unfold ringAt0_0; rw [if_neg (by decide)]
  iintro H
  ihave H' := (Ring.free2_of_AtK_last _ _ _ _ _) $$ H
  simp only [Ring.free, cellP0_0_0, cellP0_0_1]
  icases H' with ⟨-, ⟨H0, ⟨%f0, HS0, HW0⟩⟩, ⟨H1, ⟨%f1, HS1, HW1⟩⟩⟩
  isplitl [HS0 HS1]
  · iapply (slots0_0_out (F := F) c); isplitl [HS0]; · iexists f0; iexact HS0
    iexists f1; iexact HS1
  isplitl [H0 H1]
  · isplitl [H0]; · iexact H0
    iexact H1
  · iapply (whole0_0_split (F := F) c (V m c main_v0)).2; isplitl [HW0]; · iexact HW0
    iexact HW1

/-! ### Ring 0's steps at each case's points, and its canonical names: the body's operands at point `t` are the ring's slots, blocks and cells -/

section Canon0_0
omit [BitOps F]
/-- At the points of case A the ring takes its FIRST step. -/
theorem rstep0_0_A : ∀ t : Fin grid0.N, cond0_0 (grid0.coords t) → cond0_1 (grid0.coords t) → t.val = 0 ∧ (t.val + 1) = 1 := by decide +kernel
/-- At the points of case B the ring takes a step, a block still to start. -/
theorem rstep0_0_B : ∀ t : Fin grid0.N, ¬cond0_0 (grid0.coords t) → cond0_1 (grid0.coords t) → 1 ≤ t.val ∧ t.val + 1 < 28 ∧ (t.val + 1) = t.val + 1 := by decide +kernel
/-- At the points of case C the ring takes its LAST step. -/
theorem rstep0_0_C : ∀ t : Fin grid0.N, ¬cond0_0 (grid0.coords t) → ¬cond0_1 (grid0.coords t) → 1 ≤ t.val ∧ t.val + 1 = 28 ∧ (t.val + 1) = t.val + 1 := by decide +kernel
set_option synthInstance.maxSize 4096 in
theorem coff0_0_1 : ∀ t : Fin grid0.N, cond0_0 (grid0.coords t) → cond0_1 (grid0.coords t) → (![0, 0, 0] : Fin 3 → Nat) = ![(Ring.sl 2 t.val).val, 0, 0] := by decide +kernel
@[sl_canon] theorem canon0_0_1 (t : Fin grid0.N) (h0 : cond0_0 (grid0.coords t)) (h1 : cond0_1 (grid0.coords t)) :
    (scM0_2.slice (Rect.unit (s := S2x8192x128) ![0, 0, 0] S1x8192x128.size inb_S2x8192x128_S1x8192x128_0_0_0) (fun _ => rfl)).squeeze S8192x128 squeezes_S1x8192x128_S8192x128 = rslot0_0 (Ring.sl 2 t.val) :=
  congrArg (fun M : Memref sig .tc .vmem S1x8192x128 .i8 => M.squeeze S8192x128 squeezes_S1x8192x128_S8192x128) (Memref.slice_unit_congr _ (coff0_0_1 t h0 h1) _ _ (fun _ => rfl) (fun _ => rfl))
set_option synthInstance.maxSize 4096 in
theorem coff0_0_2 : ∀ t : Fin grid0.N, cond0_0 (grid0.coords t) → cond0_1 (grid0.coords t) → (![0] : Fin 1 → Nat) = ![(Ring.sl 2 t.val).val] := by decide +kernel
@[sl_canon] theorem canon0_0_2 (t : Fin grid0.N) (h0 : cond0_0 (grid0.coords t)) (h1 : cond0_1 (grid0.coords t)) :
    (cc0_scratch3.slice (Rect.unit (s := S2) ![0] S1.size inb_S2_S1_0)).squeeze S_ squeezes_S1_S_ = cellA0_0 (Ring.sl 2 t.val) :=
  congrArg (fun A : DmaSems sig S1 => A.squeeze S_ squeezes_S1_S_) (SemArray.slice_unit_congr _ (coff0_0_2 t h0 h1) _ _)
set_option synthInstance.maxSize 4096 in
theorem coff0_0_3 : ∀ t : Fin grid0.N, cond0_0 (grid0.coords t) → cond0_1 (grid0.coords t) → (![0, 0] : Fin 2 → Nat) = ![8192 * (Ring.bk 28 t.val).val, 0] := by decide +kernel
@[sl_canon] theorem canon0_0_3 (t : Fin grid0.N) (h0 : cond0_0 (grid0.coords t)) (h1 : cond0_1 (grid0.coords t)) :
    hbM0_0.slice (Rect.unit (s := S229376x128) ![0, 0] S8192x128.size inb_S229376x128_S8192x128_0_0) (fun _ => rfl) = srcB0_0 (Ring.bk 28 t.val) :=
  congrArg (fun M : Memref sig .tc .hbm S8192x128 .i8 => M) (Memref.slice_unit_congr _ (coff0_0_3 t h0 h1) _ _ (fun _ => rfl) (fun _ => rfl))
set_option synthInstance.maxSize 4096 in
theorem coff0_0_4 : ∀ t : Fin grid0.N, k0_off2 (grid0.coords t) = ![(Ring.sl 2 (t.val + 1)).val, 0, 0] := by decide +kernel
@[sl_canon] theorem canon0_0_4 (t : Fin grid0.N) (h1 : cond0_1 (grid0.coords t)) :
    (scM0_2.slice (Rect.unit (s := S2x8192x128) (k0_off2 (grid0.coords t)) S1x8192x128.size (k0_off2_inb (grid0.coords t) h1)) (fun _ => rfl)).squeeze S8192x128 squeezes_S1x8192x128_S8192x128 = rslot0_0 (Ring.sl 2 (t.val + 1)) :=
  congrArg (fun M : Memref sig .tc .vmem S1x8192x128 .i8 => M.squeeze S8192x128 squeezes_S1x8192x128_S8192x128) (Memref.slice_unit_congr _ (coff0_0_4 t ) _ _ (fun _ => rfl) (fun _ => rfl))
set_option synthInstance.maxSize 4096 in
theorem coff0_0_5 : ∀ t : Fin grid0.N, k0_off1 (grid0.coords t) = ![(Ring.sl 2 (t.val + 1)).val] := by decide +kernel
@[sl_canon] theorem canon0_0_5 (t : Fin grid0.N) (h1 : cond0_1 (grid0.coords t)) :
    (cc0_scratch3.slice (Rect.unit (s := S2) (k0_off1 (grid0.coords t)) S1.size (k0_off1_inb (grid0.coords t) h1))).squeeze S_ squeezes_S1_S_ = cellA0_0 (Ring.sl 2 (t.val + 1)) :=
  congrArg (fun A : DmaSems sig S1 => A.squeeze S_ squeezes_S1_S_) (SemArray.slice_unit_congr _ (coff0_0_5 t ) _ _)
set_option synthInstance.maxSize 4096 in
theorem coff0_0_6 : ∀ t : Fin grid0.N, cond0_0 (grid0.coords t) → cond0_1 (grid0.coords t) → k0_off3 (grid0.coords t) = ![8192 * (Ring.bk 28 (t.val + 1)).val, 0] := by decide +kernel
@[sl_canon] theorem canon0_0_6 (t : Fin grid0.N) (h0 : cond0_0 (grid0.coords t)) (h1 : cond0_1 (grid0.coords t)) :
    hbM0_0.slice (Rect.unit (s := S229376x128) (k0_off3 (grid0.coords t)) S8192x128.size (k0_off3_inb (grid0.coords t) h1)) (fun _ => rfl) = srcB0_0 (Ring.bk 28 (t.val + 1)) :=
  congrArg (fun M : Memref sig .tc .hbm S8192x128 .i8 => M) (Memref.slice_unit_congr _ (coff0_0_6 t h0 h1) _ _ (fun _ => rfl) (fun _ => rfl))
set_option synthInstance.maxSize 4096 in
theorem coff0_0_7 : ∀ t : Fin grid0.N, k0_off5 (grid0.coords t) = ![(Ring.sl 2 t.val).val, 0, 0] := by decide +kernel
@[sl_canon] theorem canon0_0_7 (t : Fin grid0.N) :
    (scM0_2.slice (Rect.unit (s := S2x8192x128) (k0_off5 (grid0.coords t)) S1x8192x128.size (k0_off5_inb (grid0.coords t))) (fun _ => rfl)).squeeze S8192x128 squeezes_S1x8192x128_S8192x128 = rslot0_0 (Ring.sl 2 t.val) :=
  congrArg (fun M : Memref sig .tc .vmem S1x8192x128 .i8 => M.squeeze S8192x128 squeezes_S1x8192x128_S8192x128) (Memref.slice_unit_congr _ (coff0_0_7 t ) _ _ (fun _ => rfl) (fun _ => rfl))
set_option synthInstance.maxSize 4096 in
theorem coff0_0_8 : ∀ t : Fin grid0.N, k0_off4 (grid0.coords t) = ![(Ring.sl 2 t.val).val] := by decide +kernel
@[sl_canon] theorem canon0_0_8 (t : Fin grid0.N) :
    (cc0_scratch3.slice (Rect.unit (s := S2) (k0_off4 (grid0.coords t)) S1.size (k0_off4_inb (grid0.coords t)))).squeeze S_ squeezes_S1_S_ = cellA0_0 (Ring.sl 2 t.val) :=
  congrArg (fun A : DmaSems sig S1 => A.squeeze S_ squeezes_S1_S_) (SemArray.slice_unit_congr _ (coff0_0_8 t ) _ _)
set_option synthInstance.maxSize 4096 in
theorem coff0_0_9 : ∀ t : Fin grid0.N, ¬cond0_0 (grid0.coords t) → cond0_1 (grid0.coords t) → k0_off3 (grid0.coords t) = ![8192 * (Ring.bk 28 (t.val + 1)).val, 0] := by decide +kernel
@[sl_canon] theorem canon0_0_9 (t : Fin grid0.N) (h0 : ¬cond0_0 (grid0.coords t)) (h1 : cond0_1 (grid0.coords t)) :
    hbM0_0.slice (Rect.unit (s := S229376x128) (k0_off3 (grid0.coords t)) S8192x128.size (k0_off3_inb (grid0.coords t) h1)) (fun _ => rfl) = srcB0_0 (Ring.bk 28 (t.val + 1)) :=
  congrArg (fun M : Memref sig .tc .hbm S8192x128 .i8 => M) (Memref.slice_unit_congr _ (coff0_0_9 t h0 h1) _ _ (fun _ => rfl) (fun _ => rfl))
set_option synthInstance.maxSize 4096 in
theorem coff0_0_10 : ∀ (t : Fin grid0.N) (k : Fin k0_t1_loop.trips) (r : Fin 2), k0_off20 (grid0.coords t) k (BitVec.ofNat 32 (128 * r.val)) = ![(Ring.sl 2 t.val).val, 4096 * k.val + 2048 * r.val, 0] := by decide +kernel
/-- A trip's first load from the ring, its box in the slot's spelling (the block this step waited). -/
instance (priority := high) closedOff0_0_10 (t : Fin grid0.N) (k : Fin k0_t1_loop.trips) : ClosedOff (k0_off20 (grid0.coords t) k (BitVec.ofNat 32 0)) := ⟨![(Ring.sl 2 t.val).val, 4096 * k.val + 2048 * 0, 0], coff0_0_10 t k ⟨0, by decide⟩⟩
/-- A trip's second load from the ring. -/
instance (priority := high) closedOff0_0_11 (t : Fin grid0.N) (k : Fin k0_t1_loop.trips) : ClosedOff (k0_off20 (grid0.coords t) k (BitVec.ofNat 32 128)) := ⟨![(Ring.sl 2 t.val).val, 4096 * k.val + 2048 * 1, 0], coff0_0_10 t k ⟨1, by decide⟩⟩
/-- A trip's load from the ring stays inside the slot this step waited. -/
theorem ringLoad_sub (t : Fin grid0.N) (k : Fin k0_t1_loop.trips) (r : Fin 2) :
    scM0_2.view.setOn (Rect.unit (s := S2x8192x128) (k0_off20 (grid0.coords t) k (BitVec.ofNat 32 (128 * r.val))) S1x2048x128.size (k0_off20_inb (grid0.coords t) k r)).set ⊆ (rslot0_0 (Ring.sl 2 t.val)).view.set := by
  rw [slotSet0_0_eq]
  have e := coff0_0_10 t k r
  have hk : k.val < 2 := k.isLt
  have hr : r.val < 2 := r.isLt
  intro y hy
  obtain ⟨y', hy', rfl⟩ := Finset.mem_map.mp hy
  show y' ∈ slotSet0_0 _
  rw [Rect.mem_set_unit] at hy' ⊢
  intro a
  have h := hy' a
  rw [e] at h
  fin_cases a <;> simp at h ⊢ <;> omega
end Canon0_0

end Cert.Kernel.Rg

end
-- ==== Proof.Bits.Trip.lean ====
module

public import proofs.«01_k».proof.Proof.Bits.Ring
public import proofs.«01_k».proof.Proof.Gen.Kernel.Loops

@[expose] public section

set_option maxRecDepth 16384

noncomputable section

namespace Cert.Kernel.Rg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [BitOps F]

local notation "𝕄" => MT nD τ sig Unit (Elt F) ℕ (Pipeline.UD sig nD τ) ℕ

/-- The box the trip writes for half `h`, group `g` and parity `p`: every other row, from row `p`. -/
def scrRect (h : Fin 2) (g : Fin 4) (p : Fin 2) : Rect S2x4x16x128 :=
  ⟨(⟨![h.val, g.val, p.val, 0], S1x1x8x128.size, ![1, 1, 2, 1], by
      intro a; right; fin_cases a <;> simp [S1x1x8x128, S2x4x16x128, Shape.size] <;> omega⟩ : LoadRect S2x4x16x128), spos_1_1_2_1⟩

/-- The sixteen boxes of a scale scratch buffer, the last written first. -/
def scrRects : List (Rect S2x4x16x128) :=
  [scrRect 1 3 1, scrRect 1 3 0, scrRect 1 2 1, scrRect 1 2 0, scrRect 1 1 1, scrRect 1 1 0, scrRect 1 0 1, scrRect 1 0 0,
   scrRect 0 3 1, scrRect 0 3 0, scrRect 0 2 1, scrRect 0 2 0, scrRect 0 1 1, scrRect 0 1 0, scrRect 0 0 1, scrRect 0 0 0]

/-- Each box is one of the sixteen. -/
theorem scrRect_mem (h : Fin 2) (g : Fin 4) (p : Fin 2) : scrRect h g p ∈ scrRects := by
  unfold scrRects
  fin_cases h <;> fin_cases g <;> fin_cases p <;> simp

/-- Each element of a scale buffer is in the box of its half, group and parity. -/
theorem mem_scrRect (y : S2x4x16x128.Idx) :
    y ∈ (scrRect ⟨(y 0).val, (y 0).isLt⟩ ⟨(y 1).val, (y 1).isLt⟩ ⟨(y 2).val % 2, Nat.mod_lt _ (by omega)⟩).set := by
  rw [LoadRect.mem_set]
  have h2 : (y 2).val < 16 := (y 2).isLt
  have h3 : (y 3).val < 128 := (y 3).isLt
  intro a
  fin_cases a
  · exact ⟨0, Nat.one_pos, by simp [scrRect]⟩
  · exact ⟨0, Nat.one_pos, by simp [scrRect]⟩
  · refine ⟨(y 2).val / 2, ?_, ?_⟩
    · show (y 2).val / 2 < 8
      omega
    · show (y 2).val = (y 2).val % 2 + 2 * ((y 2).val / 2)
      omega
  · refine ⟨(y 3).val, h3, ?_⟩
    show (y 3).val = 0 + 1 * (y 3).val
    omega

/-- Pieces at the sixteen boxes cover the scratch buffer. -/
theorem scr_cover {Val : EltTy → Type} {e : EltTy} (L : List (View.Piece Val S2x4x16x128 e)) (hL : L.map Sigma.fst = scrRects) (y : S2x4x16x128.Idx) :
    ∃ p ∈ L, y ∈ p.1.set := by
  have hm := scrRect_mem ⟨(y 0).val, (y 0).isLt⟩ ⟨(y 1).val, (y 1).isLt⟩ ⟨(y 2).val % 2, Nat.mod_lt _ (by omega)⟩
  rw [← hL, List.mem_map] at hm
  obtain ⟨p, hp, he⟩ := hm
  exact ⟨p, hp, by rw [he]; exact mem_scrRect y⟩

/-- So what they leave in it does not depend on what was there. -/
theorem scr_writes {e : EltTy} (m : Memref sig .tc .vmem S2x4x16x128 e) (hm : m.IsWhole) (f : m.view.ty.Contents (Elt F))
    (L : List (View.Piece (Elt F) S2x4x16x128 e)) (hL : L.map Sigma.fst = scrRects) :
    m.view.writes (Elt F) f L = hm.unread (View.canon L) :=
  hm.eq_unread (View.read_writes_eq_canon m.view f L (scr_cover L hL))

/-- What one trip of the column loop touches: the activations, the scale bytes and the two scale rows at their contents; the
    output block at `f6`, the two scale scratch buffers at `f7` and `f8`; the slot of the ring this grid point waited for, the
    block landed in it over `fs`. -/
abbrev Trip (c : Dev nD) (t : Fin cfg0.N) (arg1 : Memref sig .tc .vmem S36x4096 .bf16) (harg1 : arg1.IsWhole) (arg3 : Memref sig .tc .vmem S12x16x512 .i8) (harg3 : arg3.IsWhole) (arg4 : Memref sig .tc .vmem S16x512 .bf16) (harg4 : arg4.IsWhole) (arg5 : Memref sig .tc .vmem S16x512 .bf16) (harg5 : arg5.IsWhole) (arg6 : Memref sig .tc .vmem S36x512 .f32) (arg7 : Memref sig .tc .vmem S2x4x16x128 .i32) (arg8 : Memref sig .tc .vmem S2x4x16x128 .i32)
    (x0 : Vec F S36x4096 .bf16) (x1 : Vec F S12x16x512 .i8) (x2 : Vec F S16x512 .bf16) (x3 : Vec F S16x512 .bf16) (fh0 : HbBuf0 (F := F) c hbM0_0)
    (f6 : HbBuf0 (F := F) c arg6) (f7 : HbBuf0 (F := F) c arg7) (f8 : HbBuf0 (F := F) c arg8) : sProp 𝕄 :=
  iprop((arg1.view.loc (c : Thread nD τ) ↦[arg1.view.set]{fullShare} harg1.unread x0)
    ∗ (arg3.view.loc (c : Thread nD τ) ↦[arg3.view.set]{fullShare} harg3.unread x1)
    ∗ (arg4.view.loc (c : Thread nD τ) ↦[arg4.view.set]{fullShare} harg4.unread x2)
    ∗ (arg5.view.loc (c : Thread nD τ) ↦[arg5.view.set]{fullShare} harg5.unread x3)
    ∗ (arg6.view.loc (c : Thread nD τ) ↦[arg6.view.set]{fullShare} f6)
    ∗ (arg7.view.loc (c : Thread nD τ) ↦[arg7.view.set]{fullShare} f7)
    ∗ (arg8.view.loc (c : Thread nD τ) ↦[arg8.view.set]{fullShare} f8)
    ∗ slotP0_0 c (Ring.sl 2 t.val) (landed0_0 c fh0 (Ring.sl 2 t.val) (Ring.bk 28 t.val) (rslot0_0 (Ring.sl 2 t.val)).view.junk))

set_option maxHeartbeats 4000000 in
/-- One trip: what it stores, what it leaves in the two scale buffers, and that it does so. -/
@[irreducible] def trip (c : Dev nD) (t : Fin cfg0.N) (arg1 : Memref sig .tc .vmem S36x4096 .bf16) (harg1 : arg1.IsWhole) (arg3 : Memref sig .tc .vmem S12x16x512 .i8) (harg3 : arg3.IsWhole) (arg4 : Memref sig .tc .vmem S16x512 .bf16) (harg4 : arg4.IsWhole) (arg5 : Memref sig .tc .vmem S16x512 .bf16) (harg5 : arg5.IsWhole) (arg6 : Memref sig .tc .vmem S36x512 .f32) (harg6 : arg6.IsWhole) (arg7 : Memref sig .tc .vmem S2x4x16x128 .i32) (harg7 : arg7.IsWhole) (arg8 : Memref sig .tc .vmem S2x4x16x128 .i32) (harg8 : arg8.IsWhole)
    (x0 : Vec F S36x4096 .bf16) (x1 : Vec F S12x16x512 .i8) (x2 : Vec F S16x512 .bf16) (x3 : Vec F S16x512 .bf16) (fh0 : HbBuf0 (F := F) c hbM0_0) (k : Fin k0_t1_loop.trips) :
    { L : List (View.Piece (Elt F) S36x512 .f32) × Vec F S2x4x16x128 .i32 × Vec F S2x4x16x128 .i32 //
      ∀ (arg0 : BitVec 32) (acc : Unit) (f6 : HbBuf0 (F := F) c arg6) (f7 : HbBuf0 (F := F) c arg7) (f8 : HbBuf0 (F := F) c arg8),
        Trip c t arg1 harg1 arg3 harg3 arg4 harg4 arg5 harg5 arg6 arg7 arg8 x0 x1 x2 x3 fh0 f6 f7 f8
          ⊢ wp frame (wpE (defs₀ (F := F)) Variants.none c none) Set.univ
              (k0_t1_body (grid0.coords t) arg1 harg1 (Memref.whole main_v0) (Memref.isWhole_whole _) arg3 harg3 arg4 harg4 arg5 harg5 arg6 harg6 arg7 harg7 arg8 harg8 scM0_2 (Memref.isWhole_whole _) cc0_scratch3 arg0 k acc)
              fun _ => Trip c t arg1 harg1 arg3 harg3 arg4 harg4 arg5 harg5 arg6 arg7 arg8 x0 x1 x2 x3 fh0
                (arg6.view.writes (Elt F) f6 L.1) (harg7.unread L.2.1) (harg8.unread L.2.2) } := by
  refine ⟨⟨?_, ?_, ?_⟩, ?run⟩
  case run =>
    intro arg0 acc f6 f7 f8
    have hs0 := ringLoad_sub t k 0
    have hs1 := ringLoad_sub t k 1
    unfold k0_t1_body Trip
    iintro ⟨H1, H3, H4, H5, H6, H7, H8, HS⟩
    set_option sl_exec.stopBefore "k0_part18" in sl_exec_parts
    rw [scr_writes arg7 harg7 f7 _ rfl, scr_writes arg8 harg8 f8 _ rfl]
    sl_exec_parts
    sl_step
    sl_close

end Cert.Kernel.Rg

end
-- ==== Proof.Bits.Loop.lean ====
module

public import proofs.«01_k».proof.Proof.Bits.Trip

@[expose] public section

set_option maxRecDepth 16384

noncomputable section

namespace Cert.Kernel.Rg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [BitOps F]

local notation "𝕄" => MT nD τ sig Unit (Elt F) ℕ (Pipeline.UD sig nD τ) ℕ

/-- The pieces the trips before `k` leave in the output block, the last first. -/
def pb (c : Dev nD) (t : Fin cfg0.N) (arg1 : Memref sig .tc .vmem S36x4096 .bf16) (harg1 : arg1.IsWhole) (arg3 : Memref sig .tc .vmem S12x16x512 .i8) (harg3 : arg3.IsWhole) (arg4 : Memref sig .tc .vmem S16x512 .bf16) (harg4 : arg4.IsWhole) (arg5 : Memref sig .tc .vmem S16x512 .bf16) (harg5 : arg5.IsWhole) (arg6 : Memref sig .tc .vmem S36x512 .f32) (harg6 : arg6.IsWhole) (arg7 : Memref sig .tc .vmem S2x4x16x128 .i32) (harg7 : arg7.IsWhole) (arg8 : Memref sig .tc .vmem S2x4x16x128 .i32) (harg8 : arg8.IsWhole)
    (x0 : Vec F S36x4096 .bf16) (x1 : Vec F S12x16x512 .i8) (x2 : Vec F S16x512 .bf16) (x3 : Vec F S16x512 .bf16) (fh0 : HbBuf0 (F := F) c hbM0_0) : ℕ → List (View.Piece (Elt F) S36x512 .f32)
  | 0 => []
  | k + 1 => if h : k < k0_t1_loop.trips then (trip c t arg1 harg1 arg3 harg3 arg4 harg4 arg5 harg5 arg6 harg6 arg7 harg7 arg8 harg8 x0 x1 x2 x3 fh0 ⟨k, h⟩).1.1 ++ pb c t arg1 harg1 arg3 harg3 arg4 harg4 arg5 harg5 arg6 harg6 arg7 harg7 arg8 harg8 x0 x1 x2 x3 fh0 k else pb c t arg1 harg1 arg3 harg3 arg4 harg4 arg5 harg5 arg6 harg6 arg7 harg7 arg8 harg8 x0 x1 x2 x3 fh0 k

/-- One more trip. -/
theorem pb_succ (c : Dev nD) (t : Fin cfg0.N) (arg1 : Memref sig .tc .vmem S36x4096 .bf16) (harg1 : arg1.IsWhole) (arg3 : Memref sig .tc .vmem S12x16x512 .i8) (harg3 : arg3.IsWhole) (arg4 : Memref sig .tc .vmem S16x512 .bf16) (harg4 : arg4.IsWhole) (arg5 : Memref sig .tc .vmem S16x512 .bf16) (harg5 : arg5.IsWhole) (arg6 : Memref sig .tc .vmem S36x512 .f32) (harg6 : arg6.IsWhole) (arg7 : Memref sig .tc .vmem S2x4x16x128 .i32) (harg7 : arg7.IsWhole) (arg8 : Memref sig .tc .vmem S2x4x16x128 .i32) (harg8 : arg8.IsWhole)
    (x0 : Vec F S36x4096 .bf16) (x1 : Vec F S12x16x512 .i8) (x2 : Vec F S16x512 .bf16) (x3 : Vec F S16x512 .bf16) (fh0 : HbBuf0 (F := F) c hbM0_0) (k : Fin k0_t1_loop.trips) :
    pb c t arg1 harg1 arg3 harg3 arg4 harg4 arg5 harg5 arg6 harg6 arg7 harg7 arg8 harg8 x0 x1 x2 x3 fh0 (k.val + 1) = (trip c t arg1 harg1 arg3 harg3 arg4 harg4 arg5 harg5 arg6 harg6 arg7 harg7 arg8 harg8 x0 x1 x2 x3 fh0 k).1.1 ++ pb c t arg1 harg1 arg3 harg3 arg4 harg4 arg5 harg5 arg6 harg6 arg7 harg7 arg8 harg8 x0 x1 x2 x3 fh0 k.val := by
  rw [pb.eq_2]; exact dif_pos k.isLt

/-- What the column loop keeps: the output block at the pieces of the trips done over its contents `f6` at entry, the scale scratch
    buffers at anything, the inputs and the ring slot as they are. -/
def inv (c : Dev nD) (t : Fin cfg0.N) (arg1 : Memref sig .tc .vmem S36x4096 .bf16) (harg1 : arg1.IsWhole) (arg3 : Memref sig .tc .vmem S12x16x512 .i8) (harg3 : arg3.IsWhole) (arg4 : Memref sig .tc .vmem S16x512 .bf16) (harg4 : arg4.IsWhole) (arg5 : Memref sig .tc .vmem S16x512 .bf16) (harg5 : arg5.IsWhole) (arg6 : Memref sig .tc .vmem S36x512 .f32) (harg6 : arg6.IsWhole) (arg7 : Memref sig .tc .vmem S2x4x16x128 .i32) (harg7 : arg7.IsWhole) (arg8 : Memref sig .tc .vmem S2x4x16x128 .i32) (harg8 : arg8.IsWhole)
    (x0 : Vec F S36x4096 .bf16) (x1 : Vec F S12x16x512 .i8) (x2 : Vec F S16x512 .bf16) (x3 : Vec F S16x512 .bf16) (fh0 : HbBuf0 (F := F) c hbM0_0) (f6 : HbBuf0 (F := F) c arg6) (k : ℕ) : sProp 𝕄 :=
  iprop((arg1.view.loc (c : Thread nD τ) ↦[arg1.view.set]{fullShare} harg1.unread x0)
    ∗ (arg3.view.loc (c : Thread nD τ) ↦[arg3.view.set]{fullShare} harg3.unread x1)
    ∗ (arg4.view.loc (c : Thread nD τ) ↦[arg4.view.set]{fullShare} harg4.unread x2)
    ∗ (arg5.view.loc (c : Thread nD τ) ↦[arg5.view.set]{fullShare} harg5.unread x3)
    ∗ (∃ f, (arg6.view.loc (c : Thread nD τ) ↦[arg6.view.set]{fullShare} f) ∗ ⌜f = arg6.view.writes (Elt F) f6 (pb c t arg1 harg1 arg3 harg3 arg4 harg4 arg5 harg5 arg6 harg6 arg7 harg7 arg8 harg8 x0 x1 x2 x3 fh0 k)⌝)
    ∗ (∃ f7, arg7.view.loc (c : Thread nD τ) ↦[arg7.view.set]{fullShare} f7)
    ∗ (∃ f8, arg8.view.loc (c : Thread nD τ) ↦[arg8.view.set]{fullShare} f8)
    ∗ slotP0_0 c (Ring.sl 2 t.val) (landed0_0 c fh0 (Ring.sl 2 t.val) (Ring.bk 28 t.val) (rslot0_0 (Ring.sl 2 t.val)).view.junk))

/-- One trip keeps it. -/
theorem inv_step (c : Dev nD) (t : Fin cfg0.N) (arg1 : Memref sig .tc .vmem S36x4096 .bf16) (harg1 : arg1.IsWhole) (arg3 : Memref sig .tc .vmem S12x16x512 .i8) (harg3 : arg3.IsWhole) (arg4 : Memref sig .tc .vmem S16x512 .bf16) (harg4 : arg4.IsWhole) (arg5 : Memref sig .tc .vmem S16x512 .bf16) (harg5 : arg5.IsWhole) (arg6 : Memref sig .tc .vmem S36x512 .f32) (harg6 : arg6.IsWhole) (arg7 : Memref sig .tc .vmem S2x4x16x128 .i32) (harg7 : arg7.IsWhole) (arg8 : Memref sig .tc .vmem S2x4x16x128 .i32) (harg8 : arg8.IsWhole)
    (x0 : Vec F S36x4096 .bf16) (x1 : Vec F S12x16x512 .i8) (x2 : Vec F S16x512 .bf16) (x3 : Vec F S16x512 .bf16) (fh0 : HbBuf0 (F := F) c hbM0_0) (f6 : HbBuf0 (F := F) c arg6) (arg0 : BitVec 32) (k : Fin k0_t1_loop.trips) (acc : Unit) :
    inv c t arg1 harg1 arg3 harg3 arg4 harg4 arg5 harg5 arg6 harg6 arg7 harg7 arg8 harg8 x0 x1 x2 x3 fh0 f6 k.val
      ⊢ wp frame (wpE (defs₀ (F := F)) Variants.none c none) Set.univ
          (k0_t1_body (grid0.coords t) arg1 harg1 (Memref.whole main_v0) (Memref.isWhole_whole _) arg3 harg3 arg4 harg4 arg5 harg5 arg6 harg6 arg7 harg7 arg8 harg8 scM0_2 (Memref.isWhole_whole _) cc0_scratch3 arg0 k acc)
          fun _ => inv c t arg1 harg1 arg3 harg3 arg4 harg4 arg5 harg5 arg6 harg6 arg7 harg7 arg8 harg8 x0 x1 x2 x3 fh0 f6 (k.val + 1) := by
  unfold inv
  rw [pb_succ]
  iintro ⟨H1, H3, H4, H5, ⟨%g6, H6, %h6⟩, ⟨%f7, H7⟩, ⟨%f8, H8⟩, HS⟩
  subst h6
  iapply (wp_wand_r frame (wpE (defs₀ (F := F)) Variants.none c none) Set.univ)
  isplitl [H1 H3 H4 H5 H6 H7 H8 HS]
  · iapply ((trip c t arg1 harg1 arg3 harg3 arg4 harg4 arg5 harg5 arg6 harg6 arg7 harg7 arg8 harg8 x0 x1 x2 x3 fh0 k).2 arg0 acc _ f7 f8)
    unfold Trip
    isplitl [H1]; · iexact H1
    isplitl [H3]; · iexact H3
    isplitl [H4]; · iexact H4
    isplitl [H5]; · iexact H5
    isplitl [H6]; · iexact H6
    isplitl [H7]; · iexact H7
    isplitl [H8]; · iexact H8
    iexact HS
  unfold Trip
  iintro %a
  iintro ⟨H1, H3, H4, H5, H6, H7, H8, HS⟩
  isplitl [H1]; · iexact H1
  isplitl [H3]; · iexact H3
  isplitl [H4]; · iexact H4
  isplitl [H5]; · iexact H5
  isplitl [H6]
  · iexists _; isplitl [H6]; · iexact H6
    ipureintro; rw [View.writes_append]
  isplitl [H7]; · iexists _; iexact H7
  isplitl [H8]; · iexists _; iexact H8
  iexact HS

/-- The loop goes by it. -/
@[sl_loop, reducible] def loopInv_k0_t1 (c : Dev nD) (t : Fin cfg0.N) (arg1 : Memref sig .tc .vmem S36x4096 .bf16) (harg1 : arg1.IsWhole) (arg3 : Memref sig .tc .vmem S12x16x512 .i8) (harg3 : arg3.IsWhole) (arg4 : Memref sig .tc .vmem S16x512 .bf16) (harg4 : arg4.IsWhole) (arg5 : Memref sig .tc .vmem S16x512 .bf16) (harg5 : arg5.IsWhole) (arg6 : Memref sig .tc .vmem S36x512 .f32) (harg6 : arg6.IsWhole) (arg7 : Memref sig .tc .vmem S2x4x16x128 .i32) (harg7 : arg7.IsWhole) (arg8 : Memref sig .tc .vmem S2x4x16x128 .i32) (harg8 : arg8.IsWhole)
    (x0 : Vec F S36x4096 .bf16) (x1 : Vec F S12x16x512 .i8) (x2 : Vec F S16x512 .bf16) (x3 : Vec F S16x512 .bf16) (fh0 : HbBuf0 (F := F) c hbM0_0) (f6 : HbBuf0 (F := F) c arg6) (arg0 : BitVec 32) :
    Gen.LoopInvTy_k0_t1 (F := F) Unit ℕ (Pipeline.UD sig nD τ) ℕ Variants.none c none Set.univ (grid0.coords t) arg1 harg1 (Memref.whole main_v0) (Memref.isWhole_whole _) arg3 harg3 arg4 harg4 arg5 harg5 arg6 harg6 arg7 harg7 arg8 harg8 scM0_2 (Memref.isWhole_whole _) cc0_scratch3 arg0 where
  inv k acc := inv c t arg1 harg1 arg3 harg3 arg4 harg4 arg5 harg5 arg6 harg6 arg7 harg7 arg8 harg8 x0 x1 x2 x3 fh0 f6 k
  step k acc := inv_step c t arg1 harg1 arg3 harg3 arg4 harg4 arg5 harg5 arg6 harg6 arg7 harg7 arg8 harg8 x0 x1 x2 x3 fh0 f6 arg0 k acc

end Cert.Kernel.Rg

end
-- ==== Proof.Bits.Run.lean ====
module

public import proofs.«01_k».proof.Proof.Bits.Loop

@[expose] public section

set_option maxRecDepth 16384

noncomputable section

namespace Cert.Kernel.Rg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [BitOps F]

local notation "𝕄" => MT nD τ sig Unit (Elt F) ℕ (Pipeline.UD sig nD τ) ℕ

set_option maxHeartbeats 1000000 in
/-- The first grid point: the body starts the first two blocks, waits for the first and leaves the second in flight.
    From the inputs at their contents, everything else at anything, it leaves the output block at the pieces of the two trips. -/
theorem kernelRun0_A (c : Dev nD) (t : Fin cfg0.N) (arg1 : Memref sig .tc .vmem S36x4096 .bf16) (harg1 : arg1.IsWhole) (arg3 : Memref sig .tc .vmem S12x16x512 .i8) (harg3 : arg3.IsWhole) (arg4 : Memref sig .tc .vmem S16x512 .bf16) (harg4 : arg4.IsWhole) (arg5 : Memref sig .tc .vmem S16x512 .bf16) (harg5 : arg5.IsWhole) (arg6 : Memref sig .tc .vmem S36x512 .f32) (harg6 : arg6.IsWhole) (arg7 : Memref sig .tc .vmem S2x4x16x128 .i32) (harg7 : arg7.IsWhole) (arg8 : Memref sig .tc .vmem S2x4x16x128 .i32) (harg8 : arg8.IsWhole) (hc0 : cond0_0 (grid0.coords t)) (hc1 : cond0_1 (grid0.coords t))
    (x0 : Vec F S36x4096 .bf16) (x1 : Vec F S12x16x512 .i8) (x2 : Vec F S16x512 .bf16) (x3 : Vec F S16x512 .bf16) (fh0 : HbBuf0 (F := F) c hbM0_0) :
    ∀ (W : Waits sig Unit) (K : PUnit → sProp 𝕄),
        iprop(owns (c : Thread nD τ) arg1 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ (∃ d, owns (c : Thread nD τ) arg7 fullShare d) ∗ (∃ d, owns (c : Thread nD τ) arg8 fullShare d) ∗ Ring.free (cellP0_0 c) (slotW0_0 c fh0) (Ring.sl 2 t.val) ∗ Ring.free (cellP0_0 c) (slotW0_0 c fh0) (Ring.sl 2 (t.val + 1)) ∗ owes (c : Thread nD τ) 0 W
            ∗ (iprop(owns (c : Thread nD τ) arg1 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f (pb c t arg1 harg1 arg3 harg3 arg4 harg4 arg5 harg5 arg6 harg6 arg7 harg7 arg8 harg8 x0 x1 x2 x3 fh0 k0_t1_loop.trips)) ∗ (∃ d, owns (c : Thread nD τ) arg7 fullShare d) ∗ (∃ d, owns (c : Thread nD τ) arg8 fullShare d) ∗ Ring.inflight (flightW0_0 c fh0) (Ring.sl 2 (t.val + 1)) (Ring.bk 28 (t.val + 1)) ∗ Ring.kept (cellP0_0 c) (slotW0_0 c fh0) (landed0_0 c fh0) (Ring.sl 2 t.val) (Ring.bk 28 t.val) ∗ (∃ W', owes (c : Thread nD τ) 0 W')) -∗ K ⟨⟩))
          ⊢ wp frame (wpE (defs₀ (F := F)) Variants.none c none) Set.univ (cc0__q4k_body (grid0.coords t) arg1 harg1 (Memref.whole main_v0) (Memref.isWhole_whole _) arg3 harg3 arg4 harg4 arg5 harg5 arg6 harg6 arg7 harg7 arg8 harg8 scM0_2 (Memref.isWhole_whole _) cc0_scratch3) K := by
  intro W K
  haveI : Fact (cond0_0 (grid0.coords t)) := ⟨hc0⟩
  haveI : Fact (cond0_1 (grid0.coords t)) := ⟨hc1⟩
  simp only [cc0__q4k_body_eq_skeleton]; unfold cc0__q4k_body_skel
  have hcanon0 := canon0_0_1 t hc0 hc1
  have hcanon1 := canon0_0_2 t hc0 hc1
  have hcanon2 := canon0_0_3 t hc0 hc1
  unfold owns Ring.free Ring.inflight Ring.kept
  iintro ⟨⟨%f0, %hf0, H0⟩, ⟨%f1, %hf1, H1⟩, ⟨%f2, %hf2, H2⟩, ⟨%f3, %hf3, H3⟩, ⟨%d4, %f4, -, H4⟩, ⟨%ds0, %fs0, -, HS0⟩, ⟨%ds1, %fs1, -, HS1⟩, ⟨Hc0_0_0, ⟨%fs0_0_0, Hs0_0_0, Hw0_0_0⟩⟩, ⟨Hc0_0_1, ⟨%fs0_0_1, Hs0_0_1, Hw0_0_1⟩⟩, HW, Hk⟩
  ihave Hsp0_0_0 := (src0_0_split c fh0 (Ring.sl 2 t.val) (Ring.bk 28 t.val)).1 $$ Hw0_0_0
  icases Hsp0_0_0 with ⟨Hh0_0_0, Hr0_0_0⟩
  ihave Hsp0_0_1 := (src0_0_split c fh0 (Ring.sl 2 (t.val + 1)) (Ring.bk 28 (t.val + 1))).1 $$ Hw0_0_1
  icases Hsp0_0_1 with ⟨Hh0_0_1, Hr0_0_1⟩
  obtain rfl := harg1.eq_unread hf0; obtain rfl := harg3.eq_unread hf1; obtain rfl := harg4.eq_unread hf2; obtain rfl := harg5.eq_unread hf3
  sl_exec (disch := first | sl_exact hc0 | sl_exact hc1)
  sl_step
  iapply Hk
  isplitl [H0]
  · iexists _; isplitr; · ipureintro; exact harg1.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]; · iexists _; iexact H4
  isplitl [HS0]
  · iexists _, _; isplitr; swap; · iexact HS0
    ipureintro; rfl
  isplitl [HS1]
  · iexists _, _; isplitr; swap; · iexact HS1
    ipureintro; rfl
  isplitl [Hc0_0_1 Hr0_0_1]
  · iexists _; isplitl [Hc0_0_1]; · iexact Hc0_0_1
    iexact Hr0_0_1
  isplitl [Hc0_0_0 Hs0_0_0 Hh0_0_0 Hr0_0_0]
  · isplitl [Hc0_0_0]; · iexact Hc0_0_0
    iexists _; isplitl [Hs0_0_0]; · iexact Hs0_0_0
    iapply (src0_0_split c fh0 (Ring.sl 2 t.val) (Ring.bk 28 t.val)).2; isplitl [Hh0_0_0]; · iexact Hh0_0_0
    iexact Hr0_0_0
  iexists _; iexact HW

set_option maxHeartbeats 1000000 in
/-- A middle grid point: the body starts the next block and waits for its own.
    From the inputs at their contents, everything else at anything, it leaves the output block at the pieces of the two trips. -/
theorem kernelRun0_B (c : Dev nD) (t : Fin cfg0.N) (arg1 : Memref sig .tc .vmem S36x4096 .bf16) (harg1 : arg1.IsWhole) (arg3 : Memref sig .tc .vmem S12x16x512 .i8) (harg3 : arg3.IsWhole) (arg4 : Memref sig .tc .vmem S16x512 .bf16) (harg4 : arg4.IsWhole) (arg5 : Memref sig .tc .vmem S16x512 .bf16) (harg5 : arg5.IsWhole) (arg6 : Memref sig .tc .vmem S36x512 .f32) (harg6 : arg6.IsWhole) (arg7 : Memref sig .tc .vmem S2x4x16x128 .i32) (harg7 : arg7.IsWhole) (arg8 : Memref sig .tc .vmem S2x4x16x128 .i32) (harg8 : arg8.IsWhole) (hc0 : ¬cond0_0 (grid0.coords t)) (hc1 : cond0_1 (grid0.coords t))
    (x0 : Vec F S36x4096 .bf16) (x1 : Vec F S12x16x512 .i8) (x2 : Vec F S16x512 .bf16) (x3 : Vec F S16x512 .bf16) (fh0 : HbBuf0 (F := F) c hbM0_0) :
    ∀ (W : Waits sig Unit) (K : PUnit → sProp 𝕄),
        iprop(owns (c : Thread nD τ) arg1 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ (∃ d, owns (c : Thread nD τ) arg7 fullShare d) ∗ (∃ d, owns (c : Thread nD τ) arg8 fullShare d) ∗ Ring.inflight (flightW0_0 c fh0) (Ring.sl 2 t.val) (Ring.bk 28 t.val) ∗ Ring.kept (cellP0_0 c) (slotW0_0 c fh0) (landed0_0 c fh0) (Ring.sl 2 (t.val + 1)) (Ring.bk 28 (t.val - 1)) ∗ owes (c : Thread nD τ) 0 W
            ∗ (iprop(owns (c : Thread nD τ) arg1 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f (pb c t arg1 harg1 arg3 harg3 arg4 harg4 arg5 harg5 arg6 harg6 arg7 harg7 arg8 harg8 x0 x1 x2 x3 fh0 k0_t1_loop.trips)) ∗ (∃ d, owns (c : Thread nD τ) arg7 fullShare d) ∗ (∃ d, owns (c : Thread nD τ) arg8 fullShare d) ∗ Ring.inflight (flightW0_0 c fh0) (Ring.sl 2 (t.val + 1)) (Ring.bk 28 (t.val + 1)) ∗ Ring.kept (cellP0_0 c) (slotW0_0 c fh0) (landed0_0 c fh0) (Ring.sl 2 t.val) (Ring.bk 28 t.val) ∗ (∃ W', owes (c : Thread nD τ) 0 W')) -∗ K ⟨⟩))
          ⊢ wp frame (wpE (defs₀ (F := F)) Variants.none c none) Set.univ (cc0__q4k_body (grid0.coords t) arg1 harg1 (Memref.whole main_v0) (Memref.isWhole_whole _) arg3 harg3 arg4 harg4 arg5 harg5 arg6 harg6 arg7 harg7 arg8 harg8 scM0_2 (Memref.isWhole_whole _) cc0_scratch3) K := by
  intro W K
  haveI : Fact (¬cond0_0 (grid0.coords t)) := ⟨hc0⟩
  haveI : Fact (cond0_1 (grid0.coords t)) := ⟨hc1⟩
  simp only [cc0__q4k_body_eq_skeleton]; unfold cc0__q4k_body_skel
  unfold owns Ring.inflight Ring.kept
  iintro ⟨⟨%f0, %hf0, H0⟩, ⟨%f1, %hf1, H1⟩, ⟨%f2, %hf2, H2⟩, ⟨%f3, %hf3, H3⟩, ⟨%d4, %f4, -, H4⟩, ⟨%ds0, %fs0, -, HS0⟩, ⟨%ds1, %fs1, -, HS1⟩, ⟨%ff0_0, Hf0_0, Hrf0_0⟩, ⟨Hc0_0_1, ⟨%fs0_0_1, Hs0_0_1, Hw0_0_1⟩⟩, HW, Hk⟩
  ihave Hsp0_0_1 := (src0_0_split c fh0 (Ring.sl 2 (t.val + 1)) (Ring.bk 28 (t.val + 1))).1 $$ Hw0_0_1
  icases Hsp0_0_1 with ⟨Hh0_0_1, Hr0_0_1⟩
  obtain rfl := harg1.eq_unread hf0; obtain rfl := harg3.eq_unread hf1; obtain rfl := harg4.eq_unread hf2; obtain rfl := harg5.eq_unread hf3
  sl_exec (disch := first | sl_exact hc0 | sl_exact hc1)
  sl_step
  iapply Hk
  isplitl [H0]
  · iexists _; isplitr; · ipureintro; exact harg1.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]; · iexists _; iexact H4
  isplitl [HS0]
  · iexists _, _; isplitr; swap; · iexact HS0
    ipureintro; rfl
  isplitl [HS1]
  · iexists _, _; isplitr; swap; · iexact HS1
    ipureintro; rfl
  isplitl [Hc0_0_1 Hr0_0_1]
  · iexists _; isplitl [Hc0_0_1]; · iexact Hc0_0_1
    iexact Hr0_0_1
  isplitl [Hf0_0 Hf0_0_dst Hf0_0_src Hrf0_0]
  · isplitl [Hf0_0]; · iexact Hf0_0
    iexists _; isplitl [Hf0_0_dst]; · iexact Hf0_0_dst
    iapply (src0_0_split c fh0 (Ring.sl 2 t.val) (Ring.bk 28 t.val)).2; isplitl [Hf0_0_src]; · iexact Hf0_0_src
    iexact Hrf0_0
  iexists _; iexact HW

set_option maxHeartbeats 1000000 in
/-- The last grid point: the body waits for its own block, and starts none.
    From the inputs at their contents, everything else at anything, it leaves the output block at the pieces of the two trips. -/
theorem kernelRun0_C (c : Dev nD) (t : Fin cfg0.N) (arg1 : Memref sig .tc .vmem S36x4096 .bf16) (harg1 : arg1.IsWhole) (arg3 : Memref sig .tc .vmem S12x16x512 .i8) (harg3 : arg3.IsWhole) (arg4 : Memref sig .tc .vmem S16x512 .bf16) (harg4 : arg4.IsWhole) (arg5 : Memref sig .tc .vmem S16x512 .bf16) (harg5 : arg5.IsWhole) (arg6 : Memref sig .tc .vmem S36x512 .f32) (harg6 : arg6.IsWhole) (arg7 : Memref sig .tc .vmem S2x4x16x128 .i32) (harg7 : arg7.IsWhole) (arg8 : Memref sig .tc .vmem S2x4x16x128 .i32) (harg8 : arg8.IsWhole) (hc0 : ¬cond0_0 (grid0.coords t)) (hc1 : ¬cond0_1 (grid0.coords t))
    (x0 : Vec F S36x4096 .bf16) (x1 : Vec F S12x16x512 .i8) (x2 : Vec F S16x512 .bf16) (x3 : Vec F S16x512 .bf16) (fh0 : HbBuf0 (F := F) c hbM0_0) :
    ∀ (W : Waits sig Unit) (K : PUnit → sProp 𝕄),
        iprop(owns (c : Thread nD τ) arg1 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ (∃ d, owns (c : Thread nD τ) arg7 fullShare d) ∗ (∃ d, owns (c : Thread nD τ) arg8 fullShare d) ∗ Ring.inflight (flightW0_0 c fh0) (Ring.sl 2 t.val) (Ring.bk 28 t.val) ∗ owes (c : Thread nD τ) 0 W
            ∗ (iprop(owns (c : Thread nD τ) arg1 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f (pb c t arg1 harg1 arg3 harg3 arg4 harg4 arg5 harg5 arg6 harg6 arg7 harg7 arg8 harg8 x0 x1 x2 x3 fh0 k0_t1_loop.trips)) ∗ (∃ d, owns (c : Thread nD τ) arg7 fullShare d) ∗ (∃ d, owns (c : Thread nD τ) arg8 fullShare d) ∗ Ring.kept (cellP0_0 c) (slotW0_0 c fh0) (landed0_0 c fh0) (Ring.sl 2 t.val) (Ring.bk 28 t.val) ∗ (∃ W', owes (c : Thread nD τ) 0 W')) -∗ K ⟨⟩))
          ⊢ wp frame (wpE (defs₀ (F := F)) Variants.none c none) Set.univ (cc0__q4k_body (grid0.coords t) arg1 harg1 (Memref.whole main_v0) (Memref.isWhole_whole _) arg3 harg3 arg4 harg4 arg5 harg5 arg6 harg6 arg7 harg7 arg8 harg8 scM0_2 (Memref.isWhole_whole _) cc0_scratch3) K := by
  intro W K
  haveI : Fact (¬cond0_0 (grid0.coords t)) := ⟨hc0⟩
  haveI : Fact (¬cond0_1 (grid0.coords t)) := ⟨hc1⟩
  simp only [cc0__q4k_body_eq_skeleton]; unfold cc0__q4k_body_skel
  unfold owns Ring.inflight Ring.kept
  iintro ⟨⟨%f0, %hf0, H0⟩, ⟨%f1, %hf1, H1⟩, ⟨%f2, %hf2, H2⟩, ⟨%f3, %hf3, H3⟩, ⟨%d4, %f4, -, H4⟩, ⟨%ds0, %fs0, -, HS0⟩, ⟨%ds1, %fs1, -, HS1⟩, ⟨%ff0_0, Hf0_0, Hrf0_0⟩, HW, Hk⟩
  obtain rfl := harg1.eq_unread hf0; obtain rfl := harg3.eq_unread hf1; obtain rfl := harg4.eq_unread hf2; obtain rfl := harg5.eq_unread hf3
  sl_exec (disch := first | sl_exact hc0 | sl_exact hc1)
  sl_step
  iapply Hk
  isplitl [H0]
  · iexists _; isplitr; · ipureintro; exact harg1.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]; · iexists _; iexact H4
  isplitl [HS0]
  · iexists _, _; isplitr; swap; · iexact HS0
    ipureintro; rfl
  isplitl [HS1]
  · iexists _, _; isplitr; swap; · iexact HS1
    ipureintro; rfl
  isplitl [Hf0_0 Hf0_0_dst Hf0_0_src Hrf0_0]
  · isplitl [Hf0_0]; · iexact Hf0_0
    iexists _; isplitl [Hf0_0_dst]; · iexact Hf0_0_dst
    iapply (src0_0_split c fh0 (Ring.sl 2 t.val) (Ring.bk 28 t.val)).2; isplitl [Hf0_0_src]; · iexact Hf0_0_src
    iexact Hrf0_0
  iexists _; iexact HW

end Cert.Kernel.Rg

end
-- ==== Proof.Bits.Frame.lean ====
module

public import proofs.«01_k».proof.Proof.Bits.Run
public import Idealize.ShloMosaic.Lib.Claim

@[expose] public section

set_option maxRecDepth 16384

noncomputable section

namespace Cert.Kernel.Rg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [BitOps F]

open Idealize.ShloMosaic.Rounds
open Idealize.ShloMosaic.Pipeline (Dat Cfg Window BodyObligation cellOf)

local notation "𝕄" => MT nD τ sig Unit (Elt F) ℕ (Pipeline.UD sig nD τ) ℕ

variable (m : (ℓ : Loc nD τ sig) → Buf (Elt F) ℓ) (ρ : Dev nD → PrngReg)

/-- The pieces of the two trips tile the output block. -/
theorem cover0_4 (c : Dev nD) (t : Fin cfg0.N) (arg1 : Memref sig .tc .vmem S36x4096 .bf16) (harg1 : arg1.IsWhole) (arg3 : Memref sig .tc .vmem S12x16x512 .i8) (harg3 : arg3.IsWhole) (arg4 : Memref sig .tc .vmem S16x512 .bf16) (harg4 : arg4.IsWhole) (arg5 : Memref sig .tc .vmem S16x512 .bf16) (harg5 : arg5.IsWhole) (arg6 : Memref sig .tc .vmem S36x512 .f32) (harg6 : arg6.IsWhole) (arg7 : Memref sig .tc .vmem S2x4x16x128 .i32) (harg7 : arg7.IsWhole) (arg8 : Memref sig .tc .vmem S2x4x16x128 .i32) (harg8 : arg8.IsWhole)
    (x0 : Vec F S36x4096 .bf16) (x1 : Vec F S12x16x512 .i8) (x2 : Vec F S16x512 .bf16) (x3 : Vec F S16x512 .bf16) (fh0 : HbBuf0 (F := F) c hbM0_0) (y : S36x512.Idx) :
    ∃ pc ∈ pb c t arg1 harg1 arg3 harg3 arg4 harg4 arg5 harg5 arg6 harg6 arg7 harg7 arg8 harg8 x0 x1 x2 x3 fh0 k0_t1_loop.trips, y ∈ pc.1.set :=
  View.cover_of_tiledL (pb c t arg1 harg1 arg3 harg3 arg4 harg4 arg5 harg5 arg6 harg6 arg7 harg7 arg8 harg8 x0 x1 x2 x3 fh0 k0_t1_loop.trips) S36x256.size (by sl_kernel_rfl) y

/-- What the body leaves in the output's staging buffer: the two trips' pieces read back over junk. -/
def out0_4 (c : Dev nD) (t : Fin cfg0.N) (arg1 : Memref sig .tc .vmem S36x4096 .bf16) (harg1 : arg1.IsWhole) (arg3 : Memref sig .tc .vmem S12x16x512 .i8) (harg3 : arg3.IsWhole) (arg4 : Memref sig .tc .vmem S16x512 .bf16) (harg4 : arg4.IsWhole) (arg5 : Memref sig .tc .vmem S16x512 .bf16) (harg5 : arg5.IsWhole) (arg6 : Memref sig .tc .vmem S36x512 .f32) (harg6 : arg6.IsWhole) (arg7 : Memref sig .tc .vmem S2x4x16x128 .i32) (harg7 : arg7.IsWhole) (arg8 : Memref sig .tc .vmem S2x4x16x128 .i32) (harg8 : arg8.IsWhole)
    (x0 : Vec F S36x4096 .bf16) (x1 : Vec F S12x16x512 .i8) (x2 : Vec F S16x512 .bf16) (x3 : Vec F S16x512 .bf16) (fh0 : HbBuf0 (F := F) c hbM0_0) : Vec F S36x512 .f32 :=
  VO0_4.read (Elt F) (VO0_4.writes (Elt F) VO0_4.junk (pb c t arg1 harg1 arg3 harg3 arg4 harg4 arg5 harg5 arg6 harg6 arg7 harg7 arg8 harg8 x0 x1 x2 x3 fh0 k0_t1_loop.trips))

/-- What the output's staging buffer holds after the body at point `t`. -/
def outsAt0 (c : Dev nD) (t : Fin cfg0.N) : Vec F S36x512 .f32 :=
  out0_4 c t (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (iblk m c 0 t) (iblk m c 1 t) (iblk m c 2 t) (iblk m c 3 t) (V m c main_v0)

/-! ## The pipeline's proof data -/

/-- The region invariant before point `k`: the generator register at some state, the scratch the run takes whole at anything, and each ring
    before point `k`. -/
def PhiR (c : Dev nD) (k : ℕ) : sProp 𝕄 := iprop((∃ d, owns (c : Thread nD τ) scM0_0 fullShare d) ∗ (∃ d, owns (c : Thread nD τ) scM0_1 fullShare d) ∗ (∃ r, prngReg c r) ∗ ringAt0_0 c (V m c main_v0) k)

/-- The proof data of the one pipeline on core `c`: the arrays as the region finds them (`V`); after the body at
    point `t` each input's buffer at its block and the outputs' at `outsAt0`; the invariant
    (`PhiR`: the ring's `Ring.At` before the point, beside the register and what the body takes whole);
    nothing owed; full shares. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => (outsAt0 m c t)
  Φ t := PhiR m c t.val
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- The invariant at a point's start (the proof data at `t.castSucc`), restated at `t.val`. -/
theorem PhiR_castSucc (c : Dev nD) (t : Fin cfg0.N) : (dats m 0 c).Φ t.castSucc = PhiR m c t.val := by
  dsimp only [dats]; simp only [Fin.coe_castSucc]
/-- The invariant at a point's end (the proof data at `t.succ`), restated at `t.val + 1`. -/
theorem PhiR_succ (c : Dev nD) (t : Fin cfg0.N) : (dats m 0 c).Φ t.succ = PhiR m c (t.val + 1) := by
  dsimp only [dats]; simp only [Fin.val_succ]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = (outsAt0 m c t) := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-! ## The body obligation, at a generic point -/

/-- What the body is called with at point `t` (`BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t))

set_option maxHeartbeats 2400000 in
/-- The body at any point: the inputs' memrefs hold their blocks (`before0_W`); the closed forms say which case the point is in (`by_cases`), an output the case reads before covering holds what the point before left (`before0_W_κ`); so the
    run applies; the invariant (`PhiR`) is rewritten, per case, to the ring pieces the point's role takes (`AtK2_here`, `At₀_eq2'`, …, by the case's step facts `rstepK_R_κ`) and reassembled from what the run hands back (`AtK2_next`, `AtK2_one'`, …; `Ring.with_homes`: no block is held apart); the core's `owes` goes in at whatever the points before recorded and comes back with this point's wait, within the next point's bound (everything). -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [after0_0, after0_1, after0_2, after0_3, after0_4]
  rw [PhiR_castSucc m c t, PhiR_succ m c t]
  unfold Dat.owesAt Pipeline.owesWithin
  rw [show (dats m 0 c).owed t.castSucc = 0 from rfl, show (dats m 0 c).owed t.succ = 0 from rfl]
  unfold PhiR ringAt0_0
  have hgN : grid0.N = 28 := N_0
  have hN : t.val < 28 := lt_of_lt_of_eq t.isLt (show cfg0.N = 28 from N_0)
  by_cases h0 : t.val % 28 = 0
  · by_cases h1 : t.val < 27
    · unfold outsAt0 out0_4
      have hr0 := rstep0_0_A t ((hcond0_0 t).mpr h0) ((hcond0_1 t).mpr h1)
      obtain ⟨hK00, hK10⟩ := hr0
      rw [if_pos hK00, if_neg (show ¬t.val + 1 = 0 by omega)]
      rw [Ring.At₀_eq2' _ _ _ t.val hK00 (by decide : 2 ≤ 28), Ring.AtK2_one' _ _ _ _ _ t.val hK00 (by decide : 1 < 28)]
      iintro ⟨⟨HS0, HS1, Hg, ⟨-, Hfr0_0_0, Hfr0_0_1⟩⟩, ⟨%W, -, HW⟩, ⟨%d0, H0⟩, ⟨%d1, H1⟩, ⟨%d2, H2⟩, ⟨%d3, H3⟩, ⟨%d4, H4⟩⟩
      iapply (kernelRun0_A c t _ _ _ _ _ _ _ _ _ _ _ _ _ _ ((hcond0_0 t).mpr h0) ((hcond0_1 t).mpr h1) (iblk m c 0 t) (iblk m c 1 t) (iblk m c 2 t) (iblk m c 3 t) (V m c main_v0) W _)
      isplitl [H0]; · iexact H0
      isplitl [H1]; · iexact H1
      isplitl [H2]; · iexact H2
      isplitl [H3]; · iexact H3
      isplitl [H4]; · iexists _; iexact H4
      isplitl [HS0]; · iexact HS0
      isplitl [HS1]; · iexact HS1
      isplitl [Hfr0_0_0]; · iexact Hfr0_0_0
      isplitl [Hfr0_0_1]; · iexact Hfr0_0_1
      isplitl [HW]; · iexact HW
      iintro ⟨H0, H1, H2, H3, ⟨%e4, H4⟩, HS0, HS1, Hfl0_0', Hkp0_0', ⟨%W', HW'⟩⟩
      isplitl [HS0 HS1 Hg Hfl0_0' Hkp0_0']
      · isplitl [HS0]; · iexact HS0
        isplitl [HS1]; · iexact HS1
        isplitl [Hg]; · iexact Hg
        iapply Ring.with_homes₀
        isplitl [Hfl0_0']; · iexact Hfl0_0'
        iexact Hkp0_0'
      isplitl [HW']
      · iexists W'; isplitr; · ipureintro; exact fun _ _ => Or.inl trivial
        iexact HW'
      isplitl [H0]; · iexact H0
      isplitl [H1]; · iexact H1
      isplitl [H2]; · iexact H2
      isplitl [H3]; · iexact H3
      unfold owns; iexists _; isplitr
      swap; · iexact H4
      ipureintro; exact View.read_writes_of_cover _ _ _ _ _ (cover0_4 c _ _ _ _ _ _ _ _ _ _ _ _ _ _ _ _ _ _ _ _)
    · exfalso; omega
  · by_cases h1 : t.val < 27
    · unfold outsAt0 out0_4
      have hr0 := rstep0_0_B t (fun h => h0 ((hcond0_0 t).mp h)) ((hcond0_1 t).mpr h1)
      obtain ⟨hK10, hKB0, hKs0⟩ := hr0
      rw [if_neg (show ¬t.val = 0 by omega), if_neg (show ¬t.val + 1 = 0 by omega)]
      rw [Ring.AtK2_here _ _ _ _ _ t.val hK10 hKB0, Ring.AtK2_next _ _ _ _ _ t.val hK10 hKB0]
      iintro ⟨⟨HS0, HS1, Hg, ⟨-, Hfl0_0, Hkp0_0⟩⟩, ⟨%W, -, HW⟩, ⟨%d0, H0⟩, ⟨%d1, H1⟩, ⟨%d2, H2⟩, ⟨%d3, H3⟩, ⟨%d4, H4⟩⟩
      iapply (kernelRun0_B c t _ _ _ _ _ _ _ _ _ _ _ _ _ _ (fun h => h0 ((hcond0_0 t).mp h)) ((hcond0_1 t).mpr h1) (iblk m c 0 t) (iblk m c 1 t) (iblk m c 2 t) (iblk m c 3 t) (V m c main_v0) W _)
      isplitl [H0]; · iexact H0
      isplitl [H1]; · iexact H1
      isplitl [H2]; · iexact H2
      isplitl [H3]; · iexact H3
      isplitl [H4]; · iexists _; iexact H4
      isplitl [HS0]; · iexact HS0
      isplitl [HS1]; · iexact HS1
      isplitl [Hfl0_0]; · iexact Hfl0_0
      isplitl [Hkp0_0]; · iexact Hkp0_0
      isplitl [HW]; · iexact HW
      iintro ⟨H0, H1, H2, H3, ⟨%e4, H4⟩, HS0, HS1, Hfl0_0', Hkp0_0', ⟨%W', HW'⟩⟩
      isplitl [HS0 HS1 Hg Hfl0_0' Hkp0_0']
      · isplitl [HS0]; · iexact HS0
        isplitl [HS1]; · iexact HS1
        isplitl [Hg]; · iexact Hg
        iapply (Ring.with_homes (Idealize.SL.BI.Entails.refl _))
        isplitl [Hfl0_0']; · iexact Hfl0_0'
        iexact Hkp0_0'
      isplitl [HW']
      · iexists W'; isplitr; · ipureintro; exact fun _ _ => Or.inl trivial
        iexact HW'
      isplitl [H0]; · iexact H0
      isplitl [H1]; · iexact H1
      isplitl [H2]; · iexact H2
      isplitl [H3]; · iexact H3
      unfold owns; iexists _; isplitr
      swap; · iexact H4
      ipureintro; exact View.read_writes_of_cover _ _ _ _ _ (cover0_4 c _ _ _ _ _ _ _ _ _ _ _ _ _ _ _ _ _ _ _ _)
    · unfold outsAt0 out0_4
      have hr0 := rstep0_0_C t (fun h => h0 ((hcond0_0 t).mp h)) (fun h => h1 ((hcond0_1 t).mp h))
      obtain ⟨hK10, hKB0, hKs0⟩ := hr0
      rw [if_neg (show ¬t.val = 0 by omega), if_neg (show ¬t.val + 1 = 0 by omega)]
      rw [Ring.AtK2_here_last _ _ _ _ _ t.val hK10 hKB0, Ring.AtK2_next_last _ _ _ _ _ t.val hK10 hKB0]
      iintro ⟨⟨HS0, HS1, Hg, ⟨-, Hfl0_0, Hkp0_0⟩⟩, ⟨%W, -, HW⟩, ⟨%d0, H0⟩, ⟨%d1, H1⟩, ⟨%d2, H2⟩, ⟨%d3, H3⟩, ⟨%d4, H4⟩⟩
      iapply (kernelRun0_C c t _ _ _ _ _ _ _ _ _ _ _ _ _ _ (fun h => h0 ((hcond0_0 t).mp h)) (fun h => h1 ((hcond0_1 t).mp h)) (iblk m c 0 t) (iblk m c 1 t) (iblk m c 2 t) (iblk m c 3 t) (V m c main_v0) W _)
      isplitl [H0]; · iexact H0
      isplitl [H1]; · iexact H1
      isplitl [H2]; · iexact H2
      isplitl [H3]; · iexact H3
      isplitl [H4]; · iexists _; iexact H4
      isplitl [HS0]; · iexact HS0
      isplitl [HS1]; · iexact HS1
      isplitl [Hfl0_0]; · iexact Hfl0_0
      isplitl [HW]; · iexact HW
      iintro ⟨H0, H1, H2, H3, ⟨%e4, H4⟩, HS0, HS1, Hkp0_0', ⟨%W', HW'⟩⟩
      isplitl [HS0 HS1 Hg Hkp0_0 Hkp0_0']
      · isplitl [HS0]; · iexact HS0
        isplitl [HS1]; · iexact HS1
        isplitl [Hg]; · iexact Hg
        iapply (Ring.with_homes (Idealize.SL.BI.Entails.refl _))
        isplitl [Hkp0_0]; · iexact Hkp0_0
        iexact Hkp0_0'
      isplitl [HW']
      · iexists W'; isplitr; · ipureintro; exact fun _ _ => Or.inl trivial
        iexact HW'
      isplitl [H0]; · iexact H0
      isplitl [H1]; · iexact H1
      isplitl [H2]; · iexact H2
      isplitl [H3]; · iexact H3
      unfold owns; iexists _; isplitr
      swap; · iexact H4
      ipureintro; exact View.read_writes_of_cover _ _ _ _ _ (cover0_4 c _ _ _ _ _ _ _ _ _ _ _ _ _ _ _ _ _ _ _ _)

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (`triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands the region (`ΦD`: the scratch, the register, the cells at zero, the HBM operands whole) is the
    invariant before the first point, and the invariant after the last point hands it back. -/
theorem hin (c : Dev nD) : Pipeline.ΦD osem0 spec0 H0 (V m) c ⊢ (dats m 0 c).Φ 0 := by
  rw [PhiD0_eq, show (dats m 0 c).Φ 0 = PhiR m c 0 from rfl]
  unfold PhiR
  iintro ⟨⟨HS0, HS1, HR0_0⟩, Hg, ⟨Hq0, Hq1⟩, Hh0⟩
  isplitl [HS0]; · iexact HS0
  isplitl [HS1]; · iexact HS1
  isplitl [Hg]; · iexact Hg
  iapply (ring0_0_in (F := F) m c)
  isplitl [HR0_0]; · iexact HR0_0
  isplitl [Hq0 Hq1]
  · isplitl [Hq0]; · iexact Hq0
    iexact Hq1
  iexact Hh0
theorem hout (c : Dev nD) : (dats m 0 c).Φ (Fin.last cfg0.N) ⊢ Pipeline.ΦD osem0 spec0 H0 (V m) c := by
  rw [PhiD0_eq, show (dats m 0 c).Φ (Fin.last cfg0.N) = PhiR m c grid0.N from rfl]
  unfold PhiR
  rw [show grid0.N = 28 by rw [N_0]]
  iintro ⟨HS0, HS1, Hg, HR0_0⟩
  ihave HX0_0 := (ring0_0_out (F := F) m c) $$ HR0_0
  icases HX0_0 with ⟨HR0_0, ⟨Hq0, Hq1⟩, Hh0⟩
  isplitl [HS0 HS1 HR0_0]
  · isplitl [HS0]; · iexact HS0
    isplitl [HS1]; · iexact HS1
    iexact HR0_0
  isplitl [Hg]
  · iexact Hg
  isplitl [Hq0 Hq1]
  · isplitl [Hq0]; · iexact Hq0
    iexact Hq1
  iexact Hh0

/-! ## The run and the frame -/

-- `θ_run_frame_dma`'s implicit arguments are found by unifying its conclusion with this one, which takes unfolding plain
-- definitions in a metavariable's type
set_option backward.isDefEq.respectTransparency.types false in
/-- The launch: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame_dma (Q' := _) cfgs (dats m) (0 : Fin 1) launch0 osem0 defs₀ Variants.none ownSemFacts0 H0 H0_sub m ρ main
    (hbody := fun c => (body_obligation m c).loose) (hshare := fun c => (dats m 0 c).share_full fun _ => rfl)
    (howed := fun _ _ => rfl) (V := V m) (hmain := hmain m Variants.none) (hA := A_eq m)
    (hin := hin m) (hout := hout m)

/-- At the compiled mesh, for any values, from any memory with zero counters: every weakly fair execution of @main on the
    TensorCores terminates, and every final state has every array of the pipeline at what the library computes from the
    proof data and every other unscoped buffer as the region found it (`FramePost`). -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ (dats m) (A_eq m) (run_main m ρ)

/-- The frame at any `F`: every run ends, the argument arrays end unchanged and every semaphore counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (unchanged m ρ) ((θ_run defs _ _).mono (fun _ h => h.2) (run_main_quiescent m ρ))

end Cert.Kernel.Rg

end
-- ==== Proof.Ideal.Ring.lean ====
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.KernelIdeal.Rg

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)
/-! ## @main up to the region -/

/-- Core `c`'s TensorCore buffers when the region is entered: after the host operations `hostOps0`. -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

set_option maxHeartbeats 800000 in
/-- @main up to the region, at the certificate's variants `𝒱₀`: the host operations then the region
    (`Pipeline.hmain_prefix`: `StableHlo.wp_seq` over the unscoped buffers, off `main_chain`). -/
theorem hmain (𝒱₀ : Variants) : Pipeline.HMain (Ix := Unit) (Name := ℕ) (U := Pipeline.UD sig nD τ) (Lvl := ℕ) cfgs 0 defs₀ 𝒱₀ m (main (F := F)) (V m) :=
  Pipeline.hmain_prefix cfgs 0 defs₀ 𝒱₀ m main hostOps0 hostOps0_sub hostOps0_fresh main_chain

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg4`: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not, for ANY proof
    data whose array is `V`'s (`hA`) and whose body leaves the block in place (`hafter`): the library's
    `Dat.before_in_eq_fetched` (unfetched, the index has not moved), the window uncut and never idle. -/
theorem before0_0_of {c : Dev nD} (dat : Dat τ (Elt F) Unit ℕ (Pipeline.UD sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): the library's
    `Dat.before_in_eq_fetched` (unfetched, the index has not moved), the window uncut and never idle. -/
theorem before0_1_of {c : Dev nD} (dat : Dat τ (Elt F) Unit ℕ (Pipeline.UD sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): the library's
    `Dat.before_in_eq_fetched` (unfetched, the index has not moved), the window uncut and never idle. -/
theorem before0_2_of {c : Dev nD} (dat : Dat τ (Elt F) Unit ℕ (Pipeline.UD sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for ANY proof
    data whose array is `V`'s (`hA`) and whose body leaves the block in place (`hafter`): the library's
    `Dat.before_in_eq_fetched` (unfetched, the index has not moved), the window uncut and never idle. -/
theorem before0_3_of {c : Dev nD} (dat : Dat τ (Elt F) Unit ℕ (Pipeline.UD sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- The frame from a frame run: for any proof data whose arrays are the region-entry contents (`hA`), a run to
    the library's `FramePost` read at the argument arrays — a staged input by the library's
    `Dat.arrAt_in`, an array no window stages by the post's second clause, each then by `V_…` — is the frame
    claim's post, at any `F`. -/
theorem frame_of (dats : (p : Fin 1) → (c : Dev nD) → Dat τ (Elt F) Unit ℕ (Pipeline.UD sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨((h c).1 0).trans (((dats 0 c).arrAt_in 0 rfl _).trans ((hA c 0).trans (V_main_arg0 m c))),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c)⟩) h

/-! ## The body's branch conditions -/

/-- The condition of the body's `scf.if` 0 (`k0_h1`), from the grid coordinates (the skeleton's scalar
    chain substituted). -/
abbrev cond0_0 (i : grid0.Coords) : Prop := (Scalar.cmpi .ne (Scalar.extui (Scalar.cmpi .eq (BitVec.ofNat 32 (i 0).val) 0#32)) 0#32) = 1#1
/-- It holds at the first point only — by arithmetic of the point. -/
theorem hcond0_0 : ∀ t : Fin cfg0.N, cond0_0 (grid0.coords t) ↔ t.val % 28 = 0 :=
  (fun t => by
    have ht : t.val < 28 := Nat.lt_of_lt_of_eq t.isLt N_0
    have e0 : (grid0.coords t 0).val = t.val / 1 % 28 := Pipeline.Grid.coords_val t 0 (by decide) rfl
    simp only [cond0_0, e0]
    word_cmp
   : ∀ t : Fin grid0.N, cond0_0 (grid0.coords t) ↔ t.val % 28 = 0)

/-- The condition of the body's `scf.if` 1 (`k0_h2`), from the grid coordinates (the skeleton's scalar
    chain substituted). -/
abbrev cond0_1 (i : grid0.Coords) : Prop := k0_cond2 i = 1#1
/-- It holds at the points before point 27 — decided over the grid. -/
theorem hcond0_1 : ∀ t : Fin cfg0.N, cond0_1 (grid0.coords t) ↔ t.val < 27 :=
  (by decide +kernel : ∀ t : Fin grid0.N, cond0_1 (grid0.coords t) ↔ t.val < 27)

/-! ## The kernel body on any staging memrefs: a subtype the run finds -/

/-- One staging buffer of output window 4, through which its contents are stated (`View.read_writes_of_cover`: the
    choice does not matter). -/
abbrev VO0_4 : View sig .tc .vmem S36x512 .f32 := (Memref.whole cc0_stg4_0 : Memref sig .tc .vmem S36x512 .f32).view
/-- Each window's current staging memref at point `t`, spelled as the pipeline passes it (`bodyAt0`), and its wholeness. -/
abbrev ms0_0 (t : Fin cfg0.N) : Memref sig .tc .vmem S36x4096 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S12x16x512 .i8 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S16x512 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S16x512 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S36x512 .f32 := win0_4.stage (cfg0.slots t 4)
abbrev hs0_4 (t : Fin cfg0.N) : (ms0_4 t).IsWhole := hstage0_4 ((cfg0.slots t 4).cast nbuf0_4)
/-- The scratch operands: whole scoped buffers of the kernel's own, passed beside the windows. -/
abbrev scM0_0 : Memref sig .tc .vmem S2x4x16x2x128 .bf16 := Memref.whole cc0_scratch0
abbrev scM0_1 : Memref sig .tc .vmem S2x4x16x2x128 .bf16 := Memref.whole cc0_scratch1
abbrev scM0_2 : Memref sig .tc .vmem S2x8192x128 .i8 := Memref.whole cc0_scratch2
/-- The operands left in HBM that the body copies into scratch itself, whole. -/
abbrev hbM0_0 : Memref sig .tc .hbm S229376x128 .i8 := Memref.whole main_v0
/-- Memref `M`'s buffer on core `c`: its contents type, and it held whole at `f` — behind this abbreviation, so that the
    run's rewriting of the goal leaves `Memref.view` intact (the form the executor reads a held buffer in). -/
abbrev HbBuf0 (c : Dev nD) {sp : Space} {S : Shape} {e : EltTy} (M : Memref sig .tc sp S e) : Type := Buf (Elt F) (M.view.loc (c : Thread nD τ))
abbrev hbPt0 (c : Dev nD) {sp : Space} {S : Shape} {e : EltTy} (M : Memref sig .tc sp S e) (f : HbBuf0 (F := F) c M) : sProp 𝕄 :=
  M.view.loc (c : Thread nD τ) ↦{fullShare} f

/-- The body's own DMA semaphores, cell by cell (their numbers in the pool): the kernel's own semaphores for the launch
    (`Pipeline.OwnSemFacts`: none is a window's). -/
abbrev osem0 : Fin 2 → SemLoc sig := fun j => (![SemLoc.dma 9, SemLoc.dma 10] : Fin 2 → SemLoc sig) j
theorem ownSemFacts0 : Pipeline.OwnSemFacts spec0 osem0 := by decide
/-- The cells at zero, listed. -/
theorem ownSems00_eq (c : Dev nD) :
    (Pipeline.ownSems0 (Ix := Unit) (Name := ℕ) (U := Pipeline.UD sig nD τ) (Lvl := ℕ) (Val := Elt F) (τ := τ) osem0 c : sProp 𝕄)
      = iprop(semVal ((c : Thread nD τ), SemLoc.dma 9) 0 ∗ semVal ((c : Thread nD τ), SemLoc.dma 10) 0) := by
  rw [Pipeline.ownSems0_eq_of_list c osem0 [0, 1] (by decide) (by decide)]; rfl
/-- The HBM operands the body moves, as references: unscoped, no window's array (`Pipeline.restRefs`). -/
def H0 : Finset (Ref sig .tc) := {main_v0}
theorem H0_sub : H0 ⊆ Pipeline.restRefs sig spec0 := by decide
/-- Their points-tos at the launch contents, listed. -/
theorem hbmPts0_eq (c : Dev nD) :
    (bigSep H0 (fun b => ((c : Thread nD τ).loc b) ↦{fullShare} V m c b) : sProp 𝕄) = iprop(hbPt0 c hbM0_0 (V m c main_v0)) := by
  rw [BI.bigSep_eq_bigSepL_of_eq [main_v0] (by decide) (by decide)]; rfl

/-- The invariant of a body with transfers of its own, `Pipeline.ΦD`, conjunct by conjunct: the scratch operands owned at
    some contents, the generator register at some state, the own cells at zero, the HBM operands at their launch
    contents — what the body obligation hands the run and takes back. -/
theorem PhiD0_eq (c : Dev nD) :
    (Pipeline.ΦD osem0 spec0 H0 (V m) c : sProp 𝕄)
      = iprop(iprop((∃ d, owns (c : Thread nD τ) scM0_0 fullShare d) ∗ (∃ d, owns (c : Thread nD τ) scM0_1 fullShare d) ∗ (∃ d, owns (c : Thread nD τ) scM0_2 fullShare d)) ∗ (∃ r, prngReg c r) ∗ iprop(semVal ((c : Thread nD τ), SemLoc.dma 9) 0 ∗ semVal ((c : Thread nD τ), SemLoc.dma 10) 0) ∗ iprop(hbPt0 c hbM0_0 (V m c main_v0))) := by
  rw [Pipeline.ΦD_eq, scopedRest0_eq, ownSems00_eq, hbmPts0_eq]; simp only [scM0_0, scM0_1, scM0_2, owns_whole]; try rfl

/-! ## Ring 0 of kernel 0: `main_v0` streamed through the 2 slots of `cc0_scratch2` on the cells of `cc0_scratch3`, 1 block ahead, in 28 steps -/

instance : NeZero grid0.N := ⟨by rw [N_0]; decide⟩
theorem inb_slot0_0 (s : Fin 2) : ∀ a, (![s.val, 0, 0] : Fin 3 → Nat) a + S1x8192x128.size a ≤ S2x8192x128.size a := by
  have := s.isLt; intro a; fin_cases a <;> simp <;> omega
theorem inb_src0_0 (b : Fin 28) : ∀ a, (![8192 * b.val, 0] : Fin 2 → Nat) a + S8192x128.size a ≤ S229376x128.size a := by
  have := b.isLt; intro a; fin_cases a <;> simp <;> omega
theorem inb_cell0_0 (s : Fin 2) : ∀ a, (![s.val] : Fin 1 → Nat) a + S1.size a ≤ S2.size a := by
  have := s.isLt; intro a; fin_cases a <;> simp <;> omega
/-- Slot `s` of the ring, spelt as the body's transfers spell their destination, at offsets in `s`. -/
def rslot0_0 (s : Fin 2) : Memref sig .tc .vmem S8192x128 .i8 :=
  (scM0_2.slice (Rect.unit (s := S2x8192x128) ![s.val, 0, 0] S1x8192x128.size (inb_slot0_0 s)) (fun _ => rfl)).squeeze S8192x128 squeezes_S1x8192x128_S8192x128
/-- Block `b` of the operand (the block step `b` waits), spelt as the transfers spell their source, at offsets in `b`. -/
def srcB0_0 (b : Fin 28) : Memref sig .tc .hbm S8192x128 .i8 :=
  hbM0_0.slice (Rect.unit (s := S229376x128) ![8192 * b.val, 0] S8192x128.size (inb_src0_0 b)) (fun _ => rfl)
/-- Cell `s` of `cc0_scratch3`, spelt as the body spells a cell; its number in the pool. -/
def cellA0_0 (s : Fin 2) : DmaSems sig S_ := (cc0_scratch3.slice (Rect.unit (s := S2) ![s.val] S1.size (inb_cell0_0 s))).squeeze S_ squeezes_S1_S_
abbrev cellR0_0 (s : Fin 2) : SemLoc sig := SemLoc.dma (cellA0_0 s).sem
theorem cellR0_0_0 : cellR0_0 0 = SemLoc.dma 9 := by decide
theorem cellR0_0_1 : cellR0_0 1 = SemLoc.dma 10 := by decide

section Ring0_0
variable (c : Dev nD) (W : HbBuf0 (F := F) c hbM0_0)
/-- The operand is lent BY SHARE, one read-share copy of it per slot (the left and right halves of the full share): whatever
    blocks two transfers in flight stream — the same one twice, two that overlap —, each borrows from its own slot's copy. -/
abbrev qs0_0 (s : Fin 2) : PosShare TreeShare := if s.val = 0 then fullShare.left else fullShare.right
/-- The families the ring is stated over: slot `s` held at `f`; cell `s` at zero; block `b`'s elements of slot `s`'s copy of the
    operand (what a transfer into slot `s` lends), the REST of that copy, and the copy whole; slot `s`'s contents once block `b`
    landed in it whole over `f` (the executor's listed write); the FLIGHT of block `b` into slot `s`, delivering the slot landed
    and the lent elements back. -/
abbrev slotP0_0 (s : Fin 2) (f : HbBuf0 (F := F) c (rslot0_0 s)) : sProp 𝕄 := (rslot0_0 s).view.loc (c : Thread nD τ) ↦[(rslot0_0 s).view.set]{fullShare} f
abbrev cellP0_0 (s : Fin 2) : sProp 𝕄 := semVal ((c : Thread nD τ), cellR0_0 s) 0
abbrev srcP0_0 (s : Fin 2) (b : Fin 28) : sProp 𝕄 := (srcB0_0 b).view.loc (c : Thread nD τ) ↦[(srcB0_0 b).view.set]{qs0_0 s} W
/-- (a `def`: no run reads this rest, and folded it stays out of the executor's table of held buffers) -/
def restP0_0 (s : Fin 2) (b : Fin 28) : sProp 𝕄 := ((c : Thread nD τ).loc main_v0) ↦[Finset.univ \ (srcB0_0 b).view.set]{qs0_0 s} W
abbrev wholeP0_0 (s : Fin 2) : sProp 𝕄 := ((c : Thread nD τ).loc main_v0) ↦[Finset.univ]{qs0_0 s} W
abbrev landed0_0 (s : Fin 2) (b : Fin 28) (f : HbBuf0 (F := F) c (rslot0_0 s)) : HbBuf0 (F := F) c (rslot0_0 s) :=
  (rslot0_0 s).view.writes (Elt F) f [⟨Rect.whole S8192x128, ReadAs.same.apply ((srcB0_0 b).view.read (Elt F) W)⟩]
abbrev flightP0_0 (s : Fin 2) (b : Fin 28) (f : HbBuf0 (F := F) c (rslot0_0 s)) : sProp 𝕄 :=
  Transfers.Flight countersEmb (c : Thread nD τ) (cellR0_0 s) default ((rslot0_0 s).view.amount (cellR0_0 s))
    iprop(slotP0_0 c s (landed0_0 c W s b f) ∗ srcP0_0 c W s b)
/-- The library's `slot` and `flight` families: a slot not in flight carries its copy of the operand whole; a flight, the
    rest of the copy it borrowed from. No block is held apart: the `home` family is `emp`. -/
abbrev slotW0_0 (s : Fin 2) (f : HbBuf0 (F := F) c (rslot0_0 s)) : sProp 𝕄 := iprop(slotP0_0 c s f ∗ wholeP0_0 c W s)
abbrev flightW0_0 (s : Fin 2) (b : Fin 28) (f : HbBuf0 (F := F) c (rslot0_0 s)) : sProp 𝕄 := iprop(flightP0_0 c W s b f ∗ restP0_0 c W s b)
abbrev noHome0_0 (b : Fin 28) : sProp 𝕄 := iprop(emp)
/-- The ring before its step `k` (the library's `AtK`): every slot free before the first; from then on block `k` in flight
    into slot `k`, slot `k + 1` KEEPING block `k - 1` (landed, readable) until the step starts block `k + 1` over it. -/
def ringAt0_0 (k : ℕ) : sProp 𝕄 :=
  if k = 0 then Ring.At₀ (cellP0_0 c) (slotW0_0 c W) noHome0_0
  else Ring.AtK 1 (cellP0_0 c) (slotW0_0 c W) noHome0_0 (flightW0_0 c W) (landed0_0 c W) k
omit [FloatOps F] in
theorem cellP0_0_0 : cellP0_0 (F := F) c 0 = semVal ((c : Thread nD τ), SemLoc.dma 9) 0 := congrArg (fun x => (semVal ((c : Thread nD τ), x) 0 : sProp 𝕄)) cellR0_0_0
omit [FloatOps F] in
theorem cellP0_0_1 : cellP0_0 (F := F) c 1 = semVal ((c : Thread nD τ), SemLoc.dma 10) 0 := congrArg (fun x => (semVal ((c : Thread nD τ), x) 0 : sProp 𝕄)) cellR0_0_1
end Ring0_0

/-! ### The slots, disjoint and covering the scratch (the library's `lead_disjoint` / `lead_cover`) -/

abbrev slotSet0_0 (s : Fin 2) : Finset S2x8192x128.Idx := (Rect.unit (s := S2x8192x128) ![s.val, 0, 0] S1x8192x128.size (inb_slot0_0 s)).set
theorem slotSet0_0_eq (s : Fin 2) : (rslot0_0 s).view.set = slotSet0_0 s := by
  simp only [rslot0_0, Memref.view_squeeze, View.set_reshape]; exact View.set_slice_whole _ _
theorem slots0_0_disjoint (s s' : Fin 2) (h : s ≠ s') : Disjoint (slotSet0_0 s) (slotSet0_0 s') :=
  Ring.lead_disjoint (s := S2x8192x128) (0 : Fin 3) 1 (fun s : Fin 2 => (![s.val, 0, 0] : Fin 3 → Nat)) S1x8192x128.size inb_slot0_0 (fun s => by simp) rfl s s' h
theorem slots0_0_cover : Finset.univ.biUnion slotSet0_0 = Finset.univ :=
  Ring.lead_cover (s := S2x8192x128) (0 : Fin 3) 1 (fun s : Fin 2 => (![s.val, 0, 0] : Fin 3 → Nat)) S1x8192x128.size inb_slot0_0 (fun s => by simp)
    (fun s a ha => by fin_cases a <;> first | exact absurd rfl ha | rfl) rfl (fun a ha => by fin_cases a <;> first | exact absurd rfl ha | rfl) rfl

/-! ### What the launch hands the ring, and takes back -/

section InOut0_0
variable (c : Dev nD) (W : HbBuf0 (F := F) c hbM0_0)
theorem slotP0_0_eq (s : Fin 2) (f) : slotP0_0 (F := F) c s f = (((c : Thread nD τ).loc cc0_scratch2) ↦[slotSet0_0 s]{fullShare} f : sProp 𝕄) := by
  unfold slotP0_0; rw [slotSet0_0_eq]; rfl
/-- A slot's copy of the operand, whole, is block `b`'s elements and the rest (any `b`: what a run splits off before its step
    starts block `b`, and joins back once the wait returned it); -/
theorem src0_0_split (s : Fin 2) (b : Fin 28) : wholeP0_0 (F := F) c W s ⊣⊢ iprop(srcP0_0 c W s b ∗ restP0_0 c W s b) := by
  unfold restP0_0; exact pointsTo_split_subset (Finset.subset_univ _)
/-- the operand whole at the full share is the two copies. -/
theorem whole0_0_split : (hbPt0 c hbM0_0 W : sProp 𝕄) ⊣⊢ iprop(wholeP0_0 c W 0 ∗ wholeP0_0 c W 1) :=
  pointsTo_share (PosShare.mem_left_op_right fullShare)
set_option maxHeartbeats 1000000 in
/-- the scratch whole at anything is its slots at something each, and back. -/
theorem slots0_0_in : iprop(∃ d, owns (c : Thread nD τ) scM0_2 fullShare d) ⊢ (iprop((∃ f, slotP0_0 (F := F) c 0 f) ∗ ∃ f, slotP0_0 (F := F) c 1 f) : sProp 𝕄) := by
  simp only [scM0_2, owns_whole]
  exact Ring.slots2_split (U := Pipeline.UD sig nD τ) (ℓ := (c : Thread nD τ).loc cc0_scratch2) (q := fullShare) slotSet0_0 slots0_0_disjoint slots0_0_cover
    (slotP0_0 c 0) (slotP0_0 c 1) (slotP0_0_eq c 0) (slotP0_0_eq c 1)
set_option maxHeartbeats 1000000 in
theorem slots0_0_out : (iprop((∃ f, slotP0_0 (F := F) c 0 f) ∗ ∃ f, slotP0_0 (F := F) c 1 f) : sProp 𝕄) ⊢ iprop(∃ d, owns (c : Thread nD τ) scM0_2 fullShare d) := by
  simp only [scM0_2, owns_whole]
  exact Ring.slots2_join (U := Pipeline.UD sig nD τ) (ℓ := (c : Thread nD τ).loc cc0_scratch2) (q := fullShare) slotSet0_0 slots0_0_disjoint slots0_0_cover
    (slotP0_0 c 0) (slotP0_0 c 1) (slotP0_0_eq c 0) (slotP0_0_eq c 1)
end InOut0_0

/-- INTO THE RING: the launch's pieces — the scratch whole, the cells at zero, the operand whole — are the ring before its first step; -/
theorem ring0_0_in (c : Dev nD) :
    iprop((∃ d, owns (c : Thread nD τ) scM0_2 fullShare d) ∗ (semVal ((c : Thread nD τ), SemLoc.dma 9) 0 ∗ semVal ((c : Thread nD τ), SemLoc.dma 10) 0) ∗ hbPt0 c hbM0_0 (V m c main_v0))
      ⊢ ringAt0_0 c (V m c main_v0) 0 := by
  unfold ringAt0_0; rw [if_pos rfl]; unfold Ring.At₀
  rw [Ring.bigSep_fin2]
  simp only [Ring.free, cellP0_0_0, cellP0_0_1]
  iintro ⟨HS, Hc, HW⟩
  iapply Ring.with_homes₀
  icases Hc with ⟨H0, H1⟩
  ihave HS' := (slots0_0_in (F := F) c) $$ HS
  icases HS' with ⟨⟨%d0, HS0⟩, ⟨%d1, HS1⟩⟩
  ihave HW' := (whole0_0_split (F := F) c (V m c main_v0)).1 $$ HW
  icases HW' with ⟨HW0, HW1⟩
  isplitl [H0 HS0 HW0]
  · isplitl [H0]; · iexact H0
    iexists d0; isplitl [HS0]; · iexact HS0
    iexact HW0
  · isplitl [H1]; · iexact H1
    iexists d1; isplitl [HS1]; · iexact HS1
    iexact HW1
/-- OUT OF THE RING: after the last step (every slot kept or free: the kept blocks forgotten) those pieces again. -/
theorem ring0_0_out (c : Dev nD) :
    ringAt0_0 c (V m c main_v0) 28
      ⊢ iprop((∃ d, owns (c : Thread nD τ) scM0_2 fullShare d) ∗ (semVal ((c : Thread nD τ), SemLoc.dma 9) 0 ∗ semVal ((c : Thread nD τ), SemLoc.dma 10) 0) ∗ hbPt0 c hbM0_0 (V m c main_v0)) := by
  unfold ringAt0_0; rw [if_neg (by decide)]
  iintro H
  ihave H' := (Ring.free2_of_AtK_last _ _ _ _ _) $$ H
  simp only [Ring.free, cellP0_0_0, cellP0_0_1]
  icases H' with ⟨-, ⟨H0, ⟨%f0, HS0, HW0⟩⟩, ⟨H1, ⟨%f1, HS1, HW1⟩⟩⟩
  isplitl [HS0 HS1]
  · iapply (slots0_0_out (F := F) c); isplitl [HS0]; · iexists f0; iexact HS0
    iexists f1; iexact HS1
  isplitl [H0 H1]
  · isplitl [H0]; · iexact H0
    iexact H1
  · iapply (whole0_0_split (F := F) c (V m c main_v0)).2; isplitl [HW0]; · iexact HW0
    iexact HW1

/-! ### Ring 0's steps at each case's points, and its canonical names: the body's operands at point `t` are the ring's slots, blocks and cells -/

section Canon0_0
omit [FloatOps F]
/-- At the points of case A the ring takes its FIRST step. -/
theorem rstep0_0_A : ∀ t : Fin grid0.N, cond0_0 (grid0.coords t) → cond0_1 (grid0.coords t) → t.val = 0 ∧ (t.val + 1) = 1 := by decide +kernel
/-- At the points of case B the ring takes a step, a block still to start. -/
theorem rstep0_0_B : ∀ t : Fin grid0.N, ¬cond0_0 (grid0.coords t) → cond0_1 (grid0.coords t) → 1 ≤ t.val ∧ t.val + 1 < 28 ∧ (t.val + 1) = t.val + 1 := by decide +kernel
/-- At the points of case C the ring takes its LAST step. -/
theorem rstep0_0_C : ∀ t : Fin grid0.N, ¬cond0_0 (grid0.coords t) → ¬cond0_1 (grid0.coords t) → 1 ≤ t.val ∧ t.val + 1 = 28 ∧ (t.val + 1) = t.val + 1 := by decide +kernel
set_option synthInstance.maxSize 4096 in
theorem coff0_0_1 : ∀ t : Fin grid0.N, cond0_0 (grid0.coords t) → cond0_1 (grid0.coords t) → (![0, 0, 0] : Fin 3 → Nat) = ![(Ring.sl 2 t.val).val, 0, 0] := by decide +kernel
@[sl_canon] theorem canon0_0_1 (t : Fin grid0.N) (h0 : cond0_0 (grid0.coords t)) (h1 : cond0_1 (grid0.coords t)) :
    (scM0_2.slice (Rect.unit (s := S2x8192x128) ![0, 0, 0] S1x8192x128.size inb_S2x8192x128_S1x8192x128_0_0_0) (fun _ => rfl)).squeeze S8192x128 squeezes_S1x8192x128_S8192x128 = rslot0_0 (Ring.sl 2 t.val) :=
  congrArg (fun M : Memref sig .tc .vmem S1x8192x128 .i8 => M.squeeze S8192x128 squeezes_S1x8192x128_S8192x128) (Memref.slice_unit_congr _ (coff0_0_1 t h0 h1) _ _ (fun _ => rfl) (fun _ => rfl))
set_option synthInstance.maxSize 4096 in
theorem coff0_0_2 : ∀ t : Fin grid0.N, cond0_0 (grid0.coords t) → cond0_1 (grid0.coords t) → (![0] : Fin 1 → Nat) = ![(Ring.sl 2 t.val).val] := by decide +kernel
@[sl_canon] theorem canon0_0_2 (t : Fin grid0.N) (h0 : cond0_0 (grid0.coords t)) (h1 : cond0_1 (grid0.coords t)) :
    (cc0_scratch3.slice (Rect.unit (s := S2) ![0] S1.size inb_S2_S1_0)).squeeze S_ squeezes_S1_S_ = cellA0_0 (Ring.sl 2 t.val) :=
  congrArg (fun A : DmaSems sig S1 => A.squeeze S_ squeezes_S1_S_) (SemArray.slice_unit_congr _ (coff0_0_2 t h0 h1) _ _)
set_option synthInstance.maxSize 4096 in
theorem coff0_0_3 : ∀ t : Fin grid0.N, cond0_0 (grid0.coords t) → cond0_1 (grid0.coords t) → (![0, 0] : Fin 2 → Nat) = ![8192 * (Ring.bk 28 t.val).val, 0] := by decide +kernel
@[sl_canon] theorem canon0_0_3 (t : Fin grid0.N) (h0 : cond0_0 (grid0.coords t)) (h1 : cond0_1 (grid0.coords t)) :
    hbM0_0.slice (Rect.unit (s := S229376x128) ![0, 0] S8192x128.size inb_S229376x128_S8192x128_0_0) (fun _ => rfl) = srcB0_0 (Ring.bk 28 t.val) :=
  congrArg (fun M : Memref sig .tc .hbm S8192x128 .i8 => M) (Memref.slice_unit_congr _ (coff0_0_3 t h0 h1) _ _ (fun _ => rfl) (fun _ => rfl))
set_option synthInstance.maxSize 4096 in
theorem coff0_0_4 : ∀ t : Fin grid0.N, k0_off2 (grid0.coords t) = ![(Ring.sl 2 (t.val + 1)).val, 0, 0] := by decide +kernel
@[sl_canon] theorem canon0_0_4 (t : Fin grid0.N) (h1 : cond0_1 (grid0.coords t)) :
    (scM0_2.slice (Rect.unit (s := S2x8192x128) (k0_off2 (grid0.coords t)) S1x8192x128.size (k0_off2_inb (grid0.coords t) h1)) (fun _ => rfl)).squeeze S8192x128 squeezes_S1x8192x128_S8192x128 = rslot0_0 (Ring.sl 2 (t.val + 1)) :=
  congrArg (fun M : Memref sig .tc .vmem S1x8192x128 .i8 => M.squeeze S8192x128 squeezes_S1x8192x128_S8192x128) (Memref.slice_unit_congr _ (coff0_0_4 t ) _ _ (fun _ => rfl) (fun _ => rfl))
set_option synthInstance.maxSize 4096 in
theorem coff0_0_5 : ∀ t : Fin grid0.N, k0_off1 (grid0.coords t) = ![(Ring.sl 2 (t.val + 1)).val] := by decide +kernel
@[sl_canon] theorem canon0_0_5 (t : Fin grid0.N) (h1 : cond0_1 (grid0.coords t)) :
    (cc0_scratch3.slice (Rect.unit (s := S2) (k0_off1 (grid0.coords t)) S1.size (k0_off1_inb (grid0.coords t) h1))).squeeze S_ squeezes_S1_S_ = cellA0_0 (Ring.sl 2 (t.val + 1)) :=
  congrArg (fun A : DmaSems sig S1 => A.squeeze S_ squeezes_S1_S_) (SemArray.slice_unit_congr _ (coff0_0_5 t ) _ _)
set_option synthInstance.maxSize 4096 in
theorem coff0_0_6 : ∀ t : Fin grid0.N, cond0_0 (grid0.coords t) → cond0_1 (grid0.coords t) → k0_off3 (grid0.coords t) = ![8192 * (Ring.bk 28 (t.val + 1)).val, 0] := by decide +kernel
@[sl_canon] theorem canon0_0_6 (t : Fin grid0.N) (h0 : cond0_0 (grid0.coords t)) (h1 : cond0_1 (grid0.coords t)) :
    hbM0_0.slice (Rect.unit (s := S229376x128) (k0_off3 (grid0.coords t)) S8192x128.size (k0_off3_inb (grid0.coords t) h1)) (fun _ => rfl) = srcB0_0 (Ring.bk 28 (t.val + 1)) :=
  congrArg (fun M : Memref sig .tc .hbm S8192x128 .i8 => M) (Memref.slice_unit_congr _ (coff0_0_6 t h0 h1) _ _ (fun _ => rfl) (fun _ => rfl))
set_option synthInstance.maxSize 4096 in
theorem coff0_0_7 : ∀ t : Fin grid0.N, k0_off5 (grid0.coords t) = ![(Ring.sl 2 t.val).val, 0, 0] := by decide +kernel
@[sl_canon] theorem canon0_0_7 (t : Fin grid0.N) :
    (scM0_2.slice (Rect.unit (s := S2x8192x128) (k0_off5 (grid0.coords t)) S1x8192x128.size (k0_off5_inb (grid0.coords t))) (fun _ => rfl)).squeeze S8192x128 squeezes_S1x8192x128_S8192x128 = rslot0_0 (Ring.sl 2 t.val) :=
  congrArg (fun M : Memref sig .tc .vmem S1x8192x128 .i8 => M.squeeze S8192x128 squeezes_S1x8192x128_S8192x128) (Memref.slice_unit_congr _ (coff0_0_7 t ) _ _ (fun _ => rfl) (fun _ => rfl))
set_option synthInstance.maxSize 4096 in
theorem coff0_0_8 : ∀ t : Fin grid0.N, k0_off4 (grid0.coords t) = ![(Ring.sl 2 t.val).val] := by decide +kernel
@[sl_canon] theorem canon0_0_8 (t : Fin grid0.N) :
    (cc0_scratch3.slice (Rect.unit (s := S2) (k0_off4 (grid0.coords t)) S1.size (k0_off4_inb (grid0.coords t)))).squeeze S_ squeezes_S1_S_ = cellA0_0 (Ring.sl 2 t.val) :=
  congrArg (fun A : DmaSems sig S1 => A.squeeze S_ squeezes_S1_S_) (SemArray.slice_unit_congr _ (coff0_0_8 t ) _ _)
set_option synthInstance.maxSize 4096 in
theorem coff0_0_9 : ∀ t : Fin grid0.N, ¬cond0_0 (grid0.coords t) → cond0_1 (grid0.coords t) → k0_off3 (grid0.coords t) = ![8192 * (Ring.bk 28 (t.val + 1)).val, 0] := by decide +kernel
@[sl_canon] theorem canon0_0_9 (t : Fin grid0.N) (h0 : ¬cond0_0 (grid0.coords t)) (h1 : cond0_1 (grid0.coords t)) :
    hbM0_0.slice (Rect.unit (s := S229376x128) (k0_off3 (grid0.coords t)) S8192x128.size (k0_off3_inb (grid0.coords t) h1)) (fun _ => rfl) = srcB0_0 (Ring.bk 28 (t.val + 1)) :=
  congrArg (fun M : Memref sig .tc .hbm S8192x128 .i8 => M) (Memref.slice_unit_congr _ (coff0_0_9 t h0 h1) _ _ (fun _ => rfl) (fun _ => rfl))
set_option synthInstance.maxSize 4096 in
theorem coff0_0_10 : ∀ (t : Fin grid0.N) (k : Fin k0_t1_loop.trips) (r : Fin 2), k0_off20 (grid0.coords t) k (BitVec.ofNat 32 (128 * r.val)) = ![(Ring.sl 2 t.val).val, 4096 * k.val + 2048 * r.val, 0] := by decide +kernel
/-- A trip's first load from the ring, its box in the slot's spelling (the block this step waited). -/
instance (priority := high) closedOff0_0_10 (t : Fin grid0.N) (k : Fin k0_t1_loop.trips) : ClosedOff (k0_off20 (grid0.coords t) k (BitVec.ofNat 32 0)) := ⟨![(Ring.sl 2 t.val).val, 4096 * k.val + 2048 * 0, 0], coff0_0_10 t k ⟨0, by decide⟩⟩
/-- A trip's second load from the ring. -/
instance (priority := high) closedOff0_0_11 (t : Fin grid0.N) (k : Fin k0_t1_loop.trips) : ClosedOff (k0_off20 (grid0.coords t) k (BitVec.ofNat 32 128)) := ⟨![(Ring.sl 2 t.val).val, 4096 * k.val + 2048 * 1, 0], coff0_0_10 t k ⟨1, by decide⟩⟩
/-- A trip's load from the ring stays inside the slot this step waited. -/
theorem ringLoad_sub (t : Fin grid0.N) (k : Fin k0_t1_loop.trips) (r : Fin 2) :
    scM0_2.view.setOn (Rect.unit (s := S2x8192x128) (k0_off20 (grid0.coords t) k (BitVec.ofNat 32 (128 * r.val))) S1x2048x128.size (k0_off20_inb (grid0.coords t) k r)).set ⊆ (rslot0_0 (Ring.sl 2 t.val)).view.set := by
  rw [slotSet0_0_eq]
  have e := coff0_0_10 t k r
  have hk : k.val < 2 := k.isLt
  have hr : r.val < 2 := r.isLt
  intro y hy
  obtain ⟨y', hy', rfl⟩ := Finset.mem_map.mp hy
  show y' ∈ slotSet0_0 _
  rw [Rect.mem_set_unit] at hy' ⊢
  intro a
  have h := hy' a
  rw [e] at h
  fin_cases a <;> simp at h ⊢ <;> omega
end Canon0_0

end Cert.KernelIdeal.Rg

end
-- ==== Proof.Ideal.Trip.lean ====
module

public import proofs.«01_k».proof.Proof.Ideal.Ring
public import proofs.«01_k».proof.Proof.Gen.KernelIdeal.Loops

@[expose] public section

set_option maxRecDepth 16384

noncomputable section

namespace Cert.KernelIdeal.Rg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-- The box the trip writes for half `h`, group `g` and parity `p`: every other row, from row `p`. -/
def scrRect (h : Fin 2) (g : Fin 4) (p : Fin 2) : Rect S2x4x16x2x128 :=
  ⟨(⟨![h.val, g.val, p.val, 0, 0], S1x1x8x2x128.size, ![1, 1, 2, 1, 1], by
      intro a; right; fin_cases a <;> simp [S1x1x8x2x128, S2x4x16x2x128, Shape.size] <;> omega⟩ : LoadRect S2x4x16x2x128), spos_1_1_2_1_1⟩

/-- The sixteen boxes of a scale scratch buffer, the last written first. -/
def scrRects : List (Rect S2x4x16x2x128) :=
  [scrRect 1 3 1, scrRect 1 3 0, scrRect 1 2 1, scrRect 1 2 0, scrRect 1 1 1, scrRect 1 1 0, scrRect 1 0 1, scrRect 1 0 0,
   scrRect 0 3 1, scrRect 0 3 0, scrRect 0 2 1, scrRect 0 2 0, scrRect 0 1 1, scrRect 0 1 0, scrRect 0 0 1, scrRect 0 0 0]

/-- Each box is one of the sixteen. -/
theorem scrRect_mem (h : Fin 2) (g : Fin 4) (p : Fin 2) : scrRect h g p ∈ scrRects := by
  unfold scrRects
  fin_cases h <;> fin_cases g <;> fin_cases p <;> simp

/-- Each element of a scale buffer is in the box of its half, group and parity. -/
theorem mem_scrRect (y : S2x4x16x2x128.Idx) :
    y ∈ (scrRect ⟨(y 0).val, (y 0).isLt⟩ ⟨(y 1).val, (y 1).isLt⟩ ⟨(y 2).val % 2, Nat.mod_lt _ (by omega)⟩).set := by
  rw [LoadRect.mem_set]
  have h2 : (y 2).val < 16 := (y 2).isLt
  have h3 : (y 3).val < 2 := (y 3).isLt
  have h4 : (y 4).val < 128 := (y 4).isLt
  intro a
  fin_cases a
  · exact ⟨0, Nat.one_pos, by simp [scrRect]⟩
  · exact ⟨0, Nat.one_pos, by simp [scrRect]⟩
  · refine ⟨(y 2).val / 2, ?_, ?_⟩
    · show (y 2).val / 2 < 8
      omega
    · show (y 2).val = (y 2).val % 2 + 2 * ((y 2).val / 2)
      omega
  · refine ⟨(y 3).val, h3, ?_⟩
    show (y 3).val = 0 + 1 * (y 3).val
    omega
  · refine ⟨(y 4).val, h4, ?_⟩
    show (y 4).val = 0 + 1 * (y 4).val
    omega

/-- Pieces at the sixteen boxes cover the scratch buffer. -/
theorem scr_cover {Val : EltTy → Type} {e : EltTy} (L : List (View.Piece Val S2x4x16x2x128 e)) (hL : L.map Sigma.fst = scrRects) (y : S2x4x16x2x128.Idx) :
    ∃ p ∈ L, y ∈ p.1.set := by
  have hm := scrRect_mem ⟨(y 0).val, (y 0).isLt⟩ ⟨(y 1).val, (y 1).isLt⟩ ⟨(y 2).val % 2, Nat.mod_lt _ (by omega)⟩
  rw [← hL, List.mem_map] at hm
  obtain ⟨p, hp, he⟩ := hm
  exact ⟨p, hp, by rw [he]; exact mem_scrRect y⟩

/-- So what they leave in it does not depend on what was there. -/
theorem scr_writes {e : EltTy} (m : Memref sig .tc .vmem S2x4x16x2x128 e) (hm : m.IsWhole) (f : m.view.ty.Contents (Elt F))
    (L : List (View.Piece (Elt F) S2x4x16x2x128 e)) (hL : L.map Sigma.fst = scrRects) :
    m.view.writes (Elt F) f L = hm.unread (View.canon L) :=
  hm.eq_unread (View.read_writes_eq_canon m.view f L (scr_cover L hL))

/-- What one trip of the column loop touches: the activations, the scale bytes and the two scale rows at their contents; the
    output block at `f6`, the two scale scratch buffers at `f7` and `f8`; the slot of the ring this grid point waited for, the
    block landed in it over `fs`. -/
abbrev Trip (c : Dev nD) (t : Fin cfg0.N) (arg1 : Memref sig .tc .vmem S36x4096 .bf16) (harg1 : arg1.IsWhole) (arg3 : Memref sig .tc .vmem S12x16x512 .i8) (harg3 : arg3.IsWhole) (arg4 : Memref sig .tc .vmem S16x512 .bf16) (harg4 : arg4.IsWhole) (arg5 : Memref sig .tc .vmem S16x512 .bf16) (harg5 : arg5.IsWhole) (arg6 : Memref sig .tc .vmem S36x512 .f32) (arg7 : Memref sig .tc .vmem S2x4x16x2x128 .bf16) (arg8 : Memref sig .tc .vmem S2x4x16x2x128 .bf16)
    (x0 : Vec F S36x4096 .bf16) (x1 : Vec F S12x16x512 .i8) (x2 : Vec F S16x512 .bf16) (x3 : Vec F S16x512 .bf16) (fh0 : HbBuf0 (F := F) c hbM0_0)
    (f6 : HbBuf0 (F := F) c arg6) (f7 : HbBuf0 (F := F) c arg7) (f8 : HbBuf0 (F := F) c arg8) : sProp 𝕄 :=
  iprop((arg1.view.loc (c : Thread nD τ) ↦[arg1.view.set]{fullShare} harg1.unread x0)
    ∗ (arg3.view.loc (c : Thread nD τ) ↦[arg3.view.set]{fullShare} harg3.unread x1)
    ∗ (arg4.view.loc (c : Thread nD τ) ↦[arg4.view.set]{fullShare} harg4.unread x2)
    ∗ (arg5.view.loc (c : Thread nD τ) ↦[arg5.view.set]{fullShare} harg5.unread x3)
    ∗ (arg6.view.loc (c : Thread nD τ) ↦[arg6.view.set]{fullShare} f6)
    ∗ (arg7.view.loc (c : Thread nD τ) ↦[arg7.view.set]{fullShare} f7)
    ∗ (arg8.view.loc (c : Thread nD τ) ↦[arg8.view.set]{fullShare} f8)
    ∗ slotP0_0 c (Ring.sl 2 t.val) (landed0_0 c fh0 (Ring.sl 2 t.val) (Ring.bk 28 t.val) (rslot0_0 (Ring.sl 2 t.val)).view.junk))

set_option maxHeartbeats 4000000 in
/-- One trip: what it stores, what it leaves in the two scale buffers, and that it does so. -/
@[irreducible] def trip (c : Dev nD) (t : Fin cfg0.N) (arg1 : Memref sig .tc .vmem S36x4096 .bf16) (harg1 : arg1.IsWhole) (arg3 : Memref sig .tc .vmem S12x16x512 .i8) (harg3 : arg3.IsWhole) (arg4 : Memref sig .tc .vmem S16x512 .bf16) (harg4 : arg4.IsWhole) (arg5 : Memref sig .tc .vmem S16x512 .bf16) (harg5 : arg5.IsWhole) (arg6 : Memref sig .tc .vmem S36x512 .f32) (harg6 : arg6.IsWhole) (arg7 : Memref sig .tc .vmem S2x4x16x2x128 .bf16) (harg7 : arg7.IsWhole) (arg8 : Memref sig .tc .vmem S2x4x16x2x128 .bf16) (harg8 : arg8.IsWhole)
    (x0 : Vec F S36x4096 .bf16) (x1 : Vec F S12x16x512 .i8) (x2 : Vec F S16x512 .bf16) (x3 : Vec F S16x512 .bf16) (fh0 : HbBuf0 (F := F) c hbM0_0) (k : Fin k0_t1_loop.trips) :
    { L : List (View.Piece (Elt F) S36x512 .f32) × Vec F S2x4x16x2x128 .bf16 × Vec F S2x4x16x2x128 .bf16 //
      ∀ (arg0 : BitVec 32) (acc : Unit) (f6 : HbBuf0 (F := F) c arg6) (f7 : HbBuf0 (F := F) c arg7) (f8 : HbBuf0 (F := F) c arg8),
        Trip c t arg1 harg1 arg3 harg3 arg4 harg4 arg5 harg5 arg6 arg7 arg8 x0 x1 x2 x3 fh0 f6 f7 f8
          ⊢ wp frame (wpE (defs₀ (F := F)) Variants.none c none) Set.univ
              (k0_t1_body (grid0.coords t) arg1 harg1 (Memref.whole main_v0) (Memref.isWhole_whole _) arg3 harg3 arg4 harg4 arg5 harg5 arg6 harg6 arg7 harg7 arg8 harg8 scM0_2 (Memref.isWhole_whole _) cc0_scratch3 arg0 k acc)
              fun _ => Trip c t arg1 harg1 arg3 harg3 arg4 harg4 arg5 harg5 arg6 arg7 arg8 x0 x1 x2 x3 fh0
                (arg6.view.writes (Elt F) f6 L.1) (harg7.unread L.2.1) (harg8.unread L.2.2) } := by
  refine ⟨⟨?_, ?_, ?_⟩, ?run⟩
  case run =>
    intro arg0 acc f6 f7 f8
    have hs0 := ringLoad_sub t k 0
    have hs1 := ringLoad_sub t k 1
    unfold k0_t1_body k0_part41 Trip
    iintro ⟨H1, H3, H4, H5, H6, H7, H8, HS⟩
    set_option sl_exec.stopBefore "k0_part20" in sl_exec_parts
    rw [scr_writes arg7 harg7 f7 _ rfl, scr_writes arg8 harg8 f8 _ rfl]
    sl_exec_parts
    sl_step
    sl_close

end Cert.KernelIdeal.Rg

end
-- ==== Proof.Ideal.Loop.lean ====
module

public import proofs.«01_k».proof.Proof.Ideal.Trip

@[expose] public section

set_option maxRecDepth 16384

noncomputable section

namespace Cert.KernelIdeal.Rg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-- The pieces the trips before `k` leave in the output block, the last first. -/
def pb (c : Dev nD) (t : Fin cfg0.N) (arg1 : Memref sig .tc .vmem S36x4096 .bf16) (harg1 : arg1.IsWhole) (arg3 : Memref sig .tc .vmem S12x16x512 .i8) (harg3 : arg3.IsWhole) (arg4 : Memref sig .tc .vmem S16x512 .bf16) (harg4 : arg4.IsWhole) (arg5 : Memref sig .tc .vmem S16x512 .bf16) (harg5 : arg5.IsWhole) (arg6 : Memref sig .tc .vmem S36x512 .f32) (harg6 : arg6.IsWhole) (arg7 : Memref sig .tc .vmem S2x4x16x2x128 .bf16) (harg7 : arg7.IsWhole) (arg8 : Memref sig .tc .vmem S2x4x16x2x128 .bf16) (harg8 : arg8.IsWhole)
    (x0 : Vec F S36x4096 .bf16) (x1 : Vec F S12x16x512 .i8) (x2 : Vec F S16x512 .bf16) (x3 : Vec F S16x512 .bf16) (fh0 : HbBuf0 (F := F) c hbM0_0) : ℕ → List (View.Piece (Elt F) S36x512 .f32)
  | 0 => []
  | k + 1 => if h : k < k0_t1_loop.trips then (trip c t arg1 harg1 arg3 harg3 arg4 harg4 arg5 harg5 arg6 harg6 arg7 harg7 arg8 harg8 x0 x1 x2 x3 fh0 ⟨k, h⟩).1.1 ++ pb c t arg1 harg1 arg3 harg3 arg4 harg4 arg5 harg5 arg6 harg6 arg7 harg7 arg8 harg8 x0 x1 x2 x3 fh0 k else pb c t arg1 harg1 arg3 harg3 arg4 harg4 arg5 harg5 arg6 harg6 arg7 harg7 arg8 harg8 x0 x1 x2 x3 fh0 k

/-- One more trip. -/
theorem pb_succ (c : Dev nD) (t : Fin cfg0.N) (arg1 : Memref sig .tc .vmem S36x4096 .bf16) (harg1 : arg1.IsWhole) (arg3 : Memref sig .tc .vmem S12x16x512 .i8) (harg3 : arg3.IsWhole) (arg4 : Memref sig .tc .vmem S16x512 .bf16) (harg4 : arg4.IsWhole) (arg5 : Memref sig .tc .vmem S16x512 .bf16) (harg5 : arg5.IsWhole) (arg6 : Memref sig .tc .vmem S36x512 .f32) (harg6 : arg6.IsWhole) (arg7 : Memref sig .tc .vmem S2x4x16x2x128 .bf16) (harg7 : arg7.IsWhole) (arg8 : Memref sig .tc .vmem S2x4x16x2x128 .bf16) (harg8 : arg8.IsWhole)
    (x0 : Vec F S36x4096 .bf16) (x1 : Vec F S12x16x512 .i8) (x2 : Vec F S16x512 .bf16) (x3 : Vec F S16x512 .bf16) (fh0 : HbBuf0 (F := F) c hbM0_0) (k : Fin k0_t1_loop.trips) :
    pb c t arg1 harg1 arg3 harg3 arg4 harg4 arg5 harg5 arg6 harg6 arg7 harg7 arg8 harg8 x0 x1 x2 x3 fh0 (k.val + 1) = (trip c t arg1 harg1 arg3 harg3 arg4 harg4 arg5 harg5 arg6 harg6 arg7 harg7 arg8 harg8 x0 x1 x2 x3 fh0 k).1.1 ++ pb c t arg1 harg1 arg3 harg3 arg4 harg4 arg5 harg5 arg6 harg6 arg7 harg7 arg8 harg8 x0 x1 x2 x3 fh0 k.val := by
  rw [pb.eq_2]; exact dif_pos k.isLt

/-- What the column loop keeps: the output block at the pieces of the trips done over its contents `f6` at entry, the scale scratch
    buffers at anything, the inputs and the ring slot as they are. -/
def inv (c : Dev nD) (t : Fin cfg0.N) (arg1 : Memref sig .tc .vmem S36x4096 .bf16) (harg1 : arg1.IsWhole) (arg3 : Memref sig .tc .vmem S12x16x512 .i8) (harg3 : arg3.IsWhole) (arg4 : Memref sig .tc .vmem S16x512 .bf16) (harg4 : arg4.IsWhole) (arg5 : Memref sig .tc .vmem S16x512 .bf16) (harg5 : arg5.IsWhole) (arg6 : Memref sig .tc .vmem S36x512 .f32) (harg6 : arg6.IsWhole) (arg7 : Memref sig .tc .vmem S2x4x16x2x128 .bf16) (harg7 : arg7.IsWhole) (arg8 : Memref sig .tc .vmem S2x4x16x2x128 .bf16) (harg8 : arg8.IsWhole)
    (x0 : Vec F S36x4096 .bf16) (x1 : Vec F S12x16x512 .i8) (x2 : Vec F S16x512 .bf16) (x3 : Vec F S16x512 .bf16) (fh0 : HbBuf0 (F := F) c hbM0_0) (f6 : HbBuf0 (F := F) c arg6) (k : ℕ) : sProp 𝕄 :=
  iprop((arg1.view.loc (c : Thread nD τ) ↦[arg1.view.set]{fullShare} harg1.unread x0)
    ∗ (arg3.view.loc (c : Thread nD τ) ↦[arg3.view.set]{fullShare} harg3.unread x1)
    ∗ (arg4.view.loc (c : Thread nD τ) ↦[arg4.view.set]{fullShare} harg4.unread x2)
    ∗ (arg5.view.loc (c : Thread nD τ) ↦[arg5.view.set]{fullShare} harg5.unread x3)
    ∗ (∃ f, (arg6.view.loc (c : Thread nD τ) ↦[arg6.view.set]{fullShare} f) ∗ ⌜f = arg6.view.writes (Elt F) f6 (pb c t arg1 harg1 arg3 harg3 arg4 harg4 arg5 harg5 arg6 harg6 arg7 harg7 arg8 harg8 x0 x1 x2 x3 fh0 k)⌝)
    ∗ (∃ f7, arg7.view.loc (c : Thread nD τ) ↦[arg7.view.set]{fullShare} f7)
    ∗ (∃ f8, arg8.view.loc (c : Thread nD τ) ↦[arg8.view.set]{fullShare} f8)
    ∗ slotP0_0 c (Ring.sl 2 t.val) (landed0_0 c fh0 (Ring.sl 2 t.val) (Ring.bk 28 t.val) (rslot0_0 (Ring.sl 2 t.val)).view.junk))

/-- One trip keeps it. -/
theorem inv_step (c : Dev nD) (t : Fin cfg0.N) (arg1 : Memref sig .tc .vmem S36x4096 .bf16) (harg1 : arg1.IsWhole) (arg3 : Memref sig .tc .vmem S12x16x512 .i8) (harg3 : arg3.IsWhole) (arg4 : Memref sig .tc .vmem S16x512 .bf16) (harg4 : arg4.IsWhole) (arg5 : Memref sig .tc .vmem S16x512 .bf16) (harg5 : arg5.IsWhole) (arg6 : Memref sig .tc .vmem S36x512 .f32) (harg6 : arg6.IsWhole) (arg7 : Memref sig .tc .vmem S2x4x16x2x128 .bf16) (harg7 : arg7.IsWhole) (arg8 : Memref sig .tc .vmem S2x4x16x2x128 .bf16) (harg8 : arg8.IsWhole)
    (x0 : Vec F S36x4096 .bf16) (x1 : Vec F S12x16x512 .i8) (x2 : Vec F S16x512 .bf16) (x3 : Vec F S16x512 .bf16) (fh0 : HbBuf0 (F := F) c hbM0_0) (f6 : HbBuf0 (F := F) c arg6) (arg0 : BitVec 32) (k : Fin k0_t1_loop.trips) (acc : Unit) :
    inv c t arg1 harg1 arg3 harg3 arg4 harg4 arg5 harg5 arg6 harg6 arg7 harg7 arg8 harg8 x0 x1 x2 x3 fh0 f6 k.val
      ⊢ wp frame (wpE (defs₀ (F := F)) Variants.none c none) Set.univ
          (k0_t1_body (grid0.coords t) arg1 harg1 (Memref.whole main_v0) (Memref.isWhole_whole _) arg3 harg3 arg4 harg4 arg5 harg5 arg6 harg6 arg7 harg7 arg8 harg8 scM0_2 (Memref.isWhole_whole _) cc0_scratch3 arg0 k acc)
          fun _ => inv c t arg1 harg1 arg3 harg3 arg4 harg4 arg5 harg5 arg6 harg6 arg7 harg7 arg8 harg8 x0 x1 x2 x3 fh0 f6 (k.val + 1) := by
  unfold inv
  rw [pb_succ]
  iintro ⟨H1, H3, H4, H5, ⟨%g6, H6, %h6⟩, ⟨%f7, H7⟩, ⟨%f8, H8⟩, HS⟩
  subst h6
  iapply (wp_wand_r frame (wpE (defs₀ (F := F)) Variants.none c none) Set.univ)
  isplitl [H1 H3 H4 H5 H6 H7 H8 HS]
  · iapply ((trip c t arg1 harg1 arg3 harg3 arg4 harg4 arg5 harg5 arg6 harg6 arg7 harg7 arg8 harg8 x0 x1 x2 x3 fh0 k).2 arg0 acc _ f7 f8)
    unfold Trip
    isplitl [H1]; · iexact H1
    isplitl [H3]; · iexact H3
    isplitl [H4]; · iexact H4
    isplitl [H5]; · iexact H5
    isplitl [H6]; · iexact H6
    isplitl [H7]; · iexact H7
    isplitl [H8]; · iexact H8
    iexact HS
  unfold Trip
  iintro %a
  iintro ⟨H1, H3, H4, H5, H6, H7, H8, HS⟩
  isplitl [H1]; · iexact H1
  isplitl [H3]; · iexact H3
  isplitl [H4]; · iexact H4
  isplitl [H5]; · iexact H5
  isplitl [H6]
  · iexists _; isplitl [H6]; · iexact H6
    ipureintro; rw [View.writes_append]
  isplitl [H7]; · iexists _; iexact H7
  isplitl [H8]; · iexists _; iexact H8
  iexact HS

/-- The loop goes by it. -/
@[sl_loop, reducible] def loopInv_k0_t1 (c : Dev nD) (t : Fin cfg0.N) (arg1 : Memref sig .tc .vmem S36x4096 .bf16) (harg1 : arg1.IsWhole) (arg3 : Memref sig .tc .vmem S12x16x512 .i8) (harg3 : arg3.IsWhole) (arg4 : Memref sig .tc .vmem S16x512 .bf16) (harg4 : arg4.IsWhole) (arg5 : Memref sig .tc .vmem S16x512 .bf16) (harg5 : arg5.IsWhole) (arg6 : Memref sig .tc .vmem S36x512 .f32) (harg6 : arg6.IsWhole) (arg7 : Memref sig .tc .vmem S2x4x16x2x128 .bf16) (harg7 : arg7.IsWhole) (arg8 : Memref sig .tc .vmem S2x4x16x2x128 .bf16) (harg8 : arg8.IsWhole)
    (x0 : Vec F S36x4096 .bf16) (x1 : Vec F S12x16x512 .i8) (x2 : Vec F S16x512 .bf16) (x3 : Vec F S16x512 .bf16) (fh0 : HbBuf0 (F := F) c hbM0_0) (f6 : HbBuf0 (F := F) c arg6) (arg0 : BitVec 32) :
    Gen.LoopInvTy_k0_t1 (F := F) Unit ℕ (Pipeline.UD sig nD τ) ℕ Variants.none c none Set.univ (grid0.coords t) arg1 harg1 (Memref.whole main_v0) (Memref.isWhole_whole _) arg3 harg3 arg4 harg4 arg5 harg5 arg6 harg6 arg7 harg7 arg8 harg8 scM0_2 (Memref.isWhole_whole _) cc0_scratch3 arg0 where
  inv k acc := inv c t arg1 harg1 arg3 harg3 arg4 harg4 arg5 harg5 arg6 harg6 arg7 harg7 arg8 harg8 x0 x1 x2 x3 fh0 f6 k
  step k acc := inv_step c t arg1 harg1 arg3 harg3 arg4 harg4 arg5 harg5 arg6 harg6 arg7 harg7 arg8 harg8 x0 x1 x2 x3 fh0 f6 arg0 k acc

end Cert.KernelIdeal.Rg

end
-- ==== Proof.Ideal.Run.lean ====
module

public import proofs.«01_k».proof.Proof.Ideal.Loop

@[expose] public section

set_option maxRecDepth 16384

noncomputable section

namespace Cert.KernelIdeal.Rg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

set_option maxHeartbeats 1000000 in
/-- The first grid point: the body starts the first two blocks, waits for the first and leaves the second in flight.
    From the inputs at their contents, everything else at anything, it leaves the output block at the pieces of the two trips. -/
theorem kernelRun0_A (c : Dev nD) (t : Fin cfg0.N) (arg1 : Memref sig .tc .vmem S36x4096 .bf16) (harg1 : arg1.IsWhole) (arg3 : Memref sig .tc .vmem S12x16x512 .i8) (harg3 : arg3.IsWhole) (arg4 : Memref sig .tc .vmem S16x512 .bf16) (harg4 : arg4.IsWhole) (arg5 : Memref sig .tc .vmem S16x512 .bf16) (harg5 : arg5.IsWhole) (arg6 : Memref sig .tc .vmem S36x512 .f32) (harg6 : arg6.IsWhole) (arg7 : Memref sig .tc .vmem S2x4x16x2x128 .bf16) (harg7 : arg7.IsWhole) (arg8 : Memref sig .tc .vmem S2x4x16x2x128 .bf16) (harg8 : arg8.IsWhole) (hc0 : cond0_0 (grid0.coords t)) (hc1 : cond0_1 (grid0.coords t))
    (x0 : Vec F S36x4096 .bf16) (x1 : Vec F S12x16x512 .i8) (x2 : Vec F S16x512 .bf16) (x3 : Vec F S16x512 .bf16) (fh0 : HbBuf0 (F := F) c hbM0_0) :
    ∀ (W : Waits sig Unit) (K : PUnit → sProp 𝕄),
        iprop(owns (c : Thread nD τ) arg1 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ (∃ d, owns (c : Thread nD τ) arg7 fullShare d) ∗ (∃ d, owns (c : Thread nD τ) arg8 fullShare d) ∗ Ring.free (cellP0_0 c) (slotW0_0 c fh0) (Ring.sl 2 t.val) ∗ Ring.free (cellP0_0 c) (slotW0_0 c fh0) (Ring.sl 2 (t.val + 1)) ∗ owes (c : Thread nD τ) 0 W
            ∗ (iprop(owns (c : Thread nD τ) arg1 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f (pb c t arg1 harg1 arg3 harg3 arg4 harg4 arg5 harg5 arg6 harg6 arg7 harg7 arg8 harg8 x0 x1 x2 x3 fh0 k0_t1_loop.trips)) ∗ (∃ d, owns (c : Thread nD τ) arg7 fullShare d) ∗ (∃ d, owns (c : Thread nD τ) arg8 fullShare d) ∗ Ring.inflight (flightW0_0 c fh0) (Ring.sl 2 (t.val + 1)) (Ring.bk 28 (t.val + 1)) ∗ Ring.kept (cellP0_0 c) (slotW0_0 c fh0) (landed0_0 c fh0) (Ring.sl 2 t.val) (Ring.bk 28 t.val) ∗ (∃ W', owes (c : Thread nD τ) 0 W')) -∗ K ⟨⟩))
          ⊢ wp frame (wpE (defs₀ (F := F)) Variants.none c none) Set.univ (cc0__q4k_body (grid0.coords t) arg1 harg1 (Memref.whole main_v0) (Memref.isWhole_whole _) arg3 harg3 arg4 harg4 arg5 harg5 arg6 harg6 arg7 harg7 arg8 harg8 scM0_2 (Memref.isWhole_whole _) cc0_scratch3) K := by
  intro W K
  haveI : Fact (cond0_0 (grid0.coords t)) := ⟨hc0⟩
  haveI : Fact (cond0_1 (grid0.coords t)) := ⟨hc1⟩
  simp only [cc0__q4k_body_eq_skeleton]; unfold cc0__q4k_body_skel
  have hcanon0 := canon0_0_1 t hc0 hc1
  have hcanon1 := canon0_0_2 t hc0 hc1
  have hcanon2 := canon0_0_3 t hc0 hc1
  unfold owns Ring.free Ring.inflight Ring.kept
  iintro ⟨⟨%f0, %hf0, H0⟩, ⟨%f1, %hf1, H1⟩, ⟨%f2, %hf2, H2⟩, ⟨%f3, %hf3, H3⟩, ⟨%d4, %f4, -, H4⟩, ⟨%ds0, %fs0, -, HS0⟩, ⟨%ds1, %fs1, -, HS1⟩, ⟨Hc0_0_0, ⟨%fs0_0_0, Hs0_0_0, Hw0_0_0⟩⟩, ⟨Hc0_0_1, ⟨%fs0_0_1, Hs0_0_1, Hw0_0_1⟩⟩, HW, Hk⟩
  ihave Hsp0_0_0 := (src0_0_split c fh0 (Ring.sl 2 t.val) (Ring.bk 28 t.val)).1 $$ Hw0_0_0
  icases Hsp0_0_0 with ⟨Hh0_0_0, Hr0_0_0⟩
  ihave Hsp0_0_1 := (src0_0_split c fh0 (Ring.sl 2 (t.val + 1)) (Ring.bk 28 (t.val + 1))).1 $$ Hw0_0_1
  icases Hsp0_0_1 with ⟨Hh0_0_1, Hr0_0_1⟩
  obtain rfl := harg1.eq_unread hf0; obtain rfl := harg3.eq_unread hf1; obtain rfl := harg4.eq_unread hf2; obtain rfl := harg5.eq_unread hf3
  sl_exec (disch := first | sl_exact hc0 | sl_exact hc1)
  sl_step
  iapply Hk
  isplitl [H0]
  · iexists _; isplitr; · ipureintro; exact harg1.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]; · iexists _; iexact H4
  isplitl [HS0]
  · iexists _, _; isplitr; swap; · iexact HS0
    ipureintro; rfl
  isplitl [HS1]
  · iexists _, _; isplitr; swap; · iexact HS1
    ipureintro; rfl
  isplitl [Hc0_0_1 Hr0_0_1]
  · iexists _; isplitl [Hc0_0_1]; · iexact Hc0_0_1
    iexact Hr0_0_1
  isplitl [Hc0_0_0 Hs0_0_0 Hh0_0_0 Hr0_0_0]
  · isplitl [Hc0_0_0]; · iexact Hc0_0_0
    iexists _; isplitl [Hs0_0_0]; · iexact Hs0_0_0
    iapply (src0_0_split c fh0 (Ring.sl 2 t.val) (Ring.bk 28 t.val)).2; isplitl [Hh0_0_0]; · iexact Hh0_0_0
    iexact Hr0_0_0
  iexists _; iexact HW

set_option maxHeartbeats 1000000 in
/-- A middle grid point: the body starts the next block and waits for its own.
    From the inputs at their contents, everything else at anything, it leaves the output block at the pieces of the two trips. -/
theorem kernelRun0_B (c : Dev nD) (t : Fin cfg0.N) (arg1 : Memref sig .tc .vmem S36x4096 .bf16) (harg1 : arg1.IsWhole) (arg3 : Memref sig .tc .vmem S12x16x512 .i8) (harg3 : arg3.IsWhole) (arg4 : Memref sig .tc .vmem S16x512 .bf16) (harg4 : arg4.IsWhole) (arg5 : Memref sig .tc .vmem S16x512 .bf16) (harg5 : arg5.IsWhole) (arg6 : Memref sig .tc .vmem S36x512 .f32) (harg6 : arg6.IsWhole) (arg7 : Memref sig .tc .vmem S2x4x16x2x128 .bf16) (harg7 : arg7.IsWhole) (arg8 : Memref sig .tc .vmem S2x4x16x2x128 .bf16) (harg8 : arg8.IsWhole) (hc0 : ¬cond0_0 (grid0.coords t)) (hc1 : cond0_1 (grid0.coords t))
    (x0 : Vec F S36x4096 .bf16) (x1 : Vec F S12x16x512 .i8) (x2 : Vec F S16x512 .bf16) (x3 : Vec F S16x512 .bf16) (fh0 : HbBuf0 (F := F) c hbM0_0) :
    ∀ (W : Waits sig Unit) (K : PUnit → sProp 𝕄),
        iprop(owns (c : Thread nD τ) arg1 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ (∃ d, owns (c : Thread nD τ) arg7 fullShare d) ∗ (∃ d, owns (c : Thread nD τ) arg8 fullShare d) ∗ Ring.inflight (flightW0_0 c fh0) (Ring.sl 2 t.val) (Ring.bk 28 t.val) ∗ Ring.kept (cellP0_0 c) (slotW0_0 c fh0) (landed0_0 c fh0) (Ring.sl 2 (t.val + 1)) (Ring.bk 28 (t.val - 1)) ∗ owes (c : Thread nD τ) 0 W
            ∗ (iprop(owns (c : Thread nD τ) arg1 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f (pb c t arg1 harg1 arg3 harg3 arg4 harg4 arg5 harg5 arg6 harg6 arg7 harg7 arg8 harg8 x0 x1 x2 x3 fh0 k0_t1_loop.trips)) ∗ (∃ d, owns (c : Thread nD τ) arg7 fullShare d) ∗ (∃ d, owns (c : Thread nD τ) arg8 fullShare d) ∗ Ring.inflight (flightW0_0 c fh0) (Ring.sl 2 (t.val + 1)) (Ring.bk 28 (t.val + 1)) ∗ Ring.kept (cellP0_0 c) (slotW0_0 c fh0) (landed0_0 c fh0) (Ring.sl 2 t.val) (Ring.bk 28 t.val) ∗ (∃ W', owes (c : Thread nD τ) 0 W')) -∗ K ⟨⟩))
          ⊢ wp frame (wpE (defs₀ (F := F)) Variants.none c none) Set.univ (cc0__q4k_body (grid0.coords t) arg1 harg1 (Memref.whole main_v0) (Memref.isWhole_whole _) arg3 harg3 arg4 harg4 arg5 harg5 arg6 harg6 arg7 harg7 arg8 harg8 scM0_2 (Memref.isWhole_whole _) cc0_scratch3) K := by
  intro W K
  haveI : Fact (¬cond0_0 (grid0.coords t)) := ⟨hc0⟩
  haveI : Fact (cond0_1 (grid0.coords t)) := ⟨hc1⟩
  simp only [cc0__q4k_body_eq_skeleton]; unfold cc0__q4k_body_skel
  unfold owns Ring.inflight Ring.kept
  iintro ⟨⟨%f0, %hf0, H0⟩, ⟨%f1, %hf1, H1⟩, ⟨%f2, %hf2, H2⟩, ⟨%f3, %hf3, H3⟩, ⟨%d4, %f4, -, H4⟩, ⟨%ds0, %fs0, -, HS0⟩, ⟨%ds1, %fs1, -, HS1⟩, ⟨%ff0_0, Hf0_0, Hrf0_0⟩, ⟨Hc0_0_1, ⟨%fs0_0_1, Hs0_0_1, Hw0_0_1⟩⟩, HW, Hk⟩
  ihave Hsp0_0_1 := (src0_0_split c fh0 (Ring.sl 2 (t.val + 1)) (Ring.bk 28 (t.val + 1))).1 $$ Hw0_0_1
  icases Hsp0_0_1 with ⟨Hh0_0_1, Hr0_0_1⟩
  obtain rfl := harg1.eq_unread hf0; obtain rfl := harg3.eq_unread hf1; obtain rfl := harg4.eq_unread hf2; obtain rfl := harg5.eq_unread hf3
  sl_exec (disch := first | sl_exact hc0 | sl_exact hc1)
  sl_step
  iapply Hk
  isplitl [H0]
  · iexists _; isplitr; · ipureintro; exact harg1.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]; · iexists _; iexact H4
  isplitl [HS0]
  · iexists _, _; isplitr; swap; · iexact HS0
    ipureintro; rfl
  isplitl [HS1]
  · iexists _, _; isplitr; swap; · iexact HS1
    ipureintro; rfl
  isplitl [Hc0_0_1 Hr0_0_1]
  · iexists _; isplitl [Hc0_0_1]; · iexact Hc0_0_1
    iexact Hr0_0_1
  isplitl [Hf0_0 Hf0_0_dst Hf0_0_src Hrf0_0]
  · isplitl [Hf0_0]; · iexact Hf0_0
    iexists _; isplitl [Hf0_0_dst]; · iexact Hf0_0_dst
    iapply (src0_0_split c fh0 (Ring.sl 2 t.val) (Ring.bk 28 t.val)).2; isplitl [Hf0_0_src]; · iexact Hf0_0_src
    iexact Hrf0_0
  iexists _; iexact HW

set_option maxHeartbeats 1000000 in
/-- The last grid point: the body waits for its own block, and starts none.
    From the inputs at their contents, everything else at anything, it leaves the output block at the pieces of the two trips. -/
theorem kernelRun0_C (c : Dev nD) (t : Fin cfg0.N) (arg1 : Memref sig .tc .vmem S36x4096 .bf16) (harg1 : arg1.IsWhole) (arg3 : Memref sig .tc .vmem S12x16x512 .i8) (harg3 : arg3.IsWhole) (arg4 : Memref sig .tc .vmem S16x512 .bf16) (harg4 : arg4.IsWhole) (arg5 : Memref sig .tc .vmem S16x512 .bf16) (harg5 : arg5.IsWhole) (arg6 : Memref sig .tc .vmem S36x512 .f32) (harg6 : arg6.IsWhole) (arg7 : Memref sig .tc .vmem S2x4x16x2x128 .bf16) (harg7 : arg7.IsWhole) (arg8 : Memref sig .tc .vmem S2x4x16x2x128 .bf16) (harg8 : arg8.IsWhole) (hc0 : ¬cond0_0 (grid0.coords t)) (hc1 : ¬cond0_1 (grid0.coords t))
    (x0 : Vec F S36x4096 .bf16) (x1 : Vec F S12x16x512 .i8) (x2 : Vec F S16x512 .bf16) (x3 : Vec F S16x512 .bf16) (fh0 : HbBuf0 (F := F) c hbM0_0) :
    ∀ (W : Waits sig Unit) (K : PUnit → sProp 𝕄),
        iprop(owns (c : Thread nD τ) arg1 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ (∃ d, owns (c : Thread nD τ) arg7 fullShare d) ∗ (∃ d, owns (c : Thread nD τ) arg8 fullShare d) ∗ Ring.inflight (flightW0_0 c fh0) (Ring.sl 2 t.val) (Ring.bk 28 t.val) ∗ owes (c : Thread nD τ) 0 W
            ∗ (iprop(owns (c : Thread nD τ) arg1 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f (pb c t arg1 harg1 arg3 harg3 arg4 harg4 arg5 harg5 arg6 harg6 arg7 harg7 arg8 harg8 x0 x1 x2 x3 fh0 k0_t1_loop.trips)) ∗ (∃ d, owns (c : Thread nD τ) arg7 fullShare d) ∗ (∃ d, owns (c : Thread nD τ) arg8 fullShare d) ∗ Ring.kept (cellP0_0 c) (slotW0_0 c fh0) (landed0_0 c fh0) (Ring.sl 2 t.val) (Ring.bk 28 t.val) ∗ (∃ W', owes (c : Thread nD τ) 0 W')) -∗ K ⟨⟩))
          ⊢ wp frame (wpE (defs₀ (F := F)) Variants.none c none) Set.univ (cc0__q4k_body (grid0.coords t) arg1 harg1 (Memref.whole main_v0) (Memref.isWhole_whole _) arg3 harg3 arg4 harg4 arg5 harg5 arg6 harg6 arg7 harg7 arg8 harg8 scM0_2 (Memref.isWhole_whole _) cc0_scratch3) K := by
  intro W K
  haveI : Fact (¬cond0_0 (grid0.coords t)) := ⟨hc0⟩
  haveI : Fact (¬cond0_1 (grid0.coords t)) := ⟨hc1⟩
  simp only [cc0__q4k_body_eq_skeleton]; unfold cc0__q4k_body_skel
  unfold owns Ring.inflight Ring.kept
  iintro ⟨⟨%f0, %hf0, H0⟩, ⟨%f1, %hf1, H1⟩, ⟨%f2, %hf2, H2⟩, ⟨%f3, %hf3, H3⟩, ⟨%d4, %f4, -, H4⟩, ⟨%ds0, %fs0, -, HS0⟩, ⟨%ds1, %fs1, -, HS1⟩, ⟨%ff0_0, Hf0_0, Hrf0_0⟩, HW, Hk⟩
  obtain rfl := harg1.eq_unread hf0; obtain rfl := harg3.eq_unread hf1; obtain rfl := harg4.eq_unread hf2; obtain rfl := harg5.eq_unread hf3
  sl_exec (disch := first | sl_exact hc0 | sl_exact hc1)
  sl_step
  iapply Hk
  isplitl [H0]
  · iexists _; isplitr; · ipureintro; exact harg1.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]; · iexists _; iexact H4
  isplitl [HS0]
  · iexists _, _; isplitr; swap; · iexact HS0
    ipureintro; rfl
  isplitl [HS1]
  · iexists _, _; isplitr; swap; · iexact HS1
    ipureintro; rfl
  isplitl [Hf0_0 Hf0_0_dst Hf0_0_src Hrf0_0]
  · isplitl [Hf0_0]; · iexact Hf0_0
    iexists _; isplitl [Hf0_0_dst]; · iexact Hf0_0_dst
    iapply (src0_0_split c fh0 (Ring.sl 2 t.val) (Ring.bk 28 t.val)).2; isplitl [Hf0_0_src]; · iexact Hf0_0_src
    iexact Hrf0_0
  iexists _; iexact HW

end Cert.KernelIdeal.Rg

end
-- ==== Proof.Ideal.Frame.lean ====
module

public import proofs.«01_k».proof.Proof.Ideal.Run
public import Idealize.ShloMosaic.Lib.Claim

@[expose] public section

set_option maxRecDepth 16384

noncomputable section

namespace Cert.KernelIdeal.Rg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

open Idealize.ShloMosaic.Rounds
open Idealize.ShloMosaic.Pipeline (Dat Cfg Window BodyObligation cellOf)

local notation "𝕄" => MT nD τ sig Unit (Elt F) ℕ (Pipeline.UD sig nD τ) ℕ

variable (m : (ℓ : Loc nD τ sig) → Buf (Elt F) ℓ) (ρ : Dev nD → PrngReg)

/-- The pieces of the two trips tile the output block. -/
theorem cover0_4 (c : Dev nD) (t : Fin cfg0.N) (arg1 : Memref sig .tc .vmem S36x4096 .bf16) (harg1 : arg1.IsWhole) (arg3 : Memref sig .tc .vmem S12x16x512 .i8) (harg3 : arg3.IsWhole) (arg4 : Memref sig .tc .vmem S16x512 .bf16) (harg4 : arg4.IsWhole) (arg5 : Memref sig .tc .vmem S16x512 .bf16) (harg5 : arg5.IsWhole) (arg6 : Memref sig .tc .vmem S36x512 .f32) (harg6 : arg6.IsWhole) (arg7 : Memref sig .tc .vmem S2x4x16x2x128 .bf16) (harg7 : arg7.IsWhole) (arg8 : Memref sig .tc .vmem S2x4x16x2x128 .bf16) (harg8 : arg8.IsWhole)
    (x0 : Vec F S36x4096 .bf16) (x1 : Vec F S12x16x512 .i8) (x2 : Vec F S16x512 .bf16) (x3 : Vec F S16x512 .bf16) (fh0 : HbBuf0 (F := F) c hbM0_0) (y : S36x512.Idx) :
    ∃ pc ∈ pb c t arg1 harg1 arg3 harg3 arg4 harg4 arg5 harg5 arg6 harg6 arg7 harg7 arg8 harg8 x0 x1 x2 x3 fh0 k0_t1_loop.trips, y ∈ pc.1.set :=
  View.cover_of_tiledL (pb c t arg1 harg1 arg3 harg3 arg4 harg4 arg5 harg5 arg6 harg6 arg7 harg7 arg8 harg8 x0 x1 x2 x3 fh0 k0_t1_loop.trips) S36x256.size (by sl_kernel_rfl) y

/-- What the body leaves in the output's staging buffer: the two trips' pieces read back over junk. -/
def out0_4 (c : Dev nD) (t : Fin cfg0.N) (arg1 : Memref sig .tc .vmem S36x4096 .bf16) (harg1 : arg1.IsWhole) (arg3 : Memref sig .tc .vmem S12x16x512 .i8) (harg3 : arg3.IsWhole) (arg4 : Memref sig .tc .vmem S16x512 .bf16) (harg4 : arg4.IsWhole) (arg5 : Memref sig .tc .vmem S16x512 .bf16) (harg5 : arg5.IsWhole) (arg6 : Memref sig .tc .vmem S36x512 .f32) (harg6 : arg6.IsWhole) (arg7 : Memref sig .tc .vmem S2x4x16x2x128 .bf16) (harg7 : arg7.IsWhole) (arg8 : Memref sig .tc .vmem S2x4x16x2x128 .bf16) (harg8 : arg8.IsWhole)
    (x0 : Vec F S36x4096 .bf16) (x1 : Vec F S12x16x512 .i8) (x2 : Vec F S16x512 .bf16) (x3 : Vec F S16x512 .bf16) (fh0 : HbBuf0 (F := F) c hbM0_0) : Vec F S36x512 .f32 :=
  VO0_4.read (Elt F) (VO0_4.writes (Elt F) VO0_4.junk (pb c t arg1 harg1 arg3 harg3 arg4 harg4 arg5 harg5 arg6 harg6 arg7 harg7 arg8 harg8 x0 x1 x2 x3 fh0 k0_t1_loop.trips))

/-- What the output's staging buffer holds after the body at point `t`. -/
def outsAt0 (c : Dev nD) (t : Fin cfg0.N) : Vec F S36x512 .f32 :=
  out0_4 c t (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (iblk m c 0 t) (iblk m c 1 t) (iblk m c 2 t) (iblk m c 3 t) (V m c main_v0)

/-! ## The pipeline's proof data -/

/-- The region invariant before point `k`: the generator register at some state, the scratch the run takes whole at anything, and each ring
    before point `k`. -/
def PhiR (c : Dev nD) (k : ℕ) : sProp 𝕄 := iprop((∃ d, owns (c : Thread nD τ) scM0_0 fullShare d) ∗ (∃ d, owns (c : Thread nD τ) scM0_1 fullShare d) ∗ (∃ r, prngReg c r) ∗ ringAt0_0 c (V m c main_v0) k)

/-- The proof data of the one pipeline on core `c`: the arrays as the region finds them (`V`); after the body at
    point `t` each input's buffer at its block and the outputs' at `outsAt0`; the invariant
    (`PhiR`: the ring's `Ring.At` before the point, beside the register and what the body takes whole);
    nothing owed; full shares. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => (outsAt0 m c t)
  Φ t := PhiR m c t.val
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- The invariant at a point's start (the proof data at `t.castSucc`), restated at `t.val`. -/
theorem PhiR_castSucc (c : Dev nD) (t : Fin cfg0.N) : (dats m 0 c).Φ t.castSucc = PhiR m c t.val := by
  dsimp only [dats]; simp only [Fin.coe_castSucc]
/-- The invariant at a point's end (the proof data at `t.succ`), restated at `t.val + 1`. -/
theorem PhiR_succ (c : Dev nD) (t : Fin cfg0.N) : (dats m 0 c).Φ t.succ = PhiR m c (t.val + 1) := by
  dsimp only [dats]; simp only [Fin.val_succ]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = (outsAt0 m c t) := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-! ## The body obligation, at a generic point -/

/-- What the body is called with at point `t` (`BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t))

set_option maxHeartbeats 2400000 in
/-- The body at any point: the inputs' memrefs hold their blocks (`before0_W`); the closed forms say which case the point is in (`by_cases`), an output the case reads before covering holds what the point before left (`before0_W_κ`); so the
    run applies; the invariant (`PhiR`) is rewritten, per case, to the ring pieces the point's role takes (`AtK2_here`, `At₀_eq2'`, …, by the case's step facts `rstepK_R_κ`) and reassembled from what the run hands back (`AtK2_next`, `AtK2_one'`, …; `Ring.with_homes`: no block is held apart); the core's `owes` goes in at whatever the points before recorded and comes back with this point's wait, within the next point's bound (everything). -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [after0_0, after0_1, after0_2, after0_3, after0_4]
  rw [PhiR_castSucc m c t, PhiR_succ m c t]
  unfold Dat.owesAt Pipeline.owesWithin
  rw [show (dats m 0 c).owed t.castSucc = 0 from rfl, show (dats m 0 c).owed t.succ = 0 from rfl]
  unfold PhiR ringAt0_0
  have hgN : grid0.N = 28 := N_0
  have hN : t.val < 28 := lt_of_lt_of_eq t.isLt (show cfg0.N = 28 from N_0)
  by_cases h0 : t.val % 28 = 0
  · by_cases h1 : t.val < 27
    · unfold outsAt0 out0_4
      have hr0 := rstep0_0_A t ((hcond0_0 t).mpr h0) ((hcond0_1 t).mpr h1)
      obtain ⟨hK00, hK10⟩ := hr0
      rw [if_pos hK00, if_neg (show ¬t.val + 1 = 0 by omega)]
      rw [Ring.At₀_eq2' _ _ _ t.val hK00 (by decide : 2 ≤ 28), Ring.AtK2_one' _ _ _ _ _ t.val hK00 (by decide : 1 < 28)]
      iintro ⟨⟨HS0, HS1, Hg, ⟨-, Hfr0_0_0, Hfr0_0_1⟩⟩, ⟨%W, -, HW⟩, ⟨%d0, H0⟩, ⟨%d1, H1⟩, ⟨%d2, H2⟩, ⟨%d3, H3⟩, ⟨%d4, H4⟩⟩
      iapply (kernelRun0_A c t _ _ _ _ _ _ _ _ _ _ _ _ _ _ ((hcond0_0 t).mpr h0) ((hcond0_1 t).mpr h1) (iblk m c 0 t) (iblk m c 1 t) (iblk m c 2 t) (iblk m c 3 t) (V m c main_v0) W _)
      isplitl [H0]; · iexact H0
      isplitl [H1]; · iexact H1
      isplitl [H2]; · iexact H2
      isplitl [H3]; · iexact H3
      isplitl [H4]; · iexists _; iexact H4
      isplitl [HS0]; · iexact HS0
      isplitl [HS1]; · iexact HS1
      isplitl [Hfr0_0_0]; · iexact Hfr0_0_0
      isplitl [Hfr0_0_1]; · iexact Hfr0_0_1
      isplitl [HW]; · iexact HW
      iintro ⟨H0, H1, H2, H3, ⟨%e4, H4⟩, HS0, HS1, Hfl0_0', Hkp0_0', ⟨%W', HW'⟩⟩
      isplitl [HS0 HS1 Hg Hfl0_0' Hkp0_0']
      · isplitl [HS0]; · iexact HS0
        isplitl [HS1]; · iexact HS1
        isplitl [Hg]; · iexact Hg
        iapply Ring.with_homes₀
        isplitl [Hfl0_0']; · iexact Hfl0_0'
        iexact Hkp0_0'
      isplitl [HW']
      · iexists W'; isplitr; · ipureintro; exact fun _ _ => Or.inl trivial
        iexact HW'
      isplitl [H0]; · iexact H0
      isplitl [H1]; · iexact H1
      isplitl [H2]; · iexact H2
      isplitl [H3]; · iexact H3
      unfold owns; iexists _; isplitr
      swap; · iexact H4
      ipureintro; exact View.read_writes_of_cover _ _ _ _ _ (cover0_4 c _ _ _ _ _ _ _ _ _ _ _ _ _ _ _ _ _ _ _ _)
    · exfalso; omega
  · by_cases h1 : t.val < 27
    · unfold outsAt0 out0_4
      have hr0 := rstep0_0_B t (fun h => h0 ((hcond0_0 t).mp h)) ((hcond0_1 t).mpr h1)
      obtain ⟨hK10, hKB0, hKs0⟩ := hr0
      rw [if_neg (show ¬t.val = 0 by omega), if_neg (show ¬t.val + 1 = 0 by omega)]
      rw [Ring.AtK2_here _ _ _ _ _ t.val hK10 hKB0, Ring.AtK2_next _ _ _ _ _ t.val hK10 hKB0]
      iintro ⟨⟨HS0, HS1, Hg, ⟨-, Hfl0_0, Hkp0_0⟩⟩, ⟨%W, -, HW⟩, ⟨%d0, H0⟩, ⟨%d1, H1⟩, ⟨%d2, H2⟩, ⟨%d3, H3⟩, ⟨%d4, H4⟩⟩
      iapply (kernelRun0_B c t _ _ _ _ _ _ _ _ _ _ _ _ _ _ (fun h => h0 ((hcond0_0 t).mp h)) ((hcond0_1 t).mpr h1) (iblk m c 0 t) (iblk m c 1 t) (iblk m c 2 t) (iblk m c 3 t) (V m c main_v0) W _)
      isplitl [H0]; · iexact H0
      isplitl [H1]; · iexact H1
      isplitl [H2]; · iexact H2
      isplitl [H3]; · iexact H3
      isplitl [H4]; · iexists _; iexact H4
      isplitl [HS0]; · iexact HS0
      isplitl [HS1]; · iexact HS1
      isplitl [Hfl0_0]; · iexact Hfl0_0
      isplitl [Hkp0_0]; · iexact Hkp0_0
      isplitl [HW]; · iexact HW
      iintro ⟨H0, H1, H2, H3, ⟨%e4, H4⟩, HS0, HS1, Hfl0_0', Hkp0_0', ⟨%W', HW'⟩⟩
      isplitl [HS0 HS1 Hg Hfl0_0' Hkp0_0']
      · isplitl [HS0]; · iexact HS0
        isplitl [HS1]; · iexact HS1
        isplitl [Hg]; · iexact Hg
        iapply (Ring.with_homes (Idealize.SL.BI.Entails.refl _))
        isplitl [Hfl0_0']; · iexact Hfl0_0'
        iexact Hkp0_0'
      isplitl [HW']
      · iexists W'; isplitr; · ipureintro; exact fun _ _ => Or.inl trivial
        iexact HW'
      isplitl [H0]; · iexact H0
      isplitl [H1]; · iexact H1
      isplitl [H2]; · iexact H2
      isplitl [H3]; · iexact H3
      unfold owns; iexists _; isplitr
      swap; · iexact H4
      ipureintro; exact View.read_writes_of_cover _ _ _ _ _ (cover0_4 c _ _ _ _ _ _ _ _ _ _ _ _ _ _ _ _ _ _ _ _)
    · unfold outsAt0 out0_4
      have hr0 := rstep0_0_C t (fun h => h0 ((hcond0_0 t).mp h)) (fun h => h1 ((hcond0_1 t).mp h))
      obtain ⟨hK10, hKB0, hKs0⟩ := hr0
      rw [if_neg (show ¬t.val = 0 by omega), if_neg (show ¬t.val + 1 = 0 by omega)]
      rw [Ring.AtK2_here_last _ _ _ _ _ t.val hK10 hKB0, Ring.AtK2_next_last _ _ _ _ _ t.val hK10 hKB0]
      iintro ⟨⟨HS0, HS1, Hg, ⟨-, Hfl0_0, Hkp0_0⟩⟩, ⟨%W, -, HW⟩, ⟨%d0, H0⟩, ⟨%d1, H1⟩, ⟨%d2, H2⟩, ⟨%d3, H3⟩, ⟨%d4, H4⟩⟩
      iapply (kernelRun0_C c t _ _ _ _ _ _ _ _ _ _ _ _ _ _ (fun h => h0 ((hcond0_0 t).mp h)) (fun h => h1 ((hcond0_1 t).mp h)) (iblk m c 0 t) (iblk m c 1 t) (iblk m c 2 t) (iblk m c 3 t) (V m c main_v0) W _)
      isplitl [H0]; · iexact H0
      isplitl [H1]; · iexact H1
      isplitl [H2]; · iexact H2
      isplitl [H3]; · iexact H3
      isplitl [H4]; · iexists _; iexact H4
      isplitl [HS0]; · iexact HS0
      isplitl [HS1]; · iexact HS1
      isplitl [Hfl0_0]; · iexact Hfl0_0
      isplitl [HW]; · iexact HW
      iintro ⟨H0, H1, H2, H3, ⟨%e4, H4⟩, HS0, HS1, Hkp0_0', ⟨%W', HW'⟩⟩
      isplitl [HS0 HS1 Hg Hkp0_0 Hkp0_0']
      · isplitl [HS0]; · iexact HS0
        isplitl [HS1]; · iexact HS1
        isplitl [Hg]; · iexact Hg
        iapply (Ring.with_homes (Idealize.SL.BI.Entails.refl _))
        isplitl [Hkp0_0]; · iexact Hkp0_0
        iexact Hkp0_0'
      isplitl [HW']
      · iexists W'; isplitr; · ipureintro; exact fun _ _ => Or.inl trivial
        iexact HW'
      isplitl [H0]; · iexact H0
      isplitl [H1]; · iexact H1
      isplitl [H2]; · iexact H2
      isplitl [H3]; · iexact H3
      unfold owns; iexists _; isplitr
      swap; · iexact H4
      ipureintro; exact View.read_writes_of_cover _ _ _ _ _ (cover0_4 c _ _ _ _ _ _ _ _ _ _ _ _ _ _ _ _ _ _ _ _)

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (`triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands the region (`ΦD`: the scratch, the register, the cells at zero, the HBM operands whole) is the
    invariant before the first point, and the invariant after the last point hands it back. -/
theorem hin (c : Dev nD) : Pipeline.ΦD osem0 spec0 H0 (V m) c ⊢ (dats m 0 c).Φ 0 := by
  rw [PhiD0_eq, show (dats m 0 c).Φ 0 = PhiR m c 0 from rfl]
  unfold PhiR
  iintro ⟨⟨HS0, HS1, HR0_0⟩, Hg, ⟨Hq0, Hq1⟩, Hh0⟩
  isplitl [HS0]; · iexact HS0
  isplitl [HS1]; · iexact HS1
  isplitl [Hg]; · iexact Hg
  iapply (ring0_0_in (F := F) m c)
  isplitl [HR0_0]; · iexact HR0_0
  isplitl [Hq0 Hq1]
  · isplitl [Hq0]; · iexact Hq0
    iexact Hq1
  iexact Hh0
theorem hout (c : Dev nD) : (dats m 0 c).Φ (Fin.last cfg0.N) ⊢ Pipeline.ΦD osem0 spec0 H0 (V m) c := by
  rw [PhiD0_eq, show (dats m 0 c).Φ (Fin.last cfg0.N) = PhiR m c grid0.N from rfl]
  unfold PhiR
  rw [show grid0.N = 28 by rw [N_0]]
  iintro ⟨HS0, HS1, Hg, HR0_0⟩
  ihave HX0_0 := (ring0_0_out (F := F) m c) $$ HR0_0
  icases HX0_0 with ⟨HR0_0, ⟨Hq0, Hq1⟩, Hh0⟩
  isplitl [HS0 HS1 HR0_0]
  · isplitl [HS0]; · iexact HS0
    isplitl [HS1]; · iexact HS1
    iexact HR0_0
  isplitl [Hg]
  · iexact Hg
  isplitl [Hq0 Hq1]
  · isplitl [Hq0]; · iexact Hq0
    iexact Hq1
  iexact Hh0

/-! ## The run and the frame -/

-- `θ_run_frame_dma`'s implicit arguments are found by unifying its conclusion with this one, which takes unfolding plain
-- definitions in a metavariable's type
set_option backward.isDefEq.respectTransparency.types false in
/-- The launch: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame_dma (Q' := _) cfgs (dats m) (0 : Fin 1) launch0 osem0 defs₀ Variants.none ownSemFacts0 H0 H0_sub m ρ main
    (hbody := fun c => (body_obligation m c).loose) (hshare := fun c => (dats m 0 c).share_full fun _ => rfl)
    (howed := fun _ _ => rfl) (V := V m) (hmain := hmain m Variants.none) (hA := A_eq m)
    (hin := hin m) (hout := hout m)

/-- At the compiled mesh, for any values, from any memory with zero counters: every weakly fair execution of @main on the
    TensorCores terminates, and every final state has every array of the pipeline at what the library computes from the
    proof data and every other unscoped buffer as the region found it (`FramePost`). -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ (dats m) (A_eq m) (run_main m ρ)

/-- The frame at any `F`: every run ends, the argument arrays end unchanged and every semaphore counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (unchanged m ρ) ((θ_run defs _ _).mono (fun _ h => h.2) (run_main_quiescent m ρ))

end Cert.KernelIdeal.Rg

end
-- ==== Proof.Ideal.Tile.lean ====
module

public import proofs.«01_k».proof.Proof.Ideal.Loop

@[expose] public section

set_option maxRecDepth 16384

noncomputable section

/-! # What one trip stores, as one expression

A trip of the column loop multiplies the activations by a tile of dequantised weights.  The functions
below are that computation written once: the nibbles of a quarter of the columns' words, one group of
thirty-two scaled and shifted weights, a tile of four groups, the product of a quarter and the sum of
the four quarters.  The theorem at the end says that the trip's store is this expression of the loads. -/

namespace Cert.KernelIdeal.Rg

open Cert.KernelIdeal Cert.KernelIdeal.Gen
open Idealize.ShloMosaic Idealize.ShloMosaic.TcCoe Idealize.ShloMosaic.Tactic

variable {F : FTy → Type} [FloatOps F]

/-- The weight bytes of 128 columns as words, one row of words for a column and a quarter. -/
def gWords (b : Vec F S1x2048x128 .i8) : IVec S128x4x128 32 :=
  shapeCast S128x4x128 (bitcast S512x128 32 (shapeCast S2048x128 b shapeCasts_S1x2048x128_S2048x128 : IVec S2048x128 8) bitcasts_S2048x128_w8_S512x128_w32) shapeCasts_S512x128_S128x4x128

/-- A quarter is a slice of the words. -/
theorem slices_quarter (q : Fin 4) : S128x4x128.Slices ![0, q.val, 0] S128x1x128 := by
  fin_cases q
  · exact slices_S128x4x128_o0_0_0_S128x1x128
  · exact slices_S128x4x128_o0_1_0_S128x1x128
  · exact slices_S128x4x128_o0_2_0_S128x1x128
  · exact slices_S128x4x128_o0_3_0_S128x1x128

/-- The words of quarter `q`. -/
def gQuarter (q : Fin 4) (w : IVec S128x4x128 32) : IVec S128x1x128 32 :=
  extractStridedSlice S128x1x128 ![0, q.val, 0] w (slices_quarter q)

/-- The nibbles of a quarter, contraction index first: eight of each word. -/
def gNib (w : IVec S128x1x128 32) : FVec F S1024x128 .bf16 :=
  sitofp .bf16 (shapeCast S1024x128
    (andi (shrui (broadcastTo S128x8x128 (shapeCast S128x1x128 (shapeCast S128x1x128 (transpose S128x128 [1, 0]
        (shapeCast S128x128 w shapeCasts_S128x1x128_S128x128) transposes_S128x128_p1_0_S128x128) shapeCasts_S128x128_S128x1x128) shapeCasts_S128x1x128_S128x1x128) broadcasts_S128x1x128_S128x8x128)
      (muli (broadcast S128x8x128 4#32) (iota .tc S128x8x128 32 [1] iota_S128x8x128_d1_w32)))
      (broadcast S128x8x128 15#32)) shapeCasts_S128x8x128_S1024x128)

/-- Four superblocks' two rows of scales, as the sixteen rows that a block of sixteen weights meets. -/
def gRows (raw : Vec F S1x1x4x2x128 .bf16) : FVec F S16x128 .bf16 :=
  interleaveRows S16x128
    (concatenate S8x128 0 [⟨S4x128, shapeCast S4x128 (shapeCast S1x1x4x128 (rowsOfParity 0 S1x1x4x1x128 raw bitcasts_S1x1x4x2x128_w16_S1x1x4x1x128_w32) shapeCasts_S1x1x4x1x128_S1x1x4x128) shapeCasts_S1x1x4x128_S4x128⟩,
      ⟨S4x128, shapeCast S4x128 (shapeCast S1x1x4x128 (rowsOfParity 0 S1x1x4x1x128 raw bitcasts_S1x1x4x2x128_w16_S1x1x4x1x128_w32) shapeCasts_S1x1x4x1x128_S1x1x4x128) shapeCasts_S1x1x4x128_S4x128⟩] concatenates_S4x128_S4x128_S8x128_d0)
    (concatenate S8x128 0 [⟨S4x128, shapeCast S4x128 (shapeCast S1x1x4x128 (rowsOfParity 1 S1x1x4x1x128 raw bitcasts_S1x1x4x2x128_w16_S1x1x4x1x128_w32) shapeCasts_S1x1x4x1x128_S1x1x4x128) shapeCasts_S1x1x4x128_S4x128⟩,
      ⟨S4x128, shapeCast S4x128 (shapeCast S1x1x4x128 (rowsOfParity 1 S1x1x4x1x128 raw bitcasts_S1x1x4x2x128_w16_S1x1x4x1x128_w32) shapeCasts_S1x1x4x1x128_S1x1x4x128) shapeCasts_S1x1x4x128_S4x128⟩] concatenates_S4x128_S4x128_S8x128_d0)
    bitcasts_S16x128_w16_S8x128_w32

/-- A group's weights: nibble times scale minus offset. -/
def gPart (w : FVec F S256x128 .bf16) (s o : Vec F S1x1x4x2x128 .bf16) : FVec F S256x128 .bf16 :=
  shapeCast S256x128 (subf (mulf (shapeCast S16x16x128 w shapeCasts_S256x128_S16x16x128)
      (broadcastTo S16x16x128 (shapeCast S1x16x128 (gRows s) shapeCasts_S16x128_S1x16x128) broadcasts_S1x16x128_S16x16x128))
      (broadcastTo S16x16x128 (shapeCast S1x16x128 (gRows o) shapeCasts_S16x128_S1x16x128) broadcasts_S1x16x128_S16x16x128))
    shapeCasts_S16x16x128_S256x128

/-- A quarter's tile for 128 columns: its four groups. -/
def gTile (w : FVec F S1024x128 .bf16) (s o : Fin 4 → Vec F S1x1x4x2x128 .bf16) : FVec F S1024x128 .bf16 :=
  concatenate S1024x128 0
    [⟨S256x128, gPart (extractStridedSlice S256x128 ![0, 0] w slices_S1024x128_o0_0_S256x128) (s 0) (o 0)⟩,
     ⟨S256x128, gPart (extractStridedSlice S256x128 ![256, 0] w slices_S1024x128_o256_0_S256x128) (s 1) (o 1)⟩,
     ⟨S256x128, gPart (extractStridedSlice S256x128 ![512, 0] w slices_S1024x128_o512_0_S256x128) (s 2) (o 2)⟩,
     ⟨S256x128, gPart (extractStridedSlice S256x128 ![768, 0] w slices_S1024x128_o768_0_S256x128) (s 3) (o 3)⟩]
    concatenates_S256x128_S256x128_S256x128_S256x128_S1024x128_d0

/-- One quarter's product added to the sum so far. -/
def gStep (acc : FVec F S36x256 .f32) (a : Vec F S36x1024 .bf16) (l r : FVec F S1024x128 .bf16) : FVec F S36x256 .f32 :=
  addf acc (matmul dot_S36x1024_S1024x256_S36x256_1_0_0_1_n_n none a
    (concatenate S1024x256 1 [⟨S1024x128, l⟩, ⟨S1024x128, r⟩] concatenates_S1024x128_S1024x128_S1024x256_d1)
    (constant S36x256 .f32 0x00000000#32))

/-- The tile of quarter `q`, half `h`. -/
def gQTile (q : Fin 4) (b : Vec F S1x2048x128 .i8) (s o : Fin 4 → Fin 4 → Vec F S1x1x4x2x128 .bf16) : FVec F S1024x128 .bf16 :=
  gTile (gNib (gQuarter q (gWords b))) (s q) (o q)

/-- What a trip stores: the four quarters' products summed from zero. -/
def gTrip (a : Fin 4 → Vec F S36x1024 .bf16) (b : Fin 2 → Vec F S1x2048x128 .i8)
    (s o : Fin 2 → Fin 4 → Fin 4 → Vec F S1x1x4x2x128 .bf16) : FVec F S36x256 .f32 :=
  gStep (gStep (gStep (gStep (broadcast S36x256 (Scalar.ofBits .f32 0x00000000#32))
    (a 0) (gQTile 0 (b 0) (s 0) (o 0)) (gQTile 0 (b 1) (s 1) (o 1)))
    (a 1) (gQTile 1 (b 0) (s 0) (o 0)) (gQTile 1 (b 1) (s 1) (o 1)))
    (a 2) (gQTile 2 (b 0) (s 0) (o 0)) (gQTile 2 (b 1) (s 1) (o 1)))
    (a 3) (gQTile 3 (b 0) (s 0) (o 0)) (gQTile 3 (b 1) (s 1) (o 1))

/-- The scale rows read are inside the buffer. -/
theorem inb_scr (h : Fin 2) (q g : Fin 4) : ∀ a, (![h.val, g.val, 4 * q.val, 0, 0] : Fin 5 → Nat) a + S1x1x4x2x128.size a ≤ S2x4x16x2x128.size a := by
  intro a; fin_cases a <;> simp [S1x1x4x2x128, S2x4x16x2x128, Shape.size] <;> omega

/-- The rows a quarter and group of half `h` read of a scale scratch holding `S`. -/
def scrLoad {sg : RefSig} (m : Memref sg .tc .vmem S2x4x16x2x128 .bf16) (hm : m.IsWhole) (S : Vec F S2x4x16x2x128 .bf16) (h : Fin 2) (q g : Fin 4) : Vec F S1x1x4x2x128 .bf16 :=
  View.readAt (Elt F) m.view (Rect.unit (s := S2x4x16x2x128) ![h.val, g.val, 4 * q.val, 0, 0] S1x1x4x2x128.size (inb_scr h q g)).toLoadRect (hm.unread S)

/-- The activations read are inside their block. -/
theorem inb_act (q : Fin 4) : ∀ a, (![0, 1024 * q.val] : Fin 2 → Nat) a + S36x1024.size a ≤ S36x4096.size a := by
  intro a; fin_cases a <;> simp [S36x1024, S36x4096, Shape.size] <;> omega

/-- The activations a quarter reads. -/
def actLoad {sg : RefSig} (m : Memref sg .tc .vmem S36x4096 .bf16) (hm : m.IsWhole) (x : Vec F S36x4096 .bf16) (q : Fin 4) : Vec F S36x1024 .bf16 :=
  View.readAt (Elt F) m.view (Rect.unit (s := S36x4096) ![0, 1024 * q.val] S36x1024.size (inb_act q)).toLoadRect (hm.unread x)

/-- The weight bytes half `h` reads of the slot. -/
def slotLoad (c : Dev nD) (t : Fin cfg0.N) (fh0 : HbBuf0 (F := F) c hbM0_0) (k : Fin k0_t1_loop.trips) (h : Fin 2) : Vec F S1x2048x128 .i8 :=
  View.readAt (Elt F) scM0_2.view (Rect.unit (s := S2x8192x128) (k0_off20 (grid0.coords t) k (BitVec.ofNat 32 (128 * h.val))) S1x2048x128.size (k0_off20_inb (grid0.coords t) k h)).toLoadRect
    ((rslot0_0 (Ring.sl 2 t.val)).view.writes (Elt F) (rslot0_0 (Ring.sl 2 t.val)).view.junk
      [⟨Rect.whole S8192x128, ReadAs.same.apply (View.read (Elt F) (srcB0_0 (Ring.bk 28 t.val)).view fh0)⟩])

section Trip
variable (c : Dev nD) (t : Fin cfg0.N) (arg1 : Memref sig .tc .vmem S36x4096 .bf16) (harg1 : arg1.IsWhole) (arg3 : Memref sig .tc .vmem S12x16x512 .i8) (harg3 : arg3.IsWhole) (arg4 : Memref sig .tc .vmem S16x512 .bf16) (harg4 : arg4.IsWhole) (arg5 : Memref sig .tc .vmem S16x512 .bf16) (harg5 : arg5.IsWhole) (arg6 : Memref sig .tc .vmem S36x512 .f32) (harg6 : arg6.IsWhole) (arg7 : Memref sig .tc .vmem S2x4x16x2x128 .bf16) (harg7 : arg7.IsWhole) (arg8 : Memref sig .tc .vmem S2x4x16x2x128 .bf16) (harg8 : arg8.IsWhole)
    (x0 : Vec F S36x4096 .bf16) (x1 : Vec F S12x16x512 .i8) (x2 : Vec F S16x512 .bf16) (x3 : Vec F S16x512 .bf16) (fh0 : HbBuf0 (F := F) c hbM0_0) (k : Fin k0_t1_loop.trips)

/-- The trip's one store: the summed products, at the trip's 256 columns. -/
theorem trip_pieces :
    (trip c t arg1 harg1 arg3 harg3 arg4 harg4 arg5 harg5 arg6 harg6 arg7 harg7 arg8 harg8 x0 x1 x2 x3 fh0 k).1.1
      = [⟨Rect.unit (s := S36x512) (k0_off21 k) S36x256.size (k0_off21_inb k),
          gTrip (actLoad arg1 harg1 x0) (slotLoad c t fh0 k)
            (scrLoad arg7 harg7 (trip c t arg1 harg1 arg3 harg3 arg4 harg4 arg5 harg5 arg6 harg6 arg7 harg7 arg8 harg8 x0 x1 x2 x3 fh0 k).1.2.1)
            (scrLoad arg8 harg8 (trip c t arg1 harg1 arg3 harg3 arg4 harg4 arg5 harg5 arg6 harg6 arg7 harg7 arg8 harg8 x0 x1 x2 x3 fh0 k).1.2.2)⟩] := by
  unfold trip
  sl_kernel_rfl

end Trip

end Cert.KernelIdeal.Rg

end
-- ==== Proof.Ideal.Scales.lean ====
module

public import proofs.«01_k».proof.Proof.Ideal.Tile

@[expose] public section

set_option maxRecDepth 16384

noncomputable section

/-! # What one trip keeps in the two scale buffers

The superblocks' six-bit sub-scales and sub-minima are unpacked from the words of the twelve packed rows,
multiplied by the superblock's scale, and kept as two rows to a word, sixteen stores to a buffer. -/

namespace Cert.KernelIdeal.Rg

open Cert.KernelIdeal Cert.KernelIdeal.Gen
open Idealize.ShloMosaic Idealize.ShloMosaic.TcCoe Idealize.ShloMosaic.Tactic

variable {F : FTy → Type} [FloatOps F]

/-- Where row `i` of the packed scales is loaded from. -/
def wOff (i : Fin 12) (k : Fin k0_t1_loop.trips) (c : BitVec 32) : Fin 3 → Nat :=
  match i with
  | 0 => k0_off7 k c
  | 1 => k0_off8 k c
  | 2 => k0_off9 k c
  | 3 => k0_off10 k c
  | 4 => k0_off11 k c
  | 5 => k0_off12 k c
  | 6 => k0_off13 k c
  | 7 => k0_off14 k c
  | 8 => k0_off15 k c
  | 9 => k0_off16 k c
  | 10 => k0_off17 k c
  | 11 => k0_off18 k c

/-- The rows of packed scales read are inside their block. -/
theorem wOff_inb (i : Fin 12) (k : Fin k0_t1_loop.trips) (h : Fin 2) : ∀ a, wOff i k (BitVec.ofNat 32 (128 * h.val)) a + S1x16x128.size a ≤ S12x16x512.size a := by
  fin_cases i
  · exact k0_off7_inb k h
  · exact k0_off8_inb k h
  · exact k0_off9_inb k h
  · exact k0_off10_inb k h
  · exact k0_off11_inb k h
  · exact k0_off12_inb k h
  · exact k0_off13_inb k h
  · exact k0_off14_inb k h
  · exact k0_off15_inb k h
  · exact k0_off16_inb k h
  · exact k0_off17_inb k h
  · exact k0_off18_inb k h

/-- Row `i` of the packed scales, at the 128 columns of half `h`, as words. -/
def wLoad {sg : RefSig} (m : Memref sg .tc .vmem S12x16x512 .i8) (hm : m.IsWhole) (x : Vec F S12x16x512 .i8) (k : Fin k0_t1_loop.trips) (h : Fin 2) (i : Fin 12) : Vec F S1x16x128 .i8 :=
  View.readAt (Elt F) m.view (Rect.unit (s := S12x16x512) (wOff i k (BitVec.ofNat 32 (128 * h.val))) S1x16x128.size (wOff_inb i k h)).toLoadRect (hm.unread x)

/-- The superblocks' scales at the 128 columns of half `h`. -/
def dLoad {sg : RefSig} (m : Memref sg .tc .vmem S16x512 .bf16) (hm : m.IsWhole) (x : Vec F S16x512 .bf16) (k : Fin k0_t1_loop.trips) (h : Fin 2) : Vec F S16x128 .bf16 :=
  View.readAt (Elt F) m.view (Rect.unit (s := S16x512) (k0_off19 k (BitVec.ofNat 32 (128 * h.val))) S16x128.size (k0_off19_inb k h)).toLoadRect (hm.unread x)

/-- Sixteen rows of bytes as four rows of words. -/
def gWord (b : Vec F S1x16x128 .i8) : IVec S4x128 32 :=
  bitcast S4x128 32 (shapeCast S16x128 b shapeCasts_S1x16x128_S16x128 : IVec S16x128 8) bitcasts_S16x128_w8_S4x128_w32

/-- The words of sub-scale `j`. -/
def gSubS (w : Fin 12 → IVec S4x128 32) (j : Fin 8) : IVec S4x128 32 :=
  match j with
  | 0 => andi (w 0) (broadcast S4x128 1061109567#32)
  | 1 => andi (w 1) (broadcast S4x128 1061109567#32)
  | 2 => andi (w 2) (broadcast S4x128 1061109567#32)
  | 3 => andi (w 3) (broadcast S4x128 1061109567#32)
  | 4 => ori (andi (w 8) (broadcast S4x128 252645135#32)) (andi (shrsi (w 0) (broadcast S4x128 2#32)) (broadcast S4x128 808464432#32))
  | 5 => ori (andi (w 9) (broadcast S4x128 252645135#32)) (andi (shrsi (w 1) (broadcast S4x128 2#32)) (broadcast S4x128 808464432#32))
  | 6 => ori (andi (w 10) (broadcast S4x128 252645135#32)) (andi (shrsi (w 2) (broadcast S4x128 2#32)) (broadcast S4x128 808464432#32))
  | 7 => ori (andi (w 11) (broadcast S4x128 252645135#32)) (andi (shrsi (w 3) (broadcast S4x128 2#32)) (broadcast S4x128 808464432#32))

/-- The words of sub-minimum `j`. -/
def gSubM (w : Fin 12 → IVec S4x128 32) (j : Fin 8) : IVec S4x128 32 :=
  match j with
  | 0 => andi (w 4) (broadcast S4x128 1061109567#32)
  | 1 => andi (w 5) (broadcast S4x128 1061109567#32)
  | 2 => andi (w 6) (broadcast S4x128 1061109567#32)
  | 3 => andi (w 7) (broadcast S4x128 1061109567#32)
  | 4 => ori (andi (shrsi (w 8) (broadcast S4x128 4#32)) (broadcast S4x128 252645135#32)) (andi (shrsi (w 4) (broadcast S4x128 2#32)) (broadcast S4x128 808464432#32))
  | 5 => ori (andi (shrsi (w 9) (broadcast S4x128 4#32)) (broadcast S4x128 252645135#32)) (andi (shrsi (w 5) (broadcast S4x128 2#32)) (broadcast S4x128 808464432#32))
  | 6 => ori (andi (shrsi (w 10) (broadcast S4x128 4#32)) (broadcast S4x128 252645135#32)) (andi (shrsi (w 6) (broadcast S4x128 2#32)) (broadcast S4x128 808464432#32))
  | 7 => ori (andi (shrsi (w 11) (broadcast S4x128 4#32)) (broadcast S4x128 252645135#32)) (andi (shrsi (w 7) (broadcast S4x128 2#32)) (broadcast S4x128 808464432#32))

/-- The sub-scales times the superblock's scale, a row to a superblock. -/
def gScaled (w : IVec S4x128 32) (d : Vec F S16x128 .bf16) : FVec F S16x128 .bf16 :=
  mulf (uitofp .bf16 (bitcast S16x128 8 w bitcasts_S4x128_w32_S16x128_w8)) (shapeCast S16x128 d shapeCasts_S16x128_S16x128)

/-- One store's payload: the rows of parity `p` of two arrays of scales, alternating. -/
def gPair (p : Fin 2) (A B : FVec F S16x128 .bf16) : Vec F S1x1x8x2x128 .bf16 :=
  interleaveRows S1x1x8x2x128
    (shapeCast S1x1x8x1x128 (shapeCast S1x1x8x128 (rowsOfParity p S8x128 A bitcasts_S16x128_w16_S8x128_w32) shapeCasts_S8x128_S1x1x8x128) shapeCasts_S1x1x8x128_S1x1x8x1x128)
    (shapeCast S1x1x8x1x128 (shapeCast S1x1x8x128 (rowsOfParity p S8x128 B bitcasts_S16x128_w16_S8x128_w32) shapeCasts_S8x128_S1x1x8x128) shapeCasts_S1x1x8x128_S1x1x8x1x128)
    bitcasts_S1x1x8x2x128_w16_S1x1x8x1x128_w32

/-- The store of half `h`, group `g` and parity `p`, of arrays of scales indexed by half and sub-block. -/
def gPiece (A : Fin 2 → Fin 8 → FVec F S16x128 .bf16) (h : Fin 2) (g : Fin 4) (p : Fin 2) : View.Piece (Elt F) S2x4x16x2x128 .bf16 :=
  ⟨scrRect h g p, gPair p (A h ⟨2 * g.val, by omega⟩) (A h ⟨2 * g.val + 1, by omega⟩)⟩

/-- The sixteen stores into a scale buffer, the last first. -/
def gPieces (A : Fin 2 → Fin 8 → FVec F S16x128 .bf16) : List (View.Piece (Elt F) S2x4x16x2x128 .bf16) :=
  [gPiece A 1 3 1, gPiece A 1 3 0, gPiece A 1 2 1, gPiece A 1 2 0, gPiece A 1 1 1, gPiece A 1 1 0, gPiece A 1 0 1, gPiece A 1 0 0, gPiece A 0 3 1, gPiece A 0 3 0, gPiece A 0 2 1, gPiece A 0 2 0, gPiece A 0 1 1, gPiece A 0 1 0, gPiece A 0 0 1, gPiece A 0 0 0]

section Trip
variable (c : Dev nD) (t : Fin cfg0.N) (arg1 : Memref sig .tc .vmem S36x4096 .bf16) (harg1 : arg1.IsWhole) (arg3 : Memref sig .tc .vmem S12x16x512 .i8) (harg3 : arg3.IsWhole) (arg4 : Memref sig .tc .vmem S16x512 .bf16) (harg4 : arg4.IsWhole) (arg5 : Memref sig .tc .vmem S16x512 .bf16) (harg5 : arg5.IsWhole) (arg6 : Memref sig .tc .vmem S36x512 .f32) (harg6 : arg6.IsWhole) (arg7 : Memref sig .tc .vmem S2x4x16x2x128 .bf16) (harg7 : arg7.IsWhole) (arg8 : Memref sig .tc .vmem S2x4x16x2x128 .bf16) (harg8 : arg8.IsWhole)
    (x0 : Vec F S36x4096 .bf16) (x1 : Vec F S12x16x512 .i8) (x2 : Vec F S16x512 .bf16) (x3 : Vec F S16x512 .bf16) (fh0 : HbBuf0 (F := F) c hbM0_0) (k : Fin k0_t1_loop.trips)

/-- What the trip leaves in the first scale buffer. -/
theorem trip_scale :
    (trip c t arg1 harg1 arg3 harg3 arg4 harg4 arg5 harg5 arg6 harg6 arg7 harg7 arg8 harg8 x0 x1 x2 x3 fh0 k).1.2.1
      = View.canon (gPieces fun h j => gScaled (gSubS (fun i => gWord (wLoad arg3 harg3 x1 k h i)) j) (dLoad arg4 harg4 x2 k h)) := by
  unfold trip
  sl_kernel_rfl

/-- What the trip leaves in the second scale buffer. -/
theorem trip_offset :
    (trip c t arg1 harg1 arg3 harg3 arg4 harg4 arg5 harg5 arg6 harg6 arg7 harg7 arg8 harg8 x0 x1 x2 x3 fh0 k).1.2.2
      = View.canon (gPieces fun h j => gScaled (gSubM (fun i => gWord (wLoad arg3 harg3 x1 k h i)) j) (dLoad arg5 harg5 x3 k h)) := by
  unfold trip
  sl_kernel_rfl

end Trip

end Cert.KernelIdeal.Rg

end
-- ==== Proof.Q4K.lean ====
module

public import Idealize.ShloMosaic.Lib.Pointwise
public import Idealize.ShloMosaic.Lib.BitcastFour

@[expose] public section

noncomputable section

/-! # The weight format, and the words both programs unpack it from

A superblock of 256 weights is 128 bytes of nibbles, twelve bytes holding eight six-bit sub-scales and eight
six-bit sub-minima, and two scales.  This module says which number a weight is, and the facts about bytes and
words with which either program's unpacking is read as that number. -/

namespace Cert.Q4K

open Idealize.ShloMosaic Idealize.ShloMosaic.TcCoe

/-- The low (`h = 0`) or high (`h = 1`) nibble of a byte. -/
def nib (b : BitVec 8) (h : Fin 2) : Nat := if h.val = 0 then b.toNat % 16 else b.toNat / 16

/-- Sub-scale `j` of a superblock, from its twelve packed bytes. -/
def subS (r : Fin 12 → BitVec 8) (j : Fin 8) : BitVec 8 :=
  if j.val < 4 then r ⟨j.val, by omega⟩ &&& 63#8
  else (r ⟨j.val + 4, by omega⟩ &&& 15#8) ||| ((r ⟨j.val - 4, by omega⟩ >>> 2) &&& 48#8)

/-- Sub-minimum `j` of a superblock, from its twelve packed bytes. -/
def subM (r : Fin 12 → BitVec 8) (j : Fin 8) : BitVec 8 :=
  if j.val < 4 then r ⟨4 + j.val, by omega⟩ &&& 63#8
  else ((r ⟨j.val + 4, by omega⟩ >>> 4) &&& 15#8) ||| ((r ⟨j.val, by omega⟩ >>> 2) &&& 48#8)

/-- A weight: its nibble times its sub-block's scale, minus its sub-block's offset. -/
def weight (b : BitVec 8) (h : Fin 2) (s m : BitVec 8) (d dmin : EReal) : EReal :=
  ((nib b h : ℝ) : EReal) * (((s.toNat : ℝ) : EReal) * d) - ((m.toNat : ℝ) : EReal) * dmin

/-- The weight that row `R` of quarter `q` of the activations multiplies: nibble row `R` of the quarter is nibble
`R % 2` of byte `R / 8` of superblock `4 q + R / 2 % 4`, in sub-block `2 (R / 256) + R % 2`. -/
def rowWeight (S : Nat) (B : Fin S → Fin 128 → BitVec 8) (C : Fin 12 → Fin S → BitVec 8) (d dmin : Fin S → EReal) (q : Fin (S / 4)) (R : Fin 1024) : EReal :=
  weight (B ⟨4 * q.val + R.val / 2 % 4, by omega⟩ ⟨R.val / 8, by omega⟩) ⟨R.val % 2, by omega⟩
    (subS (fun i => C i ⟨4 * q.val + R.val / 2 % 4, by omega⟩) ⟨2 * (R.val / 256) + R.val % 2, by omega⟩)
    (subM (fun i => C i ⟨4 * q.val + R.val / 2 % 4, by omega⟩) ⟨2 * (R.val / 256) + R.val % 2, by omega⟩)
    (d ⟨4 * q.val + R.val / 2 % 4, by omega⟩) (dmin ⟨4 * q.val + R.val / 2 % 4, by omega⟩)

/-- One quarter's part of a column's product. -/
def quarter (S : Nat) (a : Fin (256 * S) → EReal) (B : Fin S → Fin 128 → BitVec 8) (C : Fin 12 → Fin S → BitVec 8) (d dmin : Fin S → EReal) (q : Fin (S / 4)) : EReal :=
  ∑ R : Fin 1024, a ⟨1024 * q.val + R.val, by omega⟩ * rowWeight S B C d dmin q R

/-- A column's product with a row of activations: the sum of the quarters. -/
def colValue (S : Nat) (a : Fin (256 * S) → EReal) (B : Fin S → Fin 128 → BitVec 8) (C : Fin 12 → Fin S → BitVec 8) (d dmin : Fin S → EReal) : EReal :=
  ∑ q : Fin (S / 4), quarter S a B C d dmin q

/-- The product of activations with weights kept in the format: every row with every column. -/
def product (S : Nat) {N : Nat} (A : (⟨2, ![36, 256 * S]⟩ : Shape).Idx → EReal) (Q : (⟨3, ![N, S, 128]⟩ : Shape).Idx → BitVec 8)
    (C : (⟨3, ![N, S, 12]⟩ : Shape).Idx → BitVec 8) (D M : (⟨2, ![N, S]⟩ : Shape).Idx → EReal) :
    (⟨2, ![36, N]⟩ : Shape).Idx → EReal := fun i =>
  colValue S (fun k => A (ix2 (i 0) k)) (fun s l => Q (ix3 (i 1) s l)) (fun j s => C (ix3 (i 1) s j)) (fun s => D (ix2 (i 1) s)) (fun s => M (ix2 (i 1) s))

/-- The product at a row and column. -/
theorem product_apply (S : Nat) {N : Nat} (A : (⟨2, ![36, 256 * S]⟩ : Shape).Idx → EReal) (Q : (⟨3, ![N, S, 128]⟩ : Shape).Idx → BitVec 8)
    (C : (⟨3, ![N, S, 12]⟩ : Shape).Idx → BitVec 8) (D M : (⟨2, ![N, S]⟩ : Shape).Idx → EReal) (b : Fin 36) (n : Fin N) :
    product S A Q C D M (ix2 b n)
      = colValue S (fun k => A (ix2 b k)) (fun s l => Q (ix3 n s l)) (fun j s => C (ix3 n s j)) (fun s => D (ix2 n s)) (fun s => M (ix2 n s)) := rfl

/-- A column's product depends on its operands only at their indices. -/
theorem colValue_congr {S : Nat} {a a' : Fin (256 * S) → EReal} {B B' : Fin S → Fin 128 → BitVec 8} {C C' : Fin 12 → Fin S → BitVec 8}
    {d d' e e' : Fin S → EReal} (ha : ∀ i, a i = a' i) (hB : ∀ s i, B s i = B' s i) (hC : ∀ i s, C i s = C' i s)
    (hd : ∀ s, d s = d' s) (he : ∀ s, e s = e' s) : colValue S a B C d e = colValue S a' B' C' d' e' := by
  obtain rfl : a = a' := funext ha
  obtain rfl : B = B' := funext fun s => funext (hB s)
  obtain rfl : C = C' := funext fun s => funext (hC s)
  obtain rfl : d = d' := funext hd
  obtain rfl : e = e' := funext he
  rfl

/-- A sum over super-blocks, pairs of sub-blocks, halves and bytes, as the sum over quarters and the rows of a
quarter. -/
theorem sum_rows {S : Nat} {M : Type*} [AddCommMonoid M] (hS : S % 4 = 0) (f : Fin S → Fin 4 → Fin 2 → Fin 32 → M) :
    (∑ s : Fin S, ∑ g : Fin 4, ∑ i : Fin 32, f s g 0 i) + (∑ s : Fin S, ∑ g : Fin 4, ∑ i : Fin 32, f s g 1 i)
      = ∑ q : Fin (S / 4), ∑ R : Fin 1024, f ⟨4 * q.val + R.val / 2 % 4, by omega⟩ ⟨R.val / 256, by omega⟩ ⟨R.val % 2, by omega⟩ ⟨R.val / 8 % 32, by omega⟩ := by
  rw [← Fin.sum_univ_two (fun h => ∑ s : Fin S, ∑ g : Fin 4, ∑ i : Fin 32, f s g h i)]
  have e1 : (∑ h : Fin 2, ∑ s : Fin S, ∑ g : Fin 4, ∑ i : Fin 32, f s g h i)
      = ∑ p : Fin 2 × Fin S × Fin 4 × Fin 32, f p.2.1 p.2.2.1 p.1 p.2.2.2 := by
    simp only [Fintype.sum_prod_type]
  have e2 : (∑ q : Fin (S / 4), ∑ R : Fin 1024, f ⟨4 * q.val + R.val / 2 % 4, by omega⟩ ⟨R.val / 256, by omega⟩ ⟨R.val % 2, by omega⟩ ⟨R.val / 8 % 32, by omega⟩)
      = ∑ p : Fin (S / 4) × Fin 1024, f ⟨4 * p.1.val + p.2.val / 2 % 4, by omega⟩ ⟨p.2.val / 256, by omega⟩ ⟨p.2.val % 2, by omega⟩ ⟨p.2.val / 8 % 32, by omega⟩ := by
    simp only [Fintype.sum_prod_type]
  rw [e1, e2]
  refine Finset.sum_bij'
    (fun (p : Fin 2 × Fin S × Fin 4 × Fin 32) _ => ((⟨p.2.1.val / 4, by omega⟩ : Fin (S / 4)), (⟨256 * p.2.2.1.val + 8 * p.2.2.2.val + 2 * (p.2.1.val % 4) + p.1.val, by omega⟩ : Fin 1024)))
    (fun (p : Fin (S / 4) × Fin 1024) _ => ((⟨p.2.val % 2, by omega⟩ : Fin 2), (⟨4 * p.1.val + p.2.val / 2 % 4, by omega⟩ : Fin S), (⟨p.2.val / 256, by omega⟩ : Fin 4), (⟨p.2.val / 8 % 32, by omega⟩ : Fin 32)))
    (fun _ _ => Finset.mem_univ _) (fun _ _ => Finset.mem_univ _) ?_ ?_ ?_
  · rintro ⟨h, s, g, i⟩ _
    simp only [Prod.mk.injEq, Fin.ext_iff]
    omega
  · rintro ⟨q, R⟩ _
    simp only [Prod.mk.injEq, Fin.ext_iff]
    omega
  · rintro ⟨h, s, g, i⟩ _
    have es : (⟨4 * (s.val / 4) + (256 * g.val + 8 * i.val + 2 * (s.val % 4) + h.val) / 2 % 4, by omega⟩ : Fin S) = s := Fin.ext (by show 4 * (s.val / 4) + (256 * g.val + 8 * i.val + 2 * (s.val % 4) + h.val) / 2 % 4 = s.val; omega)
    have eg : (⟨(256 * g.val + 8 * i.val + 2 * (s.val % 4) + h.val) / 256, by omega⟩ : Fin 4) = g := Fin.ext (by show (256 * g.val + 8 * i.val + 2 * (s.val % 4) + h.val) / 256 = g.val; omega)
    have eh : (⟨(256 * g.val + 8 * i.val + 2 * (s.val % 4) + h.val) % 2, by omega⟩ : Fin 2) = h := Fin.ext (by show (256 * g.val + 8 * i.val + 2 * (s.val % 4) + h.val) % 2 = h.val; omega)
    have ei : (⟨(256 * g.val + 8 * i.val + 2 * (s.val % 4) + h.val) / 8 % 32, by omega⟩ : Fin 32) = i := Fin.ext (by show (256 * g.val + 8 * i.val + 2 * (s.val % 4) + h.val) / 8 % 32 = i.val; omega)
    show f s g h i = f _ _ _ _
    exact (by rw [es, eg, eh, ei])

/-! ## Bytes of a word -/

/-- Byte `t` of a word. -/
def lane (x : BitVec 32) (t : Nat) : BitVec 8 := x.extractLsb' (8 * t) 8

/-- A bit of a byte of a word is that bit of the word. -/
theorem lane_getLsbD (x : BitVec 32) (t i : Nat) (hi : i < 8) : (lane x t).getLsbD i = x.getLsbD (8 * t + i) := by
  simp [lane, BitVec.getLsbD_extractLsb', hi]

/-- The bytes of a conjunction. -/
theorem lane_andi (x y : BitVec 32) (t : Nat) : lane (x &&& y) t = lane x t &&& lane y t := by
  apply BitVec.eq_of_getLsbD_eq
  intro i hi
  simp only [lane_getLsbD _ _ _ hi, BitVec.getLsbD_and]

/-- The bytes of a disjunction. -/
theorem lane_ori (x y : BitVec 32) (t : Nat) : lane (x ||| y) t = lane x t ||| lane y t := by
  apply BitVec.eq_of_getLsbD_eq
  intro i hi
  simp only [lane_getLsbD _ _ _ hi, BitVec.getLsbD_or]

/-- Every byte of the six-bit mask is sixty-three. -/
theorem lane_63 (t : Nat) (ht : t < 4) : lane 1061109567#32 t = 63#8 := by
  interval_cases t <;> decide
/-- Every byte of the nibble mask is fifteen. -/
theorem lane_15 (t : Nat) (ht : t < 4) : lane 252645135#32 t = 15#8 := by
  interval_cases t <;> decide
/-- Every byte of the high-bits mask is forty-eight. -/
theorem lane_48 (t : Nat) (ht : t < 4) : lane 808464432#32 t = 48#8 := by
  interval_cases t <;> decide

/-- A word shifted by two and masked to each byte's bits four and five is each byte so. -/
theorem lane_shr2 (x : BitVec 32) (t : Nat) (ht : t < 4) :
    lane (x.sshiftRight 2 &&& 808464432#32) t = (lane x t >>> 2) &&& 48#8 := by
  rw [lane_andi, lane_48 t ht]
  apply BitVec.eq_of_getLsbD_eq
  intro i hi
  rw [BitVec.getLsbD_and, BitVec.getLsbD_and, lane_getLsbD _ _ _ hi, BitVec.getLsbD_ushiftRight, BitVec.getLsbD_sshiftRight]
  have h48 : (48#8).getLsbD i = decide (i = 4 ∨ i = 5) := by interval_cases i <;> decide
  rw [h48]
  by_cases h : i = 4 ∨ i = 5
  · have h1 : 2 + i < 8 := by omega
    rw [lane_getLsbD _ _ _ h1, show 2 + (8 * t + i) = 8 * t + (2 + i) by omega]
    simp [h, show ¬ 32 ≤ 8 * t + i by omega, show 8 * t + (2 + i) < 32 by omega]
  · simp [h]

/-- A word shifted by four and masked to each byte's low nibble is each byte so. -/
theorem lane_shr4 (x : BitVec 32) (t : Nat) (ht : t < 4) :
    lane (x.sshiftRight 4 &&& 252645135#32) t = (lane x t >>> 4) &&& 15#8 := by
  rw [lane_andi, lane_15 t ht]
  apply BitVec.eq_of_getLsbD_eq
  intro i hi
  rw [BitVec.getLsbD_and, BitVec.getLsbD_and, lane_getLsbD _ _ _ hi, BitVec.getLsbD_ushiftRight, BitVec.getLsbD_sshiftRight]
  have h15 : (15#8).getLsbD i = decide (i < 4) := by interval_cases i <;> decide
  rw [h15]
  by_cases h : i < 4
  · have h1 : 4 + i < 8 := by omega
    rw [lane_getLsbD _ _ _ h1, show 4 + (8 * t + i) = 8 * t + (4 + i) by omega]
    simp [h, show ¬ 32 ≤ 8 * t + i by omega, show 8 * t + (4 + i) < 32 by omega]
  · simp [h]

/-- A byte of a word as a number. -/
theorem lane_toNat (x : BitVec 32) (t : Nat) : (lane x t).toNat = x.toNat / 2 ^ (8 * t) % 256 := by
  simp [lane, BitVec.extractLsb'_toNat, Nat.shiftRight_eq_div_pow]

/-- Nibble `k` of a word is nibble `k % 2` of its byte `k / 2`. -/
theorem word_nib (x : BitVec 32) (k : Nat) (hk : k < 8) :
    ((x >>> (4 * k)) &&& 15#32).toInt = (nib (lane x (k / 2)) ⟨k % 2, by omega⟩ : ℤ) := by
  have e : ((x >>> (4 * k)) &&& 15#32).toNat = x.toNat / 2 ^ (4 * k) % 16 := by
    rw [BitVec.toNat_and, BitVec.toNat_ushiftRight, Nat.shiftRight_eq_div_pow]
    exact Nat.and_two_pow_sub_one_eq_mod _ 4
  have hlt : x.toNat / 2 ^ (4 * k) % 16 < 16 := Nat.mod_lt _ (by decide)
  rw [BitVec.toInt_eq_toNat_of_lt (by omega), e]
  unfold nib
  rw [lane_toNat]
  have hx : x.toNat < 2 ^ 32 := x.isLt
  congr 1
  interval_cases k <;> simp <;> omega

/-- Four rows of bytes taken as one row of words: byte `t` of a word is the byte of row `4 a + t`. -/
theorem bitcast_8_32_lane {R r n : Nat} (x : (⟨2, ![R, n]⟩ : Shape).Idx → BitVec 8)
    (h : (⟨2, ![R, n]⟩ : Shape).Bitcasts 8 ⟨2, ![r, n]⟩ 32) (a : Fin r) (l : Fin n) (t : Nat) (ht : t < 4) (p : Fin R)
    (hp : p.val = 4 * a.val + t) :
    lane (bitcast ⟨2, ![r, n]⟩ 32 x h (ix2 a l)) t = x (ix2 p l) := by
  apply BitVec.eq_of_getLsbD_eq
  intro i hi
  rw [lane_getLsbD _ _ _ hi]
  have e := bitcast_8_32_getLsbD_ix2 x h a l (8 * t + i) (by omega) p (by omega)
  rw [show (8 * t + i) % 8 = i by omega] at e
  exact e

/-- A row of words taken as four rows of bytes: row `a` holds byte `a % 4` of the words of row `a / 4`. -/
theorem bitcast_32_8_lane {R r n : Nat} (x : (⟨2, ![r, n]⟩ : Shape).Idx → BitVec 32)
    (h : (⟨2, ![r, n]⟩ : Shape).Bitcasts 32 ⟨2, ![R, n]⟩ 8) (a : Fin R) (l : Fin n) (p : Fin r)
    (hp : p.val = a.val / 4) :
    bitcast ⟨2, ![R, n]⟩ 8 x h (ix2 a l) = lane (x (ix2 p l)) (a.val % 4) := by
  apply BitVec.eq_of_getLsbD_eq
  intro i hi
  rw [lane_getLsbD _ _ _ hi, bitcast_getLsbD x h _ i hi (by decide)]
  have hr : (⟨2, ![R, n]⟩ : Shape).row (ix2 a l) = a.val := rfl
  congr 1
  · congr 1
    funext c
    fin_cases c
    · apply Fin.ext
      rw [Shape.Bitcasts.srcIdx_row _ _ _ _ _ rfl, hr]
      show _ = p.val
      omega
    · apply Fin.ext
      rw [Shape.Bitcasts.srcIdx_other _ _ _ _ _ (by show ¬ (1 + 2 = 2); omega)]
      rfl
  · rw [hr]; omega

/-! ## Bytes widened to words -/

/-- A byte widened to a word is its own number. -/
theorem toInt_byte (b : BitVec 8) : (b.setWidth 32).toInt = (b.toNat : ℤ) := by
  have hb := b.isLt
  have h : (b.setWidth 32).toNat = b.toNat := by
    rw [BitVec.toNat_setWidth]
    exact Nat.mod_eq_of_lt (by omega)
  rw [BitVec.toInt_eq_toNat_of_lt (by omega), h]

/-- The low six bits of a widened byte. -/
theorem and63 (a : BitVec 8) : IntOp.andi (a.setWidth 32) 63#32 = (a &&& 63#8).setWidth 32 := by
  revert a; decide +kernel

/-- The low nibble of a widened byte. -/
theorem and15 (a : BitVec 8) : IntOp.andi (a.setWidth 32) 15#32 = (a &&& 15#8).setWidth 32 := by
  revert a; decide +kernel

/-- The high nibble of a widened byte. -/
theorem shr4 (a : BitVec 8) : IntOp.shrsi ArithUnit.vector (a.setWidth 32) 4#32 = ((a >>> 4) &&& 15#8).setWidth 32 := by
  revert a; decide +kernel

/-- The top two bits of a widened byte, moved to bits four and five. -/
theorem shr6 (a : BitVec 8) : IntOp.shli ArithUnit.vector (IntOp.shrsi ArithUnit.vector (a.setWidth 32) 6#32) 4#32 = ((a >>> 2) &&& 48#8).setWidth 32 := by
  revert a; decide +kernel

/-- The disjunction of widened bytes. -/
theorem or_byte (a b : BitVec 8) : IntOp.ori (a.setWidth 32) (b.setWidth 32) = (a ||| b).setWidth 32 := by
  simp [IntOp.ori, BitVec.setWidth_or]

/-- The low nibble as a number. -/
theorem nib_lo (a : BitVec 8) : ((a &&& 15#8).toNat : ℕ) = nib a 0 := by
  revert a; decide +kernel

/-- The high nibble as a number. -/
theorem nib_hi (a : BitVec 8) : (((a >>> 4) &&& 15#8).toNat : ℕ) = nib a 1 := by
  revert a; decide +kernel

/-- A widened byte as a real. -/
theorem sitofp_byte (φ : FTy) (b : BitVec 8) : FloatOps.sitofp (F := Ideal) φ (b.setWidth 32) = (((b.toNat : ℕ) : ℝ) : EReal) := by
  show (((b.setWidth 32).toInt : ℝ) : EReal) = _
  rw [toInt_byte]
  norm_cast

/-! ## The product as two sums -/

/-- Two sums over super-blocks, pairs of sub-blocks and bytes, one over low nibbles and one over high nibbles, of activations in
packed order times the format's weights: the column's product. -/
theorem colValue_eq_sums (S : Nat) (hS : S % 4 = 0) (a : Fin (256 * S) → EReal) (B : Fin S → Fin 128 → BitVec 8) (C : Fin 12 → Fin S → BitVec 8) (d e : Fin S → EReal) :
    (∑ s : Fin S, ∑ g : Fin 4, ∑ i : Fin 32, a ⟨1024 * (s.val / 4) + (256 * g.val + 8 * i.val + 2 * (s.val % 4) + (0 : Fin 2).val), by omega⟩
        * weight (B s ⟨32 * g.val + i.val, by omega⟩) 0 (subS (fun j => C j s) ⟨2 * g.val + (0 : Fin 2).val, by omega⟩)
            (subM (fun j => C j s) ⟨2 * g.val + (0 : Fin 2).val, by omega⟩) (d s) (e s))
      + (∑ s : Fin S, ∑ g : Fin 4, ∑ i : Fin 32, a ⟨1024 * (s.val / 4) + (256 * g.val + 8 * i.val + 2 * (s.val % 4) + (1 : Fin 2).val), by omega⟩
        * weight (B s ⟨32 * g.val + i.val, by omega⟩) 1 (subS (fun j => C j s) ⟨2 * g.val + (1 : Fin 2).val, by omega⟩)
            (subM (fun j => C j s) ⟨2 * g.val + (1 : Fin 2).val, by omega⟩) (d s) (e s))
      = colValue S a B C d e := by
  refine (sum_rows hS (fun s g h i => a ⟨1024 * (s.val / 4) + (256 * g.val + 8 * i.val + 2 * (s.val % 4) + h.val), by omega⟩
    * weight (B s ⟨32 * g.val + i.val, by omega⟩) h (subS (fun j => C j s) ⟨2 * g.val + h.val, by omega⟩)
        (subM (fun j => C j s) ⟨2 * g.val + h.val, by omega⟩) (d s) (e s))).trans ?_
  unfold colValue quarter
  refine Finset.sum_congr rfl fun q _ => Finset.sum_congr rfl fun R _ => ?_
  have e1 : 1024 * ((4 * q.val + R.val / 2 % 4) / 4) + (256 * (R.val / 256) + 8 * (R.val / 8 % 32) + 2 * ((4 * q.val + R.val / 2 % 4) % 4) + R.val % 2) = 1024 * q.val + R.val := by omega
  have e2 : 32 * (R.val / 256) + R.val / 8 % 32 = R.val / 8 := by omega
  unfold rowWeight
  simp only [e1, e2]

end Cert.Q4K

end
-- ==== Proof.Ideal.TileVal.lean ====
module

public import proofs.«01_k».proof.Proof.Ideal.Scales
public import proofs.«01_k».proof.Proof.Q4K
public import Idealize.ShloMosaic.Lib.WholeRead
public import Idealize.ShloMosaic.Lib.Pipeline.ValueKit

@[expose] public section

set_option maxRecDepth 16384

noncomputable section

namespace Cert.KernelIdeal.Rg

open Cert.KernelIdeal Cert.KernelIdeal.Gen
open Cert.Q4K
open Idealize.ShloMosaic Idealize.ShloMosaic.TcCoe Idealize.ShloMosaic.Tactic

/-! ## The pieces of a tile at an index -/

/-- The bytes of a quarter's words. -/
theorem gWords_lane (b : IVec S1x2048x128 8) (q : Fin 4) (n i : Fin 128) (t : Fin 4) :
    lane (gQuarter q (gWords (F := Ideal) b) (ix3 n 0 i)) t.val = b (ix3 0 ⟨16 * n.val + 4 * q.val + t.val, by omega⟩ i) := by
  pointwise [gQuarter, gWords]
  rw [bitcast_8_32_lane _ _ _ _ t.val t.isLt ⟨16 * n.val + 4 * q.val + t.val, by omega⟩ (by show 16 * n.val + 4 * q.val + t.val = 4 * (n.val * 4 + q.val) + t.val; omega)]
  pointwise

/-- A shift by four times the nibble's number. -/
theorem shift_mul (k : Nat) (hk : k < 8) (x : BitVec 32) :
    IntOp.shrui ArithUnit.vector x (IntOp.muli 4#32 (BitVec.ofNat 32 k)) = x >>> (4 * k) := by
  have e : (IntOp.muli 4#32 (BitVec.ofNat 32 k)).toNat = 4 * k := by
    simp only [IntOp.muli, BitVec.toNat_mul, BitVec.toNat_ofNat]
    omega
  unfold IntOp.shrui
  rw [if_pos (by omega), BitVec.ushiftRight_eq', e]

/-- A quarter's nibbles at an index. -/
theorem gNib_apply (b : IVec S1x2048x128 8) (q : Fin 4) (R : Fin 1024) (l : Fin 128) :
    gNib (F := Ideal) (gQuarter q (gWords (F := Ideal) b)) (ix2 R l)
      = ((nib (b (ix3 0 ⟨16 * l.val + 4 * q.val + R.val % 8 / 2, by omega⟩ ⟨R.val / 8, by omega⟩)) ⟨R.val % 2, by omega⟩ : ℝ) : EReal) := by
  pointwise [gNib]
  rw [shift_mul _ (by omega)]
  show ((((_ &&& 15#32 : BitVec 32).toInt : ℝ)) : EReal) = _
  rw [word_nib _ _ (by omega), gWords_lane b q l ⟨R.val / 8, by omega⟩ ⟨R.val % 8 / 2, by omega⟩]
  have e : (⟨R.val % 8 % 2, by omega⟩ : Fin 2) = ⟨R.val % 2, by omega⟩ := Fin.ext (by show R.val % 8 % 2 = R.val % 2; omega)
  rw [e]
  rfl

/-- The sixteen rows of scales at an index. -/
theorem gRows_apply (x : FVec Ideal S1x1x4x2x128 .bf16) (r : Fin 16) (l : Fin 128) :
    gRows (F := Ideal) x (ix2 r l) = x (ix5 0 0 ⟨r.val / 2 % 4, by omega⟩ ⟨r.val % 2, by omega⟩ l) := by
  pointwise [gRows]
  by_cases h0 : r.val % 2 = 0 <;> by_cases h1 : r.val / 2 < 4
  · rw [if_pos h0, dif_pos h1]
    exact congrArg x (by idx_ext <;> simp <;> omega)
  · rw [if_pos h0, dif_neg h1]
    exact congrArg x (by idx_ext <;> simp <;> omega)
  · rw [if_neg h0, dif_pos h1]
    exact congrArg x (by idx_ext <;> simp <;> omega)
  · rw [if_neg h0, dif_neg h1]
    exact congrArg x (by idx_ext <;> simp <;> omega)

/-- A group's weights at an index. -/
theorem gPart_apply (w : FVec Ideal S256x128 .bf16) (s o : FVec Ideal S1x1x4x2x128 .bf16) (r : Fin 256) (l : Fin 128) :
    gPart (F := Ideal) w s o (ix2 r l)
      = w (ix2 r l) * s (ix5 0 0 ⟨r.val / 2 % 4, by omega⟩ ⟨r.val % 2, by omega⟩ l) - o (ix5 0 0 ⟨r.val / 2 % 4, by omega⟩ ⟨r.val % 2, by omega⟩ l) := by
  pointwise [gPart]
  rw [gRows_apply, gRows_apply]
  have e1 : (⟨r.val % 16 / 2 % 4, by omega⟩ : Fin 4) = ⟨r.val / 2 % 4, by omega⟩ := Fin.ext (by show r.val % 16 / 2 % 4 = r.val / 2 % 4; omega)
  have e2 : (⟨r.val % 16 % 2, by omega⟩ : Fin 2) = ⟨r.val % 2, by omega⟩ := Fin.ext (by show r.val % 16 % 2 = r.val % 2; omega)
  simp only [e1, e2]

/-- A tile at an index: nibble times scale minus offset. -/
theorem gTile_apply (w : FVec Ideal S1024x128 .bf16) (s o : Fin 4 → FVec Ideal S1x1x4x2x128 .bf16) (r : Fin 1024) (l : Fin 128) :
    gTile (F := Ideal) w s o (ix2 r l)
      = w (ix2 r l) * s ⟨r.val / 256, by omega⟩ (ix5 0 0 ⟨r.val / 2 % 4, by omega⟩ ⟨r.val % 2, by omega⟩ l)
        - o ⟨r.val / 256, by omega⟩ (ix5 0 0 ⟨r.val / 2 % 4, by omega⟩ ⟨r.val % 2, by omega⟩ l) := by
  have key : ∀ (g : Fin 4) (off : Nat) (h : S1024x128.Slices ![off, 0] S256x128) (hoff : off = 256 * g.val) (r' : Fin 256) (hr : r.val = off + r'.val),
      gPart (F := Ideal) (extractStridedSlice S256x128 ![off, 0] w h) (s g) (o g) (ix2 r' l)
      = w (ix2 r l) * s ⟨r.val / 256, by omega⟩ (ix5 0 0 ⟨r.val / 2 % 4, by omega⟩ ⟨r.val % 2, by omega⟩ l)
        - o ⟨r.val / 256, by omega⟩ (ix5 0 0 ⟨r.val / 2 % 4, by omega⟩ ⟨r.val % 2, by omega⟩ l) := by
    intro g off h hoff r' hr
    have eg : (⟨r.val / 256, by omega⟩ : Fin 4) = g := Fin.ext (by show r.val / 256 = g.val; omega)
    have e1 : (⟨r.val / 2 % 4, by omega⟩ : Fin 4) = ⟨r'.val / 2 % 4, by omega⟩ := Fin.ext (by show r.val / 2 % 4 = r'.val / 2 % 4; omega)
    have e2 : (⟨r.val % 2, by omega⟩ : Fin 2) = ⟨r'.val % 2, by omega⟩ := Fin.ext (by show r.val % 2 = r'.val % 2; omega)
    rw [gPart_apply, eg, e1, e2]
    have ew : extractStridedSlice S256x128 ![off, 0] w h (ix2 r' l) = w (ix2 r l) := by
      pointwise
      exact congrArg w (by idx_ext <;> simp <;> omega)
    rw [ew]
  pointwise [gTile]
  by_cases h0 : r.val < 256
  · rw [dif_pos h0]
    exact key 0 0 _ rfl ⟨r.val, h0⟩ (by simp)
  · rw [dif_neg h0]
    by_cases h1 : r.val - 256 < 256
    · rw [dif_pos h1]
      exact key 1 256 _ rfl ⟨r.val - 256, h1⟩ (by show r.val = 256 + (r.val - 256); omega)
    · rw [dif_neg h1]
      by_cases h2 : r.val - 256 - 256 < 256
      · rw [dif_pos h2]
        exact key 2 512 _ rfl ⟨r.val - 256 - 256, h2⟩ (by show r.val = 512 + (r.val - 256 - 256); omega)
      · rw [dif_neg h2]
        exact key 3 768 _ rfl ⟨r.val - 256 - 256 - 256, by omega⟩ (by show r.val = 768 + (r.val - 256 - 256 - 256); omega)

/-- A quarter's product added to a sum, at an index: the tile of the column's half. -/
theorem gStep_apply (acc : FVec Ideal S36x256 .f32) (a : FVec Ideal S36x1024 .bf16) (T : Fin 2 → FVec Ideal S1024x128 .bf16) (b : Fin 36) (h : Fin 2) (l : Fin 128) :
    gStep (F := Ideal) acc a (T 0) (T 1) (ix2 b ⟨128 * h.val + l.val, by omega⟩)
      = acc (ix2 b ⟨128 * h.val + l.val, by omega⟩) + ∑ R : Fin 1024, a (ix2 b R) * T h (ix2 R l) := by
  pointwise [gStep]
  congr 1
  refine Finset.sum_congr rfl fun R _ => ?_
  congr 1
  fin_cases h
  · rw [dif_pos (by simp)]
    exact congrArg (T 0) (by idx_ext <;> simp)
  · rw [dif_neg (by simp)]
    exact congrArg (T 1) (by idx_ext <;> simp)

/-! ## The scale buffers at an index -/

/-- One store's payload at an index. -/
theorem gPair_apply (p : Fin 2) (A B : FVec Ideal S16x128 .bf16) (r : Fin 8) (h : Fin 2) (l : Fin 128) :
    gPair (F := Ideal) p A B (ix5 0 0 r h l) = if h.val % 2 = 0 then A (ix2 ⟨2 * r.val + p.val, by omega⟩ l) else B (ix2 ⟨2 * r.val + p.val, by omega⟩ l) := by
  pointwise [gPair]

/-- A scaled sub-scale at an index. -/
theorem gScaled_apply (w : IVec S4x128 32) (d : FVec Ideal S16x128 .bf16) (r : Fin 16) (l : Fin 128) :
    gScaled (F := Ideal) w d (ix2 r l) = (((lane (w (ix2 ⟨r.val / 4, by omega⟩ l)) (r.val % 4)).toNat : ℝ) : EReal) * d (ix2 r l) := by
  pointwise [gScaled]
  rw [bitcast_32_8_lane w _ r l ⟨r.val / 4, by omega⟩ rfl]
  rfl

/-- The bytes of a row of words of packed scales. -/
theorem gWord_lane (b : IVec S1x16x128 8) (a : Fin 4) (l : Fin 128) (t : Fin 4) :
    lane (gWord (F := Ideal) b (ix2 a l)) t.val = b (ix3 0 ⟨4 * a.val + t.val, by omega⟩ l) := by
  unfold gWord
  rw [bitcast_8_32_lane _ _ _ _ t.val t.isLt ⟨4 * a.val + t.val, by omega⟩ rfl]
  pointwise

/-- The shift by two, on words. -/
theorem shrsi_two (x : BitVec 32) : IntOp.shrsi ArithUnit.vector x 2#32 = x.sshiftRight 2 := rfl
/-- The shift by four, on words. -/
theorem shrsi_four (x : BitVec 32) : IntOp.shrsi ArithUnit.vector x 4#32 = x.sshiftRight 4 := rfl

/-- The sub-scale words hold each superblock's sub-scale byte. -/
theorem gSubS_lane (b : Fin 12 → IVec S1x16x128 8) (j : Fin 8) (r : Fin 16) (l : Fin 128) :
    lane (gSubS (fun i => gWord (F := Ideal) (b i)) j (ix2 ⟨r.val / 4, by omega⟩ l)) (r.val % 4) = subS (fun i => b i (ix3 0 r l)) j := by
  have ht : r.val % 4 < 4 := Nat.mod_lt _ (by decide)
  have hw : ∀ i, lane (gWord (F := Ideal) (b i) (ix2 ⟨r.val / 4, by omega⟩ l)) (r.val % 4) = b i (ix3 0 r l) := fun i => by
    have e := gWord_lane (b i) ⟨r.val / 4, by omega⟩ l ⟨r.val % 4, ht⟩
    exact e.trans (congrArg (fun z => b i (ix3 0 z l)) (Fin.ext (by show 4 * (r.val / 4) + r.val % 4 = r.val; omega)))
  fin_cases j
  all_goals
    pointwise [gSubS]
    simp only [IntOp.andi, IntOp.ori, shrsi_two, lane_ori, lane_shr2 _ _ ht]
    simp only [lane_andi, lane_63 _ ht, lane_15 _ ht, hw]
    rfl

/-- The sub-minimum words hold each superblock's sub-minimum byte. -/
theorem gSubM_lane (b : Fin 12 → IVec S1x16x128 8) (j : Fin 8) (r : Fin 16) (l : Fin 128) :
    lane (gSubM (fun i => gWord (F := Ideal) (b i)) j (ix2 ⟨r.val / 4, by omega⟩ l)) (r.val % 4) = subM (fun i => b i (ix3 0 r l)) j := by
  have ht : r.val % 4 < 4 := Nat.mod_lt _ (by decide)
  have hw : ∀ i, lane (gWord (F := Ideal) (b i) (ix2 ⟨r.val / 4, by omega⟩ l)) (r.val % 4) = b i (ix3 0 r l) := fun i => by
    have e := gWord_lane (b i) ⟨r.val / 4, by omega⟩ l ⟨r.val % 4, ht⟩
    exact e.trans (congrArg (fun z => b i (ix3 0 z l)) (Fin.ext (by show 4 * (r.val / 4) + r.val % 4 = r.val; omega)))
  fin_cases j
  all_goals
    pointwise [gSubM]
    simp only [IntOp.andi, IntOp.ori, shrsi_two, shrsi_four, lane_ori, lane_shr2 _ _ ht, lane_shr4 _ _ ht]
    try simp only [lane_andi, lane_63 _ ht]
    simp only [hw]
    rfl

end Cert.KernelIdeal.Rg

end
-- ==== Proof.Ideal.TripVal.lean ====
module

public import proofs.«01_k».proof.Proof.Ideal.TileVal

@[expose] public section

set_option maxRecDepth 16384

noncomputable section

namespace Cert.KernelIdeal.Rg

open Cert.KernelIdeal Cert.KernelIdeal.Gen
open Cert.Q4K
open Idealize.ShloMosaic Idealize.ShloMosaic.TcCoe Idealize.ShloMosaic.Tactic

/-! ## The scale buffers after their sixteen stores -/

/-- The sixteen stores are at the sixteen boxes. -/
theorem gPieces_rects (A : Fin 2 → Fin 8 → FVec Ideal S16x128 .bf16) : (gPieces A).map Sigma.fst = scrRects := rfl

/-- A store into a scale buffer is one of the sixteen. -/
theorem mem_gPieces (A : Fin 2 → Fin 8 → FVec Ideal S16x128 .bf16) (P : View.Piece (Elt Ideal) S2x4x16x2x128 .bf16) (hP : P ∈ gPieces A) :
    ∃ h g p, P = gPiece A h g p := by
  unfold gPieces at hP
  simp only [List.mem_cons, List.not_mem_nil, or_false] at hP
  rcases hP with h | h | h | h | h | h | h | h | h | h | h | h | h | h | h | h <;> exact ⟨_, _, _, h⟩

/-- A scale buffer at an index: the scale of its half, its sub-block and its superblock. -/
theorem canon_gPieces (A : Fin 2 → Fin 8 → FVec Ideal S16x128 .bf16) (h : Fin 2) (g : Fin 4) (s : Fin 16) (q : Fin 2) (l : Fin 128) :
    (View.canon (gPieces A) : S2x4x16x2x128.Idx → Elt Ideal .bf16) (ix5 h g s q l) = A h ⟨2 * g.val + q.val, by omega⟩ (ix2 s l) := by
  refine View.canon_eq_of_allAt (gPieces A) _ _ (scr_cover (gPieces A) (gPieces_rects A) _) ?_
  intro P hP x hx
  obtain ⟨h', g', p', rfl⟩ := mem_gPieces A P hP
  have hx0 : (h'.val + 1 * (x 0).val : Nat) = h.val := congrArg (fun z : S2x4x16x2x128.Idx => (z 0).val) hx
  have hx1 : (g'.val + 1 * (x 1).val : Nat) = g.val := congrArg (fun z : S2x4x16x2x128.Idx => (z 1).val) hx
  have hx2 : (p'.val + 2 * (x 2).val : Nat) = s.val := congrArg (fun z : S2x4x16x2x128.Idx => (z 2).val) hx
  have hx3 : (0 + 1 * (x 3).val : Nat) = q.val := congrArg (fun z : S2x4x16x2x128.Idx => (z 3).val) hx
  have hx4 : (0 + 1 * (x 4).val : Nat) = l.val := congrArg (fun z : S2x4x16x2x128.Idx => (z 4).val) hx
  have b0 : (x 0).val < 1 := (x 0).isLt
  have b1 : (x 1).val < 1 := (x 1).isLt
  have b2 : (x 2).val < 8 := (x 2).isLt
  obtain rfl : h' = h := Fin.ext (by omega)
  obtain rfl : g' = g := Fin.ext (by omega)
  have ex : x = (ix5 0 0 ⟨(x 2).val, b2⟩ q l : S1x1x8x2x128.Idx) := by
    funext a
    fin_cases a
    · exact Fin.ext (by show (x 0).val = 0; omega)
    · exact Fin.ext (by show (x 1).val = 0; omega)
    · rfl
    · exact Fin.ext (by show (x 3).val = q.val; omega)
    · exact Fin.ext (by show (x 4).val = l.val; omega)
  rw [ex]
  refine (gPair_apply p' _ _ ⟨(x 2).val, b2⟩ q l).trans ?_
  have es : (⟨2 * (x 2).val + p'.val, by omega⟩ : Fin 16) = s := Fin.ext (by show 2 * (x 2).val + p'.val = s.val; omega)
  have hq : q = 0 ∨ q = 1 := by omega
  rcases hq with rfl | rfl
  · refine (if_pos rfl).trans ?_
    exact congrArg (fun z => A h' ⟨2 * g'.val, by omega⟩ (ix2 z l)) es
  · refine (if_neg (by decide)).trans ?_
    exact congrArg (fun z => A h' ⟨2 * g'.val + 1, by omega⟩ (ix2 z l)) es

/-! ## The loads at an index -/

/-- Where row `i` of the packed scales is loaded from, as numbers. -/
theorem wOff_eq : ∀ (i : Fin 12) (k : Fin k0_t1_loop.trips) (h : Fin 2), wOff i k (BitVec.ofNat 32 (128 * h.val)) = ![i.val, 0, 256 * k.val + 128 * h.val] := by
  decide +kernel

/-- Where the superblock scales are loaded from, as numbers. -/
theorem dOff_eq : ∀ (k : Fin k0_t1_loop.trips) (h : Fin 2), k0_off19 k (BitVec.ofNat 32 (128 * h.val)) = ![0, 256 * k.val + 128 * h.val] := by
  decide +kernel

/-- The column of the block that lane `l` of half `h` is in trip `k`. -/
def col (k : Fin k0_t1_loop.trips) (h : Fin 2) (l : Fin 128) : Fin 512 :=
  ⟨256 * k.val + 128 * h.val + l.val, by have : k.val < 2 := k.isLt; omega⟩

/-- A loaded row of packed scales, at an index. -/
theorem wLoad_apply {sg : RefSig} (m : Memref sg .tc .vmem S12x16x512 .i8) (hm : m.IsWhole) (x : Vec Ideal S12x16x512 .i8) (k : Fin k0_t1_loop.trips) (h : Fin 2) (i : Fin 12) (s : Fin 16) (l : Fin 128) :
    wLoad m hm x k h i (ix3 0 s l) = x (ix3 i s (col k h l)) := by
  unfold wLoad
  rw [hm.readAt_unread]
  refine congrArg x (funext fun a => Fin.ext ?_)
  refine (congrArg (· + 1 * _) (congrFun (wOff_eq i k h) a)).trans ?_
  fin_cases a
  · show i.val + 1 * 0 = i.val; omega
  · show 0 + 1 * s.val = s.val; omega
  · show 256 * k.val + 128 * h.val + 1 * l.val = 256 * k.val + 128 * h.val + l.val; omega

/-- The loaded superblock scales, at an index. -/
theorem dLoad_apply {sg : RefSig} (m : Memref sg .tc .vmem S16x512 .bf16) (hm : m.IsWhole) (x : Vec Ideal S16x512 .bf16) (k : Fin k0_t1_loop.trips) (h : Fin 2) (s : Fin 16) (l : Fin 128) :
    dLoad m hm x k h (ix2 s l) = x (ix2 s (col k h l)) := by
  unfold dLoad
  rw [hm.readAt_unread]
  refine congrArg x (funext fun a => Fin.ext ?_)
  refine (congrArg (· + 1 * _) (congrFun (dOff_eq k h) a)).trans ?_
  fin_cases a
  · show 0 + 1 * s.val = s.val; omega
  · show 256 * k.val + 128 * h.val + 1 * l.val = 256 * k.val + 128 * h.val + l.val; omega

/-- The loaded scale rows, at an index. -/
theorem scrLoad_apply {sg : RefSig} (m : Memref sg .tc .vmem S2x4x16x2x128 .bf16) (hm : m.IsWhole) (S : Vec Ideal S2x4x16x2x128 .bf16) (h : Fin 2) (q g : Fin 4) (p : Fin 4) (hl : Fin 2) (l : Fin 128) :
    scrLoad m hm S h q g (ix5 0 0 p hl l) = S (ix5 h g ⟨4 * q.val + p.val, by omega⟩ hl l) := by
  unfold scrLoad
  rw [hm.readAt_unread]
  refine congrArg S (funext fun a => Fin.ext ?_)
  fin_cases a
  · show h.val + 1 * 0 = h.val; omega
  · show g.val + 1 * 0 = g.val; omega
  · show 4 * q.val + 1 * p.val = 4 * q.val + p.val; omega
  · show 0 + 1 * hl.val = hl.val; omega
  · show 0 + 1 * l.val = l.val; omega

/-- The loaded activations, at an index. -/
theorem actLoad_apply {sg : RefSig} (m : Memref sg .tc .vmem S36x4096 .bf16) (hm : m.IsWhole) (x : Vec Ideal S36x4096 .bf16) (q : Fin 4) (b : Fin 36) (R : Fin 1024) :
    actLoad m hm x q (ix2 b R) = x (ix2 b ⟨1024 * q.val + R.val, by omega⟩) := by
  unfold actLoad
  rw [hm.readAt_unread]
  refine congrArg x (funext fun a => Fin.ext ?_)
  fin_cases a
  · show 0 + 1 * b.val = b.val; omega
  · show 1024 * q.val + 1 * R.val = 1024 * q.val + R.val; omega

/-- The slot's bytes: the rows of the block of weights the step has waited for. -/
theorem slotLoad_apply (c : Dev nD) (t : Fin cfg0.N) (fh0 : HbBuf0 (F := Ideal) c hbM0_0) (k : Fin k0_t1_loop.trips) (h : Fin 2) (r : Fin 2048) (i : Fin 128) :
    slotLoad (F := Ideal) c t fh0 k h (ix3 0 r i)
      = (srcB0_0 (Ring.bk 28 t.val)).view.read (Elt Ideal) fh0 (ix2 ⟨4096 * k.val + 2048 * h.val + r.val, by have : k.val < 2 := k.isLt; omega⟩ i) := by
  have hw := congrFun (View.read_writes_whole (Val := Elt Ideal) (rslot0_0 (Ring.sl 2 t.val)).view (rslot0_0 (Ring.sl 2 t.val)).view.junk
    (ReadAs.same.apply ((srcB0_0 (Ring.bk 28 t.val)).view.read (Elt Ideal) fh0))) (ix2 ⟨4096 * k.val + 2048 * h.val + r.val, by have : k.val < 2 := k.isLt; omega⟩ i)
  refine Eq.trans ?_ hw
  unfold slotLoad
  refine congrArg (scM0_2.view.read (Elt Ideal) ((rslot0_0 (Ring.sl 2 t.val)).view.writes (Elt Ideal) (rslot0_0 (Ring.sl 2 t.val)).view.junk
    [⟨Rect.whole S8192x128, ReadAs.same.apply (View.read (Elt Ideal) (srcB0_0 (Ring.bk 28 t.val)).view fh0)⟩])) ?_
  refine Eq.trans ?_ (congrArg (Rect.unit (s := S2x8192x128) ![(Ring.sl 2 t.val).val, 0, 0] S1x8192x128.size (inb_slot0_0 _)).emb
    (Shape.reshapeEquiv_cons_one squeezes_S1x8192x128_S8192x128.numel_eq (ix2 ⟨4096 * k.val + 2048 * h.val + r.val, by have : k.val < 2 := k.isLt; omega⟩ i)).symm)
  funext a
  refine Fin.ext ?_
  refine (congrArg (· + 1 * _) (congrFun (coff0_0_10 t k h) a)).trans ?_
  fin_cases a
  · show (Ring.sl 2 t.val).val + 1 * 0 = (Ring.sl 2 t.val).val + 1 * 0; rfl
  · show 4096 * k.val + 2048 * h.val + 1 * r.val = 0 + 1 * (4096 * k.val + 2048 * h.val + r.val); omega
  · show 0 + 1 * i.val = 0 + 1 * i.val; rfl

/-! ## A tile, and the trip, at an index -/

/-- A quarter's tile at an index: nibble times scale minus offset. -/
theorem gQTile_apply (q : Fin 4) (b : IVec S1x2048x128 8) (s o : Fin 4 → Fin 4 → FVec Ideal S1x1x4x2x128 .bf16) (R : Fin 1024) (l : Fin 128) :
    gQTile (F := Ideal) q b s o (ix2 R l)
      = ((nib (b (ix3 0 ⟨16 * l.val + 4 * q.val + R.val % 8 / 2, by omega⟩ ⟨R.val / 8, by omega⟩)) ⟨R.val % 2, by omega⟩ : ℝ) : EReal)
          * s q ⟨R.val / 256, by omega⟩ (ix5 0 0 ⟨R.val / 2 % 4, by omega⟩ ⟨R.val % 2, by omega⟩ l)
        - o q ⟨R.val / 256, by omega⟩ (ix5 0 0 ⟨R.val / 2 % 4, by omega⟩ ⟨R.val % 2, by omega⟩ l) := by
  unfold gQTile
  rw [gTile_apply, gNib_apply]

/-- The four quarters' sum at an index. -/
theorem gTrip_apply (a : Fin 4 → FVec Ideal S36x1024 .bf16) (b : Fin 2 → IVec S1x2048x128 8)
    (s o : Fin 2 → Fin 4 → Fin 4 → FVec Ideal S1x1x4x2x128 .bf16) (bb : Fin 36) (h : Fin 2) (l : Fin 128) :
    gTrip (F := Ideal) a b s o (ix2 bb ⟨128 * h.val + l.val, by omega⟩)
      = ∑ q : Fin 4, ∑ R : Fin 1024, a q (ix2 bb R) * gQTile (F := Ideal) q (b h) (s h) (o h) (ix2 R l) := by
  unfold gTrip
  have st := fun (acc : FVec Ideal S36x256 .f32) (q : Fin 4) =>
    gStep_apply acc (a q) (fun h => gQTile (F := Ideal) q (b h) (s h) (o h)) bb h l
  rw [Fin.sum_univ_four]
  refine (st _ 3).trans ?_
  refine congrArg (· + _) ?_
  refine (st _ 2).trans ?_
  refine congrArg (· + _) ?_
  refine (st _ 1).trans ?_
  refine congrArg (· + _) ?_
  refine (st _ 0).trans ?_
  refine (congrArg (· + _) ?_).trans (zero_add _)
  pointwise

/-- The sum of the four quarters at a row and column, of the loads of blocks `x0 … x3`, the slot's bytes `b` and the scale
buffers after their sixteen stores: the column's product with the row. -/
theorem gTrip_value {sg : RefSig} (arg1 : Memref sg .tc .vmem S36x4096 .bf16) (harg1 : arg1.IsWhole) (arg3 : Memref sg .tc .vmem S12x16x512 .i8) (harg3 : arg3.IsWhole)
    (arg4 : Memref sg .tc .vmem S16x512 .bf16) (harg4 : arg4.IsWhole) (arg5 : Memref sg .tc .vmem S16x512 .bf16) (harg5 : arg5.IsWhole)
    (arg7 : Memref sg .tc .vmem S2x4x16x2x128 .bf16) (harg7 : arg7.IsWhole) (arg8 : Memref sg .tc .vmem S2x4x16x2x128 .bf16) (harg8 : arg8.IsWhole)
    (x0 : Vec Ideal S36x4096 .bf16) (x1 : Vec Ideal S12x16x512 .i8) (x2 : Vec Ideal S16x512 .bf16) (x3 : Vec Ideal S16x512 .bf16)
    (b : Fin 2 → Vec Ideal S1x2048x128 .i8) (Bt : Fin 8192 → Fin 128 → BitVec 8) (k : Fin k0_t1_loop.trips)
    (hb : ∀ (h : Fin 2) (r : Fin 2048) (i : Fin 128), b h (ix3 0 r i) = Bt ⟨4096 * k.val + 2048 * h.val + r.val, by have : k.val < 2 := k.isLt; omega⟩ i)
    (bb : Fin 36) (h : Fin 2) (l : Fin 128) :
    gTrip (F := Ideal) (actLoad arg1 harg1 x0) b
        (scrLoad arg7 harg7 (View.canon (gPieces fun h j => gScaled (gSubS (fun i => gWord (wLoad arg3 harg3 x1 k h i)) j) (dLoad arg4 harg4 x2 k h))))
        (scrLoad arg8 harg8 (View.canon (gPieces fun h j => gScaled (gSubM (fun i => gWord (wLoad arg3 harg3 x1 k h i)) j) (dLoad arg5 harg5 x3 k h))))
        (ix2 bb ⟨128 * h.val + l.val, by omega⟩)
      = colValue 16 (fun i => x0 (ix2 bb i)) (fun s i => Bt ⟨16 * (col k h l).val + s.val, by omega⟩ i)
          (fun i s => x1 (ix3 i s (col k h l))) (fun s => x2 (ix2 s (col k h l))) (fun s => x3 (ix2 s (col k h l))) := by
  rw [gTrip_apply]
  refine Finset.sum_congr rfl fun q _ => Finset.sum_congr rfl fun R _ => ?_
  rw [gQTile_apply, actLoad_apply, hb, scrLoad_apply, scrLoad_apply, canon_gPieces, canon_gPieces,
    gScaled_apply, gScaled_apply, gSubS_lane, gSubM_lane, dLoad_apply, dLoad_apply]
  simp only [wLoad_apply]
  unfold rowWeight weight
  have e : (⟨4096 * k.val + 2048 * h.val + (16 * l.val + 4 * q.val + R.val % 8 / 2), by have : k.val < 2 := k.isLt; omega⟩ : Fin 8192)
      = ⟨16 * (col k h l).val + (4 * q.val + R.val / 2 % 4), by omega⟩ :=
    Fin.ext (by show 4096 * k.val + 2048 * h.val + (16 * l.val + 4 * q.val + R.val % 8 / 2) = 16 * (256 * k.val + 128 * h.val + l.val) + (4 * q.val + R.val / 2 % 4); omega)
  rw [e]

section Trip
variable (c : Dev nD) (t : Fin cfg0.N) (arg1 : Memref sig .tc .vmem S36x4096 .bf16) (harg1 : arg1.IsWhole) (arg3 : Memref sig .tc .vmem S12x16x512 .i8) (harg3 : arg3.IsWhole) (arg4 : Memref sig .tc .vmem S16x512 .bf16) (harg4 : arg4.IsWhole) (arg5 : Memref sig .tc .vmem S16x512 .bf16) (harg5 : arg5.IsWhole) (arg6 : Memref sig .tc .vmem S36x512 .f32) (harg6 : arg6.IsWhole) (arg7 : Memref sig .tc .vmem S2x4x16x2x128 .bf16) (harg7 : arg7.IsWhole) (arg8 : Memref sig .tc .vmem S2x4x16x2x128 .bf16) (harg8 : arg8.IsWhole)
    (x0 : Vec Ideal S36x4096 .bf16) (x1 : Vec Ideal S12x16x512 .i8) (x2 : Vec Ideal S16x512 .bf16) (x3 : Vec Ideal S16x512 .bf16) (fh0 : HbBuf0 (F := Ideal) c hbM0_0) (k : Fin k0_t1_loop.trips)

/-- What a trip stores at a row and column: the column's product with the row. -/
theorem trip_value (bb : Fin 36) (h : Fin 2) (l : Fin 128) :
    gTrip (F := Ideal) (actLoad arg1 harg1 x0) (slotLoad c t fh0 k)
        (scrLoad arg7 harg7 (trip (F := Ideal) c t arg1 harg1 arg3 harg3 arg4 harg4 arg5 harg5 arg6 harg6 arg7 harg7 arg8 harg8 x0 x1 x2 x3 fh0 k).1.2.1)
        (scrLoad arg8 harg8 (trip (F := Ideal) c t arg1 harg1 arg3 harg3 arg4 harg4 arg5 harg5 arg6 harg6 arg7 harg7 arg8 harg8 x0 x1 x2 x3 fh0 k).1.2.2)
        (ix2 bb ⟨128 * h.val + l.val, by omega⟩)
      = colValue 16 (fun i => x0 (ix2 bb i))
          (fun s i => (srcB0_0 (Ring.bk 28 t.val)).view.read (Elt Ideal) fh0 (ix2 ⟨16 * (col k h l).val + s.val, by omega⟩ i))
          (fun i s => x1 (ix3 i s (col k h l))) (fun s => x2 (ix2 s (col k h l))) (fun s => x3 (ix2 s (col k h l))) := by
  rw [trip_scale, trip_offset]
  exact gTrip_value arg1 harg1 arg3 harg3 arg4 harg4 arg5 harg5 arg7 harg7 arg8 harg8 x0 x1 x2 x3 (slotLoad c t fh0 k)
    (fun r i => (srcB0_0 (Ring.bk 28 t.val)).view.read (Elt Ideal) fh0 (ix2 r i)) k (slotLoad_apply c t fh0 k) bb h l

end Trip

end Cert.KernelIdeal.Rg

end
-- ==== Proof.Ideal.Value.lean ====
module

public import proofs.«01_k».proof.Proof.Ideal.TripVal
public import proofs.«01_k».proof.Proof.Ideal.Frame

@[expose] public section

set_option maxRecDepth 16384

noncomputable section

namespace Cert.KernelIdeal.Rg

open Cert.KernelIdeal Cert.KernelIdeal.Gen
open Cert.Q4K
open Idealize.ShloMosaic Idealize.ShloMosaic.TcCoe Idealize.ShloMosaic.Tactic

/-! ## A grid point's output block -/

section Point
variable (c : Dev nD) (t : Fin cfg0.N) (arg1 : Memref sig .tc .vmem S36x4096 .bf16) (harg1 : arg1.IsWhole) (arg3 : Memref sig .tc .vmem S12x16x512 .i8) (harg3 : arg3.IsWhole) (arg4 : Memref sig .tc .vmem S16x512 .bf16) (harg4 : arg4.IsWhole) (arg5 : Memref sig .tc .vmem S16x512 .bf16) (harg5 : arg5.IsWhole) (arg6 : Memref sig .tc .vmem S36x512 .f32) (harg6 : arg6.IsWhole) (arg7 : Memref sig .tc .vmem S2x4x16x2x128 .bf16) (harg7 : arg7.IsWhole) (arg8 : Memref sig .tc .vmem S2x4x16x2x128 .bf16) (harg8 : arg8.IsWhole)
    (x0 : Vec Ideal S36x4096 .bf16) (x1 : Vec Ideal S12x16x512 .i8) (x2 : Vec Ideal S16x512 .bf16) (x3 : Vec Ideal S16x512 .bf16) (fh0 : HbBuf0 (F := Ideal) c hbM0_0)

/-- A piece of the trips before `n` is one trip's. -/
theorem mem_pb (n : ℕ) (P : View.Piece (Elt Ideal) S36x512 .f32)
    (hP : P ∈ pb (F := Ideal) c t arg1 harg1 arg3 harg3 arg4 harg4 arg5 harg5 arg6 harg6 arg7 harg7 arg8 harg8 x0 x1 x2 x3 fh0 n) :
    ∃ k : Fin k0_t1_loop.trips, P ∈ (trip (F := Ideal) c t arg1 harg1 arg3 harg3 arg4 harg4 arg5 harg5 arg6 harg6 arg7 harg7 arg8 harg8 x0 x1 x2 x3 fh0 k).1.1 := by
  induction n with
  | zero => rw [pb.eq_1] at hP; exact absurd hP List.not_mem_nil
  | succ n ih =>
    rw [pb.eq_2] at hP
    split at hP
    · rcases List.mem_append.mp hP with h | h
      · exact ⟨_, h⟩
      · exact ih h
    · exact ih hP

/-- Where a trip stores, as numbers. -/
theorem out_off : ∀ k : Fin k0_t1_loop.trips, k0_off21 k = ![0, 256 * k.val] := by decide +kernel

/-- The block a grid point leaves, at a row and column. -/
theorem out0_4_value (b : Fin 36) (n : Fin 512) :
    out0_4 (F := Ideal) c t arg1 harg1 arg3 harg3 arg4 harg4 arg5 harg5 arg6 harg6 arg7 harg7 arg8 harg8 x0 x1 x2 x3 fh0 (ix2 b n)
      = colValue 16 (fun i => x0 (ix2 b i))
          (fun s i => (srcB0_0 (Ring.bk 28 t.val)).view.read (Elt Ideal) fh0 (ix2 ⟨16 * n.val + s.val, by omega⟩ i))
          (fun i s => x1 (ix3 i s n)) (fun s => x2 (ix2 s n)) (fun s => x3 (ix2 s n)) := by
  unfold out0_4
  rw [View.read_writes_junk_eq_canon]
  refine View.canon_eq_of_allAt _ _ _ (cover0_4 c t arg1 harg1 arg3 harg3 arg4 harg4 arg5 harg5 arg6 harg6 arg7 harg7 arg8 harg8 x0 x1 x2 x3 fh0 _) ?_
  intro P hP x hx
  obtain ⟨k, hk⟩ := mem_pb c t arg1 harg1 arg3 harg3 arg4 harg4 arg5 harg5 arg6 harg6 arg7 harg7 arg8 harg8 x0 x1 x2 x3 fh0 _ P hP
  rw [trip_pieces, List.mem_singleton] at hk
  subst hk
  have hx0 : (k0_off21 k 0 + 1 * (x 0).val : Nat) = b.val := congrArg (fun z : S36x512.Idx => (z 0).val) hx
  have hx1 : (k0_off21 k 1 + 1 * (x 1).val : Nat) = n.val := congrArg (fun z : S36x512.Idx => (z 1).val) hx
  have o0 : k0_off21 k 0 = 0 := congrFun (out_off k) 0
  have o1 : k0_off21 k 1 = 256 * k.val := congrFun (out_off k) 1
  have b1 : (x 1).val < 256 := (x 1).isLt
  have d1 : (x 1).val / 128 < 2 := by omega
  have d2 : (x 1).val % 128 < 128 := Nat.mod_lt _ (by decide)
  have ex : x = (ix2 b ⟨128 * ((x 1).val / 128) + (x 1).val % 128, by omega⟩ : S36x256.Idx) := by
    funext a
    fin_cases a
    · exact Fin.ext (by show (x 0).val = b.val; omega)
    · exact Fin.ext (by show (x 1).val = 128 * ((x 1).val / 128) + (x 1).val % 128; omega)
  have en : n = col k ⟨(x 1).val / 128, d1⟩ ⟨(x 1).val % 128, d2⟩ :=
    Fin.ext (by show n.val = 256 * k.val + 128 * ((x 1).val / 128) + (x 1).val % 128; omega)
  rw [ex]
  refine (trip_value c t arg1 harg1 arg3 harg3 arg4 harg4 arg5 harg5 arg6 harg6 arg7 harg7 arg8 harg8 x0 x1 x2 x3 fh0 k b ⟨(x 1).val / 128, d1⟩ ⟨(x 1).val % 128, d2⟩).trans ?_
  subst en
  rfl

end Point

/-! ## The whole output -/

variable (m : (ℓ : Loc nD τ sig) → Buf (Elt Ideal) ℓ)

/-- Which block of its array each window stages at a grid point. -/
theorem win_idx : ∀ t : Fin cfg0.N, win0_0.index t = ![0, 0] ∧ win0_1.index t = ![0, 0, t.val] ∧ win0_2.index t = ![0, t.val] ∧ win0_3.index t = ![0, t.val] ∧ win0_4.index t = ![0, t.val] :=
  (by decide +kernel : ∀ t : Fin grid0.N, _)

/-- The operands as the launch finds them: the weight bytes as rows, -/
theorem V_v0 (c : Dev nD) : V (F := Ideal) m c main_v0 = shapeCast S229376x128 (m ((c : Thread nD τ).loc main_arg1)) shapeCasts_S14336x16x128_S229376x128 := by
  entry_read
  try rfl
/-- The packed scales, transposed. -/
theorem V_v1 (c : Dev nD) : V (F := Ideal) m c main_v1 = transpose S12x16x14336 [2, 1, 0] (m ((c : Thread nD τ).loc main_arg2)) transposes_S14336x16x12_S12x16x14336_2_1_0 := by
  entry_read
  try rfl
/-- The superblock scales, transposed. -/
theorem V_v2 (c : Dev nD) : V (F := Ideal) m c main_v2 = transpose S16x14336 [1, 0] (m ((c : Thread nD τ).loc main_arg3)) transposes_S14336x16_S16x14336_1_0 := by
  entry_read
  try rfl
/-- The superblock scales of the minima, transposed. -/
theorem V_v3 (c : Dev nD) : V (F := Ideal) m c main_v3 = transpose S16x14336 [1, 0] (m ((c : Thread nD τ).loc main_arg4)) transposes_S14336x16_S16x14336_1_0 := by
  entry_read
  try rfl

/-- The column of the output that column `n` of block `t` is. -/
def gcol (t : Fin cfg0.N) (n : Fin 512) : Fin 14336 :=
  ⟨512 * t.val + n.val, by have : t.val < 28 := t.isLt; omega⟩

/-- The activations' block, at an index of the argument. -/
theorem iblk0_apply (c : Dev nD) (t : Fin cfg0.N) (b : Fin 36) (i : Fin 4096) :
    iblk (F := Ideal) m c 0 t (ix2 b i) = m ((c : Thread nD τ).loc main_arg0) (ix2 b i) := by
  blk_ext [iblk, V_main_arg0, win_idx t]

/-- The block of packed scales, at an index of the argument. -/
theorem iblk1_apply (c : Dev nD) (t : Fin cfg0.N) (i : Fin 12) (s : Fin 16) (n : Fin 512) :
    iblk (F := Ideal) m c 1 t (ix3 i s n) = m ((c : Thread nD τ).loc main_arg2) (ix3 (gcol t n) s i) := by
  have e : iblk (F := Ideal) m c 1 t (ix3 i s n) = V (F := Ideal) m c main_v1 (ix3 i s (gcol t n)) := by
    blk_ext [iblk, gcol, win_idx t]
  rw [e, V_v1]
  pointwise

/-- The block of superblock scales, at an index of the argument. -/
theorem iblk2_apply (c : Dev nD) (t : Fin cfg0.N) (s : Fin 16) (n : Fin 512) :
    iblk (F := Ideal) m c 2 t (ix2 s n) = m ((c : Thread nD τ).loc main_arg3) (ix2 (gcol t n) s) := by
  have e : iblk (F := Ideal) m c 2 t (ix2 s n) = V (F := Ideal) m c main_v2 (ix2 s (gcol t n)) := by
    blk_ext [iblk, gcol, win_idx t]
  rw [e, V_v2]
  pointwise

/-- The block of superblock scales of the minima, at an index of the argument. -/
theorem iblk3_apply (c : Dev nD) (t : Fin cfg0.N) (s : Fin 16) (n : Fin 512) :
    iblk (F := Ideal) m c 3 t (ix2 s n) = m ((c : Thread nD τ).loc main_arg4) (ix2 (gcol t n) s) := by
  have e : iblk (F := Ideal) m c 3 t (ix2 s n) = V (F := Ideal) m c main_v3 (ix2 s (gcol t n)) := by
    blk_ext [iblk, gcol, win_idx t]
  rw [e, V_v3]
  pointwise

/-- Rows of bytes laid one under another, at an index. -/
theorem flat_apply (X : IVec S14336x16x128 8) (N : Fin 14336) (s : Fin 16) (i : Fin 128) :
    shapeCast S229376x128 X shapeCasts_S14336x16x128_S229376x128 (ix2 ⟨16 * N.val + s.val, by omega⟩ i) = X (ix3 N s i) := by
  pointwise

/-- The block of weight bytes a grid point waits for, at an index of the argument. -/
theorem src_apply (c : Dev nD) (t : Fin cfg0.N) (s : Fin 16) (i : Fin 128) (n : Fin 512) :
    (srcB0_0 (Ring.bk 28 t.val)).view.read (Elt Ideal) (V (F := Ideal) m c main_v0) (ix2 ⟨16 * n.val + s.val, by omega⟩ i)
      = m ((c : Thread nD τ).loc main_arg1) (ix3 (gcol t n) s i) := by
  have hb : (Ring.bk 28 t.val).val = t.val := Nat.mod_eq_of_lt t.isLt
  have e : (srcB0_0 (Ring.bk 28 t.val)).view.read (Elt Ideal) (V (F := Ideal) m c main_v0) (ix2 ⟨16 * n.val + s.val, by omega⟩ i)
      = V (F := Ideal) m c main_v0 (ix2 ⟨16 * (gcol t n).val + s.val, by have := (gcol t n).isLt; omega⟩ i) := by
    refine congrArg (V (F := Ideal) m c main_v0) (funext fun a => Fin.ext ?_)
    fin_cases a
    · show 8192 * (Ring.bk 28 t.val).val + 1 * (16 * n.val + s.val) = 16 * (512 * t.val + n.val) + s.val
      omega
    · show 0 + 1 * i.val = i.val; omega
  rw [e, V_v0]
  exact flat_apply _ (gcol t n) s i

/-- The array after the run. -/
theorem final (c : Dev nD) : (dats (F := Ideal) m 0 c).arrAt 4 cfg0.N
    = product 16 (m ((c : Thread nD τ).loc main_arg0)) (m ((c : Thread nD τ).loc main_arg1)) (m ((c : Thread nD τ).loc main_arg2))
        (m ((c : Thread nD τ).loc main_arg3)) (m ((c : Thread nD τ).loc main_arg4)) := by
  refine (dats (F := Ideal) m 0 c).arrAt_eq_of_covers 4 _ (by decide +kernel) fun t _ y => ?_
  blk_simp
  rw [after0_4]
  unfold outsAt0
  obtain ⟨b, n, rfl⟩ : ∃ (b : Fin 36) (n : Fin 512), y = ix2 b n := ⟨y 0, y 1, by funext a; fin_cases a <;> rfl⟩
  have ey : (win0_4.blk t).view.emb (ix2 b n) = ix2 b (gcol t n) := by blk_ext [gcol, win_idx t]
  rw [ey]
  refine (out0_4_value c t _ _ _ _ _ _ _ _ _ _ _ _ _ _ _ _ _ _ _ b n).trans ?_
  rw [product_apply]
  exact colValue_congr (fun i => iblk0_apply m c t b i) (fun s i => src_apply m c t s i n) (fun i s => iblk1_apply m c t i s n)
    (fun s => iblk2_apply m c t s n) (fun s => iblk3_apply m c t s n)

end Cert.KernelIdeal.Rg

end
-- ==== Proof.Ref.Value.lean ====
module

public import proofs.«01_k».proof.Proof.Q4K
public import proofs.«01_k».proof.Proof.Gen.ReferenceIdeal.Frame
public import Idealize.ShloMosaic.Lib.Pipeline.ValueKit
public import Idealize.ShloMosaic.Lib.Claim

@[expose] public section

set_option maxRecDepth 16384

noncomputable section

/-! # What the reference computes -/

namespace Cert.ReferenceIdeal.Rv

open Cert.ReferenceIdeal Cert.ReferenceIdeal.Gen
open Cert.Q4K
open Idealize.ShloMosaic Idealize.ShloMosaic.TcCoe Idealize.ShloMosaic.Tactic Idealize.SL.Sem
open Idealize.ShloMosaic.Pipeline (Dat)

/-! ## The dequantised weights, at an index -/

/-- The scales, at an index: sub-scale times the superblock's scale. -/
theorem pay5_apply (v0 : IVec S14336x16x12 8) (v2 : FVec Ideal S14336x16 .bf16) (n : Fin 14336) (s : Fin 16) (g : Fin 4) (h : Fin 2) :
    k0_pay5 (F := Ideal) v0 v2 (ix4 n s g h)
      = (((subS (fun i => v0 (ix3 n s i)) ⟨2 * g.val + h.val, by omega⟩).toNat : ℝ) : EReal) * v2 (ix2 n s) := by
  pointwise [k0_pay5, k0_pay4, k0_pay3]
  rw [mul_comm]
  congr 1
  by_cases h1 : g.val * 2 + h.val < 4
  · rw [dif_pos h1, and63, sitofp_byte, subS, if_pos (show (⟨2 * g.val + h.val, by omega⟩ : Fin 8).val < 4 by show 2 * g.val + h.val < 4; omega)]
    simp only [Nat.mul_comm]
  · rw [dif_neg h1, and15, shr6, or_byte, sitofp_byte, subS, if_neg (show ¬ (⟨2 * g.val + h.val, by omega⟩ : Fin 8).val < 4 by show ¬ 2 * g.val + h.val < 4; omega)]
    have e1 : 8 + (g.val * 2 + h.val - 4) = 2 * g.val + h.val + 4 := by omega
    have e2 : g.val * 2 + h.val - 4 = 2 * g.val + h.val - 4 := by omega
    simp only [e1]
    simp only [e2]

/-- The offsets, at an index: sub-minimum times the superblock's scale of the minima. -/
theorem pay6_apply (v0 : IVec S14336x16x12 8) (v2 : FVec Ideal S14336x16 .bf16) (n : Fin 14336) (s : Fin 16) (g : Fin 4) (h : Fin 2) :
    k0_pay6 (F := Ideal) v0 v2 (ix4 n s g h)
      = (((subM (fun i => v0 (ix3 n s i)) ⟨2 * g.val + h.val, by omega⟩).toNat : ℝ) : EReal) * v2 (ix2 n s) := by
  pointwise [k0_pay6, k0_pay4, k0_pay3]
  rw [mul_comm]
  congr 1
  by_cases h1 : g.val * 2 + h.val < 4
  · rw [dif_pos h1, and63, sitofp_byte, subM, if_pos (show (⟨2 * g.val + h.val, by omega⟩ : Fin 8).val < 4 by show 2 * g.val + h.val < 4; omega)]
    simp only [Nat.mul_comm]
  · rw [dif_neg h1, shr4, shr6, or_byte, sitofp_byte, subM, if_neg (show ¬ (⟨2 * g.val + h.val, by omega⟩ : Fin 8).val < 4 by show ¬ 2 * g.val + h.val < 4; omega)]
    have e1 : 8 + (g.val * 2 + h.val - 4) = 2 * g.val + h.val + 4 := by omega
    have e2 : 4 + (g.val * 2 + h.val - 4) = 2 * g.val + h.val := by omega
    simp only [e1, e2]

variable (m : (ℓ : Loc nD τ sig) → Buf (Elt Ideal) ℓ) (g : Dev nD → PrngReg)

/-- The activations unpacked: super-block, pair of sub-blocks, half, element. -/
def acts (x : FVec Ideal S36x4096 .bf16) : FVec Ideal S36x16x4x2x32 .bf16 :=
  shapeCast S36x16x4x2x32 (transpose S36x4x4x4x2x32 [0, 1, 4, 2, 5, 3] (shapeCast S36x4x4x32x4x2 x shapeCasts_S36x4096_S36x4x4x32x4x2)
    transposes_S36x4x4x32x4x2_S36x4x4x4x2x32_0_1_4_2_5_3) shapeCasts_S36x4x4x4x2x32_S36x16x4x2x32

/-- The two products and their sum. -/
def sums (x : FVec Ideal S36x16x4x2x32 .bf16) (lo hi : FVec Ideal S14336x16x4x32 .bf16) : FVec Ideal S36x14336 .f32 :=
  addf (Host.dotGeneral dot_S36x16x4x32_S14336x16x4x32_S36x14336_231_231_0_0_n_n none
      (shapeCast S36x16x4x32 (extractStridedSlice S36x16x4x1x32 ![0, 0, 0, 0, 0] x slices_S36x16x4x2x32_S36x16x4x1x32_0_0_0_0_0) shapeCasts_S36x16x4x1x32_S36x16x4x32) lo)
    (Host.dotGeneral dot_S36x16x4x32_S14336x16x4x32_S36x14336_231_231_0_0_n_n none
      (shapeCast S36x16x4x32 (extractStridedSlice S36x16x4x1x32 ![0, 0, 0, 1, 0] x slices_S36x16x4x2x32_S36x16x4x1x32_0_0_0_1_0) shapeCasts_S36x16x4x1x32_S36x16x4x32) hi)

/-- What the host does after the dequantisation. -/
theorem tail_any (W : Valuation τ sig (Elt Ideal)) : StableHlo.after (hostOps1 (F := Ideal)) W (Proc.devRef .tc main_v10)
    = sums (W (Proc.devRef .tc main_v2)) (W (Proc.devRef .tc main_v3_0)) (W (Proc.devRef .tc main_v3_1)) := by
  after_results
  rfl

/-- What the host does before it. -/
theorem head_any (W : Valuation τ sig (Elt Ideal)) : StableHlo.after (hostOps0 (F := Ideal)) W (Proc.devRef .tc main_v2)
    = acts (W (Proc.devRef .tc main_arg0)) := by
  after_results
  rfl

/-- The unpacked activations, at an index. -/
theorem acts_apply (x : FVec Ideal S36x4096 .bf16) (b : Fin 36) (s : Fin 16) (g : Fin 4) (h : Fin 2) (i : Fin 32) :
    acts x (ix5 b s g h i) = x (ix2 b ⟨1024 * (s.val / 4) + (256 * g.val + 8 * i.val + 2 * (s.val % 4) + h.val), by omega⟩) := by
  pointwise [acts]
  have e : s.val / 4 * 1024 + g.val * 256 + i.val * 8 + s.val % 4 * 2 + h.val = 1024 * (s.val / 4) + (256 * g.val + 8 * i.val + 2 * (s.val % 4) + h.val) := by omega
  simp only [e]

/-- The products' contraction index: a pair of sub-blocks, a byte of the pair, a super-block. -/
def contr3 : dot_S36x16x4x32_S14336x16x4x32_S36x14336_231_231_0_0_n_n.contr.Idx ≃ Fin 4 × Fin 32 × Fin 16 where
  toFun k := (k (0 : Fin 3), k (1 : Fin 3), k (2 : Fin 3))
  invFun p := fun (a : Fin 3) => match a with
    | 0 => p.1
    | 1 => p.2.1
    | 2 => p.2.2
  left_inv k := by
    funext (a : Fin 3)
    fin_cases a <;> rfl
  right_inv p := rfl

/-- One product, at a row and column. -/
theorem dot_apply (l : FVec Ideal S36x16x4x32 .bf16) (r : FVec Ideal S14336x16x4x32 .bf16) (b : Fin 36) (n : Fin 14336) :
    Host.dotGeneral dot_S36x16x4x32_S14336x16x4x32_S36x14336_231_231_0_0_n_n none l r (ix2 b n)
      = ∑ s : Fin 16, ∑ g : Fin 4, ∑ i : Fin 32, l (ix4 b s g i) * r (ix4 n s g i) := by
  have e : Host.dotGeneral dot_S36x16x4x32_S14336x16x4x32_S36x14336_231_231_0_0_n_n none l r (ix2 b n)
      = ∑ p : Fin 4 × Fin 32 × Fin 16, l (ix4 b p.2.2 p.1 p.2.1) * r (ix4 n p.2.2 p.1 p.2.1) := by
    pointwise []
    unfold Ideal.matmul
    refine (zero_add _).trans (Fintype.sum_equiv contr3 _ _ fun k => ?_)
    congr 1
    · congr 1
      funext x
      fin_cases x <;> rfl
    · congr 1
      funext x
      fin_cases x <;> rfl
  rw [e]
  simp only [Fintype.sum_prod_type]
  calc ∑ g : Fin 4, ∑ i : Fin 32, ∑ s : Fin 16, l (ix4 b s g i) * r (ix4 n s g i)
      = ∑ g : Fin 4, ∑ s : Fin 16, ∑ i : Fin 32, l (ix4 b s g i) * r (ix4 n s g i) :=
        Finset.sum_congr rfl fun g _ => Finset.sum_comm
    _ = _ := Finset.sum_comm

/-- The two products' sum, at a row and column. -/
theorem sums_apply (x : FVec Ideal S36x16x4x2x32 .bf16) (lo hi : FVec Ideal S14336x16x4x32 .bf16) (b : Fin 36) (n : Fin 14336) :
    sums x lo hi (ix2 b n) = (∑ s : Fin 16, ∑ g : Fin 4, ∑ i : Fin 32, x (ix5 b s g 0 i) * lo (ix4 n s g i))
      + ∑ s : Fin 16, ∑ g : Fin 4, ∑ i : Fin 32, x (ix5 b s g 1 i) * hi (ix4 n s g i) := by
  show Host.dotGeneral _ _ _ _ _ + Host.dotGeneral _ _ _ _ _ = _
  rw [dot_apply, dot_apply]
  pointwise []

/-- The weights of the low nibbles, at an index. -/
theorem pay1_apply (s o : FVec Ideal S14336x16x4x2 .bf16) (q : IVec S14336x16x128 8) (n : Fin 14336) (t : Fin 16) (g : Fin 4) (i : Fin 32) :
    k0_pay1 (F := Ideal) s o (k0_pay7 (F := Ideal) q) k0_pay8 (ix4 n t g i)
      = (((nib (q (ix3 n t ⟨32 * g.val + i.val, by omega⟩)) 0 : ℕ) : ℝ) : EReal) * s (ix4 n t g 0) - o (ix4 n t g 0) := by
  pointwise [k0_pay1, k0_pay7, k0_pay8]
  rw [and15, sitofp_byte, nib_lo]
  simp only [Nat.mul_comm]

/-- The weights of the high nibbles, at an index. -/
theorem pay2_apply (s o : FVec Ideal S14336x16x4x2 .bf16) (q : IVec S14336x16x128 8) (n : Fin 14336) (t : Fin 16) (g : Fin 4) (i : Fin 32) :
    k0_pay2 (F := Ideal) s o (k0_pay7 (F := Ideal) q) (ix4 n t g i)
      = (((nib (q (ix3 n t ⟨32 * g.val + i.val, by omega⟩)) 1 : ℕ) : ℝ) : EReal) * s (ix4 n t g 1) - o (ix4 n t g 1) := by
  pointwise [k0_pay2, k0_pay7]
  rw [shr4, sitofp_byte, nib_hi]
  simp only [Nat.mul_comm]

/-- The one grid point's blocks begin at the arrays' beginnings. -/
theorem win_idx : ∀ t : Fin cfg0.N, win0_0.index t = ![0, 0, 0] ∧ win0_1.index t = ![0, 0, 0] ∧ win0_2.index t = ![0, 0] ∧ win0_3.index t = ![0, 0] ∧ win0_4.index t = ![0, 0, 0, 0] ∧ win0_5.index t = ![0, 0, 0, 0] :=
  (by decide +kernel : ∀ t : Fin grid0.N, _)

/-- The block of weight bytes is the argument. -/
theorem ld0 (c : Dev nD) : View.ld (iblk (F := Ideal) m c 0 t0_0) r0_2 = m ((c : Thread nD τ).loc main_arg1) := by
  rw [← V_main_arg1 m c]
  refine (View.ld_unit_zero (by funext a; fin_cases a <;> rfl) _ _).trans ?_
  funext j
  blk_ext [iblk, win_idx t0_0]

/-- The block of packed scales is the argument. -/
theorem ld1 (c : Dev nD) : View.ld (iblk (F := Ideal) m c 1 t0_0) r0_0 = m ((c : Thread nD τ).loc main_arg2) := by
  rw [← V_main_arg2 m c]
  refine (View.ld_unit_zero (by funext a; fin_cases a <;> rfl) _ _).trans ?_
  funext j
  blk_ext [iblk, win_idx t0_0]

/-- The block of superblock scales is the argument. -/
theorem ld2 (c : Dev nD) : View.ld (iblk (F := Ideal) m c 2 t0_0) r0_1 = m ((c : Thread nD τ).loc main_arg3) := by
  rw [← V_main_arg3 m c]
  refine (View.ld_unit_zero (by funext a; fin_cases a <;> rfl) _ _).trans ?_
  funext j
  blk_ext [iblk, win_idx t0_0]

/-- The block of superblock scales of the minima is the argument. -/
theorem ld3 (c : Dev nD) : View.ld (iblk (F := Ideal) m c 3 t0_0) r0_1 = m ((c : Thread nD τ).loc main_arg4) := by
  rw [← V_main_arg4 m c]
  refine (View.ld_unit_zero (by funext a; fin_cases a <;> rfl) _ _).trans ?_
  funext j
  blk_ext [iblk, win_idx t0_0]

/-- The array of low weights after the call. -/
theorem out4_eq (c : Dev nD) : (dats (F := Ideal) m 0 c).arrAt 4 cfg0.N
    = k0_pay1 (k0_pay5 (m ((c : Thread nD τ).loc main_arg2)) (m ((c : Thread nD τ).loc main_arg3)))
        (k0_pay6 (m ((c : Thread nD τ).loc main_arg2)) (m ((c : Thread nD τ).loc main_arg4)))
        (k0_pay7 (F := Ideal) (m ((c : Thread nD τ).loc main_arg1))) k0_pay8 := by
  refine (dats (F := Ideal) m 0 c).arrAt_eq_of_after_last 4 t0_0 (by decide +kernel) _ fun j => ?_
  blk_simp
  rw [after0_4]
  frame_out
  unfold k0_pay9 k0_pay10 k0_pay11
  rw [ld0, ld1, ld2, ld3, ld1]

/-- The array of high weights after the call. -/
theorem out5_eq (c : Dev nD) : (dats (F := Ideal) m 0 c).arrAt 5 cfg0.N
    = k0_pay2 (k0_pay5 (m ((c : Thread nD τ).loc main_arg2)) (m ((c : Thread nD τ).loc main_arg3)))
        (k0_pay6 (m ((c : Thread nD τ).loc main_arg2)) (m ((c : Thread nD τ).loc main_arg4)))
        (k0_pay7 (F := Ideal) (m ((c : Thread nD τ).loc main_arg1))) := by
  refine (dats (F := Ideal) m 0 c).arrAt_eq_of_after_last 5 t0_0 (by decide +kernel) _ fun j => ?_
  blk_simp
  rw [after0_5]
  frame_out
  unfold k0_pay9 k0_pay10 k0_pay11
  rw [ld0, ld1, ld2, ld3, ld1]

/-! ## The result -/

/-- The reference's terms are the sums of the format's weights with the activations. -/
theorem value_apply (A : FVec Ideal S36x4096 .bf16) (Q : IVec S14336x16x128 8) (C : IVec S14336x16x12 8) (D M : FVec Ideal S14336x16 .bf16) :
    sums (acts A) (k0_pay1 (k0_pay5 C D) (k0_pay6 C M) (k0_pay7 (F := Ideal) Q) k0_pay8)
        (k0_pay2 (k0_pay5 C D) (k0_pay6 C M) (k0_pay7 (F := Ideal) Q))
      = product 16 A Q C D M := by
  funext x
  obtain ⟨b, n, rfl⟩ : ∃ (b : Fin 36) (n : Fin 14336), x = ix2 b n := ⟨x 0, x 1, eq_ix2 x⟩
  rw [sums_apply, product_apply]
  simp only [acts_apply, pay1_apply, pay2_apply, pay5_apply, pay6_apply]
  exact colValue_eq_sums 16 (by decide) (fun k => A (ix2 b k)) (fun s l => Q (ix3 n s l)) (fun j s => C (ix3 n s j)) (fun s => D (ix2 n s)) (fun s => M (ix2 n s))

/-- What @main's result holds after the host operations that follow the dequantisation. -/
theorem final (c : Dev nD) : Pipeline.afterTail₀ cfgs (dats (F := Ideal) m) 0 (V0 m) [hostOps1] c main_v10
    = product 16 (m ((c : Thread nD τ).loc main_arg0)) (m ((c : Thread nD τ).loc main_arg1)) (m ((c : Thread nD τ).loc main_arg2))
        (m ((c : Thread nD τ).loc main_arg3)) (m ((c : Thread nD τ).loc main_arg4)) := by
  unfold Pipeline.afterTail₀
  refine (tail_any _).trans ?_
  rw [← value_apply]
  refine congr (congr (congrArg sums ?_) ?_) ?_
  · rw [Pipeline.withArrays_of_ne _ c (V0 m c) _ main_v2 (by exact (by decide : ∀ w, Pipeline.arrRef spec0 w ≠ main_v2))]
    exact head_any _
  · exact (Pipeline.withArrays_arr spec0 (by decide) c (V0 m c) (fun w => (dats m 0 c).arrAt w cfg0.N) 4).trans (out4_eq m c)
  · exact (Pipeline.withArrays_arr spec0 (by decide) c (V0 m c) (fun w => (dats m 0 c).arrAt w cfg0.N) 5).trans (out5_eq m c)

end Cert.ReferenceIdeal.Rv

end
-- ==== Proof.Proj.Bits.Ring.lean ====
module

public import proofs.«01_k».proof.Proof.Gen.Proj.Launch
public import proofs.«01_k».proof.Proof.Gen.Proj.Skeleton
public import proofs.«01_k».proof.Proof.Gen.Proj.Points
public import Idealize.ShloMosaic.Lib.Pipeline.FrameBody
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.Proj.Rg

open Cert.Proj Cert.Proj.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (Pipeline.UD sig nD τ) ℕ

variable (m : (ℓ : Loc nD τ sig) → Buf (Elt F) ℓ) (ρ : Dev nD → PrngReg)
/-! ## @main up to the region -/

/-- Core `c`'s TensorCore buffers when the region is entered: after the host operations `hostOps0`. -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

set_option maxHeartbeats 800000 in
/-- @main up to the region, at the certificate's variants `𝒱₀`: the host operations then the region
    (`Pipeline.hmain_prefix`: `StableHlo.wp_seq` over the unscoped buffers, off `main_chain`). -/
theorem hmain (𝒱₀ : Variants) : Pipeline.HMain (Ix := Unit) (Name := ℕ) (U := Pipeline.UD sig nD τ) (Lvl := ℕ) cfgs 0 defs₀ 𝒱₀ m (main (F := F)) (V m) :=
  Pipeline.hmain_prefix cfgs 0 defs₀ 𝒱₀ m main hostOps0 hostOps0_sub hostOps0_fresh main_chain

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg4`: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not, for ANY proof
    data whose array is `V`'s (`hA`) and whose body leaves the block in place (`hafter`): the library's
    `Dat.before_in_eq_fetched` (unfetched, the index has not moved), the window uncut and never idle. -/
theorem before0_0_of {c : Dev nD} (dat : Dat τ (Elt F) Unit ℕ (Pipeline.UD sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): the library's
    `Dat.before_in_eq_fetched` (unfetched, the index has not moved), the window uncut and never idle. -/
theorem before0_1_of {c : Dev nD} (dat : Dat τ (Elt F) Unit ℕ (Pipeline.UD sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): the library's
    `Dat.before_in_eq_fetched` (unfetched, the index has not moved), the window uncut and never idle. -/
theorem before0_2_of {c : Dev nD} (dat : Dat τ (Elt F) Unit ℕ (Pipeline.UD sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for ANY proof
    data whose array is `V`'s (`hA`) and whose body leaves the block in place (`hafter`): the library's
    `Dat.before_in_eq_fetched` (unfetched, the index has not moved), the window uncut and never idle. -/
theorem before0_3_of {c : Dev nD} (dat : Dat τ (Elt F) Unit ℕ (Pipeline.UD sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- The frame from a frame run: for any proof data whose arrays are the region-entry contents (`hA`), a run to
    the library's `FramePost` read at the argument arrays — a staged input by the library's
    `Dat.arrAt_in`, an array no window stages by the post's second clause, each then by `V_…` — is the frame
    claim's post, at any `F`. -/
theorem frame_of (dats : (p : Fin 1) → (c : Dev nD) → Dat τ (Elt F) Unit ℕ (Pipeline.UD sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨((h c).1 0).trans (((dats 0 c).arrAt_in 0 rfl _).trans ((hA c 0).trans (V_main_arg0 m c))),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c)⟩) h

/-! ## The body's branch conditions -/

/-- The condition of the body's `scf.if` 0 (`k0_h1`), from the grid coordinates (the skeleton's scalar
    chain substituted). -/
abbrev cond0_0 (i : grid0.Coords) : Prop := (Scalar.cmpi .ne (Scalar.extui (Scalar.cmpi .eq (BitVec.ofNat 32 (i 0).val) 0#32)) 0#32) = 1#1
/-- It holds at the first point only — by arithmetic of the point. -/
theorem hcond0_0 : ∀ t : Fin cfg0.N, cond0_0 (grid0.coords t) ↔ t.val % 8 = 0 :=
  (fun t => by
    have ht : t.val < 8 := Nat.lt_of_lt_of_eq t.isLt N_0
    have e0 : (grid0.coords t 0).val = t.val / 1 % 8 := Pipeline.Grid.coords_val t 0 (by decide) rfl
    simp only [cond0_0, e0]
    word_cmp
   : ∀ t : Fin grid0.N, cond0_0 (grid0.coords t) ↔ t.val % 8 = 0)

/-- The condition of the body's `scf.if` 1 (`k0_h2`), from the grid coordinates (the skeleton's scalar
    chain substituted). -/
abbrev cond0_1 (i : grid0.Coords) : Prop := k0_cond2 i = 1#1
/-- It holds at the points before point 7 — decided over the grid. -/
theorem hcond0_1 : ∀ t : Fin cfg0.N, cond0_1 (grid0.coords t) ↔ t.val < 7 :=
  (by decide +kernel : ∀ t : Fin grid0.N, cond0_1 (grid0.coords t) ↔ t.val < 7)

/-! ## The kernel body on any staging memrefs: a subtype the run finds -/

/-- One staging buffer of output window 4, through which its contents are stated (`View.read_writes_of_cover`: the
    choice does not matter). -/
abbrev VO0_4 : View sig .tc .vmem S36x512 .f32 := (Memref.whole cc0_stg4_0 : Memref sig .tc .vmem S36x512 .f32).view
/-- Each window's current staging memref at point `t`, spelled as the pipeline passes it (`bodyAt0`), and its wholeness. -/
abbrev ms0_0 (t : Fin cfg0.N) : Memref sig .tc .vmem S36x4096 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S12x16x512 .i8 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S16x512 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S16x512 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S36x512 .f32 := win0_4.stage (cfg0.slots t 4)
abbrev hs0_4 (t : Fin cfg0.N) : (ms0_4 t).IsWhole := hstage0_4 ((cfg0.slots t 4).cast nbuf0_4)
/-- The scratch operands: whole scoped buffers of the kernel's own, passed beside the windows. -/
abbrev scM0_0 : Memref sig .tc .vmem S2x4x16x128 .i32 := Memref.whole cc0_scratch0
abbrev scM0_1 : Memref sig .tc .vmem S2x4x16x128 .i32 := Memref.whole cc0_scratch1
abbrev scM0_2 : Memref sig .tc .vmem S2x8192x128 .i8 := Memref.whole cc0_scratch2
/-- The operands left in HBM that the body copies into scratch itself, whole. -/
abbrev hbM0_0 : Memref sig .tc .hbm S65536x128 .i8 := Memref.whole main_v0
/-- Memref `M`'s buffer on core `c`: its contents type, and it held whole at `f` — behind this abbreviation, so that the
    run's rewriting of the goal leaves `Memref.view` intact (the form the executor reads a held buffer in). -/
abbrev HbBuf0 (c : Dev nD) {sp : Space} {S : Shape} {e : EltTy} (M : Memref sig .tc sp S e) : Type := Buf (Elt F) (M.view.loc (c : Thread nD τ))
abbrev hbPt0 (c : Dev nD) {sp : Space} {S : Shape} {e : EltTy} (M : Memref sig .tc sp S e) (f : HbBuf0 (F := F) c M) : sProp 𝕄 :=
  M.view.loc (c : Thread nD τ) ↦{fullShare} f

/-- The body's own DMA semaphores, cell by cell (their numbers in the pool): the kernel's own semaphores for the launch
    (`Pipeline.OwnSemFacts`: none is a window's). -/
abbrev osem0 : Fin 2 → SemLoc sig := fun j => (![SemLoc.dma 9, SemLoc.dma 10] : Fin 2 → SemLoc sig) j
theorem ownSemFacts0 : Pipeline.OwnSemFacts spec0 osem0 := by decide
/-- The cells at zero, listed. -/
theorem ownSems00_eq (c : Dev nD) :
    (Pipeline.ownSems0 (Ix := Unit) (Name := ℕ) (U := Pipeline.UD sig nD τ) (Lvl := ℕ) (Val := Elt F) (τ := τ) osem0 c : sProp 𝕄)
      = iprop(semVal ((c : Thread nD τ), SemLoc.dma 9) 0 ∗ semVal ((c : Thread nD τ), SemLoc.dma 10) 0) := by
  rw [Pipeline.ownSems0_eq_of_list c osem0 [0, 1] (by decide) (by decide)]; rfl
/-- The HBM operands the body moves, as references: unscoped, no window's array (`Pipeline.restRefs`). -/
def H0 : Finset (Ref sig .tc) := {main_v0}
theorem H0_sub : H0 ⊆ Pipeline.restRefs sig spec0 := by decide
/-- Their points-tos at the launch contents, listed. -/
theorem hbmPts0_eq (c : Dev nD) :
    (bigSep H0 (fun b => ((c : Thread nD τ).loc b) ↦{fullShare} V m c b) : sProp 𝕄) = iprop(hbPt0 c hbM0_0 (V m c main_v0)) := by
  rw [BI.bigSep_eq_bigSepL_of_eq [main_v0] (by decide) (by decide)]; rfl

/-- The invariant of a body with transfers of its own, `Pipeline.ΦD`, conjunct by conjunct: the scratch operands owned at
    some contents, the generator register at some state, the own cells at zero, the HBM operands at their launch
    contents — what the body obligation hands the run and takes back. -/
theorem PhiD0_eq (c : Dev nD) :
    (Pipeline.ΦD osem0 spec0 H0 (V m) c : sProp 𝕄)
      = iprop(iprop((∃ d, owns (c : Thread nD τ) scM0_0 fullShare d) ∗ (∃ d, owns (c : Thread nD τ) scM0_1 fullShare d) ∗ (∃ d, owns (c : Thread nD τ) scM0_2 fullShare d)) ∗ (∃ r, prngReg c r) ∗ iprop(semVal ((c : Thread nD τ), SemLoc.dma 9) 0 ∗ semVal ((c : Thread nD τ), SemLoc.dma 10) 0) ∗ iprop(hbPt0 c hbM0_0 (V m c main_v0))) := by
  rw [Pipeline.ΦD_eq, scopedRest0_eq, ownSems00_eq, hbmPts0_eq]; simp only [scM0_0, scM0_1, scM0_2, owns_whole]; try rfl

/-! ## Ring 0 of kernel 0: `main_v0` streamed through the 2 slots of `cc0_scratch2` on the cells of `cc0_scratch3`, 1 block ahead, in 8 steps -/

instance : NeZero grid0.N := ⟨by rw [N_0]; decide⟩
theorem inb_slot0_0 (s : Fin 2) : ∀ a, (![s.val, 0, 0] : Fin 3 → Nat) a + S1x8192x128.size a ≤ S2x8192x128.size a := by
  have := s.isLt; intro a; fin_cases a <;> simp <;> omega
theorem inb_src0_0 (b : Fin 8) : ∀ a, (![8192 * b.val, 0] : Fin 2 → Nat) a + S8192x128.size a ≤ S65536x128.size a := by
  have := b.isLt; intro a; fin_cases a <;> simp <;> omega
theorem inb_cell0_0 (s : Fin 2) : ∀ a, (![s.val] : Fin 1 → Nat) a + S1.size a ≤ S2.size a := by
  have := s.isLt; intro a; fin_cases a <;> simp <;> omega
/-- Slot `s` of the ring, spelt as the body's transfers spell their destination, at offsets in `s`. -/
def rslot0_0 (s : Fin 2) : Memref sig .tc .vmem S8192x128 .i8 :=
  (scM0_2.slice (Rect.unit (s := S2x8192x128) ![s.val, 0, 0] S1x8192x128.size (inb_slot0_0 s)) (fun _ => rfl)).squeeze S8192x128 squeezes_S1x8192x128_S8192x128
/-- Block `b` of the operand (the block step `b` waits), spelt as the transfers spell their source, at offsets in `b`. -/
def srcB0_0 (b : Fin 8) : Memref sig .tc .hbm S8192x128 .i8 :=
  hbM0_0.slice (Rect.unit (s := S65536x128) ![8192 * b.val, 0] S8192x128.size (inb_src0_0 b)) (fun _ => rfl)
/-- Cell `s` of `cc0_scratch3`, spelt as the body spells a cell; its number in the pool. -/
def cellA0_0 (s : Fin 2) : DmaSems sig S_ := (cc0_scratch3.slice (Rect.unit (s := S2) ![s.val] S1.size (inb_cell0_0 s))).squeeze S_ squeezes_S1_S_
abbrev cellR0_0 (s : Fin 2) : SemLoc sig := SemLoc.dma (cellA0_0 s).sem
theorem cellR0_0_0 : cellR0_0 0 = SemLoc.dma 9 := by decide
theorem cellR0_0_1 : cellR0_0 1 = SemLoc.dma 10 := by decide

section Ring0_0
variable (c : Dev nD) (W : HbBuf0 (F := F) c hbM0_0)
/-- The operand is lent BY SHARE, one read-share copy of it per slot (the left and right halves of the full share): whatever
    blocks two transfers in flight stream — the same one twice, two that overlap —, each borrows from its own slot's copy. -/
abbrev qs0_0 (s : Fin 2) : PosShare TreeShare := if s.val = 0 then fullShare.left else fullShare.right
/-- The families the ring is stated over: slot `s` held at `f`; cell `s` at zero; block `b`'s elements of slot `s`'s copy of the
    operand (what a transfer into slot `s` lends), the REST of that copy, and the copy whole; slot `s`'s contents once block `b`
    landed in it whole over `f` (the executor's listed write); the FLIGHT of block `b` into slot `s`, delivering the slot landed
    and the lent elements back. -/
abbrev slotP0_0 (s : Fin 2) (f : HbBuf0 (F := F) c (rslot0_0 s)) : sProp 𝕄 := (rslot0_0 s).view.loc (c : Thread nD τ) ↦[(rslot0_0 s).view.set]{fullShare} f
abbrev cellP0_0 (s : Fin 2) : sProp 𝕄 := semVal ((c : Thread nD τ), cellR0_0 s) 0
abbrev srcP0_0 (s : Fin 2) (b : Fin 8) : sProp 𝕄 := (srcB0_0 b).view.loc (c : Thread nD τ) ↦[(srcB0_0 b).view.set]{qs0_0 s} W
/-- (a `def`: no run reads this rest, and folded it stays out of the executor's table of held buffers) -/
def restP0_0 (s : Fin 2) (b : Fin 8) : sProp 𝕄 := ((c : Thread nD τ).loc main_v0) ↦[Finset.univ \ (srcB0_0 b).view.set]{qs0_0 s} W
abbrev wholeP0_0 (s : Fin 2) : sProp 𝕄 := ((c : Thread nD τ).loc main_v0) ↦[Finset.univ]{qs0_0 s} W
abbrev landed0_0 (s : Fin 2) (b : Fin 8) (f : HbBuf0 (F := F) c (rslot0_0 s)) : HbBuf0 (F := F) c (rslot0_0 s) :=
  (rslot0_0 s).view.writes (Elt F) f [⟨Rect.whole S8192x128, ReadAs.same.apply ((srcB0_0 b).view.read (Elt F) W)⟩]
abbrev flightP0_0 (s : Fin 2) (b : Fin 8) (f : HbBuf0 (F := F) c (rslot0_0 s)) : sProp 𝕄 :=
  Transfers.Flight countersEmb (c : Thread nD τ) (cellR0_0 s) default ((rslot0_0 s).view.amount (cellR0_0 s))
    iprop(slotP0_0 c s (landed0_0 c W s b f) ∗ srcP0_0 c W s b)
/-- The library's `slot` and `flight` families: a slot not in flight carries its copy of the operand whole; a flight, the
    rest of the copy it borrowed from. No block is held apart: the `home` family is `emp`. -/
abbrev slotW0_0 (s : Fin 2) (f : HbBuf0 (F := F) c (rslot0_0 s)) : sProp 𝕄 := iprop(slotP0_0 c s f ∗ wholeP0_0 c W s)
abbrev flightW0_0 (s : Fin 2) (b : Fin 8) (f : HbBuf0 (F := F) c (rslot0_0 s)) : sProp 𝕄 := iprop(flightP0_0 c W s b f ∗ restP0_0 c W s b)
abbrev noHome0_0 (b : Fin 8) : sProp 𝕄 := iprop(emp)
/-- The ring before its step `k` (the library's `AtK`): every slot free before the first; from then on block `k` in flight
    into slot `k`, slot `k + 1` KEEPING block `k - 1` (landed, readable) until the step starts block `k + 1` over it. -/
def ringAt0_0 (k : ℕ) : sProp 𝕄 :=
  if k = 0 then Ring.At₀ (cellP0_0 c) (slotW0_0 c W) noHome0_0
  else Ring.AtK 1 (cellP0_0 c) (slotW0_0 c W) noHome0_0 (flightW0_0 c W) (landed0_0 c W) k
omit [BitOps F] in
theorem cellP0_0_0 : cellP0_0 (F := F) c 0 = semVal ((c : Thread nD τ), SemLoc.dma 9) 0 := congrArg (fun x => (semVal ((c : Thread nD τ), x) 0 : sProp 𝕄)) cellR0_0_0
omit [BitOps F] in
theorem cellP0_0_1 : cellP0_0 (F := F) c 1 = semVal ((c : Thread nD τ), SemLoc.dma 10) 0 := congrArg (fun x => (semVal ((c : Thread nD τ), x) 0 : sProp 𝕄)) cellR0_0_1
end Ring0_0

/-! ### The slots, disjoint and covering the scratch (the library's `lead_disjoint` / `lead_cover`) -/

abbrev slotSet0_0 (s : Fin 2) : Finset S2x8192x128.Idx := (Rect.unit (s := S2x8192x128) ![s.val, 0, 0] S1x8192x128.size (inb_slot0_0 s)).set
theorem slotSet0_0_eq (s : Fin 2) : (rslot0_0 s).view.set = slotSet0_0 s := by
  simp only [rslot0_0, Memref.view_squeeze, View.set_reshape]; exact View.set_slice_whole _ _
theorem slots0_0_disjoint (s s' : Fin 2) (h : s ≠ s') : Disjoint (slotSet0_0 s) (slotSet0_0 s') :=
  Ring.lead_disjoint (s := S2x8192x128) (0 : Fin 3) 1 (fun s : Fin 2 => (![s.val, 0, 0] : Fin 3 → Nat)) S1x8192x128.size inb_slot0_0 (fun s => by simp) rfl s s' h
theorem slots0_0_cover : Finset.univ.biUnion slotSet0_0 = Finset.univ :=
  Ring.lead_cover (s := S2x8192x128) (0 : Fin 3) 1 (fun s : Fin 2 => (![s.val, 0, 0] : Fin 3 → Nat)) S1x8192x128.size inb_slot0_0 (fun s => by simp)
    (fun s a ha => by fin_cases a <;> first | exact absurd rfl ha | rfl) rfl (fun a ha => by fin_cases a <;> first | exact absurd rfl ha | rfl) rfl

/-! ### What the launch hands the ring, and takes back -/

section InOut0_0
variable (c : Dev nD) (W : HbBuf0 (F := F) c hbM0_0)
theorem slotP0_0_eq (s : Fin 2) (f) : slotP0_0 (F := F) c s f = (((c : Thread nD τ).loc cc0_scratch2) ↦[slotSet0_0 s]{fullShare} f : sProp 𝕄) := by
  unfold slotP0_0; rw [slotSet0_0_eq]; rfl
/-- A slot's copy of the operand, whole, is block `b`'s elements and the rest (any `b`: what a run splits off before its step
    starts block `b`, and joins back once the wait returned it); -/
theorem src0_0_split (s : Fin 2) (b : Fin 8) : wholeP0_0 (F := F) c W s ⊣⊢ iprop(srcP0_0 c W s b ∗ restP0_0 c W s b) := by
  unfold restP0_0; exact pointsTo_split_subset (Finset.subset_univ _)
/-- the operand whole at the full share is the two copies. -/
theorem whole0_0_split : (hbPt0 c hbM0_0 W : sProp 𝕄) ⊣⊢ iprop(wholeP0_0 c W 0 ∗ wholeP0_0 c W 1) :=
  pointsTo_share (PosShare.mem_left_op_right fullShare)
set_option maxHeartbeats 1000000 in
/-- the scratch whole at anything is its slots at something each, and back. -/
theorem slots0_0_in : iprop(∃ d, owns (c : Thread nD τ) scM0_2 fullShare d) ⊢ (iprop((∃ f, slotP0_0 (F := F) c 0 f) ∗ ∃ f, slotP0_0 (F := F) c 1 f) : sProp 𝕄) := by
  simp only [scM0_2, owns_whole]
  exact Ring.slots2_split (U := Pipeline.UD sig nD τ) (ℓ := (c : Thread nD τ).loc cc0_scratch2) (q := fullShare) slotSet0_0 slots0_0_disjoint slots0_0_cover
    (slotP0_0 c 0) (slotP0_0 c 1) (slotP0_0_eq c 0) (slotP0_0_eq c 1)
set_option maxHeartbeats 1000000 in
theorem slots0_0_out : (iprop((∃ f, slotP0_0 (F := F) c 0 f) ∗ ∃ f, slotP0_0 (F := F) c 1 f) : sProp 𝕄) ⊢ iprop(∃ d, owns (c : Thread nD τ) scM0_2 fullShare d) := by
  simp only [scM0_2, owns_whole]
  exact Ring.slots2_join (U := Pipeline.UD sig nD τ) (ℓ := (c : Thread nD τ).loc cc0_scratch2) (q := fullShare) slotSet0_0 slots0_0_disjoint slots0_0_cover
    (slotP0_0 c 0) (slotP0_0 c 1) (slotP0_0_eq c 0) (slotP0_0_eq c 1)
end InOut0_0

/-- INTO THE RING: the launch's pieces — the scratch whole, the cells at zero, the operand whole — are the ring before its first step; -/
theorem ring0_0_in (c : Dev nD) :
    iprop((∃ d, owns (c : Thread nD τ) scM0_2 fullShare d) ∗ (semVal ((c : Thread nD τ), SemLoc.dma 9) 0 ∗ semVal ((c : Thread nD τ), SemLoc.dma 10) 0) ∗ hbPt0 c hbM0_0 (V m c main_v0))
      ⊢ ringAt0_0 c (V m c main_v0) 0 := by
  unfold ringAt0_0; rw [if_pos rfl]; unfold Ring.At₀
  rw [Ring.bigSep_fin2]
  simp only [Ring.free, cellP0_0_0, cellP0_0_1]
  iintro ⟨HS, Hc, HW⟩
  iapply Ring.with_homes₀
  icases Hc with ⟨H0, H1⟩
  ihave HS' := (slots0_0_in (F := F) c) $$ HS
  icases HS' with ⟨⟨%d0, HS0⟩, ⟨%d1, HS1⟩⟩
  ihave HW' := (whole0_0_split (F := F) c (V m c main_v0)).1 $$ HW
  icases HW' with ⟨HW0, HW1⟩
  isplitl [H0 HS0 HW0]
  · isplitl [H0]; · iexact H0
    iexists d0; isplitl [HS0]; · iexact HS0
    iexact HW0
  · isplitl [H1]; · iexact H1
    iexists d1; isplitl [HS1]; · iexact HS1
    iexact HW1
/-- OUT OF THE RING: after the last step (every slot kept or free: the kept blocks forgotten) those pieces again. -/
theorem ring0_0_out (c : Dev nD) :
    ringAt0_0 c (V m c main_v0) 8
      ⊢ iprop((∃ d, owns (c : Thread nD τ) scM0_2 fullShare d) ∗ (semVal ((c : Thread nD τ), SemLoc.dma 9) 0 ∗ semVal ((c : Thread nD τ), SemLoc.dma 10) 0) ∗ hbPt0 c hbM0_0 (V m c main_v0)) := by
  unfold ringAt0_0; rw [if_neg (by decide)]
  iintro H
  ihave H' := (Ring.free2_of_AtK_last _ _ _ _ _) $$ H
  simp only [Ring.free, cellP0_0_0, cellP0_0_1]
  icases H' with ⟨-, ⟨H0, ⟨%f0, HS0, HW0⟩⟩, ⟨H1, ⟨%f1, HS1, HW1⟩⟩⟩
  isplitl [HS0 HS1]
  · iapply (slots0_0_out (F := F) c); isplitl [HS0]; · iexists f0; iexact HS0
    iexists f1; iexact HS1
  isplitl [H0 H1]
  · isplitl [H0]; · iexact H0
    iexact H1
  · iapply (whole0_0_split (F := F) c (V m c main_v0)).2; isplitl [HW0]; · iexact HW0
    iexact HW1

/-! ### Ring 0's steps at each case's points, and its canonical names: the body's operands at point `t` are the ring's slots, blocks and cells -/

section Canon0_0
omit [BitOps F]
/-- At the points of case A the ring takes its FIRST step. -/
theorem rstep0_0_A : ∀ t : Fin grid0.N, cond0_0 (grid0.coords t) → cond0_1 (grid0.coords t) → t.val = 0 ∧ (t.val + 1) = 1 := by decide +kernel
/-- At the points of case B the ring takes a step, a block still to start. -/
theorem rstep0_0_B : ∀ t : Fin grid0.N, ¬cond0_0 (grid0.coords t) → cond0_1 (grid0.coords t) → 1 ≤ t.val ∧ t.val + 1 < 8 ∧ (t.val + 1) = t.val + 1 := by decide +kernel
/-- At the points of case C the ring takes its LAST step. -/
theorem rstep0_0_C : ∀ t : Fin grid0.N, ¬cond0_0 (grid0.coords t) → ¬cond0_1 (grid0.coords t) → 1 ≤ t.val ∧ t.val + 1 = 8 ∧ (t.val + 1) = t.val + 1 := by decide +kernel
set_option synthInstance.maxSize 4096 in
theorem coff0_0_1 : ∀ t : Fin grid0.N, cond0_0 (grid0.coords t) → cond0_1 (grid0.coords t) → (![0, 0, 0] : Fin 3 → Nat) = ![(Ring.sl 2 t.val).val, 0, 0] := by decide +kernel
@[sl_canon] theorem canon0_0_1 (t : Fin grid0.N) (h0 : cond0_0 (grid0.coords t)) (h1 : cond0_1 (grid0.coords t)) :
    (scM0_2.slice (Rect.unit (s := S2x8192x128) ![0, 0, 0] S1x8192x128.size inb_S2x8192x128_S1x8192x128_0_0_0) (fun _ => rfl)).squeeze S8192x128 squeezes_S1x8192x128_S8192x128 = rslot0_0 (Ring.sl 2 t.val) :=
  congrArg (fun M : Memref sig .tc .vmem S1x8192x128 .i8 => M.squeeze S8192x128 squeezes_S1x8192x128_S8192x128) (Memref.slice_unit_congr _ (coff0_0_1 t h0 h1) _ _ (fun _ => rfl) (fun _ => rfl))
set_option synthInstance.maxSize 4096 in
theorem coff0_0_2 : ∀ t : Fin grid0.N, cond0_0 (grid0.coords t) → cond0_1 (grid0.coords t) → (![0] : Fin 1 → Nat) = ![(Ring.sl 2 t.val).val] := by decide +kernel
@[sl_canon] theorem canon0_0_2 (t : Fin grid0.N) (h0 : cond0_0 (grid0.coords t)) (h1 : cond0_1 (grid0.coords t)) :
    (cc0_scratch3.slice (Rect.unit (s := S2) ![0] S1.size inb_S2_S1_0)).squeeze S_ squeezes_S1_S_ = cellA0_0 (Ring.sl 2 t.val) :=
  congrArg (fun A : DmaSems sig S1 => A.squeeze S_ squeezes_S1_S_) (SemArray.slice_unit_congr _ (coff0_0_2 t h0 h1) _ _)
set_option synthInstance.maxSize 4096 in
theorem coff0_0_3 : ∀ t : Fin grid0.N, cond0_0 (grid0.coords t) → cond0_1 (grid0.coords t) → (![0, 0] : Fin 2 → Nat) = ![8192 * (Ring.bk 8 t.val).val, 0] := by decide +kernel
@[sl_canon] theorem canon0_0_3 (t : Fin grid0.N) (h0 : cond0_0 (grid0.coords t)) (h1 : cond0_1 (grid0.coords t)) :
    hbM0_0.slice (Rect.unit (s := S65536x128) ![0, 0] S8192x128.size inb_S65536x128_S8192x128_0_0) (fun _ => rfl) = srcB0_0 (Ring.bk 8 t.val) :=
  congrArg (fun M : Memref sig .tc .hbm S8192x128 .i8 => M) (Memref.slice_unit_congr _ (coff0_0_3 t h0 h1) _ _ (fun _ => rfl) (fun _ => rfl))
set_option synthInstance.maxSize 4096 in
theorem coff0_0_4 : ∀ t : Fin grid0.N, k0_off2 (grid0.coords t) = ![(Ring.sl 2 (t.val + 1)).val, 0, 0] := by decide +kernel
@[sl_canon] theorem canon0_0_4 (t : Fin grid0.N) (h1 : cond0_1 (grid0.coords t)) :
    (scM0_2.slice (Rect.unit (s := S2x8192x128) (k0_off2 (grid0.coords t)) S1x8192x128.size (k0_off2_inb (grid0.coords t) h1)) (fun _ => rfl)).squeeze S8192x128 squeezes_S1x8192x128_S8192x128 = rslot0_0 (Ring.sl 2 (t.val + 1)) :=
  congrArg (fun M : Memref sig .tc .vmem S1x8192x128 .i8 => M.squeeze S8192x128 squeezes_S1x8192x128_S8192x128) (Memref.slice_unit_congr _ (coff0_0_4 t ) _ _ (fun _ => rfl) (fun _ => rfl))
set_option synthInstance.maxSize 4096 in
theorem coff0_0_5 : ∀ t : Fin grid0.N, k0_off1 (grid0.coords t) = ![(Ring.sl 2 (t.val + 1)).val] := by decide +kernel
@[sl_canon] theorem canon0_0_5 (t : Fin grid0.N) (h1 : cond0_1 (grid0.coords t)) :
    (cc0_scratch3.slice (Rect.unit (s := S2) (k0_off1 (grid0.coords t)) S1.size (k0_off1_inb (grid0.coords t) h1))).squeeze S_ squeezes_S1_S_ = cellA0_0 (Ring.sl 2 (t.val + 1)) :=
  congrArg (fun A : DmaSems sig S1 => A.squeeze S_ squeezes_S1_S_) (SemArray.slice_unit_congr _ (coff0_0_5 t ) _ _)
set_option synthInstance.maxSize 4096 in
theorem coff0_0_6 : ∀ t : Fin grid0.N, cond0_0 (grid0.coords t) → cond0_1 (grid0.coords t) → k0_off3 (grid0.coords t) = ![8192 * (Ring.bk 8 (t.val + 1)).val, 0] := by decide +kernel
@[sl_canon] theorem canon0_0_6 (t : Fin grid0.N) (h0 : cond0_0 (grid0.coords t)) (h1 : cond0_1 (grid0.coords t)) :
    hbM0_0.slice (Rect.unit (s := S65536x128) (k0_off3 (grid0.coords t)) S8192x128.size (k0_off3_inb (grid0.coords t) h1)) (fun _ => rfl) = srcB0_0 (Ring.bk 8 (t.val + 1)) :=
  congrArg (fun M : Memref sig .tc .hbm S8192x128 .i8 => M) (Memref.slice_unit_congr _ (coff0_0_6 t h0 h1) _ _ (fun _ => rfl) (fun _ => rfl))
set_option synthInstance.maxSize 4096 in
theorem coff0_0_7 : ∀ t : Fin grid0.N, k0_off5 (grid0.coords t) = ![(Ring.sl 2 t.val).val, 0, 0] := by decide +kernel
@[sl_canon] theorem canon0_0_7 (t : Fin grid0.N) :
    (scM0_2.slice (Rect.unit (s := S2x8192x128) (k0_off5 (grid0.coords t)) S1x8192x128.size (k0_off5_inb (grid0.coords t))) (fun _ => rfl)).squeeze S8192x128 squeezes_S1x8192x128_S8192x128 = rslot0_0 (Ring.sl 2 t.val) :=
  congrArg (fun M : Memref sig .tc .vmem S1x8192x128 .i8 => M.squeeze S8192x128 squeezes_S1x8192x128_S8192x128) (Memref.slice_unit_congr _ (coff0_0_7 t ) _ _ (fun _ => rfl) (fun _ => rfl))
set_option synthInstance.maxSize 4096 in
theorem coff0_0_8 : ∀ t : Fin grid0.N, k0_off4 (grid0.coords t) = ![(Ring.sl 2 t.val).val] := by decide +kernel
@[sl_canon] theorem canon0_0_8 (t : Fin grid0.N) :
    (cc0_scratch3.slice (Rect.unit (s := S2) (k0_off4 (grid0.coords t)) S1.size (k0_off4_inb (grid0.coords t)))).squeeze S_ squeezes_S1_S_ = cellA0_0 (Ring.sl 2 t.val) :=
  congrArg (fun A : DmaSems sig S1 => A.squeeze S_ squeezes_S1_S_) (SemArray.slice_unit_congr _ (coff0_0_8 t ) _ _)
set_option synthInstance.maxSize 4096 in
theorem coff0_0_9 : ∀ t : Fin grid0.N, ¬cond0_0 (grid0.coords t) → cond0_1 (grid0.coords t) → k0_off3 (grid0.coords t) = ![8192 * (Ring.bk 8 (t.val + 1)).val, 0] := by decide +kernel
@[sl_canon] theorem canon0_0_9 (t : Fin grid0.N) (h0 : ¬cond0_0 (grid0.coords t)) (h1 : cond0_1 (grid0.coords t)) :
    hbM0_0.slice (Rect.unit (s := S65536x128) (k0_off3 (grid0.coords t)) S8192x128.size (k0_off3_inb (grid0.coords t) h1)) (fun _ => rfl) = srcB0_0 (Ring.bk 8 (t.val + 1)) :=
  congrArg (fun M : Memref sig .tc .hbm S8192x128 .i8 => M) (Memref.slice_unit_congr _ (coff0_0_9 t h0 h1) _ _ (fun _ => rfl) (fun _ => rfl))
set_option synthInstance.maxSize 4096 in
theorem coff0_0_10 : ∀ (t : Fin grid0.N) (k : Fin k0_t1_loop.trips) (r : Fin 2), k0_off20 (grid0.coords t) k (BitVec.ofNat 32 (128 * r.val)) = ![(Ring.sl 2 t.val).val, 4096 * k.val + 2048 * r.val, 0] := by decide +kernel
/-- A trip's first load from the ring, its box in the slot's spelling (the block this step waited). -/
instance (priority := high) closedOff0_0_10 (t : Fin grid0.N) (k : Fin k0_t1_loop.trips) : ClosedOff (k0_off20 (grid0.coords t) k (BitVec.ofNat 32 0)) := ⟨![(Ring.sl 2 t.val).val, 4096 * k.val + 2048 * 0, 0], coff0_0_10 t k ⟨0, by decide⟩⟩
/-- A trip's second load from the ring. -/
instance (priority := high) closedOff0_0_11 (t : Fin grid0.N) (k : Fin k0_t1_loop.trips) : ClosedOff (k0_off20 (grid0.coords t) k (BitVec.ofNat 32 128)) := ⟨![(Ring.sl 2 t.val).val, 4096 * k.val + 2048 * 1, 0], coff0_0_10 t k ⟨1, by decide⟩⟩
/-- A trip's load from the ring stays inside the slot this step waited. -/
theorem ringLoad_sub (t : Fin grid0.N) (k : Fin k0_t1_loop.trips) (r : Fin 2) :
    scM0_2.view.setOn (Rect.unit (s := S2x8192x128) (k0_off20 (grid0.coords t) k (BitVec.ofNat 32 (128 * r.val))) S1x2048x128.size (k0_off20_inb (grid0.coords t) k r)).set ⊆ (rslot0_0 (Ring.sl 2 t.val)).view.set := by
  rw [slotSet0_0_eq]
  have e := coff0_0_10 t k r
  have hk : k.val < 2 := k.isLt
  have hr : r.val < 2 := r.isLt
  intro y hy
  obtain ⟨y', hy', rfl⟩ := Finset.mem_map.mp hy
  show y' ∈ slotSet0_0 _
  rw [Rect.mem_set_unit] at hy' ⊢
  intro a
  have h := hy' a
  rw [e] at h
  fin_cases a <;> simp at h ⊢ <;> omega
end Canon0_0

end Cert.Proj.Rg

end
-- ==== Proof.Proj.Bits.Trip.lean ====
module

public import proofs.«01_k».proof.Proof.Proj.Bits.Ring
public import proofs.«01_k».proof.Proof.Gen.Proj.Loops

@[expose] public section

set_option maxRecDepth 16384

noncomputable section

namespace Cert.Proj.Rg

open Cert.Proj Cert.Proj.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [BitOps F]

local notation "𝕄" => MT nD τ sig Unit (Elt F) ℕ (Pipeline.UD sig nD τ) ℕ

/-- The box the trip writes for half `h`, group `g` and parity `p`: every other row, from row `p`. -/
def scrRect (h : Fin 2) (g : Fin 4) (p : Fin 2) : Rect S2x4x16x128 :=
  ⟨(⟨![h.val, g.val, p.val, 0], S1x1x8x128.size, ![1, 1, 2, 1], by
      intro a; right; fin_cases a <;> simp [S1x1x8x128, S2x4x16x128, Shape.size] <;> omega⟩ : LoadRect S2x4x16x128), spos_1_1_2_1⟩

/-- The sixteen boxes of a scale scratch buffer, the last written first. -/
def scrRects : List (Rect S2x4x16x128) :=
  [scrRect 1 3 1, scrRect 1 3 0, scrRect 1 2 1, scrRect 1 2 0, scrRect 1 1 1, scrRect 1 1 0, scrRect 1 0 1, scrRect 1 0 0,
   scrRect 0 3 1, scrRect 0 3 0, scrRect 0 2 1, scrRect 0 2 0, scrRect 0 1 1, scrRect 0 1 0, scrRect 0 0 1, scrRect 0 0 0]

/-- Each box is one of the sixteen. -/
theorem scrRect_mem (h : Fin 2) (g : Fin 4) (p : Fin 2) : scrRect h g p ∈ scrRects := by
  unfold scrRects
  fin_cases h <;> fin_cases g <;> fin_cases p <;> simp

/-- Each element of a scale buffer is in the box of its half, group and parity. -/
theorem mem_scrRect (y : S2x4x16x128.Idx) :
    y ∈ (scrRect ⟨(y 0).val, (y 0).isLt⟩ ⟨(y 1).val, (y 1).isLt⟩ ⟨(y 2).val % 2, Nat.mod_lt _ (by omega)⟩).set := by
  rw [LoadRect.mem_set]
  have h2 : (y 2).val < 16 := (y 2).isLt
  have h3 : (y 3).val < 128 := (y 3).isLt
  intro a
  fin_cases a
  · exact ⟨0, Nat.one_pos, by simp [scrRect]⟩
  · exact ⟨0, Nat.one_pos, by simp [scrRect]⟩
  · refine ⟨(y 2).val / 2, ?_, ?_⟩
    · show (y 2).val / 2 < 8
      omega
    · show (y 2).val = (y 2).val % 2 + 2 * ((y 2).val / 2)
      omega
  · refine ⟨(y 3).val, h3, ?_⟩
    show (y 3).val = 0 + 1 * (y 3).val
    omega

/-- Pieces at the sixteen boxes cover the scratch buffer. -/
theorem scr_cover {Val : EltTy → Type} {e : EltTy} (L : List (View.Piece Val S2x4x16x128 e)) (hL : L.map Sigma.fst = scrRects) (y : S2x4x16x128.Idx) :
    ∃ p ∈ L, y ∈ p.1.set := by
  have hm := scrRect_mem ⟨(y 0).val, (y 0).isLt⟩ ⟨(y 1).val, (y 1).isLt⟩ ⟨(y 2).val % 2, Nat.mod_lt _ (by omega)⟩
  rw [← hL, List.mem_map] at hm
  obtain ⟨p, hp, he⟩ := hm
  exact ⟨p, hp, by rw [he]; exact mem_scrRect y⟩

/-- So what they leave in it does not depend on what was there. -/
theorem scr_writes {e : EltTy} (m : Memref sig .tc .vmem S2x4x16x128 e) (hm : m.IsWhole) (f : m.view.ty.Contents (Elt F))
    (L : List (View.Piece (Elt F) S2x4x16x128 e)) (hL : L.map Sigma.fst = scrRects) :
    m.view.writes (Elt F) f L = hm.unread (View.canon L) :=
  hm.eq_unread (View.read_writes_eq_canon m.view f L (scr_cover L hL))

/-- What one trip of the column loop touches: the activations, the scale bytes and the two scale rows at their contents; the
    output block at `f6`, the two scale scratch buffers at `f7` and `f8`; the slot of the ring this grid point waited for, the
    block landed in it over `fs`. -/
abbrev Trip (c : Dev nD) (t : Fin cfg0.N) (arg1 : Memref sig .tc .vmem S36x4096 .bf16) (harg1 : arg1.IsWhole) (arg3 : Memref sig .tc .vmem S12x16x512 .i8) (harg3 : arg3.IsWhole) (arg4 : Memref sig .tc .vmem S16x512 .bf16) (harg4 : arg4.IsWhole) (arg5 : Memref sig .tc .vmem S16x512 .bf16) (harg5 : arg5.IsWhole) (arg6 : Memref sig .tc .vmem S36x512 .f32) (arg7 : Memref sig .tc .vmem S2x4x16x128 .i32) (arg8 : Memref sig .tc .vmem S2x4x16x128 .i32)
    (x0 : Vec F S36x4096 .bf16) (x1 : Vec F S12x16x512 .i8) (x2 : Vec F S16x512 .bf16) (x3 : Vec F S16x512 .bf16) (fh0 : HbBuf0 (F := F) c hbM0_0)
    (f6 : HbBuf0 (F := F) c arg6) (f7 : HbBuf0 (F := F) c arg7) (f8 : HbBuf0 (F := F) c arg8) : sProp 𝕄 :=
  iprop((arg1.view.loc (c : Thread nD τ) ↦[arg1.view.set]{fullShare} harg1.unread x0)
    ∗ (arg3.view.loc (c : Thread nD τ) ↦[arg3.view.set]{fullShare} harg3.unread x1)
    ∗ (arg4.view.loc (c : Thread nD τ) ↦[arg4.view.set]{fullShare} harg4.unread x2)
    ∗ (arg5.view.loc (c : Thread nD τ) ↦[arg5.view.set]{fullShare} harg5.unread x3)
    ∗ (arg6.view.loc (c : Thread nD τ) ↦[arg6.view.set]{fullShare} f6)
    ∗ (arg7.view.loc (c : Thread nD τ) ↦[arg7.view.set]{fullShare} f7)
    ∗ (arg8.view.loc (c : Thread nD τ) ↦[arg8.view.set]{fullShare} f8)
    ∗ slotP0_0 c (Ring.sl 2 t.val) (landed0_0 c fh0 (Ring.sl 2 t.val) (Ring.bk 8 t.val) (rslot0_0 (Ring.sl 2 t.val)).view.junk))

set_option maxHeartbeats 4000000 in
/-- One trip: what it stores, what it leaves in the two scale buffers, and that it does so. -/
@[irreducible] def trip (c : Dev nD) (t : Fin cfg0.N) (arg1 : Memref sig .tc .vmem S36x4096 .bf16) (harg1 : arg1.IsWhole) (arg3 : Memref sig .tc .vmem S12x16x512 .i8) (harg3 : arg3.IsWhole) (arg4 : Memref sig .tc .vmem S16x512 .bf16) (harg4 : arg4.IsWhole) (arg5 : Memref sig .tc .vmem S16x512 .bf16) (harg5 : arg5.IsWhole) (arg6 : Memref sig .tc .vmem S36x512 .f32) (harg6 : arg6.IsWhole) (arg7 : Memref sig .tc .vmem S2x4x16x128 .i32) (harg7 : arg7.IsWhole) (arg8 : Memref sig .tc .vmem S2x4x16x128 .i32) (harg8 : arg8.IsWhole)
    (x0 : Vec F S36x4096 .bf16) (x1 : Vec F S12x16x512 .i8) (x2 : Vec F S16x512 .bf16) (x3 : Vec F S16x512 .bf16) (fh0 : HbBuf0 (F := F) c hbM0_0) (k : Fin k0_t1_loop.trips) :
    { L : List (View.Piece (Elt F) S36x512 .f32) × Vec F S2x4x16x128 .i32 × Vec F S2x4x16x128 .i32 //
      ∀ (arg0 : BitVec 32) (acc : Unit) (f6 : HbBuf0 (F := F) c arg6) (f7 : HbBuf0 (F := F) c arg7) (f8 : HbBuf0 (F := F) c arg8),
        Trip c t arg1 harg1 arg3 harg3 arg4 harg4 arg5 harg5 arg6 arg7 arg8 x0 x1 x2 x3 fh0 f6 f7 f8
          ⊢ wp frame (wpE (defs₀ (F := F)) Variants.none c none) Set.univ
              (k0_t1_body (grid0.coords t) arg1 harg1 (Memref.whole main_v0) (Memref.isWhole_whole _) arg3 harg3 arg4 harg4 arg5 harg5 arg6 harg6 arg7 harg7 arg8 harg8 scM0_2 (Memref.isWhole_whole _) cc0_scratch3 arg0 k acc)
              fun _ => Trip c t arg1 harg1 arg3 harg3 arg4 harg4 arg5 harg5 arg6 arg7 arg8 x0 x1 x2 x3 fh0
                (arg6.view.writes (Elt F) f6 L.1) (harg7.unread L.2.1) (harg8.unread L.2.2) } := by
  refine ⟨⟨?_, ?_, ?_⟩, ?run⟩
  case run =>
    intro arg0 acc f6 f7 f8
    have hs0 := ringLoad_sub t k 0
    have hs1 := ringLoad_sub t k 1
    unfold k0_t1_body Trip
    iintro ⟨H1, H3, H4, H5, H6, H7, H8, HS⟩
    set_option sl_exec.stopBefore "k0_part18" in sl_exec_parts
    rw [scr_writes arg7 harg7 f7 _ rfl, scr_writes arg8 harg8 f8 _ rfl]
    sl_exec_parts
    sl_step
    sl_close

end Cert.Proj.Rg

end
-- ==== Proof.Proj.Bits.Loop.lean ====
module

public import proofs.«01_k».proof.Proof.Proj.Bits.Trip

@[expose] public section

set_option maxRecDepth 16384

noncomputable section

namespace Cert.Proj.Rg

open Cert.Proj Cert.Proj.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [BitOps F]

local notation "𝕄" => MT nD τ sig Unit (Elt F) ℕ (Pipeline.UD sig nD τ) ℕ

/-- The pieces the trips before `k` leave in the output block, the last first. -/
def pb (c : Dev nD) (t : Fin cfg0.N) (arg1 : Memref sig .tc .vmem S36x4096 .bf16) (harg1 : arg1.IsWhole) (arg3 : Memref sig .tc .vmem S12x16x512 .i8) (harg3 : arg3.IsWhole) (arg4 : Memref sig .tc .vmem S16x512 .bf16) (harg4 : arg4.IsWhole) (arg5 : Memref sig .tc .vmem S16x512 .bf16) (harg5 : arg5.IsWhole) (arg6 : Memref sig .tc .vmem S36x512 .f32) (harg6 : arg6.IsWhole) (arg7 : Memref sig .tc .vmem S2x4x16x128 .i32) (harg7 : arg7.IsWhole) (arg8 : Memref sig .tc .vmem S2x4x16x128 .i32) (harg8 : arg8.IsWhole)
    (x0 : Vec F S36x4096 .bf16) (x1 : Vec F S12x16x512 .i8) (x2 : Vec F S16x512 .bf16) (x3 : Vec F S16x512 .bf16) (fh0 : HbBuf0 (F := F) c hbM0_0) : ℕ → List (View.Piece (Elt F) S36x512 .f32)
  | 0 => []
  | k + 1 => if h : k < k0_t1_loop.trips then (trip c t arg1 harg1 arg3 harg3 arg4 harg4 arg5 harg5 arg6 harg6 arg7 harg7 arg8 harg8 x0 x1 x2 x3 fh0 ⟨k, h⟩).1.1 ++ pb c t arg1 harg1 arg3 harg3 arg4 harg4 arg5 harg5 arg6 harg6 arg7 harg7 arg8 harg8 x0 x1 x2 x3 fh0 k else pb c t arg1 harg1 arg3 harg3 arg4 harg4 arg5 harg5 arg6 harg6 arg7 harg7 arg8 harg8 x0 x1 x2 x3 fh0 k

/-- One more trip. -/
theorem pb_succ (c : Dev nD) (t : Fin cfg0.N) (arg1 : Memref sig .tc .vmem S36x4096 .bf16) (harg1 : arg1.IsWhole) (arg3 : Memref sig .tc .vmem S12x16x512 .i8) (harg3 : arg3.IsWhole) (arg4 : Memref sig .tc .vmem S16x512 .bf16) (harg4 : arg4.IsWhole) (arg5 : Memref sig .tc .vmem S16x512 .bf16) (harg5 : arg5.IsWhole) (arg6 : Memref sig .tc .vmem S36x512 .f32) (harg6 : arg6.IsWhole) (arg7 : Memref sig .tc .vmem S2x4x16x128 .i32) (harg7 : arg7.IsWhole) (arg8 : Memref sig .tc .vmem S2x4x16x128 .i32) (harg8 : arg8.IsWhole)
    (x0 : Vec F S36x4096 .bf16) (x1 : Vec F S12x16x512 .i8) (x2 : Vec F S16x512 .bf16) (x3 : Vec F S16x512 .bf16) (fh0 : HbBuf0 (F := F) c hbM0_0) (k : Fin k0_t1_loop.trips) :
    pb c t arg1 harg1 arg3 harg3 arg4 harg4 arg5 harg5 arg6 harg6 arg7 harg7 arg8 harg8 x0 x1 x2 x3 fh0 (k.val + 1) = (trip c t arg1 harg1 arg3 harg3 arg4 harg4 arg5 harg5 arg6 harg6 arg7 harg7 arg8 harg8 x0 x1 x2 x3 fh0 k).1.1 ++ pb c t arg1 harg1 arg3 harg3 arg4 harg4 arg5 harg5 arg6 harg6 arg7 harg7 arg8 harg8 x0 x1 x2 x3 fh0 k.val := by
  rw [pb.eq_2]; exact dif_pos k.isLt

/-- What the column loop keeps: the output block at the pieces of the trips done over its contents `f6` at entry, the scale scratch
    buffers at anything, the inputs and the ring slot as they are. -/
def inv (c : Dev nD) (t : Fin cfg0.N) (arg1 : Memref sig .tc .vmem S36x4096 .bf16) (harg1 : arg1.IsWhole) (arg3 : Memref sig .tc .vmem S12x16x512 .i8) (harg3 : arg3.IsWhole) (arg4 : Memref sig .tc .vmem S16x512 .bf16) (harg4 : arg4.IsWhole) (arg5 : Memref sig .tc .vmem S16x512 .bf16) (harg5 : arg5.IsWhole) (arg6 : Memref sig .tc .vmem S36x512 .f32) (harg6 : arg6.IsWhole) (arg7 : Memref sig .tc .vmem S2x4x16x128 .i32) (harg7 : arg7.IsWhole) (arg8 : Memref sig .tc .vmem S2x4x16x128 .i32) (harg8 : arg8.IsWhole)
    (x0 : Vec F S36x4096 .bf16) (x1 : Vec F S12x16x512 .i8) (x2 : Vec F S16x512 .bf16) (x3 : Vec F S16x512 .bf16) (fh0 : HbBuf0 (F := F) c hbM0_0) (f6 : HbBuf0 (F := F) c arg6) (k : ℕ) : sProp 𝕄 :=
  iprop((arg1.view.loc (c : Thread nD τ) ↦[arg1.view.set]{fullShare} harg1.unread x0)
    ∗ (arg3.view.loc (c : Thread nD τ) ↦[arg3.view.set]{fullShare} harg3.unread x1)
    ∗ (arg4.view.loc (c : Thread nD τ) ↦[arg4.view.set]{fullShare} harg4.unread x2)
    ∗ (arg5.view.loc (c : Thread nD τ) ↦[arg5.view.set]{fullShare} harg5.unread x3)
    ∗ (∃ f, (arg6.view.loc (c : Thread nD τ) ↦[arg6.view.set]{fullShare} f) ∗ ⌜f = arg6.view.writes (Elt F) f6 (pb c t arg1 harg1 arg3 harg3 arg4 harg4 arg5 harg5 arg6 harg6 arg7 harg7 arg8 harg8 x0 x1 x2 x3 fh0 k)⌝)
    ∗ (∃ f7, arg7.view.loc (c : Thread nD τ) ↦[arg7.view.set]{fullShare} f7)
    ∗ (∃ f8, arg8.view.loc (c : Thread nD τ) ↦[arg8.view.set]{fullShare} f8)
    ∗ slotP0_0 c (Ring.sl 2 t.val) (landed0_0 c fh0 (Ring.sl 2 t.val) (Ring.bk 8 t.val) (rslot0_0 (Ring.sl 2 t.val)).view.junk))

/-- One trip keeps it. -/
theorem inv_step (c : Dev nD) (t : Fin cfg0.N) (arg1 : Memref sig .tc .vmem S36x4096 .bf16) (harg1 : arg1.IsWhole) (arg3 : Memref sig .tc .vmem S12x16x512 .i8) (harg3 : arg3.IsWhole) (arg4 : Memref sig .tc .vmem S16x512 .bf16) (harg4 : arg4.IsWhole) (arg5 : Memref sig .tc .vmem S16x512 .bf16) (harg5 : arg5.IsWhole) (arg6 : Memref sig .tc .vmem S36x512 .f32) (harg6 : arg6.IsWhole) (arg7 : Memref sig .tc .vmem S2x4x16x128 .i32) (harg7 : arg7.IsWhole) (arg8 : Memref sig .tc .vmem S2x4x16x128 .i32) (harg8 : arg8.IsWhole)
    (x0 : Vec F S36x4096 .bf16) (x1 : Vec F S12x16x512 .i8) (x2 : Vec F S16x512 .bf16) (x3 : Vec F S16x512 .bf16) (fh0 : HbBuf0 (F := F) c hbM0_0) (f6 : HbBuf0 (F := F) c arg6) (arg0 : BitVec 32) (k : Fin k0_t1_loop.trips) (acc : Unit) :
    inv c t arg1 harg1 arg3 harg3 arg4 harg4 arg5 harg5 arg6 harg6 arg7 harg7 arg8 harg8 x0 x1 x2 x3 fh0 f6 k.val
      ⊢ wp frame (wpE (defs₀ (F := F)) Variants.none c none) Set.univ
          (k0_t1_body (grid0.coords t) arg1 harg1 (Memref.whole main_v0) (Memref.isWhole_whole _) arg3 harg3 arg4 harg4 arg5 harg5 arg6 harg6 arg7 harg7 arg8 harg8 scM0_2 (Memref.isWhole_whole _) cc0_scratch3 arg0 k acc)
          fun _ => inv c t arg1 harg1 arg3 harg3 arg4 harg4 arg5 harg5 arg6 harg6 arg7 harg7 arg8 harg8 x0 x1 x2 x3 fh0 f6 (k.val + 1) := by
  unfold inv
  rw [pb_succ]
  iintro ⟨H1, H3, H4, H5, ⟨%g6, H6, %h6⟩, ⟨%f7, H7⟩, ⟨%f8, H8⟩, HS⟩
  subst h6
  iapply (wp_wand_r frame (wpE (defs₀ (F := F)) Variants.none c none) Set.univ)
  isplitl [H1 H3 H4 H5 H6 H7 H8 HS]
  · iapply ((trip c t arg1 harg1 arg3 harg3 arg4 harg4 arg5 harg5 arg6 harg6 arg7 harg7 arg8 harg8 x0 x1 x2 x3 fh0 k).2 arg0 acc _ f7 f8)
    unfold Trip
    isplitl [H1]; · iexact H1
    isplitl [H3]; · iexact H3
    isplitl [H4]; · iexact H4
    isplitl [H5]; · iexact H5
    isplitl [H6]; · iexact H6
    isplitl [H7]; · iexact H7
    isplitl [H8]; · iexact H8
    iexact HS
  unfold Trip
  iintro %a
  iintro ⟨H1, H3, H4, H5, H6, H7, H8, HS⟩
  isplitl [H1]; · iexact H1
  isplitl [H3]; · iexact H3
  isplitl [H4]; · iexact H4
  isplitl [H5]; · iexact H5
  isplitl [H6]
  · iexists _; isplitl [H6]; · iexact H6
    ipureintro; rw [View.writes_append]
  isplitl [H7]; · iexists _; iexact H7
  isplitl [H8]; · iexists _; iexact H8
  iexact HS

/-- The loop goes by it. -/
@[sl_loop, reducible] def loopInv_k0_t1 (c : Dev nD) (t : Fin cfg0.N) (arg1 : Memref sig .tc .vmem S36x4096 .bf16) (harg1 : arg1.IsWhole) (arg3 : Memref sig .tc .vmem S12x16x512 .i8) (harg3 : arg3.IsWhole) (arg4 : Memref sig .tc .vmem S16x512 .bf16) (harg4 : arg4.IsWhole) (arg5 : Memref sig .tc .vmem S16x512 .bf16) (harg5 : arg5.IsWhole) (arg6 : Memref sig .tc .vmem S36x512 .f32) (harg6 : arg6.IsWhole) (arg7 : Memref sig .tc .vmem S2x4x16x128 .i32) (harg7 : arg7.IsWhole) (arg8 : Memref sig .tc .vmem S2x4x16x128 .i32) (harg8 : arg8.IsWhole)
    (x0 : Vec F S36x4096 .bf16) (x1 : Vec F S12x16x512 .i8) (x2 : Vec F S16x512 .bf16) (x3 : Vec F S16x512 .bf16) (fh0 : HbBuf0 (F := F) c hbM0_0) (f6 : HbBuf0 (F := F) c arg6) (arg0 : BitVec 32) :
    Gen.LoopInvTy_k0_t1 (F := F) Unit ℕ (Pipeline.UD sig nD τ) ℕ Variants.none c none Set.univ (grid0.coords t) arg1 harg1 (Memref.whole main_v0) (Memref.isWhole_whole _) arg3 harg3 arg4 harg4 arg5 harg5 arg6 harg6 arg7 harg7 arg8 harg8 scM0_2 (Memref.isWhole_whole _) cc0_scratch3 arg0 where
  inv k acc := inv c t arg1 harg1 arg3 harg3 arg4 harg4 arg5 harg5 arg6 harg6 arg7 harg7 arg8 harg8 x0 x1 x2 x3 fh0 f6 k
  step k acc := inv_step c t arg1 harg1 arg3 harg3 arg4 harg4 arg5 harg5 arg6 harg6 arg7 harg7 arg8 harg8 x0 x1 x2 x3 fh0 f6 arg0 k acc

end Cert.Proj.Rg

end
-- ==== Proof.Proj.Bits.Run.lean ====
module

public import proofs.«01_k».proof.Proof.Proj.Bits.Loop

@[expose] public section

set_option maxRecDepth 16384

noncomputable section

namespace Cert.Proj.Rg

open Cert.Proj Cert.Proj.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [BitOps F]

local notation "𝕄" => MT nD τ sig Unit (Elt F) ℕ (Pipeline.UD sig nD τ) ℕ

set_option maxHeartbeats 1000000 in
/-- The first grid point: the body starts the first two blocks, waits for the first and leaves the second in flight.
    From the inputs at their contents, everything else at anything, it leaves the output block at the pieces of the two trips. -/
theorem kernelRun0_A (c : Dev nD) (t : Fin cfg0.N) (arg1 : Memref sig .tc .vmem S36x4096 .bf16) (harg1 : arg1.IsWhole) (arg3 : Memref sig .tc .vmem S12x16x512 .i8) (harg3 : arg3.IsWhole) (arg4 : Memref sig .tc .vmem S16x512 .bf16) (harg4 : arg4.IsWhole) (arg5 : Memref sig .tc .vmem S16x512 .bf16) (harg5 : arg5.IsWhole) (arg6 : Memref sig .tc .vmem S36x512 .f32) (harg6 : arg6.IsWhole) (arg7 : Memref sig .tc .vmem S2x4x16x128 .i32) (harg7 : arg7.IsWhole) (arg8 : Memref sig .tc .vmem S2x4x16x128 .i32) (harg8 : arg8.IsWhole) (hc0 : cond0_0 (grid0.coords t)) (hc1 : cond0_1 (grid0.coords t))
    (x0 : Vec F S36x4096 .bf16) (x1 : Vec F S12x16x512 .i8) (x2 : Vec F S16x512 .bf16) (x3 : Vec F S16x512 .bf16) (fh0 : HbBuf0 (F := F) c hbM0_0) :
    ∀ (W : Waits sig Unit) (K : PUnit → sProp 𝕄),
        iprop(owns (c : Thread nD τ) arg1 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ (∃ d, owns (c : Thread nD τ) arg7 fullShare d) ∗ (∃ d, owns (c : Thread nD τ) arg8 fullShare d) ∗ Ring.free (cellP0_0 c) (slotW0_0 c fh0) (Ring.sl 2 t.val) ∗ Ring.free (cellP0_0 c) (slotW0_0 c fh0) (Ring.sl 2 (t.val + 1)) ∗ owes (c : Thread nD τ) 0 W
            ∗ (iprop(owns (c : Thread nD τ) arg1 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f (pb c t arg1 harg1 arg3 harg3 arg4 harg4 arg5 harg5 arg6 harg6 arg7 harg7 arg8 harg8 x0 x1 x2 x3 fh0 k0_t1_loop.trips)) ∗ (∃ d, owns (c : Thread nD τ) arg7 fullShare d) ∗ (∃ d, owns (c : Thread nD τ) arg8 fullShare d) ∗ Ring.inflight (flightW0_0 c fh0) (Ring.sl 2 (t.val + 1)) (Ring.bk 8 (t.val + 1)) ∗ Ring.kept (cellP0_0 c) (slotW0_0 c fh0) (landed0_0 c fh0) (Ring.sl 2 t.val) (Ring.bk 8 t.val) ∗ (∃ W', owes (c : Thread nD τ) 0 W')) -∗ K ⟨⟩))
          ⊢ wp frame (wpE (defs₀ (F := F)) Variants.none c none) Set.univ (cc0__q4k_body (grid0.coords t) arg1 harg1 (Memref.whole main_v0) (Memref.isWhole_whole _) arg3 harg3 arg4 harg4 arg5 harg5 arg6 harg6 arg7 harg7 arg8 harg8 scM0_2 (Memref.isWhole_whole _) cc0_scratch3) K := by
  intro W K
  haveI : Fact (cond0_0 (grid0.coords t)) := ⟨hc0⟩
  haveI : Fact (cond0_1 (grid0.coords t)) := ⟨hc1⟩
  simp only [cc0__q4k_body_eq_skeleton]; unfold cc0__q4k_body_skel
  have hcanon0 := canon0_0_1 t hc0 hc1
  have hcanon1 := canon0_0_2 t hc0 hc1
  have hcanon2 := canon0_0_3 t hc0 hc1
  unfold owns Ring.free Ring.inflight Ring.kept
  iintro ⟨⟨%f0, %hf0, H0⟩, ⟨%f1, %hf1, H1⟩, ⟨%f2, %hf2, H2⟩, ⟨%f3, %hf3, H3⟩, ⟨%d4, %f4, -, H4⟩, ⟨%ds0, %fs0, -, HS0⟩, ⟨%ds1, %fs1, -, HS1⟩, ⟨Hc0_0_0, ⟨%fs0_0_0, Hs0_0_0, Hw0_0_0⟩⟩, ⟨Hc0_0_1, ⟨%fs0_0_1, Hs0_0_1, Hw0_0_1⟩⟩, HW, Hk⟩
  ihave Hsp0_0_0 := (src0_0_split c fh0 (Ring.sl 2 t.val) (Ring.bk 8 t.val)).1 $$ Hw0_0_0
  icases Hsp0_0_0 with ⟨Hh0_0_0, Hr0_0_0⟩
  ihave Hsp0_0_1 := (src0_0_split c fh0 (Ring.sl 2 (t.val + 1)) (Ring.bk 8 (t.val + 1))).1 $$ Hw0_0_1
  icases Hsp0_0_1 with ⟨Hh0_0_1, Hr0_0_1⟩
  obtain rfl := harg1.eq_unread hf0; obtain rfl := harg3.eq_unread hf1; obtain rfl := harg4.eq_unread hf2; obtain rfl := harg5.eq_unread hf3
  sl_exec (disch := first | sl_exact hc0 | sl_exact hc1)
  sl_step
  iapply Hk
  isplitl [H0]
  · iexists _; isplitr; · ipureintro; exact harg1.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]; · iexists _; iexact H4
  isplitl [HS0]
  · iexists _, _; isplitr; swap; · iexact HS0
    ipureintro; rfl
  isplitl [HS1]
  · iexists _, _; isplitr; swap; · iexact HS1
    ipureintro; rfl
  isplitl [Hc0_0_1 Hr0_0_1]
  · iexists _; isplitl [Hc0_0_1]; · iexact Hc0_0_1
    iexact Hr0_0_1
  isplitl [Hc0_0_0 Hs0_0_0 Hh0_0_0 Hr0_0_0]
  · isplitl [Hc0_0_0]; · iexact Hc0_0_0
    iexists _; isplitl [Hs0_0_0]; · iexact Hs0_0_0
    iapply (src0_0_split c fh0 (Ring.sl 2 t.val) (Ring.bk 8 t.val)).2; isplitl [Hh0_0_0]; · iexact Hh0_0_0
    iexact Hr0_0_0
  iexists _; iexact HW

set_option maxHeartbeats 1000000 in
/-- A middle grid point: the body starts the next block and waits for its own.
    From the inputs at their contents, everything else at anything, it leaves the output block at the pieces of the two trips. -/
theorem kernelRun0_B (c : Dev nD) (t : Fin cfg0.N) (arg1 : Memref sig .tc .vmem S36x4096 .bf16) (harg1 : arg1.IsWhole) (arg3 : Memref sig .tc .vmem S12x16x512 .i8) (harg3 : arg3.IsWhole) (arg4 : Memref sig .tc .vmem S16x512 .bf16) (harg4 : arg4.IsWhole) (arg5 : Memref sig .tc .vmem S16x512 .bf16) (harg5 : arg5.IsWhole) (arg6 : Memref sig .tc .vmem S36x512 .f32) (harg6 : arg6.IsWhole) (arg7 : Memref sig .tc .vmem S2x4x16x128 .i32) (harg7 : arg7.IsWhole) (arg8 : Memref sig .tc .vmem S2x4x16x128 .i32) (harg8 : arg8.IsWhole) (hc0 : ¬cond0_0 (grid0.coords t)) (hc1 : cond0_1 (grid0.coords t))
    (x0 : Vec F S36x4096 .bf16) (x1 : Vec F S12x16x512 .i8) (x2 : Vec F S16x512 .bf16) (x3 : Vec F S16x512 .bf16) (fh0 : HbBuf0 (F := F) c hbM0_0) :
    ∀ (W : Waits sig Unit) (K : PUnit → sProp 𝕄),
        iprop(owns (c : Thread nD τ) arg1 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ (∃ d, owns (c : Thread nD τ) arg7 fullShare d) ∗ (∃ d, owns (c : Thread nD τ) arg8 fullShare d) ∗ Ring.inflight (flightW0_0 c fh0) (Ring.sl 2 t.val) (Ring.bk 8 t.val) ∗ Ring.kept (cellP0_0 c) (slotW0_0 c fh0) (landed0_0 c fh0) (Ring.sl 2 (t.val + 1)) (Ring.bk 8 (t.val - 1)) ∗ owes (c : Thread nD τ) 0 W
            ∗ (iprop(owns (c : Thread nD τ) arg1 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f (pb c t arg1 harg1 arg3 harg3 arg4 harg4 arg5 harg5 arg6 harg6 arg7 harg7 arg8 harg8 x0 x1 x2 x3 fh0 k0_t1_loop.trips)) ∗ (∃ d, owns (c : Thread nD τ) arg7 fullShare d) ∗ (∃ d, owns (c : Thread nD τ) arg8 fullShare d) ∗ Ring.inflight (flightW0_0 c fh0) (Ring.sl 2 (t.val + 1)) (Ring.bk 8 (t.val + 1)) ∗ Ring.kept (cellP0_0 c) (slotW0_0 c fh0) (landed0_0 c fh0) (Ring.sl 2 t.val) (Ring.bk 8 t.val) ∗ (∃ W', owes (c : Thread nD τ) 0 W')) -∗ K ⟨⟩))
          ⊢ wp frame (wpE (defs₀ (F := F)) Variants.none c none) Set.univ (cc0__q4k_body (grid0.coords t) arg1 harg1 (Memref.whole main_v0) (Memref.isWhole_whole _) arg3 harg3 arg4 harg4 arg5 harg5 arg6 harg6 arg7 harg7 arg8 harg8 scM0_2 (Memref.isWhole_whole _) cc0_scratch3) K := by
  intro W K
  haveI : Fact (¬cond0_0 (grid0.coords t)) := ⟨hc0⟩
  haveI : Fact (cond0_1 (grid0.coords t)) := ⟨hc1⟩
  simp only [cc0__q4k_body_eq_skeleton]; unfold cc0__q4k_body_skel
  unfold owns Ring.inflight Ring.kept
  iintro ⟨⟨%f0, %hf0, H0⟩, ⟨%f1, %hf1, H1⟩, ⟨%f2, %hf2, H2⟩, ⟨%f3, %hf3, H3⟩, ⟨%d4, %f4, -, H4⟩, ⟨%ds0, %fs0, -, HS0⟩, ⟨%ds1, %fs1, -, HS1⟩, ⟨%ff0_0, Hf0_0, Hrf0_0⟩, ⟨Hc0_0_1, ⟨%fs0_0_1, Hs0_0_1, Hw0_0_1⟩⟩, HW, Hk⟩
  ihave Hsp0_0_1 := (src0_0_split c fh0 (Ring.sl 2 (t.val + 1)) (Ring.bk 8 (t.val + 1))).1 $$ Hw0_0_1
  icases Hsp0_0_1 with ⟨Hh0_0_1, Hr0_0_1⟩
  obtain rfl := harg1.eq_unread hf0; obtain rfl := harg3.eq_unread hf1; obtain rfl := harg4.eq_unread hf2; obtain rfl := harg5.eq_unread hf3
  sl_exec (disch := first | sl_exact hc0 | sl_exact hc1)
  sl_step
  iapply Hk
  isplitl [H0]
  · iexists _; isplitr; · ipureintro; exact harg1.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]; · iexists _; iexact H4
  isplitl [HS0]
  · iexists _, _; isplitr; swap; · iexact HS0
    ipureintro; rfl
  isplitl [HS1]
  · iexists _, _; isplitr; swap; · iexact HS1
    ipureintro; rfl
  isplitl [Hc0_0_1 Hr0_0_1]
  · iexists _; isplitl [Hc0_0_1]; · iexact Hc0_0_1
    iexact Hr0_0_1
  isplitl [Hf0_0 Hf0_0_dst Hf0_0_src Hrf0_0]
  · isplitl [Hf0_0]; · iexact Hf0_0
    iexists _; isplitl [Hf0_0_dst]; · iexact Hf0_0_dst
    iapply (src0_0_split c fh0 (Ring.sl 2 t.val) (Ring.bk 8 t.val)).2; isplitl [Hf0_0_src]; · iexact Hf0_0_src
    iexact Hrf0_0
  iexists _; iexact HW

set_option maxHeartbeats 1000000 in
/-- The last grid point: the body waits for its own block, and starts none.
    From the inputs at their contents, everything else at anything, it leaves the output block at the pieces of the two trips. -/
theorem kernelRun0_C (c : Dev nD) (t : Fin cfg0.N) (arg1 : Memref sig .tc .vmem S36x4096 .bf16) (harg1 : arg1.IsWhole) (arg3 : Memref sig .tc .vmem S12x16x512 .i8) (harg3 : arg3.IsWhole) (arg4 : Memref sig .tc .vmem S16x512 .bf16) (harg4 : arg4.IsWhole) (arg5 : Memref sig .tc .vmem S16x512 .bf16) (harg5 : arg5.IsWhole) (arg6 : Memref sig .tc .vmem S36x512 .f32) (harg6 : arg6.IsWhole) (arg7 : Memref sig .tc .vmem S2x4x16x128 .i32) (harg7 : arg7.IsWhole) (arg8 : Memref sig .tc .vmem S2x4x16x128 .i32) (harg8 : arg8.IsWhole) (hc0 : ¬cond0_0 (grid0.coords t)) (hc1 : ¬cond0_1 (grid0.coords t))
    (x0 : Vec F S36x4096 .bf16) (x1 : Vec F S12x16x512 .i8) (x2 : Vec F S16x512 .bf16) (x3 : Vec F S16x512 .bf16) (fh0 : HbBuf0 (F := F) c hbM0_0) :
    ∀ (W : Waits sig Unit) (K : PUnit → sProp 𝕄),
        iprop(owns (c : Thread nD τ) arg1 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ (∃ d, owns (c : Thread nD τ) arg7 fullShare d) ∗ (∃ d, owns (c : Thread nD τ) arg8 fullShare d) ∗ Ring.inflight (flightW0_0 c fh0) (Ring.sl 2 t.val) (Ring.bk 8 t.val) ∗ owes (c : Thread nD τ) 0 W
            ∗ (iprop(owns (c : Thread nD τ) arg1 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f (pb c t arg1 harg1 arg3 harg3 arg4 harg4 arg5 harg5 arg6 harg6 arg7 harg7 arg8 harg8 x0 x1 x2 x3 fh0 k0_t1_loop.trips)) ∗ (∃ d, owns (c : Thread nD τ) arg7 fullShare d) ∗ (∃ d, owns (c : Thread nD τ) arg8 fullShare d) ∗ Ring.kept (cellP0_0 c) (slotW0_0 c fh0) (landed0_0 c fh0) (Ring.sl 2 t.val) (Ring.bk 8 t.val) ∗ (∃ W', owes (c : Thread nD τ) 0 W')) -∗ K ⟨⟩))
          ⊢ wp frame (wpE (defs₀ (F := F)) Variants.none c none) Set.univ (cc0__q4k_body (grid0.coords t) arg1 harg1 (Memref.whole main_v0) (Memref.isWhole_whole _) arg3 harg3 arg4 harg4 arg5 harg5 arg6 harg6 arg7 harg7 arg8 harg8 scM0_2 (Memref.isWhole_whole _) cc0_scratch3) K := by
  intro W K
  haveI : Fact (¬cond0_0 (grid0.coords t)) := ⟨hc0⟩
  haveI : Fact (¬cond0_1 (grid0.coords t)) := ⟨hc1⟩
  simp only [cc0__q4k_body_eq_skeleton]; unfold cc0__q4k_body_skel
  unfold owns Ring.inflight Ring.kept
  iintro ⟨⟨%f0, %hf0, H0⟩, ⟨%f1, %hf1, H1⟩, ⟨%f2, %hf2, H2⟩, ⟨%f3, %hf3, H3⟩, ⟨%d4, %f4, -, H4⟩, ⟨%ds0, %fs0, -, HS0⟩, ⟨%ds1, %fs1, -, HS1⟩, ⟨%ff0_0, Hf0_0, Hrf0_0⟩, HW, Hk⟩
  obtain rfl := harg1.eq_unread hf0; obtain rfl := harg3.eq_unread hf1; obtain rfl := harg4.eq_unread hf2; obtain rfl := harg5.eq_unread hf3
  sl_exec (disch := first | sl_exact hc0 | sl_exact hc1)
  sl_step
  iapply Hk
  isplitl [H0]
  · iexists _; isplitr; · ipureintro; exact harg1.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]; · iexists _; iexact H4
  isplitl [HS0]
  · iexists _, _; isplitr; swap; · iexact HS0
    ipureintro; rfl
  isplitl [HS1]
  · iexists _, _; isplitr; swap; · iexact HS1
    ipureintro; rfl
  isplitl [Hf0_0 Hf0_0_dst Hf0_0_src Hrf0_0]
  · isplitl [Hf0_0]; · iexact Hf0_0
    iexists _; isplitl [Hf0_0_dst]; · iexact Hf0_0_dst
    iapply (src0_0_split c fh0 (Ring.sl 2 t.val) (Ring.bk 8 t.val)).2; isplitl [Hf0_0_src]; · iexact Hf0_0_src
    iexact Hrf0_0
  iexists _; iexact HW

end Cert.Proj.Rg

end
-- ==== Proof.Proj.Bits.Frame.lean ====
module

public import proofs.«01_k».proof.Proof.Proj.Bits.Run
public import Idealize.ShloMosaic.Lib.Claim

@[expose] public section

set_option maxRecDepth 16384

noncomputable section

namespace Cert.Proj.Rg

open Cert.Proj Cert.Proj.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [BitOps F]

open Idealize.ShloMosaic.Rounds
open Idealize.ShloMosaic.Pipeline (Dat Cfg Window BodyObligation cellOf)

local notation "𝕄" => MT nD τ sig Unit (Elt F) ℕ (Pipeline.UD sig nD τ) ℕ

variable (m : (ℓ : Loc nD τ sig) → Buf (Elt F) ℓ) (ρ : Dev nD → PrngReg)

/-- The pieces of the two trips tile the output block. -/
theorem cover0_4 (c : Dev nD) (t : Fin cfg0.N) (arg1 : Memref sig .tc .vmem S36x4096 .bf16) (harg1 : arg1.IsWhole) (arg3 : Memref sig .tc .vmem S12x16x512 .i8) (harg3 : arg3.IsWhole) (arg4 : Memref sig .tc .vmem S16x512 .bf16) (harg4 : arg4.IsWhole) (arg5 : Memref sig .tc .vmem S16x512 .bf16) (harg5 : arg5.IsWhole) (arg6 : Memref sig .tc .vmem S36x512 .f32) (harg6 : arg6.IsWhole) (arg7 : Memref sig .tc .vmem S2x4x16x128 .i32) (harg7 : arg7.IsWhole) (arg8 : Memref sig .tc .vmem S2x4x16x128 .i32) (harg8 : arg8.IsWhole)
    (x0 : Vec F S36x4096 .bf16) (x1 : Vec F S12x16x512 .i8) (x2 : Vec F S16x512 .bf16) (x3 : Vec F S16x512 .bf16) (fh0 : HbBuf0 (F := F) c hbM0_0) (y : S36x512.Idx) :
    ∃ pc ∈ pb c t arg1 harg1 arg3 harg3 arg4 harg4 arg5 harg5 arg6 harg6 arg7 harg7 arg8 harg8 x0 x1 x2 x3 fh0 k0_t1_loop.trips, y ∈ pc.1.set :=
  View.cover_of_tiledL (pb c t arg1 harg1 arg3 harg3 arg4 harg4 arg5 harg5 arg6 harg6 arg7 harg7 arg8 harg8 x0 x1 x2 x3 fh0 k0_t1_loop.trips) S36x256.size (by sl_kernel_rfl) y

/-- What the body leaves in the output's staging buffer: the two trips' pieces read back over junk. -/
def out0_4 (c : Dev nD) (t : Fin cfg0.N) (arg1 : Memref sig .tc .vmem S36x4096 .bf16) (harg1 : arg1.IsWhole) (arg3 : Memref sig .tc .vmem S12x16x512 .i8) (harg3 : arg3.IsWhole) (arg4 : Memref sig .tc .vmem S16x512 .bf16) (harg4 : arg4.IsWhole) (arg5 : Memref sig .tc .vmem S16x512 .bf16) (harg5 : arg5.IsWhole) (arg6 : Memref sig .tc .vmem S36x512 .f32) (harg6 : arg6.IsWhole) (arg7 : Memref sig .tc .vmem S2x4x16x128 .i32) (harg7 : arg7.IsWhole) (arg8 : Memref sig .tc .vmem S2x4x16x128 .i32) (harg8 : arg8.IsWhole)
    (x0 : Vec F S36x4096 .bf16) (x1 : Vec F S12x16x512 .i8) (x2 : Vec F S16x512 .bf16) (x3 : Vec F S16x512 .bf16) (fh0 : HbBuf0 (F := F) c hbM0_0) : Vec F S36x512 .f32 :=
  VO0_4.read (Elt F) (VO0_4.writes (Elt F) VO0_4.junk (pb c t arg1 harg1 arg3 harg3 arg4 harg4 arg5 harg5 arg6 harg6 arg7 harg7 arg8 harg8 x0 x1 x2 x3 fh0 k0_t1_loop.trips))

/-- What the output's staging buffer holds after the body at point `t`. -/
def outsAt0 (c : Dev nD) (t : Fin cfg0.N) : Vec F S36x512 .f32 :=
  out0_4 c t (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (iblk m c 0 t) (iblk m c 1 t) (iblk m c 2 t) (iblk m c 3 t) (V m c main_v0)

/-! ## The pipeline's proof data -/

/-- The region invariant before point `k`: the generator register at some state, the scratch the run takes whole at anything, and each ring
    before point `k`. -/
def PhiR (c : Dev nD) (k : ℕ) : sProp 𝕄 := iprop((∃ d, owns (c : Thread nD τ) scM0_0 fullShare d) ∗ (∃ d, owns (c : Thread nD τ) scM0_1 fullShare d) ∗ (∃ r, prngReg c r) ∗ ringAt0_0 c (V m c main_v0) k)

/-- The proof data of the one pipeline on core `c`: the arrays as the region finds them (`V`); after the body at
    point `t` each input's buffer at its block and the outputs' at `outsAt0`; the invariant
    (`PhiR`: the ring's `Ring.At` before the point, beside the register and what the body takes whole);
    nothing owed; full shares. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => (outsAt0 m c t)
  Φ t := PhiR m c t.val
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- The invariant at a point's start (the proof data at `t.castSucc`), restated at `t.val`. -/
theorem PhiR_castSucc (c : Dev nD) (t : Fin cfg0.N) : (dats m 0 c).Φ t.castSucc = PhiR m c t.val := by
  dsimp only [dats]; simp only [Fin.coe_castSucc]
/-- The invariant at a point's end (the proof data at `t.succ`), restated at `t.val + 1`. -/
theorem PhiR_succ (c : Dev nD) (t : Fin cfg0.N) : (dats m 0 c).Φ t.succ = PhiR m c (t.val + 1) := by
  dsimp only [dats]; simp only [Fin.val_succ]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = (outsAt0 m c t) := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-! ## The body obligation, at a generic point -/

/-- What the body is called with at point `t` (`BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t))

set_option maxHeartbeats 2400000 in
/-- The body at any point: the inputs' memrefs hold their blocks (`before0_W`); the closed forms say which case the point is in (`by_cases`), an output the case reads before covering holds what the point before left (`before0_W_κ`); so the
    run applies; the invariant (`PhiR`) is rewritten, per case, to the ring pieces the point's role takes (`AtK2_here`, `At₀_eq2'`, …, by the case's step facts `rstepK_R_κ`) and reassembled from what the run hands back (`AtK2_next`, `AtK2_one'`, …; `Ring.with_homes`: no block is held apart); the core's `owes` goes in at whatever the points before recorded and comes back with this point's wait, within the next point's bound (everything). -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [after0_0, after0_1, after0_2, after0_3, after0_4]
  rw [PhiR_castSucc m c t, PhiR_succ m c t]
  unfold Dat.owesAt Pipeline.owesWithin
  rw [show (dats m 0 c).owed t.castSucc = 0 from rfl, show (dats m 0 c).owed t.succ = 0 from rfl]
  unfold PhiR ringAt0_0
  have hgN : grid0.N = 8 := N_0
  have hN : t.val < 8 := lt_of_lt_of_eq t.isLt (show cfg0.N = 8 from N_0)
  by_cases h0 : t.val % 8 = 0
  · by_cases h1 : t.val < 7
    · unfold outsAt0 out0_4
      have hr0 := rstep0_0_A t ((hcond0_0 t).mpr h0) ((hcond0_1 t).mpr h1)
      obtain ⟨hK00, hK10⟩ := hr0
      rw [if_pos hK00, if_neg (show ¬t.val + 1 = 0 by omega)]
      rw [Ring.At₀_eq2' _ _ _ t.val hK00 (by decide : 2 ≤ 8), Ring.AtK2_one' _ _ _ _ _ t.val hK00 (by decide : 1 < 8)]
      iintro ⟨⟨HS0, HS1, Hg, ⟨-, Hfr0_0_0, Hfr0_0_1⟩⟩, ⟨%W, -, HW⟩, ⟨%d0, H0⟩, ⟨%d1, H1⟩, ⟨%d2, H2⟩, ⟨%d3, H3⟩, ⟨%d4, H4⟩⟩
      iapply (kernelRun0_A c t _ _ _ _ _ _ _ _ _ _ _ _ _ _ ((hcond0_0 t).mpr h0) ((hcond0_1 t).mpr h1) (iblk m c 0 t) (iblk m c 1 t) (iblk m c 2 t) (iblk m c 3 t) (V m c main_v0) W _)
      isplitl [H0]; · iexact H0
      isplitl [H1]; · iexact H1
      isplitl [H2]; · iexact H2
      isplitl [H3]; · iexact H3
      isplitl [H4]; · iexists _; iexact H4
      isplitl [HS0]; · iexact HS0
      isplitl [HS1]; · iexact HS1
      isplitl [Hfr0_0_0]; · iexact Hfr0_0_0
      isplitl [Hfr0_0_1]; · iexact Hfr0_0_1
      isplitl [HW]; · iexact HW
      iintro ⟨H0, H1, H2, H3, ⟨%e4, H4⟩, HS0, HS1, Hfl0_0', Hkp0_0', ⟨%W', HW'⟩⟩
      isplitl [HS0 HS1 Hg Hfl0_0' Hkp0_0']
      · isplitl [HS0]; · iexact HS0
        isplitl [HS1]; · iexact HS1
        isplitl [Hg]; · iexact Hg
        iapply Ring.with_homes₀
        isplitl [Hfl0_0']; · iexact Hfl0_0'
        iexact Hkp0_0'
      isplitl [HW']
      · iexists W'; isplitr; · ipureintro; exact fun _ _ => Or.inl trivial
        iexact HW'
      isplitl [H0]; · iexact H0
      isplitl [H1]; · iexact H1
      isplitl [H2]; · iexact H2
      isplitl [H3]; · iexact H3
      unfold owns; iexists _; isplitr
      swap; · iexact H4
      ipureintro; exact View.read_writes_of_cover _ _ _ _ _ (cover0_4 c _ _ _ _ _ _ _ _ _ _ _ _ _ _ _ _ _ _ _ _)
    · exfalso; omega
  · by_cases h1 : t.val < 7
    · unfold outsAt0 out0_4
      have hr0 := rstep0_0_B t (fun h => h0 ((hcond0_0 t).mp h)) ((hcond0_1 t).mpr h1)
      obtain ⟨hK10, hKB0, hKs0⟩ := hr0
      rw [if_neg (show ¬t.val = 0 by omega), if_neg (show ¬t.val + 1 = 0 by omega)]
      rw [Ring.AtK2_here _ _ _ _ _ t.val hK10 hKB0, Ring.AtK2_next _ _ _ _ _ t.val hK10 hKB0]
      iintro ⟨⟨HS0, HS1, Hg, ⟨-, Hfl0_0, Hkp0_0⟩⟩, ⟨%W, -, HW⟩, ⟨%d0, H0⟩, ⟨%d1, H1⟩, ⟨%d2, H2⟩, ⟨%d3, H3⟩, ⟨%d4, H4⟩⟩
      iapply (kernelRun0_B c t _ _ _ _ _ _ _ _ _ _ _ _ _ _ (fun h => h0 ((hcond0_0 t).mp h)) ((hcond0_1 t).mpr h1) (iblk m c 0 t) (iblk m c 1 t) (iblk m c 2 t) (iblk m c 3 t) (V m c main_v0) W _)
      isplitl [H0]; · iexact H0
      isplitl [H1]; · iexact H1
      isplitl [H2]; · iexact H2
      isplitl [H3]; · iexact H3
      isplitl [H4]; · iexists _; iexact H4
      isplitl [HS0]; · iexact HS0
      isplitl [HS1]; · iexact HS1
      isplitl [Hfl0_0]; · iexact Hfl0_0
      isplitl [Hkp0_0]; · iexact Hkp0_0
      isplitl [HW]; · iexact HW
      iintro ⟨H0, H1, H2, H3, ⟨%e4, H4⟩, HS0, HS1, Hfl0_0', Hkp0_0', ⟨%W', HW'⟩⟩
      isplitl [HS0 HS1 Hg Hfl0_0' Hkp0_0']
      · isplitl [HS0]; · iexact HS0
        isplitl [HS1]; · iexact HS1
        isplitl [Hg]; · iexact Hg
        iapply (Ring.with_homes (Idealize.SL.BI.Entails.refl _))
        isplitl [Hfl0_0']; · iexact Hfl0_0'
        iexact Hkp0_0'
      isplitl [HW']
      · iexists W'; isplitr; · ipureintro; exact fun _ _ => Or.inl trivial
        iexact HW'
      isplitl [H0]; · iexact H0
      isplitl [H1]; · iexact H1
      isplitl [H2]; · iexact H2
      isplitl [H3]; · iexact H3
      unfold owns; iexists _; isplitr
      swap; · iexact H4
      ipureintro; exact View.read_writes_of_cover _ _ _ _ _ (cover0_4 c _ _ _ _ _ _ _ _ _ _ _ _ _ _ _ _ _ _ _ _)
    · unfold outsAt0 out0_4
      have hr0 := rstep0_0_C t (fun h => h0 ((hcond0_0 t).mp h)) (fun h => h1 ((hcond0_1 t).mp h))
      obtain ⟨hK10, hKB0, hKs0⟩ := hr0
      rw [if_neg (show ¬t.val = 0 by omega), if_neg (show ¬t.val + 1 = 0 by omega)]
      rw [Ring.AtK2_here_last _ _ _ _ _ t.val hK10 hKB0, Ring.AtK2_next_last _ _ _ _ _ t.val hK10 hKB0]
      iintro ⟨⟨HS0, HS1, Hg, ⟨-, Hfl0_0, Hkp0_0⟩⟩, ⟨%W, -, HW⟩, ⟨%d0, H0⟩, ⟨%d1, H1⟩, ⟨%d2, H2⟩, ⟨%d3, H3⟩, ⟨%d4, H4⟩⟩
      iapply (kernelRun0_C c t _ _ _ _ _ _ _ _ _ _ _ _ _ _ (fun h => h0 ((hcond0_0 t).mp h)) (fun h => h1 ((hcond0_1 t).mp h)) (iblk m c 0 t) (iblk m c 1 t) (iblk m c 2 t) (iblk m c 3 t) (V m c main_v0) W _)
      isplitl [H0]; · iexact H0
      isplitl [H1]; · iexact H1
      isplitl [H2]; · iexact H2
      isplitl [H3]; · iexact H3
      isplitl [H4]; · iexists _; iexact H4
      isplitl [HS0]; · iexact HS0
      isplitl [HS1]; · iexact HS1
      isplitl [Hfl0_0]; · iexact Hfl0_0
      isplitl [HW]; · iexact HW
      iintro ⟨H0, H1, H2, H3, ⟨%e4, H4⟩, HS0, HS1, Hkp0_0', ⟨%W', HW'⟩⟩
      isplitl [HS0 HS1 Hg Hkp0_0 Hkp0_0']
      · isplitl [HS0]; · iexact HS0
        isplitl [HS1]; · iexact HS1
        isplitl [Hg]; · iexact Hg
        iapply (Ring.with_homes (Idealize.SL.BI.Entails.refl _))
        isplitl [Hkp0_0]; · iexact Hkp0_0
        iexact Hkp0_0'
      isplitl [HW']
      · iexists W'; isplitr; · ipureintro; exact fun _ _ => Or.inl trivial
        iexact HW'
      isplitl [H0]; · iexact H0
      isplitl [H1]; · iexact H1
      isplitl [H2]; · iexact H2
      isplitl [H3]; · iexact H3
      unfold owns; iexists _; isplitr
      swap; · iexact H4
      ipureintro; exact View.read_writes_of_cover _ _ _ _ _ (cover0_4 c _ _ _ _ _ _ _ _ _ _ _ _ _ _ _ _ _ _ _ _)

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (`triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands the region (`ΦD`: the scratch, the register, the cells at zero, the HBM operands whole) is the
    invariant before the first point, and the invariant after the last point hands it back. -/
theorem hin (c : Dev nD) : Pipeline.ΦD osem0 spec0 H0 (V m) c ⊢ (dats m 0 c).Φ 0 := by
  rw [PhiD0_eq, show (dats m 0 c).Φ 0 = PhiR m c 0 from rfl]
  unfold PhiR
  iintro ⟨⟨HS0, HS1, HR0_0⟩, Hg, ⟨Hq0, Hq1⟩, Hh0⟩
  isplitl [HS0]; · iexact HS0
  isplitl [HS1]; · iexact HS1
  isplitl [Hg]; · iexact Hg
  iapply (ring0_0_in (F := F) m c)
  isplitl [HR0_0]; · iexact HR0_0
  isplitl [Hq0 Hq1]
  · isplitl [Hq0]; · iexact Hq0
    iexact Hq1
  iexact Hh0
theorem hout (c : Dev nD) : (dats m 0 c).Φ (Fin.last cfg0.N) ⊢ Pipeline.ΦD osem0 spec0 H0 (V m) c := by
  rw [PhiD0_eq, show (dats m 0 c).Φ (Fin.last cfg0.N) = PhiR m c grid0.N from rfl]
  unfold PhiR
  rw [show grid0.N = 8 by rw [N_0]]
  iintro ⟨HS0, HS1, Hg, HR0_0⟩
  ihave HX0_0 := (ring0_0_out (F := F) m c) $$ HR0_0
  icases HX0_0 with ⟨HR0_0, ⟨Hq0, Hq1⟩, Hh0⟩
  isplitl [HS0 HS1 HR0_0]
  · isplitl [HS0]; · iexact HS0
    isplitl [HS1]; · iexact HS1
    iexact HR0_0
  isplitl [Hg]
  · iexact Hg
  isplitl [Hq0 Hq1]
  · isplitl [Hq0]; · iexact Hq0
    iexact Hq1
  iexact Hh0

/-! ## The run and the frame -/

-- `θ_run_frame_dma`'s implicit arguments are found by unifying its conclusion with this one, which takes unfolding plain
-- definitions in a metavariable's type
set_option backward.isDefEq.respectTransparency.types false in
/-- The launch: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame_dma (Q' := _) cfgs (dats m) (0 : Fin 1) launch0 osem0 defs₀ Variants.none ownSemFacts0 H0 H0_sub m ρ main
    (hbody := fun c => (body_obligation m c).loose) (hshare := fun c => (dats m 0 c).share_full fun _ => rfl)
    (howed := fun _ _ => rfl) (V := V m) (hmain := hmain m Variants.none) (hA := A_eq m)
    (hin := hin m) (hout := hout m)

/-- At the compiled mesh, for any values, from any memory with zero counters: every weakly fair execution of @main on the
    TensorCores terminates, and every final state has every array of the pipeline at what the library computes from the
    proof data and every other unscoped buffer as the region found it (`FramePost`). -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ (dats m) (A_eq m) (run_main m ρ)

/-- The frame at any `F`: every run ends, the argument arrays end unchanged and every semaphore counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (unchanged m ρ) ((θ_run defs _ _).mono (fun _ h => h.2) (run_main_quiescent m ρ))

end Cert.Proj.Rg

end
-- ==== Proof.Proj.Ideal.Ring.lean ====
module

public import proofs.«01_k».proof.Proof.Gen.ProjIdeal.Launch
public import proofs.«01_k».proof.Proof.Gen.ProjIdeal.Skeleton
public import proofs.«01_k».proof.Proof.Gen.ProjIdeal.Points
public import Idealize.ShloMosaic.Lib.Pipeline.FrameBody
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.ProjIdeal.Rg

open Cert.ProjIdeal Cert.ProjIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)
/-! ## @main up to the region -/

/-- Core `c`'s TensorCore buffers when the region is entered: after the host operations `hostOps0`. -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

set_option maxHeartbeats 800000 in
/-- @main up to the region, at the certificate's variants `𝒱₀`: the host operations then the region
    (`Pipeline.hmain_prefix`: `StableHlo.wp_seq` over the unscoped buffers, off `main_chain`). -/
theorem hmain (𝒱₀ : Variants) : Pipeline.HMain (Ix := Unit) (Name := ℕ) (U := Pipeline.UD sig nD τ) (Lvl := ℕ) cfgs 0 defs₀ 𝒱₀ m (main (F := F)) (V m) :=
  Pipeline.hmain_prefix cfgs 0 defs₀ 𝒱₀ m main hostOps0 hostOps0_sub hostOps0_fresh main_chain

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg4`: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not, for ANY proof
    data whose array is `V`'s (`hA`) and whose body leaves the block in place (`hafter`): the library's
    `Dat.before_in_eq_fetched` (unfetched, the index has not moved), the window uncut and never idle. -/
theorem before0_0_of {c : Dev nD} (dat : Dat τ (Elt F) Unit ℕ (Pipeline.UD sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): the library's
    `Dat.before_in_eq_fetched` (unfetched, the index has not moved), the window uncut and never idle. -/
theorem before0_1_of {c : Dev nD} (dat : Dat τ (Elt F) Unit ℕ (Pipeline.UD sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): the library's
    `Dat.before_in_eq_fetched` (unfetched, the index has not moved), the window uncut and never idle. -/
theorem before0_2_of {c : Dev nD} (dat : Dat τ (Elt F) Unit ℕ (Pipeline.UD sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for ANY proof
    data whose array is `V`'s (`hA`) and whose body leaves the block in place (`hafter`): the library's
    `Dat.before_in_eq_fetched` (unfetched, the index has not moved), the window uncut and never idle. -/
theorem before0_3_of {c : Dev nD} (dat : Dat τ (Elt F) Unit ℕ (Pipeline.UD sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- The frame from a frame run: for any proof data whose arrays are the region-entry contents (`hA`), a run to
    the library's `FramePost` read at the argument arrays — a staged input by the library's
    `Dat.arrAt_in`, an array no window stages by the post's second clause, each then by `V_…` — is the frame
    claim's post, at any `F`. -/
theorem frame_of (dats : (p : Fin 1) → (c : Dev nD) → Dat τ (Elt F) Unit ℕ (Pipeline.UD sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨((h c).1 0).trans (((dats 0 c).arrAt_in 0 rfl _).trans ((hA c 0).trans (V_main_arg0 m c))),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c)⟩) h

/-! ## The body's branch conditions -/

/-- The condition of the body's `scf.if` 0 (`k0_h1`), from the grid coordinates (the skeleton's scalar
    chain substituted). -/
abbrev cond0_0 (i : grid0.Coords) : Prop := (Scalar.cmpi .ne (Scalar.extui (Scalar.cmpi .eq (BitVec.ofNat 32 (i 0).val) 0#32)) 0#32) = 1#1
/-- It holds at the first point only — by arithmetic of the point. -/
theorem hcond0_0 : ∀ t : Fin cfg0.N, cond0_0 (grid0.coords t) ↔ t.val % 8 = 0 :=
  (fun t => by
    have ht : t.val < 8 := Nat.lt_of_lt_of_eq t.isLt N_0
    have e0 : (grid0.coords t 0).val = t.val / 1 % 8 := Pipeline.Grid.coords_val t 0 (by decide) rfl
    simp only [cond0_0, e0]
    word_cmp
   : ∀ t : Fin grid0.N, cond0_0 (grid0.coords t) ↔ t.val % 8 = 0)

/-- The condition of the body's `scf.if` 1 (`k0_h2`), from the grid coordinates (the skeleton's scalar
    chain substituted). -/
abbrev cond0_1 (i : grid0.Coords) : Prop := k0_cond2 i = 1#1
/-- It holds at the points before point 7 — decided over the grid. -/
theorem hcond0_1 : ∀ t : Fin cfg0.N, cond0_1 (grid0.coords t) ↔ t.val < 7 :=
  (by decide +kernel : ∀ t : Fin grid0.N, cond0_1 (grid0.coords t) ↔ t.val < 7)

/-! ## The kernel body on any staging memrefs: a subtype the run finds -/

/-- One staging buffer of output window 4, through which its contents are stated (`View.read_writes_of_cover`: the
    choice does not matter). -/
abbrev VO0_4 : View sig .tc .vmem S36x512 .f32 := (Memref.whole cc0_stg4_0 : Memref sig .tc .vmem S36x512 .f32).view
/-- Each window's current staging memref at point `t`, spelled as the pipeline passes it (`bodyAt0`), and its wholeness. -/
abbrev ms0_0 (t : Fin cfg0.N) : Memref sig .tc .vmem S36x4096 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S12x16x512 .i8 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S16x512 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S16x512 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S36x512 .f32 := win0_4.stage (cfg0.slots t 4)
abbrev hs0_4 (t : Fin cfg0.N) : (ms0_4 t).IsWhole := hstage0_4 ((cfg0.slots t 4).cast nbuf0_4)
/-- The scratch operands: whole scoped buffers of the kernel's own, passed beside the windows. -/
abbrev scM0_0 : Memref sig .tc .vmem S2x4x16x2x128 .bf16 := Memref.whole cc0_scratch0
abbrev scM0_1 : Memref sig .tc .vmem S2x4x16x2x128 .bf16 := Memref.whole cc0_scratch1
abbrev scM0_2 : Memref sig .tc .vmem S2x8192x128 .i8 := Memref.whole cc0_scratch2
/-- The operands left in HBM that the body copies into scratch itself, whole. -/
abbrev hbM0_0 : Memref sig .tc .hbm S65536x128 .i8 := Memref.whole main_v0
/-- Memref `M`'s buffer on core `c`: its contents type, and it held whole at `f` — behind this abbreviation, so that the
    run's rewriting of the goal leaves `Memref.view` intact (the form the executor reads a held buffer in). -/
abbrev HbBuf0 (c : Dev nD) {sp : Space} {S : Shape} {e : EltTy} (M : Memref sig .tc sp S e) : Type := Buf (Elt F) (M.view.loc (c : Thread nD τ))
abbrev hbPt0 (c : Dev nD) {sp : Space} {S : Shape} {e : EltTy} (M : Memref sig .tc sp S e) (f : HbBuf0 (F := F) c M) : sProp 𝕄 :=
  M.view.loc (c : Thread nD τ) ↦{fullShare} f

/-- The body's own DMA semaphores, cell by cell (their numbers in the pool): the kernel's own semaphores for the launch
    (`Pipeline.OwnSemFacts`: none is a window's). -/
abbrev osem0 : Fin 2 → SemLoc sig := fun j => (![SemLoc.dma 9, SemLoc.dma 10] : Fin 2 → SemLoc sig) j
theorem ownSemFacts0 : Pipeline.OwnSemFacts spec0 osem0 := by decide
/-- The cells at zero, listed. -/
theorem ownSems00_eq (c : Dev nD) :
    (Pipeline.ownSems0 (Ix := Unit) (Name := ℕ) (U := Pipeline.UD sig nD τ) (Lvl := ℕ) (Val := Elt F) (τ := τ) osem0 c : sProp 𝕄)
      = iprop(semVal ((c : Thread nD τ), SemLoc.dma 9) 0 ∗ semVal ((c : Thread nD τ), SemLoc.dma 10) 0) := by
  rw [Pipeline.ownSems0_eq_of_list c osem0 [0, 1] (by decide) (by decide)]; rfl
/-- The HBM operands the body moves, as references: unscoped, no window's array (`Pipeline.restRefs`). -/
def H0 : Finset (Ref sig .tc) := {main_v0}
theorem H0_sub : H0 ⊆ Pipeline.restRefs sig spec0 := by decide
/-- Their points-tos at the launch contents, listed. -/
theorem hbmPts0_eq (c : Dev nD) :
    (bigSep H0 (fun b => ((c : Thread nD τ).loc b) ↦{fullShare} V m c b) : sProp 𝕄) = iprop(hbPt0 c hbM0_0 (V m c main_v0)) := by
  rw [BI.bigSep_eq_bigSepL_of_eq [main_v0] (by decide) (by decide)]; rfl

/-- The invariant of a body with transfers of its own, `Pipeline.ΦD`, conjunct by conjunct: the scratch operands owned at
    some contents, the generator register at some state, the own cells at zero, the HBM operands at their launch
    contents — what the body obligation hands the run and takes back. -/
theorem PhiD0_eq (c : Dev nD) :
    (Pipeline.ΦD osem0 spec0 H0 (V m) c : sProp 𝕄)
      = iprop(iprop((∃ d, owns (c : Thread nD τ) scM0_0 fullShare d) ∗ (∃ d, owns (c : Thread nD τ) scM0_1 fullShare d) ∗ (∃ d, owns (c : Thread nD τ) scM0_2 fullShare d)) ∗ (∃ r, prngReg c r) ∗ iprop(semVal ((c : Thread nD τ), SemLoc.dma 9) 0 ∗ semVal ((c : Thread nD τ), SemLoc.dma 10) 0) ∗ iprop(hbPt0 c hbM0_0 (V m c main_v0))) := by
  rw [Pipeline.ΦD_eq, scopedRest0_eq, ownSems00_eq, hbmPts0_eq]; simp only [scM0_0, scM0_1, scM0_2, owns_whole]; try rfl

/-! ## Ring 0 of kernel 0: `main_v0` streamed through the 2 slots of `cc0_scratch2` on the cells of `cc0_scratch3`, 1 block ahead, in 8 steps -/

instance : NeZero grid0.N := ⟨by rw [N_0]; decide⟩
theorem inb_slot0_0 (s : Fin 2) : ∀ a, (![s.val, 0, 0] : Fin 3 → Nat) a + S1x8192x128.size a ≤ S2x8192x128.size a := by
  have := s.isLt; intro a; fin_cases a <;> simp <;> omega
theorem inb_src0_0 (b : Fin 8) : ∀ a, (![8192 * b.val, 0] : Fin 2 → Nat) a + S8192x128.size a ≤ S65536x128.size a := by
  have := b.isLt; intro a; fin_cases a <;> simp <;> omega
theorem inb_cell0_0 (s : Fin 2) : ∀ a, (![s.val] : Fin 1 → Nat) a + S1.size a ≤ S2.size a := by
  have := s.isLt; intro a; fin_cases a <;> simp <;> omega
/-- Slot `s` of the ring, spelt as the body's transfers spell their destination, at offsets in `s`. -/
def rslot0_0 (s : Fin 2) : Memref sig .tc .vmem S8192x128 .i8 :=
  (scM0_2.slice (Rect.unit (s := S2x8192x128) ![s.val, 0, 0] S1x8192x128.size (inb_slot0_0 s)) (fun _ => rfl)).squeeze S8192x128 squeezes_S1x8192x128_S8192x128
/-- Block `b` of the operand (the block step `b` waits), spelt as the transfers spell their source, at offsets in `b`. -/
def srcB0_0 (b : Fin 8) : Memref sig .tc .hbm S8192x128 .i8 :=
  hbM0_0.slice (Rect.unit (s := S65536x128) ![8192 * b.val, 0] S8192x128.size (inb_src0_0 b)) (fun _ => rfl)
/-- Cell `s` of `cc0_scratch3`, spelt as the body spells a cell; its number in the pool. -/
def cellA0_0 (s : Fin 2) : DmaSems sig S_ := (cc0_scratch3.slice (Rect.unit (s := S2) ![s.val] S1.size (inb_cell0_0 s))).squeeze S_ squeezes_S1_S_
abbrev cellR0_0 (s : Fin 2) : SemLoc sig := SemLoc.dma (cellA0_0 s).sem
theorem cellR0_0_0 : cellR0_0 0 = SemLoc.dma 9 := by decide
theorem cellR0_0_1 : cellR0_0 1 = SemLoc.dma 10 := by decide

section Ring0_0
variable (c : Dev nD) (W : HbBuf0 (F := F) c hbM0_0)
/-- The operand is lent BY SHARE, one read-share copy of it per slot (the left and right halves of the full share): whatever
    blocks two transfers in flight stream — the same one twice, two that overlap —, each borrows from its own slot's copy. -/
abbrev qs0_0 (s : Fin 2) : PosShare TreeShare := if s.val = 0 then fullShare.left else fullShare.right
/-- The families the ring is stated over: slot `s` held at `f`; cell `s` at zero; block `b`'s elements of slot `s`'s copy of the
    operand (what a transfer into slot `s` lends), the REST of that copy, and the copy whole; slot `s`'s contents once block `b`
    landed in it whole over `f` (the executor's listed write); the FLIGHT of block `b` into slot `s`, delivering the slot landed
    and the lent elements back. -/
abbrev slotP0_0 (s : Fin 2) (f : HbBuf0 (F := F) c (rslot0_0 s)) : sProp 𝕄 := (rslot0_0 s).view.loc (c : Thread nD τ) ↦[(rslot0_0 s).view.set]{fullShare} f
abbrev cellP0_0 (s : Fin 2) : sProp 𝕄 := semVal ((c : Thread nD τ), cellR0_0 s) 0
abbrev srcP0_0 (s : Fin 2) (b : Fin 8) : sProp 𝕄 := (srcB0_0 b).view.loc (c : Thread nD τ) ↦[(srcB0_0 b).view.set]{qs0_0 s} W
/-- (a `def`: no run reads this rest, and folded it stays out of the executor's table of held buffers) -/
def restP0_0 (s : Fin 2) (b : Fin 8) : sProp 𝕄 := ((c : Thread nD τ).loc main_v0) ↦[Finset.univ \ (srcB0_0 b).view.set]{qs0_0 s} W
abbrev wholeP0_0 (s : Fin 2) : sProp 𝕄 := ((c : Thread nD τ).loc main_v0) ↦[Finset.univ]{qs0_0 s} W
abbrev landed0_0 (s : Fin 2) (b : Fin 8) (f : HbBuf0 (F := F) c (rslot0_0 s)) : HbBuf0 (F := F) c (rslot0_0 s) :=
  (rslot0_0 s).view.writes (Elt F) f [⟨Rect.whole S8192x128, ReadAs.same.apply ((srcB0_0 b).view.read (Elt F) W)⟩]
abbrev flightP0_0 (s : Fin 2) (b : Fin 8) (f : HbBuf0 (F := F) c (rslot0_0 s)) : sProp 𝕄 :=
  Transfers.Flight countersEmb (c : Thread nD τ) (cellR0_0 s) default ((rslot0_0 s).view.amount (cellR0_0 s))
    iprop(slotP0_0 c s (landed0_0 c W s b f) ∗ srcP0_0 c W s b)
/-- The library's `slot` and `flight` families: a slot not in flight carries its copy of the operand whole; a flight, the
    rest of the copy it borrowed from. No block is held apart: the `home` family is `emp`. -/
abbrev slotW0_0 (s : Fin 2) (f : HbBuf0 (F := F) c (rslot0_0 s)) : sProp 𝕄 := iprop(slotP0_0 c s f ∗ wholeP0_0 c W s)
abbrev flightW0_0 (s : Fin 2) (b : Fin 8) (f : HbBuf0 (F := F) c (rslot0_0 s)) : sProp 𝕄 := iprop(flightP0_0 c W s b f ∗ restP0_0 c W s b)
abbrev noHome0_0 (b : Fin 8) : sProp 𝕄 := iprop(emp)
/-- The ring before its step `k` (the library's `AtK`): every slot free before the first; from then on block `k` in flight
    into slot `k`, slot `k + 1` KEEPING block `k - 1` (landed, readable) until the step starts block `k + 1` over it. -/
def ringAt0_0 (k : ℕ) : sProp 𝕄 :=
  if k = 0 then Ring.At₀ (cellP0_0 c) (slotW0_0 c W) noHome0_0
  else Ring.AtK 1 (cellP0_0 c) (slotW0_0 c W) noHome0_0 (flightW0_0 c W) (landed0_0 c W) k
omit [FloatOps F] in
theorem cellP0_0_0 : cellP0_0 (F := F) c 0 = semVal ((c : Thread nD τ), SemLoc.dma 9) 0 := congrArg (fun x => (semVal ((c : Thread nD τ), x) 0 : sProp 𝕄)) cellR0_0_0
omit [FloatOps F] in
theorem cellP0_0_1 : cellP0_0 (F := F) c 1 = semVal ((c : Thread nD τ), SemLoc.dma 10) 0 := congrArg (fun x => (semVal ((c : Thread nD τ), x) 0 : sProp 𝕄)) cellR0_0_1
end Ring0_0

/-! ### The slots, disjoint and covering the scratch (the library's `lead_disjoint` / `lead_cover`) -/

abbrev slotSet0_0 (s : Fin 2) : Finset S2x8192x128.Idx := (Rect.unit (s := S2x8192x128) ![s.val, 0, 0] S1x8192x128.size (inb_slot0_0 s)).set
theorem slotSet0_0_eq (s : Fin 2) : (rslot0_0 s).view.set = slotSet0_0 s := by
  simp only [rslot0_0, Memref.view_squeeze, View.set_reshape]; exact View.set_slice_whole _ _
theorem slots0_0_disjoint (s s' : Fin 2) (h : s ≠ s') : Disjoint (slotSet0_0 s) (slotSet0_0 s') :=
  Ring.lead_disjoint (s := S2x8192x128) (0 : Fin 3) 1 (fun s : Fin 2 => (![s.val, 0, 0] : Fin 3 → Nat)) S1x8192x128.size inb_slot0_0 (fun s => by simp) rfl s s' h
theorem slots0_0_cover : Finset.univ.biUnion slotSet0_0 = Finset.univ :=
  Ring.lead_cover (s := S2x8192x128) (0 : Fin 3) 1 (fun s : Fin 2 => (![s.val, 0, 0] : Fin 3 → Nat)) S1x8192x128.size inb_slot0_0 (fun s => by simp)
    (fun s a ha => by fin_cases a <;> first | exact absurd rfl ha | rfl) rfl (fun a ha => by fin_cases a <;> first | exact absurd rfl ha | rfl) rfl

/-! ### What the launch hands the ring, and takes back -/

section InOut0_0
variable (c : Dev nD) (W : HbBuf0 (F := F) c hbM0_0)
theorem slotP0_0_eq (s : Fin 2) (f) : slotP0_0 (F := F) c s f = (((c : Thread nD τ).loc cc0_scratch2) ↦[slotSet0_0 s]{fullShare} f : sProp 𝕄) := by
  unfold slotP0_0; rw [slotSet0_0_eq]; rfl
/-- A slot's copy of the operand, whole, is block `b`'s elements and the rest (any `b`: what a run splits off before its step
    starts block `b`, and joins back once the wait returned it); -/
theorem src0_0_split (s : Fin 2) (b : Fin 8) : wholeP0_0 (F := F) c W s ⊣⊢ iprop(srcP0_0 c W s b ∗ restP0_0 c W s b) := by
  unfold restP0_0; exact pointsTo_split_subset (Finset.subset_univ _)
/-- the operand whole at the full share is the two copies. -/
theorem whole0_0_split : (hbPt0 c hbM0_0 W : sProp 𝕄) ⊣⊢ iprop(wholeP0_0 c W 0 ∗ wholeP0_0 c W 1) :=
  pointsTo_share (PosShare.mem_left_op_right fullShare)
set_option maxHeartbeats 1000000 in
/-- the scratch whole at anything is its slots at something each, and back. -/
theorem slots0_0_in : iprop(∃ d, owns (c : Thread nD τ) scM0_2 fullShare d) ⊢ (iprop((∃ f, slotP0_0 (F := F) c 0 f) ∗ ∃ f, slotP0_0 (F := F) c 1 f) : sProp 𝕄) := by
  simp only [scM0_2, owns_whole]
  exact Ring.slots2_split (U := Pipeline.UD sig nD τ) (ℓ := (c : Thread nD τ).loc cc0_scratch2) (q := fullShare) slotSet0_0 slots0_0_disjoint slots0_0_cover
    (slotP0_0 c 0) (slotP0_0 c 1) (slotP0_0_eq c 0) (slotP0_0_eq c 1)
set_option maxHeartbeats 1000000 in
theorem slots0_0_out : (iprop((∃ f, slotP0_0 (F := F) c 0 f) ∗ ∃ f, slotP0_0 (F := F) c 1 f) : sProp 𝕄) ⊢ iprop(∃ d, owns (c : Thread nD τ) scM0_2 fullShare d) := by
  simp only [scM0_2, owns_whole]
  exact Ring.slots2_join (U := Pipeline.UD sig nD τ) (ℓ := (c : Thread nD τ).loc cc0_scratch2) (q := fullShare) slotSet0_0 slots0_0_disjoint slots0_0_cover
    (slotP0_0 c 0) (slotP0_0 c 1) (slotP0_0_eq c 0) (slotP0_0_eq c 1)
end InOut0_0

/-- INTO THE RING: the launch's pieces — the scratch whole, the cells at zero, the operand whole — are the ring before its first step; -/
theorem ring0_0_in (c : Dev nD) :
    iprop((∃ d, owns (c : Thread nD τ) scM0_2 fullShare d) ∗ (semVal ((c : Thread nD τ), SemLoc.dma 9) 0 ∗ semVal ((c : Thread nD τ), SemLoc.dma 10) 0) ∗ hbPt0 c hbM0_0 (V m c main_v0))
      ⊢ ringAt0_0 c (V m c main_v0) 0 := by
  unfold ringAt0_0; rw [if_pos rfl]; unfold Ring.At₀
  rw [Ring.bigSep_fin2]
  simp only [Ring.free, cellP0_0_0, cellP0_0_1]
  iintro ⟨HS, Hc, HW⟩
  iapply Ring.with_homes₀
  icases Hc with ⟨H0, H1⟩
  ihave HS' := (slots0_0_in (F := F) c) $$ HS
  icases HS' with ⟨⟨%d0, HS0⟩, ⟨%d1, HS1⟩⟩
  ihave HW' := (whole0_0_split (F := F) c (V m c main_v0)).1 $$ HW
  icases HW' with ⟨HW0, HW1⟩
  isplitl [H0 HS0 HW0]
  · isplitl [H0]; · iexact H0
    iexists d0; isplitl [HS0]; · iexact HS0
    iexact HW0
  · isplitl [H1]; · iexact H1
    iexists d1; isplitl [HS1]; · iexact HS1
    iexact HW1
/-- OUT OF THE RING: after the last step (every slot kept or free: the kept blocks forgotten) those pieces again. -/
theorem ring0_0_out (c : Dev nD) :
    ringAt0_0 c (V m c main_v0) 8
      ⊢ iprop((∃ d, owns (c : Thread nD τ) scM0_2 fullShare d) ∗ (semVal ((c : Thread nD τ), SemLoc.dma 9) 0 ∗ semVal ((c : Thread nD τ), SemLoc.dma 10) 0) ∗ hbPt0 c hbM0_0 (V m c main_v0)) := by
  unfold ringAt0_0; rw [if_neg (by decide)]
  iintro H
  ihave H' := (Ring.free2_of_AtK_last _ _ _ _ _) $$ H
  simp only [Ring.free, cellP0_0_0, cellP0_0_1]
  icases H' with ⟨-, ⟨H0, ⟨%f0, HS0, HW0⟩⟩, ⟨H1, ⟨%f1, HS1, HW1⟩⟩⟩
  isplitl [HS0 HS1]
  · iapply (slots0_0_out (F := F) c); isplitl [HS0]; · iexists f0; iexact HS0
    iexists f1; iexact HS1
  isplitl [H0 H1]
  · isplitl [H0]; · iexact H0
    iexact H1
  · iapply (whole0_0_split (F := F) c (V m c main_v0)).2; isplitl [HW0]; · iexact HW0
    iexact HW1

/-! ### Ring 0's steps at each case's points, and its canonical names: the body's operands at point `t` are the ring's slots, blocks and cells -/

section Canon0_0
omit [FloatOps F]
/-- At the points of case A the ring takes its FIRST step. -/
theorem rstep0_0_A : ∀ t : Fin grid0.N, cond0_0 (grid0.coords t) → cond0_1 (grid0.coords t) → t.val = 0 ∧ (t.val + 1) = 1 := by decide +kernel
/-- At the points of case B the ring takes a step, a block still to start. -/
theorem rstep0_0_B : ∀ t : Fin grid0.N, ¬cond0_0 (grid0.coords t) → cond0_1 (grid0.coords t) → 1 ≤ t.val ∧ t.val + 1 < 8 ∧ (t.val + 1) = t.val + 1 := by decide +kernel
/-- At the points of case C the ring takes its LAST step. -/
theorem rstep0_0_C : ∀ t : Fin grid0.N, ¬cond0_0 (grid0.coords t) → ¬cond0_1 (grid0.coords t) → 1 ≤ t.val ∧ t.val + 1 = 8 ∧ (t.val + 1) = t.val + 1 := by decide +kernel
set_option synthInstance.maxSize 4096 in
theorem coff0_0_1 : ∀ t : Fin grid0.N, cond0_0 (grid0.coords t) → cond0_1 (grid0.coords t) → (![0, 0, 0] : Fin 3 → Nat) = ![(Ring.sl 2 t.val).val, 0, 0] := by decide +kernel
@[sl_canon] theorem canon0_0_1 (t : Fin grid0.N) (h0 : cond0_0 (grid0.coords t)) (h1 : cond0_1 (grid0.coords t)) :
    (scM0_2.slice (Rect.unit (s := S2x8192x128) ![0, 0, 0] S1x8192x128.size inb_S2x8192x128_S1x8192x128_0_0_0) (fun _ => rfl)).squeeze S8192x128 squeezes_S1x8192x128_S8192x128 = rslot0_0 (Ring.sl 2 t.val) :=
  congrArg (fun M : Memref sig .tc .vmem S1x8192x128 .i8 => M.squeeze S8192x128 squeezes_S1x8192x128_S8192x128) (Memref.slice_unit_congr _ (coff0_0_1 t h0 h1) _ _ (fun _ => rfl) (fun _ => rfl))
set_option synthInstance.maxSize 4096 in
theorem coff0_0_2 : ∀ t : Fin grid0.N, cond0_0 (grid0.coords t) → cond0_1 (grid0.coords t) → (![0] : Fin 1 → Nat) = ![(Ring.sl 2 t.val).val] := by decide +kernel
@[sl_canon] theorem canon0_0_2 (t : Fin grid0.N) (h0 : cond0_0 (grid0.coords t)) (h1 : cond0_1 (grid0.coords t)) :
    (cc0_scratch3.slice (Rect.unit (s := S2) ![0] S1.size inb_S2_S1_0)).squeeze S_ squeezes_S1_S_ = cellA0_0 (Ring.sl 2 t.val) :=
  congrArg (fun A : DmaSems sig S1 => A.squeeze S_ squeezes_S1_S_) (SemArray.slice_unit_congr _ (coff0_0_2 t h0 h1) _ _)
set_option synthInstance.maxSize 4096 in
theorem coff0_0_3 : ∀ t : Fin grid0.N, cond0_0 (grid0.coords t) → cond0_1 (grid0.coords t) → (![0, 0] : Fin 2 → Nat) = ![8192 * (Ring.bk 8 t.val).val, 0] := by decide +kernel
@[sl_canon] theorem canon0_0_3 (t : Fin grid0.N) (h0 : cond0_0 (grid0.coords t)) (h1 : cond0_1 (grid0.coords t)) :
    hbM0_0.slice (Rect.unit (s := S65536x128) ![0, 0] S8192x128.size inb_S65536x128_S8192x128_0_0) (fun _ => rfl) = srcB0_0 (Ring.bk 8 t.val) :=
  congrArg (fun M : Memref sig .tc .hbm S8192x128 .i8 => M) (Memref.slice_unit_congr _ (coff0_0_3 t h0 h1) _ _ (fun _ => rfl) (fun _ => rfl))
set_option synthInstance.maxSize 4096 in
theorem coff0_0_4 : ∀ t : Fin grid0.N, k0_off2 (grid0.coords t) = ![(Ring.sl 2 (t.val + 1)).val, 0, 0] := by decide +kernel
@[sl_canon] theorem canon0_0_4 (t : Fin grid0.N) (h1 : cond0_1 (grid0.coords t)) :
    (scM0_2.slice (Rect.unit (s := S2x8192x128) (k0_off2 (grid0.coords t)) S1x8192x128.size (k0_off2_inb (grid0.coords t) h1)) (fun _ => rfl)).squeeze S8192x128 squeezes_S1x8192x128_S8192x128 = rslot0_0 (Ring.sl 2 (t.val + 1)) :=
  congrArg (fun M : Memref sig .tc .vmem S1x8192x128 .i8 => M.squeeze S8192x128 squeezes_S1x8192x128_S8192x128) (Memref.slice_unit_congr _ (coff0_0_4 t ) _ _ (fun _ => rfl) (fun _ => rfl))
set_option synthInstance.maxSize 4096 in
theorem coff0_0_5 : ∀ t : Fin grid0.N, k0_off1 (grid0.coords t) = ![(Ring.sl 2 (t.val + 1)).val] := by decide +kernel
@[sl_canon] theorem canon0_0_5 (t : Fin grid0.N) (h1 : cond0_1 (grid0.coords t)) :
    (cc0_scratch3.slice (Rect.unit (s := S2) (k0_off1 (grid0.coords t)) S1.size (k0_off1_inb (grid0.coords t) h1))).squeeze S_ squeezes_S1_S_ = cellA0_0 (Ring.sl 2 (t.val + 1)) :=
  congrArg (fun A : DmaSems sig S1 => A.squeeze S_ squeezes_S1_S_) (SemArray.slice_unit_congr _ (coff0_0_5 t ) _ _)
set_option synthInstance.maxSize 4096 in
theorem coff0_0_6 : ∀ t : Fin grid0.N, cond0_0 (grid0.coords t) → cond0_1 (grid0.coords t) → k0_off3 (grid0.coords t) = ![8192 * (Ring.bk 8 (t.val + 1)).val, 0] := by decide +kernel
@[sl_canon] theorem canon0_0_6 (t : Fin grid0.N) (h0 : cond0_0 (grid0.coords t)) (h1 : cond0_1 (grid0.coords t)) :
    hbM0_0.slice (Rect.unit (s := S65536x128) (k0_off3 (grid0.coords t)) S8192x128.size (k0_off3_inb (grid0.coords t) h1)) (fun _ => rfl) = srcB0_0 (Ring.bk 8 (t.val + 1)) :=
  congrArg (fun M : Memref sig .tc .hbm S8192x128 .i8 => M) (Memref.slice_unit_congr _ (coff0_0_6 t h0 h1) _ _ (fun _ => rfl) (fun _ => rfl))
set_option synthInstance.maxSize 4096 in
theorem coff0_0_7 : ∀ t : Fin grid0.N, k0_off5 (grid0.coords t) = ![(Ring.sl 2 t.val).val, 0, 0] := by decide +kernel
@[sl_canon] theorem canon0_0_7 (t : Fin grid0.N) :
    (scM0_2.slice (Rect.unit (s := S2x8192x128) (k0_off5 (grid0.coords t)) S1x8192x128.size (k0_off5_inb (grid0.coords t))) (fun _ => rfl)).squeeze S8192x128 squeezes_S1x8192x128_S8192x128 = rslot0_0 (Ring.sl 2 t.val) :=
  congrArg (fun M : Memref sig .tc .vmem S1x8192x128 .i8 => M.squeeze S8192x128 squeezes_S1x8192x128_S8192x128) (Memref.slice_unit_congr _ (coff0_0_7 t ) _ _ (fun _ => rfl) (fun _ => rfl))
set_option synthInstance.maxSize 4096 in
theorem coff0_0_8 : ∀ t : Fin grid0.N, k0_off4 (grid0.coords t) = ![(Ring.sl 2 t.val).val] := by decide +kernel
@[sl_canon] theorem canon0_0_8 (t : Fin grid0.N) :
    (cc0_scratch3.slice (Rect.unit (s := S2) (k0_off4 (grid0.coords t)) S1.size (k0_off4_inb (grid0.coords t)))).squeeze S_ squeezes_S1_S_ = cellA0_0 (Ring.sl 2 t.val) :=
  congrArg (fun A : DmaSems sig S1 => A.squeeze S_ squeezes_S1_S_) (SemArray.slice_unit_congr _ (coff0_0_8 t ) _ _)
set_option synthInstance.maxSize 4096 in
theorem coff0_0_9 : ∀ t : Fin grid0.N, ¬cond0_0 (grid0.coords t) → cond0_1 (grid0.coords t) → k0_off3 (grid0.coords t) = ![8192 * (Ring.bk 8 (t.val + 1)).val, 0] := by decide +kernel
@[sl_canon] theorem canon0_0_9 (t : Fin grid0.N) (h0 : ¬cond0_0 (grid0.coords t)) (h1 : cond0_1 (grid0.coords t)) :
    hbM0_0.slice (Rect.unit (s := S65536x128) (k0_off3 (grid0.coords t)) S8192x128.size (k0_off3_inb (grid0.coords t) h1)) (fun _ => rfl) = srcB0_0 (Ring.bk 8 (t.val + 1)) :=
  congrArg (fun M : Memref sig .tc .hbm S8192x128 .i8 => M) (Memref.slice_unit_congr _ (coff0_0_9 t h0 h1) _ _ (fun _ => rfl) (fun _ => rfl))
set_option synthInstance.maxSize 4096 in
theorem coff0_0_10 : ∀ (t : Fin grid0.N) (k : Fin k0_t1_loop.trips) (r : Fin 2), k0_off20 (grid0.coords t) k (BitVec.ofNat 32 (128 * r.val)) = ![(Ring.sl 2 t.val).val, 4096 * k.val + 2048 * r.val, 0] := by decide +kernel
/-- A trip's first load from the ring, its box in the slot's spelling (the block this step waited). -/
instance (priority := high) closedOff0_0_10 (t : Fin grid0.N) (k : Fin k0_t1_loop.trips) : ClosedOff (k0_off20 (grid0.coords t) k (BitVec.ofNat 32 0)) := ⟨![(Ring.sl 2 t.val).val, 4096 * k.val + 2048 * 0, 0], coff0_0_10 t k ⟨0, by decide⟩⟩
/-- A trip's second load from the ring. -/
instance (priority := high) closedOff0_0_11 (t : Fin grid0.N) (k : Fin k0_t1_loop.trips) : ClosedOff (k0_off20 (grid0.coords t) k (BitVec.ofNat 32 128)) := ⟨![(Ring.sl 2 t.val).val, 4096 * k.val + 2048 * 1, 0], coff0_0_10 t k ⟨1, by decide⟩⟩
/-- A trip's load from the ring stays inside the slot this step waited. -/
theorem ringLoad_sub (t : Fin grid0.N) (k : Fin k0_t1_loop.trips) (r : Fin 2) :
    scM0_2.view.setOn (Rect.unit (s := S2x8192x128) (k0_off20 (grid0.coords t) k (BitVec.ofNat 32 (128 * r.val))) S1x2048x128.size (k0_off20_inb (grid0.coords t) k r)).set ⊆ (rslot0_0 (Ring.sl 2 t.val)).view.set := by
  rw [slotSet0_0_eq]
  have e := coff0_0_10 t k r
  have hk : k.val < 2 := k.isLt
  have hr : r.val < 2 := r.isLt
  intro y hy
  obtain ⟨y', hy', rfl⟩ := Finset.mem_map.mp hy
  show y' ∈ slotSet0_0 _
  rw [Rect.mem_set_unit] at hy' ⊢
  intro a
  have h := hy' a
  rw [e] at h
  fin_cases a <;> simp at h ⊢ <;> omega
end Canon0_0

end Cert.ProjIdeal.Rg

end
-- ==== Proof.Proj.Ideal.Trip.lean ====
module

public import proofs.«01_k».proof.Proof.Proj.Ideal.Ring
public import proofs.«01_k».proof.Proof.Gen.ProjIdeal.Loops

@[expose] public section

set_option maxRecDepth 16384

noncomputable section

namespace Cert.ProjIdeal.Rg

open Cert.ProjIdeal Cert.ProjIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-- The box the trip writes for half `h`, group `g` and parity `p`: every other row, from row `p`. -/
def scrRect (h : Fin 2) (g : Fin 4) (p : Fin 2) : Rect S2x4x16x2x128 :=
  ⟨(⟨![h.val, g.val, p.val, 0, 0], S1x1x8x2x128.size, ![1, 1, 2, 1, 1], by
      intro a; right; fin_cases a <;> simp [S1x1x8x2x128, S2x4x16x2x128, Shape.size] <;> omega⟩ : LoadRect S2x4x16x2x128), spos_1_1_2_1_1⟩

/-- The sixteen boxes of a scale scratch buffer, the last written first. -/
def scrRects : List (Rect S2x4x16x2x128) :=
  [scrRect 1 3 1, scrRect 1 3 0, scrRect 1 2 1, scrRect 1 2 0, scrRect 1 1 1, scrRect 1 1 0, scrRect 1 0 1, scrRect 1 0 0,
   scrRect 0 3 1, scrRect 0 3 0, scrRect 0 2 1, scrRect 0 2 0, scrRect 0 1 1, scrRect 0 1 0, scrRect 0 0 1, scrRect 0 0 0]

/-- Each box is one of the sixteen. -/
theorem scrRect_mem (h : Fin 2) (g : Fin 4) (p : Fin 2) : scrRect h g p ∈ scrRects := by
  unfold scrRects
  fin_cases h <;> fin_cases g <;> fin_cases p <;> simp

/-- Each element of a scale buffer is in the box of its half, group and parity. -/
theorem mem_scrRect (y : S2x4x16x2x128.Idx) :
    y ∈ (scrRect ⟨(y 0).val, (y 0).isLt⟩ ⟨(y 1).val, (y 1).isLt⟩ ⟨(y 2).val % 2, Nat.mod_lt _ (by omega)⟩).set := by
  rw [LoadRect.mem_set]
  have h2 : (y 2).val < 16 := (y 2).isLt
  have h3 : (y 3).val < 2 := (y 3).isLt
  have h4 : (y 4).val < 128 := (y 4).isLt
  intro a
  fin_cases a
  · exact ⟨0, Nat.one_pos, by simp [scrRect]⟩
  · exact ⟨0, Nat.one_pos, by simp [scrRect]⟩
  · refine ⟨(y 2).val / 2, ?_, ?_⟩
    · show (y 2).val / 2 < 8
      omega
    · show (y 2).val = (y 2).val % 2 + 2 * ((y 2).val / 2)
      omega
  · refine ⟨(y 3).val, h3, ?_⟩
    show (y 3).val = 0 + 1 * (y 3).val
    omega
  · refine ⟨(y 4).val, h4, ?_⟩
    show (y 4).val = 0 + 1 * (y 4).val
    omega

/-- Pieces at the sixteen boxes cover the scratch buffer. -/
theorem scr_cover {Val : EltTy → Type} {e : EltTy} (L : List (View.Piece Val S2x4x16x2x128 e)) (hL : L.map Sigma.fst = scrRects) (y : S2x4x16x2x128.Idx) :
    ∃ p ∈ L, y ∈ p.1.set := by
  have hm := scrRect_mem ⟨(y 0).val, (y 0).isLt⟩ ⟨(y 1).val, (y 1).isLt⟩ ⟨(y 2).val % 2, Nat.mod_lt _ (by omega)⟩
  rw [← hL, List.mem_map] at hm
  obtain ⟨p, hp, he⟩ := hm
  exact ⟨p, hp, by rw [he]; exact mem_scrRect y⟩

/-- So what they leave in it does not depend on what was there. -/
theorem scr_writes {e : EltTy} (m : Memref sig .tc .vmem S2x4x16x2x128 e) (hm : m.IsWhole) (f : m.view.ty.Contents (Elt F))
    (L : List (View.Piece (Elt F) S2x4x16x2x128 e)) (hL : L.map Sigma.fst = scrRects) :
    m.view.writes (Elt F) f L = hm.unread (View.canon L) :=
  hm.eq_unread (View.read_writes_eq_canon m.view f L (scr_cover L hL))

/-- What one trip of the column loop touches: the activations, the scale bytes and the two scale rows at their contents; the
    output block at `f6`, the two scale scratch buffers at `f7` and `f8`; the slot of the ring this grid point waited for, the
    block landed in it over `fs`. -/
abbrev Trip (c : Dev nD) (t : Fin cfg0.N) (arg1 : Memref sig .tc .vmem S36x4096 .bf16) (harg1 : arg1.IsWhole) (arg3 : Memref sig .tc .vmem S12x16x512 .i8) (harg3 : arg3.IsWhole) (arg4 : Memref sig .tc .vmem S16x512 .bf16) (harg4 : arg4.IsWhole) (arg5 : Memref sig .tc .vmem S16x512 .bf16) (harg5 : arg5.IsWhole) (arg6 : Memref sig .tc .vmem S36x512 .f32) (arg7 : Memref sig .tc .vmem S2x4x16x2x128 .bf16) (arg8 : Memref sig .tc .vmem S2x4x16x2x128 .bf16)
    (x0 : Vec F S36x4096 .bf16) (x1 : Vec F S12x16x512 .i8) (x2 : Vec F S16x512 .bf16) (x3 : Vec F S16x512 .bf16) (fh0 : HbBuf0 (F := F) c hbM0_0)
    (f6 : HbBuf0 (F := F) c arg6) (f7 : HbBuf0 (F := F) c arg7) (f8 : HbBuf0 (F := F) c arg8) : sProp 𝕄 :=
  iprop((arg1.view.loc (c : Thread nD τ) ↦[arg1.view.set]{fullShare} harg1.unread x0)
    ∗ (arg3.view.loc (c : Thread nD τ) ↦[arg3.view.set]{fullShare} harg3.unread x1)
    ∗ (arg4.view.loc (c : Thread nD τ) ↦[arg4.view.set]{fullShare} harg4.unread x2)
    ∗ (arg5.view.loc (c : Thread nD τ) ↦[arg5.view.set]{fullShare} harg5.unread x3)
    ∗ (arg6.view.loc (c : Thread nD τ) ↦[arg6.view.set]{fullShare} f6)
    ∗ (arg7.view.loc (c : Thread nD τ) ↦[arg7.view.set]{fullShare} f7)
    ∗ (arg8.view.loc (c : Thread nD τ) ↦[arg8.view.set]{fullShare} f8)
    ∗ slotP0_0 c (Ring.sl 2 t.val) (landed0_0 c fh0 (Ring.sl 2 t.val) (Ring.bk 8 t.val) (rslot0_0 (Ring.sl 2 t.val)).view.junk))

set_option maxHeartbeats 4000000 in
/-- One trip: what it stores, what it leaves in the two scale buffers, and that it does so. -/
@[irreducible] def trip (c : Dev nD) (t : Fin cfg0.N) (arg1 : Memref sig .tc .vmem S36x4096 .bf16) (harg1 : arg1.IsWhole) (arg3 : Memref sig .tc .vmem S12x16x512 .i8) (harg3 : arg3.IsWhole) (arg4 : Memref sig .tc .vmem S16x512 .bf16) (harg4 : arg4.IsWhole) (arg5 : Memref sig .tc .vmem S16x512 .bf16) (harg5 : arg5.IsWhole) (arg6 : Memref sig .tc .vmem S36x512 .f32) (harg6 : arg6.IsWhole) (arg7 : Memref sig .tc .vmem S2x4x16x2x128 .bf16) (harg7 : arg7.IsWhole) (arg8 : Memref sig .tc .vmem S2x4x16x2x128 .bf16) (harg8 : arg8.IsWhole)
    (x0 : Vec F S36x4096 .bf16) (x1 : Vec F S12x16x512 .i8) (x2 : Vec F S16x512 .bf16) (x3 : Vec F S16x512 .bf16) (fh0 : HbBuf0 (F := F) c hbM0_0) (k : Fin k0_t1_loop.trips) :
    { L : List (View.Piece (Elt F) S36x512 .f32) × Vec F S2x4x16x2x128 .bf16 × Vec F S2x4x16x2x128 .bf16 //
      ∀ (arg0 : BitVec 32) (acc : Unit) (f6 : HbBuf0 (F := F) c arg6) (f7 : HbBuf0 (F := F) c arg7) (f8 : HbBuf0 (F := F) c arg8),
        Trip c t arg1 harg1 arg3 harg3 arg4 harg4 arg5 harg5 arg6 arg7 arg8 x0 x1 x2 x3 fh0 f6 f7 f8
          ⊢ wp frame (wpE (defs₀ (F := F)) Variants.none c none) Set.univ
              (k0_t1_body (grid0.coords t) arg1 harg1 (Memref.whole main_v0) (Memref.isWhole_whole _) arg3 harg3 arg4 harg4 arg5 harg5 arg6 harg6 arg7 harg7 arg8 harg8 scM0_2 (Memref.isWhole_whole _) cc0_scratch3 arg0 k acc)
              fun _ => Trip c t arg1 harg1 arg3 harg3 arg4 harg4 arg5 harg5 arg6 arg7 arg8 x0 x1 x2 x3 fh0
                (arg6.view.writes (Elt F) f6 L.1) (harg7.unread L.2.1) (harg8.unread L.2.2) } := by
  refine ⟨⟨?_, ?_, ?_⟩, ?run⟩
  case run =>
    intro arg0 acc f6 f7 f8
    have hs0 := ringLoad_sub t k 0
    have hs1 := ringLoad_sub t k 1
    unfold k0_t1_body k0_part41 Trip
    iintro ⟨H1, H3, H4, H5, H6, H7, H8, HS⟩
    set_option sl_exec.stopBefore "k0_part20" in sl_exec_parts
    rw [scr_writes arg7 harg7 f7 _ rfl, scr_writes arg8 harg8 f8 _ rfl]
    sl_exec_parts
    sl_step
    sl_close

end Cert.ProjIdeal.Rg

end
-- ==== Proof.Proj.Ideal.Loop.lean ====
module

public import proofs.«01_k».proof.Proof.Proj.Ideal.Trip

@[expose] public section

set_option maxRecDepth 16384

noncomputable section

namespace Cert.ProjIdeal.Rg

open Cert.ProjIdeal Cert.ProjIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-- The pieces the trips before `k` leave in the output block, the last first. -/
def pb (c : Dev nD) (t : Fin cfg0.N) (arg1 : Memref sig .tc .vmem S36x4096 .bf16) (harg1 : arg1.IsWhole) (arg3 : Memref sig .tc .vmem S12x16x512 .i8) (harg3 : arg3.IsWhole) (arg4 : Memref sig .tc .vmem S16x512 .bf16) (harg4 : arg4.IsWhole) (arg5 : Memref sig .tc .vmem S16x512 .bf16) (harg5 : arg5.IsWhole) (arg6 : Memref sig .tc .vmem S36x512 .f32) (harg6 : arg6.IsWhole) (arg7 : Memref sig .tc .vmem S2x4x16x2x128 .bf16) (harg7 : arg7.IsWhole) (arg8 : Memref sig .tc .vmem S2x4x16x2x128 .bf16) (harg8 : arg8.IsWhole)
    (x0 : Vec F S36x4096 .bf16) (x1 : Vec F S12x16x512 .i8) (x2 : Vec F S16x512 .bf16) (x3 : Vec F S16x512 .bf16) (fh0 : HbBuf0 (F := F) c hbM0_0) : ℕ → List (View.Piece (Elt F) S36x512 .f32)
  | 0 => []
  | k + 1 => if h : k < k0_t1_loop.trips then (trip c t arg1 harg1 arg3 harg3 arg4 harg4 arg5 harg5 arg6 harg6 arg7 harg7 arg8 harg8 x0 x1 x2 x3 fh0 ⟨k, h⟩).1.1 ++ pb c t arg1 harg1 arg3 harg3 arg4 harg4 arg5 harg5 arg6 harg6 arg7 harg7 arg8 harg8 x0 x1 x2 x3 fh0 k else pb c t arg1 harg1 arg3 harg3 arg4 harg4 arg5 harg5 arg6 harg6 arg7 harg7 arg8 harg8 x0 x1 x2 x3 fh0 k

/-- One more trip. -/
theorem pb_succ (c : Dev nD) (t : Fin cfg0.N) (arg1 : Memref sig .tc .vmem S36x4096 .bf16) (harg1 : arg1.IsWhole) (arg3 : Memref sig .tc .vmem S12x16x512 .i8) (harg3 : arg3.IsWhole) (arg4 : Memref sig .tc .vmem S16x512 .bf16) (harg4 : arg4.IsWhole) (arg5 : Memref sig .tc .vmem S16x512 .bf16) (harg5 : arg5.IsWhole) (arg6 : Memref sig .tc .vmem S36x512 .f32) (harg6 : arg6.IsWhole) (arg7 : Memref sig .tc .vmem S2x4x16x2x128 .bf16) (harg7 : arg7.IsWhole) (arg8 : Memref sig .tc .vmem S2x4x16x2x128 .bf16) (harg8 : arg8.IsWhole)
    (x0 : Vec F S36x4096 .bf16) (x1 : Vec F S12x16x512 .i8) (x2 : Vec F S16x512 .bf16) (x3 : Vec F S16x512 .bf16) (fh0 : HbBuf0 (F := F) c hbM0_0) (k : Fin k0_t1_loop.trips) :
    pb c t arg1 harg1 arg3 harg3 arg4 harg4 arg5 harg5 arg6 harg6 arg7 harg7 arg8 harg8 x0 x1 x2 x3 fh0 (k.val + 1) = (trip c t arg1 harg1 arg3 harg3 arg4 harg4 arg5 harg5 arg6 harg6 arg7 harg7 arg8 harg8 x0 x1 x2 x3 fh0 k).1.1 ++ pb c t arg1 harg1 arg3 harg3 arg4 harg4 arg5 harg5 arg6 harg6 arg7 harg7 arg8 harg8 x0 x1 x2 x3 fh0 k.val := by
  rw [pb.eq_2]; exact dif_pos k.isLt

/-- What the column loop keeps: the output block at the pieces of the trips done over its contents `f6` at entry, the scale scratch
    buffers at anything, the inputs and the ring slot as they are. -/
def inv (c : Dev nD) (t : Fin cfg0.N) (arg1 : Memref sig .tc .vmem S36x4096 .bf16) (harg1 : arg1.IsWhole) (arg3 : Memref sig .tc .vmem S12x16x512 .i8) (harg3 : arg3.IsWhole) (arg4 : Memref sig .tc .vmem S16x512 .bf16) (harg4 : arg4.IsWhole) (arg5 : Memref sig .tc .vmem S16x512 .bf16) (harg5 : arg5.IsWhole) (arg6 : Memref sig .tc .vmem S36x512 .f32) (harg6 : arg6.IsWhole) (arg7 : Memref sig .tc .vmem S2x4x16x2x128 .bf16) (harg7 : arg7.IsWhole) (arg8 : Memref sig .tc .vmem S2x4x16x2x128 .bf16) (harg8 : arg8.IsWhole)
    (x0 : Vec F S36x4096 .bf16) (x1 : Vec F S12x16x512 .i8) (x2 : Vec F S16x512 .bf16) (x3 : Vec F S16x512 .bf16) (fh0 : HbBuf0 (F := F) c hbM0_0) (f6 : HbBuf0 (F := F) c arg6) (k : ℕ) : sProp 𝕄 :=
  iprop((arg1.view.loc (c : Thread nD τ) ↦[arg1.view.set]{fullShare} harg1.unread x0)
    ∗ (arg3.view.loc (c : Thread nD τ) ↦[arg3.view.set]{fullShare} harg3.unread x1)
    ∗ (arg4.view.loc (c : Thread nD τ) ↦[arg4.view.set]{fullShare} harg4.unread x2)
    ∗ (arg5.view.loc (c : Thread nD τ) ↦[arg5.view.set]{fullShare} harg5.unread x3)
    ∗ (∃ f, (arg6.view.loc (c : Thread nD τ) ↦[arg6.view.set]{fullShare} f) ∗ ⌜f = arg6.view.writes (Elt F) f6 (pb c t arg1 harg1 arg3 harg3 arg4 harg4 arg5 harg5 arg6 harg6 arg7 harg7 arg8 harg8 x0 x1 x2 x3 fh0 k)⌝)
    ∗ (∃ f7, arg7.view.loc (c : Thread nD τ) ↦[arg7.view.set]{fullShare} f7)
    ∗ (∃ f8, arg8.view.loc (c : Thread nD τ) ↦[arg8.view.set]{fullShare} f8)
    ∗ slotP0_0 c (Ring.sl 2 t.val) (landed0_0 c fh0 (Ring.sl 2 t.val) (Ring.bk 8 t.val) (rslot0_0 (Ring.sl 2 t.val)).view.junk))

/-- One trip keeps it. -/
theorem inv_step (c : Dev nD) (t : Fin cfg0.N) (arg1 : Memref sig .tc .vmem S36x4096 .bf16) (harg1 : arg1.IsWhole) (arg3 : Memref sig .tc .vmem S12x16x512 .i8) (harg3 : arg3.IsWhole) (arg4 : Memref sig .tc .vmem S16x512 .bf16) (harg4 : arg4.IsWhole) (arg5 : Memref sig .tc .vmem S16x512 .bf16) (harg5 : arg5.IsWhole) (arg6 : Memref sig .tc .vmem S36x512 .f32) (harg6 : arg6.IsWhole) (arg7 : Memref sig .tc .vmem S2x4x16x2x128 .bf16) (harg7 : arg7.IsWhole) (arg8 : Memref sig .tc .vmem S2x4x16x2x128 .bf16) (harg8 : arg8.IsWhole)
    (x0 : Vec F S36x4096 .bf16) (x1 : Vec F S12x16x512 .i8) (x2 : Vec F S16x512 .bf16) (x3 : Vec F S16x512 .bf16) (fh0 : HbBuf0 (F := F) c hbM0_0) (f6 : HbBuf0 (F := F) c arg6) (arg0 : BitVec 32) (k : Fin k0_t1_loop.trips) (acc : Unit) :
    inv c t arg1 harg1 arg3 harg3 arg4 harg4 arg5 harg5 arg6 harg6 arg7 harg7 arg8 harg8 x0 x1 x2 x3 fh0 f6 k.val
      ⊢ wp frame (wpE (defs₀ (F := F)) Variants.none c none) Set.univ
          (k0_t1_body (grid0.coords t) arg1 harg1 (Memref.whole main_v0) (Memref.isWhole_whole _) arg3 harg3 arg4 harg4 arg5 harg5 arg6 harg6 arg7 harg7 arg8 harg8 scM0_2 (Memref.isWhole_whole _) cc0_scratch3 arg0 k acc)
          fun _ => inv c t arg1 harg1 arg3 harg3 arg4 harg4 arg5 harg5 arg6 harg6 arg7 harg7 arg8 harg8 x0 x1 x2 x3 fh0 f6 (k.val + 1) := by
  unfold inv
  rw [pb_succ]
  iintro ⟨H1, H3, H4, H5, ⟨%g6, H6, %h6⟩, ⟨%f7, H7⟩, ⟨%f8, H8⟩, HS⟩
  subst h6
  iapply (wp_wand_r frame (wpE (defs₀ (F := F)) Variants.none c none) Set.univ)
  isplitl [H1 H3 H4 H5 H6 H7 H8 HS]
  · iapply ((trip c t arg1 harg1 arg3 harg3 arg4 harg4 arg5 harg5 arg6 harg6 arg7 harg7 arg8 harg8 x0 x1 x2 x3 fh0 k).2 arg0 acc _ f7 f8)
    unfold Trip
    isplitl [H1]; · iexact H1
    isplitl [H3]; · iexact H3
    isplitl [H4]; · iexact H4
    isplitl [H5]; · iexact H5
    isplitl [H6]; · iexact H6
    isplitl [H7]; · iexact H7
    isplitl [H8]; · iexact H8
    iexact HS
  unfold Trip
  iintro %a
  iintro ⟨H1, H3, H4, H5, H6, H7, H8, HS⟩
  isplitl [H1]; · iexact H1
  isplitl [H3]; · iexact H3
  isplitl [H4]; · iexact H4
  isplitl [H5]; · iexact H5
  isplitl [H6]
  · iexists _; isplitl [H6]; · iexact H6
    ipureintro; rw [View.writes_append]
  isplitl [H7]; · iexists _; iexact H7
  isplitl [H8]; · iexists _; iexact H8
  iexact HS

/-- The loop goes by it. -/
@[sl_loop, reducible] def loopInv_k0_t1 (c : Dev nD) (t : Fin cfg0.N) (arg1 : Memref sig .tc .vmem S36x4096 .bf16) (harg1 : arg1.IsWhole) (arg3 : Memref sig .tc .vmem S12x16x512 .i8) (harg3 : arg3.IsWhole) (arg4 : Memref sig .tc .vmem S16x512 .bf16) (harg4 : arg4.IsWhole) (arg5 : Memref sig .tc .vmem S16x512 .bf16) (harg5 : arg5.IsWhole) (arg6 : Memref sig .tc .vmem S36x512 .f32) (harg6 : arg6.IsWhole) (arg7 : Memref sig .tc .vmem S2x4x16x2x128 .bf16) (harg7 : arg7.IsWhole) (arg8 : Memref sig .tc .vmem S2x4x16x2x128 .bf16) (harg8 : arg8.IsWhole)
    (x0 : Vec F S36x4096 .bf16) (x1 : Vec F S12x16x512 .i8) (x2 : Vec F S16x512 .bf16) (x3 : Vec F S16x512 .bf16) (fh0 : HbBuf0 (F := F) c hbM0_0) (f6 : HbBuf0 (F := F) c arg6) (arg0 : BitVec 32) :
    Gen.LoopInvTy_k0_t1 (F := F) Unit ℕ (Pipeline.UD sig nD τ) ℕ Variants.none c none Set.univ (grid0.coords t) arg1 harg1 (Memref.whole main_v0) (Memref.isWhole_whole _) arg3 harg3 arg4 harg4 arg5 harg5 arg6 harg6 arg7 harg7 arg8 harg8 scM0_2 (Memref.isWhole_whole _) cc0_scratch3 arg0 where
  inv k acc := inv c t arg1 harg1 arg3 harg3 arg4 harg4 arg5 harg5 arg6 harg6 arg7 harg7 arg8 harg8 x0 x1 x2 x3 fh0 f6 k
  step k acc := inv_step c t arg1 harg1 arg3 harg3 arg4 harg4 arg5 harg5 arg6 harg6 arg7 harg7 arg8 harg8 x0 x1 x2 x3 fh0 f6 arg0 k acc

end Cert.ProjIdeal.Rg

end
-- ==== Proof.Proj.Ideal.TripVal.lean ====
module

public import proofs.«01_k».proof.Proof.Ideal.TripVal
public import proofs.«01_k».proof.Proof.Proj.Ideal.Loop

@[expose] public section

set_option maxRecDepth 16384

noncomputable section

/-! # A trip of the narrower product

Its body is the wide product's, so what it stores is the same expression of its loads; only the slot it reads is its own. -/

namespace Cert.ProjIdeal.Rg

open Cert.ProjIdeal Cert.ProjIdeal.Gen
open Cert.Q4K
open Cert.KernelIdeal.Rg (gTrip gPieces gScaled gSubS gSubM gWord wLoad dLoad scrLoad actLoad gTrip_value col)
open Idealize.ShloMosaic Idealize.ShloMosaic.TcCoe Idealize.ShloMosaic.Tactic

/-- The weight bytes half `h` reads of the slot. -/
def slotLoad (c : Dev nD) (t : Fin cfg0.N) (fh0 : HbBuf0 (F := Ideal) c hbM0_0) (k : Fin k0_t1_loop.trips) (h : Fin 2) : Vec Ideal S1x2048x128 .i8 :=
  View.readAt (Elt Ideal) scM0_2.view (Rect.unit (s := S2x8192x128) (k0_off20 (grid0.coords t) k (BitVec.ofNat 32 (128 * h.val))) S1x2048x128.size (k0_off20_inb (grid0.coords t) k h)).toLoadRect
    ((rslot0_0 (Ring.sl 2 t.val)).view.writes (Elt Ideal) (rslot0_0 (Ring.sl 2 t.val)).view.junk
      [⟨Rect.whole S8192x128, ReadAs.same.apply (View.read (Elt Ideal) (srcB0_0 (Ring.bk 8 t.val)).view fh0)⟩])

/-- The slot's bytes: the rows of the block of weights the step has waited for. -/
theorem slotLoad_apply (c : Dev nD) (t : Fin cfg0.N) (fh0 : HbBuf0 (F := Ideal) c hbM0_0) (k : Fin k0_t1_loop.trips) (h : Fin 2) (r : Fin 2048) (i : Fin 128) :
    slotLoad c t fh0 k h (ix3 0 r i)
      = (srcB0_0 (Ring.bk 8 t.val)).view.read (Elt Ideal) fh0 (ix2 ⟨4096 * k.val + 2048 * h.val + r.val, by have : k.val < 2 := k.isLt; omega⟩ i) := by
  have hw := congrFun (View.read_writes_whole (Val := Elt Ideal) (rslot0_0 (Ring.sl 2 t.val)).view (rslot0_0 (Ring.sl 2 t.val)).view.junk
    (ReadAs.same.apply ((srcB0_0 (Ring.bk 8 t.val)).view.read (Elt Ideal) fh0))) (ix2 ⟨4096 * k.val + 2048 * h.val + r.val, by have : k.val < 2 := k.isLt; omega⟩ i)
  refine Eq.trans ?_ hw
  unfold slotLoad
  refine congrArg (scM0_2.view.read (Elt Ideal) ((rslot0_0 (Ring.sl 2 t.val)).view.writes (Elt Ideal) (rslot0_0 (Ring.sl 2 t.val)).view.junk
    [⟨Rect.whole S8192x128, ReadAs.same.apply (View.read (Elt Ideal) (srcB0_0 (Ring.bk 8 t.val)).view fh0)⟩])) ?_
  refine Eq.trans ?_ (congrArg (Rect.unit (s := S2x8192x128) ![(Ring.sl 2 t.val).val, 0, 0] S1x8192x128.size (inb_slot0_0 _)).emb
    (Shape.reshapeEquiv_cons_one squeezes_S1x8192x128_S8192x128.numel_eq (ix2 ⟨4096 * k.val + 2048 * h.val + r.val, by have : k.val < 2 := k.isLt; omega⟩ i)).symm)
  funext a
  refine Fin.ext ?_
  refine (congrArg (· + 1 * _) (congrFun (coff0_0_10 t k h) a)).trans ?_
  fin_cases a
  · show (Ring.sl 2 t.val).val + 1 * 0 = (Ring.sl 2 t.val).val + 1 * 0; rfl
  · show 4096 * k.val + 2048 * h.val + 1 * r.val = 0 + 1 * (4096 * k.val + 2048 * h.val + r.val); omega
  · show 0 + 1 * i.val = 0 + 1 * i.val; rfl

section Trip
variable (c : Dev nD) (t : Fin cfg0.N) (arg1 : Memref sig .tc .vmem S36x4096 .bf16) (harg1 : arg1.IsWhole) (arg3 : Memref sig .tc .vmem S12x16x512 .i8) (harg3 : arg3.IsWhole) (arg4 : Memref sig .tc .vmem S16x512 .bf16) (harg4 : arg4.IsWhole) (arg5 : Memref sig .tc .vmem S16x512 .bf16) (harg5 : arg5.IsWhole) (arg6 : Memref sig .tc .vmem S36x512 .f32) (harg6 : arg6.IsWhole) (arg7 : Memref sig .tc .vmem S2x4x16x2x128 .bf16) (harg7 : arg7.IsWhole) (arg8 : Memref sig .tc .vmem S2x4x16x2x128 .bf16) (harg8 : arg8.IsWhole)
    (x0 : Vec Ideal S36x4096 .bf16) (x1 : Vec Ideal S12x16x512 .i8) (x2 : Vec Ideal S16x512 .bf16) (x3 : Vec Ideal S16x512 .bf16) (fh0 : HbBuf0 (F := Ideal) c hbM0_0) (k : Fin k0_t1_loop.trips)

/-- The trip's one store: the summed products, at the trip's 256 columns. -/
theorem trip_pieces :
    (trip (F := Ideal) c t arg1 harg1 arg3 harg3 arg4 harg4 arg5 harg5 arg6 harg6 arg7 harg7 arg8 harg8 x0 x1 x2 x3 fh0 k).1.1
      = [⟨Rect.unit (s := S36x512) (k0_off21 k) S36x256.size (k0_off21_inb k),
          gTrip (actLoad arg1 harg1 x0) (slotLoad c t fh0 k)
            (scrLoad arg7 harg7 (trip (F := Ideal) c t arg1 harg1 arg3 harg3 arg4 harg4 arg5 harg5 arg6 harg6 arg7 harg7 arg8 harg8 x0 x1 x2 x3 fh0 k).1.2.1)
            (scrLoad arg8 harg8 (trip (F := Ideal) c t arg1 harg1 arg3 harg3 arg4 harg4 arg5 harg5 arg6 harg6 arg7 harg7 arg8 harg8 x0 x1 x2 x3 fh0 k).1.2.2)⟩] := by
  unfold trip
  sl_kernel_rfl

/-- What the trip leaves in the first scale buffer. -/
theorem trip_scale :
    (trip (F := Ideal) c t arg1 harg1 arg3 harg3 arg4 harg4 arg5 harg5 arg6 harg6 arg7 harg7 arg8 harg8 x0 x1 x2 x3 fh0 k).1.2.1
      = View.canon (gPieces fun h j => gScaled (gSubS (fun i => gWord (wLoad arg3 harg3 x1 k h i)) j) (dLoad arg4 harg4 x2 k h)) := by
  unfold trip
  sl_kernel_rfl

/-- What the trip leaves in the second scale buffer. -/
theorem trip_offset :
    (trip (F := Ideal) c t arg1 harg1 arg3 harg3 arg4 harg4 arg5 harg5 arg6 harg6 arg7 harg7 arg8 harg8 x0 x1 x2 x3 fh0 k).1.2.2
      = View.canon (gPieces fun h j => gScaled (gSubM (fun i => gWord (wLoad arg3 harg3 x1 k h i)) j) (dLoad arg5 harg5 x3 k h)) := by
  unfold trip
  sl_kernel_rfl

/-- What a trip stores at a row and column: the column's product with the row. -/
theorem trip_value (bb : Fin 36) (h : Fin 2) (l : Fin 128) :
    gTrip (F := Ideal) (actLoad arg1 harg1 x0) (slotLoad c t fh0 k)
        (scrLoad arg7 harg7 (trip (F := Ideal) c t arg1 harg1 arg3 harg3 arg4 harg4 arg5 harg5 arg6 harg6 arg7 harg7 arg8 harg8 x0 x1 x2 x3 fh0 k).1.2.1)
        (scrLoad arg8 harg8 (trip (F := Ideal) c t arg1 harg1 arg3 harg3 arg4 harg4 arg5 harg5 arg6 harg6 arg7 harg7 arg8 harg8 x0 x1 x2 x3 fh0 k).1.2.2)
        (ix2 bb ⟨128 * h.val + l.val, by omega⟩)
      = colValue 16 (fun i => x0 (ix2 bb i))
          (fun s i => (srcB0_0 (Ring.bk 8 t.val)).view.read (Elt Ideal) fh0 (ix2 ⟨16 * (col k h l).val + s.val, by omega⟩ i))
          (fun i s => x1 (ix3 i s (col k h l))) (fun s => x2 (ix2 s (col k h l))) (fun s => x3 (ix2 s (col k h l))) := by
  rw [trip_scale, trip_offset]
  exact gTrip_value arg1 harg1 arg3 harg3 arg4 harg4 arg5 harg5 arg7 harg7 arg8 harg8 x0 x1 x2 x3 (slotLoad c t fh0 k)
    (fun r i => (srcB0_0 (Ring.bk 8 t.val)).view.read (Elt Ideal) fh0 (ix2 r i)) k (slotLoad_apply c t fh0 k) bb h l

end Trip

end Cert.ProjIdeal.Rg

end
-- ==== Proof.Proj.Ideal.Run.lean ====
module

public import proofs.«01_k».proof.Proof.Proj.Ideal.Loop

@[expose] public section

set_option maxRecDepth 16384

noncomputable section

namespace Cert.ProjIdeal.Rg

open Cert.ProjIdeal Cert.ProjIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

set_option maxHeartbeats 1000000 in
/-- The first grid point: the body starts the first two blocks, waits for the first and leaves the second in flight.
    From the inputs at their contents, everything else at anything, it leaves the output block at the pieces of the two trips. -/
theorem kernelRun0_A (c : Dev nD) (t : Fin cfg0.N) (arg1 : Memref sig .tc .vmem S36x4096 .bf16) (harg1 : arg1.IsWhole) (arg3 : Memref sig .tc .vmem S12x16x512 .i8) (harg3 : arg3.IsWhole) (arg4 : Memref sig .tc .vmem S16x512 .bf16) (harg4 : arg4.IsWhole) (arg5 : Memref sig .tc .vmem S16x512 .bf16) (harg5 : arg5.IsWhole) (arg6 : Memref sig .tc .vmem S36x512 .f32) (harg6 : arg6.IsWhole) (arg7 : Memref sig .tc .vmem S2x4x16x2x128 .bf16) (harg7 : arg7.IsWhole) (arg8 : Memref sig .tc .vmem S2x4x16x2x128 .bf16) (harg8 : arg8.IsWhole) (hc0 : cond0_0 (grid0.coords t)) (hc1 : cond0_1 (grid0.coords t))
    (x0 : Vec F S36x4096 .bf16) (x1 : Vec F S12x16x512 .i8) (x2 : Vec F S16x512 .bf16) (x3 : Vec F S16x512 .bf16) (fh0 : HbBuf0 (F := F) c hbM0_0) :
    ∀ (W : Waits sig Unit) (K : PUnit → sProp 𝕄),
        iprop(owns (c : Thread nD τ) arg1 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ (∃ d, owns (c : Thread nD τ) arg7 fullShare d) ∗ (∃ d, owns (c : Thread nD τ) arg8 fullShare d) ∗ Ring.free (cellP0_0 c) (slotW0_0 c fh0) (Ring.sl 2 t.val) ∗ Ring.free (cellP0_0 c) (slotW0_0 c fh0) (Ring.sl 2 (t.val + 1)) ∗ owes (c : Thread nD τ) 0 W
            ∗ (iprop(owns (c : Thread nD τ) arg1 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f (pb c t arg1 harg1 arg3 harg3 arg4 harg4 arg5 harg5 arg6 harg6 arg7 harg7 arg8 harg8 x0 x1 x2 x3 fh0 k0_t1_loop.trips)) ∗ (∃ d, owns (c : Thread nD τ) arg7 fullShare d) ∗ (∃ d, owns (c : Thread nD τ) arg8 fullShare d) ∗ Ring.inflight (flightW0_0 c fh0) (Ring.sl 2 (t.val + 1)) (Ring.bk 8 (t.val + 1)) ∗ Ring.kept (cellP0_0 c) (slotW0_0 c fh0) (landed0_0 c fh0) (Ring.sl 2 t.val) (Ring.bk 8 t.val) ∗ (∃ W', owes (c : Thread nD τ) 0 W')) -∗ K ⟨⟩))
          ⊢ wp frame (wpE (defs₀ (F := F)) Variants.none c none) Set.univ (cc0__q4k_body (grid0.coords t) arg1 harg1 (Memref.whole main_v0) (Memref.isWhole_whole _) arg3 harg3 arg4 harg4 arg5 harg5 arg6 harg6 arg7 harg7 arg8 harg8 scM0_2 (Memref.isWhole_whole _) cc0_scratch3) K := by
  intro W K
  haveI : Fact (cond0_0 (grid0.coords t)) := ⟨hc0⟩
  haveI : Fact (cond0_1 (grid0.coords t)) := ⟨hc1⟩
  simp only [cc0__q4k_body_eq_skeleton]; unfold cc0__q4k_body_skel
  have hcanon0 := canon0_0_1 t hc0 hc1
  have hcanon1 := canon0_0_2 t hc0 hc1
  have hcanon2 := canon0_0_3 t hc0 hc1
  unfold owns Ring.free Ring.inflight Ring.kept
  iintro ⟨⟨%f0, %hf0, H0⟩, ⟨%f1, %hf1, H1⟩, ⟨%f2, %hf2, H2⟩, ⟨%f3, %hf3, H3⟩, ⟨%d4, %f4, -, H4⟩, ⟨%ds0, %fs0, -, HS0⟩, ⟨%ds1, %fs1, -, HS1⟩, ⟨Hc0_0_0, ⟨%fs0_0_0, Hs0_0_0, Hw0_0_0⟩⟩, ⟨Hc0_0_1, ⟨%fs0_0_1, Hs0_0_1, Hw0_0_1⟩⟩, HW, Hk⟩
  ihave Hsp0_0_0 := (src0_0_split c fh0 (Ring.sl 2 t.val) (Ring.bk 8 t.val)).1 $$ Hw0_0_0
  icases Hsp0_0_0 with ⟨Hh0_0_0, Hr0_0_0⟩
  ihave Hsp0_0_1 := (src0_0_split c fh0 (Ring.sl 2 (t.val + 1)) (Ring.bk 8 (t.val + 1))).1 $$ Hw0_0_1
  icases Hsp0_0_1 with ⟨Hh0_0_1, Hr0_0_1⟩
  obtain rfl := harg1.eq_unread hf0; obtain rfl := harg3.eq_unread hf1; obtain rfl := harg4.eq_unread hf2; obtain rfl := harg5.eq_unread hf3
  sl_exec (disch := first | sl_exact hc0 | sl_exact hc1)
  sl_step
  iapply Hk
  isplitl [H0]
  · iexists _; isplitr; · ipureintro; exact harg1.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]; · iexists _; iexact H4
  isplitl [HS0]
  · iexists _, _; isplitr; swap; · iexact HS0
    ipureintro; rfl
  isplitl [HS1]
  · iexists _, _; isplitr; swap; · iexact HS1
    ipureintro; rfl
  isplitl [Hc0_0_1 Hr0_0_1]
  · iexists _; isplitl [Hc0_0_1]; · iexact Hc0_0_1
    iexact Hr0_0_1
  isplitl [Hc0_0_0 Hs0_0_0 Hh0_0_0 Hr0_0_0]
  · isplitl [Hc0_0_0]; · iexact Hc0_0_0
    iexists _; isplitl [Hs0_0_0]; · iexact Hs0_0_0
    iapply (src0_0_split c fh0 (Ring.sl 2 t.val) (Ring.bk 8 t.val)).2; isplitl [Hh0_0_0]; · iexact Hh0_0_0
    iexact Hr0_0_0
  iexists _; iexact HW

set_option maxHeartbeats 1000000 in
/-- A middle grid point: the body starts the next block and waits for its own.
    From the inputs at their contents, everything else at anything, it leaves the output block at the pieces of the two trips. -/
theorem kernelRun0_B (c : Dev nD) (t : Fin cfg0.N) (arg1 : Memref sig .tc .vmem S36x4096 .bf16) (harg1 : arg1.IsWhole) (arg3 : Memref sig .tc .vmem S12x16x512 .i8) (harg3 : arg3.IsWhole) (arg4 : Memref sig .tc .vmem S16x512 .bf16) (harg4 : arg4.IsWhole) (arg5 : Memref sig .tc .vmem S16x512 .bf16) (harg5 : arg5.IsWhole) (arg6 : Memref sig .tc .vmem S36x512 .f32) (harg6 : arg6.IsWhole) (arg7 : Memref sig .tc .vmem S2x4x16x2x128 .bf16) (harg7 : arg7.IsWhole) (arg8 : Memref sig .tc .vmem S2x4x16x2x128 .bf16) (harg8 : arg8.IsWhole) (hc0 : ¬cond0_0 (grid0.coords t)) (hc1 : cond0_1 (grid0.coords t))
    (x0 : Vec F S36x4096 .bf16) (x1 : Vec F S12x16x512 .i8) (x2 : Vec F S16x512 .bf16) (x3 : Vec F S16x512 .bf16) (fh0 : HbBuf0 (F := F) c hbM0_0) :
    ∀ (W : Waits sig Unit) (K : PUnit → sProp 𝕄),
        iprop(owns (c : Thread nD τ) arg1 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ (∃ d, owns (c : Thread nD τ) arg7 fullShare d) ∗ (∃ d, owns (c : Thread nD τ) arg8 fullShare d) ∗ Ring.inflight (flightW0_0 c fh0) (Ring.sl 2 t.val) (Ring.bk 8 t.val) ∗ Ring.kept (cellP0_0 c) (slotW0_0 c fh0) (landed0_0 c fh0) (Ring.sl 2 (t.val + 1)) (Ring.bk 8 (t.val - 1)) ∗ owes (c : Thread nD τ) 0 W
            ∗ (iprop(owns (c : Thread nD τ) arg1 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f (pb c t arg1 harg1 arg3 harg3 arg4 harg4 arg5 harg5 arg6 harg6 arg7 harg7 arg8 harg8 x0 x1 x2 x3 fh0 k0_t1_loop.trips)) ∗ (∃ d, owns (c : Thread nD τ) arg7 fullShare d) ∗ (∃ d, owns (c : Thread nD τ) arg8 fullShare d) ∗ Ring.inflight (flightW0_0 c fh0) (Ring.sl 2 (t.val + 1)) (Ring.bk 8 (t.val + 1)) ∗ Ring.kept (cellP0_0 c) (slotW0_0 c fh0) (landed0_0 c fh0) (Ring.sl 2 t.val) (Ring.bk 8 t.val) ∗ (∃ W', owes (c : Thread nD τ) 0 W')) -∗ K ⟨⟩))
          ⊢ wp frame (wpE (defs₀ (F := F)) Variants.none c none) Set.univ (cc0__q4k_body (grid0.coords t) arg1 harg1 (Memref.whole main_v0) (Memref.isWhole_whole _) arg3 harg3 arg4 harg4 arg5 harg5 arg6 harg6 arg7 harg7 arg8 harg8 scM0_2 (Memref.isWhole_whole _) cc0_scratch3) K := by
  intro W K
  haveI : Fact (¬cond0_0 (grid0.coords t)) := ⟨hc0⟩
  haveI : Fact (cond0_1 (grid0.coords t)) := ⟨hc1⟩
  simp only [cc0__q4k_body_eq_skeleton]; unfold cc0__q4k_body_skel
  unfold owns Ring.inflight Ring.kept
  iintro ⟨⟨%f0, %hf0, H0⟩, ⟨%f1, %hf1, H1⟩, ⟨%f2, %hf2, H2⟩, ⟨%f3, %hf3, H3⟩, ⟨%d4, %f4, -, H4⟩, ⟨%ds0, %fs0, -, HS0⟩, ⟨%ds1, %fs1, -, HS1⟩, ⟨%ff0_0, Hf0_0, Hrf0_0⟩, ⟨Hc0_0_1, ⟨%fs0_0_1, Hs0_0_1, Hw0_0_1⟩⟩, HW, Hk⟩
  ihave Hsp0_0_1 := (src0_0_split c fh0 (Ring.sl 2 (t.val + 1)) (Ring.bk 8 (t.val + 1))).1 $$ Hw0_0_1
  icases Hsp0_0_1 with ⟨Hh0_0_1, Hr0_0_1⟩
  obtain rfl := harg1.eq_unread hf0; obtain rfl := harg3.eq_unread hf1; obtain rfl := harg4.eq_unread hf2; obtain rfl := harg5.eq_unread hf3
  sl_exec (disch := first | sl_exact hc0 | sl_exact hc1)
  sl_step
  iapply Hk
  isplitl [H0]
  · iexists _; isplitr; · ipureintro; exact harg1.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]; · iexists _; iexact H4
  isplitl [HS0]
  · iexists _, _; isplitr; swap; · iexact HS0
    ipureintro; rfl
  isplitl [HS1]
  · iexists _, _; isplitr; swap; · iexact HS1
    ipureintro; rfl
  isplitl [Hc0_0_1 Hr0_0_1]
  · iexists _; isplitl [Hc0_0_1]; · iexact Hc0_0_1
    iexact Hr0_0_1
  isplitl [Hf0_0 Hf0_0_dst Hf0_0_src Hrf0_0]
  · isplitl [Hf0_0]; · iexact Hf0_0
    iexists _; isplitl [Hf0_0_dst]; · iexact Hf0_0_dst
    iapply (src0_0_split c fh0 (Ring.sl 2 t.val) (Ring.bk 8 t.val)).2; isplitl [Hf0_0_src]; · iexact Hf0_0_src
    iexact Hrf0_0
  iexists _; iexact HW

set_option maxHeartbeats 1000000 in
/-- The last grid point: the body waits for its own block, and starts none.
    From the inputs at their contents, everything else at anything, it leaves the output block at the pieces of the two trips. -/
theorem kernelRun0_C (c : Dev nD) (t : Fin cfg0.N) (arg1 : Memref sig .tc .vmem S36x4096 .bf16) (harg1 : arg1.IsWhole) (arg3 : Memref sig .tc .vmem S12x16x512 .i8) (harg3 : arg3.IsWhole) (arg4 : Memref sig .tc .vmem S16x512 .bf16) (harg4 : arg4.IsWhole) (arg5 : Memref sig .tc .vmem S16x512 .bf16) (harg5 : arg5.IsWhole) (arg6 : Memref sig .tc .vmem S36x512 .f32) (harg6 : arg6.IsWhole) (arg7 : Memref sig .tc .vmem S2x4x16x2x128 .bf16) (harg7 : arg7.IsWhole) (arg8 : Memref sig .tc .vmem S2x4x16x2x128 .bf16) (harg8 : arg8.IsWhole) (hc0 : ¬cond0_0 (grid0.coords t)) (hc1 : ¬cond0_1 (grid0.coords t))
    (x0 : Vec F S36x4096 .bf16) (x1 : Vec F S12x16x512 .i8) (x2 : Vec F S16x512 .bf16) (x3 : Vec F S16x512 .bf16) (fh0 : HbBuf0 (F := F) c hbM0_0) :
    ∀ (W : Waits sig Unit) (K : PUnit → sProp 𝕄),
        iprop(owns (c : Thread nD τ) arg1 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ (∃ d, owns (c : Thread nD τ) arg7 fullShare d) ∗ (∃ d, owns (c : Thread nD τ) arg8 fullShare d) ∗ Ring.inflight (flightW0_0 c fh0) (Ring.sl 2 t.val) (Ring.bk 8 t.val) ∗ owes (c : Thread nD τ) 0 W
            ∗ (iprop(owns (c : Thread nD τ) arg1 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f (pb c t arg1 harg1 arg3 harg3 arg4 harg4 arg5 harg5 arg6 harg6 arg7 harg7 arg8 harg8 x0 x1 x2 x3 fh0 k0_t1_loop.trips)) ∗ (∃ d, owns (c : Thread nD τ) arg7 fullShare d) ∗ (∃ d, owns (c : Thread nD τ) arg8 fullShare d) ∗ Ring.kept (cellP0_0 c) (slotW0_0 c fh0) (landed0_0 c fh0) (Ring.sl 2 t.val) (Ring.bk 8 t.val) ∗ (∃ W', owes (c : Thread nD τ) 0 W')) -∗ K ⟨⟩))
          ⊢ wp frame (wpE (defs₀ (F := F)) Variants.none c none) Set.univ (cc0__q4k_body (grid0.coords t) arg1 harg1 (Memref.whole main_v0) (Memref.isWhole_whole _) arg3 harg3 arg4 harg4 arg5 harg5 arg6 harg6 arg7 harg7 arg8 harg8 scM0_2 (Memref.isWhole_whole _) cc0_scratch3) K := by
  intro W K
  haveI : Fact (¬cond0_0 (grid0.coords t)) := ⟨hc0⟩
  haveI : Fact (¬cond0_1 (grid0.coords t)) := ⟨hc1⟩
  simp only [cc0__q4k_body_eq_skeleton]; unfold cc0__q4k_body_skel
  unfold owns Ring.inflight Ring.kept
  iintro ⟨⟨%f0, %hf0, H0⟩, ⟨%f1, %hf1, H1⟩, ⟨%f2, %hf2, H2⟩, ⟨%f3, %hf3, H3⟩, ⟨%d4, %f4, -, H4⟩, ⟨%ds0, %fs0, -, HS0⟩, ⟨%ds1, %fs1, -, HS1⟩, ⟨%ff0_0, Hf0_0, Hrf0_0⟩, HW, Hk⟩
  obtain rfl := harg1.eq_unread hf0; obtain rfl := harg3.eq_unread hf1; obtain rfl := harg4.eq_unread hf2; obtain rfl := harg5.eq_unread hf3
  sl_exec (disch := first | sl_exact hc0 | sl_exact hc1)
  sl_step
  iapply Hk
  isplitl [H0]
  · iexists _; isplitr; · ipureintro; exact harg1.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]; · iexists _; iexact H4
  isplitl [HS0]
  · iexists _, _; isplitr; swap; · iexact HS0
    ipureintro; rfl
  isplitl [HS1]
  · iexists _, _; isplitr; swap; · iexact HS1
    ipureintro; rfl
  isplitl [Hf0_0 Hf0_0_dst Hf0_0_src Hrf0_0]
  · isplitl [Hf0_0]; · iexact Hf0_0
    iexists _; isplitl [Hf0_0_dst]; · iexact Hf0_0_dst
    iapply (src0_0_split c fh0 (Ring.sl 2 t.val) (Ring.bk 8 t.val)).2; isplitl [Hf0_0_src]; · iexact Hf0_0_src
    iexact Hrf0_0
  iexists _; iexact HW

end Cert.ProjIdeal.Rg

end
-- ==== Proof.Proj.Ideal.Frame.lean ====
module

public import proofs.«01_k».proof.Proof.Proj.Ideal.Run
public import Idealize.ShloMosaic.Lib.Claim

@[expose] public section

set_option maxRecDepth 16384

noncomputable section

namespace Cert.ProjIdeal.Rg

open Cert.ProjIdeal Cert.ProjIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

open Idealize.ShloMosaic.Rounds
open Idealize.ShloMosaic.Pipeline (Dat Cfg Window BodyObligation cellOf)

local notation "𝕄" => MT nD τ sig Unit (Elt F) ℕ (Pipeline.UD sig nD τ) ℕ

variable (m : (ℓ : Loc nD τ sig) → Buf (Elt F) ℓ) (ρ : Dev nD → PrngReg)

/-- The pieces of the two trips tile the output block. -/
theorem cover0_4 (c : Dev nD) (t : Fin cfg0.N) (arg1 : Memref sig .tc .vmem S36x4096 .bf16) (harg1 : arg1.IsWhole) (arg3 : Memref sig .tc .vmem S12x16x512 .i8) (harg3 : arg3.IsWhole) (arg4 : Memref sig .tc .vmem S16x512 .bf16) (harg4 : arg4.IsWhole) (arg5 : Memref sig .tc .vmem S16x512 .bf16) (harg5 : arg5.IsWhole) (arg6 : Memref sig .tc .vmem S36x512 .f32) (harg6 : arg6.IsWhole) (arg7 : Memref sig .tc .vmem S2x4x16x2x128 .bf16) (harg7 : arg7.IsWhole) (arg8 : Memref sig .tc .vmem S2x4x16x2x128 .bf16) (harg8 : arg8.IsWhole)
    (x0 : Vec F S36x4096 .bf16) (x1 : Vec F S12x16x512 .i8) (x2 : Vec F S16x512 .bf16) (x3 : Vec F S16x512 .bf16) (fh0 : HbBuf0 (F := F) c hbM0_0) (y : S36x512.Idx) :
    ∃ pc ∈ pb c t arg1 harg1 arg3 harg3 arg4 harg4 arg5 harg5 arg6 harg6 arg7 harg7 arg8 harg8 x0 x1 x2 x3 fh0 k0_t1_loop.trips, y ∈ pc.1.set :=
  View.cover_of_tiledL (pb c t arg1 harg1 arg3 harg3 arg4 harg4 arg5 harg5 arg6 harg6 arg7 harg7 arg8 harg8 x0 x1 x2 x3 fh0 k0_t1_loop.trips) S36x256.size (by sl_kernel_rfl) y

/-- What the body leaves in the output's staging buffer: the two trips' pieces read back over junk. -/
def out0_4 (c : Dev nD) (t : Fin cfg0.N) (arg1 : Memref sig .tc .vmem S36x4096 .bf16) (harg1 : arg1.IsWhole) (arg3 : Memref sig .tc .vmem S12x16x512 .i8) (harg3 : arg3.IsWhole) (arg4 : Memref sig .tc .vmem S16x512 .bf16) (harg4 : arg4.IsWhole) (arg5 : Memref sig .tc .vmem S16x512 .bf16) (harg5 : arg5.IsWhole) (arg6 : Memref sig .tc .vmem S36x512 .f32) (harg6 : arg6.IsWhole) (arg7 : Memref sig .tc .vmem S2x4x16x2x128 .bf16) (harg7 : arg7.IsWhole) (arg8 : Memref sig .tc .vmem S2x4x16x2x128 .bf16) (harg8 : arg8.IsWhole)
    (x0 : Vec F S36x4096 .bf16) (x1 : Vec F S12x16x512 .i8) (x2 : Vec F S16x512 .bf16) (x3 : Vec F S16x512 .bf16) (fh0 : HbBuf0 (F := F) c hbM0_0) : Vec F S36x512 .f32 :=
  VO0_4.read (Elt F) (VO0_4.writes (Elt F) VO0_4.junk (pb c t arg1 harg1 arg3 harg3 arg4 harg4 arg5 harg5 arg6 harg6 arg7 harg7 arg8 harg8 x0 x1 x2 x3 fh0 k0_t1_loop.trips))

/-- What the output's staging buffer holds after the body at point `t`. -/
def outsAt0 (c : Dev nD) (t : Fin cfg0.N) : Vec F S36x512 .f32 :=
  out0_4 c t (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (iblk m c 0 t) (iblk m c 1 t) (iblk m c 2 t) (iblk m c 3 t) (V m c main_v0)

/-! ## The pipeline's proof data -/

/-- The region invariant before point `k`: the generator register at some state, the scratch the run takes whole at anything, and each ring
    before point `k`. -/
def PhiR (c : Dev nD) (k : ℕ) : sProp 𝕄 := iprop((∃ d, owns (c : Thread nD τ) scM0_0 fullShare d) ∗ (∃ d, owns (c : Thread nD τ) scM0_1 fullShare d) ∗ (∃ r, prngReg c r) ∗ ringAt0_0 c (V m c main_v0) k)

/-- The proof data of the one pipeline on core `c`: the arrays as the region finds them (`V`); after the body at
    point `t` each input's buffer at its block and the outputs' at `outsAt0`; the invariant
    (`PhiR`: the ring's `Ring.At` before the point, beside the register and what the body takes whole);
    nothing owed; full shares. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => (outsAt0 m c t)
  Φ t := PhiR m c t.val
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- The invariant at a point's start (the proof data at `t.castSucc`), restated at `t.val`. -/
theorem PhiR_castSucc (c : Dev nD) (t : Fin cfg0.N) : (dats m 0 c).Φ t.castSucc = PhiR m c t.val := by
  dsimp only [dats]; simp only [Fin.coe_castSucc]
/-- The invariant at a point's end (the proof data at `t.succ`), restated at `t.val + 1`. -/
theorem PhiR_succ (c : Dev nD) (t : Fin cfg0.N) : (dats m 0 c).Φ t.succ = PhiR m c (t.val + 1) := by
  dsimp only [dats]; simp only [Fin.val_succ]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = (outsAt0 m c t) := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-! ## The body obligation, at a generic point -/

/-- What the body is called with at point `t` (`BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t))

set_option maxHeartbeats 2400000 in
/-- The body at any point: the inputs' memrefs hold their blocks (`before0_W`); the closed forms say which case the point is in (`by_cases`), an output the case reads before covering holds what the point before left (`before0_W_κ`); so the
    run applies; the invariant (`PhiR`) is rewritten, per case, to the ring pieces the point's role takes (`AtK2_here`, `At₀_eq2'`, …, by the case's step facts `rstepK_R_κ`) and reassembled from what the run hands back (`AtK2_next`, `AtK2_one'`, …; `Ring.with_homes`: no block is held apart); the core's `owes` goes in at whatever the points before recorded and comes back with this point's wait, within the next point's bound (everything). -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [after0_0, after0_1, after0_2, after0_3, after0_4]
  rw [PhiR_castSucc m c t, PhiR_succ m c t]
  unfold Dat.owesAt Pipeline.owesWithin
  rw [show (dats m 0 c).owed t.castSucc = 0 from rfl, show (dats m 0 c).owed t.succ = 0 from rfl]
  unfold PhiR ringAt0_0
  have hgN : grid0.N = 8 := N_0
  have hN : t.val < 8 := lt_of_lt_of_eq t.isLt (show cfg0.N = 8 from N_0)
  by_cases h0 : t.val % 8 = 0
  · by_cases h1 : t.val < 7
    · unfold outsAt0 out0_4
      have hr0 := rstep0_0_A t ((hcond0_0 t).mpr h0) ((hcond0_1 t).mpr h1)
      obtain ⟨hK00, hK10⟩ := hr0
      rw [if_pos hK00, if_neg (show ¬t.val + 1 = 0 by omega)]
      rw [Ring.At₀_eq2' _ _ _ t.val hK00 (by decide : 2 ≤ 8), Ring.AtK2_one' _ _ _ _ _ t.val hK00 (by decide : 1 < 8)]
      iintro ⟨⟨HS0, HS1, Hg, ⟨-, Hfr0_0_0, Hfr0_0_1⟩⟩, ⟨%W, -, HW⟩, ⟨%d0, H0⟩, ⟨%d1, H1⟩, ⟨%d2, H2⟩, ⟨%d3, H3⟩, ⟨%d4, H4⟩⟩
      iapply (kernelRun0_A c t _ _ _ _ _ _ _ _ _ _ _ _ _ _ ((hcond0_0 t).mpr h0) ((hcond0_1 t).mpr h1) (iblk m c 0 t) (iblk m c 1 t) (iblk m c 2 t) (iblk m c 3 t) (V m c main_v0) W _)
      isplitl [H0]; · iexact H0
      isplitl [H1]; · iexact H1
      isplitl [H2]; · iexact H2
      isplitl [H3]; · iexact H3
      isplitl [H4]; · iexists _; iexact H4
      isplitl [HS0]; · iexact HS0
      isplitl [HS1]; · iexact HS1
      isplitl [Hfr0_0_0]; · iexact Hfr0_0_0
      isplitl [Hfr0_0_1]; · iexact Hfr0_0_1
      isplitl [HW]; · iexact HW
      iintro ⟨H0, H1, H2, H3, ⟨%e4, H4⟩, HS0, HS1, Hfl0_0', Hkp0_0', ⟨%W', HW'⟩⟩
      isplitl [HS0 HS1 Hg Hfl0_0' Hkp0_0']
      · isplitl [HS0]; · iexact HS0
        isplitl [HS1]; · iexact HS1
        isplitl [Hg]; · iexact Hg
        iapply Ring.with_homes₀
        isplitl [Hfl0_0']; · iexact Hfl0_0'
        iexact Hkp0_0'
      isplitl [HW']
      · iexists W'; isplitr; · ipureintro; exact fun _ _ => Or.inl trivial
        iexact HW'
      isplitl [H0]; · iexact H0
      isplitl [H1]; · iexact H1
      isplitl [H2]; · iexact H2
      isplitl [H3]; · iexact H3
      unfold owns; iexists _; isplitr
      swap; · iexact H4
      ipureintro; exact View.read_writes_of_cover _ _ _ _ _ (cover0_4 c _ _ _ _ _ _ _ _ _ _ _ _ _ _ _ _ _ _ _ _)
    · exfalso; omega
  · by_cases h1 : t.val < 7
    · unfold outsAt0 out0_4
      have hr0 := rstep0_0_B t (fun h => h0 ((hcond0_0 t).mp h)) ((hcond0_1 t).mpr h1)
      obtain ⟨hK10, hKB0, hKs0⟩ := hr0
      rw [if_neg (show ¬t.val = 0 by omega), if_neg (show ¬t.val + 1 = 0 by omega)]
      rw [Ring.AtK2_here _ _ _ _ _ t.val hK10 hKB0, Ring.AtK2_next _ _ _ _ _ t.val hK10 hKB0]
      iintro ⟨⟨HS0, HS1, Hg, ⟨-, Hfl0_0, Hkp0_0⟩⟩, ⟨%W, -, HW⟩, ⟨%d0, H0⟩, ⟨%d1, H1⟩, ⟨%d2, H2⟩, ⟨%d3, H3⟩, ⟨%d4, H4⟩⟩
      iapply (kernelRun0_B c t _ _ _ _ _ _ _ _ _ _ _ _ _ _ (fun h => h0 ((hcond0_0 t).mp h)) ((hcond0_1 t).mpr h1) (iblk m c 0 t) (iblk m c 1 t) (iblk m c 2 t) (iblk m c 3 t) (V m c main_v0) W _)
      isplitl [H0]; · iexact H0
      isplitl [H1]; · iexact H1
      isplitl [H2]; · iexact H2
      isplitl [H3]; · iexact H3
      isplitl [H4]; · iexists _; iexact H4
      isplitl [HS0]; · iexact HS0
      isplitl [HS1]; · iexact HS1
      isplitl [Hfl0_0]; · iexact Hfl0_0
      isplitl [Hkp0_0]; · iexact Hkp0_0
      isplitl [HW]; · iexact HW
      iintro ⟨H0, H1, H2, H3, ⟨%e4, H4⟩, HS0, HS1, Hfl0_0', Hkp0_0', ⟨%W', HW'⟩⟩
      isplitl [HS0 HS1 Hg Hfl0_0' Hkp0_0']
      · isplitl [HS0]; · iexact HS0
        isplitl [HS1]; · iexact HS1
        isplitl [Hg]; · iexact Hg
        iapply (Ring.with_homes (Idealize.SL.BI.Entails.refl _))
        isplitl [Hfl0_0']; · iexact Hfl0_0'
        iexact Hkp0_0'
      isplitl [HW']
      · iexists W'; isplitr; · ipureintro; exact fun _ _ => Or.inl trivial
        iexact HW'
      isplitl [H0]; · iexact H0
      isplitl [H1]; · iexact H1
      isplitl [H2]; · iexact H2
      isplitl [H3]; · iexact H3
      unfold owns; iexists _; isplitr
      swap; · iexact H4
      ipureintro; exact View.read_writes_of_cover _ _ _ _ _ (cover0_4 c _ _ _ _ _ _ _ _ _ _ _ _ _ _ _ _ _ _ _ _)
    · unfold outsAt0 out0_4
      have hr0 := rstep0_0_C t (fun h => h0 ((hcond0_0 t).mp h)) (fun h => h1 ((hcond0_1 t).mp h))
      obtain ⟨hK10, hKB0, hKs0⟩ := hr0
      rw [if_neg (show ¬t.val = 0 by omega), if_neg (show ¬t.val + 1 = 0 by omega)]
      rw [Ring.AtK2_here_last _ _ _ _ _ t.val hK10 hKB0, Ring.AtK2_next_last _ _ _ _ _ t.val hK10 hKB0]
      iintro ⟨⟨HS0, HS1, Hg, ⟨-, Hfl0_0, Hkp0_0⟩⟩, ⟨%W, -, HW⟩, ⟨%d0, H0⟩, ⟨%d1, H1⟩, ⟨%d2, H2⟩, ⟨%d3, H3⟩, ⟨%d4, H4⟩⟩
      iapply (kernelRun0_C c t _ _ _ _ _ _ _ _ _ _ _ _ _ _ (fun h => h0 ((hcond0_0 t).mp h)) (fun h => h1 ((hcond0_1 t).mp h)) (iblk m c 0 t) (iblk m c 1 t) (iblk m c 2 t) (iblk m c 3 t) (V m c main_v0) W _)
      isplitl [H0]; · iexact H0
      isplitl [H1]; · iexact H1
      isplitl [H2]; · iexact H2
      isplitl [H3]; · iexact H3
      isplitl [H4]; · iexists _; iexact H4
      isplitl [HS0]; · iexact HS0
      isplitl [HS1]; · iexact HS1
      isplitl [Hfl0_0]; · iexact Hfl0_0
      isplitl [HW]; · iexact HW
      iintro ⟨H0, H1, H2, H3, ⟨%e4, H4⟩, HS0, HS1, Hkp0_0', ⟨%W', HW'⟩⟩
      isplitl [HS0 HS1 Hg Hkp0_0 Hkp0_0']
      · isplitl [HS0]; · iexact HS0
        isplitl [HS1]; · iexact HS1
        isplitl [Hg]; · iexact Hg
        iapply (Ring.with_homes (Idealize.SL.BI.Entails.refl _))
        isplitl [Hkp0_0]; · iexact Hkp0_0
        iexact Hkp0_0'
      isplitl [HW']
      · iexists W'; isplitr; · ipureintro; exact fun _ _ => Or.inl trivial
        iexact HW'
      isplitl [H0]; · iexact H0
      isplitl [H1]; · iexact H1
      isplitl [H2]; · iexact H2
      isplitl [H3]; · iexact H3
      unfold owns; iexists _; isplitr
      swap; · iexact H4
      ipureintro; exact View.read_writes_of_cover _ _ _ _ _ (cover0_4 c _ _ _ _ _ _ _ _ _ _ _ _ _ _ _ _ _ _ _ _)

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (`triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands the region (`ΦD`: the scratch, the register, the cells at zero, the HBM operands whole) is the
    invariant before the first point, and the invariant after the last point hands it back. -/
theorem hin (c : Dev nD) : Pipeline.ΦD osem0 spec0 H0 (V m) c ⊢ (dats m 0 c).Φ 0 := by
  rw [PhiD0_eq, show (dats m 0 c).Φ 0 = PhiR m c 0 from rfl]
  unfold PhiR
  iintro ⟨⟨HS0, HS1, HR0_0⟩, Hg, ⟨Hq0, Hq1⟩, Hh0⟩
  isplitl [HS0]; · iexact HS0
  isplitl [HS1]; · iexact HS1
  isplitl [Hg]; · iexact Hg
  iapply (ring0_0_in (F := F) m c)
  isplitl [HR0_0]; · iexact HR0_0
  isplitl [Hq0 Hq1]
  · isplitl [Hq0]; · iexact Hq0
    iexact Hq1
  iexact Hh0
theorem hout (c : Dev nD) : (dats m 0 c).Φ (Fin.last cfg0.N) ⊢ Pipeline.ΦD osem0 spec0 H0 (V m) c := by
  rw [PhiD0_eq, show (dats m 0 c).Φ (Fin.last cfg0.N) = PhiR m c grid0.N from rfl]
  unfold PhiR
  rw [show grid0.N = 8 by rw [N_0]]
  iintro ⟨HS0, HS1, Hg, HR0_0⟩
  ihave HX0_0 := (ring0_0_out (F := F) m c) $$ HR0_0
  icases HX0_0 with ⟨HR0_0, ⟨Hq0, Hq1⟩, Hh0⟩
  isplitl [HS0 HS1 HR0_0]
  · isplitl [HS0]; · iexact HS0
    isplitl [HS1]; · iexact HS1
    iexact HR0_0
  isplitl [Hg]
  · iexact Hg
  isplitl [Hq0 Hq1]
  · isplitl [Hq0]; · iexact Hq0
    iexact Hq1
  iexact Hh0

/-! ## The run and the frame -/

-- `θ_run_frame_dma`'s implicit arguments are found by unifying its conclusion with this one, which takes unfolding plain
-- definitions in a metavariable's type
set_option backward.isDefEq.respectTransparency.types false in
/-- The launch: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame_dma (Q' := _) cfgs (dats m) (0 : Fin 1) launch0 osem0 defs₀ Variants.none ownSemFacts0 H0 H0_sub m ρ main
    (hbody := fun c => (body_obligation m c).loose) (hshare := fun c => (dats m 0 c).share_full fun _ => rfl)
    (howed := fun _ _ => rfl) (V := V m) (hmain := hmain m Variants.none) (hA := A_eq m)
    (hin := hin m) (hout := hout m)

/-- At the compiled mesh, for any values, from any memory with zero counters: every weakly fair execution of @main on the
    TensorCores terminates, and every final state has every array of the pipeline at what the library computes from the
    proof data and every other unscoped buffer as the region found it (`FramePost`). -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ (dats m) (A_eq m) (run_main m ρ)

/-- The frame at any `F`: every run ends, the argument arrays end unchanged and every semaphore counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (unchanged m ρ) ((θ_run defs _ _).mono (fun _ h => h.2) (run_main_quiescent m ρ))

end Cert.ProjIdeal.Rg

end
-- ==== Proof.Proj.Ideal.Value.lean ====
module

public import proofs.«01_k».proof.Proof.Proj.Ideal.TripVal
public import proofs.«01_k».proof.Proof.Proj.Ideal.Frame

@[expose] public section

set_option maxRecDepth 16384

noncomputable section

namespace Cert.ProjIdeal.Rg

open Cert.ProjIdeal Cert.ProjIdeal.Gen
open Cert.Q4K
open Cert.KernelIdeal.Rg (col gTrip actLoad scrLoad)
open Idealize.ShloMosaic Idealize.ShloMosaic.TcCoe Idealize.ShloMosaic.Tactic

/-! ## A grid point's output block -/

section Point
variable (c : Dev nD) (t : Fin cfg0.N) (arg1 : Memref sig .tc .vmem S36x4096 .bf16) (harg1 : arg1.IsWhole) (arg3 : Memref sig .tc .vmem S12x16x512 .i8) (harg3 : arg3.IsWhole) (arg4 : Memref sig .tc .vmem S16x512 .bf16) (harg4 : arg4.IsWhole) (arg5 : Memref sig .tc .vmem S16x512 .bf16) (harg5 : arg5.IsWhole) (arg6 : Memref sig .tc .vmem S36x512 .f32) (harg6 : arg6.IsWhole) (arg7 : Memref sig .tc .vmem S2x4x16x2x128 .bf16) (harg7 : arg7.IsWhole) (arg8 : Memref sig .tc .vmem S2x4x16x2x128 .bf16) (harg8 : arg8.IsWhole)
    (x0 : Vec Ideal S36x4096 .bf16) (x1 : Vec Ideal S12x16x512 .i8) (x2 : Vec Ideal S16x512 .bf16) (x3 : Vec Ideal S16x512 .bf16) (fh0 : HbBuf0 (F := Ideal) c hbM0_0)

/-- A piece of the trips before `n` is one trip's. -/
theorem mem_pb (n : ℕ) (P : View.Piece (Elt Ideal) S36x512 .f32)
    (hP : P ∈ pb (F := Ideal) c t arg1 harg1 arg3 harg3 arg4 harg4 arg5 harg5 arg6 harg6 arg7 harg7 arg8 harg8 x0 x1 x2 x3 fh0 n) :
    ∃ k : Fin k0_t1_loop.trips, P ∈ (trip (F := Ideal) c t arg1 harg1 arg3 harg3 arg4 harg4 arg5 harg5 arg6 harg6 arg7 harg7 arg8 harg8 x0 x1 x2 x3 fh0 k).1.1 := by
  induction n with
  | zero => rw [pb.eq_1] at hP; exact absurd hP List.not_mem_nil
  | succ n ih =>
    rw [pb.eq_2] at hP
    split at hP
    · rcases List.mem_append.mp hP with h | h
      · exact ⟨_, h⟩
      · exact ih h
    · exact ih hP

/-- Where a trip stores, as numbers. -/
theorem out_off : ∀ k : Fin k0_t1_loop.trips, k0_off21 k = ![0, 256 * k.val] := by decide +kernel

/-- The block a grid point leaves, at a row and column. -/
theorem out0_4_value (b : Fin 36) (n : Fin 512) :
    out0_4 (F := Ideal) c t arg1 harg1 arg3 harg3 arg4 harg4 arg5 harg5 arg6 harg6 arg7 harg7 arg8 harg8 x0 x1 x2 x3 fh0 (ix2 b n)
      = colValue 16 (fun i => x0 (ix2 b i))
          (fun s i => (srcB0_0 (Ring.bk 8 t.val)).view.read (Elt Ideal) fh0 (ix2 ⟨16 * n.val + s.val, by omega⟩ i))
          (fun i s => x1 (ix3 i s n)) (fun s => x2 (ix2 s n)) (fun s => x3 (ix2 s n)) := by
  unfold out0_4
  rw [View.read_writes_junk_eq_canon]
  refine View.canon_eq_of_allAt _ _ _ (cover0_4 c t arg1 harg1 arg3 harg3 arg4 harg4 arg5 harg5 arg6 harg6 arg7 harg7 arg8 harg8 x0 x1 x2 x3 fh0 _) ?_
  intro P hP x hx
  obtain ⟨k, hk⟩ := mem_pb c t arg1 harg1 arg3 harg3 arg4 harg4 arg5 harg5 arg6 harg6 arg7 harg7 arg8 harg8 x0 x1 x2 x3 fh0 _ P hP
  rw [trip_pieces, List.mem_singleton] at hk
  subst hk
  have hx0 : (k0_off21 k 0 + 1 * (x 0).val : Nat) = b.val := congrArg (fun z : S36x512.Idx => (z 0).val) hx
  have hx1 : (k0_off21 k 1 + 1 * (x 1).val : Nat) = n.val := congrArg (fun z : S36x512.Idx => (z 1).val) hx
  have o0 : k0_off21 k 0 = 0 := congrFun (out_off k) 0
  have o1 : k0_off21 k 1 = 256 * k.val := congrFun (out_off k) 1
  have b1 : (x 1).val < 256 := (x 1).isLt
  have d1 : (x 1).val / 128 < 2 := by omega
  have d2 : (x 1).val % 128 < 128 := Nat.mod_lt _ (by decide)
  have ex : x = (ix2 b ⟨128 * ((x 1).val / 128) + (x 1).val % 128, by omega⟩ : S36x256.Idx) := by
    funext a
    fin_cases a
    · exact Fin.ext (by show (x 0).val = b.val; omega)
    · exact Fin.ext (by show (x 1).val = 128 * ((x 1).val / 128) + (x 1).val % 128; omega)
  have en : n = col k ⟨(x 1).val / 128, d1⟩ ⟨(x 1).val % 128, d2⟩ :=
    Fin.ext (by show n.val = 256 * k.val + 128 * ((x 1).val / 128) + (x 1).val % 128; omega)
  rw [ex]
  refine (trip_value c t arg1 harg1 arg3 harg3 arg4 harg4 arg5 harg5 arg6 harg6 arg7 harg7 arg8 harg8 x0 x1 x2 x3 fh0 k b ⟨(x 1).val / 128, d1⟩ ⟨(x 1).val % 128, d2⟩).trans ?_
  subst en
  rfl

end Point

/-! ## The whole output -/

variable (m : (ℓ : Loc nD τ sig) → Buf (Elt Ideal) ℓ)

/-- Which block of its array each window stages at a grid point. -/
theorem win_idx : ∀ t : Fin cfg0.N, win0_0.index t = ![0, 0] ∧ win0_1.index t = ![0, 0, t.val] ∧ win0_2.index t = ![0, t.val] ∧ win0_3.index t = ![0, t.val] ∧ win0_4.index t = ![0, t.val] :=
  (by decide +kernel : ∀ t : Fin grid0.N, _)

/-- The operands as the launch finds them: the weight bytes as rows, -/
theorem V_v0 (c : Dev nD) : V (F := Ideal) m c main_v0 = shapeCast S65536x128 (m ((c : Thread nD τ).loc main_arg1)) shapeCasts_S4096x16x128_S65536x128 := by
  entry_read
  try rfl
/-- The packed scales, transposed. -/
theorem V_v1 (c : Dev nD) : V (F := Ideal) m c main_v1 = transpose S12x16x4096 [2, 1, 0] (m ((c : Thread nD τ).loc main_arg2)) transposes_S4096x16x12_S12x16x4096_2_1_0 := by
  entry_read
  try rfl
/-- The superblock scales, transposed. -/
theorem V_v2 (c : Dev nD) : V (F := Ideal) m c main_v2 = transpose S16x4096 [1, 0] (m ((c : Thread nD τ).loc main_arg3)) transposes_S4096x16_S16x4096_1_0 := by
  entry_read
  try rfl
/-- The superblock scales of the minima, transposed. -/
theorem V_v3 (c : Dev nD) : V (F := Ideal) m c main_v3 = transpose S16x4096 [1, 0] (m ((c : Thread nD τ).loc main_arg4)) transposes_S4096x16_S16x4096_1_0 := by
  entry_read
  try rfl

/-- The column of the output that column `n` of block `t` is. -/
def gcol (t : Fin cfg0.N) (n : Fin 512) : Fin 4096 :=
  ⟨512 * t.val + n.val, by have : t.val < 8 := t.isLt; omega⟩

/-- The activations' block, at an index of the argument. -/
theorem iblk0_apply (c : Dev nD) (t : Fin cfg0.N) (b : Fin 36) (i : Fin 4096) :
    iblk (F := Ideal) m c 0 t (ix2 b i) = m ((c : Thread nD τ).loc main_arg0) (ix2 b i) := by
  blk_ext [iblk, V_main_arg0, win_idx t]

/-- The block of packed scales, at an index of the argument. -/
theorem iblk1_apply (c : Dev nD) (t : Fin cfg0.N) (i : Fin 12) (s : Fin 16) (n : Fin 512) :
    iblk (F := Ideal) m c 1 t (ix3 i s n) = m ((c : Thread nD τ).loc main_arg2) (ix3 (gcol t n) s i) := by
  have e : iblk (F := Ideal) m c 1 t (ix3 i s n) = V (F := Ideal) m c main_v1 (ix3 i s (gcol t n)) := by
    blk_ext [iblk, gcol, win_idx t]
  rw [e, V_v1]
  pointwise

/-- The block of superblock scales, at an index of the argument. -/
theorem iblk2_apply (c : Dev nD) (t : Fin cfg0.N) (s : Fin 16) (n : Fin 512) :
    iblk (F := Ideal) m c 2 t (ix2 s n) = m ((c : Thread nD τ).loc main_arg3) (ix2 (gcol t n) s) := by
  have e : iblk (F := Ideal) m c 2 t (ix2 s n) = V (F := Ideal) m c main_v2 (ix2 s (gcol t n)) := by
    blk_ext [iblk, gcol, win_idx t]
  rw [e, V_v2]
  pointwise

/-- The block of superblock scales of the minima, at an index of the argument. -/
theorem iblk3_apply (c : Dev nD) (t : Fin cfg0.N) (s : Fin 16) (n : Fin 512) :
    iblk (F := Ideal) m c 3 t (ix2 s n) = m ((c : Thread nD τ).loc main_arg4) (ix2 (gcol t n) s) := by
  have e : iblk (F := Ideal) m c 3 t (ix2 s n) = V (F := Ideal) m c main_v3 (ix2 s (gcol t n)) := by
    blk_ext [iblk, gcol, win_idx t]
  rw [e, V_v3]
  pointwise

/-- Rows of bytes laid one under another, at an index. -/
theorem flat_apply (X : IVec S4096x16x128 8) (N : Fin 4096) (s : Fin 16) (i : Fin 128) :
    shapeCast S65536x128 X shapeCasts_S4096x16x128_S65536x128 (ix2 ⟨16 * N.val + s.val, by omega⟩ i) = X (ix3 N s i) := by
  pointwise

/-- The block of weight bytes a grid point waits for, at an index of the argument. -/
theorem src_apply (c : Dev nD) (t : Fin cfg0.N) (s : Fin 16) (i : Fin 128) (n : Fin 512) :
    (srcB0_0 (Ring.bk 8 t.val)).view.read (Elt Ideal) (V (F := Ideal) m c main_v0) (ix2 ⟨16 * n.val + s.val, by omega⟩ i)
      = m ((c : Thread nD τ).loc main_arg1) (ix3 (gcol t n) s i) := by
  have hb : (Ring.bk 8 t.val).val = t.val := Nat.mod_eq_of_lt t.isLt
  have e : (srcB0_0 (Ring.bk 8 t.val)).view.read (Elt Ideal) (V (F := Ideal) m c main_v0) (ix2 ⟨16 * n.val + s.val, by omega⟩ i)
      = V (F := Ideal) m c main_v0 (ix2 ⟨16 * (gcol t n).val + s.val, by have := (gcol t n).isLt; omega⟩ i) := by
    refine congrArg (V (F := Ideal) m c main_v0) (funext fun a => Fin.ext ?_)
    fin_cases a
    · show 8192 * (Ring.bk 8 t.val).val + 1 * (16 * n.val + s.val) = 16 * (512 * t.val + n.val) + s.val
      omega
    · show 0 + 1 * i.val = i.val; omega
  rw [e, V_v0]
  exact flat_apply _ (gcol t n) s i

/-- The array after the run. -/
theorem final (c : Dev nD) : (dats (F := Ideal) m 0 c).arrAt 4 cfg0.N
    = product 16 (m ((c : Thread nD τ).loc main_arg0)) (m ((c : Thread nD τ).loc main_arg1)) (m ((c : Thread nD τ).loc main_arg2))
        (m ((c : Thread nD τ).loc main_arg3)) (m ((c : Thread nD τ).loc main_arg4)) := by
  refine (dats (F := Ideal) m 0 c).arrAt_eq_of_covers 4 _ (by decide +kernel) fun t _ y => ?_
  blk_simp
  rw [after0_4]
  unfold outsAt0
  obtain ⟨b, n, rfl⟩ : ∃ (b : Fin 36) (n : Fin 512), y = ix2 b n := ⟨y 0, y 1, by funext a; fin_cases a <;> rfl⟩
  have ey : (win0_4.blk t).view.emb (ix2 b n) = ix2 b (gcol t n) := by blk_ext [gcol, win_idx t]
  rw [ey]
  refine (out0_4_value c t _ _ _ _ _ _ _ _ _ _ _ _ _ _ _ _ _ _ _ b n).trans ?_
  rw [product_apply]
  exact colValue_congr (fun i => iblk0_apply m c t b i) (fun s i => src_apply m c t s i n) (fun i s => iblk1_apply m c t i s n)
    (fun s => iblk2_apply m c t s n) (fun s => iblk3_apply m c t s n)

end Cert.ProjIdeal.Rg

end
-- ==== Proof.Proj.Ref.lean ====
module

public import proofs.«01_k».proof.Proof.Q4K
public import proofs.«01_k».proof.Proof.Gen.ProjReferenceIdeal.Frame
public import Idealize.ShloMosaic.Lib.Pipeline.ValueKit
public import Idealize.ShloMosaic.Lib.Claim

@[expose] public section

set_option maxRecDepth 16384

noncomputable section

/-! # What the reference computes -/

namespace Cert.ProjReferenceIdeal.Rv

open Cert.ProjReferenceIdeal Cert.ProjReferenceIdeal.Gen
open Cert.Q4K
open Idealize.ShloMosaic Idealize.ShloMosaic.TcCoe Idealize.ShloMosaic.Tactic Idealize.SL.Sem
open Idealize.ShloMosaic.Pipeline (Dat)

/-! ## The dequantised weights, at an index -/

/-- The scales, at an index: sub-scale times the superblock's scale. -/
theorem pay5_apply (v0 : IVec S4096x16x12 8) (v2 : FVec Ideal S4096x16 .bf16) (n : Fin 4096) (s : Fin 16) (g : Fin 4) (h : Fin 2) :
    k0_pay5 (F := Ideal) v0 v2 (ix4 n s g h)
      = (((subS (fun i => v0 (ix3 n s i)) ⟨2 * g.val + h.val, by omega⟩).toNat : ℝ) : EReal) * v2 (ix2 n s) := by
  pointwise [k0_pay5, k0_pay4, k0_pay3]
  rw [mul_comm]
  congr 1
  by_cases h1 : g.val * 2 + h.val < 4
  · rw [dif_pos h1, and63, sitofp_byte, subS, if_pos (show (⟨2 * g.val + h.val, by omega⟩ : Fin 8).val < 4 by show 2 * g.val + h.val < 4; omega)]
    simp only [Nat.mul_comm]
  · rw [dif_neg h1, and15, shr6, or_byte, sitofp_byte, subS, if_neg (show ¬ (⟨2 * g.val + h.val, by omega⟩ : Fin 8).val < 4 by show ¬ 2 * g.val + h.val < 4; omega)]
    have e1 : 8 + (g.val * 2 + h.val - 4) = 2 * g.val + h.val + 4 := by omega
    have e2 : g.val * 2 + h.val - 4 = 2 * g.val + h.val - 4 := by omega
    simp only [e1]
    simp only [e2]

/-- The offsets, at an index: sub-minimum times the superblock's scale of the minima. -/
theorem pay6_apply (v0 : IVec S4096x16x12 8) (v2 : FVec Ideal S4096x16 .bf16) (n : Fin 4096) (s : Fin 16) (g : Fin 4) (h : Fin 2) :
    k0_pay6 (F := Ideal) v0 v2 (ix4 n s g h)
      = (((subM (fun i => v0 (ix3 n s i)) ⟨2 * g.val + h.val, by omega⟩).toNat : ℝ) : EReal) * v2 (ix2 n s) := by
  pointwise [k0_pay6, k0_pay4, k0_pay3]
  rw [mul_comm]
  congr 1
  by_cases h1 : g.val * 2 + h.val < 4
  · rw [dif_pos h1, and63, sitofp_byte, subM, if_pos (show (⟨2 * g.val + h.val, by omega⟩ : Fin 8).val < 4 by show 2 * g.val + h.val < 4; omega)]
    simp only [Nat.mul_comm]
  · rw [dif_neg h1, shr4, shr6, or_byte, sitofp_byte, subM, if_neg (show ¬ (⟨2 * g.val + h.val, by omega⟩ : Fin 8).val < 4 by show ¬ 2 * g.val + h.val < 4; omega)]
    have e1 : 8 + (g.val * 2 + h.val - 4) = 2 * g.val + h.val + 4 := by omega
    have e2 : 4 + (g.val * 2 + h.val - 4) = 2 * g.val + h.val := by omega
    simp only [e1, e2]

variable (m : (ℓ : Loc nD τ sig) → Buf (Elt Ideal) ℓ) (g : Dev nD → PrngReg)

/-- The activations unpacked: super-block, pair of sub-blocks, half, element. -/
def acts (x : FVec Ideal S36x4096 .bf16) : FVec Ideal S36x16x4x2x32 .bf16 :=
  shapeCast S36x16x4x2x32 (transpose S36x4x4x4x2x32 [0, 1, 4, 2, 5, 3] (shapeCast S36x4x4x32x4x2 x shapeCasts_S36x4096_S36x4x4x32x4x2)
    transposes_S36x4x4x32x4x2_S36x4x4x4x2x32_0_1_4_2_5_3) shapeCasts_S36x4x4x4x2x32_S36x16x4x2x32

/-- The two products and their sum. -/
def sums (x : FVec Ideal S36x16x4x2x32 .bf16) (lo hi : FVec Ideal S4096x16x4x32 .bf16) : FVec Ideal S36x4096 .f32 :=
  addf (Host.dotGeneral dot_S36x16x4x32_S4096x16x4x32_S36x4096_231_231_0_0_n_n none
      (shapeCast S36x16x4x32 (extractStridedSlice S36x16x4x1x32 ![0, 0, 0, 0, 0] x slices_S36x16x4x2x32_S36x16x4x1x32_0_0_0_0_0) shapeCasts_S36x16x4x1x32_S36x16x4x32) lo)
    (Host.dotGeneral dot_S36x16x4x32_S4096x16x4x32_S36x4096_231_231_0_0_n_n none
      (shapeCast S36x16x4x32 (extractStridedSlice S36x16x4x1x32 ![0, 0, 0, 1, 0] x slices_S36x16x4x2x32_S36x16x4x1x32_0_0_0_1_0) shapeCasts_S36x16x4x1x32_S36x16x4x32) hi)

/-- What the host does after the dequantisation. -/
theorem tail_any (W : Valuation τ sig (Elt Ideal)) : StableHlo.after (hostOps1 (F := Ideal)) W (Proc.devRef .tc main_v10)
    = sums (W (Proc.devRef .tc main_v2)) (W (Proc.devRef .tc main_v3_0)) (W (Proc.devRef .tc main_v3_1)) := by
  after_results
  rfl

/-- What the host does before it. -/
theorem head_any (W : Valuation τ sig (Elt Ideal)) : StableHlo.after (hostOps0 (F := Ideal)) W (Proc.devRef .tc main_v2)
    = acts (W (Proc.devRef .tc main_arg0)) := by
  after_results
  rfl

/-- The unpacked activations, at an index. -/
theorem acts_apply (x : FVec Ideal S36x4096 .bf16) (b : Fin 36) (s : Fin 16) (g : Fin 4) (h : Fin 2) (i : Fin 32) :
    acts x (ix5 b s g h i) = x (ix2 b ⟨1024 * (s.val / 4) + (256 * g.val + 8 * i.val + 2 * (s.val % 4) + h.val), by omega⟩) := by
  pointwise [acts]
  have e : s.val / 4 * 1024 + g.val * 256 + i.val * 8 + s.val % 4 * 2 + h.val = 1024 * (s.val / 4) + (256 * g.val + 8 * i.val + 2 * (s.val % 4) + h.val) := by omega
  simp only [e]

/-- The products' contraction index: a pair of sub-blocks, a byte of the pair, a super-block. -/
def contr3 : dot_S36x16x4x32_S4096x16x4x32_S36x4096_231_231_0_0_n_n.contr.Idx ≃ Fin 4 × Fin 32 × Fin 16 where
  toFun k := (k (0 : Fin 3), k (1 : Fin 3), k (2 : Fin 3))
  invFun p := fun (a : Fin 3) => match a with
    | 0 => p.1
    | 1 => p.2.1
    | 2 => p.2.2
  left_inv k := by
    funext (a : Fin 3)
    fin_cases a <;> rfl
  right_inv p := rfl

/-- One product, at a row and column. -/
theorem dot_apply (l : FVec Ideal S36x16x4x32 .bf16) (r : FVec Ideal S4096x16x4x32 .bf16) (b : Fin 36) (n : Fin 4096) :
    Host.dotGeneral dot_S36x16x4x32_S4096x16x4x32_S36x4096_231_231_0_0_n_n none l r (ix2 b n)
      = ∑ s : Fin 16, ∑ g : Fin 4, ∑ i : Fin 32, l (ix4 b s g i) * r (ix4 n s g i) := by
  have e : Host.dotGeneral dot_S36x16x4x32_S4096x16x4x32_S36x4096_231_231_0_0_n_n none l r (ix2 b n)
      = ∑ p : Fin 4 × Fin 32 × Fin 16, l (ix4 b p.2.2 p.1 p.2.1) * r (ix4 n p.2.2 p.1 p.2.1) := by
    pointwise []
    unfold Ideal.matmul
    refine (zero_add _).trans (Fintype.sum_equiv contr3 _ _ fun k => ?_)
    congr 1
    · congr 1
      funext x
      fin_cases x <;> rfl
    · congr 1
      funext x
      fin_cases x <;> rfl
  rw [e]
  simp only [Fintype.sum_prod_type]
  calc ∑ g : Fin 4, ∑ i : Fin 32, ∑ s : Fin 16, l (ix4 b s g i) * r (ix4 n s g i)
      = ∑ g : Fin 4, ∑ s : Fin 16, ∑ i : Fin 32, l (ix4 b s g i) * r (ix4 n s g i) :=
        Finset.sum_congr rfl fun g _ => Finset.sum_comm
    _ = _ := Finset.sum_comm

/-- The two products' sum, at a row and column. -/
theorem sums_apply (x : FVec Ideal S36x16x4x2x32 .bf16) (lo hi : FVec Ideal S4096x16x4x32 .bf16) (b : Fin 36) (n : Fin 4096) :
    sums x lo hi (ix2 b n) = (∑ s : Fin 16, ∑ g : Fin 4, ∑ i : Fin 32, x (ix5 b s g 0 i) * lo (ix4 n s g i))
      + ∑ s : Fin 16, ∑ g : Fin 4, ∑ i : Fin 32, x (ix5 b s g 1 i) * hi (ix4 n s g i) := by
  show Host.dotGeneral _ _ _ _ _ + Host.dotGeneral _ _ _ _ _ = _
  rw [dot_apply, dot_apply]
  pointwise []

/-- The weights of the low nibbles, at an index. -/
theorem pay1_apply (s o : FVec Ideal S4096x16x4x2 .bf16) (q : IVec S4096x16x128 8) (n : Fin 4096) (t : Fin 16) (g : Fin 4) (i : Fin 32) :
    k0_pay1 (F := Ideal) s o (k0_pay7 (F := Ideal) q) k0_pay8 (ix4 n t g i)
      = (((nib (q (ix3 n t ⟨32 * g.val + i.val, by omega⟩)) 0 : ℕ) : ℝ) : EReal) * s (ix4 n t g 0) - o (ix4 n t g 0) := by
  pointwise [k0_pay1, k0_pay7, k0_pay8]
  rw [and15, sitofp_byte, nib_lo]
  simp only [Nat.mul_comm]

/-- The weights of the high nibbles, at an index. -/
theorem pay2_apply (s o : FVec Ideal S4096x16x4x2 .bf16) (q : IVec S4096x16x128 8) (n : Fin 4096) (t : Fin 16) (g : Fin 4) (i : Fin 32) :
    k0_pay2 (F := Ideal) s o (k0_pay7 (F := Ideal) q) (ix4 n t g i)
      = (((nib (q (ix3 n t ⟨32 * g.val + i.val, by omega⟩)) 1 : ℕ) : ℝ) : EReal) * s (ix4 n t g 1) - o (ix4 n t g 1) := by
  pointwise [k0_pay2, k0_pay7]
  rw [shr4, sitofp_byte, nib_hi]
  simp only [Nat.mul_comm]

/-- The one grid point's blocks begin at the arrays' beginnings. -/
theorem win_idx : ∀ t : Fin cfg0.N, win0_0.index t = ![0, 0, 0] ∧ win0_1.index t = ![0, 0, 0] ∧ win0_2.index t = ![0, 0] ∧ win0_3.index t = ![0, 0] ∧ win0_4.index t = ![0, 0, 0, 0] ∧ win0_5.index t = ![0, 0, 0, 0] :=
  (by decide +kernel : ∀ t : Fin grid0.N, _)

/-- The block of weight bytes is the argument. -/
theorem ld0 (c : Dev nD) : View.ld (iblk (F := Ideal) m c 0 t0_0) r0_2 = m ((c : Thread nD τ).loc main_arg1) := by
  rw [← V_main_arg1 m c]
  refine (View.ld_unit_zero (by funext a; fin_cases a <;> rfl) _ _).trans ?_
  funext j
  blk_ext [iblk, win_idx t0_0]

/-- The block of packed scales is the argument. -/
theorem ld1 (c : Dev nD) : View.ld (iblk (F := Ideal) m c 1 t0_0) r0_0 = m ((c : Thread nD τ).loc main_arg2) := by
  rw [← V_main_arg2 m c]
  refine (View.ld_unit_zero (by funext a; fin_cases a <;> rfl) _ _).trans ?_
  funext j
  blk_ext [iblk, win_idx t0_0]

/-- The block of superblock scales is the argument. -/
theorem ld2 (c : Dev nD) : View.ld (iblk (F := Ideal) m c 2 t0_0) r0_1 = m ((c : Thread nD τ).loc main_arg3) := by
  rw [← V_main_arg3 m c]
  refine (View.ld_unit_zero (by funext a; fin_cases a <;> rfl) _ _).trans ?_
  funext j
  blk_ext [iblk, win_idx t0_0]

/-- The block of superblock scales of the minima is the argument. -/
theorem ld3 (c : Dev nD) : View.ld (iblk (F := Ideal) m c 3 t0_0) r0_1 = m ((c : Thread nD τ).loc main_arg4) := by
  rw [← V_main_arg4 m c]
  refine (View.ld_unit_zero (by funext a; fin_cases a <;> rfl) _ _).trans ?_
  funext j
  blk_ext [iblk, win_idx t0_0]

/-- The array of low weights after the call. -/
theorem out4_eq (c : Dev nD) : (dats (F := Ideal) m 0 c).arrAt 4 cfg0.N
    = k0_pay1 (k0_pay5 (m ((c : Thread nD τ).loc main_arg2)) (m ((c : Thread nD τ).loc main_arg3)))
        (k0_pay6 (m ((c : Thread nD τ).loc main_arg2)) (m ((c : Thread nD τ).loc main_arg4)))
        (k0_pay7 (F := Ideal) (m ((c : Thread nD τ).loc main_arg1))) k0_pay8 := by
  refine (dats (F := Ideal) m 0 c).arrAt_eq_of_after_last 4 t0_0 (by decide +kernel) _ fun j => ?_
  blk_simp
  rw [after0_4]
  frame_out
  unfold k0_pay9 k0_pay10 k0_pay11
  rw [ld0, ld1, ld2, ld3, ld1]

/-- The array of high weights after the call. -/
theorem out5_eq (c : Dev nD) : (dats (F := Ideal) m 0 c).arrAt 5 cfg0.N
    = k0_pay2 (k0_pay5 (m ((c : Thread nD τ).loc main_arg2)) (m ((c : Thread nD τ).loc main_arg3)))
        (k0_pay6 (m ((c : Thread nD τ).loc main_arg2)) (m ((c : Thread nD τ).loc main_arg4)))
        (k0_pay7 (F := Ideal) (m ((c : Thread nD τ).loc main_arg1))) := by
  refine (dats (F := Ideal) m 0 c).arrAt_eq_of_after_last 5 t0_0 (by decide +kernel) _ fun j => ?_
  blk_simp
  rw [after0_5]
  frame_out
  unfold k0_pay9 k0_pay10 k0_pay11
  rw [ld0, ld1, ld2, ld3, ld1]

/-! ## The result -/

/-- The reference's terms are the sums of the format's weights with the activations. -/
theorem value_apply (A : FVec Ideal S36x4096 .bf16) (Q : IVec S4096x16x128 8) (C : IVec S4096x16x12 8) (D M : FVec Ideal S4096x16 .bf16) :
    sums (acts A) (k0_pay1 (k0_pay5 C D) (k0_pay6 C M) (k0_pay7 (F := Ideal) Q) k0_pay8)
        (k0_pay2 (k0_pay5 C D) (k0_pay6 C M) (k0_pay7 (F := Ideal) Q))
      = product 16 A Q C D M := by
  funext x
  obtain ⟨b, n, rfl⟩ : ∃ (b : Fin 36) (n : Fin 4096), x = ix2 b n := ⟨x 0, x 1, eq_ix2 x⟩
  rw [sums_apply, product_apply]
  simp only [acts_apply, pay1_apply, pay2_apply, pay5_apply, pay6_apply]
  exact colValue_eq_sums 16 (by decide) (fun k => A (ix2 b k)) (fun s l => Q (ix3 n s l)) (fun j s => C (ix3 n s j)) (fun s => D (ix2 n s)) (fun s => M (ix2 n s))

/-- What @main's result holds after the host operations that follow the dequantisation. -/
theorem final (c : Dev nD) : Pipeline.afterTail₀ cfgs (dats (F := Ideal) m) 0 (V0 m) [hostOps1] c main_v10
    = product 16 (m ((c : Thread nD τ).loc main_arg0)) (m ((c : Thread nD τ).loc main_arg1)) (m ((c : Thread nD τ).loc main_arg2))
        (m ((c : Thread nD τ).loc main_arg3)) (m ((c : Thread nD τ).loc main_arg4)) := by
  unfold Pipeline.afterTail₀
  refine (tail_any _).trans ?_
  rw [← value_apply]
  refine congr (congr (congrArg sums ?_) ?_) ?_
  · rw [Pipeline.withArrays_of_ne _ c (V0 m c) _ main_v2 (by exact (by decide : ∀ w, Pipeline.arrRef spec0 w ≠ main_v2))]
    exact head_any _
  · exact (Pipeline.withArrays_arr spec0 (by decide) c (V0 m c) (fun w => (dats m 0 c).arrAt w cfg0.N) 4).trans (out4_eq m c)
  · exact (Pipeline.withArrays_arr spec0 (by decide) c (V0 m c) (fun w => (dats m 0 c).arrAt w cfg0.N) 5).trans (out5_eq m c)

end Cert.ProjReferenceIdeal.Rv

end
-- ==== Proof.Down.Ideal.Tile.lean ====
module

public import proofs.«01_k».proof.Proof.Ideal.TileVal
public import proofs.«01_k».proof.Proof.Gen.DownIdeal.Frame

@[expose] public section

set_option maxRecDepth 16384

noncomputable section

/-! # What the product of the down projection stores, as one expression

Its rows are fourteen spans of 1024 where the other products have four, and its superblocks are fifty-six to a column; the tile
of a span is theirs.  The functions below are the words, the scales and the loads at these sizes, and the theorems at the end say
that the one store of each of the three kinds of grid point is their sum over the spans. -/

namespace Cert.DownIdeal.Rg

open Cert.DownIdeal Cert.DownIdeal.Gen
open Cert.KernelIdeal.Rg (gNib gTile gStep)
open Idealize.ShloMosaic Idealize.ShloMosaic.TcCoe Idealize.ShloMosaic.Tactic

variable {F : FTy → Type} [FloatOps F]

/-- The weight bytes of 128 columns as words, one row of words for a column and a span. -/
def gWords (b : Vec F S1x7168x128 .i8) : IVec S128x14x128 32 :=
  shapeCast S128x14x128 (bitcast S1792x128 32 (shapeCast S7168x128 b shapeCasts_S1x7168x128_S7168x128 : IVec S7168x128 8) bitcasts_S7168x128_w8_S1792x128_w32) shapeCasts_S1792x128_S128x14x128

/-- A span is a slice of the words. -/
theorem slices_span (q : Fin 14) : S128x14x128.Slices ![0, q.val, 0] S128x1x128 := by
  fin_cases q
  · exact slices_S128x14x128_o0_0_0_S128x1x128
  · exact slices_S128x14x128_o0_1_0_S128x1x128
  · exact slices_S128x14x128_o0_2_0_S128x1x128
  · exact slices_S128x14x128_o0_3_0_S128x1x128
  · exact slices_S128x14x128_o0_4_0_S128x1x128
  · exact slices_S128x14x128_o0_5_0_S128x1x128
  · exact slices_S128x14x128_o0_6_0_S128x1x128
  · exact slices_S128x14x128_o0_7_0_S128x1x128
  · exact slices_S128x14x128_o0_8_0_S128x1x128
  · exact slices_S128x14x128_o0_9_0_S128x1x128
  · exact slices_S128x14x128_o0_10_0_S128x1x128
  · exact slices_S128x14x128_o0_11_0_S128x1x128
  · exact slices_S128x14x128_o0_12_0_S128x1x128
  · exact slices_S128x14x128_o0_13_0_S128x1x128

/-- The words of span `q`. -/
def gSpan (q : Fin 14) (w : IVec S128x14x128 32) : IVec S128x1x128 32 :=
  extractStridedSlice S128x1x128 ![0, q.val, 0] w (slices_span q)

/-- The tile of span `q`. -/
def gQTile (q : Fin 14) (b : Vec F S1x7168x128 .i8) (s o : Fin 14 → Fin 4 → Vec F S1x1x4x2x128 .bf16) : FVec F S1024x128 .bf16 :=
  gTile (gNib (gSpan q (gWords b))) (s q) (o q)

/-- Span `q`'s product added to the sum so far. -/
def gAdd (a : Fin 14 → Vec F S36x1024 .bf16) (b : Fin 2 → Vec F S1x7168x128 .i8)
    (s o : Fin 2 → Fin 14 → Fin 4 → Vec F S1x1x4x2x128 .bf16) (q : Fin 14) (acc : FVec F S36x256 .f32) : FVec F S36x256 .f32 :=
  gStep acc (a q) (gQTile q (b 0) (s 0) (o 0)) (gQTile q (b 1) (s 1) (o 1))

/-- The fourteen spans' products summed from zero. -/
def gSum (a : Fin 14 → Vec F S36x1024 .bf16) (b : Fin 2 → Vec F S1x7168x128 .i8)
    (s o : Fin 2 → Fin 14 → Fin 4 → Vec F S1x1x4x2x128 .bf16) : FVec F S36x256 .f32 :=
  gAdd a b s o 13 <| gAdd a b s o 12 <| gAdd a b s o 11 <| gAdd a b s o 10 <| gAdd a b s o 9 <| gAdd a b s o 8 <| gAdd a b s o 7 <|
  gAdd a b s o 6 <| gAdd a b s o 5 <| gAdd a b s o 4 <| gAdd a b s o 3 <| gAdd a b s o 2 <| gAdd a b s o 1 <| gAdd a b s o 0 <|
  broadcast S36x256 (Scalar.ofBits .f32 0x00000000#32)

/-- The scale rows read are inside the buffer. -/
theorem inb_scr (h : Fin 2) (q : Fin 14) (g : Fin 4) : ∀ a, (![h.val, g.val, 4 * q.val, 0, 0] : Fin 5 → Nat) a + S1x1x4x2x128.size a ≤ S2x4x56x2x128.size a := by
  intro a; fin_cases a <;> simp [S1x1x4x2x128, S2x4x56x2x128, Shape.size] <;> omega

/-- The rows a span and group of half `h` read of a scale scratch after the writes `L`. -/
def scrLoad {sg : RefSig} (m : Memref sg .tc .vmem S2x4x56x2x128 .bf16) (L : List (View.Piece (Elt F) S2x4x56x2x128 .bf16)) (h : Fin 2) (q : Fin 14) (g : Fin 4) : Vec F S1x1x4x2x128 .bf16 :=
  m.view.readCov L (Rect.unit (s := S2x4x56x2x128) ![h.val, g.val, 4 * q.val, 0, 0] S1x1x4x2x128.size (inb_scr h q g)).toLoadRect

/-- The activations read are inside their block. -/
theorem inb_act (q : Fin 14) : ∀ a, (![0, 1024 * q.val] : Fin 2 → Nat) a + S36x1024.size a ≤ S36x14336.size a := by
  intro a; fin_cases a <;> simp [S36x1024, S36x14336, Shape.size] <;> omega

/-- The activations a span reads. -/
def actLoad {sg : RefSig} (m : Memref sg .tc .vmem S36x14336 .bf16) (hm : m.IsWhole) (x : Vec F S36x14336 .bf16) (q : Fin 14) : Vec F S36x1024 .bf16 :=
  View.readAt (Elt F) m.view (Rect.unit (s := S36x14336) ![0, 1024 * q.val] S36x1024.size (inb_act q)).toLoadRect (hm.unread x)

/-- The weight bytes half `h` reads of the slot. -/
def slotLoad (c : Dev nD) (t : Fin cfg0.N) (fh0 : HbBuf0 (F := F) c hbM0_0) (h : Fin 2) : Vec F S1x7168x128 .i8 :=
  View.readAt (Elt F) scM0_2.view (Rect.unit (s := S2x14336x128) (k0_off20 (grid0.coords t) (BitVec.ofNat 32 (128 * h.val))) S1x7168x128.size (k0_off20_inb (grid0.coords t) h)).toLoadRect
    ((rslot0_0 (Ring.sl 2 t.val)).view.writes (Elt F) (rslot0_0 (Ring.sl 2 t.val)).view.junk
      [⟨Rect.whole S14336x128, ReadAs.same.apply (View.read (Elt F) (srcB0_0 (Ring.bk 16 t.val)).view fh0)⟩])

/-- Where row `i` of the packed scales is loaded from. -/
def wOff (i : Fin 12) (c : BitVec 32) : Fin 3 → Nat :=
  match i with
  | 0 => k0_off7 c
  | 1 => k0_off8 c
  | 2 => k0_off9 c
  | 3 => k0_off10 c
  | 4 => k0_off11 c
  | 5 => k0_off12 c
  | 6 => k0_off13 c
  | 7 => k0_off14 c
  | 8 => k0_off15 c
  | 9 => k0_off16 c
  | 10 => k0_off17 c
  | 11 => k0_off18 c

/-- The rows of packed scales read are inside their block. -/
theorem wOff_inb (i : Fin 12) (h : Fin 2) : ∀ a, wOff i (BitVec.ofNat 32 (128 * h.val)) a + S1x56x128.size a ≤ S12x56x256.size a := by
  fin_cases i
  · exact k0_off7_inb h
  · exact k0_off8_inb h
  · exact k0_off9_inb h
  · exact k0_off10_inb h
  · exact k0_off11_inb h
  · exact k0_off12_inb h
  · exact k0_off13_inb h
  · exact k0_off14_inb h
  · exact k0_off15_inb h
  · exact k0_off16_inb h
  · exact k0_off17_inb h
  · exact k0_off18_inb h

/-- Row `i` of the packed scales, at the 128 columns of half `h`, as words. -/
def wLoad {sg : RefSig} (m : Memref sg .tc .vmem S12x56x256 .i8) (hm : m.IsWhole) (x : Vec F S12x56x256 .i8) (h : Fin 2) (i : Fin 12) : Vec F S1x56x128 .i8 :=
  View.readAt (Elt F) m.view (Rect.unit (s := S12x56x256) (wOff i (BitVec.ofNat 32 (128 * h.val))) S1x56x128.size (wOff_inb i h)).toLoadRect (hm.unread x)

/-- The superblocks' scales at the 128 columns of half `h`. -/
def dLoad {sg : RefSig} (m : Memref sg .tc .vmem S56x256 .bf16) (hm : m.IsWhole) (x : Vec F S56x256 .bf16) (h : Fin 2) : Vec F S56x128 .bf16 :=
  View.readAt (Elt F) m.view (Rect.unit (s := S56x256) (k0_off19 (BitVec.ofNat 32 (128 * h.val))) S56x128.size (k0_off19_inb h)).toLoadRect (hm.unread x)

/-- Fifty-six rows of bytes as fourteen rows of words. -/
def gWord (b : Vec F S1x56x128 .i8) : IVec S14x128 32 :=
  bitcast S14x128 32 (shapeCast S56x128 b shapeCasts_S1x56x128_S56x128 : IVec S56x128 8) bitcasts_S56x128_w8_S14x128_w32

/-- The words of sub-scale `j`. -/
def gSubS (w : Fin 12 → IVec S14x128 32) (j : Fin 8) : IVec S14x128 32 :=
  match j with
  | 0 => andi (w 0) (broadcast S14x128 1061109567#32)
  | 1 => andi (w 1) (broadcast S14x128 1061109567#32)
  | 2 => andi (w 2) (broadcast S14x128 1061109567#32)
  | 3 => andi (w 3) (broadcast S14x128 1061109567#32)
  | 4 => ori (andi (w 8) (broadcast S14x128 252645135#32)) (andi (shrsi (w 0) (broadcast S14x128 2#32)) (broadcast S14x128 808464432#32))
  | 5 => ori (andi (w 9) (broadcast S14x128 252645135#32)) (andi (shrsi (w 1) (broadcast S14x128 2#32)) (broadcast S14x128 808464432#32))
  | 6 => ori (andi (w 10) (broadcast S14x128 252645135#32)) (andi (shrsi (w 2) (broadcast S14x128 2#32)) (broadcast S14x128 808464432#32))
  | 7 => ori (andi (w 11) (broadcast S14x128 252645135#32)) (andi (shrsi (w 3) (broadcast S14x128 2#32)) (broadcast S14x128 808464432#32))

/-- The words of sub-minimum `j`. -/
def gSubM (w : Fin 12 → IVec S14x128 32) (j : Fin 8) : IVec S14x128 32 :=
  match j with
  | 0 => andi (w 4) (broadcast S14x128 1061109567#32)
  | 1 => andi (w 5) (broadcast S14x128 1061109567#32)
  | 2 => andi (w 6) (broadcast S14x128 1061109567#32)
  | 3 => andi (w 7) (broadcast S14x128 1061109567#32)
  | 4 => ori (andi (shrsi (w 8) (broadcast S14x128 4#32)) (broadcast S14x128 252645135#32)) (andi (shrsi (w 4) (broadcast S14x128 2#32)) (broadcast S14x128 808464432#32))
  | 5 => ori (andi (shrsi (w 9) (broadcast S14x128 4#32)) (broadcast S14x128 252645135#32)) (andi (shrsi (w 5) (broadcast S14x128 2#32)) (broadcast S14x128 808464432#32))
  | 6 => ori (andi (shrsi (w 10) (broadcast S14x128 4#32)) (broadcast S14x128 252645135#32)) (andi (shrsi (w 6) (broadcast S14x128 2#32)) (broadcast S14x128 808464432#32))
  | 7 => ori (andi (shrsi (w 11) (broadcast S14x128 4#32)) (broadcast S14x128 252645135#32)) (andi (shrsi (w 7) (broadcast S14x128 2#32)) (broadcast S14x128 808464432#32))

/-- The sub-scales times the superblock's scale, a row to a superblock. -/
def gScaled (w : IVec S14x128 32) (d : Vec F S56x128 .bf16) : FVec F S56x128 .bf16 :=
  mulf (uitofp .bf16 (bitcast S56x128 8 w bitcasts_S14x128_w32_S56x128_w8)) (shapeCast S56x128 d shapeCasts_S56x128_S56x128)

/-- The box the body writes for half `h`, group `g` and parity `p`: every other row, from row `p`. -/
def scrRect (h : Fin 2) (g : Fin 4) (p : Fin 2) : Rect S2x4x56x2x128 :=
  ⟨(⟨![h.val, g.val, p.val, 0, 0], S1x1x28x2x128.size, ![1, 1, 2, 1, 1], by
      intro a; right; fin_cases a <;> simp [S1x1x28x2x128, S2x4x56x2x128, Shape.size] <;> omega⟩ : LoadRect S2x4x56x2x128), spos_1_1_2_1_1⟩

/-- One store's payload: the rows of parity `p` of two arrays of scales, alternating. -/
def gPair (p : Fin 2) (A B : FVec F S56x128 .bf16) : Vec F S1x1x28x2x128 .bf16 :=
  interleaveRows S1x1x28x2x128
    (shapeCast S1x1x28x1x128 (shapeCast S1x1x28x128 (rowsOfParity p S28x128 A bitcasts_S56x128_w16_S28x128_w32) shapeCasts_S28x128_S1x1x28x128) shapeCasts_S1x1x28x128_S1x1x28x1x128)
    (shapeCast S1x1x28x1x128 (shapeCast S1x1x28x128 (rowsOfParity p S28x128 B bitcasts_S56x128_w16_S28x128_w32) shapeCasts_S28x128_S1x1x28x128) shapeCasts_S1x1x28x128_S1x1x28x1x128)
    bitcasts_S1x1x28x2x128_w16_S1x1x28x1x128_w32

/-- The store of half `h`, group `g` and parity `p`, of arrays of scales indexed by half and sub-block. -/
def gPiece (A : Fin 2 → Fin 8 → FVec F S56x128 .bf16) (h : Fin 2) (g : Fin 4) (p : Fin 2) : View.Piece (Elt F) S2x4x56x2x128 .bf16 :=
  ⟨scrRect h g p, gPair p (A h ⟨2 * g.val, by omega⟩) (A h ⟨2 * g.val + 1, by omega⟩)⟩

/-- The sixteen stores into a scale buffer, the last first. -/
def gPieces (A : Fin 2 → Fin 8 → FVec F S56x128 .bf16) : List (View.Piece (Elt F) S2x4x56x2x128 .bf16) :=
  [gPiece A 1 3 1, gPiece A 1 3 0, gPiece A 1 2 1, gPiece A 1 2 0, gPiece A 1 1 1, gPiece A 1 1 0, gPiece A 1 0 1, gPiece A 1 0 0, gPiece A 0 3 1, gPiece A 0 3 0, gPiece A 0 2 1, gPiece A 0 2 0, gPiece A 0 1 1, gPiece A 0 1 0, gPiece A 0 0 1, gPiece A 0 0 0]

section Point
variable (c : Dev nD) (t : Fin cfg0.N) (arg1 : Memref sig .tc .vmem S36x14336 .bf16) (harg1 : arg1.IsWhole) (arg3 : Memref sig .tc .vmem S12x56x256 .i8) (harg3 : arg3.IsWhole) (arg4 : Memref sig .tc .vmem S56x256 .bf16) (harg4 : arg4.IsWhole) (arg5 : Memref sig .tc .vmem S56x256 .bf16) (harg5 : arg5.IsWhole) (arg6 : Memref sig .tc .vmem S36x256 .f32) (harg6 : arg6.IsWhole) (arg7 : Memref sig .tc .vmem S2x4x56x2x128 .bf16) (harg7 : arg7.IsWhole) (arg8 : Memref sig .tc .vmem S2x4x56x2x128 .bf16) (harg8 : arg8.IsWhole)
    (x0 : Vec F S36x14336 .bf16) (x1 : Vec F S12x56x256 .i8) (x2 : Vec F S56x256 .bf16) (x3 : Vec F S56x256 .bf16) (fh0 : HbBuf0 (F := F) c hbM0_0)

/-- The block of the output a grid point stores: the spans' products summed. -/
def stored : Vec F S36x256 .f32 :=
  gSum (actLoad arg1 harg1 x0) (slotLoad c t fh0)
    (scrLoad arg7 (gPieces fun h j => gScaled (gSubS (fun i => gWord (wLoad arg3 harg3 x1 h i)) j) (dLoad arg4 harg4 x2 h)))
    (scrLoad arg8 (gPieces fun h j => gScaled (gSubM (fun i => gWord (wLoad arg3 harg3 x1 h i)) j) (dLoad arg5 harg5 x3 h)))

/-- The one store of the first grid point. -/
theorem pieces_A (hc0 : cond0_0 (grid0.coords t)) (hc1 : cond0_1 (grid0.coords t)) :
    (kernelRun0_A c t arg1 harg1 arg3 harg3 arg4 harg4 arg5 harg5 arg6 harg6 arg7 harg7 arg8 harg8 hc0 hc1 x0 x1 x2 x3 fh0).1
      = [⟨Rect.unit (s := S36x256) k0_off21 S36x256.size k0_off21_inb, stored c t arg1 harg1 arg3 harg3 arg4 harg4 arg5 harg5 arg7 arg8 x0 x1 x2 x3 fh0⟩] := by
  unfold kernelRun0_A
  sl_kernel_rfl

/-- The one store of a middle grid point. -/
theorem pieces_B (hc0 : ¬cond0_0 (grid0.coords t)) (hc1 : cond0_1 (grid0.coords t)) :
    (kernelRun0_B c t arg1 harg1 arg3 harg3 arg4 harg4 arg5 harg5 arg6 harg6 arg7 harg7 arg8 harg8 hc0 hc1 x0 x1 x2 x3 fh0).1
      = [⟨Rect.unit (s := S36x256) k0_off21 S36x256.size k0_off21_inb, stored c t arg1 harg1 arg3 harg3 arg4 harg4 arg5 harg5 arg7 arg8 x0 x1 x2 x3 fh0⟩] := by
  unfold kernelRun0_B
  sl_kernel_rfl

/-- The one store of the last grid point. -/
theorem pieces_C (hc0 : ¬cond0_0 (grid0.coords t)) (hc1 : ¬cond0_1 (grid0.coords t)) :
    (kernelRun0_C c t arg1 harg1 arg3 harg3 arg4 harg4 arg5 harg5 arg6 harg6 arg7 harg7 arg8 harg8 hc0 hc1 x0 x1 x2 x3 fh0).1
      = [⟨Rect.unit (s := S36x256) k0_off21 S36x256.size k0_off21_inb, stored c t arg1 harg1 arg3 harg3 arg4 harg4 arg5 harg5 arg7 arg8 x0 x1 x2 x3 fh0⟩] := by
  unfold kernelRun0_C
  sl_kernel_rfl

end Point

end Cert.DownIdeal.Rg

end
-- ==== Proof.Down.Ideal.Value.lean ====
module

public import proofs.«01_k».proof.Proof.Down.Ideal.Tile

@[expose] public section

set_option maxRecDepth 16384

noncomputable section

/-! # The value of the product of the down projection

The expression a grid point stores, read at a row and a column, and from it the whole output. -/

namespace Cert.DownIdeal.Rg

open Cert.DownIdeal Cert.DownIdeal.Gen
open Cert.Q4K
open Cert.KernelIdeal.Rg (gNib gTile gStep gTile_apply gStep_apply shift_mul shrsi_two shrsi_four)
open Idealize.ShloMosaic Idealize.ShloMosaic.TcCoe Idealize.ShloMosaic.Tactic

/-! ## The pieces of a tile at an index -/

/-- The bytes of a span's words. -/
theorem gWords_lane (b : IVec S1x7168x128 8) (q : Fin 14) (n i : Fin 128) (t : Fin 4) :
    lane (gSpan q (gWords (F := Ideal) b) (ix3 n 0 i)) t.val = b (ix3 0 ⟨56 * n.val + 4 * q.val + t.val, by omega⟩ i) := by
  pointwise [gSpan, gWords]
  rw [bitcast_8_32_lane _ _ _ _ t.val t.isLt ⟨56 * n.val + 4 * q.val + t.val, by omega⟩ (by show 56 * n.val + 4 * q.val + t.val = 4 * (n.val * 14 + q.val) + t.val; omega)]
  pointwise

/-- A span's nibbles at an index. -/
theorem gNib_apply (b : IVec S1x7168x128 8) (q : Fin 14) (R : Fin 1024) (l : Fin 128) :
    gNib (F := Ideal) (gSpan q (gWords (F := Ideal) b)) (ix2 R l)
      = ((nib (b (ix3 0 ⟨56 * l.val + 4 * q.val + R.val % 8 / 2, by omega⟩ ⟨R.val / 8, by omega⟩)) ⟨R.val % 2, by omega⟩ : ℝ) : EReal) := by
  pointwise [gNib]
  rw [shift_mul _ (by omega)]
  show ((((_ &&& 15#32 : BitVec 32).toInt : ℝ)) : EReal) = _
  rw [word_nib _ _ (by omega), gWords_lane b q l ⟨R.val / 8, by omega⟩ ⟨R.val % 8 / 2, by omega⟩]
  have e : (⟨R.val % 8 % 2, by omega⟩ : Fin 2) = ⟨R.val % 2, by omega⟩ := Fin.ext (by show R.val % 8 % 2 = R.val % 2; omega)
  rw [e]
  rfl

/-! ## The scale buffers at an index -/

/-- One store's payload at an index. -/
theorem gPair_apply (p : Fin 2) (A B : FVec Ideal S56x128 .bf16) (r : Fin 28) (h : Fin 2) (l : Fin 128) :
    gPair (F := Ideal) p A B (ix5 0 0 r h l) = if h.val % 2 = 0 then A (ix2 ⟨2 * r.val + p.val, by omega⟩ l) else B (ix2 ⟨2 * r.val + p.val, by omega⟩ l) := by
  pointwise [gPair]

/-- A scaled sub-scale at an index. -/
theorem gScaled_apply (w : IVec S14x128 32) (d : FVec Ideal S56x128 .bf16) (r : Fin 56) (l : Fin 128) :
    gScaled (F := Ideal) w d (ix2 r l) = (((lane (w (ix2 ⟨r.val / 4, by omega⟩ l)) (r.val % 4)).toNat : ℝ) : EReal) * d (ix2 r l) := by
  pointwise [gScaled]
  rw [bitcast_32_8_lane w _ r l ⟨r.val / 4, by omega⟩ rfl]
  rfl

/-- The bytes of a row of words of packed scales. -/
theorem gWord_lane (b : IVec S1x56x128 8) (a : Fin 14) (l : Fin 128) (t : Fin 4) :
    lane (gWord (F := Ideal) b (ix2 a l)) t.val = b (ix3 0 ⟨4 * a.val + t.val, by omega⟩ l) := by
  unfold gWord
  rw [bitcast_8_32_lane _ _ _ _ t.val t.isLt ⟨4 * a.val + t.val, by omega⟩ rfl]
  pointwise

/-- The sub-scale words hold each superblock's sub-scale byte. -/
theorem gSubS_lane (b : Fin 12 → IVec S1x56x128 8) (j : Fin 8) (r : Fin 56) (l : Fin 128) :
    lane (gSubS (fun i => gWord (F := Ideal) (b i)) j (ix2 ⟨r.val / 4, by omega⟩ l)) (r.val % 4) = subS (fun i => b i (ix3 0 r l)) j := by
  have ht : r.val % 4 < 4 := Nat.mod_lt _ (by decide)
  have hw : ∀ i, lane (gWord (F := Ideal) (b i) (ix2 ⟨r.val / 4, by omega⟩ l)) (r.val % 4) = b i (ix3 0 r l) := fun i => by
    have e := gWord_lane (b i) ⟨r.val / 4, by omega⟩ l ⟨r.val % 4, ht⟩
    exact e.trans (congrArg (fun z => b i (ix3 0 z l)) (Fin.ext (by show 4 * (r.val / 4) + r.val % 4 = r.val; omega)))
  fin_cases j
  all_goals
    pointwise [gSubS]
    simp only [IntOp.andi, IntOp.ori, shrsi_two, lane_ori, lane_shr2 _ _ ht]
    simp only [lane_andi, lane_63 _ ht, lane_15 _ ht, hw]
    rfl

/-- The sub-minimum words hold each superblock's sub-minimum byte. -/
theorem gSubM_lane (b : Fin 12 → IVec S1x56x128 8) (j : Fin 8) (r : Fin 56) (l : Fin 128) :
    lane (gSubM (fun i => gWord (F := Ideal) (b i)) j (ix2 ⟨r.val / 4, by omega⟩ l)) (r.val % 4) = subM (fun i => b i (ix3 0 r l)) j := by
  have ht : r.val % 4 < 4 := Nat.mod_lt _ (by decide)
  have hw : ∀ i, lane (gWord (F := Ideal) (b i) (ix2 ⟨r.val / 4, by omega⟩ l)) (r.val % 4) = b i (ix3 0 r l) := fun i => by
    have e := gWord_lane (b i) ⟨r.val / 4, by omega⟩ l ⟨r.val % 4, ht⟩
    exact e.trans (congrArg (fun z => b i (ix3 0 z l)) (Fin.ext (by show 4 * (r.val / 4) + r.val % 4 = r.val; omega)))
  fin_cases j
  all_goals
    pointwise [gSubM]
    simp only [IntOp.andi, IntOp.ori, shrsi_two, shrsi_four, lane_ori, lane_shr2 _ _ ht, lane_shr4 _ _ ht]
    try simp only [lane_andi, lane_63 _ ht]
    simp only [hw]
    rfl

/-! ## The scale buffers after their sixteen stores -/

/-- The sixteen stores cover the buffer. -/
theorem scr_cover (A : Fin 2 → Fin 8 → FVec Ideal S56x128 .bf16) (y : S2x4x56x2x128.Idx) : ∃ p ∈ gPieces A, y ∈ p.1.set := by
  have hmem : ∀ (h : Fin 2) (g : Fin 4) (p : Fin 2), gPiece A h g p ∈ gPieces A := by
    intro h g p
    unfold gPieces
    fin_cases h <;> fin_cases g <;> fin_cases p <;> simp
  refine ⟨_, hmem ⟨(y 0).val, (y 0).isLt⟩ ⟨(y 1).val, (y 1).isLt⟩ ⟨(y 2).val % 2, Nat.mod_lt _ (by omega)⟩, ?_⟩
  show y ∈ (scrRect _ _ _).set
  rw [LoadRect.mem_set]
  have h2 : (y 2).val < 56 := (y 2).isLt
  have h3 : (y 3).val < 2 := (y 3).isLt
  have h4 : (y 4).val < 128 := (y 4).isLt
  intro a
  fin_cases a
  · exact ⟨0, Nat.one_pos, by simp [scrRect]⟩
  · exact ⟨0, Nat.one_pos, by simp [scrRect]⟩
  · refine ⟨(y 2).val / 2, ?_, ?_⟩
    · show (y 2).val / 2 < 28
      omega
    · show (y 2).val = (y 2).val % 2 + 2 * ((y 2).val / 2)
      omega
  · refine ⟨(y 3).val, h3, ?_⟩
    show (y 3).val = 0 + 1 * (y 3).val
    omega
  · refine ⟨(y 4).val, h4, ?_⟩
    show (y 4).val = 0 + 1 * (y 4).val
    omega

/-- A store into a scale buffer is one of the sixteen. -/
theorem mem_gPieces (A : Fin 2 → Fin 8 → FVec Ideal S56x128 .bf16) (P : View.Piece (Elt Ideal) S2x4x56x2x128 .bf16) (hP : P ∈ gPieces A) :
    ∃ h g p, P = gPiece A h g p := by
  unfold gPieces at hP
  simp only [List.mem_cons, List.not_mem_nil, or_false] at hP
  rcases hP with h | h | h | h | h | h | h | h | h | h | h | h | h | h | h | h <;> exact ⟨_, _, _, h⟩

/-- A scale buffer at an index: the scale of its half, its sub-block and its superblock. -/
theorem canon_gPieces (A : Fin 2 → Fin 8 → FVec Ideal S56x128 .bf16) (h : Fin 2) (g : Fin 4) (s : Fin 56) (q : Fin 2) (l : Fin 128) :
    (View.canon (gPieces A) : S2x4x56x2x128.Idx → Elt Ideal .bf16) (ix5 h g s q l) = A h ⟨2 * g.val + q.val, by omega⟩ (ix2 s l) := by
  refine View.canon_eq_of_allAt (gPieces A) _ _ (scr_cover A _) ?_
  intro P hP x hx
  obtain ⟨h', g', p', rfl⟩ := mem_gPieces A P hP
  have hx0 : (h'.val + 1 * (x 0).val : Nat) = h.val := congrArg (fun z : S2x4x56x2x128.Idx => (z 0).val) hx
  have hx1 : (g'.val + 1 * (x 1).val : Nat) = g.val := congrArg (fun z : S2x4x56x2x128.Idx => (z 1).val) hx
  have hx2 : (p'.val + 2 * (x 2).val : Nat) = s.val := congrArg (fun z : S2x4x56x2x128.Idx => (z 2).val) hx
  have hx3 : (0 + 1 * (x 3).val : Nat) = q.val := congrArg (fun z : S2x4x56x2x128.Idx => (z 3).val) hx
  have hx4 : (0 + 1 * (x 4).val : Nat) = l.val := congrArg (fun z : S2x4x56x2x128.Idx => (z 4).val) hx
  have b0 : (x 0).val < 1 := (x 0).isLt
  have b1 : (x 1).val < 1 := (x 1).isLt
  have b2 : (x 2).val < 28 := (x 2).isLt
  obtain rfl : h' = h := Fin.ext (by omega)
  obtain rfl : g' = g := Fin.ext (by omega)
  have ex : x = (ix5 0 0 ⟨(x 2).val, b2⟩ q l : S1x1x28x2x128.Idx) := by
    funext a
    fin_cases a
    · exact Fin.ext (by show (x 0).val = 0; omega)
    · exact Fin.ext (by show (x 1).val = 0; omega)
    · rfl
    · exact Fin.ext (by show (x 3).val = q.val; omega)
    · exact Fin.ext (by show (x 4).val = l.val; omega)
  rw [ex]
  refine (gPair_apply p' _ _ ⟨(x 2).val, b2⟩ q l).trans ?_
  have es : (⟨2 * (x 2).val + p'.val, by omega⟩ : Fin 56) = s := Fin.ext (by show 2 * (x 2).val + p'.val = s.val; omega)
  have hq : q = 0 ∨ q = 1 := by omega
  rcases hq with rfl | rfl
  · refine (if_pos rfl).trans ?_
    exact congrArg (fun z => A h' ⟨2 * g'.val, by omega⟩ (ix2 z l)) es
  · refine (if_neg (by decide)).trans ?_
    exact congrArg (fun z => A h' ⟨2 * g'.val + 1, by omega⟩ (ix2 z l)) es

/-! ## The loads at an index -/

/-- Where row `i` of the packed scales is loaded from, as numbers. -/
theorem wOff_eq : ∀ (i : Fin 12) (h : Fin 2), wOff i (BitVec.ofNat 32 (128 * h.val)) = ![i.val, 0, 128 * h.val] := by
  decide +kernel

/-- Where the superblock scales are loaded from, as numbers. -/
theorem dOff_eq : ∀ (h : Fin 2), k0_off19 (BitVec.ofNat 32 (128 * h.val)) = ![0, 128 * h.val] := by
  decide +kernel

/-- The column of the block that lane `l` of half `h` is. -/
def col (h : Fin 2) (l : Fin 128) : Fin 256 :=
  ⟨128 * h.val + l.val, by omega⟩

/-- A loaded row of packed scales, at an index. -/
theorem wLoad_apply {sg : RefSig} (m : Memref sg .tc .vmem S12x56x256 .i8) (hm : m.IsWhole) (x : Vec Ideal S12x56x256 .i8) (h : Fin 2) (i : Fin 12) (s : Fin 56) (l : Fin 128) :
    wLoad m hm x h i (ix3 0 s l) = x (ix3 i s (col h l)) := by
  unfold wLoad
  rw [hm.readAt_unread]
  refine congrArg x (funext fun a => Fin.ext ?_)
  refine (congrArg (· + 1 * _) (congrFun (wOff_eq i h) a)).trans ?_
  fin_cases a
  · show i.val + 1 * 0 = i.val; omega
  · show 0 + 1 * s.val = s.val; omega
  · show 128 * h.val + 1 * l.val = 128 * h.val + l.val; omega

/-- The loaded superblock scales, at an index. -/
theorem dLoad_apply {sg : RefSig} (m : Memref sg .tc .vmem S56x256 .bf16) (hm : m.IsWhole) (x : Vec Ideal S56x256 .bf16) (h : Fin 2) (s : Fin 56) (l : Fin 128) :
    dLoad m hm x h (ix2 s l) = x (ix2 s (col h l)) := by
  unfold dLoad
  rw [hm.readAt_unread]
  refine congrArg x (funext fun a => Fin.ext ?_)
  refine (congrArg (· + 1 * _) (congrFun (dOff_eq h) a)).trans ?_
  fin_cases a
  · show 0 + 1 * s.val = s.val; omega
  · show 128 * h.val + 1 * l.val = 128 * h.val + l.val; omega

/-- The loaded scale rows, at an index. -/
theorem scrLoad_apply {sg : RefSig} (m : Memref sg .tc .vmem S2x4x56x2x128 .bf16) (A : Fin 2 → Fin 8 → FVec Ideal S56x128 .bf16) (h : Fin 2) (q : Fin 14) (g : Fin 4) (p : Fin 4) (hl : Fin 2) (l : Fin 128) :
    scrLoad m (gPieces A) h q g (ix5 0 0 p hl l) = A h ⟨2 * g.val + hl.val, by omega⟩ (ix2 ⟨4 * q.val + p.val, by omega⟩ l) := by
  unfold scrLoad
  rw [View.readCov_eq_canon']
  refine (congrArg (View.canon (gPieces A) : S2x4x56x2x128.Idx → Elt Ideal .bf16) (funext fun a => Fin.ext ?_)).trans (canon_gPieces A h g ⟨4 * q.val + p.val, by omega⟩ hl l)
  fin_cases a
  · show h.val + 1 * 0 = h.val; omega
  · show g.val + 1 * 0 = g.val; omega
  · show 4 * q.val + 1 * p.val = 4 * q.val + p.val; omega
  · show 0 + 1 * hl.val = hl.val; omega
  · show 0 + 1 * l.val = l.val; omega

/-- The loaded activations, at an index. -/
theorem actLoad_apply {sg : RefSig} (m : Memref sg .tc .vmem S36x14336 .bf16) (hm : m.IsWhole) (x : Vec Ideal S36x14336 .bf16) (q : Fin 14) (b : Fin 36) (R : Fin 1024) :
    actLoad m hm x q (ix2 b R) = x (ix2 b ⟨1024 * q.val + R.val, by omega⟩) := by
  unfold actLoad
  rw [hm.readAt_unread]
  refine congrArg x (funext fun a => Fin.ext ?_)
  fin_cases a
  · show 0 + 1 * b.val = b.val; omega
  · show 1024 * q.val + 1 * R.val = 1024 * q.val + R.val; omega

/-- Where the weight bytes are loaded from, as numbers. -/
theorem slot_off : ∀ (t : Fin grid0.N) (h : Fin 2), k0_off20 (grid0.coords t) (BitVec.ofNat 32 (128 * h.val)) = ![(Ring.sl 2 t.val).val, 7168 * h.val, 0] := by
  decide +kernel

/-- The slot's bytes: the rows of the block of weights the step has waited for. -/
theorem slotLoad_apply (c : Dev nD) (t : Fin cfg0.N) (fh0 : HbBuf0 (F := Ideal) c hbM0_0) (h : Fin 2) (r : Fin 7168) (i : Fin 128) :
    slotLoad (F := Ideal) c t fh0 h (ix3 0 r i)
      = (srcB0_0 (Ring.bk 16 t.val)).view.read (Elt Ideal) fh0 (ix2 ⟨7168 * h.val + r.val, by omega⟩ i) := by
  have hw := congrFun (View.read_writes_whole (Val := Elt Ideal) (rslot0_0 (Ring.sl 2 t.val)).view (rslot0_0 (Ring.sl 2 t.val)).view.junk
    (ReadAs.same.apply ((srcB0_0 (Ring.bk 16 t.val)).view.read (Elt Ideal) fh0))) (ix2 ⟨7168 * h.val + r.val, by omega⟩ i)
  refine Eq.trans ?_ hw
  unfold slotLoad
  refine congrArg (scM0_2.view.read (Elt Ideal) ((rslot0_0 (Ring.sl 2 t.val)).view.writes (Elt Ideal) (rslot0_0 (Ring.sl 2 t.val)).view.junk
    [⟨Rect.whole S14336x128, ReadAs.same.apply (View.read (Elt Ideal) (srcB0_0 (Ring.bk 16 t.val)).view fh0)⟩])) ?_
  refine Eq.trans ?_ (congrArg (Rect.unit (s := S2x14336x128) ![(Ring.sl 2 t.val).val, 0, 0] S1x14336x128.size (inb_slot0_0 _)).emb
    (Shape.reshapeEquiv_cons_one squeezes_S1x14336x128_S14336x128.numel_eq (ix2 ⟨7168 * h.val + r.val, by omega⟩ i)).symm)
  funext a
  refine Fin.ext ?_
  refine (congrArg (· + 1 * _) (congrFun (slot_off t h) a)).trans ?_
  fin_cases a
  · show (Ring.sl 2 t.val).val + 1 * 0 = (Ring.sl 2 t.val).val + 1 * 0; rfl
  · show 7168 * h.val + 1 * r.val = 0 + 1 * (7168 * h.val + r.val); omega
  · show 0 + 1 * i.val = 0 + 1 * i.val; rfl

/-! ## A tile, and the sum of the spans, at an index -/

/-- A span's tile at an index: nibble times scale minus offset. -/
theorem gQTile_apply (q : Fin 14) (b : IVec S1x7168x128 8) (s o : Fin 14 → Fin 4 → FVec Ideal S1x1x4x2x128 .bf16) (R : Fin 1024) (l : Fin 128) :
    gQTile (F := Ideal) q b s o (ix2 R l)
      = ((nib (b (ix3 0 ⟨56 * l.val + 4 * q.val + R.val % 8 / 2, by omega⟩ ⟨R.val / 8, by omega⟩)) ⟨R.val % 2, by omega⟩ : ℝ) : EReal)
          * s q ⟨R.val / 256, by omega⟩ (ix5 0 0 ⟨R.val / 2 % 4, by omega⟩ ⟨R.val % 2, by omega⟩ l)
        - o q ⟨R.val / 256, by omega⟩ (ix5 0 0 ⟨R.val / 2 % 4, by omega⟩ ⟨R.val % 2, by omega⟩ l) := by
  unfold gQTile
  rw [gTile_apply, gNib_apply]

/-- A sum over the fourteen spans, one after another. -/
theorem sum_spans (f : Fin 14 → Ideal .f32) :
    ∑ q, f q = 0 + f 0 + f 1 + f 2 + f 3 + f 4 + f 5 + f 6 + f 7 + f 8 + f 9 + f 10 + f 11 + f 12 + f 13 := by
  iterate 14 rw [Fin.sum_univ_castSucc]
  rw [Fin.sum_univ_zero]
  rfl

/-- The spans' sum at an index. -/
theorem gSum_apply (a : Fin 14 → FVec Ideal S36x1024 .bf16) (b : Fin 2 → IVec S1x7168x128 8)
    (s o : Fin 2 → Fin 14 → Fin 4 → FVec Ideal S1x1x4x2x128 .bf16) (bb : Fin 36) (h : Fin 2) (l : Fin 128) :
    gSum (F := Ideal) a b s o (ix2 bb ⟨128 * h.val + l.val, by omega⟩)
      = ∑ q : Fin 14, ∑ R : Fin 1024, a q (ix2 bb R) * gQTile (F := Ideal) q (b h) (s h) (o h) (ix2 R l) := by
  have st := fun (q : Fin 14) (acc : FVec Ideal S36x256 .f32) =>
    (show gAdd (F := Ideal) a b s o q acc (ix2 bb ⟨128 * h.val + l.val, by omega⟩) = _ from
      gStep_apply acc (a q) (fun h => gQTile (F := Ideal) q (b h) (s h) (o h)) bb h l)
  unfold gSum
  iterate 14 rw [st]
  have z : broadcast S36x256 (Scalar.ofBits (F := Ideal) .f32 0x00000000#32) (ix2 bb ⟨128 * h.val + l.val, by omega⟩) = (0 : Ideal .f32) := by
    pointwise
  rw [z]
  exact (sum_spans fun q => ∑ R : Fin 1024, a q (ix2 bb R) * gQTile (F := Ideal) q (b h) (s h) (o h) (ix2 R l)).symm

section Point
variable (c : Dev nD) (t : Fin cfg0.N) (arg1 : Memref sig .tc .vmem S36x14336 .bf16) (harg1 : arg1.IsWhole) (arg3 : Memref sig .tc .vmem S12x56x256 .i8) (harg3 : arg3.IsWhole) (arg4 : Memref sig .tc .vmem S56x256 .bf16) (harg4 : arg4.IsWhole) (arg5 : Memref sig .tc .vmem S56x256 .bf16) (harg5 : arg5.IsWhole) (arg6 : Memref sig .tc .vmem S36x256 .f32) (harg6 : arg6.IsWhole) (arg7 : Memref sig .tc .vmem S2x4x56x2x128 .bf16) (harg7 : arg7.IsWhole) (arg8 : Memref sig .tc .vmem S2x4x56x2x128 .bf16) (harg8 : arg8.IsWhole)
    (x0 : Vec Ideal S36x14336 .bf16) (x1 : Vec Ideal S12x56x256 .i8) (x2 : Vec Ideal S56x256 .bf16) (x3 : Vec Ideal S56x256 .bf16) (fh0 : HbBuf0 (F := Ideal) c hbM0_0)

/-- What a grid point stores at a row and column: the column's product with the row. -/
theorem stored_value (bb : Fin 36) (h : Fin 2) (l : Fin 128) :
    stored (F := Ideal) c t arg1 harg1 arg3 harg3 arg4 harg4 arg5 harg5 arg7 arg8 x0 x1 x2 x3 fh0 (ix2 bb ⟨128 * h.val + l.val, by omega⟩)
      = colValue 56 (fun i => x0 (ix2 bb i))
          (fun s i => (srcB0_0 (Ring.bk 16 t.val)).view.read (Elt Ideal) fh0 (ix2 ⟨56 * (col h l).val + s.val, by omega⟩ i))
          (fun i s => x1 (ix3 i s (col h l))) (fun s => x2 (ix2 s (col h l))) (fun s => x3 (ix2 s (col h l))) := by
  unfold stored
  rw [gSum_apply]
  refine Finset.sum_congr rfl fun q _ => Finset.sum_congr rfl fun R _ => ?_
  rw [gQTile_apply, actLoad_apply, slotLoad_apply, scrLoad_apply, scrLoad_apply,
    gScaled_apply, gScaled_apply, gSubS_lane, gSubM_lane, dLoad_apply, dLoad_apply]
  simp only [wLoad_apply]
  unfold rowWeight weight
  have e : (⟨7168 * h.val + (56 * l.val + 4 * q.val + R.val % 8 / 2), by omega⟩ : Fin 14336)
      = ⟨56 * (col h l).val + (4 * q.val + R.val / 2 % 4), by omega⟩ :=
    Fin.ext (by show 7168 * h.val + (56 * l.val + 4 * q.val + R.val % 8 / 2) = 56 * (128 * h.val + l.val) + (4 * q.val + R.val / 2 % 4); omega)
  rw [e]

/-- The block read back, at a row and column. -/
theorem block_value (L : List (View.Piece (Elt Ideal) S36x256 .f32)) (hL : L = [⟨Rect.unit (s := S36x256) k0_off21 S36x256.size k0_off21_inb, stored (F := Ideal) c t arg1 harg1 arg3 harg3 arg4 harg4 arg5 harg5 arg7 arg8 x0 x1 x2 x3 fh0⟩])
    (b : Fin 36) (n : Fin 256) :
    VO0_4.read (Elt Ideal) (VO0_4.writes (Elt Ideal) VO0_4.junk L) (ix2 b n)
      = colValue 56 (fun i => x0 (ix2 b i))
          (fun s i => (srcB0_0 (Ring.bk 16 t.val)).view.read (Elt Ideal) fh0 (ix2 ⟨56 * n.val + s.val, by omega⟩ i))
          (fun i s => x1 (ix3 i s n)) (fun s => x2 (ix2 s n)) (fun s => x3 (ix2 s n)) := by
  subst hL
  have e : (Rect.unit (s := S36x256) k0_off21 S36x256.size k0_off21_inb).emb (ix2 b n) = ix2 b n := by
    funext a
    refine Fin.ext ((congrArg (· + 1 * _) (congrFun k0_off21_eq a)).trans ?_)
    fin_cases a
    · show 0 + 1 * b.val = b.val; omega
    · show 0 + 1 * n.val = n.val; omega
  obtain ⟨h, l, rfl⟩ : ∃ h l, n = col h l :=
    ⟨⟨n.val / 128, by omega⟩, ⟨n.val % 128, by omega⟩, Fin.ext (by show n.val = 128 * (n.val / 128) + n.val % 128; omega)⟩
  refine Eq.trans ?_ (stored_value c t arg1 harg1 arg3 harg3 arg4 harg4 arg5 harg5 arg7 arg8 x0 x1 x2 x3 fh0 b h l)
  rw [View.read_writes_junk_eq_canon]
  refine (congrArg _ e.symm).trans ?_
  rw [View.canon_cons_emb]
  rfl

end Point

/-! ## The whole output -/

variable (m : (ℓ : Loc nD τ sig) → Buf (Elt Ideal) ℓ)

/-- Which block of its array each window stages at a grid point. -/
theorem win_idx : ∀ t : Fin cfg0.N, win0_0.index t = ![0, 0] ∧ win0_1.index t = ![0, 0, t.val] ∧ win0_2.index t = ![0, t.val] ∧ win0_3.index t = ![0, t.val] ∧ win0_4.index t = ![0, t.val] :=
  (by decide +kernel : ∀ t : Fin grid0.N, _)

/-- The operands as the launch finds them: the weight bytes as rows, -/
theorem V_v0 (c : Dev nD) : V (F := Ideal) m c main_v0 = shapeCast S229376x128 (m ((c : Thread nD τ).loc main_arg1)) shapeCasts_S4096x56x128_S229376x128 := by
  entry_read
  try rfl
/-- The packed scales, transposed. -/
theorem V_v1 (c : Dev nD) : V (F := Ideal) m c main_v1 = transpose S12x56x4096 [2, 1, 0] (m ((c : Thread nD τ).loc main_arg2)) transposes_S4096x56x12_S12x56x4096_2_1_0 := by
  entry_read
  try rfl
/-- The superblock scales, transposed. -/
theorem V_v2 (c : Dev nD) : V (F := Ideal) m c main_v2 = transpose S56x4096 [1, 0] (m ((c : Thread nD τ).loc main_arg3)) transposes_S4096x56_S56x4096_1_0 := by
  entry_read
  try rfl
/-- The superblock scales of the minima, transposed. -/
theorem V_v3 (c : Dev nD) : V (F := Ideal) m c main_v3 = transpose S56x4096 [1, 0] (m ((c : Thread nD τ).loc main_arg4)) transposes_S4096x56_S56x4096_1_0 := by
  entry_read
  try rfl

/-- The column of the output that column `n` of block `t` is. -/
def gcol (t : Fin cfg0.N) (n : Fin 256) : Fin 4096 :=
  ⟨256 * t.val + n.val, by have : t.val < 16 := t.isLt; omega⟩

/-- The activations' block, at an index of the argument. -/
theorem iblk0_apply (c : Dev nD) (t : Fin cfg0.N) (b : Fin 36) (i : Fin 14336) :
    iblk (F := Ideal) m c 0 t (ix2 b i) = m ((c : Thread nD τ).loc main_arg0) (ix2 b i) := by
  blk_ext [iblk, V_main_arg0, win_idx t]

/-- The block of packed scales, at an index of the argument. -/
theorem iblk1_apply (c : Dev nD) (t : Fin cfg0.N) (i : Fin 12) (s : Fin 56) (n : Fin 256) :
    iblk (F := Ideal) m c 1 t (ix3 i s n) = m ((c : Thread nD τ).loc main_arg2) (ix3 (gcol t n) s i) := by
  have e : iblk (F := Ideal) m c 1 t (ix3 i s n) = V (F := Ideal) m c main_v1 (ix3 i s (gcol t n)) := by
    blk_ext [iblk, gcol, win_idx t]
  rw [e, V_v1]
  pointwise

/-- The block of superblock scales, at an index of the argument. -/
theorem iblk2_apply (c : Dev nD) (t : Fin cfg0.N) (s : Fin 56) (n : Fin 256) :
    iblk (F := Ideal) m c 2 t (ix2 s n) = m ((c : Thread nD τ).loc main_arg3) (ix2 (gcol t n) s) := by
  have e : iblk (F := Ideal) m c 2 t (ix2 s n) = V (F := Ideal) m c main_v2 (ix2 s (gcol t n)) := by
    blk_ext [iblk, gcol, win_idx t]
  rw [e, V_v2]
  pointwise

/-- The block of superblock scales of the minima, at an index of the argument. -/
theorem iblk3_apply (c : Dev nD) (t : Fin cfg0.N) (s : Fin 56) (n : Fin 256) :
    iblk (F := Ideal) m c 3 t (ix2 s n) = m ((c : Thread nD τ).loc main_arg4) (ix2 (gcol t n) s) := by
  have e : iblk (F := Ideal) m c 3 t (ix2 s n) = V (F := Ideal) m c main_v3 (ix2 s (gcol t n)) := by
    blk_ext [iblk, gcol, win_idx t]
  rw [e, V_v3]
  pointwise

/-- Rows of bytes laid one under another, at an index. -/
theorem flat_apply (X : IVec S4096x56x128 8) (N : Fin 4096) (s : Fin 56) (i : Fin 128) :
    shapeCast S229376x128 X shapeCasts_S4096x56x128_S229376x128 (ix2 ⟨56 * N.val + s.val, by omega⟩ i) = X (ix3 N s i) := by
  pointwise

/-- The block of weight bytes a grid point waits for, at an index of the argument. -/
theorem src_apply (c : Dev nD) (t : Fin cfg0.N) (s : Fin 56) (i : Fin 128) (n : Fin 256) :
    (srcB0_0 (Ring.bk 16 t.val)).view.read (Elt Ideal) (V (F := Ideal) m c main_v0) (ix2 ⟨56 * n.val + s.val, by omega⟩ i)
      = m ((c : Thread nD τ).loc main_arg1) (ix3 (gcol t n) s i) := by
  have hb : (Ring.bk 16 t.val).val = t.val := Nat.mod_eq_of_lt t.isLt
  have e : (srcB0_0 (Ring.bk 16 t.val)).view.read (Elt Ideal) (V (F := Ideal) m c main_v0) (ix2 ⟨56 * n.val + s.val, by omega⟩ i)
      = V (F := Ideal) m c main_v0 (ix2 ⟨56 * (gcol t n).val + s.val, by have := (gcol t n).isLt; omega⟩ i) := by
    refine congrArg (V (F := Ideal) m c main_v0) (funext fun a => Fin.ext ?_)
    fin_cases a
    · show 14336 * (Ring.bk 16 t.val).val + 1 * (56 * n.val + s.val) = 56 * (256 * t.val + n.val) + s.val
      omega
    · show 0 + 1 * i.val = i.val; omega
  rw [e, V_v0]
  exact flat_apply _ (gcol t n) s i

/-- The block a grid point leaves, at a row and column. -/
theorem outsAt_value (c : Dev nD) (t : Fin cfg0.N) (b : Fin 36) (n : Fin 256) :
    outsAt0 (F := Ideal) m c t.val t.isLt (ix2 b n)
      = colValue 56 (fun i => iblk (F := Ideal) m c 0 t (ix2 b i))
          (fun s i => (srcB0_0 (Ring.bk 16 t.val)).view.read (Elt Ideal) (V (F := Ideal) m c main_v0) (ix2 ⟨56 * n.val + s.val, by omega⟩ i))
          (fun i s => iblk (F := Ideal) m c 1 t (ix3 i s n)) (fun s => iblk (F := Ideal) m c 2 t (ix2 s n)) (fun s => iblk (F := Ideal) m c 3 t (ix2 s n)) := by
  by_cases h0 : t.val % 16 = 0 <;> by_cases h1 : t.val < 15
  · rw [outsAt0_A m c t h0 h1]
    exact block_value c t _ _ _ _ _ _ _ _ _ _ _ _ _ _ _ _ (pieces_A ..) b n
  · exact absurd t.isLt (by have : cfg0.N = 16 := N_0; omega)
  · rw [outsAt0_B m c t h0 h1]
    exact block_value c t _ _ _ _ _ _ _ _ _ _ _ _ _ _ _ _ (pieces_B ..) b n
  · rw [outsAt0_C m c t h0 h1]
    exact block_value c t _ _ _ _ _ _ _ _ _ _ _ _ _ _ _ _ (pieces_C ..) b n

/-- The array after the run. -/
theorem final (c : Dev nD) : (dats (F := Ideal) m 0 c).arrAt 4 cfg0.N
    = product 56 (m ((c : Thread nD τ).loc main_arg0)) (m ((c : Thread nD τ).loc main_arg1)) (m ((c : Thread nD τ).loc main_arg2))
        (m ((c : Thread nD τ).loc main_arg3)) (m ((c : Thread nD τ).loc main_arg4)) := by
  refine (dats (F := Ideal) m 0 c).arrAt_eq_of_covers 4 _ (by decide +kernel) fun t _ y => ?_
  blk_simp
  rw [after0_4]
  obtain ⟨b, n, rfl⟩ : ∃ (b : Fin 36) (n : Fin 256), y = ix2 b n := ⟨y 0, y 1, by funext a; fin_cases a <;> rfl⟩
  have ey : (win0_4.blk t).view.emb (ix2 b n) = ix2 b (gcol t n) := by blk_ext [gcol, win_idx t]
  rw [ey]
  refine (outsAt_value m c t b n).trans ?_
  rw [product_apply]
  exact colValue_congr (fun i => iblk0_apply m c t b i) (fun s i => src_apply m c t s i n) (fun i s => iblk1_apply m c t i s n)
    (fun s => iblk2_apply m c t s n) (fun s => iblk3_apply m c t s n)

end Cert.DownIdeal.Rg

end
-- ==== Proof.Down.Ref.lean ====
module

public import proofs.«01_k».proof.Proof.Q4K
public import proofs.«01_k».proof.Proof.Gen.DownReferenceIdeal.Frame
public import Idealize.ShloMosaic.Lib.Pipeline.ValueKit
public import Idealize.ShloMosaic.Lib.Claim

@[expose] public section

set_option maxRecDepth 16384

noncomputable section

/-! # What the reference computes -/

namespace Cert.DownReferenceIdeal.Rv

open Cert.DownReferenceIdeal Cert.DownReferenceIdeal.Gen
open Cert.Q4K
open Idealize.ShloMosaic Idealize.ShloMosaic.TcCoe Idealize.ShloMosaic.Tactic Idealize.SL.Sem
open Idealize.ShloMosaic.Pipeline (Dat)

/-! ## The dequantised weights, at an index -/

/-- The scales, at an index: sub-scale times the superblock's scale. -/
theorem pay5_apply (v0 : IVec S4096x56x12 8) (v2 : FVec Ideal S4096x56 .bf16) (n : Fin 4096) (s : Fin 56) (g : Fin 4) (h : Fin 2) :
    k0_pay5 (F := Ideal) v0 v2 (ix4 n s g h)
      = (((subS (fun i => v0 (ix3 n s i)) ⟨2 * g.val + h.val, by omega⟩).toNat : ℝ) : EReal) * v2 (ix2 n s) := by
  pointwise [k0_pay5, k0_pay4, k0_pay3]
  rw [mul_comm]
  congr 1
  by_cases h1 : g.val * 2 + h.val < 4
  · rw [dif_pos h1, and63, sitofp_byte, subS, if_pos (show (⟨2 * g.val + h.val, by omega⟩ : Fin 8).val < 4 by show 2 * g.val + h.val < 4; omega)]
    simp only [Nat.mul_comm]
  · rw [dif_neg h1, and15, shr6, or_byte, sitofp_byte, subS, if_neg (show ¬ (⟨2 * g.val + h.val, by omega⟩ : Fin 8).val < 4 by show ¬ 2 * g.val + h.val < 4; omega)]
    have e1 : 8 + (g.val * 2 + h.val - 4) = 2 * g.val + h.val + 4 := by omega
    have e2 : g.val * 2 + h.val - 4 = 2 * g.val + h.val - 4 := by omega
    simp only [e1]
    simp only [e2]

/-- The offsets, at an index: sub-minimum times the superblock's scale of the minima. -/
theorem pay6_apply (v0 : IVec S4096x56x12 8) (v2 : FVec Ideal S4096x56 .bf16) (n : Fin 4096) (s : Fin 56) (g : Fin 4) (h : Fin 2) :
    k0_pay6 (F := Ideal) v0 v2 (ix4 n s g h)
      = (((subM (fun i => v0 (ix3 n s i)) ⟨2 * g.val + h.val, by omega⟩).toNat : ℝ) : EReal) * v2 (ix2 n s) := by
  pointwise [k0_pay6, k0_pay4, k0_pay3]
  rw [mul_comm]
  congr 1
  by_cases h1 : g.val * 2 + h.val < 4
  · rw [dif_pos h1, and63, sitofp_byte, subM, if_pos (show (⟨2 * g.val + h.val, by omega⟩ : Fin 8).val < 4 by show 2 * g.val + h.val < 4; omega)]
    simp only [Nat.mul_comm]
  · rw [dif_neg h1, shr4, shr6, or_byte, sitofp_byte, subM, if_neg (show ¬ (⟨2 * g.val + h.val, by omega⟩ : Fin 8).val < 4 by show ¬ 2 * g.val + h.val < 4; omega)]
    have e1 : 8 + (g.val * 2 + h.val - 4) = 2 * g.val + h.val + 4 := by omega
    have e2 : 4 + (g.val * 2 + h.val - 4) = 2 * g.val + h.val := by omega
    simp only [e1, e2]

variable (m : (ℓ : Loc nD τ sig) → Buf (Elt Ideal) ℓ) (g : Dev nD → PrngReg)

/-- The activations unpacked: super-block, pair of sub-blocks, half, element. -/
def acts (x : FVec Ideal S36x14336 .bf16) : FVec Ideal S36x56x4x2x32 .bf16 :=
  shapeCast S36x56x4x2x32 (transpose S36x14x4x4x2x32 [0, 1, 4, 2, 5, 3] (shapeCast S36x14x4x32x4x2 x shapeCasts_S36x14336_S36x14x4x32x4x2)
    transposes_S36x14x4x32x4x2_S36x14x4x4x2x32_0_1_4_2_5_3) shapeCasts_S36x14x4x4x2x32_S36x56x4x2x32

/-- The two products and their sum. -/
def sums (x : FVec Ideal S36x56x4x2x32 .bf16) (lo hi : FVec Ideal S4096x56x4x32 .bf16) : FVec Ideal S36x4096 .f32 :=
  addf (Host.dotGeneral dot_S36x56x4x32_S4096x56x4x32_S36x4096_231_231_0_0_n_n none
      (shapeCast S36x56x4x32 (extractStridedSlice S36x56x4x1x32 ![0, 0, 0, 0, 0] x slices_S36x56x4x2x32_S36x56x4x1x32_0_0_0_0_0) shapeCasts_S36x56x4x1x32_S36x56x4x32) lo)
    (Host.dotGeneral dot_S36x56x4x32_S4096x56x4x32_S36x4096_231_231_0_0_n_n none
      (shapeCast S36x56x4x32 (extractStridedSlice S36x56x4x1x32 ![0, 0, 0, 1, 0] x slices_S36x56x4x2x32_S36x56x4x1x32_0_0_0_1_0) shapeCasts_S36x56x4x1x32_S36x56x4x32) hi)

/-- What the host does after the dequantisation. -/
theorem tail_any (W : Valuation τ sig (Elt Ideal)) : StableHlo.after (hostOps1 (F := Ideal)) W (Proc.devRef .tc main_v10)
    = sums (W (Proc.devRef .tc main_v2)) (W (Proc.devRef .tc main_v3_0)) (W (Proc.devRef .tc main_v3_1)) := by
  after_results
  rfl

/-- What the host does before it. -/
theorem head_any (W : Valuation τ sig (Elt Ideal)) : StableHlo.after (hostOps0 (F := Ideal)) W (Proc.devRef .tc main_v2)
    = acts (W (Proc.devRef .tc main_arg0)) := by
  after_results
  rfl

/-- The unpacked activations, at an index. -/
theorem acts_apply (x : FVec Ideal S36x14336 .bf16) (b : Fin 36) (s : Fin 56) (g : Fin 4) (h : Fin 2) (i : Fin 32) :
    acts x (ix5 b s g h i) = x (ix2 b ⟨1024 * (s.val / 4) + (256 * g.val + 8 * i.val + 2 * (s.val % 4) + h.val), by omega⟩) := by
  pointwise [acts]
  have e : s.val / 4 * 1024 + g.val * 256 + i.val * 8 + s.val % 4 * 2 + h.val = 1024 * (s.val / 4) + (256 * g.val + 8 * i.val + 2 * (s.val % 4) + h.val) := by omega
  simp only [e]

/-- The products' contraction index: a pair of sub-blocks, a byte of the pair, a super-block. -/
def contr3 : dot_S36x56x4x32_S4096x56x4x32_S36x4096_231_231_0_0_n_n.contr.Idx ≃ Fin 4 × Fin 32 × Fin 56 where
  toFun k := (k (0 : Fin 3), k (1 : Fin 3), k (2 : Fin 3))
  invFun p := fun (a : Fin 3) => match a with
    | 0 => p.1
    | 1 => p.2.1
    | 2 => p.2.2
  left_inv k := by
    funext (a : Fin 3)
    fin_cases a <;> rfl
  right_inv p := rfl

/-- One product, at a row and column. -/
theorem dot_apply (l : FVec Ideal S36x56x4x32 .bf16) (r : FVec Ideal S4096x56x4x32 .bf16) (b : Fin 36) (n : Fin 4096) :
    Host.dotGeneral dot_S36x56x4x32_S4096x56x4x32_S36x4096_231_231_0_0_n_n none l r (ix2 b n)
      = ∑ s : Fin 56, ∑ g : Fin 4, ∑ i : Fin 32, l (ix4 b s g i) * r (ix4 n s g i) := by
  have e : Host.dotGeneral dot_S36x56x4x32_S4096x56x4x32_S36x4096_231_231_0_0_n_n none l r (ix2 b n)
      = ∑ p : Fin 4 × Fin 32 × Fin 56, l (ix4 b p.2.2 p.1 p.2.1) * r (ix4 n p.2.2 p.1 p.2.1) := by
    pointwise []
    unfold Ideal.matmul
    refine (zero_add _).trans (Fintype.sum_equiv contr3 _ _ fun k => ?_)
    congr 1
    · congr 1
      funext x
      fin_cases x <;> rfl
    · congr 1
      funext x
      fin_cases x <;> rfl
  rw [e]
  simp only [Fintype.sum_prod_type]
  calc ∑ g : Fin 4, ∑ i : Fin 32, ∑ s : Fin 56, l (ix4 b s g i) * r (ix4 n s g i)
      = ∑ g : Fin 4, ∑ s : Fin 56, ∑ i : Fin 32, l (ix4 b s g i) * r (ix4 n s g i) :=
        Finset.sum_congr rfl fun g _ => Finset.sum_comm
    _ = _ := Finset.sum_comm

/-- The two products' sum, at a row and column. -/
theorem sums_apply (x : FVec Ideal S36x56x4x2x32 .bf16) (lo hi : FVec Ideal S4096x56x4x32 .bf16) (b : Fin 36) (n : Fin 4096) :
    sums x lo hi (ix2 b n) = (∑ s : Fin 56, ∑ g : Fin 4, ∑ i : Fin 32, x (ix5 b s g 0 i) * lo (ix4 n s g i))
      + ∑ s : Fin 56, ∑ g : Fin 4, ∑ i : Fin 32, x (ix5 b s g 1 i) * hi (ix4 n s g i) := by
  show Host.dotGeneral _ _ _ _ _ + Host.dotGeneral _ _ _ _ _ = _
  rw [dot_apply, dot_apply]
  pointwise []

/-- The weights of the low nibbles, at an index. -/
theorem pay1_apply (s o : FVec Ideal S4096x56x4x2 .bf16) (q : IVec S4096x56x128 8) (n : Fin 4096) (t : Fin 56) (g : Fin 4) (i : Fin 32) :
    k0_pay1 (F := Ideal) s o (k0_pay7 (F := Ideal) q) k0_pay8 (ix4 n t g i)
      = (((nib (q (ix3 n t ⟨32 * g.val + i.val, by omega⟩)) 0 : ℕ) : ℝ) : EReal) * s (ix4 n t g 0) - o (ix4 n t g 0) := by
  pointwise [k0_pay1, k0_pay7, k0_pay8]
  rw [and15, sitofp_byte, nib_lo]
  simp only [Nat.mul_comm]

/-- The weights of the high nibbles, at an index. -/
theorem pay2_apply (s o : FVec Ideal S4096x56x4x2 .bf16) (q : IVec S4096x56x128 8) (n : Fin 4096) (t : Fin 56) (g : Fin 4) (i : Fin 32) :
    k0_pay2 (F := Ideal) s o (k0_pay7 (F := Ideal) q) (ix4 n t g i)
      = (((nib (q (ix3 n t ⟨32 * g.val + i.val, by omega⟩)) 1 : ℕ) : ℝ) : EReal) * s (ix4 n t g 1) - o (ix4 n t g 1) := by
  pointwise [k0_pay2, k0_pay7]
  rw [shr4, sitofp_byte, nib_hi]
  simp only [Nat.mul_comm]

/-- The one grid point's blocks begin at the arrays' beginnings. -/
theorem win_idx : ∀ t : Fin cfg0.N, win0_0.index t = ![0, 0, 0] ∧ win0_1.index t = ![0, 0, 0] ∧ win0_2.index t = ![0, 0] ∧ win0_3.index t = ![0, 0] ∧ win0_4.index t = ![0, 0, 0, 0] ∧ win0_5.index t = ![0, 0, 0, 0] :=
  (by decide +kernel : ∀ t : Fin grid0.N, _)

/-- The block of weight bytes is the argument. -/
theorem ld0 (c : Dev nD) : View.ld (iblk (F := Ideal) m c 0 t0_0) r0_2 = m ((c : Thread nD τ).loc main_arg1) := by
  rw [← V_main_arg1 m c]
  refine (View.ld_unit_zero (by funext a; fin_cases a <;> rfl) _ _).trans ?_
  funext j
  blk_ext [iblk, win_idx t0_0]

/-- The block of packed scales is the argument. -/
theorem ld1 (c : Dev nD) : View.ld (iblk (F := Ideal) m c 1 t0_0) r0_0 = m ((c : Thread nD τ).loc main_arg2) := by
  rw [← V_main_arg2 m c]
  refine (View.ld_unit_zero (by funext a; fin_cases a <;> rfl) _ _).trans ?_
  funext j
  blk_ext [iblk, win_idx t0_0]

/-- The block of superblock scales is the argument. -/
theorem ld2 (c : Dev nD) : View.ld (iblk (F := Ideal) m c 2 t0_0) r0_1 = m ((c : Thread nD τ).loc main_arg3) := by
  rw [← V_main_arg3 m c]
  refine (View.ld_unit_zero (by funext a; fin_cases a <;> rfl) _ _).trans ?_
  funext j
  blk_ext [iblk, win_idx t0_0]

/-- The block of superblock scales of the minima is the argument. -/
theorem ld3 (c : Dev nD) : View.ld (iblk (F := Ideal) m c 3 t0_0) r0_1 = m ((c : Thread nD τ).loc main_arg4) := by
  rw [← V_main_arg4 m c]
  refine (View.ld_unit_zero (by funext a; fin_cases a <;> rfl) _ _).trans ?_
  funext j
  blk_ext [iblk, win_idx t0_0]

/-- The array of low weights after the call. -/
theorem out4_eq (c : Dev nD) : (dats (F := Ideal) m 0 c).arrAt 4 cfg0.N
    = k0_pay1 (k0_pay5 (m ((c : Thread nD τ).loc main_arg2)) (m ((c : Thread nD τ).loc main_arg3)))
        (k0_pay6 (m ((c : Thread nD τ).loc main_arg2)) (m ((c : Thread nD τ).loc main_arg4)))
        (k0_pay7 (F := Ideal) (m ((c : Thread nD τ).loc main_arg1))) k0_pay8 := by
  refine (dats (F := Ideal) m 0 c).arrAt_eq_of_after_last 4 t0_0 (by decide +kernel) _ fun j => ?_
  blk_simp
  rw [after0_4]
  frame_out
  unfold k0_pay9 k0_pay10 k0_pay11
  rw [ld0, ld1, ld2, ld3, ld1]

/-- The array of high weights after the call. -/
theorem out5_eq (c : Dev nD) : (dats (F := Ideal) m 0 c).arrAt 5 cfg0.N
    = k0_pay2 (k0_pay5 (m ((c : Thread nD τ).loc main_arg2)) (m ((c : Thread nD τ).loc main_arg3)))
        (k0_pay6 (m ((c : Thread nD τ).loc main_arg2)) (m ((c : Thread nD τ).loc main_arg4)))
        (k0_pay7 (F := Ideal) (m ((c : Thread nD τ).loc main_arg1))) := by
  refine (dats (F := Ideal) m 0 c).arrAt_eq_of_after_last 5 t0_0 (by decide +kernel) _ fun j => ?_
  blk_simp
  rw [after0_5]
  frame_out
  unfold k0_pay9 k0_pay10 k0_pay11
  rw [ld0, ld1, ld2, ld3, ld1]

/-! ## The result -/

/-- The reference's terms are the sums of the format's weights with the activations. -/
theorem value_apply (A : FVec Ideal S36x14336 .bf16) (Q : IVec S4096x56x128 8) (C : IVec S4096x56x12 8) (D M : FVec Ideal S4096x56 .bf16) :
    sums (acts A) (k0_pay1 (k0_pay5 C D) (k0_pay6 C M) (k0_pay7 (F := Ideal) Q) k0_pay8)
        (k0_pay2 (k0_pay5 C D) (k0_pay6 C M) (k0_pay7 (F := Ideal) Q))
      = product 56 A Q C D M := by
  funext x
  obtain ⟨b, n, rfl⟩ : ∃ (b : Fin 36) (n : Fin 4096), x = ix2 b n := ⟨x 0, x 1, eq_ix2 x⟩
  rw [sums_apply, product_apply]
  simp only [acts_apply, pay1_apply, pay2_apply, pay5_apply, pay6_apply]
  exact colValue_eq_sums 56 (by decide) (fun k => A (ix2 b k)) (fun s l => Q (ix3 n s l)) (fun j s => C (ix3 n s j)) (fun s => D (ix2 n s)) (fun s => M (ix2 n s))

/-- What @main's result holds after the host operations that follow the dequantisation. -/
theorem final (c : Dev nD) : Pipeline.afterTail₀ cfgs (dats (F := Ideal) m) 0 (V0 m) [hostOps1] c main_v10
    = product 56 (m ((c : Thread nD τ).loc main_arg0)) (m ((c : Thread nD τ).loc main_arg1)) (m ((c : Thread nD τ).loc main_arg2))
        (m ((c : Thread nD τ).loc main_arg3)) (m ((c : Thread nD τ).loc main_arg4)) := by
  unfold Pipeline.afterTail₀
  refine (tail_any _).trans ?_
  rw [← value_apply]
  refine congr (congr (congrArg sums ?_) ?_) ?_
  · rw [Pipeline.withArrays_of_ne _ c (V0 m c) _ main_v2 (by exact (by decide : ∀ w, Pipeline.arrRef spec0 w ≠ main_v2))]
    exact head_any _
  · exact (Pipeline.withArrays_arr spec0 (by decide) c (V0 m c) (fun w => (dats m 0 c).arrAt w cfg0.N) 4).trans (out4_eq m c)
  · exact (Pipeline.withArrays_arr spec0 (by decide) c (V0 m c) (fun w => (dats m 0 c).arrAt w cfg0.N) 5).trans (out5_eq m c)

end Cert.DownReferenceIdeal.Rv

end
-- ==== Proof.Rope.Bits.Run.lean ====
/- The run of the body of `_rope_body`: what its stores leave in the outputs. -/
module

public import proofs.«01_k».proof.Proof.Gen.Rope.Frame
public import proofs.«01_k».proof.Proof.Gen.Rope.Skeleton
public import proofs.«01_k».proof.Proof.Gen.Rope.Points
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.Rope.Rg

open Cert.Rope Cert.Rope.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers

A staging buffer of each output, through which its contents are stated. -/

abbrev VO0_6 : View sig .tc .vmem S1152x512 .bf16 := (Memref.whole cc0_stg6_0 : Memref sig .tc .vmem S1152x512 .bf16).view
abbrev VO0_7 : View sig .tc .vmem S288x128 .bf16 := (Memref.whole cc0_stg7_0 : Memref sig .tc .vmem S288x128 .bf16).view
abbrev VO0_8 : View sig .tc .vmem S288x128 .bf16 := (Memref.whole cc0_stg8_0 : Memref sig .tc .vmem S288x128 .bf16).view
abbrev VO0_9 : View sig .tc .vmem S1152x128 .f32 := (Memref.whole cc0_stg9_0 : Memref sig .tc .vmem S1152x128 .f32).view
abbrev VO0_10 : View sig .tc .vmem S1152x128 .f32 := (Memref.whole cc0_stg10_0 : Memref sig .tc .vmem S1152x128 .f32).view
/-- Each window's current staging memref at point `t`, spelled as the pipeline passes it (`bodyAt0`), and its wholeness. -/
abbrev ms0_0 (t : Fin cfg0.N) : Memref sig .tc .vmem S36x4096 .f32 := win0_0.stage (cfg0.slots t 0)
abbrev hs0_0 (t : Fin cfg0.N) : (ms0_0 t).IsWhole := hstage0_0 0
abbrev ms0_1 (t : Fin cfg0.N) : Memref sig .tc .vmem S36x1024 .f32 := win0_1.stage (cfg0.slots t 1)
abbrev hs0_1 (t : Fin cfg0.N) : (ms0_1 t).IsWhole := hstage0_1 0
abbrev ms0_2 (t : Fin cfg0.N) : Memref sig .tc .vmem S36x1024 .f32 := win0_2.stage (cfg0.slots t 2)
abbrev hs0_2 (t : Fin cfg0.N) : (ms0_2 t).IsWhole := hstage0_2 0
abbrev ms0_3 (t : Fin cfg0.N) : Memref sig .tc .vmem S36x128 .f32 := win0_3.stage (cfg0.slots t 3)
abbrev hs0_3 (t : Fin cfg0.N) : (ms0_3 t).IsWhole := hstage0_3 0
abbrev ms0_4 (t : Fin cfg0.N) : Memref sig .tc .vmem S36x128 .f32 := win0_4.stage (cfg0.slots t 4)
abbrev hs0_4 (t : Fin cfg0.N) : (ms0_4 t).IsWhole := hstage0_4 0
abbrev ms0_5 (t : Fin cfg0.N) : Memref sig .tc .vmem S128x512 .bf16 := win0_5.stage (cfg0.slots t 5)
abbrev hs0_5 (t : Fin cfg0.N) : (ms0_5 t).IsWhole := hstage0_5 0
abbrev ms0_6 (t : Fin cfg0.N) : Memref sig .tc .vmem S1152x512 .bf16 := win0_6.stage (cfg0.slots t 6)
abbrev hs0_6 (t : Fin cfg0.N) : (ms0_6 t).IsWhole := hstage0_6 0
abbrev ms0_7 (t : Fin cfg0.N) : Memref sig .tc .vmem S288x128 .bf16 := win0_7.stage (cfg0.slots t 7)
abbrev hs0_7 (t : Fin cfg0.N) : (ms0_7 t).IsWhole := hstage0_7 0
abbrev ms0_8 (t : Fin cfg0.N) : Memref sig .tc .vmem S288x128 .bf16 := win0_8.stage (cfg0.slots t 8)
abbrev hs0_8 (t : Fin cfg0.N) : (ms0_8 t).IsWhole := hstage0_8 0
abbrev ms0_9 (t : Fin cfg0.N) : Memref sig .tc .vmem S1152x128 .f32 := win0_9.stage (cfg0.slots t 9)
abbrev hs0_9 (t : Fin cfg0.N) : (ms0_9 t).IsWhole := hstage0_9 0
abbrev ms0_10 (t : Fin cfg0.N) : Memref sig .tc .vmem S1152x128 .f32 := win0_10.stage (cfg0.slots t 10)
abbrev hs0_10 (t : Fin cfg0.N) : (ms0_10 t).IsWhole := hstage0_10 0
/-- The scratch operands: whole scoped buffers of the kernel's own, passed beside the windows. -/
abbrev scM0_0 : Memref sig .tc .vmem S1152x128 .f32 := Memref.whole cc0_scratch0
abbrev scM0_1 : Memref sig .tc .vmem S288x128 .f32 := Memref.whole cc0_scratch1
abbrev scM0_2 : Memref sig .tc .vmem S288x128 .f32 := Memref.whole cc0_scratch2
abbrev scM0_3 : Memref sig .tc .vmem S1152x128 .f32 := Memref.whole cc0_scratch3

/-- The invariant between points: the scratch buffers and the generator register at some contents. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d)) ∗ (∃ r, prngReg c r)) := by
  unfold Pipeline.ΦA; rw [scopedRest0_eq]; simp only [scM0_0, scM0_1, scM0_2, scM0_3, owns_whole]; try rfl

set_option maxHeartbeats 1656000 in set_option sl_exec.stridedRows true in
/-- What the body leaves in each output's staging buffer, as pieces with the last store first, and the proof that the body
    leaves them: on whole staging buffers, the inputs' at their contents and the outputs' and scratch at anything, it runs to
    its end with the inputs as they were, the scratch at some contents and each output with its pieces written. -/
noncomputable def kernelRun0_A (c : Dev nD) (arg0 : Memref sig .tc .vmem S36x4096 .f32) (harg0 : arg0.IsWhole) (arg1 : Memref sig .tc .vmem S36x1024 .f32) (harg1 : arg1.IsWhole) (arg2 : Memref sig .tc .vmem S36x1024 .f32) (harg2 : arg2.IsWhole) (arg3 : Memref sig .tc .vmem S36x128 .f32) (harg3 : arg3.IsWhole) (arg4 : Memref sig .tc .vmem S36x128 .f32) (harg4 : arg4.IsWhole) (arg5 : Memref sig .tc .vmem S128x512 .bf16) (harg5 : arg5.IsWhole) (arg6 : Memref sig .tc .vmem S1152x512 .bf16) (harg6 : arg6.IsWhole) (arg7 : Memref sig .tc .vmem S288x128 .bf16) (harg7 : arg7.IsWhole) (arg8 : Memref sig .tc .vmem S288x128 .bf16) (harg8 : arg8.IsWhole) (arg9 : Memref sig .tc .vmem S1152x128 .f32) (harg9 : arg9.IsWhole) (arg10 : Memref sig .tc .vmem S1152x128 .f32) (harg10 : arg10.IsWhole) (arg11 : Memref sig .tc .vmem S1152x128 .f32) (harg11 : arg11.IsWhole) (arg12 : Memref sig .tc .vmem S288x128 .f32) (harg12 : arg12.IsWhole) (arg13 : Memref sig .tc .vmem S288x128 .f32) (harg13 : arg13.IsWhole) (arg14 : Memref sig .tc .vmem S1152x128 .f32) (harg14 : arg14.IsWhole)
    (x0 : Vec F S36x4096 .f32) (x1 : Vec F S36x1024 .f32) (x2 : Vec F S36x1024 .f32) (x3 : Vec F S36x128 .f32) (x4 : Vec F S36x128 .f32) (x5 : Vec F S128x512 .bf16) :
    Σ' (L6 : List (View.Piece (Elt F) S1152x512 .bf16)), Σ' (L7 : List (View.Piece (Elt F) S288x128 .bf16)), Σ' (L8 : List (View.Piece (Elt F) S288x128 .bf16)), Σ' (L9 : List (View.Piece (Elt F) S1152x128 .f32)), { L10 : List (View.Piece (Elt F) S1152x128 .f32) //
      ∀ (E : Set ℕ) (K : PUnit → sProp 𝕄),
        iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d)
            ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ (∃ f, arg6.view.loc (c : Thread nD τ) ↦[arg6.view.set]{fullShare} arg6.view.writes (Elt F) f L6) ∗ (∃ f, arg7.view.loc (c : Thread nD τ) ↦[arg7.view.set]{fullShare} arg7.view.writes (Elt F) f L7) ∗ (∃ f, arg8.view.loc (c : Thread nD τ) ↦[arg8.view.set]{fullShare} arg8.view.writes (Elt F) f L8) ∗ (∃ f, arg9.view.loc (c : Thread nD τ) ↦[arg9.view.set]{fullShare} arg9.view.writes (Elt F) f L9) ∗ (∃ f, arg10.view.loc (c : Thread nD τ) ↦[arg10.view.set]{fullShare} arg10.view.writes (Elt F) f L10) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d)) -∗ K ⟨⟩))
          ⊢ wp frame (wpE (defs₀ (F := F)) Variants.none c none) E (cc0__rope_body arg0 harg0 arg1 harg1 arg2 harg2 arg3 harg3 arg4 harg4 arg5 harg5 arg6 harg6 arg7 harg7 arg8 harg8 arg9 harg9 arg10 harg10 arg11 harg11 arg12 harg12 arg13 harg13 arg14 harg14) K } := by
  refine ⟨?_, ?_, ?_, ?_, ?_, fun E K => ?run⟩
  case run =>
    simp only [cc0__rope_body_eq_skeleton]; unfold cc0__rope_body_skel
    simp only [k0_part21_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%d9, %f9, -, H9⟩, ⟨%d10, %f10, -, H10⟩, ⟨%ds0, %fs0, -, HS0⟩, ⟨%ds1, %fs1, -, HS1⟩, ⟨%ds2, %fs2, -, HS2⟩, ⟨%ds3, %fs3, -, HS3⟩, Hk⟩
    obtain rfl := harg0.eq_unread hf0; obtain rfl := harg1.eq_unread hf1; obtain rfl := harg2.eq_unread hf2; obtain rfl := harg3.eq_unread hf3; obtain rfl := harg4.eq_unread hf4; obtain rfl := harg5.eq_unread hf5
    sl_exec
    sl_step
    iapply Hk
    isplitl [H0]
    · iexists _; isplitr; · ipureintro; exact harg0.read_unread _
      iexact H0
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]; · iexists _; iexact H6
    isplitl [H7]; · iexists _; iexact H7
    isplitl [H8]; · iexists _; iexact H8
    isplitl [H9]; · iexists _; iexact H9
    isplitl [H10]; · iexists _; iexact H10
    isplitl [HS0]
    · iexists _, _; isplitr; swap; · iexact HS0
      ipureintro; rfl
    isplitl [HS1]
    · iexists _, _; isplitr; swap; · iexact HS1
      ipureintro; rfl
    isplitl [HS2]
    · iexists _, _; isplitr; swap; · iexact HS2
      ipureintro; rfl
    iexists _, _; isplitr; swap; · iexact HS3
    ipureintro; rfl

end Cert.Rope.Rg

end
-- ==== Proof.Rope.Bits.Frame.lean ====
/- The frame of `_rope_body`'s call: it runs to its end, its outputs hold what the body leaves and its arguments are unchanged. -/
module

public import proofs.«01_k».proof.Proof.Rope.Bits.Run
public import Idealize.ShloMosaic.Lib.Claim

@[expose] public section

set_option maxRecDepth 16384

noncomputable section

namespace Cert.Rope.Rg

open Cert.Rope Cert.Rope.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The rows of one store of output 10 are inside it. -/
theorem inb10 (n : Fin 32) : ∀ a, S36x128.size a = 0 ∨ (![n.val, 0] : Fin 2 → Nat) a + ![32, 1] a * (S36x128.size a - 1) < S1152x128.size a := by
  intro a; right; fin_cases a <;> simp [S36x128, S1152x128, Shape.size] <;> omega

/-- The rows of one store of output 10: those that leave `n` by 32. -/
def row10 (n : Fin 32) : Rect S1152x128 := ⟨⟨![n.val, 0], S36x128.size, ![32, 1], inb10 n⟩, fun a => by fin_cases a <;> simp⟩

/-- Every row is in the store of its remainder by 32. -/
theorem mem_row10 (y : S1152x128.Idx) : y ∈ (row10 ⟨(y 0).val % 32, Nat.mod_lt _ (by omega)⟩).set := by
  have h0 : (y 0).val < 1152 := (y 0).isLt
  refine (row10 _).toLoadRect.mem_set.mpr fun a => ?_
  fin_cases a
  · exact ⟨(y 0).val / 32, by show (y 0).val / 32 < 36; omega, by show (y 0).val = (y 0).val % 32 + 32 * ((y 0).val / 32); omega⟩
  · exact ⟨(y 1).val, (y 1).isLt, by show (y 1).val = 0 + 1 * (y 1).val; omega⟩

/-- The run at point `t`, on the windows' blocks. -/
abbrev runAt (c : Dev nD) (t : Fin cfg0.N) := kernelRun0_A c (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) (iblk m c 0 t) (iblk m c 1 t) (iblk m c 2 t) (iblk m c 3 t) (iblk m c 4 t) (iblk m c 5 t)

/-- Output 6's pieces cover it. -/
theorem cover6 (c : Dev nD) (t : Fin cfg0.N) (y : S1152x512.Idx) : ∃ pc ∈ (runAt m c t).1, y ∈ pc.1.set :=
  View.cover_of_tiledL (runAt m c t).1 S1152x512.size (by sl_kernel_rfl) y

/-- What output 6's staging buffer holds after the body. -/
def out6 (c : Dev nD) (t : Fin cfg0.N) : Vec F S1152x512 .bf16 := VO0_6.read (Elt F) (VO0_6.writes (Elt F) VO0_6.junk (runAt m c t).1)

/-- Output 7's pieces cover it. -/
theorem cover7 (c : Dev nD) (t : Fin cfg0.N) (y : S288x128.Idx) : ∃ pc ∈ (runAt m c t).2.1, y ∈ pc.1.set :=
  View.cover_of_tiledL (runAt m c t).2.1 S288x128.size (by sl_kernel_rfl) y

/-- What output 7's staging buffer holds after the body. -/
def out7 (c : Dev nD) (t : Fin cfg0.N) : Vec F S288x128 .bf16 := VO0_7.read (Elt F) (VO0_7.writes (Elt F) VO0_7.junk (runAt m c t).2.1)

/-- Output 8's pieces cover it. -/
theorem cover8 (c : Dev nD) (t : Fin cfg0.N) (y : S288x128.Idx) : ∃ pc ∈ (runAt m c t).2.2.1, y ∈ pc.1.set :=
  View.cover_of_tiledL (runAt m c t).2.2.1 S288x128.size (by sl_kernel_rfl) y

/-- What output 8's staging buffer holds after the body. -/
def out8 (c : Dev nD) (t : Fin cfg0.N) : Vec F S288x128 .bf16 := VO0_8.read (Elt F) (VO0_8.writes (Elt F) VO0_8.junk (runAt m c t).2.2.1)

/-- Output 9's pieces cover it. -/
theorem cover9 (c : Dev nD) (t : Fin cfg0.N) (y : S1152x128.Idx) : ∃ pc ∈ (runAt m c t).2.2.2.1, y ∈ pc.1.set :=
  View.cover_of_tiledL (runAt m c t).2.2.2.1 S1152x128.size (by sl_kernel_rfl) y

/-- What output 9's staging buffer holds after the body. -/
def out9 (c : Dev nD) (t : Fin cfg0.N) : Vec F S1152x128 .f32 := VO0_9.read (Elt F) (VO0_9.writes (Elt F) VO0_9.junk (runAt m c t).2.2.2.1)

/-- Where the 32 stores of output 10 go: row `n` of every 32. -/
theorem rects10 (c : Dev nD) (t : Fin cfg0.N) :
    ((runAt m c t).2.2.2.2.1).map (·.1) = (List.finRange 32).reverse.map fun n : Fin 32 =>
      row10 n := by
  sl_kernel_rfl

/-- Output 10's pieces cover it. -/
theorem cover10 (c : Dev nD) (t : Fin cfg0.N) (y : S1152x128.Idx) : ∃ pc ∈ (runAt m c t).2.2.2.2.1, y ∈ pc.1.set := by
  have hy : (y 0).val < 1152 := (y 0).isLt
  have hr : row10 ⟨(y 0).val % 32, Nat.mod_lt _ (by omega)⟩
      ∈ ((runAt m c t).2.2.2.2.1).map (·.1) := by
    rw [rects10]
    exact List.mem_map.mpr ⟨⟨(y 0).val % 32, Nat.mod_lt _ (by omega)⟩, List.mem_reverse.mpr (List.mem_finRange _), rfl⟩
  obtain ⟨pc, hpc, e⟩ := List.mem_map.mp hr
  refine ⟨pc, hpc, ?_⟩
  rw [e]
  exact mem_row10 y

/-- What output 10's staging buffer holds after the body. -/
def out10 (c : Dev nD) (t : Fin cfg0.N) : Vec F S1152x128 .f32 := VO0_10.read (Elt F) (VO0_10.writes (Elt F) VO0_10.junk (runAt m c t).2.2.2.2.1)

/-! ## The pipeline's proof data -/

/-- The proof data on core `c`: each input's buffer keeps its block, each output's ends at what the body leaves. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => out6 m c t
    | ⟨7, _⟩ => out7 m c t
    | ⟨8, _⟩ => out8 m c t
    | ⟨9, _⟩ => out9 m c t
    | ⟨10, _⟩ => out10 m c t
  Φ _ := Pipeline.ΦA spec0 c
  q _ := fullShare
  owed _ := 0

/-- The proof data's arrays are those the region finds. -/
theorem A_eq (c : Dev nD) (w : Fin cfg0.W) : (dats m 0 c).A w = V m c (Pipeline.arrRef spec0 w) := by
  dsimp only [dats]

/-- What the body leaves, window by window. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = out6 m c t := by dsimp only [dats]
theorem after0_7 (c : Dev nD) (t : Fin cfg0.N) : (dats m 0 c).after 7 t = out7 m c t := by dsimp only [dats]
theorem after0_8 (c : Dev nD) (t : Fin cfg0.N) : (dats m 0 c).after 8 t = out8 m c t := by dsimp only [dats]
theorem after0_9 (c : Dev nD) (t : Fin cfg0.N) : (dats m 0 c).after 9 t = out9 m c t := by dsimp only [dats]
theorem after0_10 (c : Dev nD) (t : Fin cfg0.N) : (dats m 0 c).after 10 t = out10 m c t := by dsimp only [dats]

/-- Each input's buffer holds its block. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

/-! ## The body obligation, at a generic point -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t))

set_option maxHeartbeats 1200000 in
/-- The body at any point: the inputs hold their blocks, so the run applies. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10]
  rw [show (dats m 0 c).Φ t.castSucc = Pipeline.ΦA spec0 c from rfl, PhiA0_eq]
  unfold out6 out7 out8 out9 out10
  iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply ((runAt m c t).2.2.2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  isplitl [H8]; · iexists _; iexact H8
  isplitl [H9]; · iexists _; iexact H9
  isplitl [H10]; · iexists _; iexact H10
  isplitl [HS0]; · iexact HS0
  isplitl [HS1]; · iexact HS1
  isplitl [HS2]; · iexact HS2
  isplitl [HS3]; · iexact HS3
  iintro ⟨H0, H1, H2, H3, H4, H5, ⟨%e6, H6⟩, ⟨%e7, H7⟩, ⟨%e8, H8⟩, ⟨%e9, H9⟩, ⟨%e10, H10⟩, HS0, HS1, HS2, HS3⟩
  isplitl [HS0 HS1 HS2 HS3 Hg]
  · isplitl [HS0 HS1 HS2 HS3]
    · isplitl [HS0]
      · iexact HS0
      isplitl [HS1]
      · iexact HS1
      isplitl [HS2]
      · iexact HS2
      iexact HS3
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]
  · unfold owns; iexists _; isplitr
    swap; · iexact H6
    ipureintro; exact View.read_writes_of_cover _ _ _ _ _ (cover6 m c t)
  isplitl [H7]
  · unfold owns; iexists _; isplitr
    swap; · iexact H7
    ipureintro; exact View.read_writes_of_cover _ _ _ _ _ (cover7 m c t)
  isplitl [H8]
  · unfold owns; iexists _; isplitr
    swap; · iexact H8
    ipureintro; exact View.read_writes_of_cover _ _ _ _ _ (cover8 m c t)
  isplitl [H9]
  · unfold owns; iexists _; isplitr
    swap; · iexact H9
    ipureintro; exact View.read_writes_of_cover _ _ _ _ _ (cover9 m c t)
  unfold owns; iexists _; isplitr
  swap; · iexact H10
  ipureintro; exact View.read_writes_of_cover _ _ _ _ _ (cover10 m c t)

/-- The body the pipeline calls at point `t`. -/
theorem defs₀_row (t : Fin cfg0.N) :
    defs₀ (F := F) .tc cfg0.body (cfg0.bodyArgs t (cfg0.slots t)) = bodyAt0 t := by
  unfold defs₀; rw [Defs.onTc_tc]

/-- The obligation on the body, at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

set_option backward.isDefEq.respectTransparency.types false in
/-- The run of the program: every output at its proof data, and every counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The run without the counters. -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_of m ρ (dats m) (A_eq m) (run_main m ρ)

/-- The frame: the arguments end unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (unchanged m ρ) ((θ_run defs _ _).mono (fun _ h => h.2) (run_main_quiescent m ρ))

end Cert.Rope.Rg

end
-- ==== Proof.Rope.Ref.lean ====
module

public import proofs.«01_k».proof.Proof.Gen.RopeReferenceIdeal.Run
public import Idealize.ShloMosaic.Lib.Pipeline.ValueKit
public import Idealize.ShloMosaic.Lib.Claim

@[expose] public section

set_option maxRecDepth 16384

noncomputable section

/-! # The rotated keys and the regrouped values, and that the reference computes them

A row of the projection is eight heads of 64 pairs.  The keys' pairs are turned by the row's angles, the values are only laid
out anew: row `8 b + h` of the result is head `h` of row `b`. -/

namespace Cert.RopeMath

open Idealize.ShloMosaic Idealize.ShloMosaic.TcCoe Idealize.ShloMosaic.Tactic

/-- Where number `p` of pair `j` of head `h` lies in a row of the projection. -/
def pos (h : Fin 8) (j : Fin 64) (p : Fin 2) : Fin 1024 :=
  ⟨128 * h.val + (2 * j.val + p.val), by omega⟩

/-- A pair turned by an angle. -/
def turn (k : FVec Ideal ⟨2, ![36, 1024]⟩ .f32) (cos sin : FVec Ideal ⟨2, ![36, 64]⟩ .f32) (b : Fin 36) (h : Fin 8) (j : Fin 64) (p : Fin 2) : EReal :=
  if p = 0 then k (ix2 b (pos h j 0)) * cos (ix2 b j) - k (ix2 b (pos h j 1)) * sin (ix2 b j)
  else k (ix2 b (pos h j 0)) * sin (ix2 b j) + k (ix2 b (pos h j 1)) * cos (ix2 b j)

/-- Row `8 b + h` of a result. -/
def row (b : Fin 36) (h : Fin 8) : Fin 288 :=
  ⟨8 * b.val + h.val, by omega⟩

/-- Column `2 j + p` of a result. -/
def lane (j : Fin 64) (p : Fin 2) : Fin 128 :=
  ⟨2 * j.val + p.val, by omega⟩

/-- Every index of a result is of a head of a row, and of a number of a pair. -/
theorem index_cases (y : (⟨2, ![288, 128]⟩ : Shape).Idx) : ∃ b h j p, y = ix2 (row b h) (lane j p) := by
  have h0 : (y 0).val < 288 := (y 0).isLt
  have h1 : (y 1).val < 128 := (y 1).isLt
  refine ⟨⟨(y 0).val / 8, by omega⟩, ⟨(y 0).val % 8, by omega⟩, ⟨(y 1).val / 2, by omega⟩, ⟨(y 1).val % 2, by omega⟩, ?_⟩
  funext a
  fin_cases a
  · exact Fin.ext (by show (y 0).val = 8 * ((y 0).val / 8) + (y 0).val % 8; omega)
  · exact Fin.ext (by show (y 1).val = 2 * ((y 1).val / 2) + (y 1).val % 2; omega)

end Cert.RopeMath

namespace Cert.RopeReferenceIdeal.Rv

open Cert.RopeReferenceIdeal Cert.RopeReferenceIdeal.Gen
open Cert.RopeMath
open Idealize.ShloMosaic Idealize.ShloMosaic.TcCoe Idealize.ShloMosaic.Tactic Idealize.SL.Sem

/-- The keys the reference computes, as one expression of the projection and the angles. -/
def keys (k : FVec Ideal S36x1024 .f32) (cos sin : FVec Ideal S36x64 .f32) : FVec Ideal S288x128 .bf16 :=
  truncf .bf16 (shapeCast _ (concatenate S36x8x64x2 3 [⟨S36x8x64x1, (broadcastInDim S36x8x64x1 ![0, 1, 2] bcast_S36x8x64_S36x8x64x1_0_1_2 (subf (mulf (shapeCast _ (extractStridedSlice S36x8x64x1 ![0, 0, 0, 0] (shapeCast _ k shapeCasts_S36x1024_S36x8x64x2) slices_S36x8x64x2_S36x8x64x1_0_0_0_0) shapeCasts_S36x8x64x1_S36x8x64) (broadcastInDim S36x8x64 ![0, 1, 2] bcast_S36x1x64_S36x8x64_0_1_2 (broadcastInDim S36x1x64 ![0, 2] bcast_S36x64_S36x1x64_0_2 cos))) (mulf (shapeCast _ (extractStridedSlice S36x8x64x1 ![0, 0, 0, 1] (shapeCast _ k shapeCasts_S36x1024_S36x8x64x2) slices_S36x8x64x2_S36x8x64x1_0_0_0_1) shapeCasts_S36x8x64x1_S36x8x64) (broadcastInDim S36x8x64 ![0, 1, 2] bcast_S36x1x64_S36x8x64_0_1_2 (broadcastInDim S36x1x64 ![0, 2] bcast_S36x64_S36x1x64_0_2 sin)))))⟩, ⟨S36x8x64x1, (broadcastInDim S36x8x64x1 ![0, 1, 2] bcast_S36x8x64_S36x8x64x1_0_1_2 (addf (mulf (shapeCast _ (extractStridedSlice S36x8x64x1 ![0, 0, 0, 0] (shapeCast _ k shapeCasts_S36x1024_S36x8x64x2) slices_S36x8x64x2_S36x8x64x1_0_0_0_0) shapeCasts_S36x8x64x1_S36x8x64) (broadcastInDim S36x8x64 ![0, 1, 2] bcast_S36x1x64_S36x8x64_0_1_2 (broadcastInDim S36x1x64 ![0, 2] bcast_S36x64_S36x1x64_0_2 sin))) (mulf (shapeCast _ (extractStridedSlice S36x8x64x1 ![0, 0, 0, 1] (shapeCast _ k shapeCasts_S36x1024_S36x8x64x2) slices_S36x8x64x2_S36x8x64x1_0_0_0_1) shapeCasts_S36x8x64x1_S36x8x64) (broadcastInDim S36x8x64 ![0, 1, 2] bcast_S36x1x64_S36x8x64_0_1_2 (broadcastInDim S36x1x64 ![0, 2] bcast_S36x64_S36x1x64_0_2 cos)))))⟩] concatenates_S36x8x64x1_S36x8x64x1_S36x8x64x2_d3) shapeCasts_S36x8x64x2_S288x128) bitsLt_bf16_f32

/-- At an index they are the turned pairs. -/
theorem keys_apply (k : FVec Ideal S36x1024 .f32) (cos sin : FVec Ideal S36x64 .f32) (b : Fin 36) (h : Fin 8) (j : Fin 64) (p : Fin 2) :
    keys k cos sin (ix2 (row b h) (lane j p)) = turn k cos sin b h j p := by
  have hp : p = 0 ∨ p = 1 := by omega
  rcases hp with rfl | rfl
  · pointwise [keys, row, lane, turn, pos]
    rw [dif_pos (by omega)]
    simp only [Nat.mul_comm]
    rfl
  · pointwise [keys, row, lane, turn, pos]
    rw [dif_neg (by omega)]
    simp only [Nat.mul_comm]
    rfl

/-- The values the reference computes. -/
def values (v : FVec Ideal S36x1024 .f32) : FVec Ideal S288x128 .bf16 :=
  truncf .bf16 (shapeCast _ v shapeCasts_S36x1024_S288x128) bitsLt_bf16_f32

/-- At an index they are the projection's. -/
theorem values_apply (v : FVec Ideal S36x1024 .f32) (b : Fin 36) (h : Fin 8) (j : Fin 64) (p : Fin 2) :
    values v (ix2 (row b h) (lane j p)) = v (ix2 b (pos h j p)) := by
  pointwise [values, row, lane, pos]
  exact congrArg (fun i => v (ix2 b i)) (Fin.ext (by show (8 * b.val + h.val) % 8 * 128 + (2 * j.val + p.val) = 128 * h.val + (2 * j.val + p.val); omega))

end Cert.RopeReferenceIdeal.Rv

end
-- ==== Proof.Rope.Ideal.Run.lean ====
/- The run of the body of `_rope_body`: what its stores leave in the outputs. -/
module

public import proofs.«01_k».proof.Proof.Gen.RopeIdeal.Frame
public import proofs.«01_k».proof.Proof.Gen.RopeIdeal.Skeleton
public import proofs.«01_k».proof.Proof.Gen.RopeIdeal.Points
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.RopeIdeal.Rg

open Cert.RopeIdeal Cert.RopeIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers

A staging buffer of each output, through which its contents are stated. -/

abbrev VO0_6 : View sig .tc .vmem S1152x512 .bf16 := (Memref.whole cc0_stg6_0 : Memref sig .tc .vmem S1152x512 .bf16).view
abbrev VO0_7 : View sig .tc .vmem S288x128 .bf16 := (Memref.whole cc0_stg7_0 : Memref sig .tc .vmem S288x128 .bf16).view
abbrev VO0_8 : View sig .tc .vmem S288x128 .bf16 := (Memref.whole cc0_stg8_0 : Memref sig .tc .vmem S288x128 .bf16).view
abbrev VO0_9 : View sig .tc .vmem S1152x128 .f32 := (Memref.whole cc0_stg9_0 : Memref sig .tc .vmem S1152x128 .f32).view
abbrev VO0_10 : View sig .tc .vmem S1152x128 .f32 := (Memref.whole cc0_stg10_0 : Memref sig .tc .vmem S1152x128 .f32).view
/-- Each window's current staging memref at point `t`, spelled as the pipeline passes it (`bodyAt0`), and its wholeness. -/
abbrev ms0_0 (t : Fin cfg0.N) : Memref sig .tc .vmem S36x4096 .f32 := win0_0.stage (cfg0.slots t 0)
abbrev hs0_0 (t : Fin cfg0.N) : (ms0_0 t).IsWhole := hstage0_0 0
abbrev ms0_1 (t : Fin cfg0.N) : Memref sig .tc .vmem S36x1024 .f32 := win0_1.stage (cfg0.slots t 1)
abbrev hs0_1 (t : Fin cfg0.N) : (ms0_1 t).IsWhole := hstage0_1 0
abbrev ms0_2 (t : Fin cfg0.N) : Memref sig .tc .vmem S36x1024 .f32 := win0_2.stage (cfg0.slots t 2)
abbrev hs0_2 (t : Fin cfg0.N) : (ms0_2 t).IsWhole := hstage0_2 0
abbrev ms0_3 (t : Fin cfg0.N) : Memref sig .tc .vmem S36x128 .f32 := win0_3.stage (cfg0.slots t 3)
abbrev hs0_3 (t : Fin cfg0.N) : (ms0_3 t).IsWhole := hstage0_3 0
abbrev ms0_4 (t : Fin cfg0.N) : Memref sig .tc .vmem S36x128 .f32 := win0_4.stage (cfg0.slots t 4)
abbrev hs0_4 (t : Fin cfg0.N) : (ms0_4 t).IsWhole := hstage0_4 0
abbrev ms0_5 (t : Fin cfg0.N) : Memref sig .tc .vmem S128x512 .bf16 := win0_5.stage (cfg0.slots t 5)
abbrev hs0_5 (t : Fin cfg0.N) : (ms0_5 t).IsWhole := hstage0_5 0
abbrev ms0_6 (t : Fin cfg0.N) : Memref sig .tc .vmem S1152x512 .bf16 := win0_6.stage (cfg0.slots t 6)
abbrev hs0_6 (t : Fin cfg0.N) : (ms0_6 t).IsWhole := hstage0_6 0
abbrev ms0_7 (t : Fin cfg0.N) : Memref sig .tc .vmem S288x128 .bf16 := win0_7.stage (cfg0.slots t 7)
abbrev hs0_7 (t : Fin cfg0.N) : (ms0_7 t).IsWhole := hstage0_7 0
abbrev ms0_8 (t : Fin cfg0.N) : Memref sig .tc .vmem S288x128 .bf16 := win0_8.stage (cfg0.slots t 8)
abbrev hs0_8 (t : Fin cfg0.N) : (ms0_8 t).IsWhole := hstage0_8 0
abbrev ms0_9 (t : Fin cfg0.N) : Memref sig .tc .vmem S1152x128 .f32 := win0_9.stage (cfg0.slots t 9)
abbrev hs0_9 (t : Fin cfg0.N) : (ms0_9 t).IsWhole := hstage0_9 0
abbrev ms0_10 (t : Fin cfg0.N) : Memref sig .tc .vmem S1152x128 .f32 := win0_10.stage (cfg0.slots t 10)
abbrev hs0_10 (t : Fin cfg0.N) : (ms0_10 t).IsWhole := hstage0_10 0
/-- The scratch operands: whole scoped buffers of the kernel's own, passed beside the windows. -/
abbrev scM0_0 : Memref sig .tc .vmem S1152x128 .f32 := Memref.whole cc0_scratch0
abbrev scM0_1 : Memref sig .tc .vmem S288x128 .f32 := Memref.whole cc0_scratch1
abbrev scM0_2 : Memref sig .tc .vmem S288x128 .f32 := Memref.whole cc0_scratch2
abbrev scM0_3 : Memref sig .tc .vmem S1152x128 .f32 := Memref.whole cc0_scratch3

/-- The invariant between points: the scratch buffers and the generator register at some contents. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d)) ∗ (∃ r, prngReg c r)) := by
  unfold Pipeline.ΦA; rw [scopedRest0_eq]; simp only [scM0_0, scM0_1, scM0_2, scM0_3, owns_whole]; try rfl

set_option maxHeartbeats 1656000 in set_option sl_exec.stridedRows true in
/-- What the body leaves in each output's staging buffer, as pieces with the last store first, and the proof that the body
    leaves them: on whole staging buffers, the inputs' at their contents and the outputs' and scratch at anything, it runs to
    its end with the inputs as they were, the scratch at some contents and each output with its pieces written. -/
noncomputable def kernelRun0_A (c : Dev nD) (arg0 : Memref sig .tc .vmem S36x4096 .f32) (harg0 : arg0.IsWhole) (arg1 : Memref sig .tc .vmem S36x1024 .f32) (harg1 : arg1.IsWhole) (arg2 : Memref sig .tc .vmem S36x1024 .f32) (harg2 : arg2.IsWhole) (arg3 : Memref sig .tc .vmem S36x128 .f32) (harg3 : arg3.IsWhole) (arg4 : Memref sig .tc .vmem S36x128 .f32) (harg4 : arg4.IsWhole) (arg5 : Memref sig .tc .vmem S128x512 .bf16) (harg5 : arg5.IsWhole) (arg6 : Memref sig .tc .vmem S1152x512 .bf16) (harg6 : arg6.IsWhole) (arg7 : Memref sig .tc .vmem S288x128 .bf16) (harg7 : arg7.IsWhole) (arg8 : Memref sig .tc .vmem S288x128 .bf16) (harg8 : arg8.IsWhole) (arg9 : Memref sig .tc .vmem S1152x128 .f32) (harg9 : arg9.IsWhole) (arg10 : Memref sig .tc .vmem S1152x128 .f32) (harg10 : arg10.IsWhole) (arg11 : Memref sig .tc .vmem S1152x128 .f32) (harg11 : arg11.IsWhole) (arg12 : Memref sig .tc .vmem S288x128 .f32) (harg12 : arg12.IsWhole) (arg13 : Memref sig .tc .vmem S288x128 .f32) (harg13 : arg13.IsWhole) (arg14 : Memref sig .tc .vmem S1152x128 .f32) (harg14 : arg14.IsWhole)
    (x0 : Vec F S36x4096 .f32) (x1 : Vec F S36x1024 .f32) (x2 : Vec F S36x1024 .f32) (x3 : Vec F S36x128 .f32) (x4 : Vec F S36x128 .f32) (x5 : Vec F S128x512 .bf16) :
    Σ' (L6 : List (View.Piece (Elt F) S1152x512 .bf16)), Σ' (L7 : List (View.Piece (Elt F) S288x128 .bf16)), Σ' (L8 : List (View.Piece (Elt F) S288x128 .bf16)), Σ' (L9 : List (View.Piece (Elt F) S1152x128 .f32)), { L10 : List (View.Piece (Elt F) S1152x128 .f32) //
      ∀ (E : Set ℕ) (K : PUnit → sProp 𝕄),
        iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d)
            ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ (∃ f, arg6.view.loc (c : Thread nD τ) ↦[arg6.view.set]{fullShare} arg6.view.writes (Elt F) f L6) ∗ (∃ f, arg7.view.loc (c : Thread nD τ) ↦[arg7.view.set]{fullShare} arg7.view.writes (Elt F) f L7) ∗ (∃ f, arg8.view.loc (c : Thread nD τ) ↦[arg8.view.set]{fullShare} arg8.view.writes (Elt F) f L8) ∗ (∃ f, arg9.view.loc (c : Thread nD τ) ↦[arg9.view.set]{fullShare} arg9.view.writes (Elt F) f L9) ∗ (∃ f, arg10.view.loc (c : Thread nD τ) ↦[arg10.view.set]{fullShare} arg10.view.writes (Elt F) f L10) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d)) -∗ K ⟨⟩))
          ⊢ wp frame (wpE (defs₀ (F := F)) Variants.none c none) E (cc0__rope_body arg0 harg0 arg1 harg1 arg2 harg2 arg3 harg3 arg4 harg4 arg5 harg5 arg6 harg6 arg7 harg7 arg8 harg8 arg9 harg9 arg10 harg10 arg11 harg11 arg12 harg12 arg13 harg13 arg14 harg14) K } := by
  refine ⟨?_, ?_, ?_, ?_, ?_, fun E K => ?run⟩
  case run =>
    simp only [cc0__rope_body_eq_skeleton]; unfold cc0__rope_body_skel
    simp only [k0_part21_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%d9, %f9, -, H9⟩, ⟨%d10, %f10, -, H10⟩, ⟨%ds0, %fs0, -, HS0⟩, ⟨%ds1, %fs1, -, HS1⟩, ⟨%ds2, %fs2, -, HS2⟩, ⟨%ds3, %fs3, -, HS3⟩, Hk⟩
    obtain rfl := harg0.eq_unread hf0; obtain rfl := harg1.eq_unread hf1; obtain rfl := harg2.eq_unread hf2; obtain rfl := harg3.eq_unread hf3; obtain rfl := harg4.eq_unread hf4; obtain rfl := harg5.eq_unread hf5
    sl_exec
    sl_step
    iapply Hk
    isplitl [H0]
    · iexists _; isplitr; · ipureintro; exact harg0.read_unread _
      iexact H0
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]; · iexists _; iexact H6
    isplitl [H7]; · iexists _; iexact H7
    isplitl [H8]; · iexists _; iexact H8
    isplitl [H9]; · iexists _; iexact H9
    isplitl [H10]; · iexists _; iexact H10
    isplitl [HS0]
    · iexists _, _; isplitr; swap; · iexact HS0
      ipureintro; rfl
    isplitl [HS1]
    · iexists _, _; isplitr; swap; · iexact HS1
      ipureintro; rfl
    isplitl [HS2]
    · iexists _, _; isplitr; swap; · iexact HS2
      ipureintro; rfl
    iexists _, _; isplitr; swap; · iexact HS3
    ipureintro; rfl

end Cert.RopeIdeal.Rg

end
-- ==== Proof.Rope.Ideal.Frame.lean ====
/- The frame of `_rope_body`'s call: it runs to its end, its outputs hold what the body leaves and its arguments are unchanged. -/
module

public import proofs.«01_k».proof.Proof.Rope.Ideal.Run
public import Idealize.ShloMosaic.Lib.Claim

@[expose] public section

set_option maxRecDepth 16384

noncomputable section

namespace Cert.RopeIdeal.Rg

open Cert.RopeIdeal Cert.RopeIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The rows of one store of output 10 are inside it. -/
theorem inb10 (n : Fin 32) : ∀ a, S36x128.size a = 0 ∨ (![n.val, 0] : Fin 2 → Nat) a + ![32, 1] a * (S36x128.size a - 1) < S1152x128.size a := by
  intro a; right; fin_cases a <;> simp [S36x128, S1152x128, Shape.size] <;> omega

/-- The rows of one store of output 10: those that leave `n` by 32. -/
def row10 (n : Fin 32) : Rect S1152x128 := ⟨⟨![n.val, 0], S36x128.size, ![32, 1], inb10 n⟩, fun a => by fin_cases a <;> simp⟩

/-- Every row is in the store of its remainder by 32. -/
theorem mem_row10 (y : S1152x128.Idx) : y ∈ (row10 ⟨(y 0).val % 32, Nat.mod_lt _ (by omega)⟩).set := by
  have h0 : (y 0).val < 1152 := (y 0).isLt
  refine (row10 _).toLoadRect.mem_set.mpr fun a => ?_
  fin_cases a
  · exact ⟨(y 0).val / 32, by show (y 0).val / 32 < 36; omega, by show (y 0).val = (y 0).val % 32 + 32 * ((y 0).val / 32); omega⟩
  · exact ⟨(y 1).val, (y 1).isLt, by show (y 1).val = 0 + 1 * (y 1).val; omega⟩

/-- The run at point `t`, on the windows' blocks. -/
abbrev runAt (c : Dev nD) (t : Fin cfg0.N) := kernelRun0_A c (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) (iblk m c 0 t) (iblk m c 1 t) (iblk m c 2 t) (iblk m c 3 t) (iblk m c 4 t) (iblk m c 5 t)

/-- Output 6's pieces cover it. -/
theorem cover6 (c : Dev nD) (t : Fin cfg0.N) (y : S1152x512.Idx) : ∃ pc ∈ (runAt m c t).1, y ∈ pc.1.set :=
  View.cover_of_tiledL (runAt m c t).1 S1152x512.size (by sl_kernel_rfl) y

/-- What output 6's staging buffer holds after the body. -/
def out6 (c : Dev nD) (t : Fin cfg0.N) : Vec F S1152x512 .bf16 := VO0_6.read (Elt F) (VO0_6.writes (Elt F) VO0_6.junk (runAt m c t).1)

/-- Output 7's pieces cover it. -/
theorem cover7 (c : Dev nD) (t : Fin cfg0.N) (y : S288x128.Idx) : ∃ pc ∈ (runAt m c t).2.1, y ∈ pc.1.set :=
  View.cover_of_tiledL (runAt m c t).2.1 S288x128.size (by sl_kernel_rfl) y

/-- What output 7's staging buffer holds after the body. -/
def out7 (c : Dev nD) (t : Fin cfg0.N) : Vec F S288x128 .bf16 := VO0_7.read (Elt F) (VO0_7.writes (Elt F) VO0_7.junk (runAt m c t).2.1)

/-- Output 8's pieces cover it. -/
theorem cover8 (c : Dev nD) (t : Fin cfg0.N) (y : S288x128.Idx) : ∃ pc ∈ (runAt m c t).2.2.1, y ∈ pc.1.set :=
  View.cover_of_tiledL (runAt m c t).2.2.1 S288x128.size (by sl_kernel_rfl) y

/-- What output 8's staging buffer holds after the body. -/
def out8 (c : Dev nD) (t : Fin cfg0.N) : Vec F S288x128 .bf16 := VO0_8.read (Elt F) (VO0_8.writes (Elt F) VO0_8.junk (runAt m c t).2.2.1)

/-- Output 9's pieces cover it. -/
theorem cover9 (c : Dev nD) (t : Fin cfg0.N) (y : S1152x128.Idx) : ∃ pc ∈ (runAt m c t).2.2.2.1, y ∈ pc.1.set :=
  View.cover_of_tiledL (runAt m c t).2.2.2.1 S1152x128.size (by sl_kernel_rfl) y

/-- What output 9's staging buffer holds after the body. -/
def out9 (c : Dev nD) (t : Fin cfg0.N) : Vec F S1152x128 .f32 := VO0_9.read (Elt F) (VO0_9.writes (Elt F) VO0_9.junk (runAt m c t).2.2.2.1)

/-- Where the 32 stores of output 10 go: row `n` of every 32. -/
theorem rects10 (c : Dev nD) (t : Fin cfg0.N) :
    ((runAt m c t).2.2.2.2.1).map (·.1) = (List.finRange 32).reverse.map fun n : Fin 32 =>
      row10 n := by
  sl_kernel_rfl

/-- Output 10's pieces cover it. -/
theorem cover10 (c : Dev nD) (t : Fin cfg0.N) (y : S1152x128.Idx) : ∃ pc ∈ (runAt m c t).2.2.2.2.1, y ∈ pc.1.set := by
  have hy : (y 0).val < 1152 := (y 0).isLt
  have hr : row10 ⟨(y 0).val % 32, Nat.mod_lt _ (by omega)⟩
      ∈ ((runAt m c t).2.2.2.2.1).map (·.1) := by
    rw [rects10]
    exact List.mem_map.mpr ⟨⟨(y 0).val % 32, Nat.mod_lt _ (by omega)⟩, List.mem_reverse.mpr (List.mem_finRange _), rfl⟩
  obtain ⟨pc, hpc, e⟩ := List.mem_map.mp hr
  refine ⟨pc, hpc, ?_⟩
  rw [e]
  exact mem_row10 y

/-- What output 10's staging buffer holds after the body. -/
def out10 (c : Dev nD) (t : Fin cfg0.N) : Vec F S1152x128 .f32 := VO0_10.read (Elt F) (VO0_10.writes (Elt F) VO0_10.junk (runAt m c t).2.2.2.2.1)

/-! ## The pipeline's proof data -/

/-- The proof data on core `c`: each input's buffer keeps its block, each output's ends at what the body leaves. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => out6 m c t
    | ⟨7, _⟩ => out7 m c t
    | ⟨8, _⟩ => out8 m c t
    | ⟨9, _⟩ => out9 m c t
    | ⟨10, _⟩ => out10 m c t
  Φ _ := Pipeline.ΦA spec0 c
  q _ := fullShare
  owed _ := 0

/-- The proof data's arrays are those the region finds. -/
theorem A_eq (c : Dev nD) (w : Fin cfg0.W) : (dats m 0 c).A w = V m c (Pipeline.arrRef spec0 w) := by
  dsimp only [dats]

/-- What the body leaves, window by window. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = out6 m c t := by dsimp only [dats]
theorem after0_7 (c : Dev nD) (t : Fin cfg0.N) : (dats m 0 c).after 7 t = out7 m c t := by dsimp only [dats]
theorem after0_8 (c : Dev nD) (t : Fin cfg0.N) : (dats m 0 c).after 8 t = out8 m c t := by dsimp only [dats]
theorem after0_9 (c : Dev nD) (t : Fin cfg0.N) : (dats m 0 c).after 9 t = out9 m c t := by dsimp only [dats]
theorem after0_10 (c : Dev nD) (t : Fin cfg0.N) : (dats m 0 c).after 10 t = out10 m c t := by dsimp only [dats]

/-- Each input's buffer holds its block. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

/-! ## The body obligation, at a generic point -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t))

set_option maxHeartbeats 1200000 in
/-- The body at any point: the inputs hold their blocks, so the run applies. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10]
  rw [show (dats m 0 c).Φ t.castSucc = Pipeline.ΦA spec0 c from rfl, PhiA0_eq]
  unfold out6 out7 out8 out9 out10
  iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply ((runAt m c t).2.2.2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  isplitl [H8]; · iexists _; iexact H8
  isplitl [H9]; · iexists _; iexact H9
  isplitl [H10]; · iexists _; iexact H10
  isplitl [HS0]; · iexact HS0
  isplitl [HS1]; · iexact HS1
  isplitl [HS2]; · iexact HS2
  isplitl [HS3]; · iexact HS3
  iintro ⟨H0, H1, H2, H3, H4, H5, ⟨%e6, H6⟩, ⟨%e7, H7⟩, ⟨%e8, H8⟩, ⟨%e9, H9⟩, ⟨%e10, H10⟩, HS0, HS1, HS2, HS3⟩
  isplitl [HS0 HS1 HS2 HS3 Hg]
  · isplitl [HS0 HS1 HS2 HS3]
    · isplitl [HS0]
      · iexact HS0
      isplitl [HS1]
      · iexact HS1
      isplitl [HS2]
      · iexact HS2
      iexact HS3
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]
  · unfold owns; iexists _; isplitr
    swap; · iexact H6
    ipureintro; exact View.read_writes_of_cover _ _ _ _ _ (cover6 m c t)
  isplitl [H7]
  · unfold owns; iexists _; isplitr
    swap; · iexact H7
    ipureintro; exact View.read_writes_of_cover _ _ _ _ _ (cover7 m c t)
  isplitl [H8]
  · unfold owns; iexists _; isplitr
    swap; · iexact H8
    ipureintro; exact View.read_writes_of_cover _ _ _ _ _ (cover8 m c t)
  isplitl [H9]
  · unfold owns; iexists _; isplitr
    swap; · iexact H9
    ipureintro; exact View.read_writes_of_cover _ _ _ _ _ (cover9 m c t)
  unfold owns; iexists _; isplitr
  swap; · iexact H10
  ipureintro; exact View.read_writes_of_cover _ _ _ _ _ (cover10 m c t)

/-- The body the pipeline calls at point `t`. -/
theorem defs₀_row (t : Fin cfg0.N) :
    defs₀ (F := F) .tc cfg0.body (cfg0.bodyArgs t (cfg0.slots t)) = bodyAt0 t := by
  unfold defs₀; rw [Defs.onTc_tc]

/-- The obligation on the body, at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

set_option backward.isDefEq.respectTransparency.types false in
/-- The run of the program: every output at its proof data, and every counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The run without the counters. -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_of m ρ (dats m) (A_eq m) (run_main m ρ)

/-- The frame: the arguments end unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (unchanged m ρ) ((θ_run defs _ _).mono (fun _ h => h.2) (run_main_quiescent m ρ))

end Cert.RopeIdeal.Rg

end
-- ==== Proof.Rope.Ideal.Value.lean ====
module

public import proofs.«01_k».proof.Proof.Rope.Ref
public import proofs.«01_k».proof.Proof.Rope.Ideal.Frame
public import Idealize.ShloMosaic.Lib.WholeRead

@[expose] public section

set_option maxRecDepth 16384

noncomputable section

/-! # The rotated keys and the regrouped values the kernel stores

Each head's 128 columns go to a scratch buffer, to every eighth row; the whole buffer is then the output. -/

namespace Cert.RopeIdeal.Rg

open Cert.RopeIdeal Cert.RopeIdeal.Gen
open Cert.RopeMath
open Idealize.ShloMosaic Idealize.ShloMosaic.TcCoe Idealize.ShloMosaic.Tactic

/-! ## The two lists of writes -/

section Pieces
variable {F : FTy → Type} [FloatOps F]

/-- The rows of head `h` are inside the buffer. -/
theorem inbHead (h : Fin 8) : ∀ a, S36x128.size a = 0 ∨ (![h.val, 0] : Fin 2 → Nat) a + ![8, 1] a * (S36x128.size a - 1) < S288x128.size a := by
  intro a; right; fin_cases a <;> simp [S36x128, S288x128, Shape.size] <;> omega

/-- The rows of head `h`: every eighth from `h`. -/
def headRows (h : Fin 8) : Rect S288x128 :=
  ⟨⟨![h.val, 0], S36x128.size, ![8, 1], inbHead h⟩, fun a => by fin_cases a <;> simp⟩

/-- The columns of head `h` are inside the projection. -/
theorem inbCols (h : Fin 8) : ∀ a, (![0, 128 * h.val] : Fin 2 → Nat) a + S36x128.size a ≤ S36x1024.size a := by
  intro a; fin_cases a <;> simp [S36x128, S36x1024, Shape.size] <;> omega

/-- The columns of head `h`. -/
def headLoad (m : Memref sig .tc .vmem S36x1024 .f32) (hm : m.IsWhole) (x : Vec F S36x1024 .f32) (h : Fin 8) : Vec F S36x128 .f32 :=
  View.readAt (Elt F) m.view (Rect.unit (s := S36x1024) ![0, 128 * h.val] S36x128.size (inbCols h)).toLoadRect (hm.unread x)

/-- The angles' numbers. -/
def tabLoad (m : Memref sig .tc .vmem S36x128 .f32) (hm : m.IsWhole) (x : Vec F S36x128 .f32) : Vec F S36x128 .f32 :=
  View.readAt (Elt F) m.view (Rect.unit (s := S36x128) ![0, 0] S36x128.size inb_S36x128_S36x128_0_0).toLoadRect (hm.unread x)

/-- The head of each write, the last write first. -/
def heads : List (Fin 8) := [7, 6, 5, 4, 3, 2, 1, 0]

/-- The writes of the rotated keys. -/
def keyPieces (m1 : Memref sig .tc .vmem S36x1024 .f32) (h1 : m1.IsWhole) (m3 : Memref sig .tc .vmem S36x128 .f32) (h3 : m3.IsWhole)
    (m4 : Memref sig .tc .vmem S36x128 .f32) (h4 : m4.IsWhole) (x1 : Vec F S36x1024 .f32) (x3 x4 : Vec F S36x128 .f32) : List (View.Piece (Elt F) S288x128 .f32) :=
  heads.map fun h => ⟨headRows h, k0_pay46 k0_pay2 (k0_pay3 (tabLoad m3 h3 x3)) (k0_pay4 (tabLoad m4 h4 x4) (tabLoad m4 h4 x4)) (headLoad m1 h1 x1 h)⟩

/-- The writes of the values. -/
def valPieces (m2 : Memref sig .tc .vmem S36x1024 .f32) (h2 : m2.IsWhole) (x2 : Vec F S36x1024 .f32) : List (View.Piece (Elt F) S288x128 .f32) :=
  heads.map fun h => ⟨headRows h, k0_pay47 (headLoad m2 h2 x2 h)⟩

variable (m : (ℓ : Loc nD τ sig) → Buf (Elt F) ℓ)

/-- The one write of output 7 is the keys' buffer. -/
theorem pieces7 (c : Dev nD) (t : Fin cfg0.N) : (runAt m c t).2.1
    = [⟨Rect.unit (s := S288x128) ![0, 0] S288x128.size inb_S288x128_S288x128_0_0,
        k0_pay110 (scM0_1.view.readCov (keyPieces (ms0_1 t) (hs0_1 t) (ms0_3 t) (hs0_3 t) (ms0_4 t) (hs0_4 t) (iblk m c 1 t) (iblk m c 3 t) (iblk m c 4 t))
          (Rect.unit (s := S288x128) ![0, 0] S288x128.size inb_S288x128_S288x128_0_0).toLoadRect)⟩] := by
  sl_kernel_rfl

/-- The one write of output 8 is the values' buffer. -/
theorem pieces8 (c : Dev nD) (t : Fin cfg0.N) : (runAt m c t).2.2.1
    = [⟨Rect.unit (s := S288x128) ![0, 0] S288x128.size inb_S288x128_S288x128_0_0,
        k0_pay111 (scM0_2.view.readCov (valPieces (ms0_2 t) (hs0_2 t) (iblk m c 2 t))
          (Rect.unit (s := S288x128) ![0, 0] S288x128.size inb_S288x128_S288x128_0_0).toLoadRect)⟩] := by
  sl_kernel_rfl

end Pieces

/-! ## A buffer written head by head, at an index -/

/-- Head `h`'s part of a row lies at the row's place for the head. -/
theorem headRows_emb (h : Fin 8) (b : Fin 36) (l : Fin 128) : (headRows h).emb (ix2 b l) = ix2 (row b h) l := by
  funext a
  refine Fin.ext ?_
  fin_cases a
  · show h.val + 8 * b.val = 8 * b.val + h.val; omega
  · show 0 + 1 * l.val = l.val; omega

/-- The buffer at an index is the head's write there. -/
theorem canon_heads (P : Fin 8 → Vec Ideal S36x128 .f32) (h : Fin 8) (b : Fin 36) (l : Fin 128) :
    View.canon (heads.map fun h => (⟨headRows h, P h⟩ : View.Piece (Elt Ideal) S288x128 .f32)) (ix2 (row b h) l) = P h (ix2 b l) := by
  refine View.canon_eq_of_allAt _ _ _ ?_ ?_
  · refine ⟨_, List.mem_map.mpr ⟨h, by revert h; decide, rfl⟩, ?_⟩
    rw [← headRows_emb, ← Rect.map_emb_univ]
    exact Finset.mem_map_of_mem _ (Finset.mem_univ _)
  · intro p hp x hx
    obtain ⟨h', -, rfl⟩ := List.mem_map.mp hp
    have hx' : (headRows h').emb x = ix2 (row b h) l := hx
    have ex : x = (ix2 (x 0) (x 1) : S36x128.Idx) := by funext a; fin_cases a <;> rfl
    rw [ex, show (headRows h').emb (ix2 (x 0) (x 1) : S36x128.Idx) = ix2 (row (x 0) h') (x 1) from headRows_emb h' (x 0) (x 1)] at hx'
    have e0 : 8 * (x 0).val + h'.val = 8 * b.val + h.val := congrArg Fin.val (congrFun hx' 0)
    have e1 : x 1 = l := congrFun hx' 1
    have eh : h' = h := Fin.ext (by omega)
    have eb : x 0 = b := Fin.ext (by omega)
    subst eh
    show P h' x = _
    rw [ex, eb, e1]

/-- The whole output at an index is the buffer's number there. -/
theorem out_heads {sg : RefSig} (v : View sg .tc .vmem S288x128 .f32) (P : Fin 8 → Vec Ideal S36x128 .f32) (h : Fin 8) (b : Fin 36) (l : Fin 128) :
    v.readCov (heads.map fun h => (⟨headRows h, P h⟩ : View.Piece (Elt Ideal) S288x128 .f32))
      (Rect.unit (s := S288x128) ![0, 0] S288x128.size inb_S288x128_S288x128_0_0).toLoadRect (ix2 (row b h) l) = P h (ix2 b l) := by
  rw [View.readCov_eq_canon']
  refine (congrArg (View.canon (heads.map fun h => (⟨headRows h, P h⟩ : View.Piece (Elt Ideal) S288x128 .f32)) : S288x128.Idx → Elt Ideal .f32)
    (funext fun a => Fin.ext ?_)).trans (canon_heads P h b l)
  fin_cases a
  · show 0 + 1 * (row b h).val = (row b h).val; omega
  · show 0 + 1 * l.val = l.val; omega

/-- A head's columns, at an index. -/
theorem headLoad_apply (m : Memref sig .tc .vmem S36x1024 .f32) (hm : m.IsWhole) (x : Vec Ideal S36x1024 .f32) (h : Fin 8) (b : Fin 36) (l : Fin 128) :
    headLoad m hm x h (ix2 b l) = x (ix2 b ⟨128 * h.val + l.val, by omega⟩) := by
  unfold headLoad
  rw [hm.readAt_unread]
  refine congrArg x (funext fun a => Fin.ext ?_)
  fin_cases a
  · show 0 + 1 * b.val = b.val; omega
  · show 128 * h.val + 1 * l.val = 128 * h.val + l.val; omega

/-- The angles' numbers, at an index. -/
theorem tabLoad_apply (m : Memref sig .tc .vmem S36x128 .f32) (hm : m.IsWhole) (x : Vec Ideal S36x128 .f32) (b : Fin 36) (l : Fin 128) :
    tabLoad m hm x (ix2 b l) = x (ix2 b l) := by
  unfold tabLoad
  rw [hm.readAt_unread]
  refine congrArg x (funext fun a => Fin.ext ?_)
  fin_cases a
  · show 0 + 1 * b.val = b.val; omega
  · show 0 + 1 * l.val = l.val; omega

/-- The mask of the even columns. -/
theorem even_apply (b : Fin 36) (j : Fin 64) (p : Fin 2) : k0_pay2 (ix2 b (lane j p)) = if p = 0 then 1#1 else 0#1 := by
  have e : k0_pay2 (ix2 b (lane j p)) = IntOp.cmpi CmpIPredicate.eq (IntOp.andi (BitVec.ofNat 32 (lane j p).val) 1#32) 0#32 := by
    pointwise [k0_pay2]
  rw [e]
  clear e
  revert j p
  decide +kernel

/-- The rotated head, at the first number of a pair. -/
theorem rope_even (t cos sin : Vec Ideal S36x128 .f32) (b : Fin 36) (j : Fin 64) :
    k0_pay46 k0_pay2 (k0_pay3 cos) (k0_pay4 sin sin) t (ix2 b (lane j 0))
      = t (ix2 b (lane j 0)) * cos (ix2 b (lane j 0)) + t (ix2 b (lane j 1)) * (0 - sin (ix2 b (lane j 0))) := by
  have e : k0_pay2 (ix2 b ⟨2 * j.val, by omega⟩) = 1#1 := even_apply b j 0
  have i : (⟨(2 * j.val + 128 - 127) % 128, Nat.mod_lt _ (by omega)⟩ : Fin 128) = ⟨2 * j.val + 1, by omega⟩ := Fin.ext (by show (2 * j.val + 128 - 127) % 128 = 2 * j.val + 1; omega)
  pointwise [k0_pay46, k0_pay44, k0_pay3, k0_pay4, lane]
  rw [e]
  exact congrArg (fun l => _ + t (ix2 b l) * _) i

/-- The rotated head, at the second number of a pair. -/
theorem rope_odd (t cos sin : Vec Ideal S36x128 .f32) (b : Fin 36) (j : Fin 64) :
    k0_pay46 k0_pay2 (k0_pay3 cos) (k0_pay4 sin sin) t (ix2 b (lane j 1))
      = t (ix2 b (lane j 1)) * cos (ix2 b (lane j 1)) + t (ix2 b (lane j 0)) * sin (ix2 b (lane j 1)) := by
  have e : k0_pay2 (ix2 b ⟨2 * j.val + 1, by omega⟩) = 0#1 := even_apply b j 1
  have i : (⟨(2 * j.val + 1 + 128 - 1) % 128, Nat.mod_lt _ (by omega)⟩ : Fin 128) = ⟨2 * j.val, by omega⟩ := Fin.ext (by show (2 * j.val + 1 + 128 - 1) % 128 = 2 * j.val; omega)
  pointwise [k0_pay46, k0_pay44, k0_pay3, k0_pay4, lane]
  rw [e]
  exact congrArg (fun l => _ + t (ix2 b l) * _) i

/-! ## The whole outputs -/

variable (m : (ℓ : Loc nD τ sig) → Buf (Elt Ideal) ℓ)

/-- The angles' numbers as the launch finds them: each twice. -/
theorem V_v1 (c : Dev nD) : V (F := Ideal) m c main_v1 = shapeCast S36x128 (broadcastInDim S36x64x2 ![0, 1] bcast_S36x64_S36x64x2_0_1 (m ((c : Thread nD τ).loc main_arg3))) shapeCasts_S36x64x2_S36x128 := by
  entry_read
  try rfl
theorem V_v3 (c : Dev nD) : V (F := Ideal) m c main_v3 = shapeCast S36x128 (broadcastInDim S36x64x2 ![0, 1] bcast_S36x64_S36x64x2_0_1 (m ((c : Thread nD τ).loc main_arg4))) shapeCasts_S36x64x2_S36x128 := by
  entry_read
  try rfl

/-- Each number twice, at an index. -/
theorem twice_apply (X : FVec Ideal S36x64 .f32) (b : Fin 36) (j : Fin 64) (p : Fin 2) :
    shapeCast S36x128 (broadcastInDim S36x64x2 ![0, 1] bcast_S36x64_S36x64x2_0_1 X) shapeCasts_S36x64x2_S36x128 (ix2 b (lane j p)) = X (ix2 b j) := by
  pointwise [lane]
  try exact congrArg (fun i => X (ix2 b i)) (Fin.ext (by show (2 * j.val + p.val) / 2 = j.val; omega))

/-- Every window's one block is its whole array. -/
theorem win_idx : ∀ t : Fin cfg0.N, win0_1.index t = ![0, 0] ∧ win0_2.index t = ![0, 0] ∧ win0_3.index t = ![0, 0] ∧ win0_4.index t = ![0, 0] ∧ win0_7.index t = ![0, 0] ∧ win0_8.index t = ![0, 0] :=
  (by decide +kernel : ∀ t : Fin grid0.N, _)

/-- The blocks, at an index of the arguments. -/
theorem iblk1_apply (c : Dev nD) (t : Fin cfg0.N) (b : Fin 36) (i : Fin 1024) :
    iblk (F := Ideal) m c 1 t (ix2 b i) = m ((c : Thread nD τ).loc main_arg1) (ix2 b i) := by
  blk_ext [iblk, V_main_arg1, win_idx t]
theorem iblk2_apply (c : Dev nD) (t : Fin cfg0.N) (b : Fin 36) (i : Fin 1024) :
    iblk (F := Ideal) m c 2 t (ix2 b i) = m ((c : Thread nD τ).loc main_arg2) (ix2 b i) := by
  blk_ext [iblk, V_main_arg2, win_idx t]
theorem iblk3_apply (c : Dev nD) (t : Fin cfg0.N) (b : Fin 36) (j : Fin 64) (p : Fin 2) :
    iblk (F := Ideal) m c 3 t (ix2 b (lane j p)) = m ((c : Thread nD τ).loc main_arg3) (ix2 b j) := by
  have e : iblk (F := Ideal) m c 3 t (ix2 b (lane j p)) = V (F := Ideal) m c main_v1 (ix2 b (lane j p)) := by
    blk_ext [iblk, win_idx t]
  rw [e, V_v1]
  exact twice_apply _ b j p
theorem iblk4_apply (c : Dev nD) (t : Fin cfg0.N) (b : Fin 36) (j : Fin 64) (p : Fin 2) :
    iblk (F := Ideal) m c 4 t (ix2 b (lane j p)) = m ((c : Thread nD τ).loc main_arg4) (ix2 b j) := by
  have e : iblk (F := Ideal) m c 4 t (ix2 b (lane j p)) = V (F := Ideal) m c main_v3 (ix2 b (lane j p)) := by
    blk_ext [iblk, win_idx t]
  rw [e, V_v3]
  exact twice_apply _ b j p

/-- A whole store is where it is. -/
theorem whole_emb (r : Fin 288) (l : Fin 128) : (Rect.unit (s := S288x128) ![0, 0] S288x128.size inb_S288x128_S288x128_0_0).emb (ix2 r l) = ix2 r l := by
  funext a
  refine Fin.ext ?_
  fin_cases a
  · show 0 + 1 * r.val = r.val; omega
  · show 0 + 1 * l.val = l.val; omega

/-- Output 7 at an index. -/
theorem out7_apply (c : Dev nD) (t : Fin cfg0.N) (b : Fin 36) (h : Fin 8) (j : Fin 64) (p : Fin 2) :
    out7 (F := Ideal) m c t (ix2 (row b h) (lane j p))
      = turn (m ((c : Thread nD τ).loc main_arg1)) (m ((c : Thread nD τ).loc main_arg3)) (m ((c : Thread nD τ).loc main_arg4)) b h j p := by
  unfold out7
  rw [View.read_writes_junk_eq_canon, pieces7]
  refine (congrArg _ (whole_emb (row b h) (lane j p)).symm).trans ?_
  rw [View.canon_cons_emb]
  refine (out_heads scM0_1.view _ h b (lane j p)).trans ?_
  have hp : p = 0 ∨ p = 1 := by omega
  rcases hp with rfl | rfl
  · rw [rope_even, tabLoad_apply, tabLoad_apply, headLoad_apply, headLoad_apply, iblk3_apply, iblk4_apply, iblk1_apply, iblk1_apply]
    refine Eq.trans ?_ (if_pos rfl).symm
    rw [zero_sub, mul_neg]
    rfl
  · rw [rope_odd, tabLoad_apply, tabLoad_apply, headLoad_apply, headLoad_apply, iblk3_apply, iblk4_apply, iblk1_apply, iblk1_apply]
    refine Eq.trans ?_ (if_neg (by decide)).symm
    exact add_comm _ _

/-- Output 8 at an index. -/
theorem out8_apply (c : Dev nD) (t : Fin cfg0.N) (b : Fin 36) (h : Fin 8) (j : Fin 64) (p : Fin 2) :
    out8 (F := Ideal) m c t (ix2 (row b h) (lane j p)) = m ((c : Thread nD τ).loc main_arg2) (ix2 b (pos h j p)) := by
  unfold out8
  rw [View.read_writes_junk_eq_canon, pieces8]
  refine (congrArg _ (whole_emb (row b h) (lane j p)).symm).trans ?_
  rw [View.canon_cons_emb]
  refine (out_heads scM0_2.view _ h b (lane j p)).trans ?_
  refine Eq.trans (b := headLoad (F := Ideal) (ms0_2 t) (hs0_2 t) (iblk m c 2 t) h (ix2 b (lane j p))) (by pointwise [k0_pay47, k0_pay45]) ?_
  rw [headLoad_apply, iblk2_apply]
  rfl

/-- The keys after the run. -/
theorem final7 (c : Dev nD) : (dats (F := Ideal) m 0 c).arrAt 7 cfg0.N
    = Cert.RopeReferenceIdeal.Rv.keys (m ((c : Thread nD τ).loc main_arg1)) (m ((c : Thread nD τ).loc main_arg3)) (m ((c : Thread nD τ).loc main_arg4)) := by
  refine (dats (F := Ideal) m 0 c).arrAt_eq_of_covers 7 _ (by decide +kernel) fun t _ y => ?_
  blk_simp
  rw [after0_7]
  obtain ⟨b, h, j, p, rfl⟩ := index_cases y
  have ey : (win0_7.blk t).view.emb (ix2 (row b h) (lane j p)) = ix2 (row b h) (lane j p) := by blk_ext [win_idx t]
  rw [ey]
  exact (out7_apply m c t b h j p).trans (Cert.RopeReferenceIdeal.Rv.keys_apply _ _ _ b h j p).symm

/-- The values after the run. -/
theorem final8 (c : Dev nD) : (dats (F := Ideal) m 0 c).arrAt 8 cfg0.N
    = Cert.RopeReferenceIdeal.Rv.values (m ((c : Thread nD τ).loc main_arg2)) := by
  refine (dats (F := Ideal) m 0 c).arrAt_eq_of_covers 8 _ (by decide +kernel) fun t _ y => ?_
  blk_simp
  rw [after0_8]
  obtain ⟨b, h, j, p, rfl⟩ := index_cases y
  have ey : (win0_8.blk t).view.emb (ix2 (row b h) (lane j p)) = ix2 (row b h) (lane j p) := by blk_ext [win_idx t]
  rw [ey]
  exact (out8_apply m c t b h j p).trans (Cert.RopeReferenceIdeal.Rv.values_apply _ b h j p).symm

end Cert.RopeIdeal.Rg

end
-- ==== Proof.lean ====
module

public import proofs.«01_k».proof.Proof.Gen.Down.Skeleton
public import proofs.«01_k».proof.Proof.Gen.Down.Launch
public import proofs.«01_k».proof.Proof.Gen.Down.Points
public import proofs.«01_k».proof.Proof.Gen.Down.Frame
public import proofs.«01_k».proof.Proof.Gen.DownIdeal.Skeleton
public import proofs.«01_k».proof.Proof.Gen.DownIdeal.Launch
public import proofs.«01_k».proof.Proof.Gen.DownIdeal.Points
public import proofs.«01_k».proof.Proof.Gen.DownIdeal.Frame
public import proofs.«01_k».proof.Proof.Gen.DownReferenceIdeal.Skeleton
public import proofs.«01_k».proof.Proof.Gen.DownReferenceIdeal.Launch
public import proofs.«01_k».proof.Proof.Gen.DownReferenceIdeal.Points
public import proofs.«01_k».proof.Proof.Gen.DownReferenceIdeal.Frame
public import proofs.«01_k».proof.Proof.Gen.Down
public import proofs.«01_k».proof.Proof.Gen.DownIdeal
public import proofs.«01_k».proof.Proof.Gen.DownReferenceIdeal
public import proofs.«01_k».proof.Proof.Gen.Rope
public import proofs.«01_k».proof.Proof.Gen.Rope.Skeleton
public import proofs.«01_k».proof.Proof.Gen.Rope.Launch
public import proofs.«01_k».proof.Proof.Gen.Rope.Points
public import proofs.«01_k».proof.Proof.Gen.Rope.Frame
public import proofs.«01_k».proof.Proof.Gen.RopeIdeal
public import proofs.«01_k».proof.Proof.Gen.RopeIdeal.Skeleton
public import proofs.«01_k».proof.Proof.Gen.RopeIdeal.Launch
public import proofs.«01_k».proof.Proof.Gen.RopeIdeal.Points
public import proofs.«01_k».proof.Proof.Gen.RopeIdeal.Frame
public import proofs.«01_k».proof.Proof.Gen.Final
public import proofs.«01_k».proof.Proof.Gen.Final.Skeleton
public import proofs.«01_k».proof.Proof.Gen.Final.Launch
public import proofs.«01_k».proof.Proof.Gen.Final.Points
public import proofs.«01_k».proof.Proof.Gen.Final.Frame
public import proofs.«01_k».proof.Proof.Gen.FinalIdeal
public import proofs.«01_k».proof.Proof.Gen.FinalIdeal.Skeleton
public import proofs.«01_k».proof.Proof.Gen.FinalIdeal.Launch
public import proofs.«01_k».proof.Proof.Gen.FinalIdeal.Points
public import proofs.«01_k».proof.Proof.Gen.FinalIdeal.Frame
public import proofs.«01_k».proof.Proof.Gen.RopeReferenceIdeal
public import proofs.«01_k».proof.Proof.Gen.RopeReferenceIdeal.Run
public import proofs.«01_k».proof.Proof.Gen.FinalReferenceIdeal
public import proofs.«01_k».proof.Proof.Gen.FinalReferenceIdeal.Run
public import proofs.«01_k».proof.Proof.Gen.FinalIdeal.Value
public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.Proj
public import proofs.«01_k».proof.Proof.Gen.Proj.Skeleton
public import proofs.«01_k».proof.Proof.Gen.Proj.Loops
public import proofs.«01_k».proof.Proof.Gen.Proj.Launch
public import proofs.«01_k».proof.Proof.Gen.Proj.Points
public import proofs.«01_k».proof.Proof.Gen.ProjIdeal
public import proofs.«01_k».proof.Proof.Gen.ProjIdeal.Skeleton
public import proofs.«01_k».proof.Proof.Gen.ProjIdeal.Loops
public import proofs.«01_k».proof.Proof.Gen.ProjIdeal.Launch
public import proofs.«01_k».proof.Proof.Gen.ProjIdeal.Points
public import proofs.«01_k».proof.Proof.Gen.ProjReferenceIdeal
public import proofs.«01_k».proof.Proof.Gen.ProjReferenceIdeal.Skeleton
public import proofs.«01_k».proof.Proof.Gen.ProjReferenceIdeal.Launch
public import proofs.«01_k».proof.Proof.Gen.ProjReferenceIdeal.Points
public import proofs.«01_k».proof.Proof.Gen.ProjReferenceIdeal.Frame
public import proofs.«01_k».proof.Proof.Bits.Frame
public import proofs.«01_k».proof.Proof.Ideal.Frame
public import proofs.«01_k».proof.Proof.Ideal.Value
public import proofs.«01_k».proof.Proof.Ref.Value
public import proofs.«01_k».proof.Proof.Proj.Bits.Frame
public import proofs.«01_k».proof.Proof.Proj.Ideal.Value
public import proofs.«01_k».proof.Proof.Proj.Ref
public import proofs.«01_k».proof.Proof.Down.Ideal.Value
public import proofs.«01_k».proof.Proof.Down.Ref
public import proofs.«01_k».proof.Proof.Rope.Bits.Frame
public import proofs.«01_k».proof.Proof.Rope.Ideal.Value
public import proofs.«01_k».proof.Proof.Rope.Ref
public import Idealize.ShloMosaic.Lib.Claim
public import Idealize.ShloMosaic.Lib.Bf16Pair
public import Idealize.ShloMosaic.Lib.Bf16PairInverse
public import Idealize.ShloMosaic.Adequacy
public import Idealize.ShloMosaic.Init

@[expose] public section

noncomputable section

namespace Cert.Proof

open Idealize.ShloMosaic

/-- The packed scale words are pairs of bf16 rows: every rewrite is an instance of the rule's statement. -/
theorem preserves : Cert.preserves_Kernel_KernelIdeal :=
  ⟨IdealRules.bf16_pair.bufferStatement _ _, IdealRules.bf16_pair.statement _ _, IdealRules.bf16_pair.statement _ _,
    IdealRules.bf16_pair.statement _ _⟩

/-- Over the reals the kernel and the reference leave the same array: each leaves `Cert.Q4K.product` of the five arguments. -/
theorem algebraic :
    Cert.algebraic_KernelIdeal_ReferenceIdeal (hKernelIdeal := Cert.KernelIdeal.Gen.facts) (hReferenceIdeal := Cert.ReferenceIdeal.Gen.facts) := by
  pair_intro
  · run_from Cert.KernelIdeal.Rg.run_main m g
  · run_from Cert.ReferenceIdeal.Gen.run_main m' g'
    · refine (Cert.ReferenceIdeal.Rv.final m' c).trans ?_
      obtain ⟨h0, h1, h2, h3, h4⟩ := hagree c
      rw [h0, h1, h2, h3, h4]
      exact (Cert.KernelIdeal.Rg.final m c).symm
    · exact (Cert.ReferenceIdeal.Gen.W_main_arg0 m' _ c).trans (hagree c).1

/-- The same of the narrower product. -/
theorem preserves_proj : Cert.preserves_Proj_ProjIdeal :=
  ⟨IdealRules.bf16_pair.bufferStatement _ _, IdealRules.bf16_pair.statement _ _, IdealRules.bf16_pair.statement _ _,
    IdealRules.bf16_pair.statement _ _⟩

/-- Over the reals the narrower product's kernel and reference leave the same array. -/
theorem algebraic_proj :
    Cert.algebraic_ProjIdeal_ProjReferenceIdeal (hProjIdeal := Cert.ProjIdeal.Gen.facts) (hProjReferenceIdeal := Cert.ProjReferenceIdeal.Gen.facts) := by
  pair_intro
  · run_from Cert.ProjIdeal.Rg.run_main m g
  · run_from Cert.ProjReferenceIdeal.Gen.run_main m' g'
    · refine (Cert.ProjReferenceIdeal.Rv.final m' c).trans ?_
      obtain ⟨h0, h1, h2, h3, h4⟩ := hagree c
      rw [h0, h1, h2, h3, h4]
      exact (Cert.ProjIdeal.Rg.final m c).symm
    · exact (Cert.ProjReferenceIdeal.Gen.W_main_arg0 m' _ c).trans (hagree c).1

/-- The same of the down product. -/
theorem preserves_down : Cert.preserves_Down_DownIdeal :=
  ⟨IdealRules.bf16_pair.bufferStatement _ _, IdealRules.bf16_pair.statement _ _, IdealRules.bf16_pair.statement _ _,
    IdealRules.bf16_pair.statement _ _, IdealRules.bf16_pair.statement _ _⟩

/-- Over the reals the down product's kernel and reference leave the same array. -/
theorem algebraic_down :
    Cert.algebraic_DownIdeal_DownReferenceIdeal (hDownIdeal := Cert.DownIdeal.Gen.facts) (hDownReferenceIdeal := Cert.DownReferenceIdeal.Gen.facts) := by
  pair_intro
  · run_from Cert.DownIdeal.Gen.run_main m g
  · run_from Cert.DownReferenceIdeal.Gen.run_main m' g'
    · refine (Cert.DownReferenceIdeal.Rv.final m' c).trans ?_
      obtain ⟨h0, h1, h2, h3, h4⟩ := hagree c
      rw [h0, h1, h2, h3, h4]
      exact (Cert.DownIdeal.Rg.final m c).symm
    · exact (Cert.DownReferenceIdeal.Gen.W_main_arg0 m' _ c).trans (hagree c).1

/-- The reference of the rotation leaves its arguments; it declares no semaphore. -/
theorem frame_rope_reference : Cert.quiescent_RopeReferenceIdeal (hRopeReferenceIdeal := Cert.RopeReferenceIdeal.Gen.facts) := fun m ρ _ =>
  (θ_run Cert.RopeReferenceIdeal.defs _ _).mono (fun r h => ⟨fun c => (h c).2.2, sem_eq_zero_of_no_sems (by decide) r.2⟩)
    (Cert.RopeReferenceIdeal.Value.run (F := Ideal) m ρ)

/-- In the rotation nothing is replaced. -/
theorem preserves_rope : Cert.preserves_Rope_RopeIdeal :=
  trivial

/-- Over the reals the rotation's kernel and reference leave the same keys and the same values. -/
theorem algebraic_rope :
    Cert.algebraic_RopeIdeal_RopeReferenceIdeal (hRopeIdeal := Cert.RopeIdeal.Gen.facts) (hRopeReferenceIdeal := Cert.RopeReferenceIdeal.Gen.facts) := by
  intro m g m' g' _ hagree
  refine ⟨_, _, (θ_run Cert.RopeIdeal.defs _ _).mono
      (fun r h c => ⟨((h.1 c).1 7).trans (Cert.RopeIdeal.Rg.final7 m c), ((h.1 c).1 8).trans (Cert.RopeIdeal.Rg.final8 m c), h.2 c⟩)
      (θ_run_and (Cert.RopeIdeal.Rg.run_main (F := Ideal) m g) (Cert.RopeIdeal.Rg.unchanged (F := Ideal) m g)), ?_⟩
  refine (θ_run Cert.RopeReferenceIdeal.defs _ _).mono (fun r h c => ?_) (Cert.RopeReferenceIdeal.Value.run (F := Ideal) m' g')
  obtain ⟨h0, h1, h2, h3, h4, h5⟩ := hagree c
  obtain ⟨hk, hv, hargs⟩ := h c
  refine ⟨hk.trans ?_, hv.trans ?_, hargs⟩
  · rw [h1, h3, h4]; rfl
  · rw [h2]; rfl

/-- The reference of the closing sum leaves its arguments; it declares no semaphore. -/
theorem frame_final_reference : Cert.quiescent_FinalReferenceIdeal (hFinalReferenceIdeal := Cert.FinalReferenceIdeal.Gen.facts) := fun m ρ _ =>
  (θ_run Cert.FinalReferenceIdeal.defs _ _).mono (fun r h => ⟨fun c => (h c).2, sem_eq_zero_of_no_sems (by decide) r.2⟩)
    (Cert.FinalReferenceIdeal.Value.run (F := Ideal) m ρ)

/-- In the closing sum nothing is replaced. -/
theorem preserves_final : Cert.preserves_Final_FinalIdeal :=
  trivial

/-- Over the reals the closing sum's kernel and reference leave the same array. -/
theorem algebraic_final :
    Cert.algebraic_FinalIdeal_FinalReferenceIdeal (hFinalIdeal := Cert.FinalIdeal.Gen.facts) (hFinalReferenceIdeal := Cert.FinalReferenceIdeal.Gen.facts) := by
  intro m g m' g' _ hagree
  refine ⟨_, Cert.FinalIdeal.Value.run (F := Ideal) m g, ?_⟩
  refine (θ_run Cert.FinalReferenceIdeal.defs _ _).mono (fun r h c => ?_) (Cert.FinalReferenceIdeal.Value.run (F := Ideal) m' g')
  obtain ⟨h0, h1⟩ := hagree c
  obtain ⟨hv, hargs⟩ := h c
  refine ⟨hv.trans ?_, hargs⟩
  rw [h0, h1]; rfl

/-- Everything claimed. -/
theorem claim : Cert.Claim :=
  ⟨Cert.Kernel.Gen.facts, Cert.KernelIdeal.Gen.facts, Cert.ReferenceIdeal.Gen.facts,
    Cert.Proj.Gen.facts, Cert.ProjIdeal.Gen.facts, Cert.ProjReferenceIdeal.Gen.facts,
    Cert.Down.Gen.facts, Cert.DownIdeal.Gen.facts, Cert.DownReferenceIdeal.Gen.facts,
    Cert.Rope.Gen.facts, Cert.RopeIdeal.Gen.facts, Cert.RopeReferenceIdeal.Gen.facts,
    Cert.Final.Gen.facts, Cert.FinalIdeal.Gen.facts, Cert.FinalReferenceIdeal.Gen.facts,
    fun m ρ _ => Cert.Kernel.Rg.frame m ρ, fun m ρ _ => Cert.KernelIdeal.Rg.frame m ρ,
    fun m ρ _ => Cert.ReferenceIdeal.Gen.frame m ρ,
    fun m ρ _ => Cert.Proj.Rg.frame m ρ, fun m ρ _ => Cert.ProjIdeal.Rg.frame m ρ,
    fun m ρ _ => Cert.ProjReferenceIdeal.Gen.frame m ρ,
    fun m ρ _ => Cert.Down.Gen.frame m ρ, fun m ρ _ => Cert.DownIdeal.Gen.frame m ρ,
    fun m ρ _ => Cert.DownReferenceIdeal.Gen.frame m ρ,
    fun m ρ _ => Cert.Rope.Rg.frame m ρ, fun m ρ _ => Cert.RopeIdeal.Rg.frame m ρ, frame_rope_reference,
    fun m ρ _ => Cert.Final.Gen.frame m ρ, fun m ρ _ => Cert.FinalIdeal.Gen.frame m ρ, frame_final_reference,
    preserves, algebraic, preserves_proj, algebraic_proj, preserves_down, algebraic_down,
    preserves_rope, algebraic_rope, preserves_final, algebraic_final⟩

end Cert.Proof

end
